-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_qkv [hPre_finite_qkv : Cert.Pre_finite_qkv.Facts] (m : (ℓ : Loc Cert.KernelIdeal.nD Cert.KernelIdeal.τ Cert.KernelIdeal.sig) → Buf (Elt Ideal) ℓ) : Prop :=
  ∀ c : Dev Cert.KernelIdeal.nD,
    (Cert.Pre_finite_qkv.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_qkv [hPre_finite_qkv : Cert.Pre_finite_qkv.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_qkv.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 [hPre_pages_in_cache : Cert.Pre_pages_in_cache.Facts] (m : (ℓ : Loc Cert.Kernel5.nD Cert.Kernel5.τ Cert.Kernel5.sig) → Buf (Elt Bits) ℓ) : Prop :=
  ∀ c : Dev Cert.Kernel5.nD,
    (Cert.Pre_pages_in_cache.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4)) (m ((c.tc : Thread Cert.Kernel5.nD Cert.Kernel5.τ).loc Cert.Kernel5.main_arg5)) (m ((c.tc : Thread Cert.Kernel5.nD Cert.Kernel5.τ).loc Cert.Kernel5.main_arg6))) = (fun _ => 1#1)

def Pre_Kernel5Ideal [hPre_pages_in_cache : Cert.Pre_pages_in_cache.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_pages_in_cache.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4)) (m ((c.tc : Thread Cert.Kernel5Ideal.nD Cert.Kernel5Ideal.τ).loc Cert.Kernel5Ideal.main_arg5)) (m ((c.tc : Thread Cert.Kernel5Ideal.nD Cert.Kernel5Ideal.τ).loc Cert.Kernel5Ideal.main_arg6))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_pages_in_cache [hPre_pages_in_cache : Cert.Pre_pages_in_cache.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_pages_in_cache.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4)) (m ((c.tc : Thread Cert.Reference5Ideal.nD Cert.Reference5Ideal.τ).loc Cert.Reference5Ideal.main_arg5)) (m ((c.tc : Thread Cert.Reference5Ideal.nD Cert.Reference5Ideal.τ).loc Cert.Reference5Ideal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite_qkv [hKernelIdeal : Cert.KernelIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_qkv m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite_qkv [hReferenceIdeal : Cert.ReferenceIdeal.Facts] [hPre_finite_qkv : Cert.Pre_finite_qkv.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_qkv m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] [hPre_pages_in_cache : Cert.Pre_pages_in_cache.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6))
      ∧ r.2.sem = fun _ => 0)

def quiescent_Kernel5Ideal [hKernel5Ideal : Cert.Kernel5Ideal.Facts] [hPre_pages_in_cache : Cert.Pre_pages_in_cache.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def quiescent_Reference5Ideal_pre_pages_in_cache [hReference5Ideal : Cert.Reference5Ideal.Facts] [hPre_pages_in_cache : Cert.Pre_pages_in_cache.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_pages_in_cache m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6))
      ∧ r.2.sem = fun _ => 0)

def preserves_Kernel_KernelIdeal : Prop :=
  IdealRules.named_const.Statement Cert.KernelIdeal.κ "log_gamma0" .f32 0xBD020AEC#32 ((Real.log (31 / 32) : ℝ) : EReal)
  ∧ IdealRules.named_const.Statement Cert.KernelIdeal.κ "gamma0_pow_4" .f32 0x3F617810#32 ((923521 / 1048576 : ℝ) : EReal)
  ∧ IdealRules.named_const.Statement Cert.KernelIdeal.κ "log_gamma1" .f32 0xBC8102B3#32 ((Real.log (63 / 64) : ℝ) : EReal)
  ∧ IdealRules.named_const.Statement Cert.KernelIdeal.κ "gamma1_pow_4" .f32 0x3F705F01#32 ((15752961 / 16777216 : ℝ) : EReal)
  ∧ IdealRules.named_const.Statement Cert.KernelIdeal.κ "log_gamma2" .f32 0xBC0080AC#32 ((Real.log (127 / 128) : ℝ) : EReal)
  ∧ IdealRules.named_const.Statement Cert.KernelIdeal.κ "gamma2_pow_4" .f32 0x3F7817E0#32 ((260144641 / 268435456 : ℝ) : EReal)
  ∧ IdealRules.named_const.Statement Cert.KernelIdeal.κ "log_gamma3" .f32 0xBB80402B#32 ((Real.log (255 / 256) : ℝ) : EReal)
  ∧ IdealRules.named_const.Statement Cert.KernelIdeal.κ "gamma3_pow_4" .f32 0x3F7C05FC#32 ((4228250625 / 4294967296 : ℝ) : EReal)
  ∧ IdealRules.named_const.Statement Cert.KernelIdeal.κ "gamma0_pow_256" .f32 0x399ACCA1#32 ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  ∧ IdealRules.named_const.Statement Cert.KernelIdeal.κ "gamma1_pow_256" .f32 0x3C9160A5#32 ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  ∧ IdealRules.named_const.Statement Cert.KernelIdeal.κ "gamma2_pow_256" .f32 0x3E097FCE#32 ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  ∧ IdealRules.named_const.Statement Cert.KernelIdeal.κ "gamma3_pow_256" .f32 0x3EBBFC5D#32 ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)

def algebraic_KernelIdeal_ReferenceIdeal_pre_finite_qkv [hKernelIdeal : Cert.KernelIdeal.Facts] [hReferenceIdeal : Cert.ReferenceIdeal.Facts] [hPre_finite_qkv : Cert.Pre_finite_qkv.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_qkv m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)) (v3 : (c : Dev Cert.KernelIdeal.nD) → Buf (Elt Ideal) ((c.tc : Thread Cert.KernelIdeal.nD Cert.KernelIdeal.τ).loc Cert.KernelIdeal.main_v0_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_v0_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v103) = v0 c
          ∧ r.2.mem ((c.tc : Thread Cert.ReferenceIdeal.nD Cert.ReferenceIdeal.τ).loc Cert.ReferenceIdeal.main_v72_8) = v1 c
          ∧ r.2.mem ((c.tc : Thread Cert.ReferenceIdeal.nD Cert.ReferenceIdeal.τ).loc Cert.ReferenceIdeal.main_v208) = v2 c
          ∧ r.2.mem ((c.tc : Thread Cert.ReferenceIdeal.nD Cert.ReferenceIdeal.τ).loc Cert.ReferenceIdeal.main_v183) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v4) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "rsqrt_head_dim" .f32 0x3DB504F3#32 (((Real.sqrt 128)⁻¹ : ℝ) : EReal)

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v3_0)) (v1 : (c : Dev Cert.Kernel4Ideal.nD) → Buf (Elt Ideal) ((c.tc : Thread Cert.Kernel4Ideal.nD Cert.Kernel4Ideal.τ).loc Cert.Kernel4Ideal.main_v3_1)) (v2 : (c : Dev Cert.Kernel4Ideal.nD) → Buf (Elt Ideal) ((c.tc : Thread Cert.Kernel4Ideal.nD Cert.Kernel4Ideal.τ).loc Cert.Kernel4Ideal.main_v3_2)) (v3 : (c : Dev Cert.Kernel4Ideal.nD) → Buf (Elt Ideal) ((c.tc : Thread Cert.Kernel4Ideal.nD Cert.Kernel4Ideal.τ).loc Cert.Kernel4Ideal.main_v3_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v3_0) = v0 c
          ∧ r.2.mem ((c.tc : Thread Cert.Kernel4Ideal.nD Cert.Kernel4Ideal.τ).loc Cert.Kernel4Ideal.main_v3_1) = v1 c
          ∧ r.2.mem ((c.tc : Thread Cert.Kernel4Ideal.nD Cert.Kernel4Ideal.τ).loc Cert.Kernel4Ideal.main_v3_2) = v2 c
          ∧ r.2.mem ((c.tc : Thread Cert.Kernel4Ideal.nD Cert.Kernel4Ideal.τ).loc Cert.Kernel4Ideal.main_v3_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v53) = v0 c
          ∧ r.2.mem ((c.tc : Thread Cert.Reference4Ideal.nD Cert.Reference4Ideal.τ).loc Cert.Reference4Ideal.main_v54) = v1 c
          ∧ r.2.mem ((c.tc : Thread Cert.Reference4Ideal.nD Cert.Reference4Ideal.τ).loc Cert.Reference4Ideal.main_v20) = v2 c
          ∧ r.2.mem ((c.tc : Thread Cert.Reference4Ideal.nD Cert.Reference4Ideal.τ).loc Cert.Reference4Ideal.main_v21) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] [hPre_pages_in_cache : Cert.Pre_pages_in_cache.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)) →
    ∃ (v0 : (c : Dev Cert.Kernel5Ideal.nD) → Buf (Elt Ideal) ((c.tc : Thread Cert.Kernel5Ideal.nD Cert.Kernel5Ideal.τ).loc Cert.Kernel5Ideal.main_v1_0)) (v1 : (c : Dev Cert.Kernel5Ideal.nD) → Buf (Elt Ideal) ((c.tc : Thread Cert.Kernel5Ideal.nD Cert.Kernel5Ideal.τ).loc Cert.Kernel5Ideal.main_v1_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v1_0) = v0 c
          ∧ r.2.mem ((c.tc : Thread Cert.Kernel5Ideal.nD Cert.Kernel5Ideal.τ).loc Cert.Kernel5Ideal.main_v1_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v34) = v0 c
          ∧ r.2.mem ((c.tc : Thread Cert.Reference5Ideal.nD Cert.Reference5Ideal.τ).loc Cert.Reference5Ideal.main_v33) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hPre_finite_qkv : Cert.Pre_finite_qkv.Facts) (hPre_pages_in_cache : Cert.Pre_pages_in_cache.Facts),
    quiescent_Kernel (hKernel := hKernel)
    ∧ quiescent_KernelIdeal (hKernelIdeal := hKernelIdeal)
    ∧ quiescent_KernelIdeal_pre_finite_qkv (hKernelIdeal := hKernelIdeal) (hPre_finite_qkv := hPre_finite_qkv)
    ∧ quiescent_ReferenceIdeal (hReferenceIdeal := hReferenceIdeal)
    ∧ quiescent_ReferenceIdeal_pre_finite_qkv (hReferenceIdeal := hReferenceIdeal) (hPre_finite_qkv := hPre_finite_qkv)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5) (hPre_pages_in_cache := hPre_pages_in_cache)
    ∧ quiescent_Kernel5Ideal (hKernel5Ideal := hKernel5Ideal) (hPre_pages_in_cache := hPre_pages_in_cache)
    ∧ quiescent_Reference5Ideal (hReference5Ideal := hReference5Ideal)
    ∧ quiescent_Reference5Ideal_pre_pages_in_cache (hReference5Ideal := hReference5Ideal) (hPre_pages_in_cache := hPre_pages_in_cache)
    ∧ preserves_Kernel_KernelIdeal
    ∧ algebraic_KernelIdeal_ReferenceIdeal_pre_finite_qkv (hKernelIdeal := hKernelIdeal) (hReferenceIdeal := hReferenceIdeal) (hPre_finite_qkv := hPre_finite_qkv)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal) (hPre_pages_in_cache := hPre_pages_in_cache)
-- ==== Pre_finite_qkv.lean ====
abbrev S8x2048x6144 : Shape := ⟨3, ![8, 2048, 6144]⟩
abbrev S8x2048x1024 : Shape := ⟨3, ![8, 2048, 1024]⟩
abbrev S8x1x1024 : Shape := ⟨3, ![8, 1, 1024]⟩
abbrev S4x512 : Shape := ⟨2, ![4, 512]⟩
abbrev S2048x1024 : Shape := ⟨2, ![2048, 1024]⟩
abbrev S32x4x6144 : Shape := ⟨3, ![32, 4, 6144]⟩
abbrev S32x4x256x512 : Shape := ⟨4, ![32, 4, 256, 512]⟩
abbrev S8x2048x4096 : Shape := ⟨3, ![8, 2048, 4096]⟩
abbrev S_ : Shape := ⟨0, ![]⟩

class Facts : Prop where
  slices_S8x2048x6144_S8x2048x4096_0_0_0 : S8x2048x6144.Slices ![0, 0, 0] S8x2048x4096
  bcast_S_S8x2048x4096 : S_.BroadcastsInDim S8x2048x4096 (![] : Fin 0 → Fin S8x2048x4096.rank)

variable [Facts]

def fn {F : FTy → Type} [FloatOps F] (main_arg0 : FVec F S8x2048x6144 .bf16) (main_arg1 : FVec F S8x2048x1024 .f32) (main_arg2 : FVec F S8x1x1024 .f32) (main_arg3 : FVec F S4x512 .f32) (main_arg4 : FVec F S2048x1024 .f32) (main_arg5 : FVec F S32x4x6144 .f32) (main_arg6 : FVec F S32x4x256x512 .f32) : IVec S8x2048x4096 1 :=
  let main_v0 : FVec F S8x2048x4096 .bf16 := (extractStridedSlice S8x2048x4096 ![0, 0, 0] · slices_S8x2048x6144_S8x2048x4096_0_0_0) main_arg0
  let main_v1 : FVec F S8x2048x4096 .bf16 := Host.absf main_v0
  let main_cst : FVec F S_ .bf16 := constant S_ .bf16 0x7F80#16
  let main_v2 : FVec F S8x2048x4096 .bf16 := broadcastInDim S8x2048x4096 ![] bcast_S_S8x2048x4096 main_cst
  let main_v3 : IVec S8x2048x4096 1 := cmpf .olt main_v1 main_v2
  main_v3
-- ==== Pre_pages_in_cache.lean ====
abbrev S8x2048x1024 : Shape := ⟨3, ![8, 2048, 1024]⟩
abbrev S1024 : Shape := ⟨1, ![1024]⟩
abbrev S8x1x1024 : Shape := ⟨3, ![8, 1, 1024]⟩
abbrev S1024x6144 : Shape := ⟨2, ![1024, 6144]⟩
abbrev S32x64 : Shape := ⟨2, ![32, 64]⟩
abbrev S2560x128x8x128 : Shape := ⟨4, ![2560, 128, 8, 128]⟩
abbrev S20x64 : Shape := ⟨2, ![20, 64]⟩
abbrev S_ : Shape := ⟨0, ![]⟩

class Facts : Prop where
  slices_S32x64_S20x64_0_0 : S32x64.Slices ![0, 0] S20x64
  bcast_S_S20x64 : S_.BroadcastsInDim S20x64 (![] : Fin 0 → Fin S20x64.rank)

variable [Facts]

def fn {F : FTy → Type} [FloatOps F] (main_arg0 : FVec F S8x2048x1024 .f32) (main_arg1 : FVec F S1024 .f32) (main_arg2 : FVec F S8x1x1024 .f32) (main_arg3 : FVec F S8x1x1024 .f32) (main_arg4 : FVec F S1024x6144 .bf16) (main_arg5 : IVec S32x64 32) (main_arg6 : FVec F S2560x128x8x128 .f32) : IVec S20x64 1 :=
  let main_v0 : IVec S20x64 32 := (extractStridedSlice S20x64 ![0, 0] · slices_S32x64_S20x64_0_0) main_arg5
  let main_c : IVec S_ 32 := constantI S_ 32 0#32
  let main_v1 : IVec S20x64 32 := broadcastInDim S20x64 ![] bcast_S_S20x64 main_c
  let main_v2 : IVec S20x64 1 := cmpi .sge main_v0 main_v1
  let main_c_0 : IVec S_ 32 := constantI S_ 32 2560#32
  let main_v3 : IVec S20x64 32 := broadcastInDim S20x64 ![] bcast_S_S20x64 main_c_0
  let main_v4 : IVec S20x64 1 := cmpi .slt main_v0 main_v3
  let main_v5 : IVec S20x64 1 := andi main_v2 main_v4
  main_v5
-- ==== Kernel.lean ====
abbrev S8x2048x6144 : Shape := ⟨3, ![8, 2048, 6144]⟩
abbrev S8x2048x1024 : Shape := ⟨3, ![8, 2048, 1024]⟩
abbrev S8x1x1024 : Shape := ⟨3, ![8, 1, 1024]⟩
abbrev S4x512 : Shape := ⟨2, ![4, 512]⟩
abbrev S2048x1024 : Shape := ⟨2, ![2048, 1024]⟩
abbrev S32x4x6144 : Shape := ⟨3, ![32, 4, 6144]⟩
abbrev S32x4x256x512 : Shape := ⟨4, ![32, 4, 256, 512]⟩
abbrev S8x4x256x512 : Shape := ⟨4, ![8, 4, 256, 512]⟩
abbrev S32x4x2048 : Shape := ⟨3, ![32, 4, 2048]⟩
abbrev S1x512x6144 : Shape := ⟨3, ![1, 512, 6144]⟩
abbrev S1x512x1024 : Shape := ⟨3, ![1, 512, 1024]⟩
abbrev S1x1x1024 : Shape := ⟨3, ![1, 1, 1024]⟩
abbrev S1x4x1024 : Shape := ⟨3, ![1, 4, 1024]⟩
abbrev S1x4x2048 : Shape := ⟨3, ![1, 4, 2048]⟩
abbrev S1x4x256x512 : Shape := ⟨4, ![1, 4, 256, 512]⟩
abbrev S512x2048 : Shape := ⟨2, ![512, 2048]⟩
abbrev S2048x512 : Shape := ⟨2, ![2048, 512]⟩
abbrev S4x256x512 : Shape := ⟨3, ![4, 256, 512]⟩
abbrev S4x4 : Shape := ⟨2, ![4, 4]⟩
abbrev S4x1 : Shape := ⟨2, ![4, 1]⟩
abbrev S1x4x256 : Shape := ⟨3, ![1, 4, 256]⟩
abbrev S4x256 : Shape := ⟨2, ![4, 256]⟩
abbrev S1x4x512 : Shape := ⟨3, ![1, 4, 512]⟩
abbrev S1x1x256x512 : Shape := ⟨4, ![1, 1, 256, 512]⟩
abbrev S256x512 : Shape := ⟨2, ![256, 512]⟩
abbrev S1x256 : Shape := ⟨2, ![1, 256]⟩
abbrev S4 : Shape := ⟨1, ![4]⟩
abbrev S1x512 : Shape := ⟨2, ![1, 512]⟩
abbrev S8x256 : Shape := ⟨2, ![8, 256]⟩
abbrev S8x512 : Shape := ⟨2, ![8, 512]⟩
abbrev S256x256 : Shape := ⟨2, ![256, 256]⟩
abbrev S256x1 : Shape := ⟨2, ![256, 1]⟩
abbrev S1x256x256 : Shape := ⟨3, ![1, 256, 256]⟩
abbrev S1x256x512 : Shape := ⟨3, ![1, 256, 512]⟩
abbrev S256 : Shape := ⟨1, ![256]⟩
abbrev S512x1024 : Shape := ⟨2, ![512, 1024]⟩
abbrev S1x1024 : Shape := ⟨2, ![1, 1024]⟩

abbrev nBuf : Space → Nat
  | .hbm => 11
  | .vmem => 28
  | .smem => 0
  | _ => 0

abbrev bufTy : (tb : Table) → Fin (tcTables nBuf tb) → BufTy
  | .hbm, ⟨0, _⟩ => ⟨S8x2048x6144, .bf16⟩
  | .hbm, ⟨1, _⟩ => ⟨S8x2048x1024, .f32⟩
  | .hbm, ⟨2, _⟩ => ⟨S8x1x1024, .f32⟩
  | .hbm, ⟨3, _⟩ => ⟨S4x512, .f32⟩
  | .hbm, ⟨4, _⟩ => ⟨S2048x1024, .f32⟩
  | .hbm, ⟨5, _⟩ => ⟨S32x4x6144, .f32⟩
  | .hbm, ⟨6, _⟩ => ⟨S32x4x256x512, .f32⟩
  | .hbm, ⟨7, _⟩ => ⟨S8x2048x1024, .f32⟩
  | .hbm, ⟨8, _⟩ => ⟨S8x4x256x512, .f32⟩
  | .hbm, ⟨9, _⟩ => ⟨S32x4x2048, .f32⟩
  | .hbm, ⟨10, _⟩ => ⟨S32x4x256x512, .f32⟩
  | .local _ .vmem, ⟨0, _⟩ => ⟨S1x512x6144, .bf16⟩
  | .local _ .vmem, ⟨1, _⟩ => ⟨S1x512x6144, .bf16⟩
  | .local _ .vmem, ⟨2, _⟩ => ⟨S1x512x1024, .f32⟩
  | .local _ .vmem, ⟨3, _⟩ => ⟨S1x512x1024, .f32⟩
  | .local _ .vmem, ⟨4, _⟩ => ⟨S1x1x1024, .f32⟩
  | .local _ .vmem, ⟨5, _⟩ => ⟨S1x1x1024, .f32⟩
  | .local _ .vmem, ⟨6, _⟩ => ⟨S4x512, .f32⟩
  | .local _ .vmem, ⟨7, _⟩ => ⟨S2048x1024, .f32⟩
  | .local _ .vmem, ⟨8, _⟩ => ⟨S1x4x1024, .f32⟩
  | .local _ .vmem, ⟨9, _⟩ => ⟨S1x4x1024, .f32⟩
  | .local _ .vmem, ⟨10, _⟩ => ⟨S1x4x1024, .f32⟩
  | .local _ .vmem, ⟨11, _⟩ => ⟨S1x4x1024, .f32⟩
  | .local _ .vmem, ⟨12, _⟩ => ⟨S1x4x2048, .f32⟩
  | .local _ .vmem, ⟨13, _⟩ => ⟨S1x4x2048, .f32⟩
  | .local _ .vmem, ⟨14, _⟩ => ⟨S1x4x2048, .f32⟩
  | .local _ .vmem, ⟨15, _⟩ => ⟨S1x4x2048, .f32⟩
  | .local _ .vmem, ⟨16, _⟩ => ⟨S1x4x256x512, .f32⟩
  | .local _ .vmem, ⟨17, _⟩ => ⟨S1x4x256x512, .f32⟩
  | .local _ .vmem, ⟨18, _⟩ => ⟨S1x512x1024, .f32⟩
  | .local _ .vmem, ⟨19, _⟩ => ⟨S1x512x1024, .f32⟩
  | .local _ .vmem, ⟨20, _⟩ => ⟨S1x4x256x512, .f32⟩
  | .local _ .vmem, ⟨21, _⟩ => ⟨S1x4x256x512, .f32⟩
  | .local _ .vmem, ⟨22, _⟩ => ⟨S1x4x2048, .f32⟩
  | .local _ .vmem, ⟨23, _⟩ => ⟨S1x4x2048, .f32⟩
  | .local _ .vmem, ⟨24, _⟩ => ⟨S1x4x256x512, .f32⟩
  | .local _ .vmem, ⟨25, _⟩ => ⟨S1x4x256x512, .f32⟩
  | .local _ .vmem, ⟨26, _⟩ => ⟨S2048x1024, .bf16⟩
  | .local _ .vmem, ⟨27, _⟩ => ⟨S512x2048, .bf16⟩
  | _, _ => ⟨S8x2048x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0_0 : Ref sig .tc := ⟨.hbm, 7, rfl⟩
abbrev main_v0_1 : Ref sig .tc := ⟨.hbm, 8, rfl⟩
abbrev main_v0_2 : Ref sig .tc := ⟨.hbm, 9, rfl⟩
abbrev main_v0_3 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_stg11_0 : Ref sig .tc := ⟨.vmem, 20, rfl⟩
abbrev cc0_stg11_1 : Ref sig .tc := ⟨.vmem, 21, rfl⟩
abbrev cc0_stg12_0 : Ref sig .tc := ⟨.vmem, 22, rfl⟩
abbrev cc0_stg12_1 : Ref sig .tc := ⟨.vmem, 23, rfl⟩
abbrev cc0_stg13_0 : Ref sig .tc := ⟨.vmem, 24, rfl⟩
abbrev cc0_stg13_1 : Ref sig .tc := ⟨.vmem, 25, rfl⟩
abbrev cc0_scratch0 : Ref sig .tc := ⟨.vmem, 26, rfl⟩
abbrev cc0_scratch1 : Ref sig .tc := ⟨.vmem, 27, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19
abbrev cc0_sem11_0 : DmaSem sig := 20
abbrev cc0_sem11_1 : DmaSem sig := 21
abbrev cc0_sem12_0 : DmaSem sig := 22
abbrev cc0_sem12_1 : DmaSem sig := 23
abbrev cc0_sem13_0 : DmaSem sig := 24
abbrev cc0_sem13_1 : DmaSem sig := 25

abbrev nD : Nat := 1
abbrev τ : Topo := Topo.v7x

variable {F : FTy → Type} [FloatOps F]

abbrev grid0 : Pipeline.Grid := ⟨2, ![8, 4], ![false, false]⟩

def k0_off1 (i : grid0.Coords) (c0_i32_50 : BitVec 32) : Fin 2 → Nat :=
  let arg0 : BitVec 32 := BitVec.ofNat 32 (i 0).val
  let c4_i32 : BitVec 32 := 4#32
  let v0 : BitVec 32 := Scalar.muli arg0 c4_i32
  let arg1 : BitVec 32 := BitVec.ofNat 32 (i 1).val
  let v1 : BitVec 32 := Scalar.addi v0 arg1
  let c1_i32 : BitVec 32 := 1#32
  let c0_i32_3 : BitVec 32 := 0#32
  let v8 : BitVec 1 := Scalar.cmpi .eq c1_i32 c0_i32_3
  let c1_i32_4 : BitVec 32 := 1#32
  let v9 : BitVec 32 := Scalar.select v8 c1_i32_4 c1_i32
  let v10 : BitVec 32 := Scalar.remsi v1 v9
  let c0_i32_6 : BitVec 32 := 0#32
  let v12 : BitVec 1 := Scalar.cmpi .slt v10 c0_i32_6
  let c0_i32_7 : BitVec 32 := 0#32
  let v13 : BitVec 1 := Scalar.cmpi .slt v9 c0_i32_7
  let v14 : BitVec 1 := Scalar.xori v12 v13
  let c0_i32_5 : BitVec 32 := 0#32
  let v11 : BitVec 1 := Scalar.cmpi .ne v10 c0_i32_5
  let v15 : BitVec 1 := Scalar.andi v14 v11
  let v16 : BitVec 32 := Scalar.addi v10 v9
  let v17 : BitVec 32 := Scalar.select v15 v16 v10
  let c4_i32_49 : BitVec 32 := 4#32
  let v135 : BitVec 32 := Scalar.muli v17 c4_i32_49
  let v136 : BitVec 32 := Scalar.addi v135 c0_i32_50
  let v137 : Index := Scalar.indexCast v136
  let c0_51 : Index := 0#32
  ![v137.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c0_i32_13 : BitVec 32 := 0#32
  let c0_i32_14 : BitVec 32 := 0#32
  ![v18.toNat, c0_i32_13.toNat, v31.toNat]

def cc0_transform_6 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi c1_i32_12 v30
  let c0_i32_13 : BitVec 32 := 0#32
  let c0_i32_14 : BitVec 32 := 0#32
  ![v18.toNat, c0_i32_13.toNat, v31.toNat]

def cc0_transform_7 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c1_i32_12 : BitVec 32 := 1#32
  let v31 : BitVec 32 := Scalar.addi c1_i32_12 v30
  let c0_i32_13 : BitVec 32 := 0#32
  let c0_i32_14 : BitVec 32 := 0#32
  ![v18.toNat, c0_i32_13.toNat, v31.toNat]

def cc0_transform_8 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c2_i32 : BitVec 32 := 2#32
  let v31 : BitVec 32 := Scalar.addi c2_i32 v30
  let c0_i32_12 : BitVec 32 := 0#32
  let c0_i32_13 : BitVec 32 := 0#32
  ![v18.toNat, c0_i32_12.toNat, v31.toNat]

def cc0_transform_9 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, v30.toNat, c0_i32_12.toNat, c0_i32_13.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let v31 : BitVec 32 := Scalar.addi c0_i32_12 v30
  let c0_i32_13 : BitVec 32 := 0#32
  let c0_i32_14 : BitVec 32 := 0#32
  ![v18.toNat, c0_i32_13.toNat, v31.toNat]

def cc0_transform_13 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.muli arg0 c4_i32
  let v1 : BitVec 32 := Scalar.addi v0 arg1
  let c1_i32 : BitVec 32 := 1#32
  let v2 : BitVec 32 := Scalar.divsi v1 c1_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c1_i32 c0_i32_1
  let v9 : BitVec 32 := Scalar.extui v8
  let c0_i32_2 : BitVec 32 := 0#32
  let v10 : BitVec 1 := Scalar.cmpi .slt c1_i32 c0_i32_2
  let v11 : BitVec 32 := Scalar.extui v10
  let v12 : BitVec 32 := Scalar.subi v9 v11
  let v13 : BitVec 1 := Scalar.cmpi .ne v7 v12
  let v14 : BitVec 32 := Scalar.remsi v1 c1_i32
  let c0_i32_3 : BitVec 32 := 0#32
  let v15 : BitVec 1 := Scalar.cmpi .ne v14 c0_i32_3
  let v16 : BitVec 1 := Scalar.andi v13 v15
  let c1_i32_4 : BitVec 32 := 1#32
  let v17 : BitVec 32 := Scalar.subi v2 c1_i32_4
  let v18 : BitVec 32 := Scalar.select v16 v17 v2
  let c4_i32_5 : BitVec 32 := 4#32
  let v19 : BitVec 32 := Scalar.muli arg0 c4_i32_5
  let v20 : BitVec 32 := Scalar.addi v19 arg1
  let c1_i32_6 : BitVec 32 := 1#32
  let c0_i32_7 : BitVec 32 := 0#32
  let v21 : BitVec 1 := Scalar.cmpi .eq c1_i32_6 c0_i32_7
  let c1_i32_8 : BitVec 32 := 1#32
  let v22 : BitVec 32 := Scalar.select v21 c1_i32_8 c1_i32_6
  let v23 : BitVec 32 := Scalar.remsi v20 v22
  let c0_i32_9 : BitVec 32 := 0#32
  let v24 : BitVec 1 := Scalar.cmpi .ne v23 c0_i32_9
  let c0_i32_10 : BitVec 32 := 0#32
  let v25 : BitVec 1 := Scalar.cmpi .slt v23 c0_i32_10
  let c0_i32_11 : BitVec 32 := 0#32
  let v26 : BitVec 1 := Scalar.cmpi .slt v22 c0_i32_11
  let v27 : BitVec 1 := Scalar.xori v25 v26
  let v28 : BitVec 1 := Scalar.andi v27 v24
  let v29 : BitVec 32 := Scalar.addi v23 v22
  let v30 : BitVec 32 := Scalar.select v28 v29 v23
  let c0_i32_12 : BitVec 32 := 0#32
  let c0_i32_13 : BitVec 32 := 0#32
  let c0_i32_14 : BitVec 32 := 0#32
  ![v18.toNat, v30.toNat, c0_i32_12.toNat, c0_i32_13.toNat]

abbrev stage0_0 : Fin 2 → Memref sig .tc .vmem S1x512x6144 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S4x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2048x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x4x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x4x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x4x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x4x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x4x256x512 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S1x512x1024 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x4x256x512 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x4x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S1x4x256x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]
-- ==== KernelIdeal.lean ====
variable {F : FTy → Type} [FloatOps F] [Named F]
def κ : String → Option EReal := fun
  | "gamma0_pow_256" => some ((6146015080813575034695417713226912903305888181886472031037824629831672928949925977371885924422256558280598640253784375251182367178077275943508811277617726037926828835493962089938703670916216150637232924767423218594179651908716059369457431352364368667582308905998928857404131059860187300660764250399851094923206841232876192030133070875041117904520293983055025851039902553125047623681 / 20815864389328798163850480654728171077230524494533409610638224700807216119346720596024478883464648369684843227908562015582767132496646929816279813211354641525848259018778440691546366699323167100945918841095379622423387354295096957733925002768876520583464697770622321657076833170056511209332449663781837603694136444406281042053396870977465916057756101739472373801429441421111406337458176 : ℝ) : EReal)
  | "gamma0_pow_4" => some ((923521 / 1048576 : ℝ) : EReal)
  | "gamma1_pow_256" => some ((42774078302235318565319257509240389102448610944058038806438187308967998022705219385729663158638449482363242547246423463242593270189466810827507253377583114893638375653286835591007069102165292454913397853719673918607538604174150929255316756471434149954438683890468730174719505936020561911515555997155458494501519964452840485792481596827492989182299408582213918538682711594745086139424161235245664305277724872062197080286979918058563320302114990397887505300439041 / 2410312426921032588580116606028314112912093247945688951359675039065257391591803200669085024107346049663448766280888004787862416978794958324969612987890774651455213339381625224770782077917681499676845543137387820057597345857904599109461387122099507964997815641342300677629473355281617428411794163967785870370368969109221591943054232011562758450080579587850900993714892283476646631181515063804873375182260506246992837898705971012525843324401232986857004760339316736 : ℝ) : EReal)
  | "gamma1_pow_4" => some ((15752961 / 16777216 : ℝ) : EReal)
  | "gamma2_pow_256" => some ((37475942568369757962947522235530371133981530150116838269147324413047700895014398970446404169811997688419833959989077757701150649868243230123056568953964412798172396287429646722188387330264786795375818576214031616869032274669030355559348596733438707526107308633142545065787965914180851284280383384025423970000476770692381976054937465989431021902621277854218705005366130766187721539711495327024166368641272006952024074184121303316623563671196861028284711972009680015975871738940145523351472588749523046764641137000009779131884491317421506561 / 279095111627852376407822673918065072905887935345660252615989519488029661278604994789701101367875859521849524793382568057369148405837577299984720398976429790087982805274893437406788716103454867635208144157749912668657006085226160261808841484862703257771979713923863820038729637520989894984676774385364934677289947762340313157123529922421738738162392233756507666339799675257002539356619747080176786496732679854783185583233878234270370065954615221443190595445898747930123678952192875629172092437548194134594886873249778512829119416327938768896 : ℝ) : EReal)
  | "gamma2_pow_4" => some ((260144641 / 268435456 : ℝ) : EReal)
  | "gamma3_pow_256" => some ((11865504027970838771731346061683101436994979092949631599037079718981644706917580014911102414175085528643666188591370983920968194011711659169451226844120009995840891480759624977868736986513250783427504228510443452927050635948750086027473241612026344113952918539841083265621530105483498237021333267100718263868013566694893934279056051614332115121424258551337630287851288624870009988393213915090641049449897944231399544068578059227753373776746392142852101691703865017730668871755067274316504625716657064558790363574959526408194231415564059175410672318668947295267860607377447532996550538797464469098486006259918212890625 / 32317006071311007300714876688669951960444102669715484032130345427524655138867890893197201411522913463688717960921898019494119559150490921095088152386448283120630877367300996091750197750389652106796057638384067568276792218642619756161838094338476170470581645852036305042887575891541065808607552399123930385521914333389668342420684974786564569494856176035326322058077805659331026192708460314150258592864177116725943603718461857357598351152301645904403697613233287231227125684710820209725157101726931323469678542580656697935045997268352998638215525166389437335543602135433229604645318478604952148193555853611059596230656 : ℝ) : EReal)
  | "gamma3_pow_4" => some ((4228250625 / 4294967296 : ℝ) : EReal)
  | "log_gamma0" => some ((Real.log (31 / 32) : ℝ) : EReal)
  | "log_gamma1" => some ((Real.log (63 / 64) : ℝ) : EReal)
  | "log_gamma2" => some ((Real.log (127 / 128) : ℝ) : EReal)
  | "log_gamma3" => some ((Real.log (255 / 256) : ℝ) : EReal)
  | _ => none
-- ==== ReferenceIdeal.lean ====
abbrev S8x2048x6144 : Shape := ⟨3, ![8, 2048, 6144]⟩
abbrev S8x2048x1024 : Shape := ⟨3, ![8, 2048, 1024]⟩
abbrev S8x1x1024 : Shape := ⟨3, ![8, 1, 1024]⟩
abbrev S4x512 : Shape := ⟨2, ![4, 512]⟩
abbrev S2048x1024 : Shape := ⟨2, ![2048, 1024]⟩
abbrev S32x4x6144 : Shape := ⟨3, ![32, 4, 6144]⟩
abbrev S32x4x256x512 : Shape := ⟨4, ![32, 4, 256, 512]⟩
abbrev S_ : Shape := ⟨0, ![]⟩
abbrev S8x4x256x512 : Shape := ⟨4, ![8, 4, 256, 512]⟩
abbrev S8x2048x2048 : Shape := ⟨3, ![8, 2048, 2048]⟩
abbrev S8x2048x4x256 : Shape := ⟨4, ![8, 2048, 4, 256]⟩
abbrev S8x4x2048x256 : Shape := ⟨4, ![8, 4, 2048, 256]⟩
abbrev S8x2048x4x512 : Shape := ⟨4, ![8, 2048, 4, 512]⟩
abbrev S8x4x2048x512 : Shape := ⟨4, ![8, 4, 2048, 512]⟩
abbrev S4 : Shape := ⟨1, ![4]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S4x1x1 : Shape := ⟨3, ![4, 1, 1]⟩
abbrev S1x128x128 : Shape := ⟨3, ![1, 128, 128]⟩
abbrev S4x128x128 : Shape := ⟨3, ![4, 128, 128]⟩
abbrev S4x1 : Shape := ⟨2, ![4, 1]⟩
abbrev S4x128 : Shape := ⟨2, ![4, 128]⟩
abbrev S4x128x1 : Shape := ⟨3, ![4, 128, 1]⟩
abbrev S8x4x16x128x256 : Shape := ⟨5, ![8, 4, 16, 128, 256]⟩
abbrev S16x8x4x128x256 : Shape := ⟨5, ![16, 8, 4, 128, 256]⟩
abbrev S8x4x16x128x512 : Shape := ⟨5, ![8, 4, 16, 128, 512]⟩
abbrev S16x8x4x128x512 : Shape := ⟨5, ![16, 8, 4, 128, 512]⟩
abbrev S1x8x4x128x256 : Shape := ⟨5, ![1, 8, 4, 128, 256]⟩
abbrev S8x4x128x256 : Shape := ⟨4, ![8, 4, 128, 256]⟩
abbrev S1x8x4x128x512 : Shape := ⟨5, ![1, 8, 4, 128, 512]⟩
abbrev S8x4x128x512 : Shape := ⟨4, ![8, 4, 128, 512]⟩
abbrev S8x4x128x128 : Shape := ⟨4, ![8, 4, 128, 128]⟩
abbrev S1x4x128x128 : Shape := ⟨4, ![1, 4, 128, 128]⟩
abbrev S1x4x128x1 : Shape := ⟨4, ![1, 4, 128, 1]⟩
abbrev S1x4x1x1 : Shape := ⟨4, ![1, 4, 1, 1]⟩
abbrev S8x2048x4 : Shape := ⟨3, ![8, 2048, 4]⟩
abbrev S8x2048x4x1 : Shape := ⟨4, ![8, 2048, 4, 1]⟩
abbrev S1x1x4x512 : Shape := ⟨4, ![1, 1, 4, 512]⟩
abbrev S32x4x1024 : Shape := ⟨3, ![32, 4, 1024]⟩
abbrev S32x4x2048 : Shape := ⟨3, ![32, 4, 2048]⟩
abbrev S32x4x4x256 : Shape := ⟨4, ![32, 4, 4, 256]⟩
abbrev S32x4x4x512 : Shape := ⟨4, ![32, 4, 4, 512]⟩
abbrev S1x4 : Shape := ⟨2, ![1, 4]⟩
abbrev S4x4 : Shape := ⟨2, ![4, 4]⟩
abbrev S1x4x4 : Shape := ⟨3, ![1, 4, 4]⟩
abbrev S4x4x4 : Shape := ⟨3, ![4, 4, 4]⟩
abbrev S4x4x1 : Shape := ⟨3, ![4, 4, 1]⟩
abbrev S32x4x4x4 : Shape := ⟨4, ![32, 4, 4, 4]⟩
abbrev S1x4x4x4 : Shape := ⟨4, ![1, 4, 4, 4]⟩
abbrev S1x4x4x1 : Shape := ⟨4, ![1, 4, 4, 1]⟩
abbrev S32x4x4 : Shape := ⟨3, ![32, 4, 4]⟩
abbrev S32x4x4x1 : Shape := ⟨4, ![32, 4, 4, 1]⟩

abbrev nBuf : Space → Nat
  | .hbm => 322
  | .vmem => 0
  | .smem => 0
  | _ => 0

abbrev hbmTy0_0 (i : Nat) : BufTy := match i % 128 with
  | 0 => ⟨S8x2048x6144, .bf16⟩
  | 1 => ⟨S8x2048x1024, .f32⟩
  | 2 => ⟨S8x1x1024, .f32⟩
  | 3 => ⟨S4x512, .f32⟩
  | 4 => ⟨S2048x1024, .f32⟩
  | 5 => ⟨S32x4x6144, .f32⟩
  | 6 => ⟨S32x4x256x512, .f32⟩
  | 7 => ⟨S_, .f32⟩
  | 8 => ⟨S8x4x256x512, .f32⟩
  | 9 => ⟨S8x2048x6144, .f32⟩
  | 10 => ⟨S8x2048x1024, .f32⟩
  | 11 => ⟨S8x2048x1024, .f32⟩
  | 12 => ⟨S8x2048x2048, .f32⟩
  | 13 => ⟨S8x2048x2048, .f32⟩
  | 14 => ⟨S8x2048x4x256, .f32⟩
  | 15 => ⟨S8x4x2048x256, .f32⟩
  | 16 => ⟨S_, .f32⟩
  | 17 => ⟨S8x2048x1024, .f32⟩
  | 18 => ⟨S8x2048x1024, .f32⟩
  | 19 => ⟨S8x2048x4x256, .f32⟩
  | 20 => ⟨S8x4x2048x256, .f32⟩
  | 21 => ⟨S8x2048x4x512, .f32⟩
  | 22 => ⟨S8x4x2048x512, .f32⟩
  | 23 => ⟨S4, .f32⟩
  | 24 => ⟨S_, .f32⟩
  | 25 => ⟨S4, .f32⟩
  | 26 => ⟨S4, .f32⟩
  | 27 => ⟨S_, .f32⟩
  | 28 => ⟨S4, .f32⟩
  | 29 => ⟨S4, .f32⟩
  | 30 => ⟨S4, .f32⟩
  | 31 => ⟨S4, .f32⟩
  | 32 => ⟨S128, .f32⟩
  | 33 => ⟨S128x1, .f32⟩
  | 34 => ⟨S1x128, .f32⟩
  | 35 => ⟨S128x128, .f32⟩
  | 36 => ⟨S128x128, .f32⟩
  | 37 => ⟨S128x128, .f32⟩
  | 38 => ⟨S128, .i32⟩
  | 39 => ⟨S128x1, .i32⟩
  | 40 => ⟨S128, .i32⟩
  | 41 => ⟨S1x128, .i32⟩
  | 42 => ⟨S128x128, .i32⟩
  | 43 => ⟨S128x128, .i32⟩
  | 44 => ⟨S128x128, .i1⟩
  | 45 => ⟨S4x1x1, .f32⟩
  | 46 => ⟨S_, .f32⟩
  | 47 => ⟨S128x128, .f32⟩
  | 48 => ⟨S128x128, .f32⟩
  | 49 => ⟨S1x128x128, .f32⟩
  | 50 => ⟨S4x128x128, .f32⟩
  | 51 => ⟨S4x128x128, .f32⟩
  | 52 => ⟨S4x128x128, .f32⟩
  | 53 => ⟨S4x128x128, .f32⟩
  | 54 => ⟨S_, .f32⟩
  | 55 => ⟨S_, .f32⟩
  | 56 => ⟨S4x128x128, .i1⟩
  | 57 => ⟨S4x128x128, .f32⟩
  | 58 => ⟨S4x128x128, .f32⟩
  | 59 => ⟨S4x1, .f32⟩
  | 60 => ⟨S_, .f32⟩
  | 61 => ⟨S128, .f32⟩
  | 62 => ⟨S128, .f32⟩
  | 63 => ⟨S1x128, .f32⟩
  | 64 => ⟨S4x128, .f32⟩
  | 65 => ⟨S4x128, .f32⟩
  | 66 => ⟨S4x128, .f32⟩
  | 67 => ⟨S4x128, .f32⟩
  | 68 => ⟨S4x128x1, .f32⟩
  | 69 => ⟨S4x1, .f32⟩
  | 70 => ⟨S_, .f32⟩
  | 71 => ⟨S128, .f32⟩
  | 72 => ⟨S128, .f32⟩
  | 73 => ⟨S1x128, .f32⟩
  | 74 => ⟨S4x128, .f32⟩
  | 75 => ⟨S4x128, .f32⟩
  | 76 => ⟨S4x128, .f32⟩
  | 77 => ⟨S4x128, .f32⟩
  | 78 => ⟨S4x128x1, .f32⟩
  | 79 => ⟨S_, .f32⟩
  | 80 => ⟨S4, .f32⟩
  | 81 => ⟨S4, .f32⟩
  | 82 => ⟨S4, .f32⟩
  | 83 => ⟨S4x1x1, .f32⟩
  | 84 => ⟨S8x4x16x128x256, .f32⟩
  | 85 => ⟨S16x8x4x128x256, .f32⟩
  | 86 => ⟨S8x4x16x128x256, .f32⟩
  | 87 => ⟨S16x8x4x128x256, .f32⟩
  | 88 => ⟨S8x4x16x128x512, .f32⟩
  | 89 => ⟨S16x8x4x128x512, .f32⟩
  | 90 => ⟨S_, .f32⟩
  | 91 => ⟨S16x8x4x128x512, .f32⟩
  | 92 => ⟨S_, .i32⟩
  | 93 => ⟨S16x8x4x128x256, .f32⟩
  | 94 => ⟨S16x8x4x128x256, .f32⟩
  | 95 => ⟨S16x8x4x128x512, .f32⟩
  | 96 => ⟨S4x128x128, .f32⟩
  | 97 => ⟨S4x128x1, .f32⟩
  | 98 => ⟨S4x1x1, .f32⟩
  | 99 => ⟨S4x128x1, .f32⟩
  | 100 => ⟨S_, .i32⟩
  | 101 => ⟨S8x4x256x512, .f32⟩
  | 102 => ⟨S16x8x4x128x512, .f32⟩
  | 103 => ⟨S_, .i32⟩
  | 104 => ⟨S_, .i1⟩
  | 105 => ⟨S_, .i32⟩
  | 106 => ⟨S_, .i32⟩
  | 107 => ⟨S_, .i32⟩
  | 108 => ⟨S_, .i32⟩
  | 109 => ⟨S1x8x4x128x256, .f32⟩
  | 110 => ⟨S8x4x128x256, .f32⟩
  | 111 => ⟨S_, .i32⟩
  | 112 => ⟨S_, .i32⟩
  | 113 => ⟨S_, .i32⟩
  | 114 => ⟨S_, .i32⟩
  | 115 => ⟨S1x8x4x128x256, .f32⟩
  | 116 => ⟨S8x4x128x256, .f32⟩
  | 117 => ⟨S_, .i32⟩
  | 118 => ⟨S_, .i32⟩
  | 119 => ⟨S_, .i32⟩
  | 120 => ⟨S_, .i32⟩
  | 121 => ⟨S1x8x4x128x512, .f32⟩
  | 122 => ⟨S8x4x128x512, .f32⟩
  | 123 => ⟨S8x4x128x128, .f32⟩
  | 124 => ⟨S1x4x128x128, .f32⟩
  | 125 => ⟨S8x4x128x128, .f32⟩
  | 126 => ⟨S8x4x128x128, .f32⟩
  | 127 => ⟨S8x4x128x512, .f32⟩
  | _ => ⟨S8x2048x6144, .bf16⟩

abbrev hbmTy0_1 (i : Nat) : BufTy := match i % 128 with
  | 0 => ⟨S1x4x128x1, .f32⟩
  | 1 => ⟨S8x4x128x256, .f32⟩
  | 2 => ⟨S8x4x128x256, .f32⟩
  | 3 => ⟨S8x4x128x512, .f32⟩
  | 4 => ⟨S1x4x1x1, .f32⟩
  | 5 => ⟨S8x4x256x512, .f32⟩
  | 6 => ⟨S8x4x256x512, .f32⟩
  | 7 => ⟨S1x4x128x1, .f32⟩
  | 8 => ⟨S8x4x128x256, .f32⟩
  | 9 => ⟨S8x4x128x256, .f32⟩
  | 10 => ⟨S8x4x256x512, .f32⟩
  | 11 => ⟨S8x4x256x512, .f32⟩
  | 12 => ⟨S8x4x128x512, .f32⟩
  | 13 => ⟨S1x8x4x128x512, .f32⟩
  | 14 => ⟨S_, .i32⟩
  | 15 => ⟨S_, .i32⟩
  | 16 => ⟨S_, .i32⟩
  | 17 => ⟨S_, .i32⟩
  | 18 => ⟨S16x8x4x128x512, .f32⟩
  | 19 => ⟨S_, .i32⟩
  | 20 => ⟨S_, .i32⟩
  | 21 => ⟨S8x4x16x128x512, .f32⟩
  | 22 => ⟨S8x4x2048x512, .f32⟩
  | 23 => ⟨S8x2048x4x512, .f32⟩
  | 24 => ⟨S_, .f32⟩
  | 25 => ⟨S8x2048x4, .f32⟩
  | 26 => ⟨S8x2048x4x1, .f32⟩
  | 27 => ⟨S_, .f32⟩
  | 28 => ⟨S8x2048x4x1, .f32⟩
  | 29 => ⟨S8x2048x4x1, .f32⟩
  | 30 => ⟨S8x2048x4x512, .f32⟩
  | 31 => ⟨S8x2048x4x512, .f32⟩
  | 32 => ⟨S8x2048x4x512, .f32⟩
  | 33 => ⟨S_, .f32⟩
  | 34 => ⟨S8x2048x4, .f32⟩
  | 35 => ⟨S8x2048x4x1, .f32⟩
  | 36 => ⟨S_, .f32⟩
  | 37 => ⟨S8x2048x4x1, .f32⟩
  | 38 => ⟨S8x2048x4x1, .f32⟩
  | 39 => ⟨S_, .f32⟩
  | 40 => ⟨S8x2048x4x1, .f32⟩
  | 41 => ⟨S8x2048x4x1, .f32⟩
  | 42 => ⟨S8x2048x4x1, .f32⟩
  | 43 => ⟨S8x2048x4x512, .f32⟩
  | 44 => ⟨S8x2048x4x512, .f32⟩
  | 45 => ⟨S1x1x4x512, .f32⟩
  | 46 => ⟨S8x2048x4x512, .f32⟩
  | 47 => ⟨S8x2048x4x512, .f32⟩
  | 48 => ⟨S8x2048x2048, .f32⟩
  | 49 => ⟨S8x2048x2048, .bf16⟩
  | 50 => ⟨S8x2048x2048, .f32⟩
  | 51 => ⟨S8x2048x2048, .f32⟩
  | 52 => ⟨S8x2048x2048, .f32⟩
  | 53 => ⟨S_, .f32⟩
  | 54 => ⟨S8x2048x2048, .f32⟩
  | 55 => ⟨S8x2048x2048, .f32⟩
  | 56 => ⟨S_, .f32⟩
  | 57 => ⟨S8x2048x2048, .f32⟩
  | 58 => ⟨S8x2048x2048, .f32⟩
  | 59 => ⟨S8x2048x2048, .f32⟩
  | 60 => ⟨S8x2048x2048, .f32⟩
  | 61 => ⟨S8x2048x1024, .f32⟩
  | 62 => ⟨S8x2048x1024, .f32⟩
  | 63 => ⟨S8x2048x1024, .f32⟩
  | 64 => ⟨S8x2048x1024, .f32⟩
  | 65 => ⟨S32x4x1024, .f32⟩
  | 66 => ⟨S32x4x1024, .f32⟩
  | 67 => ⟨S32x4x2048, .f32⟩
  | 68 => ⟨S32x4x2048, .f32⟩
  | 69 => ⟨S32x4x4x256, .f32⟩
  | 70 => ⟨S32x4x4x256, .f32⟩
  | 71 => ⟨S_, .f32⟩
  | 72 => ⟨S32x4x1024, .f32⟩
  | 73 => ⟨S32x4x1024, .f32⟩
  | 74 => ⟨S32x4x4x256, .f32⟩
  | 75 => ⟨S32x4x4x256, .f32⟩
  | 76 => ⟨S32x4x4x512, .f32⟩
  | 77 => ⟨S32x4x4x512, .f32⟩
  | 78 => ⟨S4, .f32⟩
  | 79 => ⟨S_, .f32⟩
  | 80 => ⟨S4, .f32⟩
  | 81 => ⟨S4, .f32⟩
  | 82 => ⟨S_, .f32⟩
  | 83 => ⟨S4, .f32⟩
  | 84 => ⟨S4, .f32⟩
  | 85 => ⟨S4, .f32⟩
  | 86 => ⟨S4, .f32⟩
  | 87 => ⟨S4, .f32⟩
  | 88 => ⟨S4x1, .f32⟩
  | 89 => ⟨S1x4, .f32⟩
  | 90 => ⟨S4x4, .f32⟩
  | 91 => ⟨S4x4, .f32⟩
  | 92 => ⟨S4x4, .f32⟩
  | 93 => ⟨S4, .i32⟩
  | 94 => ⟨S4x1, .i32⟩
  | 95 => ⟨S4, .i32⟩
  | 96 => ⟨S1x4, .i32⟩
  | 97 => ⟨S4x4, .i32⟩
  | 98 => ⟨S4x4, .i32⟩
  | 99 => ⟨S4x4, .i1⟩
  | 100 => ⟨S4x1x1, .f32⟩
  | 101 => ⟨S_, .f32⟩
  | 102 => ⟨S4x4, .f32⟩
  | 103 => ⟨S4x4, .f32⟩
  | 104 => ⟨S1x4x4, .f32⟩
  | 105 => ⟨S4x4x4, .f32⟩
  | 106 => ⟨S4x4x4, .f32⟩
  | 107 => ⟨S4x4x4, .f32⟩
  | 108 => ⟨S4x4x4, .f32⟩
  | 109 => ⟨S_, .f32⟩
  | 110 => ⟨S_, .f32⟩
  | 111 => ⟨S4x4x4, .i1⟩
  | 112 => ⟨S4x4x4, .f32⟩
  | 113 => ⟨S4x4x4, .f32⟩
  | 114 => ⟨S4x1, .f32⟩
  | 115 => ⟨S_, .f32⟩
  | 116 => ⟨S4, .f32⟩
  | 117 => ⟨S4, .f32⟩
  | 118 => ⟨S1x4, .f32⟩
  | 119 => ⟨S4x4, .f32⟩
  | 120 => ⟨S4x4, .f32⟩
  | 121 => ⟨S4x4, .f32⟩
  | 122 => ⟨S4x4, .f32⟩
  | 123 => ⟨S4x4x1, .f32⟩
  | 124 => ⟨S4x1, .f32⟩
  | 125 => ⟨S_, .f32⟩
  | 126 => ⟨S4, .f32⟩
  | 127 => ⟨S4, .f32⟩
  | _ => ⟨S8x2048x6144, .bf16⟩

abbrev hbmTy0_2 (i : Nat) : BufTy := match i % 128 with
  | 0 => ⟨S1x4, .f32⟩
  | 1 => ⟨S4x4, .f32⟩
  | 2 => ⟨S4x4, .f32⟩
  | 3 => ⟨S4x4, .f32⟩
  | 4 => ⟨S4x4, .f32⟩
  | 5 => ⟨S4x4x1, .f32⟩
  | 6 => ⟨S_, .f32⟩
  | 7 => ⟨S4, .f32⟩
  | 8 => ⟨S4, .f32⟩
  | 9 => ⟨S4, .f32⟩
  | 10 => ⟨S4x1x1, .f32⟩
  | 11 => ⟨S32x4x4x4, .f32⟩
  | 12 => ⟨S1x4x4x4, .f32⟩
  | 13 => ⟨S32x4x4x4, .f32⟩
  | 14 => ⟨S32x4x4x4, .f32⟩
  | 15 => ⟨S32x4x4x512, .f32⟩
  | 16 => ⟨S1x4x4x1, .f32⟩
  | 17 => ⟨S32x4x4x256, .f32⟩
  | 18 => ⟨S32x4x4x256, .f32⟩
  | 19 => ⟨S32x4x4x512, .f32⟩
  | 20 => ⟨S1x4x1x1, .f32⟩
  | 21 => ⟨S32x4x256x512, .f32⟩
  | 22 => ⟨S32x4x256x512, .f32⟩
  | 23 => ⟨S1x4x4x1, .f32⟩
  | 24 => ⟨S32x4x4x256, .f32⟩
  | 25 => ⟨S32x4x4x256, .f32⟩
  | 26 => ⟨S32x4x256x512, .f32⟩
  | 27 => ⟨S32x4x256x512, .f32⟩
  | 28 => ⟨S32x4x4x512, .f32⟩
  | 29 => ⟨S32x4x4x512, .f32⟩
  | 30 => ⟨S_, .f32⟩
  | 31 => ⟨S32x4x4, .f32⟩
  | 32 => ⟨S32x4x4x1, .f32⟩
  | 33 => ⟨S_, .f32⟩
  | 34 => ⟨S32x4x4x1, .f32⟩
  | 35 => ⟨S32x4x4x1, .f32⟩
  | 36 => ⟨S32x4x4x512, .f32⟩
  | 37 => ⟨S32x4x4x512, .f32⟩
  | 38 => ⟨S32x4x4x512, .f32⟩
  | 39 => ⟨S_, .f32⟩
  | 40 => ⟨S32x4x4, .f32⟩
  | 41 => ⟨S32x4x4x1, .f32⟩
  | 42 => ⟨S_, .f32⟩
  | 43 => ⟨S32x4x4x1, .f32⟩
  | 44 => ⟨S32x4x4x1, .f32⟩
  | 45 => ⟨S_, .f32⟩
  | 46 => ⟨S32x4x4x1, .f32⟩
  | 47 => ⟨S32x4x4x1, .f32⟩
  | 48 => ⟨S32x4x4x1, .f32⟩
  | 49 => ⟨S32x4x4x512, .f32⟩
  | 50 => ⟨S32x4x4x512, .f32⟩
  | 51 => ⟨S1x1x4x512, .f32⟩
  | 52 => ⟨S32x4x4x512, .f32⟩
  | 53 => ⟨S32x4x4x512, .f32⟩
  | 54 => ⟨S32x4x2048, .f32⟩
  | 55 => ⟨S32x4x2048, .f32⟩
  | 56 => ⟨S32x4x2048, .f32⟩
  | 57 => ⟨S32x4x2048, .f32⟩
  | 58 => ⟨S_, .f32⟩
  | 59 => ⟨S32x4x2048, .f32⟩
  | 60 => ⟨S32x4x2048, .f32⟩
  | 61 => ⟨S_, .f32⟩
  | 62 => ⟨S32x4x2048, .f32⟩
  | 63 => ⟨S32x4x2048, .f32⟩
  | 64 => ⟨S32x4x2048, .f32⟩
  | 65 => ⟨S32x4x2048, .f32⟩
  | _ => ⟨S8x2048x6144, .bf16⟩

abbrev hbmTy (i : Nat) : BufTy := match i / 128 with
  | 0 => hbmTy0_0 i
  | 1 => hbmTy0_1 i
  | 2 => hbmTy0_2 i
  | _ => ⟨S8x2048x6144, .bf16⟩

abbrev bufTy : (tb : Table) → Fin (tcTables nBuf tb) → BufTy
  | .hbm, ⟨i, _⟩ => hbmTy i
  | _, _ => ⟨S8x2048x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst_0 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_1 : Ref sig .tc := ⟨.hbm, 24, rfl⟩
abbrev main_v15 : Ref sig .tc := ⟨.hbm, 25, rfl⟩
abbrev main_v16 : Ref sig .tc := ⟨.hbm, 26, rfl⟩
abbrev main_cst_2 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_cst_4 : Ref sig .tc := ⟨.hbm, 54, rfl⟩
abbrev main_call0_v0 : Ref sig .tc := ⟨.hbm, 55, rfl⟩
abbrev main_call0_v1 : Ref sig .tc := ⟨.hbm, 56, rfl⟩
abbrev main_call0_v2 : Ref sig .tc := ⟨.hbm, 57, rfl⟩
abbrev main_v42 : Ref sig .tc := ⟨.hbm, 58, rfl⟩
abbrev main_v43 : Ref sig .tc := ⟨.hbm, 59, rfl⟩
abbrev main_cst_5 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_6 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_7 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_cst_8 : Ref sig .tc := ⟨.hbm, 90, rfl⟩
abbrev main_v71 : Ref sig .tc := ⟨.hbm, 91, rfl⟩
abbrev main_c : Ref sig .tc := ⟨.hbm, 92, rfl⟩
abbrev main_v72_0 : Ref sig .tc := ⟨.hbm, 93, rfl⟩
abbrev main_v72_1 : Ref sig .tc := ⟨.hbm, 94, rfl⟩
abbrev main_v72_2 : Ref sig .tc := ⟨.hbm, 95, rfl⟩
abbrev main_v72_3 : Ref sig .tc := ⟨.hbm, 96, rfl⟩
abbrev main_v72_4 : Ref sig .tc := ⟨.hbm, 97, rfl⟩
abbrev main_v72_5 : Ref sig .tc := ⟨.hbm, 98, rfl⟩
abbrev main_v72_6 : Ref sig .tc := ⟨.hbm, 99, rfl⟩
abbrev main_v72_7 : Ref sig .tc := ⟨.hbm, 100, rfl⟩
abbrev main_v72_8 : Ref sig .tc := ⟨.hbm, 101, rfl⟩
abbrev main_v72_9 : Ref sig .tc := ⟨.hbm, 102, rfl⟩
abbrev main_while0c_c_36 : Ref sig .tc := ⟨.hbm, 103, rfl⟩
abbrev main_while0c_v209 : Ref sig .tc := ⟨.hbm, 104, rfl⟩
abbrev main_while0b_call1_c : Ref sig .tc := ⟨.hbm, 105, rfl⟩
abbrev main_while0b_call1_c_0 : Ref sig .tc := ⟨.hbm, 106, rfl⟩
abbrev main_while0b_call1_c_1 : Ref sig .tc := ⟨.hbm, 107, rfl⟩
abbrev main_while0b_call1_c_2 : Ref sig .tc := ⟨.hbm, 108, rfl⟩
abbrev main_while0b_call1_v0 : Ref sig .tc := ⟨.hbm, 109, rfl⟩
abbrev main_while0b_v209 : Ref sig .tc := ⟨.hbm, 110, rfl⟩
abbrev main_while0b_call2_c : Ref sig .tc := ⟨.hbm, 111, rfl⟩
abbrev main_while0b_call2_c_0 : Ref sig .tc := ⟨.hbm, 112, rfl⟩
abbrev main_while0b_call2_c_1 : Ref sig .tc := ⟨.hbm, 113, rfl⟩
abbrev main_while0b_call2_c_2 : Ref sig .tc := ⟨.hbm, 114, rfl⟩
abbrev main_while0b_call2_v0 : Ref sig .tc := ⟨.hbm, 115, rfl⟩
abbrev main_while0b_v210 : Ref sig .tc := ⟨.hbm, 116, rfl⟩
abbrev main_while0b_call3_c : Ref sig .tc := ⟨.hbm, 117, rfl⟩
abbrev main_while0b_call3_c_0 : Ref sig .tc := ⟨.hbm, 118, rfl⟩
abbrev main_while0b_call3_c_1 : Ref sig .tc := ⟨.hbm, 119, rfl⟩
abbrev main_while0b_call3_c_2 : Ref sig .tc := ⟨.hbm, 120, rfl⟩
abbrev main_while0b_call3_v0 : Ref sig .tc := ⟨.hbm, 121, rfl⟩
abbrev main_while0b_v211 : Ref sig .tc := ⟨.hbm, 122, rfl⟩
abbrev main_while0b_v212 : Ref sig .tc := ⟨.hbm, 123, rfl⟩
abbrev main_while0b_v213 : Ref sig .tc := ⟨.hbm, 124, rfl⟩
abbrev main_while0b_v214 : Ref sig .tc := ⟨.hbm, 125, rfl⟩
abbrev main_while0b_v215 : Ref sig .tc := ⟨.hbm, 126, rfl⟩
abbrev main_while0b_v216 : Ref sig .tc := ⟨.hbm, 127, rfl⟩
abbrev main_while0b_v217 : Ref sig .tc := ⟨.hbm, 128, rfl⟩
abbrev main_while0b_v218 : Ref sig .tc := ⟨.hbm, 129, rfl⟩
abbrev main_while0b_v219 : Ref sig .tc := ⟨.hbm, 130, rfl⟩
abbrev main_while0b_v220 : Ref sig .tc := ⟨.hbm, 131, rfl⟩
abbrev main_while0b_v221 : Ref sig .tc := ⟨.hbm, 132, rfl⟩
abbrev main_while0b_v222 : Ref sig .tc := ⟨.hbm, 133, rfl⟩
abbrev main_while0b_v223 : Ref sig .tc := ⟨.hbm, 134, rfl⟩
abbrev main_while0b_v224 : Ref sig .tc := ⟨.hbm, 135, rfl⟩
abbrev main_while0b_v225 : Ref sig .tc := ⟨.hbm, 136, rfl⟩
abbrev main_while0b_v226 : Ref sig .tc := ⟨.hbm, 137, rfl⟩
abbrev main_while0b_v227 : Ref sig .tc := ⟨.hbm, 138, rfl⟩
abbrev main_while0b_v228 : Ref sig .tc := ⟨.hbm, 139, rfl⟩
abbrev main_while0b_v229 : Ref sig .tc := ⟨.hbm, 140, rfl⟩
abbrev main_while0b_call4_v0 : Ref sig .tc := ⟨.hbm, 141, rfl⟩
abbrev main_while0b_call4_c : Ref sig .tc := ⟨.hbm, 142, rfl⟩
abbrev main_while0b_call4_c_0 : Ref sig .tc := ⟨.hbm, 143, rfl⟩
abbrev main_while0b_call4_c_1 : Ref sig .tc := ⟨.hbm, 144, rfl⟩
abbrev main_while0b_call4_c_2 : Ref sig .tc := ⟨.hbm, 145, rfl⟩
abbrev main_while0b_v230 : Ref sig .tc := ⟨.hbm, 146, rfl⟩
abbrev main_while0b_c_36 : Ref sig .tc := ⟨.hbm, 147, rfl⟩
abbrev main_while0b_v231 : Ref sig .tc := ⟨.hbm, 148, rfl⟩
abbrev main_v73 : Ref sig .tc := ⟨.hbm, 149, rfl⟩
abbrev main_v74 : Ref sig .tc := ⟨.hbm, 150, rfl⟩
abbrev main_v75 : Ref sig .tc := ⟨.hbm, 151, rfl⟩
abbrev main_cst_9 : Ref sig .tc := ⟨.hbm, 152, rfl⟩
abbrev main_v76 : Ref sig .tc := ⟨.hbm, 153, rfl⟩
abbrev main_v77 : Ref sig .tc := ⟨.hbm, 154, rfl⟩
abbrev main_cst_10 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_cst_11 : Ref sig .tc := ⟨.hbm, 161, rfl⟩
abbrev main_v83 : Ref sig .tc := ⟨.hbm, 162, rfl⟩
abbrev main_v84 : Ref sig .tc := ⟨.hbm, 163, rfl⟩
abbrev main_cst_12 : Ref sig .tc := ⟨.hbm, 164, rfl⟩
abbrev main_v85 : Ref sig .tc := ⟨.hbm, 165, rfl⟩
abbrev main_v86 : Ref sig .tc := ⟨.hbm, 166, rfl⟩
abbrev main_cst_13 : Ref sig .tc := ⟨.hbm, 167, rfl⟩
abbrev main_v87 : Ref sig .tc := ⟨.hbm, 168, rfl⟩
abbrev main_v88 : Ref sig .tc := ⟨.hbm, 169, rfl⟩
abbrev main_v89 : Ref sig .tc := ⟨.hbm, 170, rfl⟩
abbrev main_v90 : Ref sig .tc := ⟨.hbm, 171, rfl⟩
abbrev main_v91 : Ref sig .tc := ⟨.hbm, 172, rfl⟩
abbrev main_v92 : Ref sig .tc := ⟨.hbm, 173, rfl⟩
abbrev main_v93 : Ref sig .tc := ⟨.hbm, 174, rfl⟩
abbrev main_v94 : Ref sig .tc := ⟨.hbm, 175, rfl⟩
abbrev main_v95 : Ref sig .tc := ⟨.hbm, 176, rfl⟩
abbrev main_v96 : Ref sig .tc := ⟨.hbm, 177, rfl⟩
abbrev main_v97 : Ref sig .tc := ⟨.hbm, 178, rfl⟩
abbrev main_call5_v0 : Ref sig .tc := ⟨.hbm, 179, rfl⟩
abbrev main_call5_v1 : Ref sig .tc := ⟨.hbm, 180, rfl⟩
abbrev main_call5_cst : Ref sig .tc := ⟨.hbm, 181, rfl⟩
abbrev main_call5_v2 : Ref sig .tc := ⟨.hbm, 182, rfl⟩
abbrev main_call5_v3 : Ref sig .tc := ⟨.hbm, 183, rfl⟩
abbrev main_call5_cst_0 : Ref sig .tc := ⟨.hbm, 184, rfl⟩
abbrev main_call5_v4 : Ref sig .tc := ⟨.hbm, 185, rfl⟩
abbrev main_call5_v5 : Ref sig .tc := ⟨.hbm, 186, rfl⟩
abbrev main_v98 : Ref sig .tc := ⟨.hbm, 187, rfl⟩
abbrev main_v99 : Ref sig .tc := ⟨.hbm, 188, rfl⟩
abbrev main_v100 : Ref sig .tc := ⟨.hbm, 189, rfl⟩
abbrev main_v101 : Ref sig .tc := ⟨.hbm, 190, rfl⟩
abbrev main_v102 : Ref sig .tc := ⟨.hbm, 191, rfl⟩
abbrev main_v103 : Ref sig .tc := ⟨.hbm, 192, rfl⟩
abbrev main_v104 : Ref sig .tc := ⟨.hbm, 193, rfl⟩
abbrev main_v105 : Ref sig .tc := ⟨.hbm, 194, rfl⟩
abbrev main_v106 : Ref sig .tc := ⟨.hbm, 195, rfl⟩
abbrev main_v107 : Ref sig .tc := ⟨.hbm, 196, rfl⟩
abbrev main_v108 : Ref sig .tc := ⟨.hbm, 197, rfl⟩
abbrev main_v109 : Ref sig .tc := ⟨.hbm, 198, rfl⟩
abbrev main_cst_14 : Ref sig .tc := ⟨.hbm, 199, rfl⟩
abbrev main_v110 : Ref sig .tc := ⟨.hbm, 200, rfl⟩
abbrev main_v111 : Ref sig .tc := ⟨.hbm, 201, rfl⟩
abbrev main_v112 : Ref sig .tc := ⟨.hbm, 202, rfl⟩
abbrev main_v113 : Ref sig .tc := ⟨.hbm, 203, rfl⟩
abbrev main_v114 : Ref sig .tc := ⟨.hbm, 204, rfl⟩
abbrev main_v115 : Ref sig .tc := ⟨.hbm, 205, rfl⟩
abbrev main_v116 : Ref sig .tc := ⟨.hbm, 206, rfl⟩
abbrev main_cst_15 : Ref sig .tc := ⟨.hbm, 207, rfl⟩
abbrev main_v117 : Ref sig .tc := ⟨.hbm, 208, rfl⟩
abbrev main_v118 : Ref sig .tc := ⟨.hbm, 209, rfl⟩
abbrev main_cst_16 : Ref sig .tc := ⟨.hbm, 210, rfl⟩
abbrev main_v119 : Ref sig .tc := ⟨.hbm, 211, rfl⟩
abbrev main_v120 : Ref sig .tc := ⟨.hbm, 212, rfl⟩
abbrev main_v121 : Ref sig .tc := ⟨.hbm, 213, rfl⟩
abbrev main_v122 : Ref sig .tc := ⟨.hbm, 214, rfl⟩
abbrev main_v123 : Ref sig .tc := ⟨.hbm, 215, rfl⟩
abbrev main_v124 : Ref sig .tc := ⟨.hbm, 216, rfl⟩
abbrev main_v125 : Ref sig .tc := ⟨.hbm, 217, rfl⟩
abbrev main_v126 : Ref sig .tc := ⟨.hbm, 218, rfl⟩
abbrev main_v127 : Ref sig .tc := ⟨.hbm, 219, rfl⟩
abbrev main_v128 : Ref sig .tc := ⟨.hbm, 220, rfl⟩
abbrev main_v129 : Ref sig .tc := ⟨.hbm, 221, rfl⟩
abbrev main_v130 : Ref sig .tc := ⟨.hbm, 222, rfl⟩
abbrev main_v131 : Ref sig .tc := ⟨.hbm, 223, rfl⟩
abbrev main_v132 : Ref sig .tc := ⟨.hbm, 224, rfl⟩
abbrev main_v133 : Ref sig .tc := ⟨.hbm, 225, rfl⟩
abbrev main_v134 : Ref sig .tc := ⟨.hbm, 226, rfl⟩
abbrev main_v135 : Ref sig .tc := ⟨.hbm, 227, rfl⟩
abbrev main_v136 : Ref sig .tc := ⟨.hbm, 228, rfl⟩
abbrev main_cst_17 : Ref sig .tc := ⟨.hbm, 229, rfl⟩
abbrev main_v137 : Ref sig .tc := ⟨.hbm, 230, rfl⟩
abbrev main_v138 : Ref sig .tc := ⟨.hbm, 231, rfl⟩
abbrev main_v139 : Ref sig .tc := ⟨.hbm, 232, rfl⟩
abbrev main_v140 : Ref sig .tc := ⟨.hbm, 233, rfl⟩
abbrev main_v141 : Ref sig .tc := ⟨.hbm, 234, rfl⟩
abbrev main_v142 : Ref sig .tc := ⟨.hbm, 235, rfl⟩
abbrev main_v143 : Ref sig .tc := ⟨.hbm, 236, rfl⟩
abbrev main_cst_18 : Ref sig .tc := ⟨.hbm, 237, rfl⟩
abbrev main_call6_v0 : Ref sig .tc := ⟨.hbm, 238, rfl⟩
abbrev main_call6_v1 : Ref sig .tc := ⟨.hbm, 239, rfl⟩
abbrev main_call6_v2 : Ref sig .tc := ⟨.hbm, 240, rfl⟩
abbrev main_v144 : Ref sig .tc := ⟨.hbm, 241, rfl⟩
abbrev main_v145 : Ref sig .tc := ⟨.hbm, 242, rfl⟩
abbrev main_cst_19 : Ref sig .tc := ⟨.hbm, 243, rfl⟩
abbrev main_v146 : Ref sig .tc := ⟨.hbm, 244, rfl⟩
abbrev main_v147 : Ref sig .tc := ⟨.hbm, 245, rfl⟩
abbrev main_v148 : Ref sig .tc := ⟨.hbm, 246, rfl⟩
abbrev main_v149 : Ref sig .tc := ⟨.hbm, 247, rfl⟩
abbrev main_v150 : Ref sig .tc := ⟨.hbm, 248, rfl⟩
abbrev main_v151 : Ref sig .tc := ⟨.hbm, 249, rfl⟩
abbrev main_v152 : Ref sig .tc := ⟨.hbm, 250, rfl⟩
abbrev main_v153 : Ref sig .tc := ⟨.hbm, 251, rfl⟩
abbrev main_v154 : Ref sig .tc := ⟨.hbm, 252, rfl⟩
abbrev main_cst_20 : Ref sig .tc := ⟨.hbm, 253, rfl⟩
abbrev main_v155 : Ref sig .tc := ⟨.hbm, 254, rfl⟩
abbrev main_v156 : Ref sig .tc := ⟨.hbm, 255, rfl⟩
abbrev main_v157 : Ref sig .tc := ⟨.hbm, 256, rfl⟩
abbrev main_v158 : Ref sig .tc := ⟨.hbm, 257, rfl⟩
abbrev main_v159 : Ref sig .tc := ⟨.hbm, 258, rfl⟩
abbrev main_v160 : Ref sig .tc := ⟨.hbm, 259, rfl⟩
abbrev main_v161 : Ref sig .tc := ⟨.hbm, 260, rfl⟩
abbrev main_v162 : Ref sig .tc := ⟨.hbm, 261, rfl⟩
abbrev main_cst_21 : Ref sig .tc := ⟨.hbm, 262, rfl⟩
abbrev main_v163 : Ref sig .tc := ⟨.hbm, 263, rfl⟩
abbrev main_v164 : Ref sig .tc := ⟨.hbm, 264, rfl⟩
abbrev main_v165 : Ref sig .tc := ⟨.hbm, 265, rfl⟩
abbrev main_v166 : Ref sig .tc := ⟨.hbm, 266, rfl⟩
abbrev main_v167 : Ref sig .tc := ⟨.hbm, 267, rfl⟩
abbrev main_v168 : Ref sig .tc := ⟨.hbm, 268, rfl⟩
abbrev main_v169 : Ref sig .tc := ⟨.hbm, 269, rfl⟩
abbrev main_v170 : Ref sig .tc := ⟨.hbm, 270, rfl⟩
abbrev main_v171 : Ref sig .tc := ⟨.hbm, 271, rfl⟩
abbrev main_v172 : Ref sig .tc := ⟨.hbm, 272, rfl⟩
abbrev main_v173 : Ref sig .tc := ⟨.hbm, 273, rfl⟩
abbrev main_v174 : Ref sig .tc := ⟨.hbm, 274, rfl⟩
abbrev main_v175 : Ref sig .tc := ⟨.hbm, 275, rfl⟩
abbrev main_v176 : Ref sig .tc := ⟨.hbm, 276, rfl⟩
abbrev main_v177 : Ref sig .tc := ⟨.hbm, 277, rfl⟩
abbrev main_v178 : Ref sig .tc := ⟨.hbm, 278, rfl⟩
abbrev main_v179 : Ref sig .tc := ⟨.hbm, 279, rfl⟩
abbrev main_v180 : Ref sig .tc := ⟨.hbm, 280, rfl⟩
abbrev main_v181 : Ref sig .tc := ⟨.hbm, 281, rfl⟩
abbrev main_v182 : Ref sig .tc := ⟨.hbm, 282, rfl⟩
abbrev main_v183 : Ref sig .tc := ⟨.hbm, 283, rfl⟩
abbrev main_v184 : Ref sig .tc := ⟨.hbm, 284, rfl⟩
abbrev main_v185 : Ref sig .tc := ⟨.hbm, 285, rfl⟩
abbrev main_cst_22 : Ref sig .tc := ⟨.hbm, 286, rfl⟩
abbrev main_v186 : Ref sig .tc := ⟨.hbm, 287, rfl⟩
abbrev main_v187 : Ref sig .tc := ⟨.hbm, 288, rfl⟩
abbrev main_cst_23 : Ref sig .tc := ⟨.hbm, 289, rfl⟩
abbrev main_v188 : Ref sig .tc := ⟨.hbm, 290, rfl⟩
abbrev main_v189 : Ref sig .tc := ⟨.hbm, 291, rfl⟩
abbrev main_v190 : Ref sig .tc := ⟨.hbm, 292, rfl⟩
abbrev main_v191 : Ref sig .tc := ⟨.hbm, 293, rfl⟩
abbrev main_v192 : Ref sig .tc := ⟨.hbm, 294, rfl⟩
abbrev main_cst_24 : Ref sig .tc := ⟨.hbm, 295, rfl⟩
abbrev main_v193 : Ref sig .tc := ⟨.hbm, 296, rfl⟩
abbrev main_v194 : Ref sig .tc := ⟨.hbm, 297, rfl⟩
abbrev main_cst_25 : Ref sig .tc := ⟨.hbm, 298, rfl⟩
abbrev main_v195 : Ref sig .tc := ⟨.hbm, 299, rfl⟩
abbrev main_v196 : Ref sig .tc := ⟨.hbm, 300, rfl⟩
abbrev main_cst_26 : Ref sig .tc := ⟨.hbm, 301, rfl⟩
abbrev main_v197 : Ref sig .tc := ⟨.hbm, 302, rfl⟩
abbrev main_v198 : Ref sig .tc := ⟨.hbm, 303, rfl⟩
abbrev main_v199 : Ref sig .tc := ⟨.hbm, 304, rfl⟩
abbrev main_v200 : Ref sig .tc := ⟨.hbm, 305, rfl⟩
abbrev main_v201 : Ref sig .tc := ⟨.hbm, 306, rfl⟩
abbrev main_v202 : Ref sig .tc := ⟨.hbm, 307, rfl⟩
abbrev main_v203 : Ref sig .tc := ⟨.hbm, 308, rfl⟩
abbrev main_v204 : Ref sig .tc := ⟨.hbm, 309, rfl⟩
abbrev main_v205 : Ref sig .tc := ⟨.hbm, 310, rfl⟩
abbrev main_v206 : Ref sig .tc := ⟨.hbm, 311, rfl⟩
abbrev main_call7_v0 : Ref sig .tc := ⟨.hbm, 312, rfl⟩
abbrev main_call7_v1 : Ref sig .tc := ⟨.hbm, 313, rfl⟩
abbrev main_call7_cst : Ref sig .tc := ⟨.hbm, 314, rfl⟩
abbrev main_call7_v2 : Ref sig .tc := ⟨.hbm, 315, rfl⟩
abbrev main_call7_v3 : Ref sig .tc := ⟨.hbm, 316, rfl⟩
abbrev main_call7_cst_0 : Ref sig .tc := ⟨.hbm, 317, rfl⟩
abbrev main_call7_v4 : Ref sig .tc := ⟨.hbm, 318, rfl⟩
abbrev main_call7_v5 : Ref sig .tc := ⟨.hbm, 319, rfl⟩
abbrev main_v207 : Ref sig .tc := ⟨.hbm, 320, rfl⟩
abbrev main_v208 : Ref sig .tc := ⟨.hbm, 321, rfl⟩

abbrev nD : Nat := 1
abbrev τ : Topo := Topo.v7x

variable {F : FTy → Type} [FloatOps F]

abbrev main_while0_count : Scf.Loop 32 := ⟨0#32, 16#32, 1#32⟩
-- ==== Kernel2.lean ====
abbrev S8x2048x1024 : Shape := ⟨3, ![8, 2048, 1024]⟩
abbrev S1024x1024 : Shape := ⟨2, ![1024, 1024]⟩
abbrev S8x1x1024 : Shape := ⟨3, ![8, 1, 1024]⟩
abbrev S1x1024x1024 : Shape := ⟨3, ![1, 1024, 1024]⟩
abbrev S1x1x1024 : Shape := ⟨3, ![1, 1, 1024]⟩
abbrev S1024x512 : Shape := ⟨2, ![1024, 512]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S8x2048x1024, .bf16⟩
  | .hbm, ⟨1, _⟩ => ⟨S1024x1024, .f32⟩
  | .hbm, ⟨2, _⟩ => ⟨S8x2048x1024, .f32⟩
  | .hbm, ⟨3, _⟩ => ⟨S8x1x1024, .f32⟩
  | .hbm, ⟨4, _⟩ => ⟨S8x2048x1024, .f32⟩
  | .local _ .vmem, ⟨0, _⟩ => ⟨S1x1024x1024, .bf16⟩
  | .local _ .vmem, ⟨1, _⟩ => ⟨S1x1024x1024, .bf16⟩
  | .local _ .vmem, ⟨2, _⟩ => ⟨S1024x1024, .f32⟩
  | .local _ .vmem, ⟨3, _⟩ => ⟨S1x1024x1024, .f32⟩
  | .local _ .vmem, ⟨4, _⟩ => ⟨S1x1024x1024, .f32⟩
  | .local _ .vmem, ⟨5, _⟩ => ⟨S1x1x1024, .f32⟩
  | .local _ .vmem, ⟨6, _⟩ => ⟨S1x1x1024, .f32⟩
  | .local _ .vmem, ⟨7, _⟩ => ⟨S1x1024x1024, .f32⟩
  | .local _ .vmem, ⟨8, _⟩ => ⟨S1x1024x1024, .f32⟩
  | .local _ .vmem, ⟨9, _⟩ => ⟨S1024x1024, .bf16⟩
  | _, _ => ⟨S8x2048x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![8, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference2Ideal.lean ====
abbrev S8x2048x1024 : Shape := ⟨3, ![8, 2048, 1024]⟩
abbrev S1024x1024 : Shape := ⟨2, ![1024, 1024]⟩
abbrev S8x1x1024 : Shape := ⟨3, ![8, 1, 1024]⟩

abbrev nBuf : Space → Nat
  | .hbm => 9
  | .vmem => 0
  | .smem => 0
  | _ => 0

abbrev bufTy : (tb : Table) → Fin (tcTables nBuf tb) → BufTy
  | .hbm, ⟨0, _⟩ => ⟨S8x2048x1024, .bf16⟩
  | .hbm, ⟨1, _⟩ => ⟨S1024x1024, .f32⟩
  | .hbm, ⟨2, _⟩ => ⟨S8x2048x1024, .f32⟩
  | .hbm, ⟨3, _⟩ => ⟨S8x1x1024, .f32⟩
  | .hbm, ⟨4, _⟩ => ⟨S8x2048x1024, .f32⟩
  | .hbm, ⟨5, _⟩ => ⟨S8x2048x1024, .f32⟩
  | .hbm, ⟨6, _⟩ => ⟨S8x2048x1024, .f32⟩
  | .hbm, ⟨7, _⟩ => ⟨S8x2048x1024, .f32⟩
  | .hbm, ⟨8, _⟩ => ⟨S8x2048x1024, .f32⟩
  | _, _ => ⟨S8x2048x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩

abbrev nD : Nat := 1
abbrev τ : Topo := Topo.v7x

variable {F : FTy → Type} [FloatOps F]
-- ==== Kernel3.lean ====
abbrev S1x128x1024 : Shape := ⟨3, ![1, 128, 1024]⟩
abbrev S1024x1024 : Shape := ⟨2, ![1024, 1024]⟩
abbrev S1024x512 : Shape := ⟨2, ![1024, 512]⟩
abbrev S128x1024 : Shape := ⟨2, ![128, 1024]⟩

abbrev nBuf : Space → Nat
  | .hbm => 5
  | .vmem => 6
  | .smem => 0
  | _ => 0

abbrev bufTy : (tb : Table) → Fin (tcTables nBuf tb) → BufTy
  | .hbm, ⟨0, _⟩ => ⟨S1x128x1024, .bf16⟩
  | .hbm, ⟨1, _⟩ => ⟨S1024x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .local _ .vmem, ⟨0, _⟩ => ⟨S1x128x1024, .bf16⟩
  | .local _ .vmem, ⟨1, _⟩ => ⟨S1024x1024, .f32⟩
  | .local _ .vmem, ⟨2, _⟩ => ⟨S1x128x1024, .f32⟩
  | .local _ .vmem, ⟨3, _⟩ => ⟨S1x128x1024, .f32⟩
  | .local _ .vmem, ⟨4, _⟩ => ⟨S1x128x1024, .f32⟩
  | .local _ .vmem, ⟨5, _⟩ => ⟨S1024x1024, .bf16⟩
  | _, _ => ⟨S1x128x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_scratch0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1x128x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true, true]
-- ==== Reference3Ideal.lean ====
abbrev S1x128x1024 : Shape := ⟨3, ![1, 128, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S1x128x1024, .bf16⟩
  | .hbm, ⟨1, _⟩ => ⟨S1024x1024, .f32⟩
  | .hbm, ⟨2, _⟩ => ⟨S1x128x1024, .f32⟩
  | .hbm, ⟨3, _⟩ => ⟨S1x128x1024, .f32⟩
  | .hbm, ⟨4, _⟩ => ⟨S1x128x1024, .f32⟩
  | .hbm, ⟨5, _⟩ => ⟨S1x128x1024, .f32⟩
  | .hbm, ⟨6, _⟩ => ⟨S1x128x1024, .f32⟩
  | .hbm, ⟨7, _⟩ => ⟨S1x128x1024, .f32⟩
  | _, _ => ⟨S1x128x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== Kernel4.lean ====
abbrev S1x128x1024 : Shape := ⟨3, ![1, 128, 1024]⟩
abbrev S1024 : Shape := ⟨1, ![1024]⟩
abbrev S1024x4096 : Shape := ⟨2, ![1024, 4096]⟩
abbrev S128 : Shape := ⟨1, ![128]⟩
abbrev S1x1024 : Shape := ⟨2, ![1, 1024]⟩
abbrev S1x128 : Shape := ⟨2, ![1, 128]⟩
abbrev S1024x512 : Shape := ⟨2, ![1024, 512]⟩
abbrev S128x1024 : Shape := ⟨2, ![128, 1024]⟩
abbrev S128x1 : Shape := ⟨2, ![128, 1]⟩
abbrev S1024x1024 : Shape := ⟨2, ![1024, 1024]⟩
abbrev S128x128 : Shape := ⟨2, ![128, 128]⟩
abbrev S1x128x128 : Shape := ⟨3, ![1, 128, 128]⟩

abbrev nBuf : Space → Nat
  | .hbm => 14
  | .vmem => 12
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1024x4096, .f32⟩
  | .hbm, ⟨5, _⟩ => ⟨S128, .f32⟩
  | .hbm, ⟨6, _⟩ => ⟨S128, .f32⟩
  | .hbm, ⟨7, _⟩ => ⟨S1x1024, .f32⟩
  | .hbm, ⟨8, _⟩ => ⟨S1x128, .f32⟩
  | .hbm, ⟨9, _⟩ => ⟨S1x128, .f32⟩
  | .hbm, ⟨10, _⟩ => ⟨S1x128x1024, .f32⟩
  | .hbm, ⟨11, _⟩ => ⟨S1x128x1024, .f32⟩
  | .hbm, ⟨12, _⟩ => ⟨S1x128x1024, .f32⟩
  | .hbm, ⟨13, _⟩ => ⟨S1x128x1024, .f32⟩
  | .local _ .vmem, ⟨0, _⟩ => ⟨S1x128x1024, .f32⟩
  | .local _ .vmem, ⟨1, _⟩ => ⟨S1x1024, .f32⟩
  | .local _ .vmem, ⟨2, _⟩ => ⟨S1x128x1024, .f32⟩
  | .local _ .vmem, ⟨3, _⟩ => ⟨S1x128x1024, .f32⟩
  | .local _ .vmem, ⟨4, _⟩ => ⟨S1024x4096, .f32⟩
  | .local _ .vmem, ⟨5, _⟩ => ⟨S1x128, .f32⟩
  | .local _ .vmem, ⟨6, _⟩ => ⟨S1x128, .f32⟩
  | .local _ .vmem, ⟨7, _⟩ => ⟨S1x128x1024, .f32⟩
  | .local _ .vmem, ⟨8, _⟩ => ⟨S1x128x1024, .f32⟩
  | .local _ .vmem, ⟨9, _⟩ => ⟨S1x128x1024, .f32⟩
  | .local _ .vmem, ⟨10, _⟩ => ⟨S1x128x1024, .f32⟩
  | .local _ .vmem, ⟨11, _⟩ => ⟨S1024x4096, .bf16⟩
  | _, _ => ⟨S1x128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3_0 : Ref sig .tc := ⟨.hbm, 10, rfl⟩
abbrev main_v3_1 : Ref sig .tc := ⟨.hbm, 11, rfl⟩
abbrev main_v3_2 : Ref sig .tc := ⟨.hbm, 12, rfl⟩
abbrev main_v3_3 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_scratch0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10

abbrev nD : Nat := 1
abbrev τ : Topo := Topo.v7x

variable {F : FTy → Type} [FloatOps F]

abbrev grid0 : Pipeline.Grid := ⟨2, ![1, 1], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_9 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_10 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .vmem S1x128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true]

abbrev stage0_3 : Fin 1 → Memref sig .tc .vmem S1x128x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true]

abbrev stage0_4 : Fin 1 → Memref sig .tc .vmem S1024x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1x128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, true]

abbrev stage0_8 : Fin 1 → Memref sig .tc .vmem S1x128x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, true]

abbrev stage0_9 : Fin 1 → Memref sig .tc .vmem S1x128x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true, true]

abbrev stage0_10 : Fin 1 → Memref sig .tc .vmem S1x128x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true, true]
-- ==== Kernel4Ideal.lean ====
variable {F : FTy → Type} [FloatOps F] [Named F]
def κ : String → Option EReal := fun
  | "rsqrt_head_dim" => some (((Real.sqrt 128)⁻¹ : ℝ) : EReal)
  | _ => none
-- ==== Reference4Ideal.lean ====
abbrev S1x128x1024 : Shape := ⟨3, ![1, 128, 1024]⟩
abbrev S1024 : Shape := ⟨1, ![1024]⟩
abbrev S1024x4096 : Shape := ⟨2, ![1024, 4096]⟩
abbrev S128 : Shape := ⟨1, ![128]⟩
abbrev S_ : Shape := ⟨0, ![]⟩
abbrev S1x128 : Shape := ⟨2, ![1, 128]⟩
abbrev S1x128x1 : Shape := ⟨3, ![1, 128, 1]⟩
abbrev S1x1x1024 : Shape := ⟨3, ![1, 1, 1024]⟩
abbrev S1x128x4096 : Shape := ⟨3, ![1, 128, 4096]⟩
abbrev S1x128x8x128 : Shape := ⟨4, ![1, 128, 8, 128]⟩
abbrev S1x128x8 : Shape := ⟨3, ![1, 128, 8]⟩
abbrev S1x128x8x1 : Shape := ⟨4, ![1, 128, 8, 1]⟩
abbrev S1x1x1x128 : Shape := ⟨4, ![1, 1, 1, 128]⟩

abbrev nBuf : Space → Nat
  | .hbm => 73
  | .vmem => 0
  | .smem => 0
  | _ => 0

abbrev bufTy : (tb : Table) → Fin (tcTables nBuf tb) → BufTy
  | .hbm, ⟨0, _⟩ => ⟨S1x128x1024, .f32⟩
  | .hbm, ⟨1, _⟩ => ⟨S1024, .f32⟩
  | .hbm, ⟨2, _⟩ => ⟨S1x128x1024, .f32⟩
  | .hbm, ⟨3, _⟩ => ⟨S1x128x1024, .f32⟩
  | .hbm, ⟨4, _⟩ => ⟨S1024x4096, .f32⟩
  | .hbm, ⟨5, _⟩ => ⟨S128, .f32⟩
  | .hbm, ⟨6, _⟩ => ⟨S128, .f32⟩
  | .hbm, ⟨7, _⟩ => ⟨S1x128x1024, .f32⟩
  | .hbm, ⟨8, _⟩ => ⟨S_, .f32⟩
  | .hbm, ⟨9, _⟩ => ⟨S1x128, .f32⟩
  | .hbm, ⟨10, _⟩ => ⟨S1x128x1, .f32⟩
  | .hbm, ⟨11, _⟩ => ⟨S_, .f32⟩
  | .hbm, ⟨12, _⟩ => ⟨S1x128x1, .f32⟩
  | .hbm, ⟨13, _⟩ => ⟨S1x128x1, .f32⟩
  | .hbm, ⟨14, _⟩ => ⟨S_, .f32⟩
  | .hbm, ⟨15, _⟩ => ⟨S1x128x1, .f32⟩
  | .hbm, ⟨16, _⟩ => ⟨S1x128x1, .f32⟩
  | .hbm, ⟨17, _⟩ => ⟨S1x128x1, .f32⟩
  | .hbm, ⟨18, _⟩ => ⟨S1x128x1024, .f32⟩
  | .hbm, ⟨19, _⟩ => ⟨S1x128x1024, .f32⟩
  | .hbm, ⟨20, _⟩ => ⟨S1x1x1024, .f32⟩
  | .hbm, ⟨21, _⟩ => ⟨S1x128x1024, .f32⟩
  | .hbm, ⟨22, _⟩ => ⟨S1x128x1024, .f32⟩
  | .hbm, ⟨23, _⟩ => ⟨S_, .f32⟩
  | .hbm, ⟨24, _⟩ => ⟨S1x128x1024, .f32⟩
  | .hbm, ⟨25, _⟩ => ⟨S1x128x1024, .f32⟩
  | .hbm, ⟨26, _⟩ => ⟨S1x128x1024, .f32⟩
  | .hbm, ⟨27, _⟩ => ⟨S1x128x1024, .f32⟩
  | .hbm, ⟨28, _⟩ => ⟨S1x128x4096, .f32⟩
  | .hbm, ⟨29, _⟩ => ⟨S1x128x1024, .f32⟩
  | .hbm, ⟨30, _⟩ => ⟨S1x128x1024, .f32⟩
  | .hbm, ⟨31, _⟩ => ⟨S1x128x1024, .f32⟩
  | .hbm, ⟨32, _⟩ => ⟨S1x128x1024, .f32⟩
  | .hbm, ⟨33, _⟩ => ⟨S1x128x8x128, .f32⟩
  | .hbm, ⟨34, _⟩ => ⟨S1x128x8x128, .f32⟩
  | .hbm, ⟨35, _⟩ => ⟨S_, .f32⟩
  | .hbm, ⟨36, _⟩ => ⟨S1x128x8, .f32⟩
  | .hbm, ⟨37, _⟩ => ⟨S1x128x8x1, .f32⟩
  | .hbm, ⟨38, _⟩ => ⟨S_, .f32⟩
  | .hbm, ⟨39, _⟩ => ⟨S1x128x8x1, .f32⟩
  | .hbm, ⟨40, _⟩ => ⟨S1x128x8x1, .f32⟩
  | .hbm, ⟨41, _⟩ => ⟨S_, .f32⟩
  | .hbm, ⟨42, _⟩ => ⟨S1x128x8x1, .f32⟩
  | .hbm, ⟨43, _⟩ => ⟨S1x128x8x1, .f32⟩
  | .hbm, ⟨44, _⟩ => ⟨S1x128x8x1, .f32⟩
  | .hbm, ⟨45, _⟩ => ⟨S1x128x8x128, .f32⟩
  | .hbm, ⟨46, _⟩ => ⟨S1x128x8x128, .f32⟩
  | .hbm, ⟨47, _⟩ => ⟨S1x1x1x128, .f32⟩
  | .hbm, ⟨48, _⟩ => ⟨S1x128x8x128, .f32⟩
  | .hbm, ⟨49, _⟩ => ⟨S1x128x8x128, .f32⟩
  | .hbm, ⟨50, _⟩ => ⟨S_, .f32⟩
  | .hbm, ⟨51, _⟩ => ⟨S_, .f32⟩
  | .hbm, ⟨52, _⟩ => ⟨S1x128x8x128, .f32⟩
  | .hbm, ⟨53, _⟩ => ⟨S1x128x8x128, .f32⟩
  | .hbm, ⟨54, _⟩ => ⟨S1x128x8x128, .f32⟩
  | .hbm, ⟨55, _⟩ => ⟨S1x128x8x128, .f32⟩
  | .hbm, ⟨56, _⟩ => ⟨S_, .f32⟩
  | .hbm, ⟨57, _⟩ => ⟨S1x128x8, .f32⟩
  | .hbm, ⟨58, _⟩ => ⟨S1x128x8x1, .f32⟩
  | .hbm, ⟨59, _⟩ => ⟨S_, .f32⟩
  | .hbm, ⟨60, _⟩ => ⟨S1x128x8x1, .f32⟩
  | .hbm, ⟨61, _⟩ => ⟨S1x128x8x1, .f32⟩
  | .hbm, ⟨62, _⟩ => ⟨S_, .f32⟩
  | .hbm, ⟨63, _⟩ => ⟨S1x128x8x1, .f32⟩
  | .hbm, ⟨64, _⟩ => ⟨S1x128x8x1, .f32⟩
  | .hbm, ⟨65, _⟩ => ⟨S1x128x8x1, .f32⟩
  | .hbm, ⟨66, _⟩ => ⟨S1x128x8x128, .f32⟩
  | .hbm, ⟨67, _⟩ => ⟨S1x128x8x128, .f32⟩
  | .hbm, ⟨68, _⟩ => ⟨S1x1x1x128, .f32⟩
  | .hbm, ⟨69, _⟩ => ⟨S1x128x8x128, .f32⟩
  | .hbm, ⟨70, _⟩ => ⟨S1x128x8x128, .f32⟩
  | .hbm, ⟨71, _⟩ => ⟨S1x128x1024, .f32⟩
  | .hbm, ⟨72, _⟩ => ⟨S1x128x1024, .f32⟩
  | _, _ => ⟨S1x128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_cst_3 : Ref sig .tc := ⟨.hbm, 35, rfl⟩
abbrev main_v24 : Ref sig .tc := ⟨.hbm, 36, rfl⟩
abbrev main_v25 : Ref sig .tc := ⟨.hbm, 37, rfl⟩
abbrev main_cst_4 : Ref sig .tc := ⟨.hbm, 38, rfl⟩
abbrev main_v26 : Ref sig .tc := ⟨.hbm, 39, rfl⟩
abbrev main_v27 : Ref sig .tc := ⟨.hbm, 40, rfl⟩
abbrev main_cst_5 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_6 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_7 : Ref sig .tc := ⟨.hbm, 56, rfl⟩
abbrev main_v41 : Ref sig .tc := ⟨.hbm, 57, rfl⟩
abbrev main_v42 : Ref sig .tc := ⟨.hbm, 58, rfl⟩
abbrev main_cst_8 : Ref sig .tc := ⟨.hbm, 59, rfl⟩
abbrev main_v43 : Ref sig .tc := ⟨.hbm, 60, rfl⟩
abbrev main_v44 : Ref sig .tc := ⟨.hbm, 61, rfl⟩
abbrev main_cst_9 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩

abbrev nD : Nat := 1
abbrev τ : Topo := Topo.v7x

variable {F : FTy → Type} [FloatOps F]
-- ==== Kernel5.lean ====
abbrev S8x2048x1024 : Shape := ⟨3, ![8, 2048, 1024]⟩
abbrev S1024 : Shape := ⟨1, ![1024]⟩
abbrev S8x1x1024 : Shape := ⟨3, ![8, 1, 1024]⟩
abbrev S1024x6144 : Shape := ⟨2, ![1024, 6144]⟩
abbrev S32x64 : Shape := ⟨2, ![32, 64]⟩
abbrev S2560x128x8x128 : Shape := ⟨4, ![2560, 128, 8, 128]⟩
abbrev S1x1024 : Shape := ⟨2, ![1, 1024]⟩
abbrev S8x2048x6144 : Shape := ⟨3, ![8, 2048, 6144]⟩
abbrev S640x8x128 : Shape := ⟨3, ![640, 8, 128]⟩
abbrev S1x256x1024 : Shape := ⟨3, ![1, 256, 1024]⟩
abbrev S1x1x1024 : Shape := ⟨3, ![1, 1, 1024]⟩
abbrev S1x256x6144 : Shape := ⟨3, ![1, 256, 6144]⟩
abbrev S10x8x128 : Shape := ⟨3, ![10, 8, 128]⟩
abbrev S2x20x128x8x128 : Shape := ⟨5, ![2, 20, 128, 8, 128]⟩
abbrev S2 : Shape := ⟨1, ![2]⟩
abbrev S256x1024 : Shape := ⟨2, ![256, 1024]⟩
abbrev S256 : Shape := ⟨1, ![256]⟩
abbrev S256x1 : Shape := ⟨2, ![256, 1]⟩
abbrev S1x1 : Shape := ⟨2, ![1, 1]⟩
abbrev S1 : Shape := ⟨1, ![1]⟩
abbrev S_ : Shape := ⟨0, ![]⟩
abbrev S1x1x128x8x128 : Shape := ⟨5, ![1, 1, 128, 8, 128]⟩
abbrev S128x8x128 : Shape := ⟨3, ![128, 8, 128]⟩
abbrev S1x128x8x128 : Shape := ⟨4, ![1, 128, 8, 128]⟩
abbrev S1x20x128x8x128 : Shape := ⟨5, ![1, 20, 128, 8, 128]⟩
abbrev S20x128x8x128 : Shape := ⟨4, ![20, 128, 8, 128]⟩
abbrev S8x128 : Shape := ⟨2, ![8, 128]⟩
abbrev S1x8x128 : Shape := ⟨3, ![1, 8, 128]⟩
abbrev S1024x512 : Shape := ⟨2, ![1024, 512]⟩
abbrev S256x512 : Shape := ⟨2, ![256, 512]⟩
abbrev S1x256x512 : Shape := ⟨3, ![1, 256, 512]⟩

abbrev nBuf : Space → Nat
  | .hbm => 10
  | .vmem => 13
  | .smem => 1
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6144, .bf16⟩
  | .hbm, ⟨5, _⟩ => ⟨S32x64, .i32⟩
  | .hbm, ⟨6, _⟩ => ⟨S2560x128x8x128, .f32⟩
  | .hbm, ⟨7, _⟩ => ⟨S1x1024, .f32⟩
  | .hbm, ⟨8, _⟩ => ⟨S8x2048x6144, .bf16⟩
  | .hbm, ⟨9, _⟩ => ⟨S640x8x128, .f32⟩
  | .local _ .vmem, ⟨0, _⟩ => ⟨S1x256x1024, .f32⟩
  | .local _ .vmem, ⟨1, _⟩ => ⟨S1x256x1024, .f32⟩
  | .local _ .vmem, ⟨2, _⟩ => ⟨S1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S1024x6144, .bf16⟩
  | .local _ .vmem, ⟨8, _⟩ => ⟨S1x256x6144, .bf16⟩
  | .local _ .vmem, ⟨9, _⟩ => ⟨S1x256x6144, .bf16⟩
  | .local _ .vmem, ⟨10, _⟩ => ⟨S10x8x128, .f32⟩
  | .local _ .vmem, ⟨11, _⟩ => ⟨S10x8x128, .f32⟩
  | .local _ .vmem, ⟨12, _⟩ => ⟨S2x20x128x8x128, .f32⟩
  | .local _ .smem, ⟨0, _⟩ => ⟨S32x64, .i32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_scratch0 : Ref sig .tc := ⟨.vmem, 12, rfl⟩
abbrev cc0_stg5_0 : Ref sig .tc := ⟨.smem, 0, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c0_i32_16 : BitVec 32 := 0#32
  let v39 : BitVec 1 := Scalar.cmpi .eq v28 c0_i32_16
  let v40 : BitVec 32 := Scalar.extui v39
  let c0_i32_17 : BitVec 32 := 0#32
  let v41 : BitVec 1 := Scalar.cmpi .ne v40 c0_i32_17
  v41

def k0_off1 (i : grid0.Coords) : Fin 2 → Nat :=
  let c0_i32_657 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_656 : BitVec 32 := 20#32
  let v1047 : BitVec 32 := Scalar.muli v28 c20_i32_656
  let v1048 : BitVec 32 := Scalar.addi c0_i32_657 v1047
  let c0_i32_658 : BitVec 32 := 0#32
  let v1049 : BitVec 32 := Scalar.addi v1048 c0_i32_658
  let c0_i32_660 : BitVec 32 := 0#32
  let v1051 : BitVec 1 := Scalar.cmpi .sgt v1049 c0_i32_660
  let v1052 : BitVec 32 := Scalar.extui v1051
  let c0_i32_661 : BitVec 32 := 0#32
  let v1053 : BitVec 1 := Scalar.cmpi .slt v1049 c0_i32_661
  let v1054 : BitVec 32 := Scalar.extui v1053
  let v1055 : BitVec 32 := Scalar.subi v1052 v1054
  let c64_i32_659 : BitVec 32 := 64#32
  let c0_i32_662 : BitVec 32 := 0#32
  let v1056 : BitVec 1 := Scalar.cmpi .sgt c64_i32_659 c0_i32_662
  let v1057 : BitVec 32 := Scalar.extui v1056
  let c0_i32_663 : BitVec 32 := 0#32
  let v1058 : BitVec 1 := Scalar.cmpi .slt c64_i32_659 c0_i32_663
  let v1059 : BitVec 32 := Scalar.extui v1058
  let v1060 : BitVec 32 := Scalar.subi v1057 v1059
  let v1061 : BitVec 1 := Scalar.cmpi .ne v1055 v1060
  let v1062 : BitVec 32 := Scalar.remsi v1049 c64_i32_659
  let c0_i32_664 : BitVec 32 := 0#32
  let v1063 : BitVec 1 := Scalar.cmpi .ne v1062 c0_i32_664
  let v1064 : BitVec 1 := Scalar.andi v1061 v1063
  let v1050 : BitVec 32 := Scalar.divsi v1049 c64_i32_659
  let c1_i32_665 : BitVec 32 := 1#32
  let v1065 : BitVec 32 := Scalar.subi v1050 c1_i32_665
  let v1066 : BitVec 32 := Scalar.select v1064 v1065 v1050
  let v1077 : Index := Scalar.indexCast v1066
  let c64_i32_666 : BitVec 32 := 64#32
  let c0_i32_667 : BitVec 32 := 0#32
  let v1067 : BitVec 1 := Scalar.cmpi .eq c64_i32_666 c0_i32_667
  let c1_i32_668 : BitVec 32 := 1#32
  let v1068 : BitVec 32 := Scalar.select v1067 c1_i32_668 c64_i32_666
  let v1069 : BitVec 32 := Scalar.remsi v1049 v1068
  let c0_i32_670 : BitVec 32 := 0#32
  let v1071 : BitVec 1 := Scalar.cmpi .slt v1069 c0_i32_670
  let c0_i32_671 : BitVec 32 := 0#32
  let v1072 : BitVec 1 := Scalar.cmpi .slt v1068 c0_i32_671
  let v1073 : BitVec 1 := Scalar.xori v1071 v1072
  let c0_i32_669 : BitVec 32 := 0#32
  let v1070 : BitVec 1 := Scalar.cmpi .ne v1069 c0_i32_669
  let v1074 : BitVec 1 := Scalar.andi v1073 v1070
  let v1075 : BitVec 32 := Scalar.addi v1069 v1068
  let v1076 : BitVec 32 := Scalar.select v1074 v1075 v1069
  let v1078 : Index := Scalar.indexCast v1076
  ![v1077.toNat, v1078.toNat]
def k0_off2 (v1079 : BitVec 32) : Fin 4 → Nat :=
  let c0_i32_678 : BitVec 32 := 0#32
  let c0_i32_679 : BitVec 32 := 0#32
  let c0_i32_680 : BitVec 32 := 0#32
  ![v1079.toNat, 0, 0, 0]

def k0_chk1 (i : grid0.Coords) (v1079 : BitVec 32) : Prop :=
  (∀ (k0_h1 : k0_cond1 i = 1#1), ∀ a, (k0_off2 v1079) a + S1x128x8x128.size a ≤ S2560x128x8x128.size a)
theorem k0_off2_inb : ∀ (i : grid0.Coords) (v1079 : BitVec 32) (k0_hw1 : k0_chk1 i v1079), ∀ (k0_h1 : k0_cond1 i = 1#1), ∀ a, (k0_off2 v1079) a + S1x128x8x128.size a ≤ S2560x128x8x128.size a := fun i v1079 k0_hw1 k0_h1 => k0_hw1 k0_h1

def k0_off3 (i : grid0.Coords) : Fin 2 → Nat :=
  let c0_i32_682 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_681 : BitVec 32 := 20#32
  let v1086 : BitVec 32 := Scalar.muli v28 c20_i32_681
  let v1087 : BitVec 32 := Scalar.addi c0_i32_682 v1086
  let c1_i32_683 : BitVec 32 := 1#32
  let v1088 : BitVec 32 := Scalar.addi v1087 c1_i32_683
  let c0_i32_685 : BitVec 32 := 0#32
  let v1090 : BitVec 1 := Scalar.cmpi .sgt v1088 c0_i32_685
  let v1091 : BitVec 32 := Scalar.extui v1090
  let c0_i32_686 : BitVec 32 := 0#32
  let v1092 : BitVec 1 := Scalar.cmpi .slt v1088 c0_i32_686
  let v1093 : BitVec 32 := Scalar.extui v1092
  let v1094 : BitVec 32 := Scalar.subi v1091 v1093
  let c64_i32_684 : BitVec 32 := 64#32
  let c0_i32_687 : BitVec 32 := 0#32
  let v1095 : BitVec 1 := Scalar.cmpi .sgt c64_i32_684 c0_i32_687
  let v1096 : BitVec 32 := Scalar.extui v1095
  let c0_i32_688 : BitVec 32 := 0#32
  let v1097 : BitVec 1 := Scalar.cmpi .slt c64_i32_684 c0_i32_688
  let v1098 : BitVec 32 := Scalar.extui v1097
  let v1099 : BitVec 32 := Scalar.subi v1096 v1098
  let v1100 : BitVec 1 := Scalar.cmpi .ne v1094 v1099
  let v1101 : BitVec 32 := Scalar.remsi v1088 c64_i32_684
  let c0_i32_689 : BitVec 32 := 0#32
  let v1102 : BitVec 1 := Scalar.cmpi .ne v1101 c0_i32_689
  let v1103 : BitVec 1 := Scalar.andi v1100 v1102
  let v1089 : BitVec 32 := Scalar.divsi v1088 c64_i32_684
  let c1_i32_690 : BitVec 32 := 1#32
  let v1104 : BitVec 32 := Scalar.subi v1089 c1_i32_690
  let v1105 : BitVec 32 := Scalar.select v1103 v1104 v1089
  let v1116 : Index := Scalar.indexCast v1105
  let c64_i32_691 : BitVec 32 := 64#32
  let c0_i32_692 : BitVec 32 := 0#32
  let v1106 : BitVec 1 := Scalar.cmpi .eq c64_i32_691 c0_i32_692
  let c1_i32_693 : BitVec 32 := 1#32
  let v1107 : BitVec 32 := Scalar.select v1106 c1_i32_693 c64_i32_691
  let v1108 : BitVec 32 := Scalar.remsi v1088 v1107
  let c0_i32_695 : BitVec 32 := 0#32
  let v1110 : BitVec 1 := Scalar.cmpi .slt v1108 c0_i32_695
  let c0_i32_696 : BitVec 32 := 0#32
  let v1111 : BitVec 1 := Scalar.cmpi .slt v1107 c0_i32_696
  let v1112 : BitVec 1 := Scalar.xori v1110 v1111
  let c0_i32_694 : BitVec 32 := 0#32
  let v1109 : BitVec 1 := Scalar.cmpi .ne v1108 c0_i32_694
  let v1113 : BitVec 1 := Scalar.andi v1112 v1109
  let v1114 : BitVec 32 := Scalar.addi v1108 v1107
  let v1115 : BitVec 32 := Scalar.select v1113 v1114 v1108
  let v1117 : Index := Scalar.indexCast v1115
  ![v1116.toNat, v1117.toNat]
def k0_off4 (v1118 : BitVec 32) : Fin 4 → Nat :=
  let c0_i32_703 : BitVec 32 := 0#32
  let c0_i32_704 : BitVec 32 := 0#32
  let c0_i32_705 : BitVec 32 := 0#32
  ![v1118.toNat, 0, 0, 0]

def k0_chk2 (i : grid0.Coords) (v1118 : BitVec 32) : Prop :=
  (∀ (k0_h1 : k0_cond1 i = 1#1), ∀ a, (k0_off4 v1118) a + S1x128x8x128.size a ≤ S2560x128x8x128.size a)
theorem k0_off4_inb : ∀ (i : grid0.Coords) (v1118 : BitVec 32) (k0_hw2 : k0_chk2 i v1118), ∀ (k0_h1 : k0_cond1 i = 1#1), ∀ a, (k0_off4 v1118) a + S1x128x8x128.size a ≤ S2560x128x8x128.size a := fun i v1118 k0_hw2 k0_h1 => k0_hw2 k0_h1

def k0_off5 (i : grid0.Coords) : Fin 2 → Nat :=
  let c0_i32_707 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_706 : BitVec 32 := 20#32
  let v1125 : BitVec 32 := Scalar.muli v28 c20_i32_706
  let v1126 : BitVec 32 := Scalar.addi c0_i32_707 v1125
  let c2_i32_708 : BitVec 32 := 2#32
  let v1127 : BitVec 32 := Scalar.addi v1126 c2_i32_708
  let c0_i32_710 : BitVec 32 := 0#32
  let v1129 : BitVec 1 := Scalar.cmpi .sgt v1127 c0_i32_710
  let v1130 : BitVec 32 := Scalar.extui v1129
  let c0_i32_711 : BitVec 32 := 0#32
  let v1131 : BitVec 1 := Scalar.cmpi .slt v1127 c0_i32_711
  let v1132 : BitVec 32 := Scalar.extui v1131
  let v1133 : BitVec 32 := Scalar.subi v1130 v1132
  let c64_i32_709 : BitVec 32 := 64#32
  let c0_i32_712 : BitVec 32 := 0#32
  let v1134 : BitVec 1 := Scalar.cmpi .sgt c64_i32_709 c0_i32_712
  let v1135 : BitVec 32 := Scalar.extui v1134
  let c0_i32_713 : BitVec 32 := 0#32
  let v1136 : BitVec 1 := Scalar.cmpi .slt c64_i32_709 c0_i32_713
  let v1137 : BitVec 32 := Scalar.extui v1136
  let v1138 : BitVec 32 := Scalar.subi v1135 v1137
  let v1139 : BitVec 1 := Scalar.cmpi .ne v1133 v1138
  let v1140 : BitVec 32 := Scalar.remsi v1127 c64_i32_709
  let c0_i32_714 : BitVec 32 := 0#32
  let v1141 : BitVec 1 := Scalar.cmpi .ne v1140 c0_i32_714
  let v1142 : BitVec 1 := Scalar.andi v1139 v1141
  let v1128 : BitVec 32 := Scalar.divsi v1127 c64_i32_709
  let c1_i32_715 : BitVec 32 := 1#32
  let v1143 : BitVec 32 := Scalar.subi v1128 c1_i32_715
  let v1144 : BitVec 32 := Scalar.select v1142 v1143 v1128
  let v1155 : Index := Scalar.indexCast v1144
  let c64_i32_716 : BitVec 32 := 64#32
  let c0_i32_717 : BitVec 32 := 0#32
  let v1145 : BitVec 1 := Scalar.cmpi .eq c64_i32_716 c0_i32_717
  let c1_i32_718 : BitVec 32 := 1#32
  let v1146 : BitVec 32 := Scalar.select v1145 c1_i32_718 c64_i32_716
  let v1147 : BitVec 32 := Scalar.remsi v1127 v1146
  let c0_i32_720 : BitVec 32 := 0#32
  let v1149 : BitVec 1 := Scalar.cmpi .slt v1147 c0_i32_720
  let c0_i32_721 : BitVec 32 := 0#32
  let v1150 : BitVec 1 := Scalar.cmpi .slt v1146 c0_i32_721
  let v1151 : BitVec 1 := Scalar.xori v1149 v1150
  let c0_i32_719 : BitVec 32 := 0#32
  let v1148 : BitVec 1 := Scalar.cmpi .ne v1147 c0_i32_719
  let v1152 : BitVec 1 := Scalar.andi v1151 v1148
  let v1153 : BitVec 32 := Scalar.addi v1147 v1146
  let v1154 : BitVec 32 := Scalar.select v1152 v1153 v1147
  let v1156 : Index := Scalar.indexCast v1154
  ![v1155.toNat, v1156.toNat]
def k0_off6 (v1157 : BitVec 32) : Fin 4 → Nat :=
  let c0_i32_728 : BitVec 32 := 0#32
  let c0_i32_729 : BitVec 32 := 0#32
  let c0_i32_730 : BitVec 32 := 0#32
  ![v1157.toNat, 0, 0, 0]

def k0_chk3 (i : grid0.Coords) (v1157 : BitVec 32) : Prop :=
  (∀ (k0_h1 : k0_cond1 i = 1#1), ∀ a, (k0_off6 v1157) a + S1x128x8x128.size a ≤ S2560x128x8x128.size a)
theorem k0_off6_inb : ∀ (i : grid0.Coords) (v1157 : BitVec 32) (k0_hw3 : k0_chk3 i v1157), ∀ (k0_h1 : k0_cond1 i = 1#1), ∀ a, (k0_off6 v1157) a + S1x128x8x128.size a ≤ S2560x128x8x128.size a := fun i v1157 k0_hw3 k0_h1 => k0_hw3 k0_h1

def k0_off7 (i : grid0.Coords) : Fin 2 → Nat :=
  let c0_i32_732 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_731 : BitVec 32 := 20#32
  let v1164 : BitVec 32 := Scalar.muli v28 c20_i32_731
  let v1165 : BitVec 32 := Scalar.addi c0_i32_732 v1164
  let c3_i32_733 : BitVec 32 := 3#32
  let v1166 : BitVec 32 := Scalar.addi v1165 c3_i32_733
  let c0_i32_735 : BitVec 32 := 0#32
  let v1168 : BitVec 1 := Scalar.cmpi .sgt v1166 c0_i32_735
  let v1169 : BitVec 32 := Scalar.extui v1168
  let c0_i32_736 : BitVec 32 := 0#32
  let v1170 : BitVec 1 := Scalar.cmpi .slt v1166 c0_i32_736
  let v1171 : BitVec 32 := Scalar.extui v1170
  let v1172 : BitVec 32 := Scalar.subi v1169 v1171
  let c64_i32_734 : BitVec 32 := 64#32
  let c0_i32_737 : BitVec 32 := 0#32
  let v1173 : BitVec 1 := Scalar.cmpi .sgt c64_i32_734 c0_i32_737
  let v1174 : BitVec 32 := Scalar.extui v1173
  let c0_i32_738 : BitVec 32 := 0#32
  let v1175 : BitVec 1 := Scalar.cmpi .slt c64_i32_734 c0_i32_738
  let v1176 : BitVec 32 := Scalar.extui v1175
  let v1177 : BitVec 32 := Scalar.subi v1174 v1176
  let v1178 : BitVec 1 := Scalar.cmpi .ne v1172 v1177
  let v1179 : BitVec 32 := Scalar.remsi v1166 c64_i32_734
  let c0_i32_739 : BitVec 32 := 0#32
  let v1180 : BitVec 1 := Scalar.cmpi .ne v1179 c0_i32_739
  let v1181 : BitVec 1 := Scalar.andi v1178 v1180
  let v1167 : BitVec 32 := Scalar.divsi v1166 c64_i32_734
  let c1_i32_740 : BitVec 32 := 1#32
  let v1182 : BitVec 32 := Scalar.subi v1167 c1_i32_740
  let v1183 : BitVec 32 := Scalar.select v1181 v1182 v1167
  let v1194 : Index := Scalar.indexCast v1183
  let c64_i32_741 : BitVec 32 := 64#32
  let c0_i32_742 : BitVec 32 := 0#32
  let v1184 : BitVec 1 := Scalar.cmpi .eq c64_i32_741 c0_i32_742
  let c1_i32_743 : BitVec 32 := 1#32
  let v1185 : BitVec 32 := Scalar.select v1184 c1_i32_743 c64_i32_741
  let v1186 : BitVec 32 := Scalar.remsi v1166 v1185
  let c0_i32_745 : BitVec 32 := 0#32
  let v1188 : BitVec 1 := Scalar.cmpi .slt v1186 c0_i32_745
  let c0_i32_746 : BitVec 32 := 0#32
  let v1189 : BitVec 1 := Scalar.cmpi .slt v1185 c0_i32_746
  let v1190 : BitVec 1 := Scalar.xori v1188 v1189
  let c0_i32_744 : BitVec 32 := 0#32
  let v1187 : BitVec 1 := Scalar.cmpi .ne v1186 c0_i32_744
  let v1191 : BitVec 1 := Scalar.andi v1190 v1187
  let v1192 : BitVec 32 := Scalar.addi v1186 v1185
  let v1193 : BitVec 32 := Scalar.select v1191 v1192 v1186
  let v1195 : Index := Scalar.indexCast v1193
  ![v1194.toNat, v1195.toNat]
def k0_off8 (v1196 : BitVec 32) : Fin 4 → Nat :=
  let c0_i32_753 : BitVec 32 := 0#32
  let c0_i32_754 : BitVec 32 := 0#32
  let c0_i32_755 : BitVec 32 := 0#32
  ![v1196.toNat, 0, 0, 0]

def k0_chk4 (i : grid0.Coords) (v1196 : BitVec 32) : Prop :=
  (∀ (k0_h1 : k0_cond1 i = 1#1), ∀ a, (k0_off8 v1196) a + S1x128x8x128.size a ≤ S2560x128x8x128.size a)
theorem k0_off8_inb : ∀ (i : grid0.Coords) (v1196 : BitVec 32) (k0_hw4 : k0_chk4 i v1196), ∀ (k0_h1 : k0_cond1 i = 1#1), ∀ a, (k0_off8 v1196) a + S1x128x8x128.size a ≤ S2560x128x8x128.size a := fun i v1196 k0_hw4 k0_h1 => k0_hw4 k0_h1

def k0_off9 (i : grid0.Coords) : Fin 2 → Nat :=
  let c0_i32_757 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_756 : BitVec 32 := 20#32
  let v1203 : BitVec 32 := Scalar.muli v28 c20_i32_756
  let v1204 : BitVec 32 := Scalar.addi c0_i32_757 v1203
  let c4_i32_758 : BitVec 32 := 4#32
  let v1205 : BitVec 32 := Scalar.addi v1204 c4_i32_758
  let c0_i32_760 : BitVec 32 := 0#32
  let v1207 : BitVec 1 := Scalar.cmpi .sgt v1205 c0_i32_760
  let v1208 : BitVec 32 := Scalar.extui v1207
  let c0_i32_761 : BitVec 32 := 0#32
  let v1209 : BitVec 1 := Scalar.cmpi .slt v1205 c0_i32_761
  let v1210 : BitVec 32 := Scalar.extui v1209
  let v1211 : BitVec 32 := Scalar.subi v1208 v1210
  let c64_i32_759 : BitVec 32 := 64#32
  let c0_i32_762 : BitVec 32 := 0#32
  let v1212 : BitVec 1 := Scalar.cmpi .sgt c64_i32_759 c0_i32_762
  let v1213 : BitVec 32 := Scalar.extui v1212
  let c0_i32_763 : BitVec 32 := 0#32
  let v1214 : BitVec 1 := Scalar.cmpi .slt c64_i32_759 c0_i32_763
  let v1215 : BitVec 32 := Scalar.extui v1214
  let v1216 : BitVec 32 := Scalar.subi v1213 v1215
  let v1217 : BitVec 1 := Scalar.cmpi .ne v1211 v1216
  let v1218 : BitVec 32 := Scalar.remsi v1205 c64_i32_759
  let c0_i32_764 : BitVec 32 := 0#32
  let v1219 : BitVec 1 := Scalar.cmpi .ne v1218 c0_i32_764
  let v1220 : BitVec 1 := Scalar.andi v1217 v1219
  let v1206 : BitVec 32 := Scalar.divsi v1205 c64_i32_759
  let c1_i32_765 : BitVec 32 := 1#32
  let v1221 : BitVec 32 := Scalar.subi v1206 c1_i32_765
  let v1222 : BitVec 32 := Scalar.select v1220 v1221 v1206
  let v1233 : Index := Scalar.indexCast v1222
  let c64_i32_766 : BitVec 32 := 64#32
  let c0_i32_767 : BitVec 32 := 0#32
  let v1223 : BitVec 1 := Scalar.cmpi .eq c64_i32_766 c0_i32_767
  let c1_i32_768 : BitVec 32 := 1#32
  let v1224 : BitVec 32 := Scalar.select v1223 c1_i32_768 c64_i32_766
  let v1225 : BitVec 32 := Scalar.remsi v1205 v1224
  let c0_i32_770 : BitVec 32 := 0#32
  let v1227 : BitVec 1 := Scalar.cmpi .slt v1225 c0_i32_770
  let c0_i32_771 : BitVec 32 := 0#32
  let v1228 : BitVec 1 := Scalar.cmpi .slt v1224 c0_i32_771
  let v1229 : BitVec 1 := Scalar.xori v1227 v1228
  let c0_i32_769 : BitVec 32 := 0#32
  let v1226 : BitVec 1 := Scalar.cmpi .ne v1225 c0_i32_769
  let v1230 : BitVec 1 := Scalar.andi v1229 v1226
  let v1231 : BitVec 32 := Scalar.addi v1225 v1224
  let v1232 : BitVec 32 := Scalar.select v1230 v1231 v1225
  let v1234 : Index := Scalar.indexCast v1232
  ![v1233.toNat, v1234.toNat]
def k0_off10 (v1235 : BitVec 32) : Fin 4 → Nat :=
  let c0_i32_778 : BitVec 32 := 0#32
  let c0_i32_779 : BitVec 32 := 0#32
  let c0_i32_780 : BitVec 32 := 0#32
  ![v1235.toNat, 0, 0, 0]

def k0_chk5 (i : grid0.Coords) (v1235 : BitVec 32) : Prop :=
  (∀ (k0_h1 : k0_cond1 i = 1#1), ∀ a, (k0_off10 v1235) a + S1x128x8x128.size a ≤ S2560x128x8x128.size a)
theorem k0_off10_inb : ∀ (i : grid0.Coords) (v1235 : BitVec 32) (k0_hw5 : k0_chk5 i v1235), ∀ (k0_h1 : k0_cond1 i = 1#1), ∀ a, (k0_off10 v1235) a + S1x128x8x128.size a ≤ S2560x128x8x128.size a := fun i v1235 k0_hw5 k0_h1 => k0_hw5 k0_h1

def k0_off11 (i : grid0.Coords) : Fin 2 → Nat :=
  let c0_i32_782 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_781 : BitVec 32 := 20#32
  let v1242 : BitVec 32 := Scalar.muli v28 c20_i32_781
  let v1243 : BitVec 32 := Scalar.addi c0_i32_782 v1242
  let c5_i32_783 : BitVec 32 := 5#32
  let v1244 : BitVec 32 := Scalar.addi v1243 c5_i32_783
  let c0_i32_785 : BitVec 32 := 0#32
  let v1246 : BitVec 1 := Scalar.cmpi .sgt v1244 c0_i32_785
  let v1247 : BitVec 32 := Scalar.extui v1246
  let c0_i32_786 : BitVec 32 := 0#32
  let v1248 : BitVec 1 := Scalar.cmpi .slt v1244 c0_i32_786
  let v1249 : BitVec 32 := Scalar.extui v1248
  let v1250 : BitVec 32 := Scalar.subi v1247 v1249
  let c64_i32_784 : BitVec 32 := 64#32
  let c0_i32_787 : BitVec 32 := 0#32
  let v1251 : BitVec 1 := Scalar.cmpi .sgt c64_i32_784 c0_i32_787
  let v1252 : BitVec 32 := Scalar.extui v1251
  let c0_i32_788 : BitVec 32 := 0#32
  let v1253 : BitVec 1 := Scalar.cmpi .slt c64_i32_784 c0_i32_788
  let v1254 : BitVec 32 := Scalar.extui v1253
  let v1255 : BitVec 32 := Scalar.subi v1252 v1254
  let v1256 : BitVec 1 := Scalar.cmpi .ne v1250 v1255
  let v1257 : BitVec 32 := Scalar.remsi v1244 c64_i32_784
  let c0_i32_789 : BitVec 32 := 0#32
  let v1258 : BitVec 1 := Scalar.cmpi .ne v1257 c0_i32_789
  let v1259 : BitVec 1 := Scalar.andi v1256 v1258
  let v1245 : BitVec 32 := Scalar.divsi v1244 c64_i32_784
  let c1_i32_790 : BitVec 32 := 1#32
  let v1260 : BitVec 32 := Scalar.subi v1245 c1_i32_790
  let v1261 : BitVec 32 := Scalar.select v1259 v1260 v1245
  let v1272 : Index := Scalar.indexCast v1261
  let c64_i32_791 : BitVec 32 := 64#32
  let c0_i32_792 : BitVec 32 := 0#32
  let v1262 : BitVec 1 := Scalar.cmpi .eq c64_i32_791 c0_i32_792
  let c1_i32_793 : BitVec 32 := 1#32
  let v1263 : BitVec 32 := Scalar.select v1262 c1_i32_793 c64_i32_791
  let v1264 : BitVec 32 := Scalar.remsi v1244 v1263
  let c0_i32_795 : BitVec 32 := 0#32
  let v1266 : BitVec 1 := Scalar.cmpi .slt v1264 c0_i32_795
  let c0_i32_796 : BitVec 32 := 0#32
  let v1267 : BitVec 1 := Scalar.cmpi .slt v1263 c0_i32_796
  let v1268 : BitVec 1 := Scalar.xori v1266 v1267
  let c0_i32_794 : BitVec 32 := 0#32
  let v1265 : BitVec 1 := Scalar.cmpi .ne v1264 c0_i32_794
  let v1269 : BitVec 1 := Scalar.andi v1268 v1265
  let v1270 : BitVec 32 := Scalar.addi v1264 v1263
  let v1271 : BitVec 32 := Scalar.select v1269 v1270 v1264
  let v1273 : Index := Scalar.indexCast v1271
  ![v1272.toNat, v1273.toNat]
def k0_off12 (v1274 : BitVec 32) : Fin 4 → Nat :=
  let c0_i32_803 : BitVec 32 := 0#32
  let c0_i32_804 : BitVec 32 := 0#32
  let c0_i32_805 : BitVec 32 := 0#32
  ![v1274.toNat, 0, 0, 0]

def k0_chk6 (i : grid0.Coords) (v1274 : BitVec 32) : Prop :=
  (∀ (k0_h1 : k0_cond1 i = 1#1), ∀ a, (k0_off12 v1274) a + S1x128x8x128.size a ≤ S2560x128x8x128.size a)
theorem k0_off12_inb : ∀ (i : grid0.Coords) (v1274 : BitVec 32) (k0_hw6 : k0_chk6 i v1274), ∀ (k0_h1 : k0_cond1 i = 1#1), ∀ a, (k0_off12 v1274) a + S1x128x8x128.size a ≤ S2560x128x8x128.size a := fun i v1274 k0_hw6 k0_h1 => k0_hw6 k0_h1

def k0_off13 (i : grid0.Coords) : Fin 2 → Nat :=
  let c0_i32_807 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_806 : BitVec 32 := 20#32
  let v1281 : BitVec 32 := Scalar.muli v28 c20_i32_806
  let v1282 : BitVec 32 := Scalar.addi c0_i32_807 v1281
  let c6_i32_808 : BitVec 32 := 6#32
  let v1283 : BitVec 32 := Scalar.addi v1282 c6_i32_808
  let c0_i32_810 : BitVec 32 := 0#32
  let v1285 : BitVec 1 := Scalar.cmpi .sgt v1283 c0_i32_810
  let v1286 : BitVec 32 := Scalar.extui v1285
  let c0_i32_811 : BitVec 32 := 0#32
  let v1287 : BitVec 1 := Scalar.cmpi .slt v1283 c0_i32_811
  let v1288 : BitVec 32 := Scalar.extui v1287
  let v1289 : BitVec 32 := Scalar.subi v1286 v1288
  let c64_i32_809 : BitVec 32 := 64#32
  let c0_i32_812 : BitVec 32 := 0#32
  let v1290 : BitVec 1 := Scalar.cmpi .sgt c64_i32_809 c0_i32_812
  let v1291 : BitVec 32 := Scalar.extui v1290
  let c0_i32_813 : BitVec 32 := 0#32
  let v1292 : BitVec 1 := Scalar.cmpi .slt c64_i32_809 c0_i32_813
  let v1293 : BitVec 32 := Scalar.extui v1292
  let v1294 : BitVec 32 := Scalar.subi v1291 v1293
  let v1295 : BitVec 1 := Scalar.cmpi .ne v1289 v1294
  let v1296 : BitVec 32 := Scalar.remsi v1283 c64_i32_809
  let c0_i32_814 : BitVec 32 := 0#32
  let v1297 : BitVec 1 := Scalar.cmpi .ne v1296 c0_i32_814
  let v1298 : BitVec 1 := Scalar.andi v1295 v1297
  let v1284 : BitVec 32 := Scalar.divsi v1283 c64_i32_809
  let c1_i32_815 : BitVec 32 := 1#32
  let v1299 : BitVec 32 := Scalar.subi v1284 c1_i32_815
  let v1300 : BitVec 32 := Scalar.select v1298 v1299 v1284
  let v1311 : Index := Scalar.indexCast v1300
  let c64_i32_816 : BitVec 32 := 64#32
  let c0_i32_817 : BitVec 32 := 0#32
  let v1301 : BitVec 1 := Scalar.cmpi .eq c64_i32_816 c0_i32_817
  let c1_i32_818 : BitVec 32 := 1#32
  let v1302 : BitVec 32 := Scalar.select v1301 c1_i32_818 c64_i32_816
  let v1303 : BitVec 32 := Scalar.remsi v1283 v1302
  let c0_i32_820 : BitVec 32 := 0#32
  let v1305 : BitVec 1 := Scalar.cmpi .slt v1303 c0_i32_820
  let c0_i32_821 : BitVec 32 := 0#32
  let v1306 : BitVec 1 := Scalar.cmpi .slt v1302 c0_i32_821
  let v1307 : BitVec 1 := Scalar.xori v1305 v1306
  let c0_i32_819 : BitVec 32 := 0#32
  let v1304 : BitVec 1 := Scalar.cmpi .ne v1303 c0_i32_819
  let v1308 : BitVec 1 := Scalar.andi v1307 v1304
  let v1309 : BitVec 32 := Scalar.addi v1303 v1302
  let v1310 : BitVec 32 := Scalar.select v1308 v1309 v1303
  let v1312 : Index := Scalar.indexCast v1310
  ![v1311.toNat, v1312.toNat]
def k0_off14 (v1313 : BitVec 32) : Fin 4 → Nat :=
  let c0_i32_828 : BitVec 32 := 0#32
  let c0_i32_829 : BitVec 32 := 0#32
  let c0_i32_830 : BitVec 32 := 0#32
  ![v1313.toNat, 0, 0, 0]

def k0_chk7 (i : grid0.Coords) (v1313 : BitVec 32) : Prop :=
  (∀ (k0_h1 : k0_cond1 i = 1#1), ∀ a, (k0_off14 v1313) a + S1x128x8x128.size a ≤ S2560x128x8x128.size a)
theorem k0_off14_inb : ∀ (i : grid0.Coords) (v1313 : BitVec 32) (k0_hw7 : k0_chk7 i v1313), ∀ (k0_h1 : k0_cond1 i = 1#1), ∀ a, (k0_off14 v1313) a + S1x128x8x128.size a ≤ S2560x128x8x128.size a := fun i v1313 k0_hw7 k0_h1 => k0_hw7 k0_h1

def k0_off15 (i : grid0.Coords) : Fin 2 → Nat :=
  let c0_i32_832 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_831 : BitVec 32 := 20#32
  let v1320 : BitVec 32 := Scalar.muli v28 c20_i32_831
  let v1321 : BitVec 32 := Scalar.addi c0_i32_832 v1320
  let c7_i32_833 : BitVec 32 := 7#32
  let v1322 : BitVec 32 := Scalar.addi v1321 c7_i32_833
  let c0_i32_835 : BitVec 32 := 0#32
  let v1324 : BitVec 1 := Scalar.cmpi .sgt v1322 c0_i32_835
  let v1325 : BitVec 32 := Scalar.extui v1324
  let c0_i32_836 : BitVec 32 := 0#32
  let v1326 : BitVec 1 := Scalar.cmpi .slt v1322 c0_i32_836
  let v1327 : BitVec 32 := Scalar.extui v1326
  let v1328 : BitVec 32 := Scalar.subi v1325 v1327
  let c64_i32_834 : BitVec 32 := 64#32
  let c0_i32_837 : BitVec 32 := 0#32
  let v1329 : BitVec 1 := Scalar.cmpi .sgt c64_i32_834 c0_i32_837
  let v1330 : BitVec 32 := Scalar.extui v1329
  let c0_i32_838 : BitVec 32 := 0#32
  let v1331 : BitVec 1 := Scalar.cmpi .slt c64_i32_834 c0_i32_838
  let v1332 : BitVec 32 := Scalar.extui v1331
  let v1333 : BitVec 32 := Scalar.subi v1330 v1332
  let v1334 : BitVec 1 := Scalar.cmpi .ne v1328 v1333
  let v1335 : BitVec 32 := Scalar.remsi v1322 c64_i32_834
  let c0_i32_839 : BitVec 32 := 0#32
  let v1336 : BitVec 1 := Scalar.cmpi .ne v1335 c0_i32_839
  let v1337 : BitVec 1 := Scalar.andi v1334 v1336
  let v1323 : BitVec 32 := Scalar.divsi v1322 c64_i32_834
  let c1_i32_840 : BitVec 32 := 1#32
  let v1338 : BitVec 32 := Scalar.subi v1323 c1_i32_840
  let v1339 : BitVec 32 := Scalar.select v1337 v1338 v1323
  let v1350 : Index := Scalar.indexCast v1339
  let c64_i32_841 : BitVec 32 := 64#32
  let c0_i32_842 : BitVec 32 := 0#32
  let v1340 : BitVec 1 := Scalar.cmpi .eq c64_i32_841 c0_i32_842
  let c1_i32_843 : BitVec 32 := 1#32
  let v1341 : BitVec 32 := Scalar.select v1340 c1_i32_843 c64_i32_841
  let v1342 : BitVec 32 := Scalar.remsi v1322 v1341
  let c0_i32_845 : BitVec 32 := 0#32
  let v1344 : BitVec 1 := Scalar.cmpi .slt v1342 c0_i32_845
  let c0_i32_846 : BitVec 32 := 0#32
  let v1345 : BitVec 1 := Scalar.cmpi .slt v1341 c0_i32_846
  let v1346 : BitVec 1 := Scalar.xori v1344 v1345
  let c0_i32_844 : BitVec 32 := 0#32
  let v1343 : BitVec 1 := Scalar.cmpi .ne v1342 c0_i32_844
  let v1347 : BitVec 1 := Scalar.andi v1346 v1343
  let v1348 : BitVec 32 := Scalar.addi v1342 v1341
  let v1349 : BitVec 32 := Scalar.select v1347 v1348 v1342
  let v1351 : Index := Scalar.indexCast v1349
  ![v1350.toNat, v1351.toNat]
def k0_off16 (v1352 : BitVec 32) : Fin 4 → Nat :=
  let c0_i32_853 : BitVec 32 := 0#32
  let c0_i32_854 : BitVec 32 := 0#32
  let c0_i32_855 : BitVec 32 := 0#32
  ![v1352.toNat, 0, 0, 0]

def k0_chk8 (i : grid0.Coords) (v1352 : BitVec 32) : Prop :=
  (∀ (k0_h1 : k0_cond1 i = 1#1), ∀ a, (k0_off16 v1352) a + S1x128x8x128.size a ≤ S2560x128x8x128.size a)
theorem k0_off16_inb : ∀ (i : grid0.Coords) (v1352 : BitVec 32) (k0_hw8 : k0_chk8 i v1352), ∀ (k0_h1 : k0_cond1 i = 1#1), ∀ a, (k0_off16 v1352) a + S1x128x8x128.size a ≤ S2560x128x8x128.size a := fun i v1352 k0_hw8 k0_h1 => k0_hw8 k0_h1

def k0_off17 (i : grid0.Coords) : Fin 2 → Nat :=
  let c0_i32_857 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_856 : BitVec 32 := 20#32
  let v1359 : BitVec 32 := Scalar.muli v28 c20_i32_856
  let v1360 : BitVec 32 := Scalar.addi c0_i32_857 v1359
  let c8_i32_858 : BitVec 32 := 8#32
  let v1361 : BitVec 32 := Scalar.addi v1360 c8_i32_858
  let c0_i32_860 : BitVec 32 := 0#32
  let v1363 : BitVec 1 := Scalar.cmpi .sgt v1361 c0_i32_860
  let v1364 : BitVec 32 := Scalar.extui v1363
  let c0_i32_861 : BitVec 32 := 0#32
  let v1365 : BitVec 1 := Scalar.cmpi .slt v1361 c0_i32_861
  let v1366 : BitVec 32 := Scalar.extui v1365
  let v1367 : BitVec 32 := Scalar.subi v1364 v1366
  let c64_i32_859 : BitVec 32 := 64#32
  let c0_i32_862 : BitVec 32 := 0#32
  let v1368 : BitVec 1 := Scalar.cmpi .sgt c64_i32_859 c0_i32_862
  let v1369 : BitVec 32 := Scalar.extui v1368
  let c0_i32_863 : BitVec 32 := 0#32
  let v1370 : BitVec 1 := Scalar.cmpi .slt c64_i32_859 c0_i32_863
  let v1371 : BitVec 32 := Scalar.extui v1370
  let v1372 : BitVec 32 := Scalar.subi v1369 v1371
  let v1373 : BitVec 1 := Scalar.cmpi .ne v1367 v1372
  let v1374 : BitVec 32 := Scalar.remsi v1361 c64_i32_859
  let c0_i32_864 : BitVec 32 := 0#32
  let v1375 : BitVec 1 := Scalar.cmpi .ne v1374 c0_i32_864
  let v1376 : BitVec 1 := Scalar.andi v1373 v1375
  let v1362 : BitVec 32 := Scalar.divsi v1361 c64_i32_859
  let c1_i32_865 : BitVec 32 := 1#32
  let v1377 : BitVec 32 := Scalar.subi v1362 c1_i32_865
  let v1378 : BitVec 32 := Scalar.select v1376 v1377 v1362
  let v1389 : Index := Scalar.indexCast v1378
  let c64_i32_866 : BitVec 32 := 64#32
  let c0_i32_867 : BitVec 32 := 0#32
  let v1379 : BitVec 1 := Scalar.cmpi .eq c64_i32_866 c0_i32_867
  let c1_i32_868 : BitVec 32 := 1#32
  let v1380 : BitVec 32 := Scalar.select v1379 c1_i32_868 c64_i32_866
  let v1381 : BitVec 32 := Scalar.remsi v1361 v1380
  let c0_i32_870 : BitVec 32 := 0#32
  let v1383 : BitVec 1 := Scalar.cmpi .slt v1381 c0_i32_870
  let c0_i32_871 : BitVec 32 := 0#32
  let v1384 : BitVec 1 := Scalar.cmpi .slt v1380 c0_i32_871
  let v1385 : BitVec 1 := Scalar.xori v1383 v1384
  let c0_i32_869 : BitVec 32 := 0#32
  let v1382 : BitVec 1 := Scalar.cmpi .ne v1381 c0_i32_869
  let v1386 : BitVec 1 := Scalar.andi v1385 v1382
  let v1387 : BitVec 32 := Scalar.addi v1381 v1380
  let v1388 : BitVec 32 := Scalar.select v1386 v1387 v1381
  let v1390 : Index := Scalar.indexCast v1388
  ![v1389.toNat, v1390.toNat]
def k0_off18 (v1391 : BitVec 32) : Fin 4 → Nat :=
  let c0_i32_878 : BitVec 32 := 0#32
  let c0_i32_879 : BitVec 32 := 0#32
  let c0_i32_880 : BitVec 32 := 0#32
  ![v1391.toNat, 0, 0, 0]

def k0_chk9 (i : grid0.Coords) (v1391 : BitVec 32) : Prop :=
  (∀ (k0_h1 : k0_cond1 i = 1#1), ∀ a, (k0_off18 v1391) a + S1x128x8x128.size a ≤ S2560x128x8x128.size a)
theorem k0_off18_inb : ∀ (i : grid0.Coords) (v1391 : BitVec 32) (k0_hw9 : k0_chk9 i v1391), ∀ (k0_h1 : k0_cond1 i = 1#1), ∀ a, (k0_off18 v1391) a + S1x128x8x128.size a ≤ S2560x128x8x128.size a := fun i v1391 k0_hw9 k0_h1 => k0_hw9 k0_h1

def k0_off19 (i : grid0.Coords) : Fin 2 → Nat :=
  let c0_i32_882 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_881 : BitVec 32 := 20#32
  let v1398 : BitVec 32 := Scalar.muli v28 c20_i32_881
  let v1399 : BitVec 32 := Scalar.addi c0_i32_882 v1398
  let c9_i32_883 : BitVec 32 := 9#32
  let v1400 : BitVec 32 := Scalar.addi v1399 c9_i32_883
  let c0_i32_885 : BitVec 32 := 0#32
  let v1402 : BitVec 1 := Scalar.cmpi .sgt v1400 c0_i32_885
  let v1403 : BitVec 32 := Scalar.extui v1402
  let c0_i32_886 : BitVec 32 := 0#32
  let v1404 : BitVec 1 := Scalar.cmpi .slt v1400 c0_i32_886
  let v1405 : BitVec 32 := Scalar.extui v1404
  let v1406 : BitVec 32 := Scalar.subi v1403 v1405
  let c64_i32_884 : BitVec 32 := 64#32
  let c0_i32_887 : BitVec 32 := 0#32
  let v1407 : BitVec 1 := Scalar.cmpi .sgt c64_i32_884 c0_i32_887
  let v1408 : BitVec 32 := Scalar.extui v1407
  let c0_i32_888 : BitVec 32 := 0#32
  let v1409 : BitVec 1 := Scalar.cmpi .slt c64_i32_884 c0_i32_888
  let v1410 : BitVec 32 := Scalar.extui v1409
  let v1411 : BitVec 32 := Scalar.subi v1408 v1410
  let v1412 : BitVec 1 := Scalar.cmpi .ne v1406 v1411
  let v1413 : BitVec 32 := Scalar.remsi v1400 c64_i32_884
  let c0_i32_889 : BitVec 32 := 0#32
  let v1414 : BitVec 1 := Scalar.cmpi .ne v1413 c0_i32_889
  let v1415 : BitVec 1 := Scalar.andi v1412 v1414
  let v1401 : BitVec 32 := Scalar.divsi v1400 c64_i32_884
  let c1_i32_890 : BitVec 32 := 1#32
  let v1416 : BitVec 32 := Scalar.subi v1401 c1_i32_890
  let v1417 : BitVec 32 := Scalar.select v1415 v1416 v1401
  let v1428 : Index := Scalar.indexCast v1417
  let c64_i32_891 : BitVec 32 := 64#32
  let c0_i32_892 : BitVec 32 := 0#32
  let v1418 : BitVec 1 := Scalar.cmpi .eq c64_i32_891 c0_i32_892
  let c1_i32_893 : BitVec 32 := 1#32
  let v1419 : BitVec 32 := Scalar.select v1418 c1_i32_893 c64_i32_891
  let v1420 : BitVec 32 := Scalar.remsi v1400 v1419
  let c0_i32_895 : BitVec 32 := 0#32
  let v1422 : BitVec 1 := Scalar.cmpi .slt v1420 c0_i32_895
  let c0_i32_896 : BitVec 32 := 0#32
  let v1423 : BitVec 1 := Scalar.cmpi .slt v1419 c0_i32_896
  let v1424 : BitVec 1 := Scalar.xori v1422 v1423
  let c0_i32_894 : BitVec 32 := 0#32
  let v1421 : BitVec 1 := Scalar.cmpi .ne v1420 c0_i32_894
  let v1425 : BitVec 1 := Scalar.andi v1424 v1421
  let v1426 : BitVec 32 := Scalar.addi v1420 v1419
  let v1427 : BitVec 32 := Scalar.select v1425 v1426 v1420
  let v1429 : Index := Scalar.indexCast v1427
  ![v1428.toNat, v1429.toNat]
def k0_off20 (v1430 : BitVec 32) : Fin 4 → Nat :=
  let c0_i32_903 : BitVec 32 := 0#32
  let c0_i32_904 : BitVec 32 := 0#32
  let c0_i32_905 : BitVec 32 := 0#32
  ![v1430.toNat, 0, 0, 0]

def k0_chk10 (i : grid0.Coords) (v1430 : BitVec 32) : Prop :=
  (∀ (k0_h1 : k0_cond1 i = 1#1), ∀ a, (k0_off20 v1430) a + S1x128x8x128.size a ≤ S2560x128x8x128.size a)
theorem k0_off20_inb : ∀ (i : grid0.Coords) (v1430 : BitVec 32) (k0_hw10 : k0_chk10 i v1430), ∀ (k0_h1 : k0_cond1 i = 1#1), ∀ a, (k0_off20 v1430) a + S1x128x8x128.size a ≤ S2560x128x8x128.size a := fun i v1430 k0_hw10 k0_h1 => k0_hw10 k0_h1

def k0_off21 (i : grid0.Coords) : Fin 2 → Nat :=
  let c0_i32_907 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_906 : BitVec 32 := 20#32
  let v1437 : BitVec 32 := Scalar.muli v28 c20_i32_906
  let v1438 : BitVec 32 := Scalar.addi c0_i32_907 v1437
  let c10_i32_908 : BitVec 32 := 10#32
  let v1439 : BitVec 32 := Scalar.addi v1438 c10_i32_908
  let c0_i32_910 : BitVec 32 := 0#32
  let v1441 : BitVec 1 := Scalar.cmpi .sgt v1439 c0_i32_910
  let v1442 : BitVec 32 := Scalar.extui v1441
  let c0_i32_911 : BitVec 32 := 0#32
  let v1443 : BitVec 1 := Scalar.cmpi .slt v1439 c0_i32_911
  let v1444 : BitVec 32 := Scalar.extui v1443
  let v1445 : BitVec 32 := Scalar.subi v1442 v1444
  let c64_i32_909 : BitVec 32 := 64#32
  let c0_i32_912 : BitVec 32 := 0#32
  let v1446 : BitVec 1 := Scalar.cmpi .sgt c64_i32_909 c0_i32_912
  let v1447 : BitVec 32 := Scalar.extui v1446
  let c0_i32_913 : BitVec 32 := 0#32
  let v1448 : BitVec 1 := Scalar.cmpi .slt c64_i32_909 c0_i32_913
  let v1449 : BitVec 32 := Scalar.extui v1448
  let v1450 : BitVec 32 := Scalar.subi v1447 v1449
  let v1451 : BitVec 1 := Scalar.cmpi .ne v1445 v1450
  let v1452 : BitVec 32 := Scalar.remsi v1439 c64_i32_909
  let c0_i32_914 : BitVec 32 := 0#32
  let v1453 : BitVec 1 := Scalar.cmpi .ne v1452 c0_i32_914
  let v1454 : BitVec 1 := Scalar.andi v1451 v1453
  let v1440 : BitVec 32 := Scalar.divsi v1439 c64_i32_909
  let c1_i32_915 : BitVec 32 := 1#32
  let v1455 : BitVec 32 := Scalar.subi v1440 c1_i32_915
  let v1456 : BitVec 32 := Scalar.select v1454 v1455 v1440
  let v1467 : Index := Scalar.indexCast v1456
  let c64_i32_916 : BitVec 32 := 64#32
  let c0_i32_917 : BitVec 32 := 0#32
  let v1457 : BitVec 1 := Scalar.cmpi .eq c64_i32_916 c0_i32_917
  let c1_i32_918 : BitVec 32 := 1#32
  let v1458 : BitVec 32 := Scalar.select v1457 c1_i32_918 c64_i32_916
  let v1459 : BitVec 32 := Scalar.remsi v1439 v1458
  let c0_i32_920 : BitVec 32 := 0#32
  let v1461 : BitVec 1 := Scalar.cmpi .slt v1459 c0_i32_920
  let c0_i32_921 : BitVec 32 := 0#32
  let v1462 : BitVec 1 := Scalar.cmpi .slt v1458 c0_i32_921
  let v1463 : BitVec 1 := Scalar.xori v1461 v1462
  let c0_i32_919 : BitVec 32 := 0#32
  let v1460 : BitVec 1 := Scalar.cmpi .ne v1459 c0_i32_919
  let v1464 : BitVec 1 := Scalar.andi v1463 v1460
  let v1465 : BitVec 32 := Scalar.addi v1459 v1458
  let v1466 : BitVec 32 := Scalar.select v1464 v1465 v1459
  let v1468 : Index := Scalar.indexCast v1466
  ![v1467.toNat, v1468.toNat]
def k0_off22 (v1469 : BitVec 32) : Fin 4 → Nat :=
  let c0_i32_928 : BitVec 32 := 0#32
  let c0_i32_929 : BitVec 32 := 0#32
  let c0_i32_930 : BitVec 32 := 0#32
  ![v1469.toNat, 0, 0, 0]

def k0_chk11 (i : grid0.Coords) (v1469 : BitVec 32) : Prop :=
  (∀ (k0_h1 : k0_cond1 i = 1#1), ∀ a, (k0_off22 v1469) a + S1x128x8x128.size a ≤ S2560x128x8x128.size a)
theorem k0_off22_inb : ∀ (i : grid0.Coords) (v1469 : BitVec 32) (k0_hw11 : k0_chk11 i v1469), ∀ (k0_h1 : k0_cond1 i = 1#1), ∀ a, (k0_off22 v1469) a + S1x128x8x128.size a ≤ S2560x128x8x128.size a := fun i v1469 k0_hw11 k0_h1 => k0_hw11 k0_h1

def k0_off23 (i : grid0.Coords) : Fin 2 → Nat :=
  let c0_i32_932 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_931 : BitVec 32 := 20#32
  let v1476 : BitVec 32 := Scalar.muli v28 c20_i32_931
  let v1477 : BitVec 32 := Scalar.addi c0_i32_932 v1476
  let c11_i32_933 : BitVec 32 := 11#32
  let v1478 : BitVec 32 := Scalar.addi v1477 c11_i32_933
  let c0_i32_935 : BitVec 32 := 0#32
  let v1480 : BitVec 1 := Scalar.cmpi .sgt v1478 c0_i32_935
  let v1481 : BitVec 32 := Scalar.extui v1480
  let c0_i32_936 : BitVec 32 := 0#32
  let v1482 : BitVec 1 := Scalar.cmpi .slt v1478 c0_i32_936
  let v1483 : BitVec 32 := Scalar.extui v1482
  let v1484 : BitVec 32 := Scalar.subi v1481 v1483
  let c64_i32_934 : BitVec 32 := 64#32
  let c0_i32_937 : BitVec 32 := 0#32
  let v1485 : BitVec 1 := Scalar.cmpi .sgt c64_i32_934 c0_i32_937
  let v1486 : BitVec 32 := Scalar.extui v1485
  let c0_i32_938 : BitVec 32 := 0#32
  let v1487 : BitVec 1 := Scalar.cmpi .slt c64_i32_934 c0_i32_938
  let v1488 : BitVec 32 := Scalar.extui v1487
  let v1489 : BitVec 32 := Scalar.subi v1486 v1488
  let v1490 : BitVec 1 := Scalar.cmpi .ne v1484 v1489
  let v1491 : BitVec 32 := Scalar.remsi v1478 c64_i32_934
  let c0_i32_939 : BitVec 32 := 0#32
  let v1492 : BitVec 1 := Scalar.cmpi .ne v1491 c0_i32_939
  let v1493 : BitVec 1 := Scalar.andi v1490 v1492
  let v1479 : BitVec 32 := Scalar.divsi v1478 c64_i32_934
  let c1_i32_940 : BitVec 32 := 1#32
  let v1494 : BitVec 32 := Scalar.subi v1479 c1_i32_940
  let v1495 : BitVec 32 := Scalar.select v1493 v1494 v1479
  let v1506 : Index := Scalar.indexCast v1495
  let c64_i32_941 : BitVec 32 := 64#32
  let c0_i32_942 : BitVec 32 := 0#32
  let v1496 : BitVec 1 := Scalar.cmpi .eq c64_i32_941 c0_i32_942
  let c1_i32_943 : BitVec 32 := 1#32
  let v1497 : BitVec 32 := Scalar.select v1496 c1_i32_943 c64_i32_941
  let v1498 : BitVec 32 := Scalar.remsi v1478 v1497
  let c0_i32_945 : BitVec 32 := 0#32
  let v1500 : BitVec 1 := Scalar.cmpi .slt v1498 c0_i32_945
  let c0_i32_946 : BitVec 32 := 0#32
  let v1501 : BitVec 1 := Scalar.cmpi .slt v1497 c0_i32_946
  let v1502 : BitVec 1 := Scalar.xori v1500 v1501
  let c0_i32_944 : BitVec 32 := 0#32
  let v1499 : BitVec 1 := Scalar.cmpi .ne v1498 c0_i32_944
  let v1503 : BitVec 1 := Scalar.andi v1502 v1499
  let v1504 : BitVec 32 := Scalar.addi v1498 v1497
  let v1505 : BitVec 32 := Scalar.select v1503 v1504 v1498
  let v1507 : Index := Scalar.indexCast v1505
  ![v1506.toNat, v1507.toNat]
def k0_off24 (v1508 : BitVec 32) : Fin 4 → Nat :=
  let c0_i32_953 : BitVec 32 := 0#32
  let c0_i32_954 : BitVec 32 := 0#32
  let c0_i32_955 : BitVec 32 := 0#32
  ![v1508.toNat, 0, 0, 0]

def k0_chk12 (i : grid0.Coords) (v1508 : BitVec 32) : Prop :=
  (∀ (k0_h1 : k0_cond1 i = 1#1), ∀ a, (k0_off24 v1508) a + S1x128x8x128.size a ≤ S2560x128x8x128.size a)
theorem k0_off24_inb : ∀ (i : grid0.Coords) (v1508 : BitVec 32) (k0_hw12 : k0_chk12 i v1508), ∀ (k0_h1 : k0_cond1 i = 1#1), ∀ a, (k0_off24 v1508) a + S1x128x8x128.size a ≤ S2560x128x8x128.size a := fun i v1508 k0_hw12 k0_h1 => k0_hw12 k0_h1

def k0_off25 (i : grid0.Coords) : Fin 2 → Nat :=
  let c0_i32_957 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_956 : BitVec 32 := 20#32
  let v1515 : BitVec 32 := Scalar.muli v28 c20_i32_956
  let v1516 : BitVec 32 := Scalar.addi c0_i32_957 v1515
  let c12_i32_958 : BitVec 32 := 12#32
  let v1517 : BitVec 32 := Scalar.addi v1516 c12_i32_958
  let c0_i32_960 : BitVec 32 := 0#32
  let v1519 : BitVec 1 := Scalar.cmpi .sgt v1517 c0_i32_960
  let v1520 : BitVec 32 := Scalar.extui v1519
  let c0_i32_961 : BitVec 32 := 0#32
  let v1521 : BitVec 1 := Scalar.cmpi .slt v1517 c0_i32_961
  let v1522 : BitVec 32 := Scalar.extui v1521
  let v1523 : BitVec 32 := Scalar.subi v1520 v1522
  let c64_i32_959 : BitVec 32 := 64#32
  let c0_i32_962 : BitVec 32 := 0#32
  let v1524 : BitVec 1 := Scalar.cmpi .sgt c64_i32_959 c0_i32_962
  let v1525 : BitVec 32 := Scalar.extui v1524
  let c0_i32_963 : BitVec 32 := 0#32
  let v1526 : BitVec 1 := Scalar.cmpi .slt c64_i32_959 c0_i32_963
  let v1527 : BitVec 32 := Scalar.extui v1526
  let v1528 : BitVec 32 := Scalar.subi v1525 v1527
  let v1529 : BitVec 1 := Scalar.cmpi .ne v1523 v1528
  let v1530 : BitVec 32 := Scalar.remsi v1517 c64_i32_959
  let c0_i32_964 : BitVec 32 := 0#32
  let v1531 : BitVec 1 := Scalar.cmpi .ne v1530 c0_i32_964
  let v1532 : BitVec 1 := Scalar.andi v1529 v1531
  let v1518 : BitVec 32 := Scalar.divsi v1517 c64_i32_959
  let c1_i32_965 : BitVec 32 := 1#32
  let v1533 : BitVec 32 := Scalar.subi v1518 c1_i32_965
  let v1534 : BitVec 32 := Scalar.select v1532 v1533 v1518
  let v1545 : Index := Scalar.indexCast v1534
  let c64_i32_966 : BitVec 32 := 64#32
  let c0_i32_967 : BitVec 32 := 0#32
  let v1535 : BitVec 1 := Scalar.cmpi .eq c64_i32_966 c0_i32_967
  let c1_i32_968 : BitVec 32 := 1#32
  let v1536 : BitVec 32 := Scalar.select v1535 c1_i32_968 c64_i32_966
  let v1537 : BitVec 32 := Scalar.remsi v1517 v1536
  let c0_i32_970 : BitVec 32 := 0#32
  let v1539 : BitVec 1 := Scalar.cmpi .slt v1537 c0_i32_970
  let c0_i32_971 : BitVec 32 := 0#32
  let v1540 : BitVec 1 := Scalar.cmpi .slt v1536 c0_i32_971
  let v1541 : BitVec 1 := Scalar.xori v1539 v1540
  let c0_i32_969 : BitVec 32 := 0#32
  let v1538 : BitVec 1 := Scalar.cmpi .ne v1537 c0_i32_969
  let v1542 : BitVec 1 := Scalar.andi v1541 v1538
  let v1543 : BitVec 32 := Scalar.addi v1537 v1536
  let v1544 : BitVec 32 := Scalar.select v1542 v1543 v1537
  let v1546 : Index := Scalar.indexCast v1544
  ![v1545.toNat, v1546.toNat]
def k0_off26 (v1547 : BitVec 32) : Fin 4 → Nat :=
  let c0_i32_978 : BitVec 32 := 0#32
  let c0_i32_979 : BitVec 32 := 0#32
  let c0_i32_980 : BitVec 32 := 0#32
  ![v1547.toNat, 0, 0, 0]

def k0_chk13 (i : grid0.Coords) (v1547 : BitVec 32) : Prop :=
  (∀ (k0_h1 : k0_cond1 i = 1#1), ∀ a, (k0_off26 v1547) a + S1x128x8x128.size a ≤ S2560x128x8x128.size a)
theorem k0_off26_inb : ∀ (i : grid0.Coords) (v1547 : BitVec 32) (k0_hw13 : k0_chk13 i v1547), ∀ (k0_h1 : k0_cond1 i = 1#1), ∀ a, (k0_off26 v1547) a + S1x128x8x128.size a ≤ S2560x128x8x128.size a := fun i v1547 k0_hw13 k0_h1 => k0_hw13 k0_h1

def k0_off27 (i : grid0.Coords) : Fin 2 → Nat :=
  let c0_i32_982 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_981 : BitVec 32 := 20#32
  let v1554 : BitVec 32 := Scalar.muli v28 c20_i32_981
  let v1555 : BitVec 32 := Scalar.addi c0_i32_982 v1554
  let c13_i32_983 : BitVec 32 := 13#32
  let v1556 : BitVec 32 := Scalar.addi v1555 c13_i32_983
  let c0_i32_985 : BitVec 32 := 0#32
  let v1558 : BitVec 1 := Scalar.cmpi .sgt v1556 c0_i32_985
  let v1559 : BitVec 32 := Scalar.extui v1558
  let c0_i32_986 : BitVec 32 := 0#32
  let v1560 : BitVec 1 := Scalar.cmpi .slt v1556 c0_i32_986
  let v1561 : BitVec 32 := Scalar.extui v1560
  let v1562 : BitVec 32 := Scalar.subi v1559 v1561
  let c64_i32_984 : BitVec 32 := 64#32
  let c0_i32_987 : BitVec 32 := 0#32
  let v1563 : BitVec 1 := Scalar.cmpi .sgt c64_i32_984 c0_i32_987
  let v1564 : BitVec 32 := Scalar.extui v1563
  let c0_i32_988 : BitVec 32 := 0#32
  let v1565 : BitVec 1 := Scalar.cmpi .slt c64_i32_984 c0_i32_988
  let v1566 : BitVec 32 := Scalar.extui v1565
  let v1567 : BitVec 32 := Scalar.subi v1564 v1566
  let v1568 : BitVec 1 := Scalar.cmpi .ne v1562 v1567
  let v1569 : BitVec 32 := Scalar.remsi v1556 c64_i32_984
  let c0_i32_989 : BitVec 32 := 0#32
  let v1570 : BitVec 1 := Scalar.cmpi .ne v1569 c0_i32_989
  let v1571 : BitVec 1 := Scalar.andi v1568 v1570
  let v1557 : BitVec 32 := Scalar.divsi v1556 c64_i32_984
  let c1_i32_990 : BitVec 32 := 1#32
  let v1572 : BitVec 32 := Scalar.subi v1557 c1_i32_990
  let v1573 : BitVec 32 := Scalar.select v1571 v1572 v1557
  let v1584 : Index := Scalar.indexCast v1573
  let c64_i32_991 : BitVec 32 := 64#32
  let c0_i32_992 : BitVec 32 := 0#32
  let v1574 : BitVec 1 := Scalar.cmpi .eq c64_i32_991 c0_i32_992
  let c1_i32_993 : BitVec 32 := 1#32
  let v1575 : BitVec 32 := Scalar.select v1574 c1_i32_993 c64_i32_991
  let v1576 : BitVec 32 := Scalar.remsi v1556 v1575
  let c0_i32_995 : BitVec 32 := 0#32
  let v1578 : BitVec 1 := Scalar.cmpi .slt v1576 c0_i32_995
  let c0_i32_996 : BitVec 32 := 0#32
  let v1579 : BitVec 1 := Scalar.cmpi .slt v1575 c0_i32_996
  let v1580 : BitVec 1 := Scalar.xori v1578 v1579
  let c0_i32_994 : BitVec 32 := 0#32
  let v1577 : BitVec 1 := Scalar.cmpi .ne v1576 c0_i32_994
  let v1581 : BitVec 1 := Scalar.andi v1580 v1577
  let v1582 : BitVec 32 := Scalar.addi v1576 v1575
  let v1583 : BitVec 32 := Scalar.select v1581 v1582 v1576
  let v1585 : Index := Scalar.indexCast v1583
  ![v1584.toNat, v1585.toNat]
def k0_off28 (v1586 : BitVec 32) : Fin 4 → Nat :=
  let c0_i32_1003 : BitVec 32 := 0#32
  let c0_i32_1004 : BitVec 32 := 0#32
  let c0_i32_1005 : BitVec 32 := 0#32
  ![v1586.toNat, 0, 0, 0]

def k0_chk14 (i : grid0.Coords) (v1586 : BitVec 32) : Prop :=
  (∀ (k0_h1 : k0_cond1 i = 1#1), ∀ a, (k0_off28 v1586) a + S1x128x8x128.size a ≤ S2560x128x8x128.size a)
theorem k0_off28_inb : ∀ (i : grid0.Coords) (v1586 : BitVec 32) (k0_hw14 : k0_chk14 i v1586), ∀ (k0_h1 : k0_cond1 i = 1#1), ∀ a, (k0_off28 v1586) a + S1x128x8x128.size a ≤ S2560x128x8x128.size a := fun i v1586 k0_hw14 k0_h1 => k0_hw14 k0_h1

def k0_off29 (i : grid0.Coords) : Fin 2 → Nat :=
  let c0_i32_1007 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_1006 : BitVec 32 := 20#32
  let v1593 : BitVec 32 := Scalar.muli v28 c20_i32_1006
  let v1594 : BitVec 32 := Scalar.addi c0_i32_1007 v1593
  let c14_i32_1008 : BitVec 32 := 14#32
  let v1595 : BitVec 32 := Scalar.addi v1594 c14_i32_1008
  let c0_i32_1010 : BitVec 32 := 0#32
  let v1597 : BitVec 1 := Scalar.cmpi .sgt v1595 c0_i32_1010
  let v1598 : BitVec 32 := Scalar.extui v1597
  let c0_i32_1011 : BitVec 32 := 0#32
  let v1599 : BitVec 1 := Scalar.cmpi .slt v1595 c0_i32_1011
  let v1600 : BitVec 32 := Scalar.extui v1599
  let v1601 : BitVec 32 := Scalar.subi v1598 v1600
  let c64_i32_1009 : BitVec 32 := 64#32
  let c0_i32_1012 : BitVec 32 := 0#32
  let v1602 : BitVec 1 := Scalar.cmpi .sgt c64_i32_1009 c0_i32_1012
  let v1603 : BitVec 32 := Scalar.extui v1602
  let c0_i32_1013 : BitVec 32 := 0#32
  let v1604 : BitVec 1 := Scalar.cmpi .slt c64_i32_1009 c0_i32_1013
  let v1605 : BitVec 32 := Scalar.extui v1604
  let v1606 : BitVec 32 := Scalar.subi v1603 v1605
  let v1607 : BitVec 1 := Scalar.cmpi .ne v1601 v1606
  let v1608 : BitVec 32 := Scalar.remsi v1595 c64_i32_1009
  let c0_i32_1014 : BitVec 32 := 0#32
  let v1609 : BitVec 1 := Scalar.cmpi .ne v1608 c0_i32_1014
  let v1610 : BitVec 1 := Scalar.andi v1607 v1609
  let v1596 : BitVec 32 := Scalar.divsi v1595 c64_i32_1009
  let c1_i32_1015 : BitVec 32 := 1#32
  let v1611 : BitVec 32 := Scalar.subi v1596 c1_i32_1015
  let v1612 : BitVec 32 := Scalar.select v1610 v1611 v1596
  let v1623 : Index := Scalar.indexCast v1612
  let c64_i32_1016 : BitVec 32 := 64#32
  let c0_i32_1017 : BitVec 32 := 0#32
  let v1613 : BitVec 1 := Scalar.cmpi .eq c64_i32_1016 c0_i32_1017
  let c1_i32_1018 : BitVec 32 := 1#32
  let v1614 : BitVec 32 := Scalar.select v1613 c1_i32_1018 c64_i32_1016
  let v1615 : BitVec 32 := Scalar.remsi v1595 v1614
  let c0_i32_1020 : BitVec 32 := 0#32
  let v1617 : BitVec 1 := Scalar.cmpi .slt v1615 c0_i32_1020
  let c0_i32_1021 : BitVec 32 := 0#32
  let v1618 : BitVec 1 := Scalar.cmpi .slt v1614 c0_i32_1021
  let v1619 : BitVec 1 := Scalar.xori v1617 v1618
  let c0_i32_1019 : BitVec 32 := 0#32
  let v1616 : BitVec 1 := Scalar.cmpi .ne v1615 c0_i32_1019
  let v1620 : BitVec 1 := Scalar.andi v1619 v1616
  let v1621 : BitVec 32 := Scalar.addi v1615 v1614
  let v1622 : BitVec 32 := Scalar.select v1620 v1621 v1615
  let v1624 : Index := Scalar.indexCast v1622
  ![v1623.toNat, v1624.toNat]
def k0_off30 (v1625 : BitVec 32) : Fin 4 → Nat :=
  let c0_i32_1028 : BitVec 32 := 0#32
  let c0_i32_1029 : BitVec 32 := 0#32
  let c0_i32_1030 : BitVec 32 := 0#32
  ![v1625.toNat, 0, 0, 0]

def k0_chk15 (i : grid0.Coords) (v1625 : BitVec 32) : Prop :=
  (∀ (k0_h1 : k0_cond1 i = 1#1), ∀ a, (k0_off30 v1625) a + S1x128x8x128.size a ≤ S2560x128x8x128.size a)
theorem k0_off30_inb : ∀ (i : grid0.Coords) (v1625 : BitVec 32) (k0_hw15 : k0_chk15 i v1625), ∀ (k0_h1 : k0_cond1 i = 1#1), ∀ a, (k0_off30 v1625) a + S1x128x8x128.size a ≤ S2560x128x8x128.size a := fun i v1625 k0_hw15 k0_h1 => k0_hw15 k0_h1

def k0_off31 (i : grid0.Coords) : Fin 2 → Nat :=
  let c0_i32_1032 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_1031 : BitVec 32 := 20#32
  let v1632 : BitVec 32 := Scalar.muli v28 c20_i32_1031
  let v1633 : BitVec 32 := Scalar.addi c0_i32_1032 v1632
  let c15_i32_1033 : BitVec 32 := 15#32
  let v1634 : BitVec 32 := Scalar.addi v1633 c15_i32_1033
  let c0_i32_1035 : BitVec 32 := 0#32
  let v1636 : BitVec 1 := Scalar.cmpi .sgt v1634 c0_i32_1035
  let v1637 : BitVec 32 := Scalar.extui v1636
  let c0_i32_1036 : BitVec 32 := 0#32
  let v1638 : BitVec 1 := Scalar.cmpi .slt v1634 c0_i32_1036
  let v1639 : BitVec 32 := Scalar.extui v1638
  let v1640 : BitVec 32 := Scalar.subi v1637 v1639
  let c64_i32_1034 : BitVec 32 := 64#32
  let c0_i32_1037 : BitVec 32 := 0#32
  let v1641 : BitVec 1 := Scalar.cmpi .sgt c64_i32_1034 c0_i32_1037
  let v1642 : BitVec 32 := Scalar.extui v1641
  let c0_i32_1038 : BitVec 32 := 0#32
  let v1643 : BitVec 1 := Scalar.cmpi .slt c64_i32_1034 c0_i32_1038
  let v1644 : BitVec 32 := Scalar.extui v1643
  let v1645 : BitVec 32 := Scalar.subi v1642 v1644
  let v1646 : BitVec 1 := Scalar.cmpi .ne v1640 v1645
  let v1647 : BitVec 32 := Scalar.remsi v1634 c64_i32_1034
  let c0_i32_1039 : BitVec 32 := 0#32
  let v1648 : BitVec 1 := Scalar.cmpi .ne v1647 c0_i32_1039
  let v1649 : BitVec 1 := Scalar.andi v1646 v1648
  let v1635 : BitVec 32 := Scalar.divsi v1634 c64_i32_1034
  let c1_i32_1040 : BitVec 32 := 1#32
  let v1650 : BitVec 32 := Scalar.subi v1635 c1_i32_1040
  let v1651 : BitVec 32 := Scalar.select v1649 v1650 v1635
  let v1662 : Index := Scalar.indexCast v1651
  let c64_i32_1041 : BitVec 32 := 64#32
  let c0_i32_1042 : BitVec 32 := 0#32
  let v1652 : BitVec 1 := Scalar.cmpi .eq c64_i32_1041 c0_i32_1042
  let c1_i32_1043 : BitVec 32 := 1#32
  let v1653 : BitVec 32 := Scalar.select v1652 c1_i32_1043 c64_i32_1041
  let v1654 : BitVec 32 := Scalar.remsi v1634 v1653
  let c0_i32_1045 : BitVec 32 := 0#32
  let v1656 : BitVec 1 := Scalar.cmpi .slt v1654 c0_i32_1045
  let c0_i32_1046 : BitVec 32 := 0#32
  let v1657 : BitVec 1 := Scalar.cmpi .slt v1653 c0_i32_1046
  let v1658 : BitVec 1 := Scalar.xori v1656 v1657
  let c0_i32_1044 : BitVec 32 := 0#32
  let v1655 : BitVec 1 := Scalar.cmpi .ne v1654 c0_i32_1044
  let v1659 : BitVec 1 := Scalar.andi v1658 v1655
  let v1660 : BitVec 32 := Scalar.addi v1654 v1653
  let v1661 : BitVec 32 := Scalar.select v1659 v1660 v1654
  let v1663 : Index := Scalar.indexCast v1661
  ![v1662.toNat, v1663.toNat]
def k0_off32 (v1664 : BitVec 32) : Fin 4 → Nat :=
  let c0_i32_1053 : BitVec 32 := 0#32
  let c0_i32_1054 : BitVec 32 := 0#32
  let c0_i32_1055 : BitVec 32 := 0#32
  ![v1664.toNat, 0, 0, 0]

def k0_chk16 (i : grid0.Coords) (v1664 : BitVec 32) : Prop :=
  (∀ (k0_h1 : k0_cond1 i = 1#1), ∀ a, (k0_off32 v1664) a + S1x128x8x128.size a ≤ S2560x128x8x128.size a)
theorem k0_off32_inb : ∀ (i : grid0.Coords) (v1664 : BitVec 32) (k0_hw16 : k0_chk16 i v1664), ∀ (k0_h1 : k0_cond1 i = 1#1), ∀ a, (k0_off32 v1664) a + S1x128x8x128.size a ≤ S2560x128x8x128.size a := fun i v1664 k0_hw16 k0_h1 => k0_hw16 k0_h1

def k0_off33 (i : grid0.Coords) : Fin 2 → Nat :=
  let c0_i32_1057 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_1056 : BitVec 32 := 20#32
  let v1671 : BitVec 32 := Scalar.muli v28 c20_i32_1056
  let v1672 : BitVec 32 := Scalar.addi c0_i32_1057 v1671
  let c16_i32_1058 : BitVec 32 := 16#32
  let v1673 : BitVec 32 := Scalar.addi v1672 c16_i32_1058
  let c0_i32_1060 : BitVec 32 := 0#32
  let v1675 : BitVec 1 := Scalar.cmpi .sgt v1673 c0_i32_1060
  let v1676 : BitVec 32 := Scalar.extui v1675
  let c0_i32_1061 : BitVec 32 := 0#32
  let v1677 : BitVec 1 := Scalar.cmpi .slt v1673 c0_i32_1061
  let v1678 : BitVec 32 := Scalar.extui v1677
  let v1679 : BitVec 32 := Scalar.subi v1676 v1678
  let c64_i32_1059 : BitVec 32 := 64#32
  let c0_i32_1062 : BitVec 32 := 0#32
  let v1680 : BitVec 1 := Scalar.cmpi .sgt c64_i32_1059 c0_i32_1062
  let v1681 : BitVec 32 := Scalar.extui v1680
  let c0_i32_1063 : BitVec 32 := 0#32
  let v1682 : BitVec 1 := Scalar.cmpi .slt c64_i32_1059 c0_i32_1063
  let v1683 : BitVec 32 := Scalar.extui v1682
  let v1684 : BitVec 32 := Scalar.subi v1681 v1683
  let v1685 : BitVec 1 := Scalar.cmpi .ne v1679 v1684
  let v1686 : BitVec 32 := Scalar.remsi v1673 c64_i32_1059
  let c0_i32_1064 : BitVec 32 := 0#32
  let v1687 : BitVec 1 := Scalar.cmpi .ne v1686 c0_i32_1064
  let v1688 : BitVec 1 := Scalar.andi v1685 v1687
  let v1674 : BitVec 32 := Scalar.divsi v1673 c64_i32_1059
  let c1_i32_1065 : BitVec 32 := 1#32
  let v1689 : BitVec 32 := Scalar.subi v1674 c1_i32_1065
  let v1690 : BitVec 32 := Scalar.select v1688 v1689 v1674
  let v1701 : Index := Scalar.indexCast v1690
  let c64_i32_1066 : BitVec 32 := 64#32
  let c0_i32_1067 : BitVec 32 := 0#32
  let v1691 : BitVec 1 := Scalar.cmpi .eq c64_i32_1066 c0_i32_1067
  let c1_i32_1068 : BitVec 32 := 1#32
  let v1692 : BitVec 32 := Scalar.select v1691 c1_i32_1068 c64_i32_1066
  let v1693 : BitVec 32 := Scalar.remsi v1673 v1692
  let c0_i32_1070 : BitVec 32 := 0#32
  let v1695 : BitVec 1 := Scalar.cmpi .slt v1693 c0_i32_1070
  let c0_i32_1071 : BitVec 32 := 0#32
  let v1696 : BitVec 1 := Scalar.cmpi .slt v1692 c0_i32_1071
  let v1697 : BitVec 1 := Scalar.xori v1695 v1696
  let c0_i32_1069 : BitVec 32 := 0#32
  let v1694 : BitVec 1 := Scalar.cmpi .ne v1693 c0_i32_1069
  let v1698 : BitVec 1 := Scalar.andi v1697 v1694
  let v1699 : BitVec 32 := Scalar.addi v1693 v1692
  let v1700 : BitVec 32 := Scalar.select v1698 v1699 v1693
  let v1702 : Index := Scalar.indexCast v1700
  ![v1701.toNat, v1702.toNat]
def k0_off34 (v1703 : BitVec 32) : Fin 4 → Nat :=
  let c0_i32_1078 : BitVec 32 := 0#32
  let c0_i32_1079 : BitVec 32 := 0#32
  let c0_i32_1080 : BitVec 32 := 0#32
  ![v1703.toNat, 0, 0, 0]

def k0_chk17 (i : grid0.Coords) (v1703 : BitVec 32) : Prop :=
  (∀ (k0_h1 : k0_cond1 i = 1#1), ∀ a, (k0_off34 v1703) a + S1x128x8x128.size a ≤ S2560x128x8x128.size a)
theorem k0_off34_inb : ∀ (i : grid0.Coords) (v1703 : BitVec 32) (k0_hw17 : k0_chk17 i v1703), ∀ (k0_h1 : k0_cond1 i = 1#1), ∀ a, (k0_off34 v1703) a + S1x128x8x128.size a ≤ S2560x128x8x128.size a := fun i v1703 k0_hw17 k0_h1 => k0_hw17 k0_h1

def k0_off35 (i : grid0.Coords) : Fin 2 → Nat :=
  let c0_i32_1082 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_1081 : BitVec 32 := 20#32
  let v1710 : BitVec 32 := Scalar.muli v28 c20_i32_1081
  let v1711 : BitVec 32 := Scalar.addi c0_i32_1082 v1710
  let c17_i32_1083 : BitVec 32 := 17#32
  let v1712 : BitVec 32 := Scalar.addi v1711 c17_i32_1083
  let c0_i32_1085 : BitVec 32 := 0#32
  let v1714 : BitVec 1 := Scalar.cmpi .sgt v1712 c0_i32_1085
  let v1715 : BitVec 32 := Scalar.extui v1714
  let c0_i32_1086 : BitVec 32 := 0#32
  let v1716 : BitVec 1 := Scalar.cmpi .slt v1712 c0_i32_1086
  let v1717 : BitVec 32 := Scalar.extui v1716
  let v1718 : BitVec 32 := Scalar.subi v1715 v1717
  let c64_i32_1084 : BitVec 32 := 64#32
  let c0_i32_1087 : BitVec 32 := 0#32
  let v1719 : BitVec 1 := Scalar.cmpi .sgt c64_i32_1084 c0_i32_1087
  let v1720 : BitVec 32 := Scalar.extui v1719
  let c0_i32_1088 : BitVec 32 := 0#32
  let v1721 : BitVec 1 := Scalar.cmpi .slt c64_i32_1084 c0_i32_1088
  let v1722 : BitVec 32 := Scalar.extui v1721
  let v1723 : BitVec 32 := Scalar.subi v1720 v1722
  let v1724 : BitVec 1 := Scalar.cmpi .ne v1718 v1723
  let v1725 : BitVec 32 := Scalar.remsi v1712 c64_i32_1084
  let c0_i32_1089 : BitVec 32 := 0#32
  let v1726 : BitVec 1 := Scalar.cmpi .ne v1725 c0_i32_1089
  let v1727 : BitVec 1 := Scalar.andi v1724 v1726
  let v1713 : BitVec 32 := Scalar.divsi v1712 c64_i32_1084
  let c1_i32_1090 : BitVec 32 := 1#32
  let v1728 : BitVec 32 := Scalar.subi v1713 c1_i32_1090
  let v1729 : BitVec 32 := Scalar.select v1727 v1728 v1713
  let v1740 : Index := Scalar.indexCast v1729
  let c64_i32_1091 : BitVec 32 := 64#32
  let c0_i32_1092 : BitVec 32 := 0#32
  let v1730 : BitVec 1 := Scalar.cmpi .eq c64_i32_1091 c0_i32_1092
  let c1_i32_1093 : BitVec 32 := 1#32
  let v1731 : BitVec 32 := Scalar.select v1730 c1_i32_1093 c64_i32_1091
  let v1732 : BitVec 32 := Scalar.remsi v1712 v1731
  let c0_i32_1095 : BitVec 32 := 0#32
  let v1734 : BitVec 1 := Scalar.cmpi .slt v1732 c0_i32_1095
  let c0_i32_1096 : BitVec 32 := 0#32
  let v1735 : BitVec 1 := Scalar.cmpi .slt v1731 c0_i32_1096
  let v1736 : BitVec 1 := Scalar.xori v1734 v1735
  let c0_i32_1094 : BitVec 32 := 0#32
  let v1733 : BitVec 1 := Scalar.cmpi .ne v1732 c0_i32_1094
  let v1737 : BitVec 1 := Scalar.andi v1736 v1733
  let v1738 : BitVec 32 := Scalar.addi v1732 v1731
  let v1739 : BitVec 32 := Scalar.select v1737 v1738 v1732
  let v1741 : Index := Scalar.indexCast v1739
  ![v1740.toNat, v1741.toNat]
def k0_off36 (v1742 : BitVec 32) : Fin 4 → Nat :=
  let c0_i32_1103 : BitVec 32 := 0#32
  let c0_i32_1104 : BitVec 32 := 0#32
  let c0_i32_1105 : BitVec 32 := 0#32
  ![v1742.toNat, 0, 0, 0]

def k0_chk18 (i : grid0.Coords) (v1742 : BitVec 32) : Prop :=
  (∀ (k0_h1 : k0_cond1 i = 1#1), ∀ a, (k0_off36 v1742) a + S1x128x8x128.size a ≤ S2560x128x8x128.size a)
theorem k0_off36_inb : ∀ (i : grid0.Coords) (v1742 : BitVec 32) (k0_hw18 : k0_chk18 i v1742), ∀ (k0_h1 : k0_cond1 i = 1#1), ∀ a, (k0_off36 v1742) a + S1x128x8x128.size a ≤ S2560x128x8x128.size a := fun i v1742 k0_hw18 k0_h1 => k0_hw18 k0_h1

def k0_off37 (i : grid0.Coords) : Fin 2 → Nat :=
  let c0_i32_1107 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_1106 : BitVec 32 := 20#32
  let v1749 : BitVec 32 := Scalar.muli v28 c20_i32_1106
  let v1750 : BitVec 32 := Scalar.addi c0_i32_1107 v1749
  let c18_i32_1108 : BitVec 32 := 18#32
  let v1751 : BitVec 32 := Scalar.addi v1750 c18_i32_1108
  let c0_i32_1110 : BitVec 32 := 0#32
  let v1753 : BitVec 1 := Scalar.cmpi .sgt v1751 c0_i32_1110
  let v1754 : BitVec 32 := Scalar.extui v1753
  let c0_i32_1111 : BitVec 32 := 0#32
  let v1755 : BitVec 1 := Scalar.cmpi .slt v1751 c0_i32_1111
  let v1756 : BitVec 32 := Scalar.extui v1755
  let v1757 : BitVec 32 := Scalar.subi v1754 v1756
  let c64_i32_1109 : BitVec 32 := 64#32
  let c0_i32_1112 : BitVec 32 := 0#32
  let v1758 : BitVec 1 := Scalar.cmpi .sgt c64_i32_1109 c0_i32_1112
  let v1759 : BitVec 32 := Scalar.extui v1758
  let c0_i32_1113 : BitVec 32 := 0#32
  let v1760 : BitVec 1 := Scalar.cmpi .slt c64_i32_1109 c0_i32_1113
  let v1761 : BitVec 32 := Scalar.extui v1760
  let v1762 : BitVec 32 := Scalar.subi v1759 v1761
  let v1763 : BitVec 1 := Scalar.cmpi .ne v1757 v1762
  let v1764 : BitVec 32 := Scalar.remsi v1751 c64_i32_1109
  let c0_i32_1114 : BitVec 32 := 0#32
  let v1765 : BitVec 1 := Scalar.cmpi .ne v1764 c0_i32_1114
  let v1766 : BitVec 1 := Scalar.andi v1763 v1765
  let v1752 : BitVec 32 := Scalar.divsi v1751 c64_i32_1109
  let c1_i32_1115 : BitVec 32 := 1#32
  let v1767 : BitVec 32 := Scalar.subi v1752 c1_i32_1115
  let v1768 : BitVec 32 := Scalar.select v1766 v1767 v1752
  let v1779 : Index := Scalar.indexCast v1768
  let c64_i32_1116 : BitVec 32 := 64#32
  let c0_i32_1117 : BitVec 32 := 0#32
  let v1769 : BitVec 1 := Scalar.cmpi .eq c64_i32_1116 c0_i32_1117
  let c1_i32_1118 : BitVec 32 := 1#32
  let v1770 : BitVec 32 := Scalar.select v1769 c1_i32_1118 c64_i32_1116
  let v1771 : BitVec 32 := Scalar.remsi v1751 v1770
  let c0_i32_1120 : BitVec 32 := 0#32
  let v1773 : BitVec 1 := Scalar.cmpi .slt v1771 c0_i32_1120
  let c0_i32_1121 : BitVec 32 := 0#32
  let v1774 : BitVec 1 := Scalar.cmpi .slt v1770 c0_i32_1121
  let v1775 : BitVec 1 := Scalar.xori v1773 v1774
  let c0_i32_1119 : BitVec 32 := 0#32
  let v1772 : BitVec 1 := Scalar.cmpi .ne v1771 c0_i32_1119
  let v1776 : BitVec 1 := Scalar.andi v1775 v1772
  let v1777 : BitVec 32 := Scalar.addi v1771 v1770
  let v1778 : BitVec 32 := Scalar.select v1776 v1777 v1771
  let v1780 : Index := Scalar.indexCast v1778
  ![v1779.toNat, v1780.toNat]
def k0_off38 (v1781 : BitVec 32) : Fin 4 → Nat :=
  let c0_i32_1128 : BitVec 32 := 0#32
  let c0_i32_1129 : BitVec 32 := 0#32
  let c0_i32_1130 : BitVec 32 := 0#32
  ![v1781.toNat, 0, 0, 0]

def k0_chk19 (i : grid0.Coords) (v1781 : BitVec 32) : Prop :=
  (∀ (k0_h1 : k0_cond1 i = 1#1), ∀ a, (k0_off38 v1781) a + S1x128x8x128.size a ≤ S2560x128x8x128.size a)
theorem k0_off38_inb : ∀ (i : grid0.Coords) (v1781 : BitVec 32) (k0_hw19 : k0_chk19 i v1781), ∀ (k0_h1 : k0_cond1 i = 1#1), ∀ a, (k0_off38 v1781) a + S1x128x8x128.size a ≤ S2560x128x8x128.size a := fun i v1781 k0_hw19 k0_h1 => k0_hw19 k0_h1

def k0_off39 (i : grid0.Coords) : Fin 2 → Nat :=
  let c0_i32_1132 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c20_i32_1131 : BitVec 32 := 20#32
  let v1788 : BitVec 32 := Scalar.muli v28 c20_i32_1131
  let v1789 : BitVec 32 := Scalar.addi c0_i32_1132 v1788
  let c19_i32_1133 : BitVec 32 := 19#32
  let v1790 : BitVec 32 := Scalar.addi v1789 c19_i32_1133
  let c0_i32_1135 : BitVec 32 := 0#32
  let v1792 : BitVec 1 := Scalar.cmpi .sgt v1790 c0_i32_1135
  let v1793 : BitVec 32 := Scalar.extui v1792
  let c0_i32_1136 : BitVec 32 := 0#32
  let v1794 : BitVec 1 := Scalar.cmpi .slt v1790 c0_i32_1136
  let v1795 : BitVec 32 := Scalar.extui v1794
  let v1796 : BitVec 32 := Scalar.subi v1793 v1795
  let c64_i32_1134 : BitVec 32 := 64#32
  let c0_i32_1137 : BitVec 32 := 0#32
  let v1797 : BitVec 1 := Scalar.cmpi .sgt c64_i32_1134 c0_i32_1137
  let v1798 : BitVec 32 := Scalar.extui v1797
  let c0_i32_1138 : BitVec 32 := 0#32
  let v1799 : BitVec 1 := Scalar.cmpi .slt c64_i32_1134 c0_i32_1138
  let v1800 : BitVec 32 := Scalar.extui v1799
  let v1801 : BitVec 32 := Scalar.subi v1798 v1800
  let v1802 : BitVec 1 := Scalar.cmpi .ne v1796 v1801
  let v1803 : BitVec 32 := Scalar.remsi v1790 c64_i32_1134
  let c0_i32_1139 : BitVec 32 := 0#32
  let v1804 : BitVec 1 := Scalar.cmpi .ne v1803 c0_i32_1139
  let v1805 : BitVec 1 := Scalar.andi v1802 v1804
  let v1791 : BitVec 32 := Scalar.divsi v1790 c64_i32_1134
  let c1_i32_1140 : BitVec 32 := 1#32
  let v1806 : BitVec 32 := Scalar.subi v1791 c1_i32_1140
  let v1807 : BitVec 32 := Scalar.select v1805 v1806 v1791
  let v1818 : Index := Scalar.indexCast v1807
  let c64_i32_1141 : BitVec 32 := 64#32
  let c0_i32_1142 : BitVec 32 := 0#32
  let v1808 : BitVec 1 := Scalar.cmpi .eq c64_i32_1141 c0_i32_1142
  let c1_i32_1143 : BitVec 32 := 1#32
  let v1809 : BitVec 32 := Scalar.select v1808 c1_i32_1143 c64_i32_1141
  let v1810 : BitVec 32 := Scalar.remsi v1790 v1809
  let c0_i32_1145 : BitVec 32 := 0#32
  let v1812 : BitVec 1 := Scalar.cmpi .slt v1810 c0_i32_1145
  let c0_i32_1146 : BitVec 32 := 0#32
  let v1813 : BitVec 1 := Scalar.cmpi .slt v1809 c0_i32_1146
  let v1814 : BitVec 1 := Scalar.xori v1812 v1813
  let c0_i32_1144 : BitVec 32 := 0#32
  let v1811 : BitVec 1 := Scalar.cmpi .ne v1810 c0_i32_1144
  let v1815 : BitVec 1 := Scalar.andi v1814 v1811
  let v1816 : BitVec 32 := Scalar.addi v1810 v1809
  let v1817 : BitVec 32 := Scalar.select v1815 v1816 v1810
  let v1819 : Index := Scalar.indexCast v1817
  ![v1818.toNat, v1819.toNat]
def k0_off40 (v1820 : BitVec 32) : Fin 4 → Nat :=
  let c0_i32_1153 : BitVec 32 := 0#32
  let c0_i32_1154 : BitVec 32 := 0#32
  let c0_i32_1155 : BitVec 32 := 0#32
  ![v1820.toNat, 0, 0, 0]

def k0_chk20 (i : grid0.Coords) (v1820 : BitVec 32) : Prop :=
  (∀ (k0_h1 : k0_cond1 i = 1#1), ∀ a, (k0_off40 v1820) a + S1x128x8x128.size a ≤ S2560x128x8x128.size a)
theorem k0_off40_inb : ∀ (i : grid0.Coords) (v1820 : BitVec 32) (k0_hw20 : k0_chk20 i v1820), ∀ (k0_h1 : k0_cond1 i = 1#1), ∀ a, (k0_off40 v1820) a + S1x128x8x128.size a ≤ S2560x128x8x128.size a := fun i v1820 k0_hw20 k0_h1 => k0_hw20 k0_h1

def k0_off41 (i : grid0.Coords) : Fin 1 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  ![v38.toNat]
def k0_off42 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let c0_i32_18 : BitVec 32 := 0#32
  let c0_i32_19 : BitVec 32 := 0#32
  let c0_i32_20 : BitVec 32 := 0#32
  let c0_i32_21 : BitVec 32 := 0#32
  ![v38.toNat, 0, 0, 0, 0]
def k0_off43 (i : grid0.Coords) : Fin 2 → Nat :=
  let c0_i32_30 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32 : BitVec 32 := 20#32
  let v52 : BitVec 32 := Scalar.muli v50 c20_i32
  let v53 : BitVec 32 := Scalar.addi c0_i32_30 v52
  let c0_i32_31 : BitVec 32 := 0#32
  let v54 : BitVec 32 := Scalar.addi v53 c0_i32_31
  let c0_i32_33 : BitVec 32 := 0#32
  let v56 : BitVec 1 := Scalar.cmpi .sgt v54 c0_i32_33
  let v57 : BitVec 32 := Scalar.extui v56
  let c0_i32_34 : BitVec 32 := 0#32
  let v58 : BitVec 1 := Scalar.cmpi .slt v54 c0_i32_34
  let v59 : BitVec 32 := Scalar.extui v58
  let v60 : BitVec 32 := Scalar.subi v57 v59
  let c64_i32_32 : BitVec 32 := 64#32
  let c0_i32_35 : BitVec 32 := 0#32
  let v61 : BitVec 1 := Scalar.cmpi .sgt c64_i32_32 c0_i32_35
  let v62 : BitVec 32 := Scalar.extui v61
  let c0_i32_36 : BitVec 32 := 0#32
  let v63 : BitVec 1 := Scalar.cmpi .slt c64_i32_32 c0_i32_36
  let v64 : BitVec 32 := Scalar.extui v63
  let v65 : BitVec 32 := Scalar.subi v62 v64
  let v66 : BitVec 1 := Scalar.cmpi .ne v60 v65
  let v67 : BitVec 32 := Scalar.remsi v54 c64_i32_32
  let c0_i32_37 : BitVec 32 := 0#32
  let v68 : BitVec 1 := Scalar.cmpi .ne v67 c0_i32_37
  let v69 : BitVec 1 := Scalar.andi v66 v68
  let v55 : BitVec 32 := Scalar.divsi v54 c64_i32_32
  let c1_i32_38 : BitVec 32 := 1#32
  let v70 : BitVec 32 := Scalar.subi v55 c1_i32_38
  let v71 : BitVec 32 := Scalar.select v69 v70 v55
  let v82 : Index := Scalar.indexCast v71
  let c64_i32_39 : BitVec 32 := 64#32
  let c0_i32_40 : BitVec 32 := 0#32
  let v72 : BitVec 1 := Scalar.cmpi .eq c64_i32_39 c0_i32_40
  let c1_i32_41 : BitVec 32 := 1#32
  let v73 : BitVec 32 := Scalar.select v72 c1_i32_41 c64_i32_39
  let v74 : BitVec 32 := Scalar.remsi v54 v73
  let c0_i32_43 : BitVec 32 := 0#32
  let v76 : BitVec 1 := Scalar.cmpi .slt v74 c0_i32_43
  let c0_i32_44 : BitVec 32 := 0#32
  let v77 : BitVec 1 := Scalar.cmpi .slt v73 c0_i32_44
  let v78 : BitVec 1 := Scalar.xori v76 v77
  let c0_i32_42 : BitVec 32 := 0#32
  let v75 : BitVec 1 := Scalar.cmpi .ne v74 c0_i32_42
  let v79 : BitVec 1 := Scalar.andi v78 v75
  let v80 : BitVec 32 := Scalar.addi v74 v73
  let v81 : BitVec 32 := Scalar.select v79 v80 v74
  let v83 : Index := Scalar.indexCast v81
  ![v82.toNat, v83.toNat]
def k0_off44 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off45 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c0_i32_45 : BitVec 32 := 0#32
  let c0_i32_46 : BitVec 32 := 0#32
  let c0_i32_47 : BitVec 32 := 0#32
  let c0_i32_48 : BitVec 32 := 0#32
  ![v51.toNat, 0, 0, 0, 0]
def k0_off46 (v84 : BitVec 32) : Fin 4 → Nat :=
  let c0_i32_49 : BitVec 32 := 0#32
  let c0_i32_50 : BitVec 32 := 0#32
  let c0_i32_51 : BitVec 32 := 0#32
  ![v84.toNat, 0, 0, 0]

def k0_chk21 (v84 : BitVec 32) : Prop :=
  (∀ a, (k0_off46 v84) a + S1x128x8x128.size a ≤ S2560x128x8x128.size a)
theorem k0_off46_inb : ∀ (v84 : BitVec 32) (k0_hw21 : k0_chk21 v84), ∀ a, (k0_off46 v84) a + S1x128x8x128.size a ≤ S2560x128x8x128.size a := fun v84 k0_hw21 => k0_hw21

def k0_off47 (i : grid0.Coords) : Fin 2 → Nat :=
  let c0_i32_53 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_52 : BitVec 32 := 20#32
  let v91 : BitVec 32 := Scalar.muli v50 c20_i32_52
  let v92 : BitVec 32 := Scalar.addi c0_i32_53 v91
  let c1_i32_54 : BitVec 32 := 1#32
  let v93 : BitVec 32 := Scalar.addi v92 c1_i32_54
  let c0_i32_56 : BitVec 32 := 0#32
  let v95 : BitVec 1 := Scalar.cmpi .sgt v93 c0_i32_56
  let v96 : BitVec 32 := Scalar.extui v95
  let c0_i32_57 : BitVec 32 := 0#32
  let v97 : BitVec 1 := Scalar.cmpi .slt v93 c0_i32_57
  let v98 : BitVec 32 := Scalar.extui v97
  let v99 : BitVec 32 := Scalar.subi v96 v98
  let c64_i32_55 : BitVec 32 := 64#32
  let c0_i32_58 : BitVec 32 := 0#32
  let v100 : BitVec 1 := Scalar.cmpi .sgt c64_i32_55 c0_i32_58
  let v101 : BitVec 32 := Scalar.extui v100
  let c0_i32_59 : BitVec 32 := 0#32
  let v102 : BitVec 1 := Scalar.cmpi .slt c64_i32_55 c0_i32_59
  let v103 : BitVec 32 := Scalar.extui v102
  let v104 : BitVec 32 := Scalar.subi v101 v103
  let v105 : BitVec 1 := Scalar.cmpi .ne v99 v104
  let v106 : BitVec 32 := Scalar.remsi v93 c64_i32_55
  let c0_i32_60 : BitVec 32 := 0#32
  let v107 : BitVec 1 := Scalar.cmpi .ne v106 c0_i32_60
  let v108 : BitVec 1 := Scalar.andi v105 v107
  let v94 : BitVec 32 := Scalar.divsi v93 c64_i32_55
  let c1_i32_61 : BitVec 32 := 1#32
  let v109 : BitVec 32 := Scalar.subi v94 c1_i32_61
  let v110 : BitVec 32 := Scalar.select v108 v109 v94
  let v121 : Index := Scalar.indexCast v110
  let c64_i32_62 : BitVec 32 := 64#32
  let c0_i32_63 : BitVec 32 := 0#32
  let v111 : BitVec 1 := Scalar.cmpi .eq c64_i32_62 c0_i32_63
  let c1_i32_64 : BitVec 32 := 1#32
  let v112 : BitVec 32 := Scalar.select v111 c1_i32_64 c64_i32_62
  let v113 : BitVec 32 := Scalar.remsi v93 v112
  let c0_i32_66 : BitVec 32 := 0#32
  let v115 : BitVec 1 := Scalar.cmpi .slt v113 c0_i32_66
  let c0_i32_67 : BitVec 32 := 0#32
  let v116 : BitVec 1 := Scalar.cmpi .slt v112 c0_i32_67
  let v117 : BitVec 1 := Scalar.xori v115 v116
  let c0_i32_65 : BitVec 32 := 0#32
  let v114 : BitVec 1 := Scalar.cmpi .ne v113 c0_i32_65
  let v118 : BitVec 1 := Scalar.andi v117 v114
  let v119 : BitVec 32 := Scalar.addi v113 v112
  let v120 : BitVec 32 := Scalar.select v118 v119 v113
  let v122 : Index := Scalar.indexCast v120
  ![v121.toNat, v122.toNat]
def k0_off48 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off49 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c1_i32_68 : BitVec 32 := 1#32
  let c0_i32_69 : BitVec 32 := 0#32
  let c0_i32_70 : BitVec 32 := 0#32
  let c0_i32_71 : BitVec 32 := 0#32
  ![v51.toNat, 1, 0, 0, 0]
def k0_off50 (v123 : BitVec 32) : Fin 4 → Nat :=
  let c0_i32_72 : BitVec 32 := 0#32
  let c0_i32_73 : BitVec 32 := 0#32
  let c0_i32_74 : BitVec 32 := 0#32
  ![v123.toNat, 0, 0, 0]

def k0_chk22 (v123 : BitVec 32) : Prop :=
  (∀ a, (k0_off50 v123) a + S1x128x8x128.size a ≤ S2560x128x8x128.size a)
theorem k0_off50_inb : ∀ (v123 : BitVec 32) (k0_hw22 : k0_chk22 v123), ∀ a, (k0_off50 v123) a + S1x128x8x128.size a ≤ S2560x128x8x128.size a := fun v123 k0_hw22 => k0_hw22

def k0_off51 (i : grid0.Coords) : Fin 2 → Nat :=
  let c0_i32_76 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_75 : BitVec 32 := 20#32
  let v130 : BitVec 32 := Scalar.muli v50 c20_i32_75
  let v131 : BitVec 32 := Scalar.addi c0_i32_76 v130
  let c2_i32_77 : BitVec 32 := 2#32
  let v132 : BitVec 32 := Scalar.addi v131 c2_i32_77
  let c0_i32_79 : BitVec 32 := 0#32
  let v134 : BitVec 1 := Scalar.cmpi .sgt v132 c0_i32_79
  let v135 : BitVec 32 := Scalar.extui v134
  let c0_i32_80 : BitVec 32 := 0#32
  let v136 : BitVec 1 := Scalar.cmpi .slt v132 c0_i32_80
  let v137 : BitVec 32 := Scalar.extui v136
  let v138 : BitVec 32 := Scalar.subi v135 v137
  let c64_i32_78 : BitVec 32 := 64#32
  let c0_i32_81 : BitVec 32 := 0#32
  let v139 : BitVec 1 := Scalar.cmpi .sgt c64_i32_78 c0_i32_81
  let v140 : BitVec 32 := Scalar.extui v139
  let c0_i32_82 : BitVec 32 := 0#32
  let v141 : BitVec 1 := Scalar.cmpi .slt c64_i32_78 c0_i32_82
  let v142 : BitVec 32 := Scalar.extui v141
  let v143 : BitVec 32 := Scalar.subi v140 v142
  let v144 : BitVec 1 := Scalar.cmpi .ne v138 v143
  let v145 : BitVec 32 := Scalar.remsi v132 c64_i32_78
  let c0_i32_83 : BitVec 32 := 0#32
  let v146 : BitVec 1 := Scalar.cmpi .ne v145 c0_i32_83
  let v147 : BitVec 1 := Scalar.andi v144 v146
  let v133 : BitVec 32 := Scalar.divsi v132 c64_i32_78
  let c1_i32_84 : BitVec 32 := 1#32
  let v148 : BitVec 32 := Scalar.subi v133 c1_i32_84
  let v149 : BitVec 32 := Scalar.select v147 v148 v133
  let v160 : Index := Scalar.indexCast v149
  let c64_i32_85 : BitVec 32 := 64#32
  let c0_i32_86 : BitVec 32 := 0#32
  let v150 : BitVec 1 := Scalar.cmpi .eq c64_i32_85 c0_i32_86
  let c1_i32_87 : BitVec 32 := 1#32
  let v151 : BitVec 32 := Scalar.select v150 c1_i32_87 c64_i32_85
  let v152 : BitVec 32 := Scalar.remsi v132 v151
  let c0_i32_89 : BitVec 32 := 0#32
  let v154 : BitVec 1 := Scalar.cmpi .slt v152 c0_i32_89
  let c0_i32_90 : BitVec 32 := 0#32
  let v155 : BitVec 1 := Scalar.cmpi .slt v151 c0_i32_90
  let v156 : BitVec 1 := Scalar.xori v154 v155
  let c0_i32_88 : BitVec 32 := 0#32
  let v153 : BitVec 1 := Scalar.cmpi .ne v152 c0_i32_88
  let v157 : BitVec 1 := Scalar.andi v156 v153
  let v158 : BitVec 32 := Scalar.addi v152 v151
  let v159 : BitVec 32 := Scalar.select v157 v158 v152
  let v161 : Index := Scalar.indexCast v159
  ![v160.toNat, v161.toNat]
def k0_off52 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off53 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c2_i32_91 : BitVec 32 := 2#32
  let c0_i32_92 : BitVec 32 := 0#32
  let c0_i32_93 : BitVec 32 := 0#32
  let c0_i32_94 : BitVec 32 := 0#32
  ![v51.toNat, 2, 0, 0, 0]
def k0_off54 (v162 : BitVec 32) : Fin 4 → Nat :=
  let c0_i32_95 : BitVec 32 := 0#32
  let c0_i32_96 : BitVec 32 := 0#32
  let c0_i32_97 : BitVec 32 := 0#32
  ![v162.toNat, 0, 0, 0]

def k0_chk23 (v162 : BitVec 32) : Prop :=
  (∀ a, (k0_off54 v162) a + S1x128x8x128.size a ≤ S2560x128x8x128.size a)
theorem k0_off54_inb : ∀ (v162 : BitVec 32) (k0_hw23 : k0_chk23 v162), ∀ a, (k0_off54 v162) a + S1x128x8x128.size a ≤ S2560x128x8x128.size a := fun v162 k0_hw23 => k0_hw23

def k0_off55 (i : grid0.Coords) : Fin 2 → Nat :=
  let c0_i32_99 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_98 : BitVec 32 := 20#32
  let v169 : BitVec 32 := Scalar.muli v50 c20_i32_98
  let v170 : BitVec 32 := Scalar.addi c0_i32_99 v169
  let c3_i32 : BitVec 32 := 3#32
  let v171 : BitVec 32 := Scalar.addi v170 c3_i32
  let c0_i32_101 : BitVec 32 := 0#32
  let v173 : BitVec 1 := Scalar.cmpi .sgt v171 c0_i32_101
  let v174 : BitVec 32 := Scalar.extui v173
  let c0_i32_102 : BitVec 32 := 0#32
  let v175 : BitVec 1 := Scalar.cmpi .slt v171 c0_i32_102
  let v176 : BitVec 32 := Scalar.extui v175
  let v177 : BitVec 32 := Scalar.subi v174 v176
  let c64_i32_100 : BitVec 32 := 64#32
  let c0_i32_103 : BitVec 32 := 0#32
  let v178 : BitVec 1 := Scalar.cmpi .sgt c64_i32_100 c0_i32_103
  let v179 : BitVec 32 := Scalar.extui v178
  let c0_i32_104 : BitVec 32 := 0#32
  let v180 : BitVec 1 := Scalar.cmpi .slt c64_i32_100 c0_i32_104
  let v181 : BitVec 32 := Scalar.extui v180
  let v182 : BitVec 32 := Scalar.subi v179 v181
  let v183 : BitVec 1 := Scalar.cmpi .ne v177 v182
  let v184 : BitVec 32 := Scalar.remsi v171 c64_i32_100
  let c0_i32_105 : BitVec 32 := 0#32
  let v185 : BitVec 1 := Scalar.cmpi .ne v184 c0_i32_105
  let v186 : BitVec 1 := Scalar.andi v183 v185
  let v172 : BitVec 32 := Scalar.divsi v171 c64_i32_100
  let c1_i32_106 : BitVec 32 := 1#32
  let v187 : BitVec 32 := Scalar.subi v172 c1_i32_106
  let v188 : BitVec 32 := Scalar.select v186 v187 v172
  let v199 : Index := Scalar.indexCast v188
  let c64_i32_107 : BitVec 32 := 64#32
  let c0_i32_108 : BitVec 32 := 0#32
  let v189 : BitVec 1 := Scalar.cmpi .eq c64_i32_107 c0_i32_108
  let c1_i32_109 : BitVec 32 := 1#32
  let v190 : BitVec 32 := Scalar.select v189 c1_i32_109 c64_i32_107
  let v191 : BitVec 32 := Scalar.remsi v171 v190
  let c0_i32_111 : BitVec 32 := 0#32
  let v193 : BitVec 1 := Scalar.cmpi .slt v191 c0_i32_111
  let c0_i32_112 : BitVec 32 := 0#32
  let v194 : BitVec 1 := Scalar.cmpi .slt v190 c0_i32_112
  let v195 : BitVec 1 := Scalar.xori v193 v194
  let c0_i32_110 : BitVec 32 := 0#32
  let v192 : BitVec 1 := Scalar.cmpi .ne v191 c0_i32_110
  let v196 : BitVec 1 := Scalar.andi v195 v192
  let v197 : BitVec 32 := Scalar.addi v191 v190
  let v198 : BitVec 32 := Scalar.select v196 v197 v191
  let v200 : Index := Scalar.indexCast v198
  ![v199.toNat, v200.toNat]
def k0_off56 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off57 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c3_i32_113 : BitVec 32 := 3#32
  let c0_i32_114 : BitVec 32 := 0#32
  let c0_i32_115 : BitVec 32 := 0#32
  let c0_i32_116 : BitVec 32 := 0#32
  ![v51.toNat, 3, 0, 0, 0]
def k0_off58 (v201 : BitVec 32) : Fin 4 → Nat :=
  let c0_i32_117 : BitVec 32 := 0#32
  let c0_i32_118 : BitVec 32 := 0#32
  let c0_i32_119 : BitVec 32 := 0#32
  ![v201.toNat, 0, 0, 0]

def k0_chk24 (v201 : BitVec 32) : Prop :=
  (∀ a, (k0_off58 v201) a + S1x128x8x128.size a ≤ S2560x128x8x128.size a)
theorem k0_off58_inb : ∀ (v201 : BitVec 32) (k0_hw24 : k0_chk24 v201), ∀ a, (k0_off58 v201) a + S1x128x8x128.size a ≤ S2560x128x8x128.size a := fun v201 k0_hw24 => k0_hw24

def k0_off59 (i : grid0.Coords) : Fin 2 → Nat :=
  let c0_i32_121 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_120 : BitVec 32 := 20#32
  let v208 : BitVec 32 := Scalar.muli v50 c20_i32_120
  let v209 : BitVec 32 := Scalar.addi c0_i32_121 v208
  let c4_i32 : BitVec 32 := 4#32
  let v210 : BitVec 32 := Scalar.addi v209 c4_i32
  let c0_i32_123 : BitVec 32 := 0#32
  let v212 : BitVec 1 := Scalar.cmpi .sgt v210 c0_i32_123
  let v213 : BitVec 32 := Scalar.extui v212
  let c0_i32_124 : BitVec 32 := 0#32
  let v214 : BitVec 1 := Scalar.cmpi .slt v210 c0_i32_124
  let v215 : BitVec 32 := Scalar.extui v214
  let v216 : BitVec 32 := Scalar.subi v213 v215
  let c64_i32_122 : BitVec 32 := 64#32
  let c0_i32_125 : BitVec 32 := 0#32
  let v217 : BitVec 1 := Scalar.cmpi .sgt c64_i32_122 c0_i32_125
  let v218 : BitVec 32 := Scalar.extui v217
  let c0_i32_126 : BitVec 32 := 0#32
  let v219 : BitVec 1 := Scalar.cmpi .slt c64_i32_122 c0_i32_126
  let v220 : BitVec 32 := Scalar.extui v219
  let v221 : BitVec 32 := Scalar.subi v218 v220
  let v222 : BitVec 1 := Scalar.cmpi .ne v216 v221
  let v223 : BitVec 32 := Scalar.remsi v210 c64_i32_122
  let c0_i32_127 : BitVec 32 := 0#32
  let v224 : BitVec 1 := Scalar.cmpi .ne v223 c0_i32_127
  let v225 : BitVec 1 := Scalar.andi v222 v224
  let v211 : BitVec 32 := Scalar.divsi v210 c64_i32_122
  let c1_i32_128 : BitVec 32 := 1#32
  let v226 : BitVec 32 := Scalar.subi v211 c1_i32_128
  let v227 : BitVec 32 := Scalar.select v225 v226 v211
  let v238 : Index := Scalar.indexCast v227
  let c64_i32_129 : BitVec 32 := 64#32
  let c0_i32_130 : BitVec 32 := 0#32
  let v228 : BitVec 1 := Scalar.cmpi .eq c64_i32_129 c0_i32_130
  let c1_i32_131 : BitVec 32 := 1#32
  let v229 : BitVec 32 := Scalar.select v228 c1_i32_131 c64_i32_129
  let v230 : BitVec 32 := Scalar.remsi v210 v229
  let c0_i32_133 : BitVec 32 := 0#32
  let v232 : BitVec 1 := Scalar.cmpi .slt v230 c0_i32_133
  let c0_i32_134 : BitVec 32 := 0#32
  let v233 : BitVec 1 := Scalar.cmpi .slt v229 c0_i32_134
  let v234 : BitVec 1 := Scalar.xori v232 v233
  let c0_i32_132 : BitVec 32 := 0#32
  let v231 : BitVec 1 := Scalar.cmpi .ne v230 c0_i32_132
  let v235 : BitVec 1 := Scalar.andi v234 v231
  let v236 : BitVec 32 := Scalar.addi v230 v229
  let v237 : BitVec 32 := Scalar.select v235 v236 v230
  let v239 : Index := Scalar.indexCast v237
  ![v238.toNat, v239.toNat]
def k0_off60 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off61 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c4_i32_135 : BitVec 32 := 4#32
  let c0_i32_136 : BitVec 32 := 0#32
  let c0_i32_137 : BitVec 32 := 0#32
  let c0_i32_138 : BitVec 32 := 0#32
  ![v51.toNat, 4, 0, 0, 0]
def k0_off62 (v240 : BitVec 32) : Fin 4 → Nat :=
  let c0_i32_139 : BitVec 32 := 0#32
  let c0_i32_140 : BitVec 32 := 0#32
  let c0_i32_141 : BitVec 32 := 0#32
  ![v240.toNat, 0, 0, 0]

def k0_chk25 (v240 : BitVec 32) : Prop :=
  (∀ a, (k0_off62 v240) a + S1x128x8x128.size a ≤ S2560x128x8x128.size a)
theorem k0_off62_inb : ∀ (v240 : BitVec 32) (k0_hw25 : k0_chk25 v240), ∀ a, (k0_off62 v240) a + S1x128x8x128.size a ≤ S2560x128x8x128.size a := fun v240 k0_hw25 => k0_hw25

def k0_off63 (i : grid0.Coords) : Fin 2 → Nat :=
  let c0_i32_143 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_142 : BitVec 32 := 20#32
  let v247 : BitVec 32 := Scalar.muli v50 c20_i32_142
  let v248 : BitVec 32 := Scalar.addi c0_i32_143 v247
  let c5_i32 : BitVec 32 := 5#32
  let v249 : BitVec 32 := Scalar.addi v248 c5_i32
  let c0_i32_145 : BitVec 32 := 0#32
  let v251 : BitVec 1 := Scalar.cmpi .sgt v249 c0_i32_145
  let v252 : BitVec 32 := Scalar.extui v251
  let c0_i32_146 : BitVec 32 := 0#32
  let v253 : BitVec 1 := Scalar.cmpi .slt v249 c0_i32_146
  let v254 : BitVec 32 := Scalar.extui v253
  let v255 : BitVec 32 := Scalar.subi v252 v254
  let c64_i32_144 : BitVec 32 := 64#32
  let c0_i32_147 : BitVec 32 := 0#32
  let v256 : BitVec 1 := Scalar.cmpi .sgt c64_i32_144 c0_i32_147
  let v257 : BitVec 32 := Scalar.extui v256
  let c0_i32_148 : BitVec 32 := 0#32
  let v258 : BitVec 1 := Scalar.cmpi .slt c64_i32_144 c0_i32_148
  let v259 : BitVec 32 := Scalar.extui v258
  let v260 : BitVec 32 := Scalar.subi v257 v259
  let v261 : BitVec 1 := Scalar.cmpi .ne v255 v260
  let v262 : BitVec 32 := Scalar.remsi v249 c64_i32_144
  let c0_i32_149 : BitVec 32 := 0#32
  let v263 : BitVec 1 := Scalar.cmpi .ne v262 c0_i32_149
  let v264 : BitVec 1 := Scalar.andi v261 v263
  let v250 : BitVec 32 := Scalar.divsi v249 c64_i32_144
  let c1_i32_150 : BitVec 32 := 1#32
  let v265 : BitVec 32 := Scalar.subi v250 c1_i32_150
  let v266 : BitVec 32 := Scalar.select v264 v265 v250
  let v277 : Index := Scalar.indexCast v266
  let c64_i32_151 : BitVec 32 := 64#32
  let c0_i32_152 : BitVec 32 := 0#32
  let v267 : BitVec 1 := Scalar.cmpi .eq c64_i32_151 c0_i32_152
  let c1_i32_153 : BitVec 32 := 1#32
  let v268 : BitVec 32 := Scalar.select v267 c1_i32_153 c64_i32_151
  let v269 : BitVec 32 := Scalar.remsi v249 v268
  let c0_i32_155 : BitVec 32 := 0#32
  let v271 : BitVec 1 := Scalar.cmpi .slt v269 c0_i32_155
  let c0_i32_156 : BitVec 32 := 0#32
  let v272 : BitVec 1 := Scalar.cmpi .slt v268 c0_i32_156
  let v273 : BitVec 1 := Scalar.xori v271 v272
  let c0_i32_154 : BitVec 32 := 0#32
  let v270 : BitVec 1 := Scalar.cmpi .ne v269 c0_i32_154
  let v274 : BitVec 1 := Scalar.andi v273 v270
  let v275 : BitVec 32 := Scalar.addi v269 v268
  let v276 : BitVec 32 := Scalar.select v274 v275 v269
  let v278 : Index := Scalar.indexCast v276
  ![v277.toNat, v278.toNat]
def k0_off64 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off65 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c5_i32_157 : BitVec 32 := 5#32
  let c0_i32_158 : BitVec 32 := 0#32
  let c0_i32_159 : BitVec 32 := 0#32
  let c0_i32_160 : BitVec 32 := 0#32
  ![v51.toNat, 5, 0, 0, 0]
def k0_off66 (v279 : BitVec 32) : Fin 4 → Nat :=
  let c0_i32_161 : BitVec 32 := 0#32
  let c0_i32_162 : BitVec 32 := 0#32
  let c0_i32_163 : BitVec 32 := 0#32
  ![v279.toNat, 0, 0, 0]

def k0_chk26 (v279 : BitVec 32) : Prop :=
  (∀ a, (k0_off66 v279) a + S1x128x8x128.size a ≤ S2560x128x8x128.size a)
theorem k0_off66_inb : ∀ (v279 : BitVec 32) (k0_hw26 : k0_chk26 v279), ∀ a, (k0_off66 v279) a + S1x128x8x128.size a ≤ S2560x128x8x128.size a := fun v279 k0_hw26 => k0_hw26

def k0_off67 (i : grid0.Coords) : Fin 2 → Nat :=
  let c0_i32_165 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_164 : BitVec 32 := 20#32
  let v286 : BitVec 32 := Scalar.muli v50 c20_i32_164
  let v287 : BitVec 32 := Scalar.addi c0_i32_165 v286
  let c6_i32 : BitVec 32 := 6#32
  let v288 : BitVec 32 := Scalar.addi v287 c6_i32
  let c0_i32_167 : BitVec 32 := 0#32
  let v290 : BitVec 1 := Scalar.cmpi .sgt v288 c0_i32_167
  let v291 : BitVec 32 := Scalar.extui v290
  let c0_i32_168 : BitVec 32 := 0#32
  let v292 : BitVec 1 := Scalar.cmpi .slt v288 c0_i32_168
  let v293 : BitVec 32 := Scalar.extui v292
  let v294 : BitVec 32 := Scalar.subi v291 v293
  let c64_i32_166 : BitVec 32 := 64#32
  let c0_i32_169 : BitVec 32 := 0#32
  let v295 : BitVec 1 := Scalar.cmpi .sgt c64_i32_166 c0_i32_169
  let v296 : BitVec 32 := Scalar.extui v295
  let c0_i32_170 : BitVec 32 := 0#32
  let v297 : BitVec 1 := Scalar.cmpi .slt c64_i32_166 c0_i32_170
  let v298 : BitVec 32 := Scalar.extui v297
  let v299 : BitVec 32 := Scalar.subi v296 v298
  let v300 : BitVec 1 := Scalar.cmpi .ne v294 v299
  let v301 : BitVec 32 := Scalar.remsi v288 c64_i32_166
  let c0_i32_171 : BitVec 32 := 0#32
  let v302 : BitVec 1 := Scalar.cmpi .ne v301 c0_i32_171
  let v303 : BitVec 1 := Scalar.andi v300 v302
  let v289 : BitVec 32 := Scalar.divsi v288 c64_i32_166
  let c1_i32_172 : BitVec 32 := 1#32
  let v304 : BitVec 32 := Scalar.subi v289 c1_i32_172
  let v305 : BitVec 32 := Scalar.select v303 v304 v289
  let v316 : Index := Scalar.indexCast v305
  let c64_i32_173 : BitVec 32 := 64#32
  let c0_i32_174 : BitVec 32 := 0#32
  let v306 : BitVec 1 := Scalar.cmpi .eq c64_i32_173 c0_i32_174
  let c1_i32_175 : BitVec 32 := 1#32
  let v307 : BitVec 32 := Scalar.select v306 c1_i32_175 c64_i32_173
  let v308 : BitVec 32 := Scalar.remsi v288 v307
  let c0_i32_177 : BitVec 32 := 0#32
  let v310 : BitVec 1 := Scalar.cmpi .slt v308 c0_i32_177
  let c0_i32_178 : BitVec 32 := 0#32
  let v311 : BitVec 1 := Scalar.cmpi .slt v307 c0_i32_178
  let v312 : BitVec 1 := Scalar.xori v310 v311
  let c0_i32_176 : BitVec 32 := 0#32
  let v309 : BitVec 1 := Scalar.cmpi .ne v308 c0_i32_176
  let v313 : BitVec 1 := Scalar.andi v312 v309
  let v314 : BitVec 32 := Scalar.addi v308 v307
  let v315 : BitVec 32 := Scalar.select v313 v314 v308
  let v317 : Index := Scalar.indexCast v315
  ![v316.toNat, v317.toNat]
def k0_off68 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off69 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c6_i32_179 : BitVec 32 := 6#32
  let c0_i32_180 : BitVec 32 := 0#32
  let c0_i32_181 : BitVec 32 := 0#32
  let c0_i32_182 : BitVec 32 := 0#32
  ![v51.toNat, 6, 0, 0, 0]
def k0_off70 (v318 : BitVec 32) : Fin 4 → Nat :=
  let c0_i32_183 : BitVec 32 := 0#32
  let c0_i32_184 : BitVec 32 := 0#32
  let c0_i32_185 : BitVec 32 := 0#32
  ![v318.toNat, 0, 0, 0]

def k0_chk27 (v318 : BitVec 32) : Prop :=
  (∀ a, (k0_off70 v318) a + S1x128x8x128.size a ≤ S2560x128x8x128.size a)
theorem k0_off70_inb : ∀ (v318 : BitVec 32) (k0_hw27 : k0_chk27 v318), ∀ a, (k0_off70 v318) a + S1x128x8x128.size a ≤ S2560x128x8x128.size a := fun v318 k0_hw27 => k0_hw27

def k0_off71 (i : grid0.Coords) : Fin 2 → Nat :=
  let c0_i32_187 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_186 : BitVec 32 := 20#32
  let v325 : BitVec 32 := Scalar.muli v50 c20_i32_186
  let v326 : BitVec 32 := Scalar.addi c0_i32_187 v325
  let c7_i32 : BitVec 32 := 7#32
  let v327 : BitVec 32 := Scalar.addi v326 c7_i32
  let c0_i32_189 : BitVec 32 := 0#32
  let v329 : BitVec 1 := Scalar.cmpi .sgt v327 c0_i32_189
  let v330 : BitVec 32 := Scalar.extui v329
  let c0_i32_190 : BitVec 32 := 0#32
  let v331 : BitVec 1 := Scalar.cmpi .slt v327 c0_i32_190
  let v332 : BitVec 32 := Scalar.extui v331
  let v333 : BitVec 32 := Scalar.subi v330 v332
  let c64_i32_188 : BitVec 32 := 64#32
  let c0_i32_191 : BitVec 32 := 0#32
  let v334 : BitVec 1 := Scalar.cmpi .sgt c64_i32_188 c0_i32_191
  let v335 : BitVec 32 := Scalar.extui v334
  let c0_i32_192 : BitVec 32 := 0#32
  let v336 : BitVec 1 := Scalar.cmpi .slt c64_i32_188 c0_i32_192
  let v337 : BitVec 32 := Scalar.extui v336
  let v338 : BitVec 32 := Scalar.subi v335 v337
  let v339 : BitVec 1 := Scalar.cmpi .ne v333 v338
  let v340 : BitVec 32 := Scalar.remsi v327 c64_i32_188
  let c0_i32_193 : BitVec 32 := 0#32
  let v341 : BitVec 1 := Scalar.cmpi .ne v340 c0_i32_193
  let v342 : BitVec 1 := Scalar.andi v339 v341
  let v328 : BitVec 32 := Scalar.divsi v327 c64_i32_188
  let c1_i32_194 : BitVec 32 := 1#32
  let v343 : BitVec 32 := Scalar.subi v328 c1_i32_194
  let v344 : BitVec 32 := Scalar.select v342 v343 v328
  let v355 : Index := Scalar.indexCast v344
  let c64_i32_195 : BitVec 32 := 64#32
  let c0_i32_196 : BitVec 32 := 0#32
  let v345 : BitVec 1 := Scalar.cmpi .eq c64_i32_195 c0_i32_196
  let c1_i32_197 : BitVec 32 := 1#32
  let v346 : BitVec 32 := Scalar.select v345 c1_i32_197 c64_i32_195
  let v347 : BitVec 32 := Scalar.remsi v327 v346
  let c0_i32_199 : BitVec 32 := 0#32
  let v349 : BitVec 1 := Scalar.cmpi .slt v347 c0_i32_199
  let c0_i32_200 : BitVec 32 := 0#32
  let v350 : BitVec 1 := Scalar.cmpi .slt v346 c0_i32_200
  let v351 : BitVec 1 := Scalar.xori v349 v350
  let c0_i32_198 : BitVec 32 := 0#32
  let v348 : BitVec 1 := Scalar.cmpi .ne v347 c0_i32_198
  let v352 : BitVec 1 := Scalar.andi v351 v348
  let v353 : BitVec 32 := Scalar.addi v347 v346
  let v354 : BitVec 32 := Scalar.select v352 v353 v347
  let v356 : Index := Scalar.indexCast v354
  ![v355.toNat, v356.toNat]
def k0_off72 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off73 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c7_i32_201 : BitVec 32 := 7#32
  let c0_i32_202 : BitVec 32 := 0#32
  let c0_i32_203 : BitVec 32 := 0#32
  let c0_i32_204 : BitVec 32 := 0#32
  ![v51.toNat, 7, 0, 0, 0]
def k0_off74 (v357 : BitVec 32) : Fin 4 → Nat :=
  let c0_i32_205 : BitVec 32 := 0#32
  let c0_i32_206 : BitVec 32 := 0#32
  let c0_i32_207 : BitVec 32 := 0#32
  ![v357.toNat, 0, 0, 0]

def k0_chk28 (v357 : BitVec 32) : Prop :=
  (∀ a, (k0_off74 v357) a + S1x128x8x128.size a ≤ S2560x128x8x128.size a)
theorem k0_off74_inb : ∀ (v357 : BitVec 32) (k0_hw28 : k0_chk28 v357), ∀ a, (k0_off74 v357) a + S1x128x8x128.size a ≤ S2560x128x8x128.size a := fun v357 k0_hw28 => k0_hw28

def k0_off75 (i : grid0.Coords) : Fin 2 → Nat :=
  let c0_i32_209 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_208 : BitVec 32 := 20#32
  let v364 : BitVec 32 := Scalar.muli v50 c20_i32_208
  let v365 : BitVec 32 := Scalar.addi c0_i32_209 v364
  let c8_i32_210 : BitVec 32 := 8#32
  let v366 : BitVec 32 := Scalar.addi v365 c8_i32_210
  let c0_i32_212 : BitVec 32 := 0#32
  let v368 : BitVec 1 := Scalar.cmpi .sgt v366 c0_i32_212
  let v369 : BitVec 32 := Scalar.extui v368
  let c0_i32_213 : BitVec 32 := 0#32
  let v370 : BitVec 1 := Scalar.cmpi .slt v366 c0_i32_213
  let v371 : BitVec 32 := Scalar.extui v370
  let v372 : BitVec 32 := Scalar.subi v369 v371
  let c64_i32_211 : BitVec 32 := 64#32
  let c0_i32_214 : BitVec 32 := 0#32
  let v373 : BitVec 1 := Scalar.cmpi .sgt c64_i32_211 c0_i32_214
  let v374 : BitVec 32 := Scalar.extui v373
  let c0_i32_215 : BitVec 32 := 0#32
  let v375 : BitVec 1 := Scalar.cmpi .slt c64_i32_211 c0_i32_215
  let v376 : BitVec 32 := Scalar.extui v375
  let v377 : BitVec 32 := Scalar.subi v374 v376
  let v378 : BitVec 1 := Scalar.cmpi .ne v372 v377
  let v379 : BitVec 32 := Scalar.remsi v366 c64_i32_211
  let c0_i32_216 : BitVec 32 := 0#32
  let v380 : BitVec 1 := Scalar.cmpi .ne v379 c0_i32_216
  let v381 : BitVec 1 := Scalar.andi v378 v380
  let v367 : BitVec 32 := Scalar.divsi v366 c64_i32_211
  let c1_i32_217 : BitVec 32 := 1#32
  let v382 : BitVec 32 := Scalar.subi v367 c1_i32_217
  let v383 : BitVec 32 := Scalar.select v381 v382 v367
  let v394 : Index := Scalar.indexCast v383
  let c64_i32_218 : BitVec 32 := 64#32
  let c0_i32_219 : BitVec 32 := 0#32
  let v384 : BitVec 1 := Scalar.cmpi .eq c64_i32_218 c0_i32_219
  let c1_i32_220 : BitVec 32 := 1#32
  let v385 : BitVec 32 := Scalar.select v384 c1_i32_220 c64_i32_218
  let v386 : BitVec 32 := Scalar.remsi v366 v385
  let c0_i32_222 : BitVec 32 := 0#32
  let v388 : BitVec 1 := Scalar.cmpi .slt v386 c0_i32_222
  let c0_i32_223 : BitVec 32 := 0#32
  let v389 : BitVec 1 := Scalar.cmpi .slt v385 c0_i32_223
  let v390 : BitVec 1 := Scalar.xori v388 v389
  let c0_i32_221 : BitVec 32 := 0#32
  let v387 : BitVec 1 := Scalar.cmpi .ne v386 c0_i32_221
  let v391 : BitVec 1 := Scalar.andi v390 v387
  let v392 : BitVec 32 := Scalar.addi v386 v385
  let v393 : BitVec 32 := Scalar.select v391 v392 v386
  let v395 : Index := Scalar.indexCast v393
  ![v394.toNat, v395.toNat]
def k0_off76 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off77 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c8_i32_224 : BitVec 32 := 8#32
  let c0_i32_225 : BitVec 32 := 0#32
  let c0_i32_226 : BitVec 32 := 0#32
  let c0_i32_227 : BitVec 32 := 0#32
  ![v51.toNat, 8, 0, 0, 0]
def k0_off78 (v396 : BitVec 32) : Fin 4 → Nat :=
  let c0_i32_228 : BitVec 32 := 0#32
  let c0_i32_229 : BitVec 32 := 0#32
  let c0_i32_230 : BitVec 32 := 0#32
  ![v396.toNat, 0, 0, 0]

def k0_chk29 (v396 : BitVec 32) : Prop :=
  (∀ a, (k0_off78 v396) a + S1x128x8x128.size a ≤ S2560x128x8x128.size a)
theorem k0_off78_inb : ∀ (v396 : BitVec 32) (k0_hw29 : k0_chk29 v396), ∀ a, (k0_off78 v396) a + S1x128x8x128.size a ≤ S2560x128x8x128.size a := fun v396 k0_hw29 => k0_hw29

def k0_off79 (i : grid0.Coords) : Fin 2 → Nat :=
  let c0_i32_232 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_231 : BitVec 32 := 20#32
  let v403 : BitVec 32 := Scalar.muli v50 c20_i32_231
  let v404 : BitVec 32 := Scalar.addi c0_i32_232 v403
  let c9_i32 : BitVec 32 := 9#32
  let v405 : BitVec 32 := Scalar.addi v404 c9_i32
  let c0_i32_234 : BitVec 32 := 0#32
  let v407 : BitVec 1 := Scalar.cmpi .sgt v405 c0_i32_234
  let v408 : BitVec 32 := Scalar.extui v407
  let c0_i32_235 : BitVec 32 := 0#32
  let v409 : BitVec 1 := Scalar.cmpi .slt v405 c0_i32_235
  let v410 : BitVec 32 := Scalar.extui v409
  let v411 : BitVec 32 := Scalar.subi v408 v410
  let c64_i32_233 : BitVec 32 := 64#32
  let c0_i32_236 : BitVec 32 := 0#32
  let v412 : BitVec 1 := Scalar.cmpi .sgt c64_i32_233 c0_i32_236
  let v413 : BitVec 32 := Scalar.extui v412
  let c0_i32_237 : BitVec 32 := 0#32
  let v414 : BitVec 1 := Scalar.cmpi .slt c64_i32_233 c0_i32_237
  let v415 : BitVec 32 := Scalar.extui v414
  let v416 : BitVec 32 := Scalar.subi v413 v415
  let v417 : BitVec 1 := Scalar.cmpi .ne v411 v416
  let v418 : BitVec 32 := Scalar.remsi v405 c64_i32_233
  let c0_i32_238 : BitVec 32 := 0#32
  let v419 : BitVec 1 := Scalar.cmpi .ne v418 c0_i32_238
  let v420 : BitVec 1 := Scalar.andi v417 v419
  let v406 : BitVec 32 := Scalar.divsi v405 c64_i32_233
  let c1_i32_239 : BitVec 32 := 1#32
  let v421 : BitVec 32 := Scalar.subi v406 c1_i32_239
  let v422 : BitVec 32 := Scalar.select v420 v421 v406
  let v433 : Index := Scalar.indexCast v422
  let c64_i32_240 : BitVec 32 := 64#32
  let c0_i32_241 : BitVec 32 := 0#32
  let v423 : BitVec 1 := Scalar.cmpi .eq c64_i32_240 c0_i32_241
  let c1_i32_242 : BitVec 32 := 1#32
  let v424 : BitVec 32 := Scalar.select v423 c1_i32_242 c64_i32_240
  let v425 : BitVec 32 := Scalar.remsi v405 v424
  let c0_i32_244 : BitVec 32 := 0#32
  let v427 : BitVec 1 := Scalar.cmpi .slt v425 c0_i32_244
  let c0_i32_245 : BitVec 32 := 0#32
  let v428 : BitVec 1 := Scalar.cmpi .slt v424 c0_i32_245
  let v429 : BitVec 1 := Scalar.xori v427 v428
  let c0_i32_243 : BitVec 32 := 0#32
  let v426 : BitVec 1 := Scalar.cmpi .ne v425 c0_i32_243
  let v430 : BitVec 1 := Scalar.andi v429 v426
  let v431 : BitVec 32 := Scalar.addi v425 v424
  let v432 : BitVec 32 := Scalar.select v430 v431 v425
  let v434 : Index := Scalar.indexCast v432
  ![v433.toNat, v434.toNat]
def k0_off80 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off81 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c9_i32_246 : BitVec 32 := 9#32
  let c0_i32_247 : BitVec 32 := 0#32
  let c0_i32_248 : BitVec 32 := 0#32
  let c0_i32_249 : BitVec 32 := 0#32
  ![v51.toNat, 9, 0, 0, 0]
def k0_off82 (v435 : BitVec 32) : Fin 4 → Nat :=
  let c0_i32_250 : BitVec 32 := 0#32
  let c0_i32_251 : BitVec 32 := 0#32
  let c0_i32_252 : BitVec 32 := 0#32
  ![v435.toNat, 0, 0, 0]

def k0_chk30 (v435 : BitVec 32) : Prop :=
  (∀ a, (k0_off82 v435) a + S1x128x8x128.size a ≤ S2560x128x8x128.size a)
theorem k0_off82_inb : ∀ (v435 : BitVec 32) (k0_hw30 : k0_chk30 v435), ∀ a, (k0_off82 v435) a + S1x128x8x128.size a ≤ S2560x128x8x128.size a := fun v435 k0_hw30 => k0_hw30

def k0_off83 (i : grid0.Coords) : Fin 2 → Nat :=
  let c0_i32_254 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_253 : BitVec 32 := 20#32
  let v442 : BitVec 32 := Scalar.muli v50 c20_i32_253
  let v443 : BitVec 32 := Scalar.addi c0_i32_254 v442
  let c10_i32 : BitVec 32 := 10#32
  let v444 : BitVec 32 := Scalar.addi v443 c10_i32
  let c0_i32_256 : BitVec 32 := 0#32
  let v446 : BitVec 1 := Scalar.cmpi .sgt v444 c0_i32_256
  let v447 : BitVec 32 := Scalar.extui v446
  let c0_i32_257 : BitVec 32 := 0#32
  let v448 : BitVec 1 := Scalar.cmpi .slt v444 c0_i32_257
  let v449 : BitVec 32 := Scalar.extui v448
  let v450 : BitVec 32 := Scalar.subi v447 v449
  let c64_i32_255 : BitVec 32 := 64#32
  let c0_i32_258 : BitVec 32 := 0#32
  let v451 : BitVec 1 := Scalar.cmpi .sgt c64_i32_255 c0_i32_258
  let v452 : BitVec 32 := Scalar.extui v451
  let c0_i32_259 : BitVec 32 := 0#32
  let v453 : BitVec 1 := Scalar.cmpi .slt c64_i32_255 c0_i32_259
  let v454 : BitVec 32 := Scalar.extui v453
  let v455 : BitVec 32 := Scalar.subi v452 v454
  let v456 : BitVec 1 := Scalar.cmpi .ne v450 v455
  let v457 : BitVec 32 := Scalar.remsi v444 c64_i32_255
  let c0_i32_260 : BitVec 32 := 0#32
  let v458 : BitVec 1 := Scalar.cmpi .ne v457 c0_i32_260
  let v459 : BitVec 1 := Scalar.andi v456 v458
  let v445 : BitVec 32 := Scalar.divsi v444 c64_i32_255
  let c1_i32_261 : BitVec 32 := 1#32
  let v460 : BitVec 32 := Scalar.subi v445 c1_i32_261
  let v461 : BitVec 32 := Scalar.select v459 v460 v445
  let v472 : Index := Scalar.indexCast v461
  let c64_i32_262 : BitVec 32 := 64#32
  let c0_i32_263 : BitVec 32 := 0#32
  let v462 : BitVec 1 := Scalar.cmpi .eq c64_i32_262 c0_i32_263
  let c1_i32_264 : BitVec 32 := 1#32
  let v463 : BitVec 32 := Scalar.select v462 c1_i32_264 c64_i32_262
  let v464 : BitVec 32 := Scalar.remsi v444 v463
  let c0_i32_266 : BitVec 32 := 0#32
  let v466 : BitVec 1 := Scalar.cmpi .slt v464 c0_i32_266
  let c0_i32_267 : BitVec 32 := 0#32
  let v467 : BitVec 1 := Scalar.cmpi .slt v463 c0_i32_267
  let v468 : BitVec 1 := Scalar.xori v466 v467
  let c0_i32_265 : BitVec 32 := 0#32
  let v465 : BitVec 1 := Scalar.cmpi .ne v464 c0_i32_265
  let v469 : BitVec 1 := Scalar.andi v468 v465
  let v470 : BitVec 32 := Scalar.addi v464 v463
  let v471 : BitVec 32 := Scalar.select v469 v470 v464
  let v473 : Index := Scalar.indexCast v471
  ![v472.toNat, v473.toNat]
def k0_off84 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off85 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c10_i32_268 : BitVec 32 := 10#32
  let c0_i32_269 : BitVec 32 := 0#32
  let c0_i32_270 : BitVec 32 := 0#32
  let c0_i32_271 : BitVec 32 := 0#32
  ![v51.toNat, 10, 0, 0, 0]
def k0_off86 (v474 : BitVec 32) : Fin 4 → Nat :=
  let c0_i32_272 : BitVec 32 := 0#32
  let c0_i32_273 : BitVec 32 := 0#32
  let c0_i32_274 : BitVec 32 := 0#32
  ![v474.toNat, 0, 0, 0]

def k0_chk31 (v474 : BitVec 32) : Prop :=
  (∀ a, (k0_off86 v474) a + S1x128x8x128.size a ≤ S2560x128x8x128.size a)
theorem k0_off86_inb : ∀ (v474 : BitVec 32) (k0_hw31 : k0_chk31 v474), ∀ a, (k0_off86 v474) a + S1x128x8x128.size a ≤ S2560x128x8x128.size a := fun v474 k0_hw31 => k0_hw31

def k0_off87 (i : grid0.Coords) : Fin 2 → Nat :=
  let c0_i32_276 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_275 : BitVec 32 := 20#32
  let v481 : BitVec 32 := Scalar.muli v50 c20_i32_275
  let v482 : BitVec 32 := Scalar.addi c0_i32_276 v481
  let c11_i32 : BitVec 32 := 11#32
  let v483 : BitVec 32 := Scalar.addi v482 c11_i32
  let c0_i32_278 : BitVec 32 := 0#32
  let v485 : BitVec 1 := Scalar.cmpi .sgt v483 c0_i32_278
  let v486 : BitVec 32 := Scalar.extui v485
  let c0_i32_279 : BitVec 32 := 0#32
  let v487 : BitVec 1 := Scalar.cmpi .slt v483 c0_i32_279
  let v488 : BitVec 32 := Scalar.extui v487
  let v489 : BitVec 32 := Scalar.subi v486 v488
  let c64_i32_277 : BitVec 32 := 64#32
  let c0_i32_280 : BitVec 32 := 0#32
  let v490 : BitVec 1 := Scalar.cmpi .sgt c64_i32_277 c0_i32_280
  let v491 : BitVec 32 := Scalar.extui v490
  let c0_i32_281 : BitVec 32 := 0#32
  let v492 : BitVec 1 := Scalar.cmpi .slt c64_i32_277 c0_i32_281
  let v493 : BitVec 32 := Scalar.extui v492
  let v494 : BitVec 32 := Scalar.subi v491 v493
  let v495 : BitVec 1 := Scalar.cmpi .ne v489 v494
  let v496 : BitVec 32 := Scalar.remsi v483 c64_i32_277
  let c0_i32_282 : BitVec 32 := 0#32
  let v497 : BitVec 1 := Scalar.cmpi .ne v496 c0_i32_282
  let v498 : BitVec 1 := Scalar.andi v495 v497
  let v484 : BitVec 32 := Scalar.divsi v483 c64_i32_277
  let c1_i32_283 : BitVec 32 := 1#32
  let v499 : BitVec 32 := Scalar.subi v484 c1_i32_283
  let v500 : BitVec 32 := Scalar.select v498 v499 v484
  let v511 : Index := Scalar.indexCast v500
  let c64_i32_284 : BitVec 32 := 64#32
  let c0_i32_285 : BitVec 32 := 0#32
  let v501 : BitVec 1 := Scalar.cmpi .eq c64_i32_284 c0_i32_285
  let c1_i32_286 : BitVec 32 := 1#32
  let v502 : BitVec 32 := Scalar.select v501 c1_i32_286 c64_i32_284
  let v503 : BitVec 32 := Scalar.remsi v483 v502
  let c0_i32_288 : BitVec 32 := 0#32
  let v505 : BitVec 1 := Scalar.cmpi .slt v503 c0_i32_288
  let c0_i32_289 : BitVec 32 := 0#32
  let v506 : BitVec 1 := Scalar.cmpi .slt v502 c0_i32_289
  let v507 : BitVec 1 := Scalar.xori v505 v506
  let c0_i32_287 : BitVec 32 := 0#32
  let v504 : BitVec 1 := Scalar.cmpi .ne v503 c0_i32_287
  let v508 : BitVec 1 := Scalar.andi v507 v504
  let v509 : BitVec 32 := Scalar.addi v503 v502
  let v510 : BitVec 32 := Scalar.select v508 v509 v503
  let v512 : Index := Scalar.indexCast v510
  ![v511.toNat, v512.toNat]
def k0_off88 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off89 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c11_i32_290 : BitVec 32 := 11#32
  let c0_i32_291 : BitVec 32 := 0#32
  let c0_i32_292 : BitVec 32 := 0#32
  let c0_i32_293 : BitVec 32 := 0#32
  ![v51.toNat, 11, 0, 0, 0]
def k0_off90 (v513 : BitVec 32) : Fin 4 → Nat :=
  let c0_i32_294 : BitVec 32 := 0#32
  let c0_i32_295 : BitVec 32 := 0#32
  let c0_i32_296 : BitVec 32 := 0#32
  ![v513.toNat, 0, 0, 0]

def k0_chk32 (v513 : BitVec 32) : Prop :=
  (∀ a, (k0_off90 v513) a + S1x128x8x128.size a ≤ S2560x128x8x128.size a)
theorem k0_off90_inb : ∀ (v513 : BitVec 32) (k0_hw32 : k0_chk32 v513), ∀ a, (k0_off90 v513) a + S1x128x8x128.size a ≤ S2560x128x8x128.size a := fun v513 k0_hw32 => k0_hw32

def k0_off91 (i : grid0.Coords) : Fin 2 → Nat :=
  let c0_i32_298 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_297 : BitVec 32 := 20#32
  let v520 : BitVec 32 := Scalar.muli v50 c20_i32_297
  let v521 : BitVec 32 := Scalar.addi c0_i32_298 v520
  let c12_i32 : BitVec 32 := 12#32
  let v522 : BitVec 32 := Scalar.addi v521 c12_i32
  let c0_i32_300 : BitVec 32 := 0#32
  let v524 : BitVec 1 := Scalar.cmpi .sgt v522 c0_i32_300
  let v525 : BitVec 32 := Scalar.extui v524
  let c0_i32_301 : BitVec 32 := 0#32
  let v526 : BitVec 1 := Scalar.cmpi .slt v522 c0_i32_301
  let v527 : BitVec 32 := Scalar.extui v526
  let v528 : BitVec 32 := Scalar.subi v525 v527
  let c64_i32_299 : BitVec 32 := 64#32
  let c0_i32_302 : BitVec 32 := 0#32
  let v529 : BitVec 1 := Scalar.cmpi .sgt c64_i32_299 c0_i32_302
  let v530 : BitVec 32 := Scalar.extui v529
  let c0_i32_303 : BitVec 32 := 0#32
  let v531 : BitVec 1 := Scalar.cmpi .slt c64_i32_299 c0_i32_303
  let v532 : BitVec 32 := Scalar.extui v531
  let v533 : BitVec 32 := Scalar.subi v530 v532
  let v534 : BitVec 1 := Scalar.cmpi .ne v528 v533
  let v535 : BitVec 32 := Scalar.remsi v522 c64_i32_299
  let c0_i32_304 : BitVec 32 := 0#32
  let v536 : BitVec 1 := Scalar.cmpi .ne v535 c0_i32_304
  let v537 : BitVec 1 := Scalar.andi v534 v536
  let v523 : BitVec 32 := Scalar.divsi v522 c64_i32_299
  let c1_i32_305 : BitVec 32 := 1#32
  let v538 : BitVec 32 := Scalar.subi v523 c1_i32_305
  let v539 : BitVec 32 := Scalar.select v537 v538 v523
  let v550 : Index := Scalar.indexCast v539
  let c64_i32_306 : BitVec 32 := 64#32
  let c0_i32_307 : BitVec 32 := 0#32
  let v540 : BitVec 1 := Scalar.cmpi .eq c64_i32_306 c0_i32_307
  let c1_i32_308 : BitVec 32 := 1#32
  let v541 : BitVec 32 := Scalar.select v540 c1_i32_308 c64_i32_306
  let v542 : BitVec 32 := Scalar.remsi v522 v541
  let c0_i32_310 : BitVec 32 := 0#32
  let v544 : BitVec 1 := Scalar.cmpi .slt v542 c0_i32_310
  let c0_i32_311 : BitVec 32 := 0#32
  let v545 : BitVec 1 := Scalar.cmpi .slt v541 c0_i32_311
  let v546 : BitVec 1 := Scalar.xori v544 v545
  let c0_i32_309 : BitVec 32 := 0#32
  let v543 : BitVec 1 := Scalar.cmpi .ne v542 c0_i32_309
  let v547 : BitVec 1 := Scalar.andi v546 v543
  let v548 : BitVec 32 := Scalar.addi v542 v541
  let v549 : BitVec 32 := Scalar.select v547 v548 v542
  let v551 : Index := Scalar.indexCast v549
  ![v550.toNat, v551.toNat]
def k0_off92 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off93 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c12_i32_312 : BitVec 32 := 12#32
  let c0_i32_313 : BitVec 32 := 0#32
  let c0_i32_314 : BitVec 32 := 0#32
  let c0_i32_315 : BitVec 32 := 0#32
  ![v51.toNat, 12, 0, 0, 0]
def k0_off94 (v552 : BitVec 32) : Fin 4 → Nat :=
  let c0_i32_316 : BitVec 32 := 0#32
  let c0_i32_317 : BitVec 32 := 0#32
  let c0_i32_318 : BitVec 32 := 0#32
  ![v552.toNat, 0, 0, 0]

def k0_chk33 (v552 : BitVec 32) : Prop :=
  (∀ a, (k0_off94 v552) a + S1x128x8x128.size a ≤ S2560x128x8x128.size a)
theorem k0_off94_inb : ∀ (v552 : BitVec 32) (k0_hw33 : k0_chk33 v552), ∀ a, (k0_off94 v552) a + S1x128x8x128.size a ≤ S2560x128x8x128.size a := fun v552 k0_hw33 => k0_hw33

def k0_off95 (i : grid0.Coords) : Fin 2 → Nat :=
  let c0_i32_320 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_319 : BitVec 32 := 20#32
  let v559 : BitVec 32 := Scalar.muli v50 c20_i32_319
  let v560 : BitVec 32 := Scalar.addi c0_i32_320 v559
  let c13_i32 : BitVec 32 := 13#32
  let v561 : BitVec 32 := Scalar.addi v560 c13_i32
  let c0_i32_322 : BitVec 32 := 0#32
  let v563 : BitVec 1 := Scalar.cmpi .sgt v561 c0_i32_322
  let v564 : BitVec 32 := Scalar.extui v563
  let c0_i32_323 : BitVec 32 := 0#32
  let v565 : BitVec 1 := Scalar.cmpi .slt v561 c0_i32_323
  let v566 : BitVec 32 := Scalar.extui v565
  let v567 : BitVec 32 := Scalar.subi v564 v566
  let c64_i32_321 : BitVec 32 := 64#32
  let c0_i32_324 : BitVec 32 := 0#32
  let v568 : BitVec 1 := Scalar.cmpi .sgt c64_i32_321 c0_i32_324
  let v569 : BitVec 32 := Scalar.extui v568
  let c0_i32_325 : BitVec 32 := 0#32
  let v570 : BitVec 1 := Scalar.cmpi .slt c64_i32_321 c0_i32_325
  let v571 : BitVec 32 := Scalar.extui v570
  let v572 : BitVec 32 := Scalar.subi v569 v571
  let v573 : BitVec 1 := Scalar.cmpi .ne v567 v572
  let v574 : BitVec 32 := Scalar.remsi v561 c64_i32_321
  let c0_i32_326 : BitVec 32 := 0#32
  let v575 : BitVec 1 := Scalar.cmpi .ne v574 c0_i32_326
  let v576 : BitVec 1 := Scalar.andi v573 v575
  let v562 : BitVec 32 := Scalar.divsi v561 c64_i32_321
  let c1_i32_327 : BitVec 32 := 1#32
  let v577 : BitVec 32 := Scalar.subi v562 c1_i32_327
  let v578 : BitVec 32 := Scalar.select v576 v577 v562
  let v589 : Index := Scalar.indexCast v578
  let c64_i32_328 : BitVec 32 := 64#32
  let c0_i32_329 : BitVec 32 := 0#32
  let v579 : BitVec 1 := Scalar.cmpi .eq c64_i32_328 c0_i32_329
  let c1_i32_330 : BitVec 32 := 1#32
  let v580 : BitVec 32 := Scalar.select v579 c1_i32_330 c64_i32_328
  let v581 : BitVec 32 := Scalar.remsi v561 v580
  let c0_i32_332 : BitVec 32 := 0#32
  let v583 : BitVec 1 := Scalar.cmpi .slt v581 c0_i32_332
  let c0_i32_333 : BitVec 32 := 0#32
  let v584 : BitVec 1 := Scalar.cmpi .slt v580 c0_i32_333
  let v585 : BitVec 1 := Scalar.xori v583 v584
  let c0_i32_331 : BitVec 32 := 0#32
  let v582 : BitVec 1 := Scalar.cmpi .ne v581 c0_i32_331
  let v586 : BitVec 1 := Scalar.andi v585 v582
  let v587 : BitVec 32 := Scalar.addi v581 v580
  let v588 : BitVec 32 := Scalar.select v586 v587 v581
  let v590 : Index := Scalar.indexCast v588
  ![v589.toNat, v590.toNat]
def k0_off96 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off97 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c13_i32_334 : BitVec 32 := 13#32
  let c0_i32_335 : BitVec 32 := 0#32
  let c0_i32_336 : BitVec 32 := 0#32
  let c0_i32_337 : BitVec 32 := 0#32
  ![v51.toNat, 13, 0, 0, 0]
def k0_off98 (v591 : BitVec 32) : Fin 4 → Nat :=
  let c0_i32_338 : BitVec 32 := 0#32
  let c0_i32_339 : BitVec 32 := 0#32
  let c0_i32_340 : BitVec 32 := 0#32
  ![v591.toNat, 0, 0, 0]

def k0_chk34 (v591 : BitVec 32) : Prop :=
  (∀ a, (k0_off98 v591) a + S1x128x8x128.size a ≤ S2560x128x8x128.size a)
theorem k0_off98_inb : ∀ (v591 : BitVec 32) (k0_hw34 : k0_chk34 v591), ∀ a, (k0_off98 v591) a + S1x128x8x128.size a ≤ S2560x128x8x128.size a := fun v591 k0_hw34 => k0_hw34

def k0_off99 (i : grid0.Coords) : Fin 2 → Nat :=
  let c0_i32_342 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_341 : BitVec 32 := 20#32
  let v598 : BitVec 32 := Scalar.muli v50 c20_i32_341
  let v599 : BitVec 32 := Scalar.addi c0_i32_342 v598
  let c14_i32 : BitVec 32 := 14#32
  let v600 : BitVec 32 := Scalar.addi v599 c14_i32
  let c0_i32_344 : BitVec 32 := 0#32
  let v602 : BitVec 1 := Scalar.cmpi .sgt v600 c0_i32_344
  let v603 : BitVec 32 := Scalar.extui v602
  let c0_i32_345 : BitVec 32 := 0#32
  let v604 : BitVec 1 := Scalar.cmpi .slt v600 c0_i32_345
  let v605 : BitVec 32 := Scalar.extui v604
  let v606 : BitVec 32 := Scalar.subi v603 v605
  let c64_i32_343 : BitVec 32 := 64#32
  let c0_i32_346 : BitVec 32 := 0#32
  let v607 : BitVec 1 := Scalar.cmpi .sgt c64_i32_343 c0_i32_346
  let v608 : BitVec 32 := Scalar.extui v607
  let c0_i32_347 : BitVec 32 := 0#32
  let v609 : BitVec 1 := Scalar.cmpi .slt c64_i32_343 c0_i32_347
  let v610 : BitVec 32 := Scalar.extui v609
  let v611 : BitVec 32 := Scalar.subi v608 v610
  let v612 : BitVec 1 := Scalar.cmpi .ne v606 v611
  let v613 : BitVec 32 := Scalar.remsi v600 c64_i32_343
  let c0_i32_348 : BitVec 32 := 0#32
  let v614 : BitVec 1 := Scalar.cmpi .ne v613 c0_i32_348
  let v615 : BitVec 1 := Scalar.andi v612 v614
  let v601 : BitVec 32 := Scalar.divsi v600 c64_i32_343
  let c1_i32_349 : BitVec 32 := 1#32
  let v616 : BitVec 32 := Scalar.subi v601 c1_i32_349
  let v617 : BitVec 32 := Scalar.select v615 v616 v601
  let v628 : Index := Scalar.indexCast v617
  let c64_i32_350 : BitVec 32 := 64#32
  let c0_i32_351 : BitVec 32 := 0#32
  let v618 : BitVec 1 := Scalar.cmpi .eq c64_i32_350 c0_i32_351
  let c1_i32_352 : BitVec 32 := 1#32
  let v619 : BitVec 32 := Scalar.select v618 c1_i32_352 c64_i32_350
  let v620 : BitVec 32 := Scalar.remsi v600 v619
  let c0_i32_354 : BitVec 32 := 0#32
  let v622 : BitVec 1 := Scalar.cmpi .slt v620 c0_i32_354
  let c0_i32_355 : BitVec 32 := 0#32
  let v623 : BitVec 1 := Scalar.cmpi .slt v619 c0_i32_355
  let v624 : BitVec 1 := Scalar.xori v622 v623
  let c0_i32_353 : BitVec 32 := 0#32
  let v621 : BitVec 1 := Scalar.cmpi .ne v620 c0_i32_353
  let v625 : BitVec 1 := Scalar.andi v624 v621
  let v626 : BitVec 32 := Scalar.addi v620 v619
  let v627 : BitVec 32 := Scalar.select v625 v626 v620
  let v629 : Index := Scalar.indexCast v627
  ![v628.toNat, v629.toNat]
def k0_off100 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off101 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c14_i32_356 : BitVec 32 := 14#32
  let c0_i32_357 : BitVec 32 := 0#32
  let c0_i32_358 : BitVec 32 := 0#32
  let c0_i32_359 : BitVec 32 := 0#32
  ![v51.toNat, 14, 0, 0, 0]
def k0_off102 (v630 : BitVec 32) : Fin 4 → Nat :=
  let c0_i32_360 : BitVec 32 := 0#32
  let c0_i32_361 : BitVec 32 := 0#32
  let c0_i32_362 : BitVec 32 := 0#32
  ![v630.toNat, 0, 0, 0]

def k0_chk35 (v630 : BitVec 32) : Prop :=
  (∀ a, (k0_off102 v630) a + S1x128x8x128.size a ≤ S2560x128x8x128.size a)
theorem k0_off102_inb : ∀ (v630 : BitVec 32) (k0_hw35 : k0_chk35 v630), ∀ a, (k0_off102 v630) a + S1x128x8x128.size a ≤ S2560x128x8x128.size a := fun v630 k0_hw35 => k0_hw35

def k0_off103 (i : grid0.Coords) : Fin 2 → Nat :=
  let c0_i32_364 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_363 : BitVec 32 := 20#32
  let v637 : BitVec 32 := Scalar.muli v50 c20_i32_363
  let v638 : BitVec 32 := Scalar.addi c0_i32_364 v637
  let c15_i32 : BitVec 32 := 15#32
  let v639 : BitVec 32 := Scalar.addi v638 c15_i32
  let c0_i32_366 : BitVec 32 := 0#32
  let v641 : BitVec 1 := Scalar.cmpi .sgt v639 c0_i32_366
  let v642 : BitVec 32 := Scalar.extui v641
  let c0_i32_367 : BitVec 32 := 0#32
  let v643 : BitVec 1 := Scalar.cmpi .slt v639 c0_i32_367
  let v644 : BitVec 32 := Scalar.extui v643
  let v645 : BitVec 32 := Scalar.subi v642 v644
  let c64_i32_365 : BitVec 32 := 64#32
  let c0_i32_368 : BitVec 32 := 0#32
  let v646 : BitVec 1 := Scalar.cmpi .sgt c64_i32_365 c0_i32_368
  let v647 : BitVec 32 := Scalar.extui v646
  let c0_i32_369 : BitVec 32 := 0#32
  let v648 : BitVec 1 := Scalar.cmpi .slt c64_i32_365 c0_i32_369
  let v649 : BitVec 32 := Scalar.extui v648
  let v650 : BitVec 32 := Scalar.subi v647 v649
  let v651 : BitVec 1 := Scalar.cmpi .ne v645 v650
  let v652 : BitVec 32 := Scalar.remsi v639 c64_i32_365
  let c0_i32_370 : BitVec 32 := 0#32
  let v653 : BitVec 1 := Scalar.cmpi .ne v652 c0_i32_370
  let v654 : BitVec 1 := Scalar.andi v651 v653
  let v640 : BitVec 32 := Scalar.divsi v639 c64_i32_365
  let c1_i32_371 : BitVec 32 := 1#32
  let v655 : BitVec 32 := Scalar.subi v640 c1_i32_371
  let v656 : BitVec 32 := Scalar.select v654 v655 v640
  let v667 : Index := Scalar.indexCast v656
  let c64_i32_372 : BitVec 32 := 64#32
  let c0_i32_373 : BitVec 32 := 0#32
  let v657 : BitVec 1 := Scalar.cmpi .eq c64_i32_372 c0_i32_373
  let c1_i32_374 : BitVec 32 := 1#32
  let v658 : BitVec 32 := Scalar.select v657 c1_i32_374 c64_i32_372
  let v659 : BitVec 32 := Scalar.remsi v639 v658
  let c0_i32_376 : BitVec 32 := 0#32
  let v661 : BitVec 1 := Scalar.cmpi .slt v659 c0_i32_376
  let c0_i32_377 : BitVec 32 := 0#32
  let v662 : BitVec 1 := Scalar.cmpi .slt v658 c0_i32_377
  let v663 : BitVec 1 := Scalar.xori v661 v662
  let c0_i32_375 : BitVec 32 := 0#32
  let v660 : BitVec 1 := Scalar.cmpi .ne v659 c0_i32_375
  let v664 : BitVec 1 := Scalar.andi v663 v660
  let v665 : BitVec 32 := Scalar.addi v659 v658
  let v666 : BitVec 32 := Scalar.select v664 v665 v659
  let v668 : Index := Scalar.indexCast v666
  ![v667.toNat, v668.toNat]
def k0_off104 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off105 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c15_i32_378 : BitVec 32 := 15#32
  let c0_i32_379 : BitVec 32 := 0#32
  let c0_i32_380 : BitVec 32 := 0#32
  let c0_i32_381 : BitVec 32 := 0#32
  ![v51.toNat, 15, 0, 0, 0]
def k0_off106 (v669 : BitVec 32) : Fin 4 → Nat :=
  let c0_i32_382 : BitVec 32 := 0#32
  let c0_i32_383 : BitVec 32 := 0#32
  let c0_i32_384 : BitVec 32 := 0#32
  ![v669.toNat, 0, 0, 0]

def k0_chk36 (v669 : BitVec 32) : Prop :=
  (∀ a, (k0_off106 v669) a + S1x128x8x128.size a ≤ S2560x128x8x128.size a)
theorem k0_off106_inb : ∀ (v669 : BitVec 32) (k0_hw36 : k0_chk36 v669), ∀ a, (k0_off106 v669) a + S1x128x8x128.size a ≤ S2560x128x8x128.size a := fun v669 k0_hw36 => k0_hw36

def k0_off107 (i : grid0.Coords) : Fin 2 → Nat :=
  let c0_i32_386 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_385 : BitVec 32 := 20#32
  let v676 : BitVec 32 := Scalar.muli v50 c20_i32_385
  let v677 : BitVec 32 := Scalar.addi c0_i32_386 v676
  let c16_i32 : BitVec 32 := 16#32
  let v678 : BitVec 32 := Scalar.addi v677 c16_i32
  let c0_i32_388 : BitVec 32 := 0#32
  let v680 : BitVec 1 := Scalar.cmpi .sgt v678 c0_i32_388
  let v681 : BitVec 32 := Scalar.extui v680
  let c0_i32_389 : BitVec 32 := 0#32
  let v682 : BitVec 1 := Scalar.cmpi .slt v678 c0_i32_389
  let v683 : BitVec 32 := Scalar.extui v682
  let v684 : BitVec 32 := Scalar.subi v681 v683
  let c64_i32_387 : BitVec 32 := 64#32
  let c0_i32_390 : BitVec 32 := 0#32
  let v685 : BitVec 1 := Scalar.cmpi .sgt c64_i32_387 c0_i32_390
  let v686 : BitVec 32 := Scalar.extui v685
  let c0_i32_391 : BitVec 32 := 0#32
  let v687 : BitVec 1 := Scalar.cmpi .slt c64_i32_387 c0_i32_391
  let v688 : BitVec 32 := Scalar.extui v687
  let v689 : BitVec 32 := Scalar.subi v686 v688
  let v690 : BitVec 1 := Scalar.cmpi .ne v684 v689
  let v691 : BitVec 32 := Scalar.remsi v678 c64_i32_387
  let c0_i32_392 : BitVec 32 := 0#32
  let v692 : BitVec 1 := Scalar.cmpi .ne v691 c0_i32_392
  let v693 : BitVec 1 := Scalar.andi v690 v692
  let v679 : BitVec 32 := Scalar.divsi v678 c64_i32_387
  let c1_i32_393 : BitVec 32 := 1#32
  let v694 : BitVec 32 := Scalar.subi v679 c1_i32_393
  let v695 : BitVec 32 := Scalar.select v693 v694 v679
  let v706 : Index := Scalar.indexCast v695
  let c64_i32_394 : BitVec 32 := 64#32
  let c0_i32_395 : BitVec 32 := 0#32
  let v696 : BitVec 1 := Scalar.cmpi .eq c64_i32_394 c0_i32_395
  let c1_i32_396 : BitVec 32 := 1#32
  let v697 : BitVec 32 := Scalar.select v696 c1_i32_396 c64_i32_394
  let v698 : BitVec 32 := Scalar.remsi v678 v697
  let c0_i32_398 : BitVec 32 := 0#32
  let v700 : BitVec 1 := Scalar.cmpi .slt v698 c0_i32_398
  let c0_i32_399 : BitVec 32 := 0#32
  let v701 : BitVec 1 := Scalar.cmpi .slt v697 c0_i32_399
  let v702 : BitVec 1 := Scalar.xori v700 v701
  let c0_i32_397 : BitVec 32 := 0#32
  let v699 : BitVec 1 := Scalar.cmpi .ne v698 c0_i32_397
  let v703 : BitVec 1 := Scalar.andi v702 v699
  let v704 : BitVec 32 := Scalar.addi v698 v697
  let v705 : BitVec 32 := Scalar.select v703 v704 v698
  let v707 : Index := Scalar.indexCast v705
  ![v706.toNat, v707.toNat]
def k0_off108 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off109 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c16_i32_400 : BitVec 32 := 16#32
  let c0_i32_401 : BitVec 32 := 0#32
  let c0_i32_402 : BitVec 32 := 0#32
  let c0_i32_403 : BitVec 32 := 0#32
  ![v51.toNat, 16, 0, 0, 0]
def k0_off110 (v708 : BitVec 32) : Fin 4 → Nat :=
  let c0_i32_404 : BitVec 32 := 0#32
  let c0_i32_405 : BitVec 32 := 0#32
  let c0_i32_406 : BitVec 32 := 0#32
  ![v708.toNat, 0, 0, 0]

def k0_chk37 (v708 : BitVec 32) : Prop :=
  (∀ a, (k0_off110 v708) a + S1x128x8x128.size a ≤ S2560x128x8x128.size a)
theorem k0_off110_inb : ∀ (v708 : BitVec 32) (k0_hw37 : k0_chk37 v708), ∀ a, (k0_off110 v708) a + S1x128x8x128.size a ≤ S2560x128x8x128.size a := fun v708 k0_hw37 => k0_hw37

def k0_off111 (i : grid0.Coords) : Fin 2 → Nat :=
  let c0_i32_408 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_407 : BitVec 32 := 20#32
  let v715 : BitVec 32 := Scalar.muli v50 c20_i32_407
  let v716 : BitVec 32 := Scalar.addi c0_i32_408 v715
  let c17_i32 : BitVec 32 := 17#32
  let v717 : BitVec 32 := Scalar.addi v716 c17_i32
  let c0_i32_410 : BitVec 32 := 0#32
  let v719 : BitVec 1 := Scalar.cmpi .sgt v717 c0_i32_410
  let v720 : BitVec 32 := Scalar.extui v719
  let c0_i32_411 : BitVec 32 := 0#32
  let v721 : BitVec 1 := Scalar.cmpi .slt v717 c0_i32_411
  let v722 : BitVec 32 := Scalar.extui v721
  let v723 : BitVec 32 := Scalar.subi v720 v722
  let c64_i32_409 : BitVec 32 := 64#32
  let c0_i32_412 : BitVec 32 := 0#32
  let v724 : BitVec 1 := Scalar.cmpi .sgt c64_i32_409 c0_i32_412
  let v725 : BitVec 32 := Scalar.extui v724
  let c0_i32_413 : BitVec 32 := 0#32
  let v726 : BitVec 1 := Scalar.cmpi .slt c64_i32_409 c0_i32_413
  let v727 : BitVec 32 := Scalar.extui v726
  let v728 : BitVec 32 := Scalar.subi v725 v727
  let v729 : BitVec 1 := Scalar.cmpi .ne v723 v728
  let v730 : BitVec 32 := Scalar.remsi v717 c64_i32_409
  let c0_i32_414 : BitVec 32 := 0#32
  let v731 : BitVec 1 := Scalar.cmpi .ne v730 c0_i32_414
  let v732 : BitVec 1 := Scalar.andi v729 v731
  let v718 : BitVec 32 := Scalar.divsi v717 c64_i32_409
  let c1_i32_415 : BitVec 32 := 1#32
  let v733 : BitVec 32 := Scalar.subi v718 c1_i32_415
  let v734 : BitVec 32 := Scalar.select v732 v733 v718
  let v745 : Index := Scalar.indexCast v734
  let c64_i32_416 : BitVec 32 := 64#32
  let c0_i32_417 : BitVec 32 := 0#32
  let v735 : BitVec 1 := Scalar.cmpi .eq c64_i32_416 c0_i32_417
  let c1_i32_418 : BitVec 32 := 1#32
  let v736 : BitVec 32 := Scalar.select v735 c1_i32_418 c64_i32_416
  let v737 : BitVec 32 := Scalar.remsi v717 v736
  let c0_i32_420 : BitVec 32 := 0#32
  let v739 : BitVec 1 := Scalar.cmpi .slt v737 c0_i32_420
  let c0_i32_421 : BitVec 32 := 0#32
  let v740 : BitVec 1 := Scalar.cmpi .slt v736 c0_i32_421
  let v741 : BitVec 1 := Scalar.xori v739 v740
  let c0_i32_419 : BitVec 32 := 0#32
  let v738 : BitVec 1 := Scalar.cmpi .ne v737 c0_i32_419
  let v742 : BitVec 1 := Scalar.andi v741 v738
  let v743 : BitVec 32 := Scalar.addi v737 v736
  let v744 : BitVec 32 := Scalar.select v742 v743 v737
  let v746 : Index := Scalar.indexCast v744
  ![v745.toNat, v746.toNat]
def k0_off112 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off113 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c17_i32_422 : BitVec 32 := 17#32
  let c0_i32_423 : BitVec 32 := 0#32
  let c0_i32_424 : BitVec 32 := 0#32
  let c0_i32_425 : BitVec 32 := 0#32
  ![v51.toNat, 17, 0, 0, 0]
def k0_off114 (v747 : BitVec 32) : Fin 4 → Nat :=
  let c0_i32_426 : BitVec 32 := 0#32
  let c0_i32_427 : BitVec 32 := 0#32
  let c0_i32_428 : BitVec 32 := 0#32
  ![v747.toNat, 0, 0, 0]

def k0_chk38 (v747 : BitVec 32) : Prop :=
  (∀ a, (k0_off114 v747) a + S1x128x8x128.size a ≤ S2560x128x8x128.size a)
theorem k0_off114_inb : ∀ (v747 : BitVec 32) (k0_hw38 : k0_chk38 v747), ∀ a, (k0_off114 v747) a + S1x128x8x128.size a ≤ S2560x128x8x128.size a := fun v747 k0_hw38 => k0_hw38

def k0_off115 (i : grid0.Coords) : Fin 2 → Nat :=
  let c0_i32_430 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_429 : BitVec 32 := 20#32
  let v754 : BitVec 32 := Scalar.muli v50 c20_i32_429
  let v755 : BitVec 32 := Scalar.addi c0_i32_430 v754
  let c18_i32 : BitVec 32 := 18#32
  let v756 : BitVec 32 := Scalar.addi v755 c18_i32
  let c0_i32_432 : BitVec 32 := 0#32
  let v758 : BitVec 1 := Scalar.cmpi .sgt v756 c0_i32_432
  let v759 : BitVec 32 := Scalar.extui v758
  let c0_i32_433 : BitVec 32 := 0#32
  let v760 : BitVec 1 := Scalar.cmpi .slt v756 c0_i32_433
  let v761 : BitVec 32 := Scalar.extui v760
  let v762 : BitVec 32 := Scalar.subi v759 v761
  let c64_i32_431 : BitVec 32 := 64#32
  let c0_i32_434 : BitVec 32 := 0#32
  let v763 : BitVec 1 := Scalar.cmpi .sgt c64_i32_431 c0_i32_434
  let v764 : BitVec 32 := Scalar.extui v763
  let c0_i32_435 : BitVec 32 := 0#32
  let v765 : BitVec 1 := Scalar.cmpi .slt c64_i32_431 c0_i32_435
  let v766 : BitVec 32 := Scalar.extui v765
  let v767 : BitVec 32 := Scalar.subi v764 v766
  let v768 : BitVec 1 := Scalar.cmpi .ne v762 v767
  let v769 : BitVec 32 := Scalar.remsi v756 c64_i32_431
  let c0_i32_436 : BitVec 32 := 0#32
  let v770 : BitVec 1 := Scalar.cmpi .ne v769 c0_i32_436
  let v771 : BitVec 1 := Scalar.andi v768 v770
  let v757 : BitVec 32 := Scalar.divsi v756 c64_i32_431
  let c1_i32_437 : BitVec 32 := 1#32
  let v772 : BitVec 32 := Scalar.subi v757 c1_i32_437
  let v773 : BitVec 32 := Scalar.select v771 v772 v757
  let v784 : Index := Scalar.indexCast v773
  let c64_i32_438 : BitVec 32 := 64#32
  let c0_i32_439 : BitVec 32 := 0#32
  let v774 : BitVec 1 := Scalar.cmpi .eq c64_i32_438 c0_i32_439
  let c1_i32_440 : BitVec 32 := 1#32
  let v775 : BitVec 32 := Scalar.select v774 c1_i32_440 c64_i32_438
  let v776 : BitVec 32 := Scalar.remsi v756 v775
  let c0_i32_442 : BitVec 32 := 0#32
  let v778 : BitVec 1 := Scalar.cmpi .slt v776 c0_i32_442
  let c0_i32_443 : BitVec 32 := 0#32
  let v779 : BitVec 1 := Scalar.cmpi .slt v775 c0_i32_443
  let v780 : BitVec 1 := Scalar.xori v778 v779
  let c0_i32_441 : BitVec 32 := 0#32
  let v777 : BitVec 1 := Scalar.cmpi .ne v776 c0_i32_441
  let v781 : BitVec 1 := Scalar.andi v780 v777
  let v782 : BitVec 32 := Scalar.addi v776 v775
  let v783 : BitVec 32 := Scalar.select v781 v782 v776
  let v785 : Index := Scalar.indexCast v783
  ![v784.toNat, v785.toNat]
def k0_off116 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off117 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c18_i32_444 : BitVec 32 := 18#32
  let c0_i32_445 : BitVec 32 := 0#32
  let c0_i32_446 : BitVec 32 := 0#32
  let c0_i32_447 : BitVec 32 := 0#32
  ![v51.toNat, 18, 0, 0, 0]
def k0_off118 (v786 : BitVec 32) : Fin 4 → Nat :=
  let c0_i32_448 : BitVec 32 := 0#32
  let c0_i32_449 : BitVec 32 := 0#32
  let c0_i32_450 : BitVec 32 := 0#32
  ![v786.toNat, 0, 0, 0]

def k0_chk39 (v786 : BitVec 32) : Prop :=
  (∀ a, (k0_off118 v786) a + S1x128x8x128.size a ≤ S2560x128x8x128.size a)
theorem k0_off118_inb : ∀ (v786 : BitVec 32) (k0_hw39 : k0_chk39 v786), ∀ a, (k0_off118 v786) a + S1x128x8x128.size a ≤ S2560x128x8x128.size a := fun v786 k0_hw39 => k0_hw39

def k0_off119 (i : grid0.Coords) : Fin 2 → Nat :=
  let c0_i32_452 : BitVec 32 := 0#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c1_i32_26 : BitVec 32 := 1#32
  let v47 : BitVec 32 := Scalar.addi v28 c1_i32_26
  let c64_i32 : BitVec 32 := 64#32
  let v48 : BitVec 1 := Scalar.cmpi .eq v47 c64_i32
  let c0_i32_28 : BitVec 32 := 0#32
  let c1_i32_27 : BitVec 32 := 1#32
  let v49 : BitVec 32 := Scalar.addi v28 c1_i32_27
  let v50 : BitVec 32 := Scalar.select v48 c0_i32_28 v49
  let c20_i32_451 : BitVec 32 := 20#32
  let v793 : BitVec 32 := Scalar.muli v50 c20_i32_451
  let v794 : BitVec 32 := Scalar.addi c0_i32_452 v793
  let c19_i32 : BitVec 32 := 19#32
  let v795 : BitVec 32 := Scalar.addi v794 c19_i32
  let c0_i32_454 : BitVec 32 := 0#32
  let v797 : BitVec 1 := Scalar.cmpi .sgt v795 c0_i32_454
  let v798 : BitVec 32 := Scalar.extui v797
  let c0_i32_455 : BitVec 32 := 0#32
  let v799 : BitVec 1 := Scalar.cmpi .slt v795 c0_i32_455
  let v800 : BitVec 32 := Scalar.extui v799
  let v801 : BitVec 32 := Scalar.subi v798 v800
  let c64_i32_453 : BitVec 32 := 64#32
  let c0_i32_456 : BitVec 32 := 0#32
  let v802 : BitVec 1 := Scalar.cmpi .sgt c64_i32_453 c0_i32_456
  let v803 : BitVec 32 := Scalar.extui v802
  let c0_i32_457 : BitVec 32 := 0#32
  let v804 : BitVec 1 := Scalar.cmpi .slt c64_i32_453 c0_i32_457
  let v805 : BitVec 32 := Scalar.extui v804
  let v806 : BitVec 32 := Scalar.subi v803 v805
  let v807 : BitVec 1 := Scalar.cmpi .ne v801 v806
  let v808 : BitVec 32 := Scalar.remsi v795 c64_i32_453
  let c0_i32_458 : BitVec 32 := 0#32
  let v809 : BitVec 1 := Scalar.cmpi .ne v808 c0_i32_458
  let v810 : BitVec 1 := Scalar.andi v807 v809
  let v796 : BitVec 32 := Scalar.divsi v795 c64_i32_453
  let c1_i32_459 : BitVec 32 := 1#32
  let v811 : BitVec 32 := Scalar.subi v796 c1_i32_459
  let v812 : BitVec 32 := Scalar.select v810 v811 v796
  let v823 : Index := Scalar.indexCast v812
  let c64_i32_460 : BitVec 32 := 64#32
  let c0_i32_461 : BitVec 32 := 0#32
  let v813 : BitVec 1 := Scalar.cmpi .eq c64_i32_460 c0_i32_461
  let c1_i32_462 : BitVec 32 := 1#32
  let v814 : BitVec 32 := Scalar.select v813 c1_i32_462 c64_i32_460
  let v815 : BitVec 32 := Scalar.remsi v795 v814
  let c0_i32_464 : BitVec 32 := 0#32
  let v817 : BitVec 1 := Scalar.cmpi .slt v815 c0_i32_464
  let c0_i32_465 : BitVec 32 := 0#32
  let v818 : BitVec 1 := Scalar.cmpi .slt v814 c0_i32_465
  let v819 : BitVec 1 := Scalar.xori v817 v818
  let c0_i32_463 : BitVec 32 := 0#32
  let v816 : BitVec 1 := Scalar.cmpi .ne v815 c0_i32_463
  let v820 : BitVec 1 := Scalar.andi v819 v816
  let v821 : BitVec 32 := Scalar.addi v815 v814
  let v822 : BitVec 32 := Scalar.select v820 v821 v815
  let v824 : Index := Scalar.indexCast v822
  ![v823.toNat, v824.toNat]
def k0_off120 (i : grid0.Coords) : Fin 1 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  ![v51.toNat]
def k0_off121 (i : grid0.Coords) : Fin 5 → Nat :=
  let c1_i32_29 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v51 : BitVec 32 := Scalar.subi c1_i32_29 v38
  let c19_i32_466 : BitVec 32 := 19#32
  let c0_i32_467 : BitVec 32 := 0#32
  let c0_i32_468 : BitVec 32 := 0#32
  let c0_i32_469 : BitVec 32 := 0#32
  ![v51.toNat, 19, 0, 0, 0]
def k0_off122 (v825 : BitVec 32) : Fin 4 → Nat :=
  let c0_i32_470 : BitVec 32 := 0#32
  let c0_i32_471 : BitVec 32 := 0#32
  let c0_i32_472 : BitVec 32 := 0#32
  ![v825.toNat, 0, 0, 0]

def k0_chk40 (v825 : BitVec 32) : Prop :=
  (∀ a, (k0_off122 v825) a + S1x128x8x128.size a ≤ S2560x128x8x128.size a)
theorem k0_off122_inb : ∀ (v825 : BitVec 32) (k0_hw40 : k0_chk40 v825), ∀ a, (k0_off122 v825) a + S1x128x8x128.size a ≤ S2560x128x8x128.size a := fun v825 k0_hw40 => k0_hw40

def k0_off123 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v832 : Index := Scalar.indexCast v38
  let c0_473 : Index := 0#32
  let c0_474 : Index := 0#32
  let c0_475 : Index := 0#32
  let c0_476 : Index := 0#32
  ![v832.toNat, 0, 0, 0, 0]
def k0_off124 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v836 : Index := Scalar.indexCast v38
  let c1 : Index := 1#32
  let c0_478 : Index := 0#32
  let c0_479 : Index := 0#32
  let c0_480 : Index := 0#32
  ![v836.toNat, 1, 0, 0, 0]
def k0_off125 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v846 : Index := Scalar.indexCast v38
  let c2 : Index := 2#32
  let c0_486 : Index := 0#32
  let c0_487 : Index := 0#32
  let c0_488 : Index := 0#32
  ![v846.toNat, 2, 0, 0, 0]
def k0_off126 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v850 : Index := Scalar.indexCast v38
  let c3 : Index := 3#32
  let c0_490 : Index := 0#32
  let c0_491 : Index := 0#32
  let c0_492 : Index := 0#32
  ![v850.toNat, 3, 0, 0, 0]
def k0_off127 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v860 : Index := Scalar.indexCast v38
  let c4 : Index := 4#32
  let c0_498 : Index := 0#32
  let c0_499 : Index := 0#32
  let c0_500 : Index := 0#32
  ![v860.toNat, 4, 0, 0, 0]
def k0_off128 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v864 : Index := Scalar.indexCast v38
  let c5 : Index := 5#32
  let c0_502 : Index := 0#32
  let c0_503 : Index := 0#32
  let c0_504 : Index := 0#32
  ![v864.toNat, 5, 0, 0, 0]
def k0_off129 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v874 : Index := Scalar.indexCast v38
  let c6 : Index := 6#32
  let c0_510 : Index := 0#32
  let c0_511 : Index := 0#32
  let c0_512 : Index := 0#32
  ![v874.toNat, 6, 0, 0, 0]
def k0_off130 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v878 : Index := Scalar.indexCast v38
  let c7 : Index := 7#32
  let c0_514 : Index := 0#32
  let c0_515 : Index := 0#32
  let c0_516 : Index := 0#32
  ![v878.toNat, 7, 0, 0, 0]
def k0_off131 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v888 : Index := Scalar.indexCast v38
  let c8 : Index := 8#32
  let c0_522 : Index := 0#32
  let c0_523 : Index := 0#32
  let c0_524 : Index := 0#32
  ![v888.toNat, 8, 0, 0, 0]
def k0_off132 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v892 : Index := Scalar.indexCast v38
  let c9 : Index := 9#32
  let c0_526 : Index := 0#32
  let c0_527 : Index := 0#32
  let c0_528 : Index := 0#32
  ![v892.toNat, 9, 0, 0, 0]
def k0_off133 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v902 : Index := Scalar.indexCast v38
  let c10 : Index := 10#32
  let c0_534 : Index := 0#32
  let c0_535 : Index := 0#32
  let c0_536 : Index := 0#32
  ![v902.toNat, 10, 0, 0, 0]
def k0_off134 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v906 : Index := Scalar.indexCast v38
  let c11 : Index := 11#32
  let c0_538 : Index := 0#32
  let c0_539 : Index := 0#32
  let c0_540 : Index := 0#32
  ![v906.toNat, 11, 0, 0, 0]
def k0_off135 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v916 : Index := Scalar.indexCast v38
  let c12 : Index := 12#32
  let c0_546 : Index := 0#32
  let c0_547 : Index := 0#32
  let c0_548 : Index := 0#32
  ![v916.toNat, 12, 0, 0, 0]
def k0_off136 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v920 : Index := Scalar.indexCast v38
  let c13 : Index := 13#32
  let c0_550 : Index := 0#32
  let c0_551 : Index := 0#32
  let c0_552 : Index := 0#32
  ![v920.toNat, 13, 0, 0, 0]
def k0_off137 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v930 : Index := Scalar.indexCast v38
  let c14 : Index := 14#32
  let c0_558 : Index := 0#32
  let c0_559 : Index := 0#32
  let c0_560 : Index := 0#32
  ![v930.toNat, 14, 0, 0, 0]
def k0_off138 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v934 : Index := Scalar.indexCast v38
  let c15 : Index := 15#32
  let c0_562 : Index := 0#32
  let c0_563 : Index := 0#32
  let c0_564 : Index := 0#32
  ![v934.toNat, 15, 0, 0, 0]
def k0_off139 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v944 : Index := Scalar.indexCast v38
  let c16 : Index := 16#32
  let c0_570 : Index := 0#32
  let c0_571 : Index := 0#32
  let c0_572 : Index := 0#32
  ![v944.toNat, 16, 0, 0, 0]
def k0_off140 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v948 : Index := Scalar.indexCast v38
  let c17 : Index := 17#32
  let c0_574 : Index := 0#32
  let c0_575 : Index := 0#32
  let c0_576 : Index := 0#32
  ![v948.toNat, 17, 0, 0, 0]
def k0_off141 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v958 : Index := Scalar.indexCast v38
  let c18 : Index := 18#32
  let c0_582 : Index := 0#32
  let c0_583 : Index := 0#32
  let c0_584 : Index := 0#32
  ![v958.toNat, 18, 0, 0, 0]
def k0_off142 (i : grid0.Coords) : Fin 5 → Nat :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v962 : Index := Scalar.indexCast v38
  let c19 : Index := 19#32
  let c0_586 : Index := 0#32
  let c0_587 : Index := 0#32
  let c0_588 : Index := 0#32
  ![v962.toNat, 19, 0, 0, 0]
def k0_cond2 (i : grid0.Coords) : BitVec 1 :=
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c63_i32 : BitVec 32 := 63#32
  let v1044 : BitVec 1 := Scalar.cmpi .eq v28 c63_i32
  let v1045 : BitVec 32 := Scalar.extui v1044
  let c0_i32_655 : BitVec 32 := 0#32
  let v1046 : BitVec 1 := Scalar.cmpi .ne v1045 c0_i32_655
  v1046

def k0_off143 (i : grid0.Coords) : Fin 1 → Nat :=
  let c1_i32_656 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v1047 : BitVec 32 := Scalar.subi c1_i32_656 v38
  ![v1047.toNat]
def k0_off144 (i : grid0.Coords) : Fin 5 → Nat :=
  let c1_i32_656 : BitVec 32 := 1#32
  let arg0 : BitVec 32 := BitVec.ofNat 32 (i 0).val
  let c8_i32 : BitVec 32 := 8#32
  let v27 : BitVec 32 := Scalar.muli arg0 c8_i32
  let arg1 : BitVec 32 := BitVec.ofNat 32 (i 1).val
  let v28 : BitVec 32 := Scalar.addi v27 arg1
  let c2_i32 : BitVec 32 := 2#32
  let c0_i32 : BitVec 32 := 0#32
  let v29 : BitVec 1 := Scalar.cmpi .eq c2_i32 c0_i32
  let c1_i32 : BitVec 32 := 1#32
  let v30 : BitVec 32 := Scalar.select v29 c1_i32 c2_i32
  let v31 : BitVec 32 := Scalar.remsi v28 v30
  let c0_i32_14 : BitVec 32 := 0#32
  let v33 : BitVec 1 := Scalar.cmpi .slt v31 c0_i32_14
  let c0_i32_15 : BitVec 32 := 0#32
  let v34 : BitVec 1 := Scalar.cmpi .slt v30 c0_i32_15
  let v35 : BitVec 1 := Scalar.xori v33 v34
  let c0_i32_13 : BitVec 32 := 0#32
  let v32 : BitVec 1 := Scalar.cmpi .ne v31 c0_i32_13
  let v36 : BitVec 1 := Scalar.andi v35 v32
  let v37 : BitVec 32 := Scalar.addi v31 v30
  let v38 : BitVec 32 := Scalar.select v36 v37 v31
  let v1047 : BitVec 32 := Scalar.subi c1_i32_656 v38
  let c0_i32_657 : BitVec 32 := 0#32
  let c0_i32_658 : BitVec 32 := 0#32
  let c0_i32_659 : BitVec 32 := 0#32
  let c0_i32_660 : BitVec 32 := 0#32
  ![v1047.toNat, 0, 0, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.muli arg0 c8_i32
  let v1 : BitVec 32 := Scalar.addi v0 arg1
  let c0_i32 : BitVec 32 := 0#32
  let c0_i32_0 : BitVec 32 := 0#32
  let c0_i32_1 : BitVec 32 := 0#32
  ![v1.toNat, c0_i32.toNat, c0_i32_0.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 1 → Memref sig .tc .vmem S1024x6144 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .smem S32x64 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x256x6144 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S10x8x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== Reference5Ideal.lean ====
abbrev S8x2048x1024 : Shape := ⟨3, ![8, 2048, 1024]⟩
abbrev S1024 : Shape := ⟨1, ![1024]⟩
abbrev S8x1x1024 : Shape := ⟨3, ![8, 1, 1024]⟩
abbrev S1024x6144 : Shape := ⟨2, ![1024, 6144]⟩
abbrev S32x64 : Shape := ⟨2, ![32, 64]⟩
abbrev S2560x128x8x128 : Shape := ⟨4, ![2560, 128, 8, 128]⟩
abbrev S_ : Shape := ⟨0, ![]⟩
abbrev S8x2048 : Shape := ⟨2, ![8, 2048]⟩
abbrev S8x2048x1 : Shape := ⟨3, ![8, 2048, 1]⟩
abbrev S1x1x1024 : Shape := ⟨3, ![1, 1, 1024]⟩
abbrev S8x2048x6144 : Shape := ⟨3, ![8, 2048, 6144]⟩
abbrev S20x64 : Shape := ⟨2, ![20, 64]⟩
abbrev S1280 : Shape := ⟨1, ![1280]⟩
abbrev S1280x1 : Shape := ⟨2, ![1280, 1]⟩
abbrev S1280x128x8x128 : Shape := ⟨4, ![1280, 128, 8, 128]⟩
abbrev S640x256x8x128 : Shape := ⟨4, ![640, 256, 8, 128]⟩
abbrev S640x8x128 : Shape := ⟨3, ![640, 8, 128]⟩

abbrev nBuf : Space → Nat
  | .hbm => 50
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024, .f32⟩
  | .hbm, ⟨2, _⟩ => ⟨S8x1x1024, .f32⟩
  | .hbm, ⟨3, _⟩ => ⟨S8x1x1024, .f32⟩
  | .hbm, ⟨4, _⟩ => ⟨S1024x6144, .bf16⟩
  | .hbm, ⟨5, _⟩ => ⟨S32x64, .i32⟩
  | .hbm, ⟨6, _⟩ => ⟨S2560x128x8x128, .f32⟩
  | .hbm, ⟨7, _⟩ => ⟨S8x2048x1024, .f32⟩
  | .hbm, ⟨8, _⟩ => ⟨S_, .f32⟩
  | .hbm, ⟨9, _⟩ => ⟨S8x2048, .f32⟩
  | .hbm, ⟨10, _⟩ => ⟨S8x2048x1, .f32⟩
  | .hbm, ⟨11, _⟩ => ⟨S_, .f32⟩
  | .hbm, ⟨12, _⟩ => ⟨S8x2048x1, .f32⟩
  | .hbm, ⟨13, _⟩ => ⟨S8x2048x1, .f32⟩
  | .hbm, ⟨14, _⟩ => ⟨S_, .f32⟩
  | .hbm, ⟨15, _⟩ => ⟨S8x2048x1, .f32⟩
  | .hbm, ⟨16, _⟩ => ⟨S8x2048x1, .f32⟩
  | .hbm, ⟨17, _⟩ => ⟨S8x2048x1, .f32⟩
  | .hbm, ⟨18, _⟩ => ⟨S8x2048x1024, .f32⟩
  | .hbm, ⟨19, _⟩ => ⟨S8x2048x1024, .f32⟩
  | .hbm, ⟨20, _⟩ => ⟨S1x1x1024, .f32⟩
  | .hbm, ⟨21, _⟩ => ⟨S8x2048x1024, .f32⟩
  | .hbm, ⟨22, _⟩ => ⟨S8x2048x1024, .f32⟩
  | .hbm, ⟨23, _⟩ => ⟨S_, .f32⟩
  | .hbm, ⟨24, _⟩ => ⟨S8x1x1024, .f32⟩
  | .hbm, ⟨25, _⟩ => ⟨S8x1x1024, .f32⟩
  | .hbm, ⟨26, _⟩ => ⟨S8x2048x1024, .f32⟩
  | .hbm, ⟨27, _⟩ => ⟨S8x2048x1024, .f32⟩
  | .hbm, ⟨28, _⟩ => ⟨S8x2048x1024, .f32⟩
  | .hbm, ⟨29, _⟩ => ⟨S8x2048x1024, .f32⟩
  | .hbm, ⟨30, _⟩ => ⟨S1024x6144, .f32⟩
  | .hbm, ⟨31, _⟩ => ⟨S8x2048x6144, .f32⟩
  | .hbm, ⟨32, _⟩ => ⟨S20x64, .i32⟩
  | .hbm, ⟨33, _⟩ => ⟨S1280, .i32⟩
  | .hbm, ⟨34, _⟩ => ⟨S_, .i32⟩
  | .hbm, ⟨35, _⟩ => ⟨S1280, .i32⟩
  | .hbm, ⟨36, _⟩ => ⟨S1280, .i1⟩
  | .hbm, ⟨37, _⟩ => ⟨S_, .i32⟩
  | .hbm, ⟨38, _⟩ => ⟨S1280, .i32⟩
  | .hbm, ⟨39, _⟩ => ⟨S1280, .i32⟩
  | .hbm, ⟨40, _⟩ => ⟨S1280, .i32⟩
  | .hbm, ⟨41, _⟩ => ⟨S1280x1, .i32⟩
  | .hbm, ⟨42, _⟩ => ⟨S1280x128x8x128, .f32⟩
  | .hbm, ⟨43, _⟩ => ⟨S640x256x8x128, .f32⟩
  | .hbm, ⟨44, _⟩ => ⟨S_, .f32⟩
  | .hbm, ⟨45, _⟩ => ⟨S640x8x128, .f32⟩
  | .hbm, ⟨46, _⟩ => ⟨S_, .f32⟩
  | .hbm, ⟨47, _⟩ => ⟨S640x8x128, .f32⟩
  | .hbm, ⟨48, _⟩ => ⟨S640x8x128, .f32⟩
  | .hbm, ⟨49, _⟩ => ⟨S8x2048x6144, .bf16⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c : Ref sig .tc := ⟨.hbm, 34, rfl⟩
abbrev main_v23 : Ref sig .tc := ⟨.hbm, 35, rfl⟩
abbrev main_v24 : Ref sig .tc := ⟨.hbm, 36, rfl⟩
abbrev main_c_3 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_v31 : Ref sig .tc := ⟨.hbm, 45, rfl⟩
abbrev main_cst_5 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩

abbrev nD : Nat := 1
abbrev τ : Topo := Topo.v7x

variable {F : FTy → Type} [FloatOps F]
-- ==== Proof.Ret.Canon.lean ====
/- What one grid point of the retention mixer computes, written head by head and chunk by chunk as functions
   of the blocks it reads. -/
module

public import proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Ret

open Idealize.ShloMosaic Idealize.SL.Sem Cert.KernelIdeal Cert.KernelIdeal.Gen

variable {F : FTy → Type} [FloatOps F] [Named F]

/-- A load of a whole buffer reads what the writes left. -/
theorem readCov_whole {S : Shape} {e : EltTy} {sig : RefSig} {kd : Kind} {sp : Space} (v : View sig kd sp S e) (L : List (View.Piece (Elt F) S e))
    {off : Fin S.rank → Nat} (inb : ∀ a, off a + S.size a ≤ S.size a) :
    v.readCov L (Rect.unit off (no_index S.size) inb).toLoadRect = View.canon L := by
  have h : off = fun _ => 0 := funext fun a => by have := inb a; omega
  rw [View.readCov_eq_canon']
  exact View.ld_unit_zero h inb (View.canon L)

/-- A load of one gain row at its computed place. -/
theorem ld_off {S : Shape} {e : EltTy} (X : S.Idx → Elt F e) {off off' size : Fin S.rank → Nat} (h : off = off')
    (inb : ∀ a, off a + size a ≤ S.size a) (inb' : ∀ a, off' a + size a ≤ S.size a) :
    View.ld X (Rect.unit off size inb) = View.ld X (Rect.unit off' size inb') := by
  subst h; rfl

theorem off1_0 : ∀ i : grid0.Coords, k0_off1 i 0#32 = ![0, 0] := by decide +kernel
theorem off1_1 : ∀ i : grid0.Coords, k0_off1 i 1#32 = ![1, 0] := by decide +kernel
theorem off1_2 : ∀ i : grid0.Coords, k0_off1 i 2#32 = ![2, 0] := by decide +kernel
theorem off1_3 : ∀ i : grid0.Coords, k0_off1 i 3#32 = ![3, 0] := by decide +kernel

/-! ## One chunk of one head of the prompt -/

/-- The causal decays between the tokens of a chunk. -/
def dMat (lg : F .f32) : FVec F S256x256 .f32 :=
  have d : FVec F S256x256 .f32 := sitofp .f32 (subi (iota .tc S256x256 32 [0] iota_S256x256_d0_w32) (iota .tc S256x256 32 [1] iota_S256x256_d1_w32))
  select (cmpf .oge d (broadcast S256x256 (Scalar.ofBits .f32 0x00000000#32)))
    (exp (mulf (broadcast S256x256 lg) (maximumf d (broadcast S256x256 (Scalar.ofBits .f32 0x00000000#32)))))
    (broadcast S256x256 (Scalar.ofBits .f32 0x00000000#32))

/-- A token's place in its chunk. -/
def pos : FVec F S256x1 .f32 := sitofp .f32 (iota .tc S256x1 32 [0] iota_S256x1_d0_w32)

/-- The decays of the queries against the state before the chunk. -/
def dQ (lg : F .f32) : FVec F S256x1 .f32 :=
  exp (mulf (broadcast S256x1 lg) (addf pos (broadcast S256x1 (Scalar.ofBits .f32 0x3F800000#32))))

/-- The decays of the keys until the chunk's end. -/
def dK (lg : F .f32) : FVec F S256x1 .f32 :=
  exp (mulf (broadcast S256x1 lg) (subf (broadcast S256x1 (Scalar.ofBits .f32 0x437F0000#32)) pos))

/-- The scaled keys. -/
def kk (k : Vec F S1x256x256 .bf16) : FVec F S256x256 .f32 :=
  mulf (extf .f32 (shapeCast S256x256 k shapeCasts_S1x256x256_S256x256) bitsLt_bf16_f32) (broadcast S256x256 (Scalar.ofBits .f32 0x3D800000#32))

/-- The state after the chunk. -/
def hS (lg cd : F .f32) (k : Vec F S1x256x256 .bf16) (v : Vec F S1x256x512 .bf16) (s : Vec F S1x1x256x512 .f32) : Vec F S1x1x256x512 .f32 :=
  shapeCast S1x1x256x512 (addf (mulf (broadcast S256x512 cd) (shapeCast S256x512 s shapeCasts_S1x1x256x512_S256x512))
    (matmul dot_S256x256_S256x512_S256x512_0_0_1_1_n_n none (truncf .bf16 (mulf (kk k) (broadcastTo S256x256 (dK lg) broadcasts_S256x1_S256x256)) bitsLt_bf16_f32)
      (shapeCast S256x512 v shapeCasts_S1x256x512_S256x512) (constant S256x512 .f32 0x00000000#32))) shapeCasts_S256x512_S1x1x256x512

/-- The chunk's outputs, before the norm. -/
def hO (lg : F .f32) (q k : Vec F S1x256x256 .bf16) (v : Vec F S1x256x512 .bf16) (s : Vec F S1x1x256x512 .f32) : FVec F S256x512 .f32 :=
  have q' : FVec F S256x256 .bf16 := shapeCast S256x256 q shapeCasts_S1x256x256_S256x256
  addf (matmul dot_S256x256_S256x512_S256x512_1_0_0_1_n_n none
      (truncf .bf16 (mulf (matmul dot_S256x256_S256x256_S256x256_1_1_0_0_n_n none q' (truncf .bf16 (kk k) bitsLt_bf16_f32) (constant S256x256 .f32 0x00000000#32)) (dMat lg)) bitsLt_bf16_f32)
      (shapeCast S256x512 v shapeCasts_S1x256x512_S256x512) (constant S256x512 .f32 0x00000000#32))
    (matmul dot_S256x256_S256x512_S256x512_1_0_0_1_n_n none
      (truncf .bf16 (mulf (extf .f32 q' bitsLt_bf16_f32) (broadcastTo S256x256 (dQ lg) broadcasts_S256x1_S256x256)) bitsLt_bf16_f32)
      (truncf .bf16 (shapeCast S256x512 s shapeCasts_S1x1x256x512_S256x512) bitsLt_bf16_f32) (constant S256x512 .f32 0x00000000#32))

/-- The outputs less their mean. -/
def hC (o : FVec F S256x512 .f32) : FVec F S256x512 .f32 :=
  subf o (broadcastTo S256x512 (divf (shapeCast S256x1 (multiReduction .add [1] S256 o 0x00000000#32 reduces_S256x512_S256 (.inl rfl) rfl) shapeCasts_S256_S256x1)
    (broadcast S256x1 (Scalar.ofBits .f32 0x44000000#32))) broadcasts_S256x1_S256x512)

/-- The gate's silu on the normed outputs. -/
def hG (o : FVec F S256x512 .f32) (g : Vec F S1x256x512 .bf16) (gn : Vec F S1x512 .f32) : FVec F S256x512 .bf16 :=
  have g' : FVec F S256x512 .f32 := extf .f32 (shapeCast S256x512 g shapeCasts_S1x256x512_S256x512) bitsLt_bf16_f32
  shapeCast S256x512 (truncf .bf16 (mulf (mulf (mulf (hC o)
    (broadcastTo S256x512 (rsqrt (addf (divf (shapeCast S256x1 (multiReduction .add [1] S256 (mulf (hC o) (hC o)) 0x00000000#32 reduces_S256x512_S256 (.inl rfl) rfl) shapeCasts_S256_S256x1)
      (broadcast S256x1 (Scalar.ofBits .f32 0x44000000#32))) (broadcast S256x1 (Scalar.ofBits .f32 0x358637BD#32)))) broadcasts_S256x1_S256x512))
    (broadcastTo S256x512 gn broadcasts_S1x512_S256x512)) (mulf g' (logistic g'))) bitsLt_bf16_f32) shapeCasts_S256x512_S256x512

/-! ## One head of a sample row -/

/-- The causal decays between a row's four tokens. -/
def eMat (lg : F .f32) : FVec F S4x4 .f32 :=
  have d : FVec F S4x4 .f32 := sitofp .f32 (subi (iota .tc S4x4 32 [0] iota_S4x4_d0_w32) (iota .tc S4x4 32 [1] iota_S4x4_d1_w32))
  select (cmpf .oge d (broadcast S4x4 (Scalar.ofBits .f32 0x00000000#32)))
    (exp (mulf (broadcast S4x4 lg) (maximumf d (broadcast S4x4 (Scalar.ofBits .f32 0x00000000#32)))))
    (broadcast S4x4 (Scalar.ofBits .f32 0x00000000#32))

/-- A token's place in its row. -/
def epos : FVec F S4x1 .f32 := sitofp .f32 (iota .tc S4x1 32 [0] iota_S4x1_d0_w32)

/-- The decays of the queries against the state before the row. -/
def eQ (lg : F .f32) : FVec F S4x1 .f32 :=
  exp (mulf (broadcast S4x1 lg) (addf epos (broadcast S4x1 (Scalar.ofBits .f32 0x3F800000#32))))

/-- The decays of the keys until the row's end. -/
def eK (lg : F .f32) : FVec F S4x1 .f32 :=
  exp (mulf (broadcast S4x1 lg) (subf (broadcast S4x1 (Scalar.ofBits .f32 0x40400000#32)) epos))

/-- The row's scaled keys. -/
def ek (k : Vec F S1x4x256 .f32) : FVec F S4x256 .f32 :=
  mulf (shapeCast S4x256 k shapeCasts_S1x4x256_S4x256) (broadcast S4x256 (Scalar.ofBits .f32 0x3D800000#32))

/-- The state after the row, four rows of zeros standing under its keys and values. -/
def eS (lg cd : F .f32) (k : Vec F S1x4x256 .f32) (v : Vec F S1x4x512 .f32) (s : Vec F S1x1x256x512 .f32) : Vec F S1x1x256x512 .f32 :=
  shapeCast S1x1x256x512 (addf (mulf (broadcast S256x512 cd) (shapeCast S256x512 s shapeCasts_S1x1x256x512_S256x512))
    (matmul dot_S8x256_S8x512_S256x512_0_0_1_1_n_n none
      (concatenate S8x256 0 [⟨S4x256, mulf (ek k) (broadcastTo S4x256 (eK lg) broadcasts_S4x1_S4x256)⟩, ⟨S4x256, broadcast S4x256 (Scalar.ofBits .f32 0x00000000#32)⟩] concatenates_S4x256_S4x256_S8x256_d0)
      (concatenate S8x512 0 [⟨S4x512, shapeCast S4x512 v shapeCasts_S1x4x512_S4x512⟩, ⟨S4x512, broadcast S4x512 (Scalar.ofBits .f32 0x00000000#32)⟩] concatenates_S4x512_S4x512_S8x512_d0)
      (constant S256x512 .f32 0x00000000#32))) shapeCasts_S256x512_S1x1x256x512

/-- What token 0 adds to the row's outputs. -/
def eT0 (lg : F .f32) (q k : Vec F S1x4x256 .f32) (v : Vec F S1x4x512 .f32) : FVec F S4x512 .f32 :=
  mulf (broadcastTo S4x512 (mulf (shapeCast S4x1 (multiReduction .add [1] S4 (mulf (shapeCast S4x256 q shapeCasts_S1x4x256_S4x256)
        (broadcastTo S4x256 (extractStridedSlice S1x256 ![0, 0] (ek k) slices_S4x256_o0_0_S1x256) broadcasts_S1x256_S4x256)) 0x00000000#32 reduces_S4x256_S4 (.inl rfl) rfl) shapeCasts_S4_S4x1)
      (extractStridedSlice S4x1 ![0, 0] (eMat lg) slices_S4x4_o0_0_S4x1)) broadcasts_S4x1_S4x512)
    (broadcastTo S4x512 (extractStridedSlice S1x512 ![0, 0] (shapeCast S4x512 v shapeCasts_S1x4x512_S4x512) slices_S4x512_o0_0_S1x512) broadcasts_S1x512_S4x512)

/-- What token 1 adds to the row's outputs. -/
def eT1 (lg : F .f32) (q k : Vec F S1x4x256 .f32) (v : Vec F S1x4x512 .f32) : FVec F S4x512 .f32 :=
  mulf (broadcastTo S4x512 (mulf (shapeCast S4x1 (multiReduction .add [1] S4 (mulf (shapeCast S4x256 q shapeCasts_S1x4x256_S4x256)
        (broadcastTo S4x256 (extractStridedSlice S1x256 ![1, 0] (ek k) slices_S4x256_o1_0_S1x256) broadcasts_S1x256_S4x256)) 0x00000000#32 reduces_S4x256_S4 (.inl rfl) rfl) shapeCasts_S4_S4x1)
      (extractStridedSlice S4x1 ![0, 1] (eMat lg) slices_S4x4_o0_1_S4x1)) broadcasts_S4x1_S4x512)
    (broadcastTo S4x512 (extractStridedSlice S1x512 ![1, 0] (shapeCast S4x512 v shapeCasts_S1x4x512_S4x512) slices_S4x512_o1_0_S1x512) broadcasts_S1x512_S4x512)

/-- What token 2 adds to the row's outputs. -/
def eT2 (lg : F .f32) (q k : Vec F S1x4x256 .f32) (v : Vec F S1x4x512 .f32) : FVec F S4x512 .f32 :=
  mulf (broadcastTo S4x512 (mulf (shapeCast S4x1 (multiReduction .add [1] S4 (mulf (shapeCast S4x256 q shapeCasts_S1x4x256_S4x256)
        (broadcastTo S4x256 (extractStridedSlice S1x256 ![2, 0] (ek k) slices_S4x256_o2_0_S1x256) broadcasts_S1x256_S4x256)) 0x00000000#32 reduces_S4x256_S4 (.inl rfl) rfl) shapeCasts_S4_S4x1)
      (extractStridedSlice S4x1 ![0, 2] (eMat lg) slices_S4x4_o0_2_S4x1)) broadcasts_S4x1_S4x512)
    (broadcastTo S4x512 (extractStridedSlice S1x512 ![2, 0] (shapeCast S4x512 v shapeCasts_S1x4x512_S4x512) slices_S4x512_o2_0_S1x512) broadcasts_S1x512_S4x512)

/-- What token 3 adds to the row's outputs. -/
def eT3 (lg : F .f32) (q k : Vec F S1x4x256 .f32) (v : Vec F S1x4x512 .f32) : FVec F S4x512 .f32 :=
  mulf (broadcastTo S4x512 (mulf (shapeCast S4x1 (multiReduction .add [1] S4 (mulf (shapeCast S4x256 q shapeCasts_S1x4x256_S4x256)
        (broadcastTo S4x256 (extractStridedSlice S1x256 ![3, 0] (ek k) slices_S4x256_o3_0_S1x256) broadcasts_S1x256_S4x256)) 0x00000000#32 reduces_S4x256_S4 (.inl rfl) rfl) shapeCasts_S4_S4x1)
      (extractStridedSlice S4x1 ![0, 3] (eMat lg) slices_S4x4_o0_3_S4x1)) broadcasts_S4x1_S4x512)
    (broadcastTo S4x512 (extractStridedSlice S1x512 ![3, 0] (shapeCast S4x512 v shapeCasts_S1x4x512_S4x512) slices_S4x512_o3_0_S1x512) broadcasts_S1x512_S4x512)

/-- The row's outputs, before the norm. -/
def eO (lg : F .f32) (q k : Vec F S1x4x256 .f32) (v : Vec F S1x4x512 .f32) (s : Vec F S1x1x256x512 .f32) : FVec F S4x512 .f32 :=
  addf (addf (addf (addf (matmul dot_S4x256_S256x512_S4x512_1_0_0_1_n_n none
      (mulf (shapeCast S4x256 q shapeCasts_S1x4x256_S4x256) (broadcastTo S4x256 (eQ lg) broadcasts_S4x1_S4x256))
      (shapeCast S256x512 s shapeCasts_S1x1x256x512_S256x512) (constant S4x512 .f32 0x00000000#32))
    (eT0 lg q k v)) (eT1 lg q k v)) (eT2 lg q k v)) (eT3 lg q k v)

/-- The row's outputs less their mean. -/
def eC (o : FVec F S4x512 .f32) : FVec F S4x512 .f32 :=
  subf o (broadcastTo S4x512 (divf (shapeCast S4x1 (multiReduction .add [1] S4 o 0x00000000#32 reduces_S4x512_S4 (.inl rfl) rfl) shapeCasts_S4_S4x1)
    (broadcast S4x1 (Scalar.ofBits .f32 0x44000000#32))) broadcasts_S4x1_S4x512)

/-- The gate's silu on the row's normed outputs. -/
def eG (o : FVec F S4x512 .f32) (g : Vec F S1x4x512 .f32) (gn : Vec F S1x512 .f32) : Vec F S1x4x512 .f32 :=
  have g' : FVec F S4x512 .f32 := shapeCast S4x512 g shapeCasts_S1x4x512_S4x512
  shapeCast S1x4x512 (mulf (mulf (mulf (eC o)
    (broadcastTo S4x512 (rsqrt (addf (divf (shapeCast S4x1 (multiReduction .add [1] S4 (mulf (eC o) (eC o)) 0x00000000#32 reduces_S4x512_S4 (.inl rfl) rfl) shapeCasts_S4_S4x1)
      (broadcast S4x1 (Scalar.ofBits .f32 0x44000000#32))) (broadcast S4x1 (Scalar.ofBits .f32 0x358637BD#32)))) broadcasts_S4x1_S4x512))
    (broadcastTo S4x512 gn broadcasts_S1x512_S4x512)) (mulf g' (logistic g'))) shapeCasts_S4x512_S1x4x512

/-! ## The heads' constants -/

/-- The logarithm of head 0's decay. -/
def lg0 : F .f32 := Named.named κ "log_gamma0" 0xBD020AEC#32
/-- Head 0's decay over a chunk. -/
def cd0 : F .f32 := Named.named κ "gamma0_pow_256" 0x399ACCA1#32
/-- Head 0's decay over a sample row. -/
def ce0 : F .f32 := Named.named κ "gamma0_pow_4" 0x3F617810#32

/-- The logarithm of head 1's decay. -/
def lg1 : F .f32 := Named.named κ "log_gamma1" 0xBC8102B3#32
/-- Head 1's decay over a chunk. -/
def cd1 : F .f32 := Named.named κ "gamma1_pow_256" 0x3C9160A5#32
/-- Head 1's decay over a sample row. -/
def ce1 : F .f32 := Named.named κ "gamma1_pow_4" 0x3F705F01#32

/-- The logarithm of head 2's decay. -/
def lg2 : F .f32 := Named.named κ "log_gamma2" 0xBC0080AC#32
/-- Head 2's decay over a chunk. -/
def cd2 : F .f32 := Named.named κ "gamma2_pow_256" 0x3E097FCE#32
/-- Head 2's decay over a sample row. -/
def ce2 : F .f32 := Named.named κ "gamma2_pow_4" 0x3F7817E0#32

/-- The logarithm of head 3's decay. -/
def lg3 : F .f32 := Named.named κ "log_gamma3" 0xBB80402B#32
/-- Head 3's decay over a chunk. -/
def cd3 : F .f32 := Named.named κ "gamma3_pow_256" 0x3EBBFC5D#32
/-- Head 3's decay over a sample row. -/
def ce3 : F .f32 := Named.named κ "gamma3_pow_4" 0x3F7C05FC#32

/-! ## The blocks a point leaves -/

/-- Head 0's state after the point's first chunk. -/
def m0 (x0 : Vec F S1x512x6144 .bf16) (s : Vec F S1x4x256x512 .f32) : Vec F S1x1x256x512 .f32 :=
  hS lg0 cd0 (View.ld x0 (Rect.unit ![0, 0, 1024] ![1, 256, 256] (by decide))) (View.ld x0 (Rect.unit ![0, 0, 2048] ![1, 256, 512] (by decide))) (View.ld s (Rect.unit ![0, 0, 0, 0] ![1, 1, 256, 512] (by decide)))

/-- Head 1's state after the point's first chunk. -/
def m1 (x0 : Vec F S1x512x6144 .bf16) (s : Vec F S1x4x256x512 .f32) : Vec F S1x1x256x512 .f32 :=
  hS lg1 cd1 (View.ld x0 (Rect.unit ![0, 0, 1280] ![1, 256, 256] (by decide))) (View.ld x0 (Rect.unit ![0, 0, 2560] ![1, 256, 512] (by decide))) (View.ld s (Rect.unit ![0, 1, 0, 0] ![1, 1, 256, 512] (by decide)))

/-- Head 2's state after the point's first chunk. -/
def m2 (x0 : Vec F S1x512x6144 .bf16) (s : Vec F S1x4x256x512 .f32) : Vec F S1x1x256x512 .f32 :=
  hS lg2 cd2 (View.ld x0 (Rect.unit ![0, 0, 1536] ![1, 256, 256] (by decide))) (View.ld x0 (Rect.unit ![0, 0, 3072] ![1, 256, 512] (by decide))) (View.ld s (Rect.unit ![0, 2, 0, 0] ![1, 1, 256, 512] (by decide)))

/-- Head 3's state after the point's first chunk. -/
def m3 (x0 : Vec F S1x512x6144 .bf16) (s : Vec F S1x4x256x512 .f32) : Vec F S1x1x256x512 .f32 :=
  hS lg3 cd3 (View.ld x0 (Rect.unit ![0, 0, 1792] ![1, 256, 256] (by decide))) (View.ld x0 (Rect.unit ![0, 0, 3584] ![1, 256, 512] (by decide))) (View.ld s (Rect.unit ![0, 3, 0, 0] ![1, 1, 256, 512] (by decide)))

/-- What a point writes to the state block, the last write first. -/
def stL (x0 : Vec F S1x512x6144 .bf16) (s : Vec F S1x4x256x512 .f32) : List (View.Piece (Elt F) S1x4x256x512 .f32) :=
  [⟨(Rect.unit ![0, 3, 0, 0] ![1, 1, 256, 512] (by decide)), hS lg3 cd3 (View.ld x0 (Rect.unit ![0, 256, 1792] ![1, 256, 256] (by decide))) (View.ld x0 (Rect.unit ![0, 256, 3584] ![1, 256, 512] (by decide))) (m3 x0 s)⟩,
    ⟨(Rect.unit ![0, 3, 0, 0] ![1, 1, 256, 512] (by decide)), m3 x0 s⟩,
    ⟨(Rect.unit ![0, 2, 0, 0] ![1, 1, 256, 512] (by decide)), hS lg2 cd2 (View.ld x0 (Rect.unit ![0, 256, 1536] ![1, 256, 256] (by decide))) (View.ld x0 (Rect.unit ![0, 256, 3072] ![1, 256, 512] (by decide))) (m2 x0 s)⟩,
    ⟨(Rect.unit ![0, 2, 0, 0] ![1, 1, 256, 512] (by decide)), m2 x0 s⟩,
    ⟨(Rect.unit ![0, 1, 0, 0] ![1, 1, 256, 512] (by decide)), hS lg1 cd1 (View.ld x0 (Rect.unit ![0, 256, 1280] ![1, 256, 256] (by decide))) (View.ld x0 (Rect.unit ![0, 256, 2560] ![1, 256, 512] (by decide))) (m1 x0 s)⟩,
    ⟨(Rect.unit ![0, 1, 0, 0] ![1, 1, 256, 512] (by decide)), m1 x0 s⟩,
    ⟨(Rect.unit ![0, 0, 0, 0] ![1, 1, 256, 512] (by decide)), hS lg0 cd0 (View.ld x0 (Rect.unit ![0, 256, 1024] ![1, 256, 256] (by decide))) (View.ld x0 (Rect.unit ![0, 256, 2048] ![1, 256, 512] (by decide))) (m0 x0 s)⟩,
    ⟨(Rect.unit ![0, 0, 0, 0] ![1, 1, 256, 512] (by decide)), m0 x0 s⟩]

/-- The gated outputs of a point, the last write first. -/
def ogL (x0 : Vec F S1x512x6144 .bf16) (x3 : Vec F S4x512 .f32) (s : Vec F S1x4x256x512 .f32) : List (View.Piece (Elt F) S512x2048 .bf16) :=
  [⟨(Rect.unit ![256, 1536] ![256, 512] (by decide)), hG (hO lg3 (View.ld x0 (Rect.unit ![0, 256, 768] ![1, 256, 256] (by decide))) (View.ld x0 (Rect.unit ![0, 256, 1792] ![1, 256, 256] (by decide))) (View.ld x0 (Rect.unit ![0, 256, 3584] ![1, 256, 512] (by decide))) (m3 x0 s)) (View.ld x0 (Rect.unit ![0, 256, 5632] ![1, 256, 512] (by decide))) (View.ld x3 (Rect.unit ![3, 0] ![1, 512] (by decide)))⟩,
    ⟨(Rect.unit ![0, 1536] ![256, 512] (by decide)), hG (hO lg3 (View.ld x0 (Rect.unit ![0, 0, 768] ![1, 256, 256] (by decide))) (View.ld x0 (Rect.unit ![0, 0, 1792] ![1, 256, 256] (by decide))) (View.ld x0 (Rect.unit ![0, 0, 3584] ![1, 256, 512] (by decide))) (View.ld s (Rect.unit ![0, 3, 0, 0] ![1, 1, 256, 512] (by decide)))) (View.ld x0 (Rect.unit ![0, 0, 5632] ![1, 256, 512] (by decide))) (View.ld x3 (Rect.unit ![3, 0] ![1, 512] (by decide)))⟩,
    ⟨(Rect.unit ![256, 1024] ![256, 512] (by decide)), hG (hO lg2 (View.ld x0 (Rect.unit ![0, 256, 512] ![1, 256, 256] (by decide))) (View.ld x0 (Rect.unit ![0, 256, 1536] ![1, 256, 256] (by decide))) (View.ld x0 (Rect.unit ![0, 256, 3072] ![1, 256, 512] (by decide))) (m2 x0 s)) (View.ld x0 (Rect.unit ![0, 256, 5120] ![1, 256, 512] (by decide))) (View.ld x3 (Rect.unit ![2, 0] ![1, 512] (by decide)))⟩,
    ⟨(Rect.unit ![0, 1024] ![256, 512] (by decide)), hG (hO lg2 (View.ld x0 (Rect.unit ![0, 0, 512] ![1, 256, 256] (by decide))) (View.ld x0 (Rect.unit ![0, 0, 1536] ![1, 256, 256] (by decide))) (View.ld x0 (Rect.unit ![0, 0, 3072] ![1, 256, 512] (by decide))) (View.ld s (Rect.unit ![0, 2, 0, 0] ![1, 1, 256, 512] (by decide)))) (View.ld x0 (Rect.unit ![0, 0, 5120] ![1, 256, 512] (by decide))) (View.ld x3 (Rect.unit ![2, 0] ![1, 512] (by decide)))⟩,
    ⟨(Rect.unit ![256, 512] ![256, 512] (by decide)), hG (hO lg1 (View.ld x0 (Rect.unit ![0, 256, 256] ![1, 256, 256] (by decide))) (View.ld x0 (Rect.unit ![0, 256, 1280] ![1, 256, 256] (by decide))) (View.ld x0 (Rect.unit ![0, 256, 2560] ![1, 256, 512] (by decide))) (m1 x0 s)) (View.ld x0 (Rect.unit ![0, 256, 4608] ![1, 256, 512] (by decide))) (View.ld x3 (Rect.unit ![1, 0] ![1, 512] (by decide)))⟩,
    ⟨(Rect.unit ![0, 512] ![256, 512] (by decide)), hG (hO lg1 (View.ld x0 (Rect.unit ![0, 0, 256] ![1, 256, 256] (by decide))) (View.ld x0 (Rect.unit ![0, 0, 1280] ![1, 256, 256] (by decide))) (View.ld x0 (Rect.unit ![0, 0, 2560] ![1, 256, 512] (by decide))) (View.ld s (Rect.unit ![0, 1, 0, 0] ![1, 1, 256, 512] (by decide)))) (View.ld x0 (Rect.unit ![0, 0, 4608] ![1, 256, 512] (by decide))) (View.ld x3 (Rect.unit ![1, 0] ![1, 512] (by decide)))⟩,
    ⟨(Rect.unit ![256, 0] ![256, 512] (by decide)), hG (hO lg0 (View.ld x0 (Rect.unit ![0, 256, 0] ![1, 256, 256] (by decide))) (View.ld x0 (Rect.unit ![0, 256, 1024] ![1, 256, 256] (by decide))) (View.ld x0 (Rect.unit ![0, 256, 2048] ![1, 256, 512] (by decide))) (m0 x0 s)) (View.ld x0 (Rect.unit ![0, 256, 4096] ![1, 256, 512] (by decide))) (View.ld x3 (Rect.unit ![0, 0] ![1, 512] (by decide)))⟩,
    ⟨(Rect.unit ![0, 0] ![256, 512] (by decide)), hG (hO lg0 (View.ld x0 (Rect.unit ![0, 0, 0] ![1, 256, 256] (by decide))) (View.ld x0 (Rect.unit ![0, 0, 1024] ![1, 256, 256] (by decide))) (View.ld x0 (Rect.unit ![0, 0, 2048] ![1, 256, 512] (by decide))) (View.ld s (Rect.unit ![0, 0, 0, 0] ![1, 1, 256, 512] (by decide)))) (View.ld x0 (Rect.unit ![0, 0, 4096] ![1, 256, 512] (by decide))) (View.ld x3 (Rect.unit ![0, 0] ![1, 512] (by decide)))⟩]

/-- The sample row's state block, the last write first. -/
def esBlk (x6 : Vec F S1x4x1024 .f32) (x7 : Vec F S1x4x2048 .f32) (x9 : Vec F S1x4x256x512 .f32) : Vec F S1x4x256x512 .f32 :=
  View.canon [⟨(Rect.unit ![0, 3, 0, 0] ![1, 1, 256, 512] (by decide)), eS lg3 ce3 (View.ld x6 (Rect.unit ![0, 0, 768] ![1, 4, 256] (by decide))) (View.ld x7 (Rect.unit ![0, 0, 1536] ![1, 4, 512] (by decide))) (View.ld x9 (Rect.unit ![0, 3, 0, 0] ![1, 1, 256, 512] (by decide)))⟩,
    ⟨(Rect.unit ![0, 2, 0, 0] ![1, 1, 256, 512] (by decide)), eS lg2 ce2 (View.ld x6 (Rect.unit ![0, 0, 512] ![1, 4, 256] (by decide))) (View.ld x7 (Rect.unit ![0, 0, 1024] ![1, 4, 512] (by decide))) (View.ld x9 (Rect.unit ![0, 2, 0, 0] ![1, 1, 256, 512] (by decide)))⟩,
    ⟨(Rect.unit ![0, 1, 0, 0] ![1, 1, 256, 512] (by decide)), eS lg1 ce1 (View.ld x6 (Rect.unit ![0, 0, 256] ![1, 4, 256] (by decide))) (View.ld x7 (Rect.unit ![0, 0, 512] ![1, 4, 512] (by decide))) (View.ld x9 (Rect.unit ![0, 1, 0, 0] ![1, 1, 256, 512] (by decide)))⟩,
    ⟨(Rect.unit ![0, 0, 0, 0] ![1, 1, 256, 512] (by decide)), eS lg0 ce0 (View.ld x6 (Rect.unit ![0, 0, 0] ![1, 4, 256] (by decide))) (View.ld x7 (Rect.unit ![0, 0, 0] ![1, 4, 512] (by decide))) (View.ld x9 (Rect.unit ![0, 0, 0, 0] ![1, 1, 256, 512] (by decide)))⟩]

/-- The sample row's gated outputs, the last write first. -/
def egBlk (x3 : Vec F S4x512 .f32) (x5 x6 : Vec F S1x4x1024 .f32) (x7 x8 : Vec F S1x4x2048 .f32) (x9 : Vec F S1x4x256x512 .f32) : Vec F S1x4x2048 .f32 :=
  View.canon [⟨(Rect.unit ![0, 0, 1536] ![1, 4, 512] (by decide)), eG (eO lg3 (View.ld x5 (Rect.unit ![0, 0, 768] ![1, 4, 256] (by decide))) (View.ld x6 (Rect.unit ![0, 0, 768] ![1, 4, 256] (by decide))) (View.ld x7 (Rect.unit ![0, 0, 1536] ![1, 4, 512] (by decide))) (View.ld x9 (Rect.unit ![0, 3, 0, 0] ![1, 1, 256, 512] (by decide)))) (View.ld x8 (Rect.unit ![0, 0, 1536] ![1, 4, 512] (by decide))) (View.ld x3 (Rect.unit ![3, 0] ![1, 512] (by decide)))⟩,
    ⟨(Rect.unit ![0, 0, 1024] ![1, 4, 512] (by decide)), eG (eO lg2 (View.ld x5 (Rect.unit ![0, 0, 512] ![1, 4, 256] (by decide))) (View.ld x6 (Rect.unit ![0, 0, 512] ![1, 4, 256] (by decide))) (View.ld x7 (Rect.unit ![0, 0, 1024] ![1, 4, 512] (by decide))) (View.ld x9 (Rect.unit ![0, 2, 0, 0] ![1, 1, 256, 512] (by decide)))) (View.ld x8 (Rect.unit ![0, 0, 1024] ![1, 4, 512] (by decide))) (View.ld x3 (Rect.unit ![2, 0] ![1, 512] (by decide)))⟩,
    ⟨(Rect.unit ![0, 0, 512] ![1, 4, 512] (by decide)), eG (eO lg1 (View.ld x5 (Rect.unit ![0, 0, 256] ![1, 4, 256] (by decide))) (View.ld x6 (Rect.unit ![0, 0, 256] ![1, 4, 256] (by decide))) (View.ld x7 (Rect.unit ![0, 0, 512] ![1, 4, 512] (by decide))) (View.ld x9 (Rect.unit ![0, 1, 0, 0] ![1, 1, 256, 512] (by decide)))) (View.ld x8 (Rect.unit ![0, 0, 512] ![1, 4, 512] (by decide))) (View.ld x3 (Rect.unit ![1, 0] ![1, 512] (by decide)))⟩,
    ⟨(Rect.unit ![0, 0, 0] ![1, 4, 512] (by decide)), eG (eO lg0 (View.ld x5 (Rect.unit ![0, 0, 0] ![1, 4, 256] (by decide))) (View.ld x6 (Rect.unit ![0, 0, 0] ![1, 4, 256] (by decide))) (View.ld x7 (Rect.unit ![0, 0, 0] ![1, 4, 512] (by decide))) (View.ld x9 (Rect.unit ![0, 0, 0, 0] ![1, 1, 256, 512] (by decide)))) (View.ld x8 (Rect.unit ![0, 0, 0] ![1, 4, 512] (by decide))) (View.ld x3 (Rect.unit ![0, 0] ![1, 512] (by decide)))⟩]

/-- The rounded weights' two halves, the last write first. -/
def wL (x4 : Vec F S2048x1024 .f32) : List (View.Piece (Elt F) S2048x1024 .bf16) :=
  [⟨(Rect.unit ![0, 512] ![2048, 512] (by decide)), shapeCast S2048x512 (truncf .bf16 (View.ld x4 (Rect.unit ![0, 512] ![2048, 512] (by decide))) bitsLt_bf16_f32) shapeCasts_S2048x512_S2048x512⟩,
    ⟨(Rect.unit ![0, 0] ![2048, 512] (by decide)), shapeCast S2048x512 (truncf .bf16 (View.ld x4 (Rect.unit ![0, 0] ![2048, 512] (by decide))) bitsLt_bf16_f32) shapeCasts_S2048x512_S2048x512⟩]

/-- The result block of a point, from its gated outputs and the weights. -/
def yBlk (x1 : Vec F S1x512x1024 .f32) (x2 : Vec F S1x1x1024 .f32) (og : Vec F S512x2048 .bf16) (wb : Vec F S2048x1024 .bf16) : Vec F S1x512x1024 .f32 :=
  shapeCast S1x512x1024 (addf (shapeCast S512x1024 x1 shapeCasts_S1x512x1024_S512x1024)
    (mulf (broadcastTo S512x1024 (shapeCast S1x1024 x2 shapeCasts_S1x1x1024_S1x1024) broadcasts_S1x1024_S512x1024)
      (matmul dot_S512x2048_S2048x1024_S512x1024_1_0_0_1_n_n none og wb (constant S512x1024 .f32 0x00000000#32)))) shapeCasts_S512x1024_S1x512x1024

end Cert.KernelIdeal.Ret

end
-- ==== Proof.Ret.Maths.lean ====
/- The retention recurrence over the reals, told in closed form, and what one chunk of tokens makes of it.
   Every statement is generic in the chunk's length: the kernel takes chunks of 256 tokens, the reference of 128. -/
module

public import Mathlib.Analysis.SpecialFunctions.Pow.Real
public import Mathlib.Data.EReal.Operations

@[expose] public section

noncomputable section

namespace Cert.Ret

open Finset

/-- The state's entry after `n` tokens, `k s` and `v s` being the token's key and value at that entry. -/
def st (γ : ℝ) (k v : ℕ → ℝ) (n : ℕ) : ℝ := ∑ s ∈ range n, γ ^ (n - 1 - s) * (k s * v s)

/-- The retention output of token `t` at one column of the values. -/
def out {ι : Type} [Fintype ι] (γ : ℝ) (q k : ℕ → ι → ℝ) (v : ℕ → ℝ) (t : ℕ) : ℝ :=
  ∑ s ∈ range (t + 1), γ ^ (t - s) * (∑ a, q t a * k s a) * v s

theorem st_zero (γ : ℝ) (k v : ℕ → ℝ) : st γ k v 0 = 0 := by simp [st]

/-- One chunk of `C` tokens carries the state on. -/
theorem st_chunk (γ : ℝ) (k v : ℕ → ℝ) (n C : ℕ) :
    st γ k v (n + C) = γ ^ C * st γ k v n + ∑ j : Fin C, k (n + j) * γ ^ (C - 1 - (j : ℕ)) * v (n + j) := by
  unfold st
  rw [sum_range_add, mul_sum, Finset.sum_range (fun x => γ ^ (n + C - 1 - (n + x)) * (k (n + x) * v (n + x)))]
  congr 1
  · refine sum_congr rfl fun s hs => ?_
    have hs' := mem_range.1 hs
    have : n + C - 1 - s = C + (n - 1 - s) := by omega
    rw [this, pow_add]; ring
  · refine sum_congr rfl fun j _ => ?_
    have : n + C - 1 - (n + (j : ℕ)) = C - 1 - (j : ℕ) := by omega
    rw [this]; ring

/-- One chunk of `C` tokens computes its outputs from its own tokens and the state before it. -/
theorem out_chunk {ι : Type} [Fintype ι] (γ : ℝ) (q k : ℕ → ι → ℝ) (v : ℕ → ℝ) (n C : ℕ) (i : Fin C) :
    (∑ j : Fin C, (∑ a, q (n + i) a * k (n + j) a) * (if (j : ℕ) ≤ i then γ ^ ((i : ℕ) - j) else 0) * v (n + j))
      + ∑ a, q (n + i) a * γ ^ ((i : ℕ) + 1) * st γ (fun s => k s a) v n
    = out γ q k v (n + i) := by
  unfold out
  rw [show n + (i : ℕ) + 1 = n + (i + 1) by omega, sum_range_add, add_comm]
  congr 1
  · unfold st
    simp only [mul_sum, sum_mul]
    rw [sum_comm]
    refine sum_congr rfl fun s hs => sum_congr rfl fun a _ => ?_
    have hs' := mem_range.1 hs
    have : n + (i : ℕ) - s = (i + 1) + (n - 1 - s) := by omega
    rw [this, pow_add]; ring
  · rw [← Finset.sum_range
      (fun j => (∑ a, q (n + i) a * k (n + j) a) * (if j ≤ (i : ℕ) then γ ^ ((i : ℕ) - j) else 0) * v (n + j))]
    rw [← sum_subset (s₁ := range ((i : ℕ) + 1)) (range_mono (by omega))]
    · refine sum_congr rfl fun j hj => ?_
      have hj' := mem_range.1 hj
      rw [if_pos (by omega)]
      have : n + (i : ℕ) - (n + j) = i - j := by omega
      rw [this]; ring
    · intro j _ hj
      rw [mem_range] at hj
      rw [if_neg (by omega)]; ring

/-- A finite sum of reals, read as an extended real. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [sum_insert ha, sum_insert ha, EReal.coe_add, ih]

/-- The chunk's outputs as the extended reals compute them from finite tokens. -/
theorem out_chunk_coe {ι : Type} [Fintype ι] (γ : ℝ) (q k : ℕ → ι → ℝ) (v : ℕ → ℝ) (n C : ℕ) (i : Fin C) :
    (∑ j : Fin C, (∑ a, (q (n + i) a : EReal) * (k (n + j) a : EReal))
        * ((if (j : ℕ) ≤ i then γ ^ ((i : ℕ) - j) else 0 : ℝ) : EReal) * (v (n + j) : EReal))
      + ∑ a, (q (n + i) a : EReal) * ((γ ^ ((i : ℕ) + 1) : ℝ) : EReal) * (st γ (fun s => k s a) v n : EReal)
    = ((out γ q k v (n + i) : ℝ) : EReal) := by
  rw [← out_chunk γ q k v n C i]
  simp only [EReal.coe_add, EReal.coe_mul, coe_sum]

/-- The chunk's new state as the extended reals compute it from finite tokens. -/
theorem st_chunk_coe (γ : ℝ) (k v : ℕ → ℝ) (n C : ℕ) :
    ((γ ^ C : ℝ) : EReal) * (st γ k v n : EReal)
      + ∑ j : Fin C, (k (n + j) : EReal) * ((γ ^ (C - 1 - (j : ℕ)) : ℝ) : EReal) * (v (n + j) : EReal)
    = ((st γ k v (n + C) : ℝ) : EReal) := by
  rw [st_chunk γ k v n C]
  simp only [EReal.coe_add, EReal.coe_mul, coe_sum]

/-- The exponential of a multiple of a logarithm is a power. -/
theorem exp_log_mul {γ : ℝ} (hγ : 0 < γ) (n : ℕ) : Real.exp (Real.log γ * n) = γ ^ n := by
  rw [Real.exp_mul, Real.exp_log hγ, Real.rpow_natCast]

end Cert.Ret

end
-- ==== Proof.Ret.Consts.lean ====
/- The values of the float words the two programs spell, as extended reals, and of the decays over them. -/
module

public import Idealize.ShloMosaic.Lib.Pointwise
public import proofs.«01_k».proof.Proof.Ret.Maths

@[expose] public section

noncomputable section

namespace Cert.Ret

open Idealize.ShloMosaic

theorem w_sixteenth : Ideal.ofBits .f32 0x3D800000#32 = ((1 / 16 : ℝ) : EReal) := by
  simp [Ideal.ofBits, Ideal.ieee, -EReal.coe_mul]; norm_num
theorem w_one : Ideal.ofBits .f32 0x3F800000#32 = ((1 : ℝ) : EReal) := by
  simp [Ideal.ofBits, Ideal.ieee, -EReal.coe_mul]; norm_num
theorem w_two : Ideal.ofBits .f32 0x40000000#32 = ((2 : ℝ) : EReal) := by
  simp [Ideal.ofBits, Ideal.ieee, -EReal.coe_mul]; norm_num
theorem w_three : Ideal.ofBits .f32 0x40400000#32 = ((3 : ℝ) : EReal) := by
  simp [Ideal.ofBits, Ideal.ieee, -EReal.coe_mul]; norm_num
theorem w_four : Ideal.ofBits .f32 0x40800000#32 = ((4 : ℝ) : EReal) := by
  simp [Ideal.ofBits, Ideal.ieee, -EReal.coe_mul]; norm_num
theorem w_neg_five : Ideal.ofBits .f32 0xC0A00000#32 = ((-5 : ℝ) : EReal) := by
  simp [Ideal.ofBits, Ideal.ieee, -EReal.coe_mul]; norm_num
theorem w_127 : Ideal.ofBits .f32 0x42FE0000#32 = ((127 : ℝ) : EReal) := by
  simp [Ideal.ofBits, Ideal.ieee, -EReal.coe_mul]; norm_num
theorem w_128 : Ideal.ofBits .f32 0x43000000#32 = ((128 : ℝ) : EReal) := by
  simp [Ideal.ofBits, Ideal.ieee, -EReal.coe_mul]; norm_num
theorem w_255 : Ideal.ofBits .f32 0x437F0000#32 = ((255 : ℝ) : EReal) := by
  simp [Ideal.ofBits, Ideal.ieee, -EReal.coe_mul]; norm_num
theorem w_inf : Ideal.ofBits .bf16 0x7F80#16 = (⊤ : EReal) := by
  simp [Ideal.ofBits, Ideal.ieee]

/-- A decay's power from its logarithm. -/
theorem exp_log (γ : ℝ) (hγ : 0 < γ) (n : ℕ) : Ideal.exp (((Real.log γ : ℝ) : EReal) * ((n : ℝ) : EReal)) = ((γ ^ n : ℝ) : EReal) := by
  rw [← EReal.coe_mul]
  show ((Real.exp _ : ℝ) : EReal) = _
  rw [exp_log_mul hγ]

end Cert.Ret

end
-- ==== Proof.Ret.Entry.lean ====
/- What each piece of a grid point's work means over the extended reals, entry by entry. -/
module

public import proofs.«01_k».proof.Proof.Ret.Canon
public import proofs.«01_k».proof.Proof.Ret.Consts

@[expose] public section

set_option maxRecDepth 16384

noncomputable section

namespace Cert.Ret

open Idealize.ShloMosaic

/-- A small word read as a signed number is itself. -/
theorem sitofp_ofNat (n : ℕ) (h : n < 2 ^ 31) : FloatOps.sitofp (F := Ideal) .f32 (BitVec.ofNat 32 n) = ((n : ℝ) : EReal) := by
  show (((BitVec.ofNat 32 n).toInt : ℝ) : EReal) = _
  have : (BitVec.ofNat 32 n).toInt = (n : ℤ) := by
    rw [BitVec.toInt_ofNat']
    exact Int.bmod_eq_of_le (by omega) (by omega)
  rw [this]; push_cast; rfl

/-- The difference of two small words read as a signed number. -/
theorem sitofp_sub (m n : ℕ) (hm : m < 2 ^ 30) (hn : n < 2 ^ 30) :
    FloatOps.sitofp (F := Ideal) .f32 (IntOp.subi (BitVec.ofNat 32 m) (BitVec.ofNat 32 n)) = (((m : ℝ) - n : ℝ) : EReal) := by
  show (((BitVec.ofNat 32 m - BitVec.ofNat 32 n).toInt : ℝ) : EReal) = _
  have : (BitVec.ofNat 32 m - BitVec.ofNat 32 n).toInt = (m : ℤ) - n := by
    rw [BitVec.toInt_sub, BitVec.toInt_ofNat', BitVec.toInt_ofNat']
    rw [Int.bmod_eq_of_le (n := ((m : ℕ) : ℤ)) (by omega) (by omega), Int.bmod_eq_of_le (n := ((n : ℕ) : ℤ)) (by omega) (by omega)]
    exact Int.bmod_eq_of_le (by omega) (by omega)
  rw [this]; push_cast; rfl

/-- The causal decay between two tokens, as both programs compute it. -/
theorem causal (γ : ℝ) (hγ : 0 < γ) (i j : ℕ) :
    (if (0 : EReal) ≤ (((i : ℝ) - j : ℝ) : EReal) then Ideal.exp (((Real.log γ : ℝ) : EReal) * max (((i : ℝ) - j : ℝ) : EReal) 0) else 0)
      = ((if j ≤ i then γ ^ (i - j) else 0 : ℝ) : EReal) := by
  by_cases h : j ≤ i
  · have e : (i : ℝ) - j = ((i - j : ℕ) : ℝ) := by push_cast [h]; rfl
    have e0 : (0 : EReal) ≤ (((i - j : ℕ) : ℝ) : EReal) := EReal.coe_nonneg.2 (Nat.cast_nonneg _)
    rw [if_pos h, e, if_pos e0, max_eq_left e0, exp_log γ hγ]
  · rw [if_neg h, if_neg]
    · rfl
    · rw [not_le]
      have : (i : ℝ) - j < 0 := by rw [sub_neg]; exact_mod_cast not_le.1 h
      exact_mod_cast this

/-- One head's normed and gated outputs, from its outputs `o`. -/
def gated (o : Fin 512 → EReal) (gn g : EReal) (b : Fin 512) : EReal :=
  (o b - Ideal.div (∑ x, o x) (Ideal.ofBits .f32 0x44000000#32))
    * Ideal.rsqrt (Ideal.div (∑ x, (o x - Ideal.div (∑ x, o x) (Ideal.ofBits .f32 0x44000000#32)) * (o x - Ideal.div (∑ x, o x) (Ideal.ofBits .f32 0x44000000#32)))
        (Ideal.ofBits .f32 0x44000000#32) + Ideal.ofBits .f32 0x358637BD#32)
    * gn * (g * Ideal.logistic g)

end Cert.Ret

namespace Cert.KernelIdeal.Ret

open Idealize.ShloMosaic Idealize.SL.Sem Cert.KernelIdeal Cert.KernelIdeal.Gen Cert.Ret

variable {lg cd : Ideal .f32} {γ : ℝ} (hγ : 0 < γ) (hlg : lg = ((Real.log γ : ℝ) : EReal))

include hγ hlg in
theorem dMat_apply (i j : Fin 256) : dMat lg (ix2 i j) = ((if (j : ℕ) ≤ i then γ ^ ((i : ℕ) - j) else 0 : ℝ) : EReal) := by
  pointwise [dMat]
  rw [sitofp_sub i j (by omega) (by omega), hlg]
  exact causal γ hγ i j

include hγ hlg in
theorem dQ_apply (i : Fin 256) : dQ lg (ix2 i 0) = ((γ ^ ((i : ℕ) + 1) : ℝ) : EReal) := by
  pointwise [dQ, pos]
  rw [sitofp_ofNat i (by omega), hlg, ← exp_log γ hγ]
  push_cast; rfl

include hγ hlg in
theorem dK_apply (i : Fin 256) : dK lg (ix2 i 0) = ((γ ^ (256 - 1 - (i : ℕ)) : ℝ) : EReal) := by
  pointwise [dK, pos]
  have e : ((256 - 1 - (i : ℕ) : ℕ) : ℝ) = 255 - (i : ℕ) := by
    have := i.isLt
    rw [Nat.cast_sub (by omega)]; norm_num
  rw [sitofp_ofNat i (by omega), hlg, ← exp_log γ hγ, e, w_255]
  push_cast; rfl

include hγ hlg in
theorem eMat_apply (i j : Fin 4) : eMat lg (ix2 i j) = ((if (j : ℕ) ≤ i then γ ^ ((i : ℕ) - j) else 0 : ℝ) : EReal) := by
  pointwise [eMat]
  rw [sitofp_sub i j (by omega) (by omega), hlg]
  exact causal γ hγ i j

include hγ hlg in
theorem eQ_apply (i : Fin 4) : eQ lg (ix2 i 0) = ((γ ^ ((i : ℕ) + 1) : ℝ) : EReal) := by
  pointwise [eQ, epos]
  rw [sitofp_ofNat i (by omega), hlg, ← exp_log γ hγ]
  push_cast; rfl

include hγ hlg in
theorem eK_apply (i : Fin 4) : eK lg (ix2 i 0) = ((γ ^ (4 - 1 - (i : ℕ)) : ℝ) : EReal) := by
  pointwise [eK, epos]
  have e : ((4 - 1 - (i : ℕ) : ℕ) : ℝ) = 3 - (i : ℕ) := by
    have := i.isLt
    rw [Nat.cast_sub (by omega)]; norm_num
  rw [sitofp_ofNat i (by omega), hlg, ← exp_log γ hγ, e, w_three]
  push_cast; rfl

section prompt

variable {q k : Vec Ideal S1x256x256 .bf16} {v : Vec Ideal S1x256x512 .bf16} {s : Vec Ideal S1x1x256x512 .f32}
  {Q K : ℕ → Fin 256 → ℝ} {V : ℕ → Fin 512 → ℝ} {n : ℕ}
  (hq : ∀ r a, q (ix3 0 r a) = (Q (n + r) a : EReal))
  (hk : ∀ r a, k (ix3 0 r a) * Ideal.ofBits .f32 0x3D800000#32 = (K (n + r) a : EReal))
  (hv : ∀ r b, v (ix3 0 r b) = (V (n + r) b : EReal))
  (hs : ∀ a b, s (ix4 0 0 a b) = (st γ (fun s => K s a) (fun s => V s b) n : EReal))

include hγ hlg hk hv hs in
theorem hS_apply (hcd : cd = ((γ ^ 256 : ℝ) : EReal)) (a : Fin 256) (b : Fin 512) :
    hS lg cd k v s (ix4 0 0 a b) = (st γ (fun s => K s a) (fun s => V s b) (n + 256) : EReal) := by
  pointwise [hS, kk]
  simp only [hk, hv, hs, dK_apply hγ hlg, hcd]
  exact st_chunk_coe γ _ _ n 256

include hγ hlg hq hk hv hs in
theorem hO_apply (r : Fin 256) (b : Fin 512) :
    hO lg q k v s (ix2 r b) = (out γ Q K (fun s => V s b) (n + r) : EReal) := by
  pointwise [hO, kk]
  simp only [hq, hk, hv, hs, dQ_apply hγ hlg, dMat_apply hγ hlg]
  exact out_chunk_coe γ Q K (fun s => V s b) n 256 r

end prompt

theorem hG_apply (o : FVec Ideal S256x512 .f32) (g : Vec Ideal S1x256x512 .bf16) (gn : Vec Ideal S1x512 .f32) (r : Fin 256) (b : Fin 512) :
    hG o g gn (ix2 r b) = gated (fun x => o (ix2 r x)) (gn (ix2 0 b)) (g (ix3 0 r b)) b := by
  pointwise [hG, hC]
  rfl

theorem eG_apply (o : FVec Ideal S4x512 .f32) (g : Vec Ideal S1x4x512 .f32) (gn : Vec Ideal S1x512 .f32) (r : Fin 4) (b : Fin 512) :
    eG o g gn (ix3 0 r b) = gated (fun x => o (ix2 r x)) (gn (ix2 0 b)) (g (ix3 0 r b)) b := by
  pointwise [eG, eC]
  rfl

/-- The state after a sample row. -/
theorem eS_apply (k : Vec Ideal S1x4x256 .f32) (v : Vec Ideal S1x4x512 .f32) (s : Vec Ideal S1x1x256x512 .f32) (a : Fin 256) (b : Fin 512) :
    eS lg cd k v s (ix4 0 0 a b) = cd * s (ix4 0 0 a b)
      + ∑ x : Fin 4, k (ix3 0 x a) * Ideal.ofBits .f32 0x3D800000#32 * eK lg (ix2 x 0) * v (ix3 0 x b) := by
  pointwise [eS, ek]
  simp

theorem five (c a0 a1 a2 a3 : EReal) : c + a0 + a1 + a2 + a3 = a0 + a1 + a2 + a3 + c := by
  rw [add_comm (a0 + a1 + a2 + a3) c]; simp only [add_assoc]

/-- A sample row's outputs. -/
theorem eO_apply (q k : Vec Ideal S1x4x256 .f32) (v : Vec Ideal S1x4x512 .f32) (s : Vec Ideal S1x1x256x512 .f32) (r : Fin 4) (b : Fin 512) :
    eO lg q k v s (ix2 r b) = ∑ j : Fin 4, (∑ x, q (ix3 0 r x) * (k (ix3 0 j x) * Ideal.ofBits .f32 0x3D800000#32)) * eMat lg (ix2 r j) * v (ix3 0 j b)
      + ∑ x, q (ix3 0 r x) * eQ lg (ix2 r 0) * s (ix4 0 0 x b) := by
  pointwise [eO, eT0, eT1, eT2, eT3, ek]
  rw [Fin.sum_univ_four]
  exact five _ _ _ _ _

theorem yBlk_apply (x1 x2 og wb) (r : Fin 512) (b : Fin 1024) :
    yBlk (F := Ideal) x1 x2 og wb (ix3 0 r b) = x1 (ix3 0 r b) + x2 (ix3 0 0 b) * ∑ x : Fin 2048, og (ix2 r x) * wb (ix2 x b) := by
  pointwise [yBlk]

end Cert.KernelIdeal.Ret

end
-- ==== Proof.Ret.Block.lean ====
/- What a grid point's prompt blocks hold over the extended reals, all heads together. -/
module

public import proofs.«01_k».proof.Proof.Ret.Entry

@[expose] public section

set_option maxRecDepth 16384

noncomputable section

namespace Cert.Ret

open Idealize.ShloMosaic

/-- The heads' decays. -/
def gam (h : Fin 4) : ℝ := ![31 / 32, 63 / 64, 127 / 128, 255 / 256] h

theorem gam_pos : ∀ h : Fin 4, 0 < gam h := by
  intro h; fin_cases h <;> norm_num [gam]

/-- Writes under a later write of the same rectangle leave nothing. -/
theorem canon_dup {Val : EltTy → Type} [∀ e, Nonempty (Val e)] {S : Shape} {e : EltTy} (r : Rect S) (w w' : r.shape.Idx → Val e)
    (L : List (View.Piece Val S e)) : View.canon (⟨r, w⟩ :: ⟨r, w'⟩ :: L) = View.canon (⟨r, w⟩ :: L) := by
  funext y
  by_cases hy : y ∈ r.set
  · obtain ⟨x, rfl⟩ : ∃ x, r.emb x = y := r.exists_idx_of_mem hy
    rw [View.canon_cons_emb, View.canon_cons_emb]
  · rw [View.canon_cons_of_not_mem _ _ hy, View.canon_cons_of_not_mem _ _ hy, View.canon_cons_of_not_mem _ _ hy]

/-- The rest of a list of writes does not depend on a common first write. -/
theorem canon_congr {Val : EltTy → Type} [∀ e, Nonempty (Val e)] {S : Shape} {e : EltTy} (p : View.Piece Val S e)
    {L L' : List (View.Piece Val S e)} (h : View.canon L = View.canon L') : View.canon (p :: L) = View.canon (p :: L') := by
  rw [View.canon_cons, View.canon_cons, h]

/-- Earlier writes do not show where a later one covers. -/
theorem canon_append {Val : EltTy → Type} [∀ e, Nonempty (Val e)] {S : Shape} {e : EltTy} (L' : List (View.Piece Val S e)) (y : S.Idx) :
    ∀ L : List (View.Piece Val S e), (∃ p ∈ L, y ∈ p.1.set) → View.canon (L ++ L') y = View.canon L y
  | [], h => by obtain ⟨_, hm, _⟩ := h; exact absurd hm List.not_mem_nil
  | p :: L, h => by
    by_cases hy : y ∈ p.1.set
    · obtain ⟨r, w⟩ := p
      obtain ⟨x, rfl⟩ : ∃ x, r.emb x = y := r.exists_idx_of_mem hy
      rw [List.cons_append, View.canon_cons_emb, View.canon_cons_emb]
    · rw [List.cons_append, View.canon_cons_of_not_mem _ _ hy, View.canon_cons_of_not_mem _ _ hy]
      refine canon_append L' y L ?_
      obtain ⟨q, hq, hyq⟩ := h
      rcases List.mem_cons.mp hq with rfl | hq'
      · exact absurd hyq hy
      · exact ⟨q, hq', hyq⟩

end Cert.Ret

namespace Cert.KernelIdeal.Ret

open Idealize.ShloMosaic Idealize.SL.Sem Cert.KernelIdeal Cert.KernelIdeal.Gen Cert.Ret

theorem lg0_eq : (lg0 : Ideal .f32) = ((Real.log (gam 0) : ℝ) : EReal) :=
  IdealRules.named_const.ideal_named_scalar (φ := .f32) κ "log_gamma0" 0xBD020AEC#32 _ rfl

theorem cd0_eq : (cd0 : Ideal .f32) = ((gam 0 ^ 256 : ℝ) : EReal) := by
  refine (IdealRules.named_const.ideal_named_scalar (φ := .f32) κ "gamma0_pow_256" 0x399ACCA1#32 _ rfl).trans (congrArg _ ?_)
  show _ = (31 / 32 : ℝ) ^ 256
  norm_num

theorem ce0_eq : (ce0 : Ideal .f32) = ((gam 0 ^ 4 : ℝ) : EReal) := by
  refine (IdealRules.named_const.ideal_named_scalar (φ := .f32) κ "gamma0_pow_4" 0x3F617810#32 _ rfl).trans (congrArg _ ?_)
  show _ = (31 / 32 : ℝ) ^ 4
  norm_num

theorem lg1_eq : (lg1 : Ideal .f32) = ((Real.log (gam 1) : ℝ) : EReal) :=
  IdealRules.named_const.ideal_named_scalar (φ := .f32) κ "log_gamma1" 0xBC8102B3#32 _ rfl

theorem cd1_eq : (cd1 : Ideal .f32) = ((gam 1 ^ 256 : ℝ) : EReal) := by
  refine (IdealRules.named_const.ideal_named_scalar (φ := .f32) κ "gamma1_pow_256" 0x3C9160A5#32 _ rfl).trans (congrArg _ ?_)
  show _ = (63 / 64 : ℝ) ^ 256
  norm_num

theorem ce1_eq : (ce1 : Ideal .f32) = ((gam 1 ^ 4 : ℝ) : EReal) := by
  refine (IdealRules.named_const.ideal_named_scalar (φ := .f32) κ "gamma1_pow_4" 0x3F705F01#32 _ rfl).trans (congrArg _ ?_)
  show _ = (63 / 64 : ℝ) ^ 4
  norm_num

theorem lg2_eq : (lg2 : Ideal .f32) = ((Real.log (gam 2) : ℝ) : EReal) :=
  IdealRules.named_const.ideal_named_scalar (φ := .f32) κ "log_gamma2" 0xBC0080AC#32 _ rfl

theorem cd2_eq : (cd2 : Ideal .f32) = ((gam 2 ^ 256 : ℝ) : EReal) := by
  refine (IdealRules.named_const.ideal_named_scalar (φ := .f32) κ "gamma2_pow_256" 0x3E097FCE#32 _ rfl).trans (congrArg _ ?_)
  show _ = (127 / 128 : ℝ) ^ 256
  norm_num

theorem ce2_eq : (ce2 : Ideal .f32) = ((gam 2 ^ 4 : ℝ) : EReal) := by
  refine (IdealRules.named_const.ideal_named_scalar (φ := .f32) κ "gamma2_pow_4" 0x3F7817E0#32 _ rfl).trans (congrArg _ ?_)
  show _ = (127 / 128 : ℝ) ^ 4
  norm_num

theorem lg3_eq : (lg3 : Ideal .f32) = ((Real.log (gam 3) : ℝ) : EReal) :=
  IdealRules.named_const.ideal_named_scalar (φ := .f32) κ "log_gamma3" 0xBB80402B#32 _ rfl

theorem cd3_eq : (cd3 : Ideal .f32) = ((gam 3 ^ 256 : ℝ) : EReal) := by
  refine (IdealRules.named_const.ideal_named_scalar (φ := .f32) κ "gamma3_pow_256" 0x3EBBFC5D#32 _ rfl).trans (congrArg _ ?_)
  show _ = (255 / 256 : ℝ) ^ 256
  norm_num

theorem ce3_eq : (ce3 : Ideal .f32) = ((gam 3 ^ 4 : ℝ) : EReal) := by
  refine (IdealRules.named_const.ideal_named_scalar (φ := .f32) κ "gamma3_pow_4" 0x3F7C05FC#32 _ rfl).trans (congrArg _ ?_)
  show _ = (255 / 256 : ℝ) ^ 4
  norm_num

theorem gated_congr {o o' : Fin 512 → EReal} {gn gn' g g' : EReal} (b : Fin 512) (ho : ∀ x, o x = o' x) (hgn : gn = gn') (hg : g = g') :
    gated o gn g b = gated o' gn' g' b := by
  rw [funext ho, hgn, hg]

theorem at_state (x : S1x1x256x512.Idx) (a : Fin 256) (b : Fin 512) (h2 : (a : ℕ) = x 2) (h3 : (b : ℕ) = x 3) : x = ix4 0 0 a b := by
  funext d
  fin_cases d
  · exact Subsingleton.elim (α := Fin 1) _ _
  · exact Subsingleton.elim (α := Fin 1) _ _
  · exact Fin.ext h2.symm
  · exact Fin.ext h3.symm

theorem at_rows (x : S256x512.Idx) (r : Fin 256) (b : Fin 512) (h0 : (r : ℕ) = x 0) (h1 : (b : ℕ) = x 1) : x = ix2 r b := by
  funext d
  fin_cases d
  · exact Fin.ext h0.symm
  · exact Fin.ext h1.symm

/-- The projections' block, the queries, keys and values of its tokens being the reals `Q`, `K`, `V` from token `n` on. -/
structure Blk (x0 : Vec Ideal S1x512x6144 .bf16) (Q K : Fin 4 → ℕ → Fin 256 → ℝ) (V : Fin 4 → ℕ → Fin 512 → ℝ) (n : ℕ) : Prop where
  hq : ∀ (h : Fin 4) (r : Fin 512) (a : Fin 256), x0 (ix3 0 r ⟨256 * h + a, by omega⟩) = (Q h (n + r) a : EReal)
  hk : ∀ (h : Fin 4) (r : Fin 512) (a : Fin 256), x0 (ix3 0 r ⟨1024 + 256 * h + a, by omega⟩) * Ideal.ofBits .f32 0x3D800000#32 = (K h (n + r) a : EReal)
  hv : ∀ (h : Fin 4) (r : Fin 512) (b : Fin 512), x0 (ix3 0 r ⟨2048 + 512 * h + b, by omega⟩) = (V h (n + r) b : EReal)

section

variable {x0 : Vec Ideal S1x512x6144 .bf16} {Q K : Fin 4 → ℕ → Fin 256 → ℝ} {V : Fin 4 → ℕ → Fin 512 → ℝ} {n : ℕ} (B : Blk x0 Q K V n)

include B in
theorem ld_q (h : Fin 4) (c : Fin 2) {n' : ℕ} (hn : n' = n + 256 * c) {off : Fin 3 → ℕ} (ho : off = ![0, 256 * (c : ℕ), 256 * (h : ℕ)])
    (inb : ∀ a, off a + ![1, 256, 256] a ≤ S1x512x6144.size a) (r a : Fin 256) :
    View.ld x0 (Rect.unit off ![1, 256, 256] inb) (ix3 0 r a) = (Q h (n' + r) a : EReal) := by
  subst ho hn
  rw [View.ld_unit_apply_of x0 _ _ _ _ (ix3 0 ⟨256 * c + r, by omega⟩ ⟨256 * h + a, by omega⟩) (by intro d; fin_cases d <;> simp), B.hq]
  rw [Nat.add_assoc]

include B in
theorem ld_k (h : Fin 4) (c : Fin 2) {n' : ℕ} (hn : n' = n + 256 * c) {off : Fin 3 → ℕ} (ho : off = ![0, 256 * (c : ℕ), 1024 + 256 * (h : ℕ)])
    (inb : ∀ a, off a + ![1, 256, 256] a ≤ S1x512x6144.size a) (r a : Fin 256) :
    View.ld x0 (Rect.unit off ![1, 256, 256] inb) (ix3 0 r a) * Ideal.ofBits .f32 0x3D800000#32 = (K h (n' + r) a : EReal) := by
  subst ho hn
  rw [View.ld_unit_apply_of x0 _ _ _ _ (ix3 0 ⟨256 * c + r, by omega⟩ ⟨1024 + 256 * h + a, by omega⟩) (by intro d; fin_cases d <;> simp), B.hk]
  rw [Nat.add_assoc]

include B in
theorem ld_v (h : Fin 4) (c : Fin 2) {n' : ℕ} (hn : n' = n + 256 * c) {off : Fin 3 → ℕ} (ho : off = ![0, 256 * (c : ℕ), 2048 + 512 * (h : ℕ)])
    (inb : ∀ a, off a + ![1, 256, 512] a ≤ S1x512x6144.size a) (r : Fin 256) (b : Fin 512) :
    View.ld x0 (Rect.unit off ![1, 256, 512] inb) (ix3 0 r b) = (V h (n' + r) b : EReal) := by
  subst ho hn
  rw [View.ld_unit_apply_of x0 _ _ _ _ (ix3 0 ⟨256 * c + r, by omega⟩ ⟨2048 + 512 * h + b, by omega⟩) (by intro d; fin_cases d <;> simp), B.hv]
  rw [Nat.add_assoc]

/-- One head's state in the block of states. -/
theorem ld_s {Val : EltTy → Type} {e : EltTy} (s : S1x4x256x512.Idx → Val e) (h : Fin 4) {off : Fin 4 → ℕ} (ho : off = ![0, (h : ℕ), 0, 0])
    (inb : ∀ a, off a + ![1, 1, 256, 512] a ≤ S1x4x256x512.size a) (a : Fin 256) (b : Fin 512) :
    View.ld s (Rect.unit off ![1, 1, 256, 512] inb) (ix4 0 0 a b) = s (ix4 0 h a b) := by
  subst ho
  exact View.ld_unit_apply_of s _ _ _ _ (ix4 0 h a b) (by intro d; fin_cases d <;> simp)

/-- One head's gains. -/
theorem ld_gn (x3 : Vec Ideal S4x512 .f32) (h : Fin 4) {off : Fin 2 → ℕ} (ho : off = ![(h : ℕ), 0])
    (inb : ∀ a, off a + ![1, 512] a ≤ S4x512.size a) (b : Fin 512) :
    View.ld x3 (Rect.unit off ![1, 512] inb) (ix2 0 b) = x3 (ix2 h b) := by
  subst ho
  exact View.ld_unit_apply_of x3 _ _ _ _ (ix2 h b) (by intro d; fin_cases d <;> simp)

/-- One head's gates in a chunk. -/
theorem ld_g (x0 : Vec Ideal S1x512x6144 .bf16) (h : Fin 4) (c : Fin 2) {off : Fin 3 → ℕ} (ho : off = ![0, 256 * (c : ℕ), 4096 + 512 * (h : ℕ)])
    (inb : ∀ a, off a + ![1, 256, 512] a ≤ S1x512x6144.size a) (r : Fin 256) (b : Fin 512) :
    View.ld x0 (Rect.unit off ![1, 256, 512] inb) (ix3 0 r b) = x0 (ix3 0 ⟨256 * c + r, by omega⟩ ⟨4096 + 512 * h + b, by omega⟩) := by
  subst ho
  exact View.ld_unit_apply_of x0 _ _ _ _ _ (by intro d; fin_cases d <;> simp)

variable {s : Vec Ideal S1x4x256x512 .f32}
  (hs : ∀ h a b, s (ix4 0 h a b) = (st (gam h) (fun t => K h t a) (fun t => V h t b) n : EReal))

include B hs in
theorem m0_apply (a : Fin 256) (b : Fin 512) : m0 x0 s (ix4 0 0 a b) = (st (gam 0) (fun t => K 0 t a) (fun t => V 0 t b) (n + 256) : EReal) :=
  hS_apply (gam_pos 0) lg0_eq (ld_k B 0 0 rfl rfl _) (ld_v B 0 0 rfl rfl _) (fun a b => (ld_s s 0 rfl _ a b).trans (hs 0 a b)) cd0_eq a b

include B hs in
theorem e0_apply (a : Fin 256) (b : Fin 512) :
    hS lg0 cd0 (View.ld x0 (Rect.unit ![0, 256, 1024] ![1, 256, 256] (by decide))) (View.ld x0 (Rect.unit ![0, 256, 2048] ![1, 256, 512] (by decide))) (m0 x0 s) (ix4 0 0 a b)
      = (st (gam 0) (fun t => K 0 t a) (fun t => V 0 t b) (n + 512) : EReal) :=
  hS_apply (gam_pos 0) lg0_eq (ld_k B 0 1 rfl rfl _) (ld_v B 0 1 rfl rfl _) (m0_apply B hs) cd0_eq a b

include B hs in
theorem o00_apply (x3 : Vec Ideal S4x512 .f32) (r : Fin 256) (b : Fin 512) :
    hG (hO lg0 (View.ld x0 (Rect.unit ![0, 0, 0] ![1, 256, 256] (by decide))) (View.ld x0 (Rect.unit ![0, 0, 1024] ![1, 256, 256] (by decide)))
        (View.ld x0 (Rect.unit ![0, 0, 2048] ![1, 256, 512] (by decide))) (View.ld s (Rect.unit ![0, 0, 0, 0] ![1, 1, 256, 512] (by decide))))
        (View.ld x0 (Rect.unit ![0, 0, 4096] ![1, 256, 512] (by decide))) (View.ld x3 (Rect.unit ![0, 0] ![1, 512] (by decide))) (ix2 r b)
      = gated (fun x => (out (gam 0) (Q 0) (K 0) (fun t => V 0 t x) (n + 0 + r) : EReal)) (x3 (ix2 0 b))
          (x0 (ix3 0 ⟨0 + r, by omega⟩ ⟨4096 + b, by omega⟩)) b := by
  exact (hG_apply _ _ _ r b).trans (gated_congr b (fun x => hO_apply (gam_pos 0) lg0_eq (ld_q B 0 0 rfl rfl _) (ld_k B 0 0 rfl rfl _) (ld_v B 0 0 rfl rfl _) (fun a b => (ld_s s 0 rfl _ a b).trans (hs 0 a b)) r x)
    (ld_gn x3 0 rfl _ b) (ld_g x0 0 0 rfl _ r b))

include B hs in
theorem o01_apply (x3 : Vec Ideal S4x512 .f32) (r : Fin 256) (b : Fin 512) :
    hG (hO lg0 (View.ld x0 (Rect.unit ![0, 256, 0] ![1, 256, 256] (by decide))) (View.ld x0 (Rect.unit ![0, 256, 1024] ![1, 256, 256] (by decide)))
        (View.ld x0 (Rect.unit ![0, 256, 2048] ![1, 256, 512] (by decide))) (m0 x0 s))
        (View.ld x0 (Rect.unit ![0, 256, 4096] ![1, 256, 512] (by decide))) (View.ld x3 (Rect.unit ![0, 0] ![1, 512] (by decide))) (ix2 r b)
      = gated (fun x => (out (gam 0) (Q 0) (K 0) (fun t => V 0 t x) (n + 256 + r) : EReal)) (x3 (ix2 0 b))
          (x0 (ix3 0 ⟨256 + r, by omega⟩ ⟨4096 + b, by omega⟩)) b := by
  exact (hG_apply _ _ _ r b).trans (gated_congr b (fun x => hO_apply (gam_pos 0) lg0_eq (ld_q B 0 1 rfl rfl _) (ld_k B 0 1 rfl rfl _) (ld_v B 0 1 rfl rfl _) (m0_apply B hs) r x)
    (ld_gn x3 0 rfl _ b) (ld_g x0 0 1 rfl _ r b))

include B hs in
theorem m1_apply (a : Fin 256) (b : Fin 512) : m1 x0 s (ix4 0 0 a b) = (st (gam 1) (fun t => K 1 t a) (fun t => V 1 t b) (n + 256) : EReal) :=
  hS_apply (gam_pos 1) lg1_eq (ld_k B 1 0 rfl rfl _) (ld_v B 1 0 rfl rfl _) (fun a b => (ld_s s 1 rfl _ a b).trans (hs 1 a b)) cd1_eq a b

include B hs in
theorem e1_apply (a : Fin 256) (b : Fin 512) :
    hS lg1 cd1 (View.ld x0 (Rect.unit ![0, 256, 1280] ![1, 256, 256] (by decide))) (View.ld x0 (Rect.unit ![0, 256, 2560] ![1, 256, 512] (by decide))) (m1 x0 s) (ix4 0 0 a b)
      = (st (gam 1) (fun t => K 1 t a) (fun t => V 1 t b) (n + 512) : EReal) :=
  hS_apply (gam_pos 1) lg1_eq (ld_k B 1 1 rfl rfl _) (ld_v B 1 1 rfl rfl _) (m1_apply B hs) cd1_eq a b

include B hs in
theorem o10_apply (x3 : Vec Ideal S4x512 .f32) (r : Fin 256) (b : Fin 512) :
    hG (hO lg1 (View.ld x0 (Rect.unit ![0, 0, 256] ![1, 256, 256] (by decide))) (View.ld x0 (Rect.unit ![0, 0, 1280] ![1, 256, 256] (by decide)))
        (View.ld x0 (Rect.unit ![0, 0, 2560] ![1, 256, 512] (by decide))) (View.ld s (Rect.unit ![0, 1, 0, 0] ![1, 1, 256, 512] (by decide))))
        (View.ld x0 (Rect.unit ![0, 0, 4608] ![1, 256, 512] (by decide))) (View.ld x3 (Rect.unit ![1, 0] ![1, 512] (by decide))) (ix2 r b)
      = gated (fun x => (out (gam 1) (Q 1) (K 1) (fun t => V 1 t x) (n + 0 + r) : EReal)) (x3 (ix2 1 b))
          (x0 (ix3 0 ⟨0 + r, by omega⟩ ⟨4608 + b, by omega⟩)) b := by
  exact (hG_apply _ _ _ r b).trans (gated_congr b (fun x => hO_apply (gam_pos 1) lg1_eq (ld_q B 1 0 rfl rfl _) (ld_k B 1 0 rfl rfl _) (ld_v B 1 0 rfl rfl _) (fun a b => (ld_s s 1 rfl _ a b).trans (hs 1 a b)) r x)
    (ld_gn x3 1 rfl _ b) (ld_g x0 1 0 rfl _ r b))

include B hs in
theorem o11_apply (x3 : Vec Ideal S4x512 .f32) (r : Fin 256) (b : Fin 512) :
    hG (hO lg1 (View.ld x0 (Rect.unit ![0, 256, 256] ![1, 256, 256] (by decide))) (View.ld x0 (Rect.unit ![0, 256, 1280] ![1, 256, 256] (by decide)))
        (View.ld x0 (Rect.unit ![0, 256, 2560] ![1, 256, 512] (by decide))) (m1 x0 s))
        (View.ld x0 (Rect.unit ![0, 256, 4608] ![1, 256, 512] (by decide))) (View.ld x3 (Rect.unit ![1, 0] ![1, 512] (by decide))) (ix2 r b)
      = gated (fun x => (out (gam 1) (Q 1) (K 1) (fun t => V 1 t x) (n + 256 + r) : EReal)) (x3 (ix2 1 b))
          (x0 (ix3 0 ⟨256 + r, by omega⟩ ⟨4608 + b, by omega⟩)) b := by
  exact (hG_apply _ _ _ r b).trans (gated_congr b (fun x => hO_apply (gam_pos 1) lg1_eq (ld_q B 1 1 rfl rfl _) (ld_k B 1 1 rfl rfl _) (ld_v B 1 1 rfl rfl _) (m1_apply B hs) r x)
    (ld_gn x3 1 rfl _ b) (ld_g x0 1 1 rfl _ r b))

include B hs in
theorem m2_apply (a : Fin 256) (b : Fin 512) : m2 x0 s (ix4 0 0 a b) = (st (gam 2) (fun t => K 2 t a) (fun t => V 2 t b) (n + 256) : EReal) :=
  hS_apply (gam_pos 2) lg2_eq (ld_k B 2 0 rfl rfl _) (ld_v B 2 0 rfl rfl _) (fun a b => (ld_s s 2 rfl _ a b).trans (hs 2 a b)) cd2_eq a b

include B hs in
theorem e2_apply (a : Fin 256) (b : Fin 512) :
    hS lg2 cd2 (View.ld x0 (Rect.unit ![0, 256, 1536] ![1, 256, 256] (by decide))) (View.ld x0 (Rect.unit ![0, 256, 3072] ![1, 256, 512] (by decide))) (m2 x0 s) (ix4 0 0 a b)
      = (st (gam 2) (fun t => K 2 t a) (fun t => V 2 t b) (n + 512) : EReal) :=
  hS_apply (gam_pos 2) lg2_eq (ld_k B 2 1 rfl rfl _) (ld_v B 2 1 rfl rfl _) (m2_apply B hs) cd2_eq a b

include B hs in
theorem o20_apply (x3 : Vec Ideal S4x512 .f32) (r : Fin 256) (b : Fin 512) :
    hG (hO lg2 (View.ld x0 (Rect.unit ![0, 0, 512] ![1, 256, 256] (by decide))) (View.ld x0 (Rect.unit ![0, 0, 1536] ![1, 256, 256] (by decide)))
        (View.ld x0 (Rect.unit ![0, 0, 3072] ![1, 256, 512] (by decide))) (View.ld s (Rect.unit ![0, 2, 0, 0] ![1, 1, 256, 512] (by decide))))
        (View.ld x0 (Rect.unit ![0, 0, 5120] ![1, 256, 512] (by decide))) (View.ld x3 (Rect.unit ![2, 0] ![1, 512] (by decide))) (ix2 r b)
      = gated (fun x => (out (gam 2) (Q 2) (K 2) (fun t => V 2 t x) (n + 0 + r) : EReal)) (x3 (ix2 2 b))
          (x0 (ix3 0 ⟨0 + r, by omega⟩ ⟨5120 + b, by omega⟩)) b := by
  exact (hG_apply _ _ _ r b).trans (gated_congr b (fun x => hO_apply (gam_pos 2) lg2_eq (ld_q B 2 0 rfl rfl _) (ld_k B 2 0 rfl rfl _) (ld_v B 2 0 rfl rfl _) (fun a b => (ld_s s 2 rfl _ a b).trans (hs 2 a b)) r x)
    (ld_gn x3 2 rfl _ b) (ld_g x0 2 0 rfl _ r b))

include B hs in
theorem o21_apply (x3 : Vec Ideal S4x512 .f32) (r : Fin 256) (b : Fin 512) :
    hG (hO lg2 (View.ld x0 (Rect.unit ![0, 256, 512] ![1, 256, 256] (by decide))) (View.ld x0 (Rect.unit ![0, 256, 1536] ![1, 256, 256] (by decide)))
        (View.ld x0 (Rect.unit ![0, 256, 3072] ![1, 256, 512] (by decide))) (m2 x0 s))
        (View.ld x0 (Rect.unit ![0, 256, 5120] ![1, 256, 512] (by decide))) (View.ld x3 (Rect.unit ![2, 0] ![1, 512] (by decide))) (ix2 r b)
      = gated (fun x => (out (gam 2) (Q 2) (K 2) (fun t => V 2 t x) (n + 256 + r) : EReal)) (x3 (ix2 2 b))
          (x0 (ix3 0 ⟨256 + r, by omega⟩ ⟨5120 + b, by omega⟩)) b := by
  exact (hG_apply _ _ _ r b).trans (gated_congr b (fun x => hO_apply (gam_pos 2) lg2_eq (ld_q B 2 1 rfl rfl _) (ld_k B 2 1 rfl rfl _) (ld_v B 2 1 rfl rfl _) (m2_apply B hs) r x)
    (ld_gn x3 2 rfl _ b) (ld_g x0 2 1 rfl _ r b))

include B hs in
theorem m3_apply (a : Fin 256) (b : Fin 512) : m3 x0 s (ix4 0 0 a b) = (st (gam 3) (fun t => K 3 t a) (fun t => V 3 t b) (n + 256) : EReal) :=
  hS_apply (gam_pos 3) lg3_eq (ld_k B 3 0 rfl rfl _) (ld_v B 3 0 rfl rfl _) (fun a b => (ld_s s 3 rfl _ a b).trans (hs 3 a b)) cd3_eq a b

include B hs in
theorem e3_apply (a : Fin 256) (b : Fin 512) :
    hS lg3 cd3 (View.ld x0 (Rect.unit ![0, 256, 1792] ![1, 256, 256] (by decide))) (View.ld x0 (Rect.unit ![0, 256, 3584] ![1, 256, 512] (by decide))) (m3 x0 s) (ix4 0 0 a b)
      = (st (gam 3) (fun t => K 3 t a) (fun t => V 3 t b) (n + 512) : EReal) :=
  hS_apply (gam_pos 3) lg3_eq (ld_k B 3 1 rfl rfl _) (ld_v B 3 1 rfl rfl _) (m3_apply B hs) cd3_eq a b

include B hs in
theorem o30_apply (x3 : Vec Ideal S4x512 .f32) (r : Fin 256) (b : Fin 512) :
    hG (hO lg3 (View.ld x0 (Rect.unit ![0, 0, 768] ![1, 256, 256] (by decide))) (View.ld x0 (Rect.unit ![0, 0, 1792] ![1, 256, 256] (by decide)))
        (View.ld x0 (Rect.unit ![0, 0, 3584] ![1, 256, 512] (by decide))) (View.ld s (Rect.unit ![0, 3, 0, 0] ![1, 1, 256, 512] (by decide))))
        (View.ld x0 (Rect.unit ![0, 0, 5632] ![1, 256, 512] (by decide))) (View.ld x3 (Rect.unit ![3, 0] ![1, 512] (by decide))) (ix2 r b)
      = gated (fun x => (out (gam 3) (Q 3) (K 3) (fun t => V 3 t x) (n + 0 + r) : EReal)) (x3 (ix2 3 b))
          (x0 (ix3 0 ⟨0 + r, by omega⟩ ⟨5632 + b, by omega⟩)) b := by
  exact (hG_apply _ _ _ r b).trans (gated_congr b (fun x => hO_apply (gam_pos 3) lg3_eq (ld_q B 3 0 rfl rfl _) (ld_k B 3 0 rfl rfl _) (ld_v B 3 0 rfl rfl _) (fun a b => (ld_s s 3 rfl _ a b).trans (hs 3 a b)) r x)
    (ld_gn x3 3 rfl _ b) (ld_g x0 3 0 rfl _ r b))

include B hs in
theorem o31_apply (x3 : Vec Ideal S4x512 .f32) (r : Fin 256) (b : Fin 512) :
    hG (hO lg3 (View.ld x0 (Rect.unit ![0, 256, 768] ![1, 256, 256] (by decide))) (View.ld x0 (Rect.unit ![0, 256, 1792] ![1, 256, 256] (by decide)))
        (View.ld x0 (Rect.unit ![0, 256, 3584] ![1, 256, 512] (by decide))) (m3 x0 s))
        (View.ld x0 (Rect.unit ![0, 256, 5632] ![1, 256, 512] (by decide))) (View.ld x3 (Rect.unit ![3, 0] ![1, 512] (by decide))) (ix2 r b)
      = gated (fun x => (out (gam 3) (Q 3) (K 3) (fun t => V 3 t x) (n + 256 + r) : EReal)) (x3 (ix2 3 b))
          (x0 (ix3 0 ⟨256 + r, by omega⟩ ⟨5632 + b, by omega⟩)) b := by
  exact (hG_apply _ _ _ r b).trans (gated_congr b (fun x => hO_apply (gam_pos 3) lg3_eq (ld_q B 3 1 rfl rfl _) (ld_k B 3 1 rfl rfl _) (ld_v B 3 1 rfl rfl _) (m3_apply B hs) r x)
    (ld_gn x3 3 rfl _ b) (ld_g x0 3 1 rfl _ r b))

include B hs in
/-- The state block after a point, whatever was written before. -/
theorem stL_apply (h : Fin 4) (a : Fin 256) (b : Fin 512) :
    View.canon (stL x0 s) (ix4 0 h a b) = (st (gam h) (fun t => K h t a) (fun t => V h t b) (n + 512) : EReal) := by
  unfold stL
  rw [canon_dup, canon_congr _ (canon_dup _ _ _ _), canon_congr _ (canon_congr _ (canon_dup _ _ _ _)), canon_congr _ (canon_congr _ (canon_congr _ (canon_dup _ _ _ _)))]
  canon_tiles x hx
  · obtain rfl : h = 3 := Fin.ext (by change (h : ℕ) = _ at hx1; simp; omega)
    rw [at_state x a b hx2 hx3]
    exact e3_apply B hs a b
  · obtain rfl : h = 2 := Fin.ext (by change (h : ℕ) = _ at hx1; simp; omega)
    rw [at_state x a b hx2 hx3]
    exact e2_apply B hs a b
  · obtain rfl : h = 1 := Fin.ext (by change (h : ℕ) = _ at hx1; simp; omega)
    rw [at_state x a b hx2 hx3]
    exact e1_apply B hs a b
  · obtain rfl : h = 0 := Fin.ext (by change (h : ℕ) = _ at hx1; simp; omega)
    rw [at_state x a b hx2 hx3]
    exact e0_apply B hs a b

include B hs in
theorem ogL_apply (x3 : Vec Ideal S4x512 .f32) (r : Fin 512) (h : Fin 4) (b : Fin 512) :
    View.canon (ogL x0 x3 s) (ix2 r ⟨512 * h + b, by omega⟩)
      = gated (fun x => (out (gam h) (Q h) (K h) (fun t => V h t x) (n + r) : EReal)) (x3 (ix2 h b)) (x0 (ix3 0 r ⟨4096 + 512 * h + b, by omega⟩)) b := by
  unfold ogL
  canon_tiles x hx
  · change (r : ℕ) = _ at hx0; change 512 * (h : ℕ) + b = _ at hx1
    obtain rfl : h = 3 := Fin.ext (by simp; omega)
    obtain ⟨r', rfl⟩ : ∃ r' : Fin 256, r = ⟨256 + r', lt_of_lt_of_le (Nat.add_lt_add_left r'.isLt _) (by decide)⟩ := ⟨x 0, Fin.ext (by simp only [] at *; omega)⟩
    rw [at_rows x r' b (by simp only [] at *; omega) (by simp at hx1; omega)]
    refine (o31_apply B hs x3 r' b).trans (gated_congr b (fun x => by rw [Nat.add_assoc]) rfl rfl)
  · change (r : ℕ) = _ at hx0; change 512 * (h : ℕ) + b = _ at hx1
    obtain rfl : h = 3 := Fin.ext (by simp; omega)
    obtain ⟨r', rfl⟩ : ∃ r' : Fin 256, r = ⟨0 + r', lt_of_lt_of_le (Nat.add_lt_add_left r'.isLt _) (by decide)⟩ := ⟨x 0, Fin.ext (by simp only [] at *; omega)⟩
    rw [at_rows x r' b (by simp only [] at *; omega) (by simp at hx1; omega)]
    refine (o30_apply B hs x3 r' b).trans (gated_congr b (fun x => by rw [Nat.add_assoc]) rfl rfl)
  · change (r : ℕ) = _ at hx0; change 512 * (h : ℕ) + b = _ at hx1
    obtain rfl : h = 2 := Fin.ext (by simp; omega)
    obtain ⟨r', rfl⟩ : ∃ r' : Fin 256, r = ⟨256 + r', lt_of_lt_of_le (Nat.add_lt_add_left r'.isLt _) (by decide)⟩ := ⟨x 0, Fin.ext (by simp only [] at *; omega)⟩
    rw [at_rows x r' b (by simp only [] at *; omega) (by simp at hx1; omega)]
    refine (o21_apply B hs x3 r' b).trans (gated_congr b (fun x => by rw [Nat.add_assoc]) rfl rfl)
  · change (r : ℕ) = _ at hx0; change 512 * (h : ℕ) + b = _ at hx1
    obtain rfl : h = 2 := Fin.ext (by simp; omega)
    obtain ⟨r', rfl⟩ : ∃ r' : Fin 256, r = ⟨0 + r', lt_of_lt_of_le (Nat.add_lt_add_left r'.isLt _) (by decide)⟩ := ⟨x 0, Fin.ext (by simp only [] at *; omega)⟩
    rw [at_rows x r' b (by simp only [] at *; omega) (by simp at hx1; omega)]
    refine (o20_apply B hs x3 r' b).trans (gated_congr b (fun x => by rw [Nat.add_assoc]) rfl rfl)
  · change (r : ℕ) = _ at hx0; change 512 * (h : ℕ) + b = _ at hx1
    obtain rfl : h = 1 := Fin.ext (by simp; omega)
    obtain ⟨r', rfl⟩ : ∃ r' : Fin 256, r = ⟨256 + r', lt_of_lt_of_le (Nat.add_lt_add_left r'.isLt _) (by decide)⟩ := ⟨x 0, Fin.ext (by simp only [] at *; omega)⟩
    rw [at_rows x r' b (by simp only [] at *; omega) (by simp at hx1; omega)]
    refine (o11_apply B hs x3 r' b).trans (gated_congr b (fun x => by rw [Nat.add_assoc]) rfl rfl)
  · change (r : ℕ) = _ at hx0; change 512 * (h : ℕ) + b = _ at hx1
    obtain rfl : h = 1 := Fin.ext (by simp; omega)
    obtain ⟨r', rfl⟩ : ∃ r' : Fin 256, r = ⟨0 + r', lt_of_lt_of_le (Nat.add_lt_add_left r'.isLt _) (by decide)⟩ := ⟨x 0, Fin.ext (by simp only [] at *; omega)⟩
    rw [at_rows x r' b (by simp only [] at *; omega) (by simp at hx1; omega)]
    refine (o10_apply B hs x3 r' b).trans (gated_congr b (fun x => by rw [Nat.add_assoc]) rfl rfl)
  · change (r : ℕ) = _ at hx0; change 512 * (h : ℕ) + b = _ at hx1
    obtain rfl : h = 0 := Fin.ext (by simp; omega)
    obtain ⟨r', rfl⟩ : ∃ r' : Fin 256, r = ⟨256 + r', lt_of_lt_of_le (Nat.add_lt_add_left r'.isLt _) (by decide)⟩ := ⟨x 0, Fin.ext (by simp only [] at *; omega)⟩
    rw [at_rows x r' b (by simp only [] at *; omega) (by simp at hx1; omega)]
    refine (o01_apply B hs x3 r' b).trans (gated_congr b (fun x => by rw [Nat.add_assoc]) rfl rfl)
  · change (r : ℕ) = _ at hx0; change 512 * (h : ℕ) + b = _ at hx1
    obtain rfl : h = 0 := Fin.ext (by simp; omega)
    obtain ⟨r', rfl⟩ : ∃ r' : Fin 256, r = ⟨0 + r', lt_of_lt_of_le (Nat.add_lt_add_left r'.isLt _) (by decide)⟩ := ⟨x 0, Fin.ext (by simp only [] at *; omega)⟩
    rw [at_rows x r' b (by simp only [] at *; omega) (by simp at hx1; omega)]
    refine (o00_apply B hs x3 r' b).trans (gated_congr b (fun x => by rw [Nat.add_assoc]) rfl rfl)

end

end Cert.KernelIdeal.Ret

end
-- ==== Proof.Ret.Sample.lean ====
/- What a grid point's sample blocks and rounded weights hold over the extended reals. -/
module

public import proofs.«01_k».proof.Proof.Ret.Block

@[expose] public section

set_option maxRecDepth 16384

noncomputable section

namespace Cert.KernelIdeal.Ret

open Idealize.ShloMosaic Idealize.SL.Sem Cert.KernelIdeal Cert.KernelIdeal.Gen Cert.Ret

theorem ld_e256 (X : Vec Ideal S1x4x1024 .f32) (h : Fin 4) {off : Fin 3 → ℕ} (ho : off = ![0, 0, 256 * (h : ℕ)])
    (inb : ∀ a, off a + ![1, 4, 256] a ≤ S1x4x1024.size a) (r : Fin 4) (a : Fin 256) :
    View.ld X (Rect.unit off ![1, 4, 256] inb) (ix3 0 r a) = X (ix3 0 r ⟨256 * h + a, by omega⟩) := by
  subst ho
  exact View.ld_unit_apply_of X _ _ _ _ _ (by intro d; fin_cases d <;> simp)

theorem ld_e512 (X : Vec Ideal S1x4x2048 .f32) (h : Fin 4) {off : Fin 3 → ℕ} (ho : off = ![0, 0, 512 * (h : ℕ)])
    (inb : ∀ a, off a + ![1, 4, 512] a ≤ S1x4x2048.size a) (r : Fin 4) (b : Fin 512) :
    View.ld X (Rect.unit off ![1, 4, 512] inb) (ix3 0 r b) = X (ix3 0 r ⟨512 * h + b, by omega⟩) := by
  subst ho
  exact View.ld_unit_apply_of X _ _ _ _ _ (by intro d; fin_cases d <;> simp)

/-- The state after a sample row, at an entry. -/
def rowS (γ : ℝ) (k : Fin 4 → EReal) (v : Fin 4 → EReal) (s : EReal) : EReal :=
  ((γ ^ 4 : ℝ) : EReal) * s + ∑ x : Fin 4, k x * ((γ ^ (4 - 1 - (x : ℕ)) : ℝ) : EReal) * v x

/-- The output of a sample row's token `r` at one column. -/
def rowO (γ : ℝ) (q k : Fin 4 → Fin 256 → EReal) (v : Fin 4 → EReal) (s : Fin 256 → EReal) (r : Fin 4) : EReal :=
  ∑ j : Fin 4, (∑ x, q r x * k j x) * ((if (j : ℕ) ≤ r then γ ^ ((r : ℕ) - j) else 0 : ℝ) : EReal) * v j
    + ∑ x, q r x * ((γ ^ ((r : ℕ) + 1) : ℝ) : EReal) * s x

theorem at_row (x : S1x4x512.Idx) (r : Fin 4) (b : Fin 512) (h1 : (r : ℕ) = x 1) (h2 : (b : ℕ) = x 2) : x = ix3 0 r b := by
  funext d
  fin_cases d
  · exact Subsingleton.elim (α := Fin 1) _ _
  · exact Fin.ext h1.symm
  · exact Fin.ext h2.symm

variable (x3 : Vec Ideal S4x512 .f32) (x5 x6 : Vec Ideal S1x4x1024 .f32) (x7 x8 : Vec Ideal S1x4x2048 .f32) (x9 : Vec Ideal S1x4x256x512 .f32)

theorem es0_apply (a : Fin 256) (b : Fin 512) : eS lg0 ce0 (View.ld x6 (Rect.unit ![0, 0, 0] ![1, 4, 256] (by decide))) (View.ld x7 (Rect.unit ![0, 0, 0] ![1, 4, 512] (by decide))) (View.ld x9 (Rect.unit ![0, 0, 0, 0] ![1, 1, 256, 512] (by decide))) (ix4 0 0 a b)
    = rowS (gam 0) (fun j => x6 (ix3 0 j ⟨256 * (0 : Fin 4) + a, by omega⟩) * Ideal.ofBits .f32 0x3D800000#32) (fun j => x7 (ix3 0 j ⟨512 * (0 : Fin 4) + b, by omega⟩)) (x9 (ix4 0 0 a b)) := by
  have hk := ld_e256 x6 0 (off := ![0, 0, 0]) rfl (by decide)
  have hv := ld_e512 x7 0 (off := ![0, 0, 0]) rfl (by decide)
  rw [eS_apply, ld_s x9 0 (off := ![0, 0, 0, 0]) rfl (by decide)]
  simp only [hk, hv, ce0_eq, eK_apply (gam_pos 0) lg0_eq]
  rfl

theorem eo0_apply (r : Fin 4) (b : Fin 512) : eO lg0 (View.ld x5 (Rect.unit ![0, 0, 0] ![1, 4, 256] (by decide))) (View.ld x6 (Rect.unit ![0, 0, 0] ![1, 4, 256] (by decide))) (View.ld x7 (Rect.unit ![0, 0, 0] ![1, 4, 512] (by decide))) (View.ld x9 (Rect.unit ![0, 0, 0, 0] ![1, 1, 256, 512] (by decide))) (ix2 r b)
    = rowO (gam 0) (fun j a => x5 (ix3 0 j ⟨256 * (0 : Fin 4) + a, by omega⟩)) (fun j a => x6 (ix3 0 j ⟨256 * (0 : Fin 4) + a, by omega⟩) * Ideal.ofBits .f32 0x3D800000#32) (fun j => x7 (ix3 0 j ⟨512 * (0 : Fin 4) + b, by omega⟩)) (fun a => x9 (ix4 0 0 a b)) r := by
  have hq := ld_e256 x5 0 (off := ![0, 0, 0]) rfl (by decide)
  have hk := ld_e256 x6 0 (off := ![0, 0, 0]) rfl (by decide)
  have hv := ld_e512 x7 0 (off := ![0, 0, 0]) rfl (by decide)
  have hs := ld_s x9 0 (off := ![0, 0, 0, 0]) rfl (by decide)
  rw [eO_apply]
  simp only [hq, hk, hv, hs, eMat_apply (gam_pos 0) lg0_eq, eQ_apply (gam_pos 0) lg0_eq]
  rfl

theorem eg0_apply (r : Fin 4) (b : Fin 512) : eG (eO lg0 (View.ld x5 (Rect.unit ![0, 0, 0] ![1, 4, 256] (by decide))) (View.ld x6 (Rect.unit ![0, 0, 0] ![1, 4, 256] (by decide))) (View.ld x7 (Rect.unit ![0, 0, 0] ![1, 4, 512] (by decide))) (View.ld x9 (Rect.unit ![0, 0, 0, 0] ![1, 1, 256, 512] (by decide)))) (View.ld x8 (Rect.unit ![0, 0, 0] ![1, 4, 512] (by decide))) (View.ld x3 (Rect.unit ![0, 0] ![1, 512] (by decide))) (ix3 0 r b)
    = gated (fun v => rowO (gam 0) (fun j a => x5 (ix3 0 j ⟨256 * (0 : Fin 4) + a, by omega⟩)) (fun j a => x6 (ix3 0 j ⟨256 * (0 : Fin 4) + a, by omega⟩) * Ideal.ofBits .f32 0x3D800000#32) (fun j => x7 (ix3 0 j ⟨512 * (0 : Fin 4) + v, by omega⟩)) (fun a => x9 (ix4 0 0 a v)) r) (x3 (ix2 0 b)) (x8 (ix3 0 r ⟨512 * (0 : Fin 4) + b, by omega⟩)) b :=
  (eG_apply _ _ _ r b).trans (gated_congr b (fun v => eo0_apply x5 x6 x7 x9 r v) (ld_gn x3 0 rfl _ b) (ld_e512 x8 0 rfl _ r b))

theorem es1_apply (a : Fin 256) (b : Fin 512) : eS lg1 ce1 (View.ld x6 (Rect.unit ![0, 0, 256] ![1, 4, 256] (by decide))) (View.ld x7 (Rect.unit ![0, 0, 512] ![1, 4, 512] (by decide))) (View.ld x9 (Rect.unit ![0, 1, 0, 0] ![1, 1, 256, 512] (by decide))) (ix4 0 0 a b)
    = rowS (gam 1) (fun j => x6 (ix3 0 j ⟨256 * (1 : Fin 4) + a, by omega⟩) * Ideal.ofBits .f32 0x3D800000#32) (fun j => x7 (ix3 0 j ⟨512 * (1 : Fin 4) + b, by omega⟩)) (x9 (ix4 0 1 a b)) := by
  have hk := ld_e256 x6 1 (off := ![0, 0, 256]) rfl (by decide)
  have hv := ld_e512 x7 1 (off := ![0, 0, 512]) rfl (by decide)
  rw [eS_apply, ld_s x9 1 (off := ![0, 1, 0, 0]) rfl (by decide)]
  simp only [hk, hv, ce1_eq, eK_apply (gam_pos 1) lg1_eq]
  rfl

theorem eo1_apply (r : Fin 4) (b : Fin 512) : eO lg1 (View.ld x5 (Rect.unit ![0, 0, 256] ![1, 4, 256] (by decide))) (View.ld x6 (Rect.unit ![0, 0, 256] ![1, 4, 256] (by decide))) (View.ld x7 (Rect.unit ![0, 0, 512] ![1, 4, 512] (by decide))) (View.ld x9 (Rect.unit ![0, 1, 0, 0] ![1, 1, 256, 512] (by decide))) (ix2 r b)
    = rowO (gam 1) (fun j a => x5 (ix3 0 j ⟨256 * (1 : Fin 4) + a, by omega⟩)) (fun j a => x6 (ix3 0 j ⟨256 * (1 : Fin 4) + a, by omega⟩) * Ideal.ofBits .f32 0x3D800000#32) (fun j => x7 (ix3 0 j ⟨512 * (1 : Fin 4) + b, by omega⟩)) (fun a => x9 (ix4 0 1 a b)) r := by
  have hq := ld_e256 x5 1 (off := ![0, 0, 256]) rfl (by decide)
  have hk := ld_e256 x6 1 (off := ![0, 0, 256]) rfl (by decide)
  have hv := ld_e512 x7 1 (off := ![0, 0, 512]) rfl (by decide)
  have hs := ld_s x9 1 (off := ![0, 1, 0, 0]) rfl (by decide)
  rw [eO_apply]
  simp only [hq, hk, hv, hs, eMat_apply (gam_pos 1) lg1_eq, eQ_apply (gam_pos 1) lg1_eq]
  rfl

theorem eg1_apply (r : Fin 4) (b : Fin 512) : eG (eO lg1 (View.ld x5 (Rect.unit ![0, 0, 256] ![1, 4, 256] (by decide))) (View.ld x6 (Rect.unit ![0, 0, 256] ![1, 4, 256] (by decide))) (View.ld x7 (Rect.unit ![0, 0, 512] ![1, 4, 512] (by decide))) (View.ld x9 (Rect.unit ![0, 1, 0, 0] ![1, 1, 256, 512] (by decide)))) (View.ld x8 (Rect.unit ![0, 0, 512] ![1, 4, 512] (by decide))) (View.ld x3 (Rect.unit ![1, 0] ![1, 512] (by decide))) (ix3 0 r b)
    = gated (fun v => rowO (gam 1) (fun j a => x5 (ix3 0 j ⟨256 * (1 : Fin 4) + a, by omega⟩)) (fun j a => x6 (ix3 0 j ⟨256 * (1 : Fin 4) + a, by omega⟩) * Ideal.ofBits .f32 0x3D800000#32) (fun j => x7 (ix3 0 j ⟨512 * (1 : Fin 4) + v, by omega⟩)) (fun a => x9 (ix4 0 1 a v)) r) (x3 (ix2 1 b)) (x8 (ix3 0 r ⟨512 * (1 : Fin 4) + b, by omega⟩)) b :=
  (eG_apply _ _ _ r b).trans (gated_congr b (fun v => eo1_apply x5 x6 x7 x9 r v) (ld_gn x3 1 rfl _ b) (ld_e512 x8 1 rfl _ r b))

theorem es2_apply (a : Fin 256) (b : Fin 512) : eS lg2 ce2 (View.ld x6 (Rect.unit ![0, 0, 512] ![1, 4, 256] (by decide))) (View.ld x7 (Rect.unit ![0, 0, 1024] ![1, 4, 512] (by decide))) (View.ld x9 (Rect.unit ![0, 2, 0, 0] ![1, 1, 256, 512] (by decide))) (ix4 0 0 a b)
    = rowS (gam 2) (fun j => x6 (ix3 0 j ⟨256 * (2 : Fin 4) + a, by omega⟩) * Ideal.ofBits .f32 0x3D800000#32) (fun j => x7 (ix3 0 j ⟨512 * (2 : Fin 4) + b, by omega⟩)) (x9 (ix4 0 2 a b)) := by
  have hk := ld_e256 x6 2 (off := ![0, 0, 512]) rfl (by decide)
  have hv := ld_e512 x7 2 (off := ![0, 0, 1024]) rfl (by decide)
  rw [eS_apply, ld_s x9 2 (off := ![0, 2, 0, 0]) rfl (by decide)]
  simp only [hk, hv, ce2_eq, eK_apply (gam_pos 2) lg2_eq]
  rfl

theorem eo2_apply (r : Fin 4) (b : Fin 512) : eO lg2 (View.ld x5 (Rect.unit ![0, 0, 512] ![1, 4, 256] (by decide))) (View.ld x6 (Rect.unit ![0, 0, 512] ![1, 4, 256] (by decide))) (View.ld x7 (Rect.unit ![0, 0, 1024] ![1, 4, 512] (by decide))) (View.ld x9 (Rect.unit ![0, 2, 0, 0] ![1, 1, 256, 512] (by decide))) (ix2 r b)
    = rowO (gam 2) (fun j a => x5 (ix3 0 j ⟨256 * (2 : Fin 4) + a, by omega⟩)) (fun j a => x6 (ix3 0 j ⟨256 * (2 : Fin 4) + a, by omega⟩) * Ideal.ofBits .f32 0x3D800000#32) (fun j => x7 (ix3 0 j ⟨512 * (2 : Fin 4) + b, by omega⟩)) (fun a => x9 (ix4 0 2 a b)) r := by
  have hq := ld_e256 x5 2 (off := ![0, 0, 512]) rfl (by decide)
  have hk := ld_e256 x6 2 (off := ![0, 0, 512]) rfl (by decide)
  have hv := ld_e512 x7 2 (off := ![0, 0, 1024]) rfl (by decide)
  have hs := ld_s x9 2 (off := ![0, 2, 0, 0]) rfl (by decide)
  rw [eO_apply]
  simp only [hq, hk, hv, hs, eMat_apply (gam_pos 2) lg2_eq, eQ_apply (gam_pos 2) lg2_eq]
  rfl

theorem eg2_apply (r : Fin 4) (b : Fin 512) : eG (eO lg2 (View.ld x5 (Rect.unit ![0, 0, 512] ![1, 4, 256] (by decide))) (View.ld x6 (Rect.unit ![0, 0, 512] ![1, 4, 256] (by decide))) (View.ld x7 (Rect.unit ![0, 0, 1024] ![1, 4, 512] (by decide))) (View.ld x9 (Rect.unit ![0, 2, 0, 0] ![1, 1, 256, 512] (by decide)))) (View.ld x8 (Rect.unit ![0, 0, 1024] ![1, 4, 512] (by decide))) (View.ld x3 (Rect.unit ![2, 0] ![1, 512] (by decide))) (ix3 0 r b)
    = gated (fun v => rowO (gam 2) (fun j a => x5 (ix3 0 j ⟨256 * (2 : Fin 4) + a, by omega⟩)) (fun j a => x6 (ix3 0 j ⟨256 * (2 : Fin 4) + a, by omega⟩) * Ideal.ofBits .f32 0x3D800000#32) (fun j => x7 (ix3 0 j ⟨512 * (2 : Fin 4) + v, by omega⟩)) (fun a => x9 (ix4 0 2 a v)) r) (x3 (ix2 2 b)) (x8 (ix3 0 r ⟨512 * (2 : Fin 4) + b, by omega⟩)) b :=
  (eG_apply _ _ _ r b).trans (gated_congr b (fun v => eo2_apply x5 x6 x7 x9 r v) (ld_gn x3 2 rfl _ b) (ld_e512 x8 2 rfl _ r b))

theorem es3_apply (a : Fin 256) (b : Fin 512) : eS lg3 ce3 (View.ld x6 (Rect.unit ![0, 0, 768] ![1, 4, 256] (by decide))) (View.ld x7 (Rect.unit ![0, 0, 1536] ![1, 4, 512] (by decide))) (View.ld x9 (Rect.unit ![0, 3, 0, 0] ![1, 1, 256, 512] (by decide))) (ix4 0 0 a b)
    = rowS (gam 3) (fun j => x6 (ix3 0 j ⟨256 * (3 : Fin 4) + a, by omega⟩) * Ideal.ofBits .f32 0x3D800000#32) (fun j => x7 (ix3 0 j ⟨512 * (3 : Fin 4) + b, by omega⟩)) (x9 (ix4 0 3 a b)) := by
  have hk := ld_e256 x6 3 (off := ![0, 0, 768]) rfl (by decide)
  have hv := ld_e512 x7 3 (off := ![0, 0, 1536]) rfl (by decide)
  rw [eS_apply, ld_s x9 3 (off := ![0, 3, 0, 0]) rfl (by decide)]
  simp only [hk, hv, ce3_eq, eK_apply (gam_pos 3) lg3_eq]
  rfl

theorem eo3_apply (r : Fin 4) (b : Fin 512) : eO lg3 (View.ld x5 (Rect.unit ![0, 0, 768] ![1, 4, 256] (by decide))) (View.ld x6 (Rect.unit ![0, 0, 768] ![1, 4, 256] (by decide))) (View.ld x7 (Rect.unit ![0, 0, 1536] ![1, 4, 512] (by decide))) (View.ld x9 (Rect.unit ![0, 3, 0, 0] ![1, 1, 256, 512] (by decide))) (ix2 r b)
    = rowO (gam 3) (fun j a => x5 (ix3 0 j ⟨256 * (3 : Fin 4) + a, by omega⟩)) (fun j a => x6 (ix3 0 j ⟨256 * (3 : Fin 4) + a, by omega⟩) * Ideal.ofBits .f32 0x3D800000#32) (fun j => x7 (ix3 0 j ⟨512 * (3 : Fin 4) + b, by omega⟩)) (fun a => x9 (ix4 0 3 a b)) r := by
  have hq := ld_e256 x5 3 (off := ![0, 0, 768]) rfl (by decide)
  have hk := ld_e256 x6 3 (off := ![0, 0, 768]) rfl (by decide)
  have hv := ld_e512 x7 3 (off := ![0, 0, 1536]) rfl (by decide)
  have hs := ld_s x9 3 (off := ![0, 3, 0, 0]) rfl (by decide)
  rw [eO_apply]
  simp only [hq, hk, hv, hs, eMat_apply (gam_pos 3) lg3_eq, eQ_apply (gam_pos 3) lg3_eq]
  rfl

theorem eg3_apply (r : Fin 4) (b : Fin 512) : eG (eO lg3 (View.ld x5 (Rect.unit ![0, 0, 768] ![1, 4, 256] (by decide))) (View.ld x6 (Rect.unit ![0, 0, 768] ![1, 4, 256] (by decide))) (View.ld x7 (Rect.unit ![0, 0, 1536] ![1, 4, 512] (by decide))) (View.ld x9 (Rect.unit ![0, 3, 0, 0] ![1, 1, 256, 512] (by decide)))) (View.ld x8 (Rect.unit ![0, 0, 1536] ![1, 4, 512] (by decide))) (View.ld x3 (Rect.unit ![3, 0] ![1, 512] (by decide))) (ix3 0 r b)
    = gated (fun v => rowO (gam 3) (fun j a => x5 (ix3 0 j ⟨256 * (3 : Fin 4) + a, by omega⟩)) (fun j a => x6 (ix3 0 j ⟨256 * (3 : Fin 4) + a, by omega⟩) * Ideal.ofBits .f32 0x3D800000#32) (fun j => x7 (ix3 0 j ⟨512 * (3 : Fin 4) + v, by omega⟩)) (fun a => x9 (ix4 0 3 a v)) r) (x3 (ix2 3 b)) (x8 (ix3 0 r ⟨512 * (3 : Fin 4) + b, by omega⟩)) b :=
  (eG_apply _ _ _ r b).trans (gated_congr b (fun v => eo3_apply x5 x6 x7 x9 r v) (ld_gn x3 3 rfl _ b) (ld_e512 x8 3 rfl _ r b))

theorem esBlk_apply (h : Fin 4) (a : Fin 256) (b : Fin 512) : esBlk x6 x7 x9 (ix4 0 h a b)
    = rowS (gam h) (fun j => x6 (ix3 0 j ⟨256 * (h : Fin 4) + a, by omega⟩) * Ideal.ofBits .f32 0x3D800000#32) (fun j => x7 (ix3 0 j ⟨512 * (h : Fin 4) + b, by omega⟩)) (x9 (ix4 0 h a b)) := by
  unfold esBlk
  canon_tiles x hx
  · obtain rfl : h = 3 := Fin.ext (by change (h : ℕ) = _ at hx1; simp; omega)
    rw [at_state x a b hx2 hx3]
    exact es3_apply x6 x7 x9 a b
  · obtain rfl : h = 2 := Fin.ext (by change (h : ℕ) = _ at hx1; simp; omega)
    rw [at_state x a b hx2 hx3]
    exact es2_apply x6 x7 x9 a b
  · obtain rfl : h = 1 := Fin.ext (by change (h : ℕ) = _ at hx1; simp; omega)
    rw [at_state x a b hx2 hx3]
    exact es1_apply x6 x7 x9 a b
  · obtain rfl : h = 0 := Fin.ext (by change (h : ℕ) = _ at hx1; simp; omega)
    rw [at_state x a b hx2 hx3]
    exact es0_apply x6 x7 x9 a b

theorem egBlk_apply (r : Fin 4) (h : Fin 4) (b : Fin 512) : egBlk x3 x5 x6 x7 x8 x9 (ix3 0 r ⟨512 * h + b, by omega⟩)
    = gated (fun v => rowO (gam h) (fun j a => x5 (ix3 0 j ⟨256 * (h : Fin 4) + a, by omega⟩)) (fun j a => x6 (ix3 0 j ⟨256 * (h : Fin 4) + a, by omega⟩) * Ideal.ofBits .f32 0x3D800000#32) (fun j => x7 (ix3 0 j ⟨512 * (h : Fin 4) + v, by omega⟩)) (fun a => x9 (ix4 0 h a v)) r) (x3 (ix2 h b)) (x8 (ix3 0 r ⟨512 * h + b, by omega⟩)) b := by
  unfold egBlk
  canon_tiles x hx
  · change 512 * (h : ℕ) + b = _ at hx2
    obtain rfl : h = 3 := Fin.ext (by simp; omega)
    rw [at_row x r b hx1 (by simp at hx2; omega)]
    exact eg3_apply x3 x5 x6 x7 x8 x9 r b
  · change 512 * (h : ℕ) + b = _ at hx2
    obtain rfl : h = 2 := Fin.ext (by simp; omega)
    rw [at_row x r b hx1 (by simp at hx2; omega)]
    exact eg2_apply x3 x5 x6 x7 x8 x9 r b
  · change 512 * (h : ℕ) + b = _ at hx2
    obtain rfl : h = 1 := Fin.ext (by simp; omega)
    rw [at_row x r b hx1 (by simp at hx2; omega)]
    exact eg1_apply x3 x5 x6 x7 x8 x9 r b
  · change 512 * (h : ℕ) + b = _ at hx2
    obtain rfl : h = 0 := Fin.ext (by simp; omega)
    rw [at_row x r b hx1 (by simp at hx2; omega)]
    exact eg0_apply x3 x5 x6 x7 x8 x9 r b

theorem wL_apply (x4 : Vec Ideal S2048x1024 .f32) (a : Fin 2048) (b : Fin 1024) : View.canon (wL x4) (ix2 a b) = x4 (ix2 a b) := by
  unfold wL
  canon_tiles x hx
  · exact (congrFun (shapeCast_self (α := EReal) _ shapeCasts_S2048x512_S2048x512) x).trans <| View.ld_unit_apply_of x4 _ _ _ x (ix2 a b) (by intro d; fin_cases d <;> simpa using by assumption)
  · exact (congrFun (shapeCast_self (α := EReal) _ shapeCasts_S2048x512_S2048x512) x).trans <| View.ld_unit_apply_of x4 _ _ _ x (ix2 a b) (by intro d; fin_cases d <;> simpa using by assumption)

end Cert.KernelIdeal.Ret

end
-- ==== Proof.Ret.Target.lean ====
/- The four results, written from the operands. -/
module

public import proofs.«01_k».proof.Proof.Ret.Sample

@[expose] public section

set_option maxRecDepth 16384

noncomputable section

namespace Cert.Ret

open Idealize.ShloMosaic Cert.KernelIdeal.Ret

/-- The projections of the prompt. -/
abbrev PromptP := (⟨3, ![8, 2048, 6144]⟩ : Shape).Idx → EReal
/-- The projections of the sample. -/
abbrev SampleP := (⟨3, ![32, 4, 6144]⟩ : Shape).Idx → EReal
/-- A state per row, head, key column and value column. -/
abbrev SampleS := (⟨4, ![32, 4, 256, 512]⟩ : Shape).Idx → EReal
/-- The scales of the head normalization. -/
abbrev Scales := (⟨2, ![4, 512]⟩ : Shape).Idx → EReal

/-- The queries, keys and values of the prompt are real numbers. -/
def Fin3 (p : PromptP) : Prop := ∀ (b : Fin 8) (t : Fin 2048) (x : Fin 6144), (x : ℕ) < 4096 → p (ix3 b t x) = ((p (ix3 b t x)).toReal : EReal)

/-- The query of batch row `b`, head `h`, at token `t`, a real number. -/
def qr (p : PromptP) (b : Fin 8) (h : Fin 4) (t : ℕ) (a : Fin 256) : ℝ :=
  if ht : t < 2048 then (p (ix3 b ⟨t, ht⟩ ⟨256 * h + a, by omega⟩)).toReal else 0

/-- The scaled key. -/
def kr (p : PromptP) (b : Fin 8) (h : Fin 4) (t : ℕ) (a : Fin 256) : ℝ :=
  if ht : t < 2048 then (p (ix3 b ⟨t, ht⟩ ⟨1024 + 256 * h + a, by omega⟩)).toReal * (1 / 16) else 0

/-- The value. -/
def vr (p : PromptP) (b : Fin 8) (h : Fin 4) (t : ℕ) (v : Fin 512) : ℝ :=
  if ht : t < 2048 then (p (ix3 b ⟨t, ht⟩ ⟨2048 + 512 * h + v, by omega⟩)).toReal else 0

/-- The state before token `n`. -/
def stAt (p : PromptP) (b : Fin 8) (h : Fin 4) (n : ℕ) (a : Fin 256) (v : Fin 512) : ℝ :=
  st (gam h) (fun t => kr p b h t a) (fun t => vr p b h t v) n

/-- The gated output of a token of the prompt. -/
def ogAt (p : PromptP) (gn : Scales) (b : Fin 8) (t : Fin 2048) (h : Fin 4) (v : Fin 512) : EReal :=
  gated (fun x => (out (gam h) (qr p b h) (kr p b h) (fun t => vr p b h t x) t : EReal)) (gn (ix2 h v)) (p (ix3 b t ⟨4096 + 512 * h + v, by omega⟩)) v

/-- The first result: the residual plus the gated projection. -/
def yAt (p : PromptP) (x : (⟨3, ![8, 2048, 1024]⟩ : Shape).Idx → EReal) (gate : (⟨3, ![8, 1, 1024]⟩ : Shape).Idx → EReal) (gn : Scales)
    (w : (⟨2, ![2048, 1024]⟩ : Shape).Idx → EReal) (b : Fin 8) (t : Fin 2048) (d : Fin 1024) : EReal :=
  x (ix3 b t d) + gate (ix3 b 0 d) * ∑ j : Fin 2048, ogAt p gn b t ⟨j / 512, by omega⟩ ⟨j % 512, by omega⟩ * w (ix2 j d)

/-- The sample's state after its four tokens. -/
def sStAt (p : SampleP) (s : SampleS) (b : Fin 32) (h : Fin 4) (a : Fin 256) (v : Fin 512) : EReal :=
  rowS (gam h) (fun j => p (ix3 b j ⟨1024 + (256 * h + a), by omega⟩) * Ideal.ofBits .f32 0x3D800000#32)
    (fun j => p (ix3 b j ⟨2048 + (512 * h + v), by omega⟩)) (s (ix4 b h a v))

/-- The sample's gated outputs. -/
def sOgAt (p : SampleP) (gn : Scales) (s : SampleS) (b : Fin 32) (r : Fin 4) (h : Fin 4) (v : Fin 512) : EReal :=
  gated (fun v => rowO (gam h) (fun j a => p (ix3 b j ⟨256 * h + a, by omega⟩))
    (fun j a => p (ix3 b j ⟨1024 + (256 * h + a), by omega⟩) * Ideal.ofBits .f32 0x3D800000#32)
    (fun j => p (ix3 b j ⟨2048 + (512 * h + v), by omega⟩)) (fun a => s (ix4 b h a v)) r)
    (gn (ix2 h v)) (p (ix3 b r ⟨4096 + (512 * h + v), by omega⟩)) v

end Cert.Ret

end
-- ==== Proof.Ret.Reads.lean ====
/- The blocks a grid point reads, as entries of the arrays. -/
module

public import proofs.«01_k».proof.Proof.Gen.KernelIdeal.Value
public import Idealize.ShloMosaic.Lib.Pointwise
public import Idealize.ShloMosaic.Lib.Pipeline.ValueKit

@[expose] public section

set_option maxRecDepth 16384

noncomputable section

namespace Cert.KernelIdeal.Ret

open Idealize.ShloMosaic Idealize.SL.Sem Cert.KernelIdeal Cert.KernelIdeal.Gen

variable {F : FTy → Type} [FloatOps F] [Named F] (m : (l : Loc nD τ sig) → Buf (Elt F) l) (c : Dev nD) (t : Fin cfg0.N)

/-- Operand 0 on device `c`. -/
abbrev arg0 : Vec F S8x2048x6144 .bf16 := V m c main_arg0
/-- Operand 1 on device `c`. -/
abbrev arg1 : Vec F S8x2048x1024 .f32 := V m c main_arg1
/-- Operand 2 on device `c`. -/
abbrev arg2 : Vec F S8x1x1024 .f32 := V m c main_arg2
/-- Operand 3 on device `c`. -/
abbrev arg3 : Vec F S4x512 .f32 := V m c main_arg3
/-- Operand 4 on device `c`. -/
abbrev arg4 : Vec F S2048x1024 .f32 := V m c main_arg4
/-- Operand 5 on device `c`. -/
abbrev arg5 : Vec F S32x4x6144 .f32 := V m c main_arg5
/-- Operand 6 on device `c`. -/
abbrev arg6 : Vec F S32x4x256x512 .f32 := V m c main_arg6

theorem idx0 : ∀ t : Fin cfg0.N, win0_0.index t = ![t.val / 4, t.val % 4, 0] := by decide +kernel
theorem idx1 : ∀ t : Fin cfg0.N, win0_1.index t = ![t.val / 4, t.val % 4, 0] := by decide +kernel
theorem idx2 : ∀ t : Fin cfg0.N, win0_2.index t = ![t.val / 4, 0, 0] := by decide +kernel
theorem idx3 : ∀ t : Fin cfg0.N, win0_3.index t = ![0, 0] := by decide +kernel
theorem idx4 : ∀ t : Fin cfg0.N, win0_4.index t = ![0, 0] := by decide +kernel
theorem idx5 : ∀ t : Fin cfg0.N, win0_5.index t = ![t.val, 0, 0] := by decide +kernel
theorem idx6 : ∀ t : Fin cfg0.N, win0_6.index t = ![t.val, 0, 1] := by decide +kernel
theorem idx7 : ∀ t : Fin cfg0.N, win0_7.index t = ![t.val, 0, 1] := by decide +kernel
theorem idx8 : ∀ t : Fin cfg0.N, win0_8.index t = ![t.val, 0, 2] := by decide +kernel
theorem idx9 : ∀ t : Fin cfg0.N, win0_9.index t = ![t.val, 0, 0, 0] := by decide +kernel

theorem lt32 (t : Fin cfg0.N) : t.val < 32 := lt_of_lt_of_eq t.isLt (show cfg0.N = 32 from N_0)

theorem rd0 (r : Fin 512) (x : Fin 6144) : iblk m c 0 t (ix3 0 r x)
    = arg0 m c (ix3 ⟨t.val / 4, by have := lt32 t; omega⟩ ⟨512 * (t.val % 4) + r, by omega⟩ x) := by
  have := lt32 t
  blk_ext [iblk, V, idx0 t]

theorem rd1 (r : Fin 512) (x : Fin 1024) : iblk m c 1 t (ix3 0 r x)
    = arg1 m c (ix3 ⟨t.val / 4, by have := lt32 t; omega⟩ ⟨512 * (t.val % 4) + r, by omega⟩ x) := by
  have := lt32 t
  blk_ext [iblk, V, idx1 t]

theorem rd2 (x : Fin 1024) : iblk m c 2 t (ix3 0 0 x) = arg2 m c (ix3 ⟨t.val / 4, by have := lt32 t; omega⟩ 0 x) := by
  have := lt32 t
  blk_ext [iblk, V, idx2 t]

theorem rd3 (r : Fin 4) (x : Fin 512) : iblk m c 3 t (ix2 r x) = arg3 m c (ix2 r x) := by
  blk_ext [iblk, V, idx3 t]

theorem rd4 (r : Fin 2048) (x : Fin 1024) : iblk m c 4 t (ix2 r x) = arg4 m c (ix2 r x) := by
  blk_ext [iblk, V, idx4 t]

theorem rd5 (r : Fin 4) (x : Fin 1024) : iblk m c 5 t (ix3 0 r x) = arg5 m c (ix3 ⟨t.val, lt32 t⟩ r ⟨x, by omega⟩) := by
  blk_ext [iblk, V, idx5 t]

theorem rd6 (r : Fin 4) (x : Fin 1024) : iblk m c 6 t (ix3 0 r x) = arg5 m c (ix3 ⟨t.val, lt32 t⟩ r ⟨1024 + x, by omega⟩) := by
  blk_ext [iblk, V, idx6 t]

theorem rd7 (r : Fin 4) (x : Fin 2048) : iblk m c 7 t (ix3 0 r x) = arg5 m c (ix3 ⟨t.val, lt32 t⟩ r ⟨2048 + x, by omega⟩) := by
  blk_ext [iblk, V, idx7 t]

theorem rd8 (r : Fin 4) (x : Fin 2048) : iblk m c 8 t (ix3 0 r x) = arg5 m c (ix3 ⟨t.val, lt32 t⟩ r ⟨4096 + x, by omega⟩) := by
  blk_ext [iblk, V, idx8 t]

theorem rd9 (h : Fin 4) (a : Fin 256) (b : Fin 512) : iblk m c 9 t (ix4 0 h a b) = arg6 m c (ix4 ⟨t.val, lt32 t⟩ h a b) := by
  blk_ext [iblk, V, idx9 t]

end Cert.KernelIdeal.Ret

end
-- ==== Proof.Ret.OpenA.lean ====
/- The blocks that the grid's first point leaves, in the form of `Canon`. -/
module

public import proofs.«01_k».proof.Proof.Ret.Canon

@[expose] public section

set_option maxRecDepth 16384

noncomputable section

namespace Cert.KernelIdeal.Ret

open Idealize.ShloMosaic Idealize.SL.Sem Cert.KernelIdeal Cert.KernelIdeal.Gen

variable {F : FTy → Type} [FloatOps F] [Named F]

section

variable (c : Dev nD) (i : grid0.Coords) (arg2 : Memref sig .tc .vmem S1x512x6144 .bf16) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S4x512 .f32) (harg5 : arg5.IsWhole) (arg6 : Memref sig .tc .vmem S2048x1024 .f32) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x2048 .f32) (harg9 : arg9.IsWhole) (arg10 : Memref sig .tc .vmem S1x4x2048 .f32) (harg10 : arg10.IsWhole) (arg11 : Memref sig .tc .vmem S1x4x256x512 .f32) (harg11 : arg11.IsWhole) (arg12 : Memref sig .tc .vmem S1x512x1024 .f32) (harg12 : arg12.IsWhole) (arg13 : Memref sig .tc .vmem S1x4x256x512 .f32) (harg13 : arg13.IsWhole) (arg14 : Memref sig .tc .vmem S1x4x2048 .f32) (harg14 : arg14.IsWhole) (arg15 : Memref sig .tc .vmem S1x4x256x512 .f32) (harg15 : arg15.IsWhole) (arg16 : Memref sig .tc .vmem S2048x1024 .bf16) (harg16 : arg16.IsWhole) (arg17 : Memref sig .tc .vmem S512x2048 .bf16) (harg17 : arg17.IsWhole)
  (hc0 : cond0_0 i) (hc1 : cond0_1 i)
  (x0 : Vec F S1x512x6144 .bf16) (x1 : Vec F S1x512x1024 .f32) (x2 : Vec F S1x1x1024 .f32) (x3 : Vec F S4x512 .f32) (x4 : Vec F S2048x1024 .f32) (x5 : Vec F S1x4x1024 .f32) (x6 : Vec F S1x4x1024 .f32) (x7 : Vec F S1x4x2048 .f32) (x8 : Vec F S1x4x2048 .f32) (x9 : Vec F S1x4x256x512 .f32)

theorem outA_10 : out0_A_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = yBlk x1 x2 (View.canon (ogL x0 x3 (k0_pay4 (F := F)))) (View.canon (wL x4)) := by
  frame_open
  simp (disch := decide) only [↓ View.readCov_skip, ↓ View.readCov_cons_toLoadRect, ↓ View.readCov_fill]
  frame_out
  simp only [readCov_whole]
  rfl

theorem outA_11 : out0_A_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = View.canon (stL x0 (k0_pay4 (F := F)) ++ [⟨Rect.unit ![0, 0, 0, 0] ![1, 4, 256, 512] (by decide), k0_pay4⟩]) := by
  frame_open
  simp (disch := decide) only [↓ View.readCov_skip, ↓ View.readCov_cons_toLoadRect, ↓ View.readCov_fill]
  frame_out
  rfl

theorem outA_12 : out0_A_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = egBlk x3 x5 x6 x7 x8 x9 := by
  frame_open
  simp (disch := decide) only [↓ View.readCov_skip, ↓ View.readCov_cons_toLoadRect, ↓ View.readCov_fill]
  frame_out
  rw [ld_off x3 (off1_0 i) _ (by decide), ld_off x3 (off1_1 i) _ (by decide), ld_off x3 (off1_2 i) _ (by decide), ld_off x3 (off1_3 i) _ (by decide)]
  rfl

theorem outA_13 : out0_A_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = esBlk x6 x7 x9 := by
  frame_open
  simp (disch := decide) only [↓ View.readCov_skip, ↓ View.readCov_cons_toLoadRect, ↓ View.readCov_fill]
  frame_out
  rfl

theorem soutA : sout0_A_0 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 = View.canon (wL x4) := by
  frame_open
  frame_out
  rfl

end

end Cert.KernelIdeal.Ret

end
-- ==== Proof.Ret.OpenB.lean ====
/- The blocks that a point that goes on in a batch row leaves, in the form of `Canon`. -/
module

public import proofs.«01_k».proof.Proof.Ret.Canon

@[expose] public section

set_option maxRecDepth 16384

noncomputable section

namespace Cert.KernelIdeal.Ret

open Idealize.ShloMosaic Idealize.SL.Sem Cert.KernelIdeal Cert.KernelIdeal.Gen

variable {F : FTy → Type} [FloatOps F] [Named F]

section

variable (c : Dev nD) (i : grid0.Coords) (arg2 : Memref sig .tc .vmem S1x512x6144 .bf16) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S4x512 .f32) (harg5 : arg5.IsWhole) (arg6 : Memref sig .tc .vmem S2048x1024 .f32) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x2048 .f32) (harg9 : arg9.IsWhole) (arg10 : Memref sig .tc .vmem S1x4x2048 .f32) (harg10 : arg10.IsWhole) (arg11 : Memref sig .tc .vmem S1x4x256x512 .f32) (harg11 : arg11.IsWhole) (arg12 : Memref sig .tc .vmem S1x512x1024 .f32) (harg12 : arg12.IsWhole) (arg13 : Memref sig .tc .vmem S1x4x256x512 .f32) (harg13 : arg13.IsWhole) (arg14 : Memref sig .tc .vmem S1x4x2048 .f32) (harg14 : arg14.IsWhole) (arg15 : Memref sig .tc .vmem S1x4x256x512 .f32) (harg15 : arg15.IsWhole) (arg16 : Memref sig .tc .vmem S2048x1024 .bf16) (harg16 : arg16.IsWhole) (arg17 : Memref sig .tc .vmem S512x2048 .bf16) (harg17 : arg17.IsWhole)
  (hc0 : ¬cond0_0 i) (hc1 : ¬cond0_1 i)
  (x0 : Vec F S1x512x6144 .bf16) (x1 : Vec F S1x512x1024 .f32) (x2 : Vec F S1x1x1024 .f32) (x3 : Vec F S4x512 .f32) (x4 : Vec F S2048x1024 .f32) (x5 : Vec F S1x4x1024 .f32) (x6 : Vec F S1x4x1024 .f32) (x7 : Vec F S1x4x2048 .f32) (x8 : Vec F S1x4x2048 .f32) (x9 : Vec F S1x4x256x512 .f32) (xo11 : Vec F S1x4x256x512 .f32) (xs0 : Vec F S2048x1024 .bf16)

theorem outB_10 : out0_B_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 = yBlk x1 x2 (View.canon (ogL x0 x3 xo11)) xs0 := by
  frame_open
  simp (disch := decide) only [↓ View.readCov_skip, ↓ View.readCov_cons_toLoadRect, ↓ View.readCov_fill]
  frame_out
  simp only [readCov_whole]
  rfl

theorem outB_11 : out0_B_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 = View.canon (stL x0 xo11) := by
  frame_open
  simp (disch := decide) only [↓ View.readCov_skip, ↓ View.readCov_cons_toLoadRect, ↓ View.readCov_fill]
  frame_out
  rfl

theorem outB_12 : out0_B_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 = egBlk x3 x5 x6 x7 x8 x9 := by
  frame_open
  simp (disch := decide) only [↓ View.readCov_skip, ↓ View.readCov_cons_toLoadRect, ↓ View.readCov_fill]
  frame_out
  rw [ld_off x3 (off1_0 i) _ (by decide), ld_off x3 (off1_1 i) _ (by decide), ld_off x3 (off1_2 i) _ (by decide), ld_off x3 (off1_3 i) _ (by decide)]
  rfl

theorem outB_13 : out0_B_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xo11 xs0 = esBlk x6 x7 x9 := by
  frame_open
  simp (disch := decide) only [↓ View.readCov_skip, ↓ View.readCov_cons_toLoadRect, ↓ View.readCov_fill]
  frame_out
  rfl

end

end Cert.KernelIdeal.Ret

end
-- ==== Proof.Ret.OpenC.lean ====
/- The blocks that a point that opens a batch row leaves, in the form of `Canon`. -/
module

public import proofs.«01_k».proof.Proof.Ret.Canon

@[expose] public section

set_option maxRecDepth 16384

noncomputable section

namespace Cert.KernelIdeal.Ret

open Idealize.ShloMosaic Idealize.SL.Sem Cert.KernelIdeal Cert.KernelIdeal.Gen

variable {F : FTy → Type} [FloatOps F] [Named F]

section

variable (c : Dev nD) (i : grid0.Coords) (arg2 : Memref sig .tc .vmem S1x512x6144 .bf16) (harg2 : arg2.IsWhole) (arg3 : Memref sig .tc .vmem S1x512x1024 .f32) (harg3 : arg3.IsWhole) (arg4 : Memref sig .tc .vmem S1x1x1024 .f32) (harg4 : arg4.IsWhole) (arg5 : Memref sig .tc .vmem S4x512 .f32) (harg5 : arg5.IsWhole) (arg6 : Memref sig .tc .vmem S2048x1024 .f32) (harg6 : arg6.IsWhole) (arg7 : Memref sig .tc .vmem S1x4x1024 .f32) (harg7 : arg7.IsWhole) (arg8 : Memref sig .tc .vmem S1x4x1024 .f32) (harg8 : arg8.IsWhole) (arg9 : Memref sig .tc .vmem S1x4x2048 .f32) (harg9 : arg9.IsWhole) (arg10 : Memref sig .tc .vmem S1x4x2048 .f32) (harg10 : arg10.IsWhole) (arg11 : Memref sig .tc .vmem S1x4x256x512 .f32) (harg11 : arg11.IsWhole) (arg12 : Memref sig .tc .vmem S1x512x1024 .f32) (harg12 : arg12.IsWhole) (arg13 : Memref sig .tc .vmem S1x4x256x512 .f32) (harg13 : arg13.IsWhole) (arg14 : Memref sig .tc .vmem S1x4x2048 .f32) (harg14 : arg14.IsWhole) (arg15 : Memref sig .tc .vmem S1x4x256x512 .f32) (harg15 : arg15.IsWhole) (arg16 : Memref sig .tc .vmem S2048x1024 .bf16) (harg16 : arg16.IsWhole) (arg17 : Memref sig .tc .vmem S512x2048 .bf16) (harg17 : arg17.IsWhole)
  (hc0 : ¬cond0_0 i) (hc1 : cond0_1 i)
  (x0 : Vec F S1x512x6144 .bf16) (x1 : Vec F S1x512x1024 .f32) (x2 : Vec F S1x1x1024 .f32) (x3 : Vec F S4x512 .f32) (x4 : Vec F S2048x1024 .f32) (x5 : Vec F S1x4x1024 .f32) (x6 : Vec F S1x4x1024 .f32) (x7 : Vec F S1x4x2048 .f32) (x8 : Vec F S1x4x2048 .f32) (x9 : Vec F S1x4x256x512 .f32) (xs0 : Vec F S2048x1024 .bf16)

theorem outC_10 : out0_C_10 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 = yBlk x1 x2 (View.canon (ogL x0 x3 (k0_pay4 (F := F)))) xs0 := by
  frame_open
  simp (disch := decide) only [↓ View.readCov_skip, ↓ View.readCov_cons_toLoadRect, ↓ View.readCov_fill]
  frame_out
  simp only [readCov_whole]
  rfl

theorem outC_11 : out0_C_11 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 = View.canon (stL x0 (k0_pay4 (F := F)) ++ [⟨Rect.unit ![0, 0, 0, 0] ![1, 4, 256, 512] (by decide), k0_pay4⟩]) := by
  frame_open
  simp (disch := decide) only [↓ View.readCov_skip, ↓ View.readCov_cons_toLoadRect, ↓ View.readCov_fill]
  frame_out
  rfl

theorem outC_12 : out0_C_12 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 = egBlk x3 x5 x6 x7 x8 x9 := by
  frame_open
  simp (disch := decide) only [↓ View.readCov_skip, ↓ View.readCov_cons_toLoadRect, ↓ View.readCov_fill]
  frame_out
  rw [ld_off x3 (off1_0 i) _ (by decide), ld_off x3 (off1_1 i) _ (by decide), ld_off x3 (off1_2 i) _ (by decide), ld_off x3 (off1_3 i) _ (by decide)]
  rfl

theorem outC_13 : out0_C_13 c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 hc0 hc1 x0 x1 x2 x3 x4 x5 x6 x7 x8 x9 xs0 = esBlk x6 x7 x9 := by
  frame_open
  simp (disch := decide) only [↓ View.readCov_skip, ↓ View.readCov_cons_toLoadRect, ↓ View.readCov_fill]
  frame_out
  rfl

end

end Cert.KernelIdeal.Ret

end
-- ==== Proof.Ret.Points.lean ====
/- What the grid's points leave, and the four results of the kernel in closed form. -/
module

public import proofs.«01_k».proof.Proof.Ret.Target
public import proofs.«01_k».proof.Proof.Ret.Reads
public import proofs.«01_k».proof.Proof.Ret.OpenA
public import proofs.«01_k».proof.Proof.Ret.OpenB
public import proofs.«01_k».proof.Proof.Ret.OpenC

@[expose] public section

set_option maxRecDepth 16384

noncomputable section

namespace Cert.KernelIdeal.Ret

open Idealize.ShloMosaic Idealize.SL.Sem Cert.KernelIdeal Cert.KernelIdeal.Gen Cert.KernelIdeal.Value Cert.Ret

/-- What a point carries: its four output blocks and the rounded weights. -/
abbrev Acc := Vec Ideal S1x512x1024 .f32 × Vec Ideal S1x4x256x512 .f32 × Vec Ideal S1x4x2048 .f32 × Vec Ideal S1x4x256x512 .f32 × Vec Ideal S2048x1024 .bf16

variable (m : (l : Loc nD τ sig) → Buf (Elt Ideal) l) (c : Dev nD) (t : Fin cfg0.N) (acc : Acc)

/-- The list that writes the state on a batch row's first block: the pieces and the whole-block zero under them. -/
abbrev st0L (x0 : Vec Ideal S1x512x6144 .bf16) : List (View.Piece (Elt Ideal) S1x4x256x512 .f32) :=
  stL x0 (k0_pay4 (F := Ideal)) ++ [⟨Rect.unit ![0, 0, 0, 0] ![1, 4, 256, 512] (by decide), (k0_pay4 (F := Ideal))⟩]

theorem point_A (h0 : t.val % 32 = 0) (h1 : t.val % 4 = 0) : stAt0 m c t.val t.isLt acc
    = (yBlk (iblk m c 1 t) (iblk m c 2 t) (View.canon (ogL (iblk m c 0 t) (iblk m c 3 t) (k0_pay4 (F := Ideal)))) (View.canon (wL (iblk m c 4 t))),
      View.canon (st0L (iblk m c 0 t)),
      egBlk (iblk m c 3 t) (iblk m c 5 t) (iblk m c 6 t) (iblk m c 7 t) (iblk m c 8 t) (iblk m c 9 t),
      esBlk (iblk m c 6 t) (iblk m c 7 t) (iblk m c 9 t), View.canon (wL (iblk m c 4 t))) := by
  rw [stAt0_A m c t acc h0 h1, outA_10, outA_11, outA_12, outA_13, soutA]

theorem point_B (h0 : ¬t.val % 32 = 0) (h1 : ¬t.val % 4 = 0) : stAt0 m c t.val t.isLt acc
    = (yBlk (iblk m c 1 t) (iblk m c 2 t) (View.canon (ogL (iblk m c 0 t) (iblk m c 3 t) acc.2.1)) acc.2.2.2.2,
      View.canon (stL (iblk m c 0 t) acc.2.1),
      egBlk (iblk m c 3 t) (iblk m c 5 t) (iblk m c 6 t) (iblk m c 7 t) (iblk m c 8 t) (iblk m c 9 t),
      esBlk (iblk m c 6 t) (iblk m c 7 t) (iblk m c 9 t), acc.2.2.2.2) := by
  rw [stAt0_B m c t acc h0 h1, outB_10, outB_11, outB_12, outB_13]
  rfl

theorem point_C (h0 : ¬t.val % 32 = 0) (h1 : t.val % 4 = 0) : stAt0 m c t.val t.isLt acc
    = (yBlk (iblk m c 1 t) (iblk m c 2 t) (View.canon (ogL (iblk m c 0 t) (iblk m c 3 t) (k0_pay4 (F := Ideal)))) acc.2.2.2.2,
      View.canon (st0L (iblk m c 0 t)),
      egBlk (iblk m c 3 t) (iblk m c 5 t) (iblk m c 6 t) (iblk m c 7 t) (iblk m c 8 t) (iblk m c 9 t),
      esBlk (iblk m c 6 t) (iblk m c 7 t) (iblk m c 9 t), acc.2.2.2.2) := by
  rw [stAt0_C m c t acc h0 h1, outC_10, outC_11, outC_12, outC_13]
  rfl

theorem st0L_apply (x0 : Vec Ideal S1x512x6144 .bf16) (y : S1x4x256x512.Idx) : View.canon (st0L x0) y = View.canon (stL x0 (k0_pay4 (F := Ideal))) y := by
  refine canon_append _ y _ ?_
  have h1 : ((y 1 : Fin 4) : ℕ) < 4 := (y 1).isLt
  have mem : ∀ (h : ℕ) (inb : ∀ a, (![0, h, 0, 0] : Fin 4 → ℕ) a + ![1, 1, 256, 512] a ≤ S1x4x256x512.size a), h = (y 1 : Fin 4) →
      y ∈ (Rect.unit (s := S1x4x256x512) ![0, h, 0, 0] ![1, 1, 256, 512] inb).set := by
    intro h inb e
    rw [Rect.mem_set_unit]
    intro d
    fin_cases d
    · exact ⟨Nat.zero_le _, (y 0).isLt⟩
    · exact ⟨e.le, lt_of_eq_of_lt e.symm (Nat.lt_succ_self _)⟩
    · exact ⟨Nat.zero_le _, lt_of_lt_of_eq (y 2).isLt (Nat.zero_add _).symm⟩
    · exact ⟨Nat.zero_le _, lt_of_lt_of_eq (y 3).isLt (Nat.zero_add _).symm⟩
  obtain e | e | e | e : (0 = ((y 1 : Fin 4) : ℕ)) ∨ (1 = ((y 1 : Fin 4) : ℕ)) ∨ (2 = ((y 1 : Fin 4) : ℕ)) ∨ (3 = ((y 1 : Fin 4) : ℕ)) := by omega
  · exact ⟨_, .tail _ (.tail _ (.tail _ (.tail _ (.tail _ (.tail _ (.tail _ (.head _))))))), mem 0 (by decide) e⟩
  · exact ⟨_, .tail _ (.tail _ (.tail _ (.tail _ (.tail _ (.head _))))), mem 1 (by decide) e⟩
  · exact ⟨_, .tail _ (.tail _ (.tail _ (.head _))), mem 2 (by decide) e⟩
  · exact ⟨_, .tail _ (.head _), mem 3 (by decide) e⟩

theorem zero_apply (y : S1x4x256x512.Idx) : (k0_pay4 (F := Ideal)) y = 0 := by
  unfold k0_pay4
  pointwise

/-- The batch row of a point. -/
abbrev row (t : Fin cfg0.N) : Fin 8 := ⟨t.val / 4, by have := lt32 t; omega⟩
/-- A row of the point's block, as a token. -/
abbrev tok (t : Fin cfg0.N) (r : Fin 512) : Fin 2048 := ⟨512 * (t.val % 4) + r, by omega⟩

variable (hp : Fin3 (arg0 m c))

include hp in
theorem block : Blk (iblk m c 0 t) (qr (arg0 m c) (row t)) (kr (arg0 m c) (row t)) (vr (arg0 m c) (row t)) (512 * (t.val % 4)) where
  hq h r a := by
    rw [rd0, qr, dif_pos (tok t r).isLt]
    exact hp _ _ _ (by simp only []; omega)
  hk h r a := by
    rw [rd0, kr, dif_pos (tok t r).isLt, EReal.coe_mul, w_sixteenth]
    exact congrArg (· * _) (hp _ _ _ (by simp only []; omega))
  hv h r b := by
    rw [rd0, vr, dif_pos (tok t r).isLt]
    exact hp _ _ _ (by simp only []; omega)

/-- What holds after point `t`. -/
structure Inv (o : Acc) : Prop where
  wb : ∀ a b, o.2.2.2.2 (ix2 a b) = arg4 m c (ix2 a b)
  state : ∀ h a b, o.2.1 (ix4 0 h a b) = (stAt (arg0 m c) (row t) h (512 * (t.val % 4) + 512) a b : EReal)
  y : ∀ r d, o.1 (ix3 0 r d) = yAt (arg0 m c) (arg1 m c) (arg2 m c) (arg3 m c) (arg4 m c) (row t) (tok t r) d
  og : ∀ r (h : Fin 4) (v : Fin 512), o.2.2.1 (ix3 0 r ⟨512 * h + v, by omega⟩) = sOgAt (arg5 m c) (arg3 m c) (arg6 m c) ⟨t.val, lt32 t⟩ r h v
  s : ∀ h a b, o.2.2.2.1 (ix4 0 h a b) = sStAt (arg5 m c) (arg6 m c) ⟨t.val, lt32 t⟩ h a b

theorem og_holds (r : Fin 4) (h : Fin 4) (v : Fin 512) : egBlk (iblk m c 3 t) (iblk m c 5 t) (iblk m c 6 t) (iblk m c 7 t) (iblk m c 8 t) (iblk m c 9 t)
    (ix3 0 r ⟨512 * h + v, by omega⟩) = sOgAt (arg5 m c) (arg3 m c) (arg6 m c) ⟨t.val, lt32 t⟩ r h v := by
  rw [egBlk_apply]
  simp only [rd3, rd5, rd6, rd7, rd8, rd9]
  rfl

theorem s_holds (h : Fin 4) (a : Fin 256) (b : Fin 512) : esBlk (iblk m c 6 t) (iblk m c 7 t) (iblk m c 9 t) (ix4 0 h a b)
    = sStAt (arg5 m c) (arg6 m c) ⟨t.val, lt32 t⟩ h a b := by
  rw [esBlk_apply]
  simp only [rd6, rd7, rd9]
  rfl

theorem w_holds (a : Fin 2048) (b : Fin 1024) : View.canon (wL (iblk m c 4 t)) (ix2 a b) = arg4 m c (ix2 a b) := by
  rw [wL_apply, rd4]

include hp in
/-- The state and the result block of a point, given the state before it and the rounded weights. -/
theorem step (s : Vec Ideal S1x4x256x512 .f32) (wb : Vec Ideal S2048x1024 .bf16)
    (hs : ∀ h a b, s (ix4 0 h a b) = (stAt (arg0 m c) (row t) h (512 * (t.val % 4)) a b : EReal))
    (hw : ∀ a b, wb (ix2 a b) = arg4 m c (ix2 a b)) :
    (∀ h a b, View.canon (stL (iblk m c 0 t) s) (ix4 0 h a b) = (stAt (arg0 m c) (row t) h (512 * (t.val % 4) + 512) a b : EReal))
    ∧ ∀ r d, yBlk (iblk m c 1 t) (iblk m c 2 t) (View.canon (ogL (iblk m c 0 t) (iblk m c 3 t) s)) wb (ix3 0 r d)
      = yAt (arg0 m c) (arg1 m c) (arg2 m c) (arg3 m c) (arg4 m c) (row t) (tok t r) d := by
  refine ⟨fun h a b => stL_apply (block m c t hp) hs h a b, fun r d => ?_⟩
  rw [yBlk_apply, rd1, rd2]
  refine congrArg (_ + _ * ·) (Finset.sum_congr rfl fun j _ => congrArg₂ (· * ·) ?_ (hw j d))
  have e := ogL_apply (block m c t hp) hs (iblk m c 3 t) r ⟨j / 512, by omega⟩ ⟨j % 512, by omega⟩
  rw [rd3, rd0] at e
  refine (congrArg (View.canon _) (congrArg (ix2 r) (Fin.ext ?_))).trans e
  change (j : ℕ) = 512 * (j / 512) + j % 512
  omega

include hp in
theorem inv_A (h0 : t.val % 32 = 0) (h1 : t.val % 4 = 0) : Inv m c t (stAt0 m c t.val t.isLt acc) := by
  obtain ⟨e1, e2⟩ := step m c t hp (k0_pay4 (F := Ideal)) (View.canon (wL (iblk m c 4 t)))
    (fun h a b => by rw [zero_apply, stAt, h1, Nat.mul_zero, st_zero]; rfl) (w_holds m c t)
  rw [point_A m c t acc h0 h1]
  refine ⟨?_, ?_, ?_, ?_, ?_⟩ <;> dsimp only
  · exact w_holds m c t
  · exact fun h a b => (st0L_apply _ _).trans (e1 h a b)
  · exact e2
  · exact og_holds m c t
  · exact s_holds m c t

include hp in
theorem inv_B (h0 : ¬t.val % 32 = 0) (h1 : ¬t.val % 4 = 0) (hw : ∀ a b, acc.2.2.2.2 (ix2 a b) = arg4 m c (ix2 a b))
    (hs : ∀ h a b, acc.2.1 (ix4 0 h a b) = (stAt (arg0 m c) (row t) h (512 * (t.val % 4)) a b : EReal)) :
    Inv m c t (stAt0 m c t.val t.isLt acc) := by
  obtain ⟨e1, e2⟩ := step m c t hp acc.2.1 acc.2.2.2.2 hs hw
  rw [point_B m c t acc h0 h1]
  refine ⟨?_, ?_, ?_, ?_, ?_⟩ <;> dsimp only
  · exact hw
  · exact e1
  · exact e2
  · exact og_holds m c t
  · exact s_holds m c t

include hp in
theorem inv_C (h0 : ¬t.val % 32 = 0) (h1 : t.val % 4 = 0) (hw : ∀ a b, acc.2.2.2.2 (ix2 a b) = arg4 m c (ix2 a b)) :
    Inv m c t (stAt0 m c t.val t.isLt acc) := by
  obtain ⟨e1, e2⟩ := step m c t hp (k0_pay4 (F := Ideal)) acc.2.2.2.2
    (fun h a b => by rw [zero_apply, stAt, h1, Nat.mul_zero, st_zero]; rfl) hw
  rw [point_C m c t acc h0 h1]
  refine ⟨?_, ?_, ?_, ?_, ?_⟩ <;> dsimp only
  · exact hw
  · exact fun h a b => (st0L_apply _ _).trans (e1 h a b)
  · exact e2
  · exact og_holds m c t
  · exact s_holds m c t

include hp in
theorem inv (n : ℕ) : ∀ hn : n < cfg0.N, Inv m c ⟨n, hn⟩ (outsAt0 m c n hn) := by
  induction n with
  | zero =>
    intro hn
    rw [outsAt0_zero]
    exact inv_A m c ⟨0, hn⟩ _ hp (Nat.zero_mod _) (Nat.zero_mod _)
  | succ n ih =>
    intro hn
    have i := ih (Nat.lt_of_succ_lt hn)
    have hN : n + 1 < 32 := lt32 ⟨n + 1, hn⟩
    have h0 : ¬(n + 1) % 32 = 0 := by omega
    rw [outsAt0_succ]
    by_cases h1 : (n + 1) % 4 = 0
    · exact inv_C m c ⟨n + 1, hn⟩ _ hp h0 h1 i.wb
    · refine inv_B m c ⟨n + 1, hn⟩ _ hp h0 h1 i.wb fun h a b => (i.state h a b).trans ?_
      have hr : row ⟨n, Nat.lt_of_succ_lt hn⟩ = row ⟨n + 1, hn⟩ := Fin.ext (show n / 4 = (n + 1) / 4 by omega)
      rw [hr, show 512 * ((⟨n, Nat.lt_of_succ_lt hn⟩ : Fin cfg0.N).val % 4) + 512 = 512 * ((⟨n + 1, hn⟩ : Fin cfg0.N).val % 4) from
        show 512 * (n % 4) + 512 = 512 * ((n + 1) % 4) by omega]

/-! ## The results in closed form -/

include hp in
theorem G10_apply (b : Fin 8) (s : Fin 2048) (d : Fin 1024) :
    G10 m c (ix3 b s d) = yAt (arg0 m c) (arg1 m c) (arg2 m c) (arg3 m c) (arg4 m c) b s d := by
  have hn : 4 * (b : ℕ) + s / 512 < cfg0.N := lt_of_lt_of_eq (by omega) (show 32 = cfg0.N from N_0.symm)
  have hpt : pt10Of (ix3 b s d) = 4 * (b : ℕ) + s / 512 := by
    change 4 * ((b : ℕ) / 1 - 0) + 1 * ((s : ℕ) / 512 - 0) + 1 * ((d : ℕ) / 1024 - 0) = _
    omega
  have hl : loc10Of (ix3 b s d) = ix3 0 (⟨s % 512, Nat.mod_lt _ (by decide)⟩ : Fin 512) d := by
    funext a
    fin_cases a
    · exact Subsingleton.elim (α := Fin 1) _ _
    · rfl
    · exact Fin.ext (Nat.mod_eq_of_lt d.isLt)
  have key : ∀ (n : ℕ) (h : n < cfg0.N), n = 4 * (b : ℕ) + s / 512 → (outsAt0 m c n h).1 (loc10Of (ix3 b s d))
      = yAt (arg0 m c) (arg1 m c) (arg2 m c) (arg3 m c) (arg4 m c) b s d := by
    rintro n h e
    rw [hl, (inv m c hp n h).y]
    have e1 : row ⟨n, h⟩ = b := Fin.ext (show n / 4 = b by omega)
    have e2 : tok ⟨n, h⟩ (⟨s % 512, Nat.mod_lt _ (by decide)⟩ : Fin 512) = s := Fin.ext (show 512 * (n % 4) + s % 512 = s by omega)
    rw [e1, e2]
  refine (dif_pos (lt_of_eq_of_lt hpt hn)).trans ?_
  exact (congrArg (fun o => o.1 (loc10Of (ix3 b s d))) (outsAt0_sweep m c _ (lt_of_eq_of_lt hpt hn)).symm).trans (key _ _ hpt)

include hp in
theorem G11_apply (b : Fin 8) (h : Fin 4) (a : Fin 256) (v : Fin 512) :
    G11 m c (ix4 b h a v) = (stAt (arg0 m c) b h 2048 a v : EReal) := by
  have hn : 4 * (b : ℕ) + 3 < cfg0.N := lt_of_lt_of_eq (by omega) (show 32 = cfg0.N from N_0.symm)
  have hpt : pt11Of (ix4 b h a v) = 4 * (b : ℕ) + 3 := by
    unfold pt11Of run11Of
    change 4 * (1 * ((b : ℕ) / 1 - 0) + 1 * ((h : ℕ) / 4 - 0) + 1 * ((a : ℕ) / 256 - 0) + 1 * ((v : ℕ) / 512 - 0)) + 3 = _
    omega
  have hl : loc11Of (ix4 b h a v) = ix4 0 h a v := by
    funext d
    fin_cases d
    · exact Subsingleton.elim (α := Fin 1) _ _
    · exact Fin.ext (Nat.mod_eq_of_lt h.isLt)
    · exact Fin.ext (Nat.mod_eq_of_lt a.isLt)
    · exact Fin.ext (Nat.mod_eq_of_lt v.isLt)
  have key : ∀ (n : ℕ) (hh : n < cfg0.N), n = 4 * (b : ℕ) + 3 → (outsAt0 m c n hh).2.1 (loc11Of (ix4 b h a v))
      = (stAt (arg0 m c) b h 2048 a v : EReal) := by
    rintro n hh e
    rw [hl, (inv m c hp n hh).state]
    have e1 : row ⟨n, hh⟩ = b := Fin.ext (show n / 4 = b by omega)
    have e2 : 512 * ((⟨n, hh⟩ : Fin cfg0.N).val % 4) + 512 = 2048 := show 512 * (n % 4) + 512 = 2048 by omega
    rw [e1, e2]
  refine (dif_pos (lt_of_eq_of_lt hpt hn)).trans ?_
  exact (congrArg (fun o => o.2.1 (loc11Of (ix4 b h a v))) (outsAt0_sweep m c _ (lt_of_eq_of_lt hpt hn)).symm).trans (key _ _ hpt)

include hp in
theorem G12_apply (b : Fin 32) (r : Fin 4) (h : Fin 4) (v : Fin 512) :
    G12 m c (ix3 b r ⟨512 * h + v, by omega⟩) = sOgAt (arg5 m c) (arg3 m c) (arg6 m c) b r h v := by
  have hn : (b : ℕ) < cfg0.N := lt_of_lt_of_eq b.isLt (show 32 = cfg0.N from N_0.symm)
  have hpt : pt12Of (ix3 b r ⟨512 * h + v, by omega⟩) = (b : ℕ) := by
    change 1 * ((b : ℕ) / 1 - 0) + 1 * ((r : ℕ) / 4 - 0) + 1 * ((512 * (h : ℕ) + v) / 2048 - 0) = _
    omega
  have hl : loc12Of (ix3 b r ⟨512 * h + v, by omega⟩) = ix3 0 r ⟨512 * h + v, by omega⟩ := by
    funext d
    fin_cases d
    · exact Subsingleton.elim (α := Fin 1) _ _
    · exact Fin.ext (Nat.mod_eq_of_lt r.isLt)
    · exact Fin.ext (Nat.mod_eq_of_lt (show 512 * (h : ℕ) + v < 2048 by omega))
  have key : ∀ (n : ℕ) (hh : n < cfg0.N), n = (b : ℕ) → (outsAt0 m c n hh).2.2.1 (loc12Of (ix3 b r ⟨512 * h + v, by omega⟩))
      = sOgAt (arg5 m c) (arg3 m c) (arg6 m c) b r h v := by
    rintro n hh e
    rw [hl, (inv m c hp n hh).og]
    exact congrArg (fun z => sOgAt (arg5 m c) (arg3 m c) (arg6 m c) z r h v) (Fin.ext e)
  refine (dif_pos (lt_of_eq_of_lt hpt hn)).trans ?_
  exact (congrArg (fun o => o.2.2.1 (loc12Of (ix3 b r ⟨512 * h + v, by omega⟩))) (outsAt0_sweep m c _ (lt_of_eq_of_lt hpt hn)).symm).trans (key _ _ hpt)

include hp in
theorem G13_apply (b : Fin 32) (h : Fin 4) (a : Fin 256) (v : Fin 512) :
    G13 m c (ix4 b h a v) = sStAt (arg5 m c) (arg6 m c) b h a v := by
  have hn : (b : ℕ) < cfg0.N := lt_of_lt_of_eq b.isLt (show 32 = cfg0.N from N_0.symm)
  have hpt : pt13Of (ix4 b h a v) = (b : ℕ) := by
    change 1 * ((b : ℕ) / 1 - 0) + 1 * ((h : ℕ) / 4 - 0) + 1 * ((a : ℕ) / 256 - 0) + 1 * ((v : ℕ) / 512 - 0) = _
    omega
  have hl : loc13Of (ix4 b h a v) = ix4 0 h a v := by
    funext d
    fin_cases d
    · exact Subsingleton.elim (α := Fin 1) _ _
    · exact Fin.ext (Nat.mod_eq_of_lt h.isLt)
    · exact Fin.ext (Nat.mod_eq_of_lt a.isLt)
    · exact Fin.ext (Nat.mod_eq_of_lt v.isLt)
  have key : ∀ (n : ℕ) (hh : n < cfg0.N), n = (b : ℕ) → (outsAt0 m c n hh).2.2.2.1 (loc13Of (ix4 b h a v))
      = sStAt (arg5 m c) (arg6 m c) b h a v := by
    rintro n hh e
    rw [hl, (inv m c hp n hh).s]
    exact congrArg (fun z => sStAt (arg5 m c) (arg6 m c) z h a v) (Fin.ext e)
  refine (dif_pos (lt_of_eq_of_lt hpt hn)).trans ?_
  exact (congrArg (fun o => o.2.2.2.1 (loc13Of (ix4 b h a v))) (outsAt0_sweep m c _ (lt_of_eq_of_lt hpt hn)).symm).trans (key _ _ hpt)

end Cert.KernelIdeal.Ret

end
-- ==== Proof.Ret.RefDefs.lean ====
/- The reference's arrays, named, and its results written over them. -/
module

public import proofs.«01_k».proof.Proof.Gen.ReferenceIdeal.Run

@[expose] public section

set_option maxRecDepth 16384

noncomputable section

namespace Cert.ReferenceIdeal.Ret

open Idealize.ShloMosaic Idealize.ShloMosaic.TcCoe Idealize.SL.Sem Cert.ReferenceIdeal Cert.ReferenceIdeal.Gen Cert.ReferenceIdeal.Value Idealize.ShloMosaic.StableHlo

variable {F : FTy → Type} [FloatOps F]

/-- The logarithm of each head's decay. -/
def lgV : Vec F S4 .f32 :=
  Host.log1p (Host.negf (Host.powf (broadcastInDim S4 ![] bcast_S_S4 (constant S_ .f32 0x40000000#32))
    (subf (broadcastInDim S4 ![] bcast_S_S4 (constant S_ .f32 0xC0A00000#32)) (sitofp .f32 (iotaInDim S4 32 0)))))

/-! ## The sample -/

/-- The decays between the sample's tokens. -/
def matS : Vec F S4x4x4 .f32 :=
  select (broadcastInDim S4x4x4 ![1, 2] bcast_S4x4_S4x4x4_1_2 (cmpi .sge
      (broadcastInDim S4x4 ![0, 1] bcast_S4x1_S4x4_0_1 (broadcastInDim S4x1 ![0] bcast_S4_S4x1_0 (iotaInDim S4 32 0)))
      (broadcastInDim S4x4 ![0, 1] bcast_S1x4_S4x4_0_1 (broadcastInDim S1x4 ![1] bcast_S4_S1x4_1 (iotaInDim S4 32 0)))))
    (Host.exp (mulf (broadcastInDim S4x4x4 ![0, 1, 2] bcast_S4x1x1_S4x4x4_0_1_2 (broadcastInDim S4x1x1 ![0] bcast_S4_S4x1x1_0 lgV))
      (broadcastInDim S4x4x4 ![0, 1, 2] bcast_S1x4x4_S4x4x4_0_1_2 (broadcastInDim S1x4x4 ![1, 2] bcast_S4x4_S1x4x4_1_2 (maximumf
        (subf (broadcastInDim S4x4 ![0, 1] bcast_S4x1_S4x4_0_1 (broadcastInDim S4x1 ![0] bcast_S4_S4x1_0 (sitofp .f32 (iotaInDim S4 32 0))))
          (broadcastInDim S4x4 ![0, 1] bcast_S1x4_S4x4_0_1 (broadcastInDim S1x4 ![1] bcast_S4_S1x4_1 (sitofp .f32 (iotaInDim S4 32 0)))))
        (broadcastInDim S4x4 ![] bcast_S_S4x4 (constant S_ .f32 0x00000000#32)))))))
    (broadcastInDim S4x4x4 ![] bcast_S_S4x4x4 (id (constant S_ .f32 0x00000000#32)))

/-- The decay from the state to each of the sample's tokens. -/
def qdS : Vec F S4x4x1 .f32 :=
  broadcastInDim S4x4x1 ![0, 1] bcast_S4x4_S4x4x1_0_1 (Host.exp (mulf
    (broadcastInDim S4x4 ![0, 1] bcast_S4x1_S4x4_0_1 (broadcastInDim S4x1 ![0] bcast_S4_S4x1_0 lgV))
    (broadcastInDim S4x4 ![0, 1] bcast_S1x4_S4x4_0_1 (broadcastInDim S1x4 ![1] bcast_S4_S1x4_1
      (addf (sitofp .f32 (iotaInDim S4 32 0)) (broadcastInDim S4 ![] bcast_S_S4 (constant S_ .f32 0x3F800000#32)))))))

/-- The decay from each of the sample's tokens to its end. -/
def kdS : Vec F S4x4x1 .f32 :=
  broadcastInDim S4x4x1 ![0, 1] bcast_S4x4_S4x4x1_0_1 (Host.exp (mulf
    (broadcastInDim S4x4 ![0, 1] bcast_S4x1_S4x4_0_1 (broadcastInDim S4x1 ![0] bcast_S4_S4x1_0 lgV))
    (broadcastInDim S4x4 ![0, 1] bcast_S1x4_S4x4_0_1 (broadcastInDim S1x4 ![1] bcast_S4_S1x4_1
      (subf (broadcastInDim S4 ![] bcast_S_S4 (constant S_ .f32 0x40400000#32)) (sitofp .f32 (iotaInDim S4 32 0)))))))

/-- The decay over the whole sample. -/
def cdS : Vec F S4x1x1 .f32 :=
  broadcastInDim S4x1x1 ![0] bcast_S4_S4x1x1_0 (Host.exp (mulf lgV (broadcastInDim S4 ![] bcast_S_S4 (constant S_ .f32 0x40800000#32))))

/-- The sample's queries. -/
def qS (p : Vec F S32x4x6144 .f32) : Vec F S32x4x4x256 .f32 :=
  transpose S32x4x4x256 [0, 2, 1, 3] (shapeCast S32x4x4x256 (extractStridedSlice S32x4x1024 ![0, 0, 0] p slices_S32x4x6144_S32x4x1024_0_0_0)
    shapeCasts_S32x4x1024_S32x4x4x256) transposes_S32x4x4x256_S32x4x4x256_0_2_1_3

/-- The sample's scaled keys. -/
def kS (p : Vec F S32x4x6144 .f32) : Vec F S32x4x4x256 .f32 :=
  transpose S32x4x4x256 [0, 2, 1, 3] (shapeCast S32x4x4x256 (mulf (extractStridedSlice S32x4x1024 ![0, 0, 1024] p slices_S32x4x6144_S32x4x1024_0_0_1024)
    (broadcastInDim S32x4x1024 ![] bcast_S_S32x4x1024 (constant S_ .f32 0x3D800000#32))) shapeCasts_S32x4x1024_S32x4x4x256) transposes_S32x4x4x256_S32x4x4x256_0_2_1_3

/-- The sample's values. -/
def vS (p : Vec F S32x4x6144 .f32) : Vec F S32x4x4x512 .f32 :=
  transpose S32x4x4x512 [0, 2, 1, 3] (shapeCast S32x4x4x512 (extractStridedSlice S32x4x2048 ![0, 0, 2048] p slices_S32x4x6144_S32x4x2048_0_0_2048)
    shapeCasts_S32x4x2048_S32x4x4x512) transposes_S32x4x4x512_S32x4x4x512_0_2_1_3

/-- The sample's state at its end. -/
def stS (p : Vec F S32x4x6144 .f32) (s : Vec F S32x4x256x512 .f32) : Vec F S32x4x256x512 .f32 :=
  addf (mulf (broadcastInDim S32x4x256x512 ![0, 1, 2, 3] bcast_S1x4x1x1_S32x4x256x512_0_1_2_3 (broadcastInDim S1x4x1x1 ![1, 2, 3] bcast_S4x1x1_S1x4x1x1_1_2_3 cdS)) s)
    (Host.dotGeneral dot_S32x4x4x256_S32x4x4x512_S32x4x256x512_2_2_3_3_01_01 none (mulf (kS p)
      (broadcastInDim S32x4x4x256 ![0, 1, 2, 3] bcast_S1x4x4x1_S32x4x4x256_0_1_2_3 (broadcastInDim S1x4x4x1 ![1, 2, 3] bcast_S4x4x1_S1x4x4x1_1_2_3 kdS))) (vS p))

/-- The sample's outputs before their normalization. -/
def oS (p : Vec F S32x4x6144 .f32) (s : Vec F S32x4x256x512 .f32) : Vec F S32x4x4x512 .f32 :=
  addf (Host.dotGeneral dot_S32x4x4x4_S32x4x4x512_S32x4x4x512_3_2_2_3_01_01 none
      (mulf (Host.dotGeneral dot_S32x4x4x256_S32x4x4x256_S32x4x4x4_3_3_2_2_01_01 none (qS p) (kS p))
        (broadcastInDim S32x4x4x4 ![0, 1, 2, 3] bcast_S1x4x4x4_S32x4x4x4_0_1_2_3 (broadcastInDim S1x4x4x4 ![1, 2, 3] bcast_S4x4x4_S1x4x4x4_1_2_3 matS))) (vS p))
    (Host.dotGeneral dot_S32x4x4x256_S32x4x256x512_S32x4x4x512_3_2_2_3_01_01 none (mulf (qS p)
      (broadcastInDim S32x4x4x256 ![0, 1, 2, 3] bcast_S1x4x4x1_S32x4x4x256_0_1_2_3 (broadcastInDim S1x4x4x1 ![1, 2, 3] bcast_S4x4x1_S1x4x4x1_1_2_3 qdS))) s)

/-- An output less its mean over the head. -/
def cenS (o : Vec F S32x4x4x512 .f32) : Vec F S32x4x4x512 .f32 :=
  subf o (broadcastInDim S32x4x4x512 ![0, 1, 2, 3] bcast_S32x4x4x1_S32x4x4x512_0_1_2_3 (Host.divf
    (broadcastInDim S32x4x4x1 ![0, 1, 2] bcast_S32x4x4_S32x4x4x1_0_1_2 (Host.reduceAdd o (constant S_ .f32 0x00000000#32) reducesTo_S32x4x4x512_S32x4x4_d3 h_S_))
    (broadcastInDim S32x4x4x1 ![] bcast_S_S32x4x4x1 (constant S_ .f32 0x44000000#32))))

/-- The head normalization. -/
def lnS (o : Vec F S32x4x4x512 .f32) (gn : Vec F S4x512 .f32) : Vec F S32x4x4x512 .f32 :=
  mulf (mulf (cenS o) (broadcastInDim S32x4x4x512 ![0, 1, 2, 3] bcast_S32x4x4x1_S32x4x4x512_0_1_2_3 (Host.rsqrt (addf (Host.divf
      (broadcastInDim S32x4x4x1 ![0, 1, 2] bcast_S32x4x4_S32x4x4x1_0_1_2 (Host.reduceAdd (mulf (cenS o) (cenS o)) (constant S_ .f32 0x00000000#32) reducesTo_S32x4x4x512_S32x4x4_d3 h_S_))
      (broadcastInDim S32x4x4x1 ![] bcast_S_S32x4x4x1 (constant S_ .f32 0x44000000#32))) (broadcastInDim S32x4x4x1 ![] bcast_S_S32x4x4x1 (constant S_ .f32 0x358637BD#32))))))
    (broadcastInDim S32x4x4x512 ![0, 1, 2, 3] bcast_S1x1x4x512_S32x4x4x512_0_1_2_3 (broadcastInDim S1x1x4x512 ![2, 3] bcast_S4x512_S1x1x4x512_2_3 gn))

/-- The gate applied to the normalized outputs. -/
def gateS (o : Vec F S32x4x4x512 .f32) (gn : Vec F S4x512 .f32) (p : Vec F S32x4x6144 .f32) : Vec F S32x4x2048 .f32 :=
  mulf (shapeCast S32x4x2048 (lnS o gn) shapeCasts_S32x4x4x512_S32x4x2048)
    (mulf (extractStridedSlice S32x4x2048 ![0, 0, 4096] p slices_S32x4x6144_S32x4x2048_0_0_4096)
      (Host.divf (broadcastInDim S32x4x2048 ![] bcast_S_S32x4x2048 (constant S_ .f32 0x3F800000#32))
        (addf (broadcastInDim S32x4x2048 ![] bcast_S_S32x4x2048 (constant S_ .f32 0x3F800000#32))
          (Host.exp (Host.negf (extractStridedSlice S32x4x2048 ![0, 0, 4096] p slices_S32x4x6144_S32x4x2048_0_0_4096))))))

theorem out_183 (V0 : Valuation τ sig (Elt F)) : out_main_v183 V0 = stS (V0 (Proc.devRef .tc main_arg5)) (V0 (Proc.devRef .tc main_arg6)) := rfl

theorem out_208 (V0 : Valuation τ sig (Elt F)) : out_main_v208 V0
    = gateS (transpose S32x4x4x512 [0, 2, 1, 3] (oS (V0 (Proc.devRef .tc main_arg5)) (V0 (Proc.devRef .tc main_arg6))) transposes_S32x4x4x512_S32x4x4x512_0_2_1_3)
      (V0 (Proc.devRef .tc main_arg3)) (V0 (Proc.devRef .tc main_arg5)) := rfl

/-! ## The prompt -/

/-- The decays between the tokens of a chunk. -/
def matP : Vec F S4x128x128 .f32 :=
  select (broadcastInDim S4x128x128 ![1, 2] bcast_S128x128_S4x128x128_1_2 (cmpi .sge
      (broadcastInDim S128x128 ![0, 1] bcast_S128x1_S128x128_0_1 (broadcastInDim S128x1 ![0] bcast_S128_S128x1_0 (iotaInDim S128 32 0)))
      (broadcastInDim S128x128 ![0, 1] bcast_S1x128_S128x128_0_1 (broadcastInDim S1x128 ![1] bcast_S128_S1x128_1 (iotaInDim S128 32 0)))))
    (Host.exp (mulf (broadcastInDim S4x128x128 ![0, 1, 2] bcast_S4x1x1_S4x128x128_0_1_2 (broadcastInDim S4x1x1 ![0] bcast_S4_S4x1x1_0 lgV))
      (broadcastInDim S4x128x128 ![0, 1, 2] bcast_S1x128x128_S4x128x128_0_1_2 (broadcastInDim S1x128x128 ![1, 2] bcast_S128x128_S1x128x128_1_2 (maximumf
        (subf (broadcastInDim S128x128 ![0, 1] bcast_S128x1_S128x128_0_1 (broadcastInDim S128x1 ![0] bcast_S128_S128x1_0 (sitofp .f32 (iotaInDim S128 32 0))))
          (broadcastInDim S128x128 ![0, 1] bcast_S1x128_S128x128_0_1 (broadcastInDim S1x128 ![1] bcast_S128_S1x128_1 (sitofp .f32 (iotaInDim S128 32 0)))))
        (broadcastInDim S128x128 ![] bcast_S_S128x128 (constant S_ .f32 0x00000000#32)))))))
    (broadcastInDim S4x128x128 ![] bcast_S_S4x128x128 (id (constant S_ .f32 0x00000000#32)))

/-- The decay from the state to each token of a chunk. -/
def qdP : Vec F S4x128x1 .f32 :=
  broadcastInDim S4x128x1 ![0, 1] bcast_S4x128_S4x128x1_0_1 (Host.exp (mulf
    (broadcastInDim S4x128 ![0, 1] bcast_S4x1_S4x128_0_1 (broadcastInDim S4x1 ![0] bcast_S4_S4x1_0 lgV))
    (broadcastInDim S4x128 ![0, 1] bcast_S1x128_S4x128_0_1 (broadcastInDim S1x128 ![1] bcast_S128_S1x128_1
      (addf (sitofp .f32 (iotaInDim S128 32 0)) (broadcastInDim S128 ![] bcast_S_S128 (constant S_ .f32 0x3F800000#32)))))))

/-- The decay from each token of a chunk to its end. -/
def kdP : Vec F S4x128x1 .f32 :=
  broadcastInDim S4x128x1 ![0, 1] bcast_S4x128_S4x128x1_0_1 (Host.exp (mulf
    (broadcastInDim S4x128 ![0, 1] bcast_S4x1_S4x128_0_1 (broadcastInDim S4x1 ![0] bcast_S4_S4x1_0 lgV))
    (broadcastInDim S4x128 ![0, 1] bcast_S1x128_S4x128_0_1 (broadcastInDim S1x128 ![1] bcast_S128_S1x128_1
      (subf (broadcastInDim S128 ![] bcast_S_S128 (constant S_ .f32 0x42FE0000#32)) (sitofp .f32 (iotaInDim S128 32 0)))))))

/-- The decay over a chunk. -/
def cdP : Vec F S4x1x1 .f32 :=
  broadcastInDim S4x1x1 ![0] bcast_S4_S4x1x1_0 (Host.exp (mulf lgV (broadcastInDim S4 ![] bcast_S_S4 (constant S_ .f32 0x43000000#32))))

/-- The prompt's queries, in chunks. -/
def qP (p : Vec F S8x2048x6144 .bf16) : Vec F S16x8x4x128x256 .f32 :=
  transpose S16x8x4x128x256 [2, 0, 1, 3, 4] (shapeCast S8x4x16x128x256 (transpose S8x4x2048x256 [0, 2, 1, 3]
    (shapeCast S8x2048x4x256 (extractStridedSlice S8x2048x1024 ![0, 0, 0] (extf .f32 p bitsLt_bf16_f32) slices_S8x2048x6144_S8x2048x1024_0_0_0)
      shapeCasts_S8x2048x1024_S8x2048x4x256) transposes_S8x2048x4x256_S8x4x2048x256_0_2_1_3) shapeCasts_S8x4x2048x256_S8x4x16x128x256)
    transposes_S8x4x16x128x256_S16x8x4x128x256_2_0_1_3_4

/-- The prompt's scaled keys, in chunks. -/
def kP (p : Vec F S8x2048x6144 .bf16) : Vec F S16x8x4x128x256 .f32 :=
  transpose S16x8x4x128x256 [2, 0, 1, 3, 4] (shapeCast S8x4x16x128x256 (transpose S8x4x2048x256 [0, 2, 1, 3]
    (shapeCast S8x2048x4x256 (mulf (extractStridedSlice S8x2048x1024 ![0, 0, 1024] (extf .f32 p bitsLt_bf16_f32) slices_S8x2048x6144_S8x2048x1024_0_0_1024)
      (broadcastInDim S8x2048x1024 ![] bcast_S_S8x2048x1024 (constant S_ .f32 0x3D800000#32)))
      shapeCasts_S8x2048x1024_S8x2048x4x256) transposes_S8x2048x4x256_S8x4x2048x256_0_2_1_3) shapeCasts_S8x4x2048x256_S8x4x16x128x256)
    transposes_S8x4x16x128x256_S16x8x4x128x256_2_0_1_3_4

/-- The prompt's values, in chunks. -/
def vP (p : Vec F S8x2048x6144 .bf16) : Vec F S16x8x4x128x512 .f32 :=
  transpose S16x8x4x128x512 [2, 0, 1, 3, 4] (shapeCast S8x4x16x128x512 (transpose S8x4x2048x512 [0, 2, 1, 3]
    (shapeCast S8x2048x4x512 (extractStridedSlice S8x2048x2048 ![0, 0, 2048] (extf .f32 p bitsLt_bf16_f32) slices_S8x2048x6144_S8x2048x2048_0_0_2048)
      shapeCasts_S8x2048x2048_S8x2048x4x512) transposes_S8x2048x4x512_S8x4x2048x512_0_2_1_3) shapeCasts_S8x4x2048x512_S8x4x16x128x512)
    transposes_S8x4x16x128x512_S16x8x4x128x512_2_0_1_3_4

/-- One chunk of queries, keys or values. -/
def cut256 (x : Vec F S16x8x4x128x256 .f32) (n : (⟨S_, .i32⟩ : BufTy).Contents (Elt F)) : Vec F S8x4x128x256 .f32 :=
  shapeCast S8x4x128x256 (Host.dynamicSlice S1x8x4x128x256 x (fun k => (((![n, constantI S_ 32 0#32, constantI S_ 32 0#32, constantI S_ 32 0#32, constantI S_ 32 0#32]
    : Fin 5 → (⟨S_, .i32⟩ : BufTy).Contents (Elt F))) k (Shape.Idx.first h_S_)).toInt) sliceFits_S16x8x4x128x256_S1x8x4x128x256) shapeCasts_S1x8x4x128x256_S8x4x128x256

/-- One chunk of values. -/
def cut512 (x : Vec F S16x8x4x128x512 .f32) (n : (⟨S_, .i32⟩ : BufTy).Contents (Elt F)) : Vec F S8x4x128x512 .f32 :=
  shapeCast S8x4x128x512 (Host.dynamicSlice S1x8x4x128x512 x (fun k => (((![n, constantI S_ 32 0#32, constantI S_ 32 0#32, constantI S_ 32 0#32, constantI S_ 32 0#32]
    : Fin 5 → (⟨S_, .i32⟩ : BufTy).Contents (Elt F))) k (Shape.Idx.first h_S_)).toInt) sliceFits_S16x8x4x128x512_S1x8x4x128x512) shapeCasts_S1x8x4x128x512_S8x4x128x512

/-- The state after a chunk. -/
def stP (cd : Vec F S4x1x1 .f32) (kd : Vec F S4x128x1 .f32) (k : Vec F S8x4x128x256 .f32) (v : Vec F S8x4x128x512 .f32) (s : Vec F S8x4x256x512 .f32) :
    Vec F S8x4x256x512 .f32 :=
  addf (mulf (broadcastInDim S8x4x256x512 ![0, 1, 2, 3] bcast_S1x4x1x1_S8x4x256x512_0_1_2_3 (broadcastInDim S1x4x1x1 ![1, 2, 3] bcast_S4x1x1_S1x4x1x1_1_2_3 cd)) s)
    (Host.dotGeneral dot_S8x4x128x256_S8x4x128x512_S8x4x256x512_2_2_3_3_01_01 none (mulf k
      (broadcastInDim S8x4x128x256 ![0, 1, 2, 3] bcast_S1x4x128x1_S8x4x128x256_0_1_2_3 (broadcastInDim S1x4x128x1 ![1, 2, 3] bcast_S4x128x1_S1x4x128x1_1_2_3 kd))) v)

/-- A chunk's outputs. -/
def oP (mat : Vec F S4x128x128 .f32) (qd : Vec F S4x128x1 .f32) (q k : Vec F S8x4x128x256 .f32) (v : Vec F S8x4x128x512 .f32) (s : Vec F S8x4x256x512 .f32) :
    Vec F S8x4x128x512 .f32 :=
  addf (Host.dotGeneral dot_S8x4x128x128_S8x4x128x512_S8x4x128x512_3_2_2_3_01_01 none
      (mulf (Host.dotGeneral dot_S8x4x128x256_S8x4x128x256_S8x4x128x128_3_3_2_2_01_01 none q k)
        (broadcastInDim S8x4x128x128 ![0, 1, 2, 3] bcast_S1x4x128x128_S8x4x128x128_0_1_2_3 (broadcastInDim S1x4x128x128 ![1, 2, 3] bcast_S4x128x128_S1x4x128x128_1_2_3 mat))) v)
    (Host.dotGeneral dot_S8x4x128x256_S8x4x256x512_S8x4x128x512_3_2_2_3_01_01 none (mulf q
      (broadcastInDim S8x4x128x256 ![0, 1, 2, 3] bcast_S1x4x128x1_S8x4x128x256_0_1_2_3 (broadcastInDim S1x4x128x1 ![1, 2, 3] bcast_S4x128x1_S1x4x128x1_1_2_3 qd))) s)

/-- The outputs with one chunk written. -/
def putP (os : Vec F S16x8x4x128x512 .f32) (o : Vec F S8x4x128x512 .f32) (n : (⟨S_, .i32⟩ : BufTy).Contents (Elt F)) : Vec F S16x8x4x128x512 .f32 :=
  Host.dynamicUpdateSlice os (broadcastInDim S1x8x4x128x512 ![1, 2, 3, 4] bcast_S8x4x128x512_S1x8x4x128x512_1_2_3_4 o)
    (fun k => (((![n, constantI S_ 32 0#32, constantI S_ 32 0#32, constantI S_ 32 0#32, constantI S_ 32 0#32]
      : Fin 5 → (⟨S_, .i32⟩ : BufTy).Contents (Elt F))) k (Shape.Idx.first h_S_)).toInt) updateFits_S16x8x4x128x512_S1x8x4x128x512

/-- An output less its mean over the head. -/
def cenP (o : Vec F S8x2048x4x512 .f32) : Vec F S8x2048x4x512 .f32 :=
  subf o (broadcastInDim S8x2048x4x512 ![0, 1, 2, 3] bcast_S8x2048x4x1_S8x2048x4x512_0_1_2_3 (Host.divf
    (broadcastInDim S8x2048x4x1 ![0, 1, 2] bcast_S8x2048x4_S8x2048x4x1_0_1_2 (Host.reduceAdd o (constant S_ .f32 0x00000000#32) reducesTo_S8x2048x4x512_S8x2048x4_d3 h_S_))
    (broadcastInDim S8x2048x4x1 ![] bcast_S_S8x2048x4x1 (constant S_ .f32 0x44000000#32))))

/-- The head normalization. -/
def lnP (o : Vec F S8x2048x4x512 .f32) (gn : Vec F S4x512 .f32) : Vec F S8x2048x4x512 .f32 :=
  mulf (mulf (cenP o) (broadcastInDim S8x2048x4x512 ![0, 1, 2, 3] bcast_S8x2048x4x1_S8x2048x4x512_0_1_2_3 (Host.rsqrt (addf (Host.divf
      (broadcastInDim S8x2048x4x1 ![0, 1, 2] bcast_S8x2048x4_S8x2048x4x1_0_1_2 (Host.reduceAdd (mulf (cenP o) (cenP o)) (constant S_ .f32 0x00000000#32) reducesTo_S8x2048x4x512_S8x2048x4_d3 h_S_))
      (broadcastInDim S8x2048x4x1 ![] bcast_S_S8x2048x4x1 (constant S_ .f32 0x44000000#32))) (broadcastInDim S8x2048x4x1 ![] bcast_S_S8x2048x4x1 (constant S_ .f32 0x358637BD#32))))))
    (broadcastInDim S8x2048x4x512 ![0, 1, 2, 3] bcast_S1x1x4x512_S8x2048x4x512_0_1_2_3 (broadcastInDim S1x1x4x512 ![2, 3] bcast_S4x512_S1x1x4x512_2_3 gn))

/-- The gate applied to the normalized outputs. -/
def gateP (o : Vec F S8x2048x4x512 .f32) (gn : Vec F S4x512 .f32) (p : Vec F S8x2048x6144 .bf16) : Vec F S8x2048x2048 .f32 :=
  mulf (shapeCast S8x2048x2048 (lnP o gn) shapeCasts_S8x2048x4x512_S8x2048x2048)
    (mulf (extf .f32 (extractStridedSlice S8x2048x2048 ![0, 0, 4096] p slices_S8x2048x6144_S8x2048x2048_0_0_4096) bitsLt_bf16_f32)
      (Host.divf (broadcastInDim S8x2048x2048 ![] bcast_S_S8x2048x2048 (constant S_ .f32 0x3F800000#32))
        (addf (broadcastInDim S8x2048x2048 ![] bcast_S_S8x2048x2048 (constant S_ .f32 0x3F800000#32))
          (Host.exp (Host.negf (extf .f32 (extractStridedSlice S8x2048x2048 ![0, 0, 4096] p slices_S8x2048x6144_S8x2048x2048_0_0_4096) bitsLt_bf16_f32))))))

/-- The outputs of all chunks, a token a row. -/
def rowsP (os : Vec F S16x8x4x128x512 .f32) : Vec F S8x2048x4x512 .f32 :=
  transpose S8x2048x4x512 [0, 2, 1, 3] (shapeCast S8x4x2048x512 (transpose S8x4x16x128x512 [1, 2, 0, 3, 4] os transposes_S16x8x4x128x512_S8x4x16x128x512_1_2_0_3_4)
    shapeCasts_S8x4x16x128x512_S8x4x2048x512) transposes_S8x4x2048x512_S8x2048x4x512_0_2_1_3

/-- The first result. -/
def yP (og : Vec F S8x2048x2048 .f32) (x : Vec F S8x2048x1024 .f32) (gate : Vec F S8x1x1024 .f32) (w : Vec F S2048x1024 .f32) : Vec F S8x2048x1024 .f32 :=
  addf x (mulf (broadcastInDim S8x2048x1024 ![0, 1, 2] bcast_S8x1x1024_S8x2048x1024_0_1_2 gate)
    (Host.dotGeneral dot_S8x2048x2048_S2048x1024_S8x2048x1024_2_0_01_1_n_n none og w))

theorem out_103 (V0 : Valuation τ sig (Elt F)) : out_main_v103 V0
    = yP (gateP (rowsP (V0 (Proc.devRef .tc main_v72_9))) (V0 (Proc.devRef .tc main_arg3)) (V0 (Proc.devRef .tc main_arg0)))
      (V0 (Proc.devRef .tc main_arg1)) (V0 (Proc.devRef .tc main_arg2)) (V0 (Proc.devRef .tc main_arg4)) := rfl

theorem step_8 (V0 : Valuation τ sig (Elt F)) : step_main_v72_8 V0
    = stP (V0 (Proc.devRef .tc main_v72_5)) (V0 (Proc.devRef .tc main_v72_6)) (cut256 (V0 (Proc.devRef .tc main_v72_1)) (V0 (Proc.devRef .tc main_v72_7)))
      (cut512 (V0 (Proc.devRef .tc main_v72_2)) (V0 (Proc.devRef .tc main_v72_7))) (V0 (Proc.devRef .tc main_v72_8)) := rfl

theorem step_9 (V0 : Valuation τ sig (Elt F)) : step_main_v72_9 V0
    = putP (V0 (Proc.devRef .tc main_v72_9)) (oP (V0 (Proc.devRef .tc main_v72_3)) (V0 (Proc.devRef .tc main_v72_4))
      (cut256 (V0 (Proc.devRef .tc main_v72_0)) (V0 (Proc.devRef .tc main_v72_7))) (cut256 (V0 (Proc.devRef .tc main_v72_1)) (V0 (Proc.devRef .tc main_v72_7)))
      (cut512 (V0 (Proc.devRef .tc main_v72_2)) (V0 (Proc.devRef .tc main_v72_7))) (V0 (Proc.devRef .tc main_v72_8))) (V0 (Proc.devRef .tc main_v72_7)) := by
  unfold step_main_v72_9 putP oP res_main_while0b_v209 res_main_while0b_v210 res_main_while0b_v211 cut256 cut512
  rfl

theorem step_7 (V0 : Valuation τ sig (Elt F)) : step_main_v72_7 V0 = (addi (V0 (Proc.devRef .tc main_v72_7)) (constantI S_ 32 1#32) : IVec S_ 32) := rfl

variable (m : (l : Loc nD τ sig) → Buf (Elt F) l) (c : Dev nD)

theorem entry_0 : entryContents preI m c (Proc.devRef .tc main_v72_0) = qP (m ((c.tc : Thread nD τ).loc main_arg0)) := by
  simp only [entryContents, afterL_cons, afterL_nil]
  after_reads_simp
  rfl

theorem entry_1 : entryContents preI m c (Proc.devRef .tc main_v72_1) = kP (m ((c.tc : Thread nD τ).loc main_arg0)) := by
  simp only [entryContents, afterL_cons, afterL_nil]
  after_reads_simp
  rfl

theorem entry_2 : entryContents preI m c (Proc.devRef .tc main_v72_2) = vP (m ((c.tc : Thread nD τ).loc main_arg0)) := by
  simp only [entryContents, afterL_cons, afterL_nil]
  after_reads_simp
  rfl

theorem entry_3 : entryContents preI m c (Proc.devRef .tc main_v72_3) = matP := by
  simp only [entryContents, afterL_cons, afterL_nil]
  after_reads_simp
  rfl

theorem entry_4 : entryContents preI m c (Proc.devRef .tc main_v72_4) = qdP := by
  simp only [entryContents, afterL_cons, afterL_nil]
  after_reads_simp
  rfl

theorem entry_5 : entryContents preI m c (Proc.devRef .tc main_v72_5) = cdP := by
  simp only [entryContents, afterL_cons, afterL_nil]
  after_reads_simp
  rfl

theorem entry_6 : entryContents preI m c (Proc.devRef .tc main_v72_6) = kdP := by
  simp only [entryContents, afterL_cons, afterL_nil]
  after_reads_simp
  rfl

theorem entry_7 : entryContents preI m c (Proc.devRef .tc main_v72_7) = (constantI S_ 32 0#32) := by
  simp only [entryContents, afterL_cons, afterL_nil]
  after_reads_simp
  rfl

theorem entry_8 : entryContents preI m c (Proc.devRef .tc main_v72_8) = (broadcastInDim S8x4x256x512 ![] bcast_S_S8x4x256x512 (constant S_ .f32 0x00000000#32)) := by
  simp only [entryContents, afterL_cons, afterL_nil]
  after_reads_simp
  rfl

theorem entry_9 : entryContents preI m c (Proc.devRef .tc main_v72_9) = (broadcastInDim S16x8x4x128x512 ![] bcast_S_S16x8x4x128x512 (constant S_ .f32 0x00000000#32)) := by
  simp only [entryContents, afterL_cons, afterL_nil]
  after_reads_simp
  rfl

end Cert.ReferenceIdeal.Ret

end
-- ==== Proof.Ret.RefEntry.lean ====
/- The reference's arrays over the extended reals, entry by entry. -/
module

public import proofs.«01_k».proof.Proof.Ret.RefDefs
public import proofs.«01_k».proof.Proof.Ret.Target

@[expose] public section

set_option maxRecDepth 16384

noncomputable section

namespace Cert.Ret

open Idealize.ShloMosaic

/-- The causal mask on small words. -/
theorem mask (i j : ℕ) (hi : i < 2 ^ 30) (hj : j < 2 ^ 30) (x y : EReal) :
    Scalar.select (IntOp.cmpi .sge (BitVec.ofNat 32 i) (BitVec.ofNat 32 j)) x y = if j ≤ i then x else y := by
  have ei : (BitVec.ofNat 32 i).toInt = (i : ℤ) := by
    rw [BitVec.toInt_ofNat']
    exact Int.bmod_eq_of_le (by omega) (by omega)
  have ej : (BitVec.ofNat 32 j).toInt = (j : ℤ) := by
    rw [BitVec.toInt_ofNat']
    exact Int.bmod_eq_of_le (by omega) (by omega)
  have e : IntOp.cmpi .sge (BitVec.ofNat 32 i) (BitVec.ofNat 32 j) = BitVec.ofBool (decide (j ≤ i)) := by
    show BitVec.ofBool (BitVec.sle (BitVec.ofNat 32 j) (BitVec.ofNat 32 i)) = _
    rw [BitVec.sle, ei, ej]
    congr 1
    simp
  rw [e]
  by_cases h : j ≤ i
  · rw [decide_eq_true h, if_pos h]; rfl
  · rw [decide_eq_false h, if_neg h]; rfl

/-- The decay between two tokens under the mask. -/
theorem masked (γ : ℝ) (hγ : 0 < γ) (i j : ℕ) :
    (if j ≤ i then Ideal.exp (((Real.log γ : ℝ) : EReal) * max (((i : ℝ) : EReal) - ((j : ℝ) : EReal)) 0) else 0)
      = ((if j ≤ i then γ ^ (i - j) else 0 : ℝ) : EReal) := by
  by_cases h : j ≤ i
  · rw [if_pos h, ← EReal.coe_sub]
    have e : (i : ℝ) - j = ((i - j : ℕ) : ℝ) := by push_cast [h]; rfl
    have e0 : (0 : EReal) ≤ (((i - j : ℕ) : ℝ) : EReal) := EReal.coe_nonneg.2 (Nat.cast_nonneg _)
    rw [e, max_eq_left e0, exp_log γ hγ, if_pos h]
  · rw [if_neg h, if_neg h]; rfl

/-- A head's decay from its index. -/
theorem gam_eq (h : Fin 4) : gam h = 1 + -((2 : ℝ) ^ ((-5 : ℝ) - ((h : ℕ) : ℝ))) := by
  have e : (-5 : ℝ) - ((h : ℕ) : ℝ) = ((-(5 + (h : ℕ) : ℕ) : ℤ) : ℝ) := by push_cast; ring
  rw [e, Real.rpow_intCast]
  fin_cases h
  · show (31 / 32 : ℝ) = 1 + -(2 : ℝ) ^ (-5 : ℤ); norm_num
  · show (63 / 64 : ℝ) = 1 + -(2 : ℝ) ^ (-6 : ℤ); norm_num
  · show (127 / 128 : ℝ) = 1 + -(2 : ℝ) ^ (-7 : ℤ); norm_num
  · show (255 / 256 : ℝ) = 1 + -(2 : ℝ) ^ (-8 : ℤ); norm_num

end Cert.Ret

namespace Cert.ReferenceIdeal.Ret

open Idealize.ShloMosaic Idealize.SL.Sem Cert.ReferenceIdeal Cert.ReferenceIdeal.Gen Cert.Ret Cert.KernelIdeal.Ret

theorem lgV_apply (h : Fin 4) : lgV (F := Ideal) (ix1 h) = ((Real.log (gam h) : ℝ) : EReal) := by
  pointwise [lgV]
  rw [w_two, w_neg_five, sitofp_ofNat h (by omega), ← EReal.coe_sub]
  have e : Ideal.pow ((2 : ℝ) : EReal) (((-5 - ((h : ℕ) : ℝ) : ℝ)) : EReal) = (((2 : ℝ) ^ ((-5 : ℝ) - ((h : ℕ) : ℝ)) : ℝ) : EReal) := rfl
  rw [e]
  show Ideal.log (1 + -(((2 : ℝ) ^ ((-5 : ℝ) - ((h : ℕ) : ℝ)) : ℝ) : EReal)) = _
  rw [← EReal.coe_neg, ← EReal.coe_one, ← EReal.coe_add, ← gam_eq]
  exact if_neg (not_le.2 (gam_pos h))

theorem matS_apply (h : Fin 4) (i j : Fin 4) : matS (F := Ideal) (ix3 h i j) = ((if (j : ℕ) ≤ i then gam h ^ ((i : ℕ) - j) else 0 : ℝ) : EReal) := by
  pointwise [matS]
  rw [mask i j (by omega) (by omega), lgV_apply, sitofp_ofNat i (by omega), sitofp_ofNat j (by omega), ← masked (gam h) (gam_pos h)]
  have e : (id (constant (F := Ideal) S_ .f32 0x00000000#32) ix0 : EReal) = 0 := Ideal.ofBits_zero .f32
  rw [e]

theorem qdS_apply (h : Fin 4) (i : Fin 4) : qdS (F := Ideal) (ix3 h i 0) = ((gam h ^ ((i : ℕ) + 1) : ℝ) : EReal) := by
  pointwise [qdS]
  rw [lgV_apply, sitofp_ofNat i (by omega), ← exp_log (gam h) (gam_pos h)]
  push_cast; rfl

theorem kdS_apply (h : Fin 4) (i : Fin 4) : kdS (F := Ideal) (ix3 h i 0) = ((gam h ^ (4 - 1 - (i : ℕ)) : ℝ) : EReal) := by
  pointwise [kdS]
  have e : ((4 - 1 - (i : ℕ) : ℕ) : ℝ) = 3 - (i : ℕ) := by
    have := i.isLt
    rw [Nat.cast_sub (by omega)]; norm_num
  rw [lgV_apply, sitofp_ofNat i (by omega), ← exp_log (gam h) (gam_pos h), e, w_three, ← EReal.coe_sub]

theorem cdS_apply (h : Fin 4) : cdS (F := Ideal) (ix3 h 0 0) = ((gam h ^ 4 : ℝ) : EReal) := by
  pointwise [cdS]
  rw [lgV_apply, w_four, ← exp_log (gam h) (gam_pos h)]
  norm_num

theorem matP_apply (h : Fin 4) (i j : Fin 128) : matP (F := Ideal) (ix3 h i j) = ((if (j : ℕ) ≤ i then gam h ^ ((i : ℕ) - j) else 0 : ℝ) : EReal) := by
  pointwise [matP]
  rw [mask i j (by omega) (by omega), lgV_apply, sitofp_ofNat i (by omega), sitofp_ofNat j (by omega), ← masked (gam h) (gam_pos h)]
  have e : (id (constant (F := Ideal) S_ .f32 0x00000000#32) ix0 : EReal) = 0 := Ideal.ofBits_zero .f32
  rw [e]

theorem qdP_apply (h : Fin 4) (i : Fin 128) : qdP (F := Ideal) (ix3 h i 0) = ((gam h ^ ((i : ℕ) + 1) : ℝ) : EReal) := by
  pointwise [qdP]
  rw [lgV_apply, sitofp_ofNat i (by omega), ← exp_log (gam h) (gam_pos h)]
  push_cast; rfl

theorem kdP_apply (h : Fin 4) (i : Fin 128) : kdP (F := Ideal) (ix3 h i 0) = ((gam h ^ (128 - 1 - (i : ℕ)) : ℝ) : EReal) := by
  pointwise [kdP]
  have e : ((128 - 1 - (i : ℕ) : ℕ) : ℝ) = 127 - (i : ℕ) := by
    have := i.isLt
    rw [Nat.cast_sub (by omega)]; norm_num
  rw [lgV_apply, sitofp_ofNat i (by omega), ← exp_log (gam h) (gam_pos h), e, w_127, ← EReal.coe_sub]

theorem cdP_apply (h : Fin 4) : cdP (F := Ideal) (ix3 h 0 0) = ((gam h ^ 128 : ℝ) : EReal) := by
  pointwise [cdP]
  rw [lgV_apply, w_128, ← exp_log (gam h) (gam_pos h)]
  norm_num

section sample

variable (p : Vec Ideal S32x4x6144 .f32) (s : Vec Ideal S32x4x256x512 .f32) (gn : Vec Ideal S4x512 .f32)

theorem qS_apply (b : Fin 32) (h i : Fin 4) (a : Fin 256) : qS p (ix4 b h i a) = p (ix3 b i ⟨256 * h + a, by omega⟩) := by
  pointwise [qS]
  exact congrArg (fun z => p (ix3 b i z)) (Fin.ext (show (h : ℕ) * 256 + a = 256 * h + a by omega))

theorem kS_apply (b : Fin 32) (h i : Fin 4) (a : Fin 256) : kS p (ix4 b h i a) = p (ix3 b i ⟨1024 + (256 * h + a), by omega⟩) * Ideal.ofBits .f32 0x3D800000#32 := by
  pointwise [kS]
  exact congrArg (fun z => p (ix3 b i z) * Ideal.ofBits .f32 0x3D800000#32) (Fin.ext (show 1024 + ((h : ℕ) * 256 + a) = 1024 + (256 * h + a) by omega))

theorem vS_apply (b : Fin 32) (h i : Fin 4) (v : Fin 512) : vS p (ix4 b h i v) = p (ix3 b i ⟨2048 + (512 * h + v), by omega⟩) := by
  pointwise [vS]
  exact congrArg (fun z => p (ix3 b i z)) (Fin.ext (show 2048 + ((h : ℕ) * 512 + v) = 2048 + (512 * h + v) by omega))

theorem stS_apply (b : Fin 32) (h : Fin 4) (a : Fin 256) (v : Fin 512) : stS p s (ix4 b h a v) = sStAt p s b h a v := by
  pointwise [stS]
  simp only [cdS_apply, kS_apply, kdS_apply, vS_apply]
  rfl

theorem oS_apply (b : Fin 32) (h r : Fin 4) (v : Fin 512) : oS p s (ix4 b h r v)
    = rowO (gam h) (fun j a => p (ix3 b j ⟨256 * h + a, by omega⟩)) (fun j a => p (ix3 b j ⟨1024 + (256 * h + a), by omega⟩) * Ideal.ofBits .f32 0x3D800000#32)
      (fun j => p (ix3 b j ⟨2048 + (512 * h + v), by omega⟩)) (fun a => s (ix4 b h a v)) r := by
  pointwise [oS]
  simp only [qS_apply, kS_apply, vS_apply, matS_apply, qdS_apply]
  rfl

theorem gateS_apply (o : Vec Ideal S32x4x4x512 .f32) (b : Fin 32) (r h : Fin 4) (v : Fin 512) : gateS o gn p (ix3 b r ⟨512 * h + v, by omega⟩)
    = gated (fun x => o (ix4 b r h x)) (gn (ix2 h v)) (p (ix3 b r ⟨4096 + (512 * h + v), by omega⟩)) v := by
  pointwise [gateS, lnS, cenS]
  rfl

theorem og_apply (b : Fin 32) (r h : Fin 4) (v : Fin 512) :
    gateS (transpose S32x4x4x512 [0, 2, 1, 3] (oS p s) transposes_S32x4x4x512_S32x4x4x512_0_2_1_3) gn p (ix3 b r ⟨512 * h + v, by omega⟩) = sOgAt p gn s b r h v := by
  rw [gateS_apply]
  pointwise
  simp only [oS_apply]
  rfl

end sample

section prompt

variable (p : Vec Ideal S8x2048x6144 .bf16)

theorem qP_apply (n : Fin 16) (b : Fin 8) (h : Fin 4) (i : Fin 128) (a : Fin 256) : qP p (ix5 n b h i a) = p (ix3 b ⟨128 * n + i, by omega⟩ ⟨256 * h + a, by omega⟩) := by
  pointwise [qP]
  exact congrArg₂ (fun y z => p (ix3 b y z)) (Fin.ext (show (n : ℕ) * 128 + i = 128 * n + i by omega)) (Fin.ext (show (h : ℕ) * 256 + a = 256 * h + a by omega))

theorem kP_apply (n : Fin 16) (b : Fin 8) (h : Fin 4) (i : Fin 128) (a : Fin 256) :
    kP p (ix5 n b h i a) = p (ix3 b ⟨128 * n + i, by omega⟩ ⟨1024 + 256 * h + a, by omega⟩) * Ideal.ofBits .f32 0x3D800000#32 := by
  pointwise [kP]
  exact congrArg₂ (fun y z => p (ix3 b y z) * Ideal.ofBits .f32 0x3D800000#32) (Fin.ext (show (n : ℕ) * 128 + i = 128 * n + i by omega))
    (Fin.ext (show 1024 + ((h : ℕ) * 256 + a) = 1024 + 256 * h + a by omega))

theorem vP_apply (n : Fin 16) (b : Fin 8) (h : Fin 4) (i : Fin 128) (v : Fin 512) : vP p (ix5 n b h i v) = p (ix3 b ⟨128 * n + i, by omega⟩ ⟨2048 + 512 * h + v, by omega⟩) := by
  pointwise [vP]
  exact congrArg₂ (fun y z => p (ix3 b y z)) (Fin.ext (show (n : ℕ) * 128 + i = 128 * n + i by omega))
    (Fin.ext (show 2048 + ((h : ℕ) * 512 + v) = 2048 + 512 * h + v by omega))

section cuts

variable {n : ℕ} (hn : n < 16) (w : (⟨S_, .i32⟩ : BufTy).Contents (Elt Ideal)) (hw : w = fun _ => BitVec.ofNat 32 n)

include hn hw in
theorem start_eq (k : Fin 5) : (((![w, constantI S_ 32 0#32, constantI S_ 32 0#32, constantI S_ 32 0#32, constantI S_ 32 0#32]
    : Fin 5 → (⟨S_, .i32⟩ : BufTy).Contents (Elt Ideal))) k (Shape.Idx.first h_S_)).toInt = ((![n, 0, 0, 0, 0] k : ℕ) : ℤ) := by
  fin_cases k
  · show (w (Shape.Idx.first h_S_)).toInt = (n : ℤ)
    rw [hw]
    show (BitVec.ofNat 32 n).toInt = (n : ℤ)
    rw [BitVec.toInt_ofNat']
    exact Int.bmod_eq_of_le (by omega) (by omega)
  · rfl
  · rfl
  · rfl
  · rfl

include hn hw in
theorem cut256_apply (x : Vec Ideal S16x8x4x128x256 .f32) (b : Fin 8) (h : Fin 4) (i : Fin 128) (a : Fin 256) :
    cut256 x w (ix4 b h i a) = x (ix5 ⟨n, hn⟩ b h i a) := by
  have c : ∀ k : Fin 5, Host.clampedStart S16x8x4x128x256 S1x8x4x128x256 rfl (fun k => (((![w, constantI S_ 32 0#32, constantI S_ 32 0#32, constantI S_ 32 0#32, constantI S_ 32 0#32]
      : Fin 5 → (⟨S_, .i32⟩ : BufTy).Contents (Elt Ideal))) k (Shape.Idx.first h_S_)).toInt) k = ![n, 0, 0, 0, 0] k := by
    intro k
    refine Host.clampedStart_of_le _ _ _ _ ?_ ?_
    · exact start_eq hn w hw k
    fin_cases k
    · exact (show n + 1 ≤ 16 by omega)
    · exact (show 0 + 8 ≤ 8 by omega)
    · exact (show 0 + 4 ≤ 4 by omega)
    · exact (show 0 + 128 ≤ 128 by omega)
    · exact (show 0 + 256 ≤ 256 by omega)
  pointwise [cut256]
  refine congrArg x ?_
  have c0 := c 0; have c1 := c 1; have c2 := c 2; have c3 := c 3; have c4 := c 4
  simp only [Matrix.cons_val] at c0 c1 c2 c3 c4
  simp only [c0, c1, c2, c3, c4, Nat.zero_add]

include hn hw in
theorem cut512_apply (x : Vec Ideal S16x8x4x128x512 .f32) (b : Fin 8) (h : Fin 4) (i : Fin 128) (a : Fin 512) :
    cut512 x w (ix4 b h i a) = x (ix5 ⟨n, hn⟩ b h i a) := by
  have c : ∀ k : Fin 5, Host.clampedStart S16x8x4x128x512 S1x8x4x128x512 rfl (fun k => (((![w, constantI S_ 32 0#32, constantI S_ 32 0#32, constantI S_ 32 0#32, constantI S_ 32 0#32]
      : Fin 5 → (⟨S_, .i32⟩ : BufTy).Contents (Elt Ideal))) k (Shape.Idx.first h_S_)).toInt) k = ![n, 0, 0, 0, 0] k := by
    intro k
    refine Host.clampedStart_of_le _ _ _ _ ?_ ?_
    · exact start_eq hn w hw k
    fin_cases k
    · exact (show n + 1 ≤ 16 by omega)
    · exact (show 0 + 8 ≤ 8 by omega)
    · exact (show 0 + 4 ≤ 4 by omega)
    · exact (show 0 + 128 ≤ 128 by omega)
    · exact (show 0 + 512 ≤ 512 by omega)
  pointwise [cut512]
  refine congrArg x ?_
  have c0 := c 0; have c1 := c 1; have c2 := c 2; have c3 := c 3; have c4 := c 4
  simp only [Matrix.cons_val] at c0 c1 c2 c3 c4
  simp only [c0, c1, c2, c3, c4, Nat.zero_add]

include hn hw in
theorem put_apply (x : Vec Ideal S16x8x4x128x512 .f32) (o : Vec Ideal S8x4x128x512 .f32) (k : Fin 16) (b : Fin 8) (h : Fin 4) (i : Fin 128) (a : Fin 512) :
    putP x o w (ix5 k b h i a) = if (k : ℕ) = n then o (ix4 b h i a) else x (ix5 k b h i a) := by
  have c : ∀ k : Fin 5, Host.clampedStart S16x8x4x128x512 S1x8x4x128x512 rfl (fun k => (((![w, constantI S_ 32 0#32, constantI S_ 32 0#32, constantI S_ 32 0#32, constantI S_ 32 0#32]
      : Fin 5 → (⟨S_, .i32⟩ : BufTy).Contents (Elt Ideal))) k (Shape.Idx.first h_S_)).toInt) k = ![n, 0, 0, 0, 0] k := by
    intro k
    refine Host.clampedStart_of_le _ _ _ _ ?_ ?_
    · exact start_eq hn w hw k
    fin_cases k
    · exact (show n + 1 ≤ 16 by omega)
    · exact (show 0 + 8 ≤ 8 by omega)
    · exact (show 0 + 4 ≤ 4 by omega)
    · exact (show 0 + 128 ≤ 128 by omega)
    · exact (show 0 + 512 ≤ 512 by omega)
  pointwise [putP]
  have c0 := c 0; have c1 := c 1; have c2 := c 2; have c3 := c 3; have c4 := c 4
  simp only [Matrix.cons_val] at c0 c1 c2 c3 c4
  simp only [c0, c1, c2, c3, c4, Nat.sub_zero, Nat.zero_le, and_true]
  by_cases e : (k : ℕ) = n
  · rw [if_pos e, dif_pos (by omega)]
  · rw [if_neg e, dif_neg (by omega)]

end cuts

theorem stP_apply (cd : Vec Ideal S4x1x1 .f32) (kd : Vec Ideal S4x128x1 .f32) (k : Vec Ideal S8x4x128x256 .f32) (v : Vec Ideal S8x4x128x512 .f32)
    (s : Vec Ideal S8x4x256x512 .f32) (b : Fin 8) (h : Fin 4) (a : Fin 256) (d : Fin 512) : stP cd kd k v s (ix4 b h a d)
    = cd (ix3 h 0 0) * s (ix4 b h a d) + ∑ x : Fin 128, k (ix4 b h x a) * kd (ix3 h x 0) * v (ix4 b h x d) := by
  pointwise [stP]

theorem oP_apply (mat : Vec Ideal S4x128x128 .f32) (qd : Vec Ideal S4x128x1 .f32) (q k : Vec Ideal S8x4x128x256 .f32) (v : Vec Ideal S8x4x128x512 .f32)
    (s : Vec Ideal S8x4x256x512 .f32) (b : Fin 8) (h : Fin 4) (i : Fin 128) (d : Fin 512) : oP mat qd q k v s (ix4 b h i d)
    = ∑ j : Fin 128, (∑ x : Fin 256, q (ix4 b h i x) * k (ix4 b h j x)) * mat (ix3 h i j) * v (ix4 b h j d)
      + ∑ x : Fin 256, q (ix4 b h i x) * qd (ix3 h i 0) * s (ix4 b h x d) := by
  pointwise [oP]

theorem gateP_apply (o : Vec Ideal S8x2048x4x512 .f32) (gn : Vec Ideal S4x512 .f32) (b : Fin 8) (r : Fin 2048) (h : Fin 4) (v : Fin 512) :
    gateP o gn p (ix3 b r ⟨512 * h + v, by omega⟩) = gated (fun x => o (ix4 b r h x)) (gn (ix2 h v)) (p (ix3 b r ⟨4096 + 512 * h + v, by omega⟩)) v := by
  pointwise [gateP, lnP, cenP]
  have e : (⟨4096 + (512 * h + v), by omega⟩ : Fin 6144) = ⟨4096 + 512 * h + v, by omega⟩ := Fin.ext (Nat.add_assoc _ _ _).symm
  rw [e]
  rfl

theorem rowsP_apply (os : Vec Ideal S16x8x4x128x512 .f32) (b : Fin 8) (r : Fin 2048) (h : Fin 4) (v : Fin 512) :
    rowsP os (ix4 b r h v) = os (ix5 ⟨r / 128, by omega⟩ b h ⟨r % 128, by omega⟩ v) := by
  pointwise [rowsP]

theorem yP_apply (og : Vec Ideal S8x2048x2048 .f32) (x : Vec Ideal S8x2048x1024 .f32) (gate : Vec Ideal S8x1x1024 .f32) (w : Vec Ideal S2048x1024 .f32)
    (b : Fin 8) (i : Fin 2048) (a : Fin 1024) : yP og x gate w (ix3 b i a) = x (ix3 b i a) + gate (ix3 b 0 a) * ∑ j : Fin 2048, og (ix3 b i j) * w (ix2 j a) := by
  pointwise [yP]

end prompt

end Cert.ReferenceIdeal.Ret

end
-- ==== Proof.Ret.RefLoop.lean ====
/- The reference's loop over the chunks of the prompt, and its four results entry by entry. -/
module

public import proofs.«01_k».proof.Proof.Ret.RefEntry

@[expose] public section

set_option maxRecDepth 16384

noncomputable section

namespace Cert.ReferenceIdeal.Ret

open Idealize.ShloMosaic Idealize.ShloMosaic.StableHlo Idealize.ShloMosaic.TcCoe Idealize.SL.Sem Cert.ReferenceIdeal Cert.ReferenceIdeal.Gen Cert.ReferenceIdeal.Value
open Cert.Ret Cert.KernelIdeal.Ret

variable (m : (l : Loc nD τ sig) → Buf (Elt Ideal) l) (c : Dev nD)

/-- The contents after `k` chunks. -/
abbrev At (k : ℕ) : Valuation τ sig (Elt Ideal) := STEP^[k] (entryContents preI m c)

abbrev A0 : PromptP := m ((c.tc : Thread nD τ).loc main_arg0)

theorem at_succ (k : ℕ) : At m c (k + 1) = STEP (At m c k) := Function.iterate_succ_apply' _ _ _

theorem at_0 : ∀ k, At m c k (Proc.devRef .tc main_v72_0) = qP (A0 m c)
  | 0 => entry_0 m c
  | k + 1 => by rw [at_succ, STEP_main_v72_0]; exact at_0 k

theorem at_1 : ∀ k, At m c k (Proc.devRef .tc main_v72_1) = kP (A0 m c)
  | 0 => entry_1 m c
  | k + 1 => by rw [at_succ, STEP_main_v72_1]; exact at_1 k

theorem at_2 : ∀ k, At m c k (Proc.devRef .tc main_v72_2) = vP (A0 m c)
  | 0 => entry_2 m c
  | k + 1 => by rw [at_succ, STEP_main_v72_2]; exact at_2 k

theorem at_3 : ∀ k, At m c k (Proc.devRef .tc main_v72_3) = matP
  | 0 => entry_3 m c
  | k + 1 => by rw [at_succ, STEP_main_v72_3]; exact at_3 k

theorem at_4 : ∀ k, At m c k (Proc.devRef .tc main_v72_4) = qdP
  | 0 => entry_4 m c
  | k + 1 => by rw [at_succ, STEP_main_v72_4]; exact at_4 k

theorem at_5 : ∀ k, At m c k (Proc.devRef .tc main_v72_5) = cdP
  | 0 => entry_5 m c
  | k + 1 => by rw [at_succ, STEP_main_v72_5]; exact at_5 k

theorem at_6 : ∀ k, At m c k (Proc.devRef .tc main_v72_6) = kdP
  | 0 => entry_6 m c
  | k + 1 => by rw [at_succ, STEP_main_v72_6]; exact at_6 k

theorem at_arg0 : At m c 16 (Proc.devRef .tc main_arg0) = m ((c.tc : Thread nD τ).loc main_arg0) := iter_main_arg0 m c 16

theorem at_arg1 : At m c 16 (Proc.devRef .tc main_arg1) = m ((c.tc : Thread nD τ).loc main_arg1) := iter_main_arg1 m c 16

theorem at_arg2 : At m c 16 (Proc.devRef .tc main_arg2) = m ((c.tc : Thread nD τ).loc main_arg2) := iter_main_arg2 m c 16

theorem at_arg3 : At m c 16 (Proc.devRef .tc main_arg3) = m ((c.tc : Thread nD τ).loc main_arg3) := iter_main_arg3 m c 16

theorem at_arg4 : At m c 16 (Proc.devRef .tc main_arg4) = m ((c.tc : Thread nD τ).loc main_arg4) := iter_main_arg4 m c 16

theorem at_arg5 : At m c 16 (Proc.devRef .tc main_arg5) = m ((c.tc : Thread nD τ).loc main_arg5) := iter_main_arg5 m c 16

theorem at_arg6 : At m c 16 (Proc.devRef .tc main_arg6) = m ((c.tc : Thread nD τ).loc main_arg6) := iter_main_arg6 m c 16

theorem at_7 : ∀ k, At m c k (Proc.devRef .tc main_v72_7) = fun _ => BitVec.ofNat 32 k
  | 0 => entry_7 m c
  | k + 1 => by
    rw [at_succ, STEP_main_v72_7, step_7, at_7 k]
    funext y
    show BitVec.ofNat 32 k + 1#32 = BitVec.ofNat 32 (k + 1)
    rw [BitVec.ofNat_add]

section tokens

variable {p : PromptP} (hp : Fin3 p) {n : ℕ} (hn : n < 16)

include hp in
theorem q_tok (b : Fin 8) (h : Fin 4) (i : Fin 128) (a : Fin 256) : qP (F := Ideal) p (ix5 ⟨n, hn⟩ b h i a) = ((qr p b h (128 * n + i) a : ℝ) : EReal) := by
  have ht : 128 * n + i < 2048 := by omega
  rw [qP_apply, qr, dif_pos ht]
  exact hp _ _ _ (by show 256 * (h : ℕ) + a < 4096; omega)

include hp in
theorem k_tok (b : Fin 8) (h : Fin 4) (i : Fin 128) (a : Fin 256) : kP (F := Ideal) p (ix5 ⟨n, hn⟩ b h i a) = ((kr p b h (128 * n + i) a : ℝ) : EReal) := by
  have ht : 128 * n + i < 2048 := by omega
  rw [kP_apply, kr, dif_pos ht, w_sixteenth, EReal.coe_mul]
  exact congrArg (· * _) (hp _ _ _ (by show 1024 + 256 * (h : ℕ) + a < 4096; omega))

include hp in
theorem v_tok (b : Fin 8) (h : Fin 4) (i : Fin 128) (a : Fin 512) : vP (F := Ideal) p (ix5 ⟨n, hn⟩ b h i a) = ((vr p b h (128 * n + i) a : ℝ) : EReal) := by
  have ht : 128 * n + i < 2048 := by omega
  rw [vP_apply, vr, dif_pos ht]
  exact hp _ _ _ (by show 2048 + 512 * (h : ℕ) + a < 4096; omega)

end tokens

variable (hp : Fin3 (A0 m c))

include hp in
/-- The carried state is the retention state at the chunk's first token. -/
theorem at_8 : ∀ k, k ≤ 16 → ∀ (b : Fin 8) (h : Fin 4) (a : Fin 256) (v : Fin 512),
    At m c k (Proc.devRef .tc main_v72_8) (ix4 b h a v) = ((stAt (A0 m c) b h (128 * k) a v : ℝ) : EReal)
  | 0, _, b, h, a, v => by
    refine (congrFun (entry_8 m c) (ix4 b h a v)).trans ?_
    rw [stAt, Nat.mul_zero, st_zero]
    exact Ideal.ofBits_zero .f32
  | k + 1, hk, b, h, a, v => by
    have hn : k < 16 := hk
    have ih := at_8 k (by omega)
    rw [at_succ, STEP_main_v72_8, step_8, stP_apply, ih, at_5, at_6, at_1, at_2]
    simp only [cut256_apply hn _ (at_7 m c k), cut512_apply hn _ (at_7 m c k), k_tok hp hn, v_tok hp hn, cdP_apply, kdP_apply]
    rw [show 128 * (k + 1) = 128 * k + 128 by omega]
    exact st_chunk_coe (gam h) (fun t => kr (A0 m c) b h t a) (fun t => vr (A0 m c) b h t v) (128 * k) 128

include hp in
/-- The outputs of the chunks already walked. -/
theorem at_9 : ∀ k, k ≤ 16 → ∀ (n : Fin 16) (b : Fin 8) (h : Fin 4) (i : Fin 128) (v : Fin 512), (n : ℕ) < k →
    At m c k (Proc.devRef .tc main_v72_9) (ix5 n b h i v)
      = ((out (gam h) (qr (A0 m c) b h) (kr (A0 m c) b h) (fun t => vr (A0 m c) b h t v) (128 * n + i) : ℝ) : EReal)
  | 0, _, _, _, _, _, _, hlt => absurd hlt (Nat.not_lt_zero _)
  | k + 1, hk, n, b, h, i, v, hlt => by
    have hn : k < 16 := hk
    have ih := at_9 k (by omega)
    rw [at_succ, STEP_main_v72_9, step_9, put_apply hn _ (at_7 m c k)]
    by_cases e : (n : ℕ) = k
    · rw [if_pos e, oP_apply, at_0, at_1, at_2, at_3, at_4]
      simp only [cut256_apply hn _ (at_7 m c k), cut512_apply hn _ (at_7 m c k), q_tok hp hn, k_tok hp hn, v_tok hp hn, matP_apply, qdP_apply, at_8 m c hp k (by omega)]
      rw [e]
      exact out_chunk_coe (gam h) (qr (A0 m c) b h) (kr (A0 m c) b h) (fun t => vr (A0 m c) b h t v) (128 * k) 128 i
    · rw [if_neg e]
      exact ih n b h i v (by omega)

/-- A column of the gated outputs. -/
theorem gate_col (p : Vec Ideal S8x2048x6144 .bf16) (gn : Vec Ideal S4x512 .f32) (o : Vec Ideal S8x2048x4x512 .f32) (b : Fin 8) (t : Fin 2048) (j : Fin 2048)
    (ho : ∀ x : Fin 512, o (ix4 b t ⟨j / 512, by omega⟩ x)
      = ((out (gam ⟨j / 512, by omega⟩) (qr p b ⟨j / 512, by omega⟩) (kr p b ⟨j / 512, by omega⟩) (fun t => vr p b ⟨j / 512, by omega⟩ t x) t : ℝ) : EReal)) :
    gateP o gn p (ix3 b t j) = ogAt p gn b t ⟨j / 512, by omega⟩ ⟨j % 512, by omega⟩ := by
  have ej : j = ⟨512 * (⟨(j : ℕ) / 512, by omega⟩ : Fin 4) + (⟨(j : ℕ) % 512, by omega⟩ : Fin 512), by dsimp only; omega⟩ := Fin.ext (by dsimp only; omega)
  refine (congrArg (fun z => gateP o gn p (ix3 b t z)) ej).trans ((gateP_apply p o gn b t ⟨(j : ℕ) / 512, by omega⟩ ⟨(j : ℕ) % 512, by omega⟩).trans ?_)
  exact gated_congr _ ho rfl rfl

include hp in
theorem rows_at (b : Fin 8) (t : Fin 2048) (h : Fin 4) (x : Fin 512) : rowsP (At m c 16 (Proc.devRef .tc main_v72_9)) (ix4 b t h x)
    = ((out (gam h) (qr (A0 m c) b h) (kr (A0 m c) b h) (fun t => vr (A0 m c) b h t x) t : ℝ) : EReal) := by
  have e := at_9 m c hp 16 le_rfl ⟨(t : ℕ) / 128, by omega⟩ b h ⟨(t : ℕ) % 128, by omega⟩ x (by dsimp only; omega)
  have et : 128 * ((⟨(t : ℕ) / 128, by omega⟩ : Fin 16) : ℕ) + ((⟨(t : ℕ) % 128, by omega⟩ : Fin 128) : ℕ) = t := Nat.div_add_mod _ _
  rw [et] at e
  exact (rowsP_apply _ b t h x).trans e

/-- The first result from its gated outputs. -/
theorem y_of (p : Vec Ideal S8x2048x6144 .bf16) (gn : Vec Ideal S4x512 .f32) (og : Vec Ideal S8x2048x2048 .f32) (x : Vec Ideal S8x2048x1024 .f32)
    (gate : Vec Ideal S8x1x1024 .f32) (w : Vec Ideal S2048x1024 .f32) (b : Fin 8) (t : Fin 2048) (d : Fin 1024)
    (ho : ∀ j : Fin 2048, og (ix3 b t j) = ogAt p gn b t ⟨j / 512, by omega⟩ ⟨j % 512, by omega⟩) :
    yP og x gate w (ix3 b t d) = yAt p x gate gn w b t d := by
  rw [yP_apply, yAt]
  simp only [ho]

abbrev RY : (⟨3, ![8, 2048, 1024]⟩ : Shape).Idx → EReal := out_main_v103 (At m c 16)
abbrev ROg : (⟨3, ![32, 4, 2048]⟩ : Shape).Idx → EReal := out_main_v208 (At m c 16)
abbrev RSt : (⟨4, ![32, 4, 256, 512]⟩ : Shape).Idx → EReal := out_main_v183 (At m c 16)
abbrev RPr : (⟨4, ![8, 4, 256, 512]⟩ : Shape).Idx → EReal := At m c 16 (Proc.devRef .tc main_v72_8)

include hp in
theorem y_apply (b : Fin 8) (t : Fin 2048) (d : Fin 1024) : RY m c (ix3 b t d)
    = yAt (A0 m c) (m ((c.tc : Thread nD τ).loc main_arg1)) (m ((c.tc : Thread nD τ).loc main_arg2)) (m ((c.tc : Thread nD τ).loc main_arg3))
      (m ((c.tc : Thread nD τ).loc main_arg4)) b t d := by
  have e := congrFun (out_103 (At m c 16)) (ix3 b t d)
  refine e.trans ?_
  rw [at_arg0, at_arg1, at_arg2, at_arg3, at_arg4]
  exact y_of (A0 m c) _ _ _ _ _ b t d fun j => gate_col (A0 m c) _ _ b t j fun x => rows_at m c hp b t _ x

include hp in
theorem pr_apply (b : Fin 8) (h : Fin 4) (a : Fin 256) (v : Fin 512) : RPr m c (ix4 b h a v) = ((stAt (A0 m c) b h 2048 a v : ℝ) : EReal) :=
  at_8 m c hp 16 le_rfl b h a v

theorem ost_apply (b : Fin 32) (h : Fin 4) (a : Fin 256) (v : Fin 512) : RSt m c (ix4 b h a v)
    = sStAt (m ((c.tc : Thread nD τ).loc main_arg5)) (m ((c.tc : Thread nD τ).loc main_arg6)) b h a v := by
  refine (congrFun (out_183 (At m c 16)) (ix4 b h a v)).trans ?_
  rw [at_arg5, at_arg6]
  exact stS_apply _ _ b h a v

theorem oog_apply (b : Fin 32) (r h : Fin 4) (v : Fin 512) : ROg m c (ix3 b r ⟨512 * h + v, by omega⟩)
    = sOgAt (m ((c.tc : Thread nD τ).loc main_arg5)) (m ((c.tc : Thread nD τ).loc main_arg3)) (m ((c.tc : Thread nD τ).loc main_arg6)) b r h v := by
  refine (congrFun (out_208 (At m c 16)) _).trans ?_
  rw [at_arg5, at_arg6, at_arg3]
  exact og_apply _ _ _ b r h v

end Cert.ReferenceIdeal.Ret

end
-- ==== Proof.Ret.Claims.lean ====
/- The claims: the frames, the named constants, and the equality of the kernel's results with the reference's. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Ret.Points
public import proofs.«01_k».proof.Proof.Ret.RefLoop
public import Idealize.ShloMosaic.Lib.Quiescent

@[expose] public section

set_option maxRecDepth 16384

noncomputable section

open Idealize.ShloMosaic Idealize.ShloMosaic.TcCoe Idealize.SL.Sem

namespace Cert.Pre_finite_qkv

theorem facts : Facts where
  slices_S8x2048x6144_S8x2048x4096_0_0_0 := by decide
  bcast_S_S8x2048x4096 := by decide

theorem fn_apply [Facts] (p : FVec Ideal S8x2048x6144 .bf16) (a1 a2 a3 a4 a5 a6) (b : Fin 8) (t : Fin 2048) (x : Fin 4096) :
    fn (F := Ideal) p a1 a2 a3 a4 a5 a6 (ix3 b t x)
      = BitVec.ofBool (decide (max (p (ix3 b t ⟨x, by omega⟩) : EReal) (-p (ix3 b t ⟨x, by omega⟩)) < Ideal.ofBits .bf16 0x7F80#16)) := by
  pointwise [fn]
  rfl

/-- An extended real of finite magnitude is a real number. -/
theorem real_of_abs (x : EReal) (h : max x (-x) < ⊤) : x = (x.toReal : EReal) := by
  refine (EReal.coe_toReal (fun e => ?_) fun e => ?_).symm
  · rw [e] at h; exact absurd h (not_lt.2 (le_max_left _ _))
  · rw [e] at h; exact absurd h (not_lt.2 (le_max_right _ _))

/-- The precondition: the queries, keys and values are real numbers. -/
theorem fin3 [Facts] (p : FVec Ideal S8x2048x6144 .bf16) (a1 a2 a3 a4 a5 a6) (h : fn (F := Ideal) p a1 a2 a3 a4 a5 a6 = fun _ => 1#1) : Cert.Ret.Fin3 p := by
  intro b t x hx
  have e := (fn_apply p a1 a2 a3 a4 a5 a6 b t ⟨x, hx⟩).symm.trans (congrFun h _)
  rw [Cert.Ret.w_inf] at e
  refine real_of_abs _ (by_contra fun hn => ?_)
  rw [decide_eq_false hn] at e
  exact absurd e (by decide)

end Cert.Pre_finite_qkv

namespace Cert.Proof.Claims

open Cert.Ret Cert.KernelIdeal.Ret

attribute [local instance] Cert.Pre_finite_qkv.facts

theorem frame_p : Cert.quiescent_Kernel := fun m ρ _ => Cert.Kernel.Gen.frame m ρ
theorem frame_pi : Cert.quiescent_KernelIdeal := fun m ρ _ => Cert.KernelIdeal.Gen.frame m ρ
theorem frame_pi_pre : Cert.quiescent_KernelIdeal_pre_finite_qkv := fun m ρ _ => Cert.KernelIdeal.Gen.frame m ρ
theorem frame_ri : Cert.quiescent_ReferenceIdeal := fun m ρ _ =>
  (θ_run Cert.ReferenceIdeal.defs _ _).mono (fun r h => ⟨fun c => (h c).2.2.2.2,
      Idealize.ShloMosaic.sem_eq_zero_of_no_sems (by decide) r.2⟩)
    (Cert.ReferenceIdeal.Value.run (F := Ideal) m ρ)
theorem frame_ri_pre : Cert.quiescent_ReferenceIdeal_pre_finite_qkv := fun m ρ _ => frame_ri m ρ trivial

theorem preserves : Cert.preserves_Kernel_KernelIdeal :=
  ⟨IdealRules.named_const.statement Cert.KernelIdeal.κ "log_gamma0" .f32 0xBD020AEC#32 _ rfl,
    IdealRules.named_const.statement Cert.KernelIdeal.κ "gamma0_pow_4" .f32 0x3F617810#32 _ rfl,
    IdealRules.named_const.statement Cert.KernelIdeal.κ "log_gamma1" .f32 0xBC8102B3#32 _ rfl,
    IdealRules.named_const.statement Cert.KernelIdeal.κ "gamma1_pow_4" .f32 0x3F705F01#32 _ rfl,
    IdealRules.named_const.statement Cert.KernelIdeal.κ "log_gamma2" .f32 0xBC0080AC#32 _ rfl,
    IdealRules.named_const.statement Cert.KernelIdeal.κ "gamma2_pow_4" .f32 0x3F7817E0#32 _ rfl,
    IdealRules.named_const.statement Cert.KernelIdeal.κ "log_gamma3" .f32 0xBB80402B#32 _ rfl,
    IdealRules.named_const.statement Cert.KernelIdeal.κ "gamma3_pow_4" .f32 0x3F7C05FC#32 _ rfl,
    IdealRules.named_const.statement Cert.KernelIdeal.κ "gamma0_pow_256" .f32 0x399ACCA1#32 _ rfl,
    IdealRules.named_const.statement Cert.KernelIdeal.κ "gamma1_pow_256" .f32 0x3C9160A5#32 _ rfl,
    IdealRules.named_const.statement Cert.KernelIdeal.κ "gamma2_pow_256" .f32 0x3E097FCE#32 _ rfl,
    IdealRules.named_const.statement Cert.KernelIdeal.κ "gamma3_pow_256" .f32 0x3EBBFC5D#32 _ rfl⟩

section results

variable (m : (l : Loc Cert.KernelIdeal.nD Cert.KernelIdeal.τ Cert.KernelIdeal.sig) → Buf (Elt Ideal) l) (c : Dev Cert.KernelIdeal.nD)
  (m' : (l : Loc Cert.ReferenceIdeal.nD Cert.ReferenceIdeal.τ Cert.ReferenceIdeal.sig) → Buf (Elt Ideal) l)

theorem res_0 (hp : Fin3 (arg0 m c)) (h0 : m' ((c.tc : Thread Cert.ReferenceIdeal.nD Cert.ReferenceIdeal.τ).loc Cert.ReferenceIdeal.main_arg0) = arg0 m c) (h1 : m' ((c.tc : Thread Cert.ReferenceIdeal.nD Cert.ReferenceIdeal.τ).loc Cert.ReferenceIdeal.main_arg1) = arg1 m c) (h2 : m' ((c.tc : Thread Cert.ReferenceIdeal.nD Cert.ReferenceIdeal.τ).loc Cert.ReferenceIdeal.main_arg2) = arg2 m c) (h3 : m' ((c.tc : Thread Cert.ReferenceIdeal.nD Cert.ReferenceIdeal.τ).loc Cert.ReferenceIdeal.main_arg3) = arg3 m c) (h4 : m' ((c.tc : Thread Cert.ReferenceIdeal.nD Cert.ReferenceIdeal.τ).loc Cert.ReferenceIdeal.main_arg4) = arg4 m c) :
    Cert.ReferenceIdeal.Ret.RY m' c = Cert.KernelIdeal.Value.G10 (F := Ideal) m c := by
  have hp' : Fin3 (Cert.ReferenceIdeal.Ret.A0 m' c) := by
    show Fin3 (m' ((c.tc : Thread Cert.ReferenceIdeal.nD Cert.ReferenceIdeal.τ).loc Cert.ReferenceIdeal.main_arg0))
    rw [h0]; exact hp
  funext y
  rw [eq_ix3 y]
  refine (Cert.ReferenceIdeal.Ret.y_apply m' c hp' _ _ _).trans (Eq.trans ?_ (G10_apply m c hp _ _ _).symm)
  rw [← h0, ← h1, ← h2, ← h3, ← h4]

theorem res_1 (hp : Fin3 (arg0 m c)) (h0 : m' ((c.tc : Thread Cert.ReferenceIdeal.nD Cert.ReferenceIdeal.τ).loc Cert.ReferenceIdeal.main_arg0) = arg0 m c) :
    Cert.ReferenceIdeal.Ret.RPr m' c = Cert.KernelIdeal.Value.G11 (F := Ideal) m c := by
  have hp' : Fin3 (Cert.ReferenceIdeal.Ret.A0 m' c) := by
    show Fin3 (m' ((c.tc : Thread Cert.ReferenceIdeal.nD Cert.ReferenceIdeal.τ).loc Cert.ReferenceIdeal.main_arg0))
    rw [h0]; exact hp
  funext y
  rw [eq_ix4 y]
  refine (Cert.ReferenceIdeal.Ret.pr_apply m' c hp' _ _ _ _).trans (Eq.trans ?_ (G11_apply m c hp _ _ _ _).symm)
  rw [← h0]

theorem res_2 (hp : Fin3 (arg0 m c)) (h3 : m' ((c.tc : Thread Cert.ReferenceIdeal.nD Cert.ReferenceIdeal.τ).loc Cert.ReferenceIdeal.main_arg3) = arg3 m c) (h5 : m' ((c.tc : Thread Cert.ReferenceIdeal.nD Cert.ReferenceIdeal.τ).loc Cert.ReferenceIdeal.main_arg5) = arg5 m c) (h6 : m' ((c.tc : Thread Cert.ReferenceIdeal.nD Cert.ReferenceIdeal.τ).loc Cert.ReferenceIdeal.main_arg6) = arg6 m c) :
    Cert.ReferenceIdeal.Ret.ROg m' c = Cert.KernelIdeal.Value.G12 (F := Ideal) m c := by
  have key : ∀ (b : Fin 32) (r h : Fin 4) (v : Fin 512), Cert.ReferenceIdeal.Ret.ROg m' c (ix3 b r ⟨512 * h + v, by omega⟩)
      = Cert.KernelIdeal.Value.G12 (F := Ideal) m c (ix3 b r ⟨512 * h + v, by omega⟩) := fun b r h v => by
    refine (Cert.ReferenceIdeal.Ret.oog_apply m' c b r h v).trans (Eq.trans ?_ (G12_apply m c hp b r h v).symm)
    rw [← h3, ← h5, ← h6]
  have all : ∀ (b : Fin 32) (r : Fin 4) (j : Fin 2048), Cert.ReferenceIdeal.Ret.ROg m' c (ix3 b r j) = Cert.KernelIdeal.Value.G12 (F := Ideal) m c (ix3 b r j) := fun b r j => by
    have e := key b r ⟨(j : ℕ) / 512, by omega⟩ ⟨(j : ℕ) % 512, by omega⟩
    have ej : (⟨512 * (⟨(j : ℕ) / 512, by omega⟩ : Fin 4) + (⟨(j : ℕ) % 512, by omega⟩ : Fin 512), by dsimp only; omega⟩ : Fin 2048) = j := Fin.ext (by dsimp only; omega)
    rw [ej] at e
    exact e
  funext y
  rw [eq_ix3 y]
  exact all _ _ _

theorem res_3 (hp : Fin3 (arg0 m c)) (h5 : m' ((c.tc : Thread Cert.ReferenceIdeal.nD Cert.ReferenceIdeal.τ).loc Cert.ReferenceIdeal.main_arg5) = arg5 m c) (h6 : m' ((c.tc : Thread Cert.ReferenceIdeal.nD Cert.ReferenceIdeal.τ).loc Cert.ReferenceIdeal.main_arg6) = arg6 m c) :
    Cert.ReferenceIdeal.Ret.RSt m' c = Cert.KernelIdeal.Value.G13 (F := Ideal) m c := by
  funext y
  rw [eq_ix4 y]
  refine (Cert.ReferenceIdeal.Ret.ost_apply m' c _ _ _ _).trans (Eq.trans ?_ (G13_apply m c hp _ _ _ _).symm)
  rw [← h5, ← h6]

end results

theorem algebraic : Cert.algebraic_KernelIdeal_ReferenceIdeal_pre_finite_qkv := by
  intro m ρ m' ρ' hpre hagree
  refine ⟨_, _, _, _, Cert.KernelIdeal.Value.run (F := Ideal) m ρ, ?_⟩
  refine (θ_run Cert.ReferenceIdeal.defs _ _).mono (fun _ h c => ?_) (Cert.ReferenceIdeal.Value.run (F := Ideal) m' ρ')
  obtain ⟨h0, h1, h2, h3, h4, h5, h6⟩ := hagree c
  have hp : Fin3 (arg0 m c) := Cert.Pre_finite_qkv.fin3 _ _ _ _ _ _ _ (hpre c)
  exact ⟨(h c).1.trans (res_0 m c m' hp h0 h1 h2 h3 h4), (h c).2.1.trans (res_1 m c m' hp h0),
    (h c).2.2.1.trans (res_2 m c m' hp h3 h5 h6), (h c).2.2.2.1.trans (res_3 m c m' hp h5 h6), (h c).2.2.2.2⟩

end Cert.Proof.Claims

end
-- ==== Proof.Out.Prompt.lean ====
/- The output projection of the prompt's attention: each point's block, and the whole array in closed form. -/
module

public import proofs.«01_k».proof.Proof.Gen.Kernel2Ideal.Value
public import proofs.«01_k».proof.Proof.Gen.Reference2Ideal.Run
public import Idealize.ShloMosaic.Lib.Pointwise
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.Kernel2Ideal.Out

open Idealize.ShloMosaic Idealize.SL.Sem Cert.Kernel2Ideal Cert.Kernel2Ideal.Gen Cert.Kernel2Ideal.Value

/-- A load of a whole scratch reads its pieces back. -/
theorem readCov_whole {F : FTy → Type} [FloatOps F] {S : Shape} {e : EltTy} {sig : RefSig} {kd : Kind} {sp : Space} (v : View sig kd sp S e) (L : List (View.Piece (Elt F) S e))
    {off : Fin S.rank → Nat} (inb : ∀ a, off a + S.size a ≤ S.size a) :
    v.readCov L (Rect.unit off (no_index S.size) inb).toLoadRect = View.canon L := by
  have h : off = fun _ => 0 := funext fun a => by have := inb a; omega
  rw [View.readCov_eq_canon']
  exact View.ld_unit_zero h inb (View.canon L)

section open_

variable {F : FTy → Type} [FloatOps F]

/-- The two pieces of the weights. -/
abbrev wL (x1 : Vec F S1024x1024 .f32) : List (View.Piece (Elt F) S1024x1024 .bf16) :=
  [⟨Rect.unit ![0, 512] ![1024, 512] (by decide), k0_pay2 (View.ld x1 (Rect.unit ![0, 512] ![1024, 512] (by decide)))⟩,
    ⟨Rect.unit ![0, 0] ![1024, 512] (by decide), k0_pay1 (View.ld x1 (Rect.unit ![0, 0] ![1024, 512] (by decide)))⟩]

variable (c : Dev nD) (i : grid0.Coords) (arg2 : Memref sig .tc .vmem S1x1024x1024 .bf16) (harg2 : arg2.IsWhole) (arg3 : Memref sig .tc .vmem S1024x1024 .f32) (harg3 : arg3.IsWhole) (arg4 : Memref sig .tc .vmem S1x1024x1024 .f32) (harg4 : arg4.IsWhole) (arg5 : Memref sig .tc .vmem S1x1x1024 .f32) (harg5 : arg5.IsWhole) (arg6 : Memref sig .tc .vmem S1x1024x1024 .f32) (harg6 : arg6.IsWhole) (arg7 : Memref sig .tc .vmem S1024x1024 .bf16) (harg7 : arg7.IsWhole)
  (x0 : Vec F S1x1024x1024 .bf16) (x1 : Vec F S1024x1024 .f32) (x2 : Vec F S1x1024x1024 .f32) (x3 : Vec F S1x1x1024 .f32) (xs : Vec F S1024x1024 .bf16)

theorem outA (hc : cond0_0 i) : out0_A_4 c i arg2 harg2 arg3 harg3 arg4 harg4 arg5 harg5 arg6 harg6 arg7 harg7 hc x0 x1 x2 x3 = k0_pay3 x2 x3 x0 (View.canon (wL x1)) := by
  frame_open
  frame_out
  simp only [readCov_whole]

theorem soutA (hc : cond0_0 i) : sout0_A_0 c i arg2 harg2 arg3 harg3 arg4 harg4 arg5 harg5 arg6 harg6 arg7 harg7 hc x0 x1 x2 x3 = View.canon (wL x1) := by
  frame_open
  frame_out

theorem outB (hc : ¬cond0_0 i) : out0_B_4 c i arg2 harg2 arg3 harg3 arg4 harg4 arg5 harg5 arg6 harg6 arg7 harg7 hc x0 x1 x2 x3 xs = k0_pay3 x2 x3 x0 xs := by
  frame_open
  frame_out

end open_

theorem wL_apply (x1 : Vec Ideal S1024x1024 .f32) (a b : Fin 1024) : View.canon (wL x1) (ix2 a b) = x1 (ix2 a b) := by
  unfold wL
  canon_tiles x hx
  · exact (congrFun (shapeCast_self (α := EReal) _ shapeCasts_S1024x512_S1024x512) x).trans <| View.ld_unit_apply_of x1 _ _ _ x (ix2 a b) (by intro d; fin_cases d <;> simpa using by assumption)
  · exact (congrFun (shapeCast_self (α := EReal) _ shapeCasts_S1024x512_S1024x512) x).trans <| View.ld_unit_apply_of x1 _ _ _ x (ix2 a b) (by intro d; fin_cases d <;> simpa using by assumption)

theorem pay3_apply (x2 x3 x0 wb) (r b : Fin 1024) :
    k0_pay3 (F := Ideal) x2 x3 x0 wb (ix3 0 r b) = x2 (ix3 0 r b) + x3 (ix3 0 0 b) * ∑ k : Fin 1024, x0 (ix3 0 r k) * wb (ix2 k b) := by
  pointwise [k0_pay3]

variable (m : (l : Loc nD τ sig) → Buf (Elt Ideal) l) (c : Dev nD) (t : Fin cfg0.N)

/-- The gated outputs of the attention. -/
abbrev arg0 : Vec Ideal S8x2048x1024 .bf16 := V m c main_arg0
/-- The weights. -/
abbrev arg1 : Vec Ideal S1024x1024 .f32 := V m c main_arg1
/-- The residual. -/
abbrev arg2 : Vec Ideal S8x2048x1024 .f32 := V m c main_arg2
/-- The layer's gate. -/
abbrev arg3 : Vec Ideal S8x1x1024 .f32 := V m c main_arg3

theorem idx0 : ∀ t : Fin cfg0.N, win0_0.index t = ![t.val / 2, t.val % 2, 0] := by decide +kernel
theorem idx1 : ∀ t : Fin cfg0.N, win0_1.index t = ![0, 0] := by decide +kernel
theorem idx2 : ∀ t : Fin cfg0.N, win0_2.index t = ![t.val / 2, t.val % 2, 0] := by decide +kernel
theorem idx3 : ∀ t : Fin cfg0.N, win0_3.index t = ![t.val / 2, 0, 0] := by decide +kernel

theorem lt16 (t : Fin cfg0.N) : t.val < 16 := lt_of_lt_of_eq t.isLt (show cfg0.N = 16 from N_0)

/-- The batch row of a point. -/
abbrev row (t : Fin cfg0.N) : Fin 8 := ⟨t.val / 2, by have := lt16 t; omega⟩
/-- A row of the point's block, as a token. -/
abbrev tok (t : Fin cfg0.N) (r : Fin 1024) : Fin 2048 := ⟨1024 * (t.val % 2) + r, by omega⟩

theorem rd0 (r x : Fin 1024) : iblk m c 0 t (ix3 0 r x) = arg0 m c (ix3 (row t) (tok t r) x) := by
  have := lt16 t
  blk_ext [iblk, V, idx0 t]
theorem rd1 (r x : Fin 1024) : iblk m c 1 t (ix2 r x) = arg1 m c (ix2 r x) := by
  blk_ext [iblk, V, idx1 t]
theorem rd2 (r x : Fin 1024) : iblk m c 2 t (ix3 0 r x) = arg2 m c (ix3 (row t) (tok t r) x) := by
  have := lt16 t
  blk_ext [iblk, V, idx2 t]
theorem rd3 (x : Fin 1024) : iblk m c 3 t (ix3 0 0 x) = arg3 m c (ix3 (row t) 0 x) := by
  have := lt16 t
  blk_ext [iblk, V, idx3 t]

/-- One entry of the projection's result. -/
def oAt {B T : Nat} (a : (⟨3, ![B, T, 1024]⟩ : Shape).Idx → EReal) (w : (⟨2, ![1024, 1024]⟩ : Shape).Idx → EReal)
    (x : (⟨3, ![B, T, 1024]⟩ : Shape).Idx → EReal) (gate : EReal) (b : Fin B) (s : Fin T) (d : Fin 1024) : EReal :=
  x (ix3 b s d) + gate * ∑ k : Fin 1024, a (ix3 b s k) * w (ix2 k d)

/-- What holds after point `t`: the rounded weights and the result's block. -/
structure Inv (o : Vec Ideal S1x1024x1024 .f32 × Vec Ideal S1024x1024 .bf16) : Prop where
  wb : ∀ a b, o.2 (ix2 a b) = arg1 m c (ix2 a b)
  y : ∀ r d, o.1 (ix3 0 r d) = oAt (arg0 m c) (arg1 m c) (arg2 m c) (arg3 m c (ix3 (row t) 0 d)) (row t) (tok t r) d

theorem blk_holds (wb : Vec Ideal S1024x1024 .bf16) (hw : ∀ a b, wb (ix2 a b) = arg1 m c (ix2 a b)) (r d : Fin 1024) :
    k0_pay3 (F := Ideal) (iblk m c 2 t) (iblk m c 3 t) (iblk m c 0 t) wb (ix3 0 r d)
      = oAt (arg0 m c) (arg1 m c) (arg2 m c) (arg3 m c (ix3 (row t) 0 d)) (row t) (tok t r) d := by
  refine (pay3_apply (iblk m c 2 t) (iblk m c 3 t) (iblk m c 0 t) wb r d).trans ?_
  rw [rd2, rd3]
  refine congrArg (_ + _ * ·) (Finset.sum_congr rfl fun k _ => ?_)
  rw [rd0, hw]

theorem inv_A (acc) (h0 : t.val % 16 = 0) : Inv m c t (stAt0 m c t.val t.isLt acc) := by
  have hw : ∀ a b, View.canon (wL (iblk m c 1 t)) (ix2 a b) = arg1 m c (ix2 a b) := fun a b => by rw [wL_apply, rd1]
  rw [stAt0_A m c t acc h0, outA, soutA]
  refine ⟨?_, ?_⟩ <;> dsimp only
  · exact hw
  · exact blk_holds m c t _ hw

theorem inv_B (acc) (h0 : ¬t.val % 16 = 0) (hw : ∀ a b, acc.2 (ix2 a b) = arg1 m c (ix2 a b)) : Inv m c t (stAt0 m c t.val t.isLt acc) := by
  rw [stAt0_B m c t acc h0, outB]
  exact ⟨hw, blk_holds m c t _ hw⟩

theorem inv (n : ℕ) : ∀ hn : n < cfg0.N, Inv m c ⟨n, hn⟩ (outsAt0 m c n hn) := by
  induction n with
  | zero =>
    intro hn
    rw [outsAt0_zero]
    exact inv_A m c ⟨0, hn⟩ _ (Nat.zero_mod _)
  | succ n ih =>
    intro hn
    have hN : n + 1 < 16 := lt16 ⟨n + 1, hn⟩
    have h0 : ¬(n + 1) % 16 = 0 := by omega
    rw [outsAt0_succ]
    exact inv_B m c ⟨n + 1, hn⟩ _ h0 (ih (Nat.lt_of_succ_lt hn)).wb

theorem G4_apply (b : Fin 8) (s : Fin 2048) (d : Fin 1024) :
    G4 m c (ix3 b s d) = oAt (arg0 m c) (arg1 m c) (arg2 m c) (arg3 m c (ix3 b 0 d)) b s d := by
  have hn : 2 * (b : ℕ) + s / 1024 < cfg0.N := lt_of_lt_of_eq (by omega) (show 16 = cfg0.N from N_0.symm)
  have hpt : pt4Of (ix3 b s d) = 2 * (b : ℕ) + s / 1024 := by
    change 2 * ((b : ℕ) / 1 - 0) + 1 * ((s : ℕ) / 1024 - 0) + 1 * ((d : ℕ) / 1024 - 0) = _
    omega
  have hl : loc4Of (ix3 b s d) = ix3 0 (⟨s % 1024, Nat.mod_lt _ (by decide)⟩ : Fin 1024) d := by
    funext a
    fin_cases a
    · exact Subsingleton.elim (α := Fin 1) _ _
    · rfl
    · exact Fin.ext (Nat.mod_eq_of_lt d.isLt)
  have key : ∀ (n : ℕ) (h : n < cfg0.N), n = 2 * (b : ℕ) + s / 1024 → (outsAt0 m c n h).1 (loc4Of (ix3 b s d))
      = oAt (arg0 m c) (arg1 m c) (arg2 m c) (arg3 m c (ix3 b 0 d)) b s d := by
    rintro n h e
    rw [hl, (inv m c n h).y]
    have e1 : row ⟨n, h⟩ = b := Fin.ext (show n / 2 = b by omega)
    have e2 : tok ⟨n, h⟩ (⟨s % 1024, Nat.mod_lt _ (by decide)⟩ : Fin 1024) = s := Fin.ext (show 1024 * (n % 2) + s % 1024 = s by omega)
    rw [e1, e2]
  refine (dif_pos (lt_of_eq_of_lt hpt hn)).trans ?_
  exact (congrArg (fun o => o.1 (loc4Of (ix3 b s d))) (outsAt0_sweep m c _ (lt_of_eq_of_lt hpt hn)).symm).trans (key _ _ hpt)

end Cert.Kernel2Ideal.Out

namespace Cert.Reference2Ideal.Out

open Idealize.ShloMosaic Idealize.SL.Sem Cert.Reference2Ideal Cert.Reference2Ideal.Gen

/-- The reference's term. -/
abbrev RO (a : FVec Ideal S8x2048x1024 .bf16) (w : FVec Ideal S1024x1024 .f32) (x : FVec Ideal S8x2048x1024 .f32) (g : FVec Ideal S8x1x1024 .f32) : FVec Ideal S8x2048x1024 .f32 :=
  addf x (mulf (broadcastInDim S8x2048x1024 ![0, 1, 2] bcast_S8x1x1024_S8x2048x1024_0_1_2 g) (Host.dotGeneral dot_S8x2048x1024_S1024x1024_S8x2048x1024_2_0_01_1_n_n none (extf .f32 a bitsLt_bf16_f32) w))

theorem RO_apply (a w x g) (b : Fin 8) (s : Fin 2048) (d : Fin 1024) : RO a w x g (ix3 b s d) = Cert.Kernel2Ideal.Out.oAt a w x (g (ix3 b 0 d)) b s d := by
  pointwise [RO, Cert.Kernel2Ideal.Out.oAt]

end Cert.Reference2Ideal.Out

end
-- ==== Proof.Out.Sample.lean ====
/- The output projection of the sample's attention: one point, the whole array in closed form. -/
module

public import proofs.«01_k».proof.Proof.Gen.Kernel3Ideal.Value
public import proofs.«01_k».proof.Proof.Gen.Reference3Ideal.Run
public import Idealize.ShloMosaic.Lib.Pointwise
public import Idealize.ShloMosaic.Lib.Pipeline.ValueKit
public import Idealize.ShloMosaic.Lib.Pipeline.ReadBack
public import Idealize.ShloMosaic.Lib.ValueIdx

@[expose] public section

set_option maxRecDepth 16384

noncomputable section

namespace Cert.Kernel3Ideal.Out

open Idealize.ShloMosaic Idealize.SL.Sem Cert.Kernel3Ideal Cert.Kernel3Ideal.Gen Cert.Kernel3Ideal.Value

/-- A load of a whole scratch reads its pieces back. -/
theorem readCov_whole {F : FTy → Type} [FloatOps F] {S : Shape} {e : EltTy} {sig : RefSig} {kd : Kind} {sp : Space} (v : View sig kd sp S e) (L : List (View.Piece (Elt F) S e))
    {off : Fin S.rank → Nat} (inb : ∀ a, off a + S.size a ≤ S.size a) :
    v.readCov L (Rect.unit off (no_index S.size) inb).toLoadRect = View.canon L := by
  have h : off = fun _ => 0 := funext fun a => by have := inb a; omega
  rw [View.readCov_eq_canon']
  exact View.ld_unit_zero h inb (View.canon L)

section open_

variable {F : FTy → Type} [FloatOps F]

/-- The two pieces of the weights. -/
abbrev wL (x1 : Vec F S1024x1024 .f32) : List (View.Piece (Elt F) S1024x1024 .bf16) :=
  [⟨Rect.unit ![0, 512] ![1024, 512] (by decide), k0_pay2 (View.ld x1 (Rect.unit ![0, 512] ![1024, 512] (by decide)))⟩,
    ⟨Rect.unit ![0, 0] ![1024, 512] (by decide), k0_pay1 (View.ld x1 (Rect.unit ![0, 0] ![1024, 512] (by decide)))⟩]

variable (c : Dev nD) (i : grid0.Coords) (arg2 : Memref sig .tc .vmem S1x128x1024 .bf16) (harg2 : arg2.IsWhole) (arg3 : Memref sig .tc .vmem S1024x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1x128x1024 .f32) (harg6 : arg6.IsWhole) (arg7 : Memref sig .tc .vmem S1024x1024 .bf16) (harg7 : arg7.IsWhole)
  (x0 : Vec F S1x128x1024 .bf16) (x1 : Vec F S1024x1024 .f32) (x2 : Vec F S1x128x1024 .f32) (x3 : Vec F S1x128x1024 .f32) (xs : Vec F S1024x1024 .bf16)

theorem outA (hc : cond0_0 i) : out0_A_4 c i arg2 harg2 arg3 harg3 arg4 harg4 arg5 harg5 arg6 harg6 arg7 harg7 hc x0 x1 x2 x3 = k0_pay3 x2 x3 x0 (View.canon (wL x1)) := by
  frame_open
  frame_out
  simp only [readCov_whole]

end open_

theorem wL_apply (x1 : Vec Ideal S1024x1024 .f32) (a b : Fin 1024) : View.canon (wL x1) (ix2 a b) = x1 (ix2 a b) := by
  unfold wL
  canon_tiles x hx
  · exact (congrFun (shapeCast_self (α := EReal) _ shapeCasts_S1024x512_S1024x512) x).trans <| View.ld_unit_apply_of x1 _ _ _ x (ix2 a b) (by intro d; fin_cases d <;> simpa using by assumption)
  · exact (congrFun (shapeCast_self (α := EReal) _ shapeCasts_S1024x512_S1024x512) x).trans <| View.ld_unit_apply_of x1 _ _ _ x (ix2 a b) (by intro d; fin_cases d <;> simpa using by assumption)

theorem pay3_apply (x2 x3 x0 wb) (r : Fin 128) (b : Fin 1024) :
    k0_pay3 (F := Ideal) x2 x3 x0 wb (ix3 0 r b) = x2 (ix3 0 r b) + x3 (ix3 0 r b) * ∑ k : Fin 1024, x0 (ix3 0 r k) * wb (ix2 k b) := by
  pointwise [k0_pay3]

variable (m : (l : Loc nD τ sig) → Buf (Elt Ideal) l) (c : Dev nD) (t : Fin cfg0.N)

/-- The gated outputs of the attention. -/
abbrev arg0 : Vec Ideal S1x128x1024 .bf16 := V m c main_arg0
/-- The weights. -/
abbrev arg1 : Vec Ideal S1024x1024 .f32 := V m c main_arg1
/-- The residual. -/
abbrev arg2 : Vec Ideal S1x128x1024 .f32 := V m c main_arg2
/-- The layer's gate. -/
abbrev arg3 : Vec Ideal S1x128x1024 .f32 := V m c main_arg3

theorem idx0 : ∀ t : Fin cfg0.N, win0_0.index t = ![0, 0, 0] := by decide +kernel
theorem idx1 : ∀ t : Fin cfg0.N, win0_1.index t = ![0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0, 0] := by decide +kernel

theorem rd0 (r : Fin 128) (x : Fin 1024) : iblk m c 0 t (ix3 0 r x) = arg0 m c (ix3 0 r x) := by
  blk_ext [iblk, V, idx0 t]
theorem rd1 (r x : Fin 1024) : iblk m c 1 t (ix2 r x) = arg1 m c (ix2 r x) := by
  blk_ext [iblk, V, idx1 t]
theorem rd2 (r : Fin 128) (x : Fin 1024) : iblk m c 2 t (ix3 0 r x) = arg2 m c (ix3 0 r x) := by
  blk_ext [iblk, V, idx2 t]
theorem rd3 (r : Fin 128) (x : Fin 1024) : iblk m c 3 t (ix3 0 r x) = arg3 m c (ix3 0 r x) := by
  blk_ext [iblk, V, idx3 t]

/-- One entry of the projection's result. -/
def oAt (a : S1x128x1024.Idx → EReal) (w : S1024x1024.Idx → EReal) (x g : S1x128x1024.Idx → EReal) (s : Fin 128) (d : Fin 1024) : EReal :=
  x (ix3 0 s d) + g (ix3 0 s d) * ∑ k : Fin 1024, a (ix3 0 s k) * w (ix2 k d)

/-- The result array. -/
def oArr : S1x128x1024.Idx → EReal := fun y => oAt (arg0 m c) (arg1 m c) (arg2 m c) (arg3 m c) (y 1) (y 2)

theorem blk_holds (r : Fin 128) (d : Fin 1024) : k0_pay3 (F := Ideal) (iblk m c 2 t) (iblk m c 3 t) (iblk m c 0 t) (View.canon (wL (iblk m c 1 t))) (ix3 0 r d)
      = oAt (arg0 m c) (arg1 m c) (arg2 m c) (arg3 m c) r d := by
  refine (pay3_apply (iblk m c 2 t) (iblk m c 3 t) (iblk m c 0 t) _ r d).trans ?_
  rw [rd2, rd3]
  refine congrArg (_ + _ * ·) (Finset.sum_congr rfl fun k _ => ?_)
  rw [rd0, wL_apply, rd1]

theorem arr_eq : (dats m 0 c).arrAt 4 cfg0.N = oArr m c := by
  refine (dats m 0 c).arrAt_eq_of_covers 4 _ (by decide +kernel) fun t hf y => ?_
  blk_simp
  rw [after0_4]
  unfold outsAt0
  rw [outA]
  have h0 : (y : S1x128x1024.Idx) = ix3 0 (y 1) (y 2) := by
    funext a
    fin_cases a
    · exact Subsingleton.elim (α := Fin 1) _ _
    · rfl
    · rfl
  have h1 : (win0_4.blk t).view.emb y = ix3 0 (y 1) (y 2) := by
    blk_ext [idx4 t]
  refine (congrArg (k0_pay3 (F := Ideal) (iblk m c 2 t) (iblk m c 3 t) (iblk m c 0 t) _) h0).trans ((blk_holds m c t _ _).trans ?_)
  exact (congrArg (oArr m c) h1).symm

end Cert.Kernel3Ideal.Out

namespace Cert.Reference3Ideal.Out

open Idealize.ShloMosaic Idealize.SL.Sem Cert.Reference3Ideal Cert.Reference3Ideal.Gen

/-- The reference's term. -/
abbrev RO (a : FVec Ideal S1x128x1024 .bf16) (w : FVec Ideal S1024x1024 .f32) (x : FVec Ideal S1x128x1024 .f32) (g : FVec Ideal S1x128x1024 .f32) : FVec Ideal S1x128x1024 .f32 :=
  addf x (mulf g (Host.dotGeneral dot_S1x128x1024_S1024x1024_S1x128x1024_2_0_01_1_n_n none (extf .f32 a bitsLt_bf16_f32) w))

theorem RO_apply (a w x g) (s : Fin 128) (d : Fin 1024) : RO a w x g (ix3 0 s d) = Cert.Kernel3Ideal.Out.oAt a w x g s d := by
  pointwise [RO, Cert.Kernel3Ideal.Out.oAt]

end Cert.Reference3Ideal.Out

end
-- ==== Proof.Out.Claims.lean ====
/- The claims of the two output projections: of the prompt and of the sample. -/
module

public import proofs.«01_k».proof.Defs
public import proofs.«01_k».proof.Proof.Gen.Kernel2.Frame
public import proofs.«01_k».proof.Proof.Gen.Kernel3.Frame
public import proofs.«01_k».proof.Proof.Gen.Reference2Ideal.Run
public import proofs.«01_k».proof.Proof.Gen.Reference3Ideal.Run
public import proofs.«01_k».proof.Proof.Out.Prompt
public import proofs.«01_k».proof.Proof.Out.Sample

@[expose] public section

noncomputable section

namespace Cert.Proof.Claims

open Idealize.ShloMosaic Idealize.SL.Sem Idealize.ShloMosaic.TcCoe

theorem frame_p2 : Cert.quiescent_Kernel2 := fun m ρ _ => Cert.Kernel2.Gen.frame m ρ
theorem frame_pi2 : Cert.quiescent_Kernel2Ideal := fun m ρ _ => Cert.Kernel2Ideal.Gen.frame m ρ
theorem frame_ri2 : Cert.quiescent_Reference2Ideal := fun m ρ _ =>
  (θ_run Cert.Reference2Ideal.defs _ _).mono (fun r h => ⟨fun c => (h c).2, Idealize.ShloMosaic.sem_eq_zero_of_no_sems (by decide) r.2⟩)
    (Cert.Reference2Ideal.Value.run (F := Ideal) m ρ)
theorem preserves2 : Cert.preserves_Kernel2_Kernel2Ideal := trivial

theorem frame_p3 : Cert.quiescent_Kernel3 := fun m ρ _ => Cert.Kernel3.Gen.frame m ρ
theorem frame_pi3 : Cert.quiescent_Kernel3Ideal := fun m ρ _ => Cert.Kernel3Ideal.Gen.frame m ρ
theorem frame_ri3 : Cert.quiescent_Reference3Ideal := fun m ρ _ =>
  (θ_run Cert.Reference3Ideal.defs _ _).mono (fun r h => ⟨fun c => (h c).2, Idealize.ShloMosaic.sem_eq_zero_of_no_sems (by decide) r.2⟩)
    (Cert.Reference3Ideal.Value.run (F := Ideal) m ρ)
theorem preserves3 : Cert.preserves_Kernel3_Kernel3Ideal := trivial

/-- The prompt's result, from equal arguments. -/
theorem res2 (m : (ℓ : Loc Cert.Kernel2Ideal.nD Cert.Kernel2Ideal.τ Cert.Kernel2Ideal.sig) → Buf (Elt Ideal) ℓ) (c : Dev Cert.Kernel2Ideal.nD) (a w x g)
    (h0 : a = Cert.Kernel2Ideal.Out.arg0 m c) (h1 : w = Cert.Kernel2Ideal.Out.arg1 m c) (h2 : x = Cert.Kernel2Ideal.Out.arg2 m c) (h3 : g = Cert.Kernel2Ideal.Out.arg3 m c) :
    Cert.Reference2Ideal.Out.RO a w x g = Cert.Kernel2Ideal.Value.G4 (F := Ideal) m c := by
  funext y
  rw [eq_ix3 y]
  refine (Cert.Reference2Ideal.Out.RO_apply a w x g _ _ _).trans (Eq.trans ?_ (Cert.Kernel2Ideal.Out.G4_apply m c _ _ _).symm)
  rw [h0, h1, h2, h3]

theorem algebraic2 : Cert.algebraic_Kernel2Ideal_Reference2Ideal := by
  intro m ρ m' ρ' _ hagree
  refine ⟨_, Cert.Kernel2Ideal.Value.run (F := Ideal) m ρ, ?_⟩
  refine (θ_run Cert.Reference2Ideal.defs _ _).mono (fun _ h c => ?_) (Cert.Reference2Ideal.Value.run (F := Ideal) m' ρ')
  obtain ⟨h0, h1, h2, h3⟩ := hagree c
  exact ⟨(h c).1.trans (res2 m c _ _ _ _ h0 h1 h2 h3), (h c).2⟩

/-- The sample's result, from equal arguments. -/
theorem res3 (m : (ℓ : Loc Cert.Kernel3Ideal.nD Cert.Kernel3Ideal.τ Cert.Kernel3Ideal.sig) → Buf (Elt Ideal) ℓ) (c : Dev Cert.Kernel3Ideal.nD) (a w x g)
    (h0 : a = Cert.Kernel3Ideal.Out.arg0 m c) (h1 : w = Cert.Kernel3Ideal.Out.arg1 m c) (h2 : x = Cert.Kernel3Ideal.Out.arg2 m c) (h3 : g = Cert.Kernel3Ideal.Out.arg3 m c) :
    Cert.Reference3Ideal.Out.RO a w x g = (Cert.Kernel3Ideal.Gen.dats (F := Ideal) m 0 c).arrAt 4 Cert.Kernel3Ideal.cfg0.N := by
  rw [Cert.Kernel3Ideal.Out.arr_eq]
  funext y
  have e : y = ix3 0 (y 1) (y 2) := by
    funext a
    fin_cases a
    · exact Subsingleton.elim (α := Fin 1) _ _
    · rfl
    · rfl
  rw [e]
  refine (Cert.Reference3Ideal.Out.RO_apply a w x g _ _).trans ?_
  rw [h0, h1, h2, h3]
  rfl

theorem algebraic3 : Cert.algebraic_Kernel3Ideal_Reference3Ideal := by
  intro m ρ m' ρ' _ hagree
  refine ⟨_, Cert.Kernel3Ideal.Value.run_blocks (F := Ideal) m ρ, ?_⟩
  refine (θ_run Cert.Reference3Ideal.defs _ _).mono (fun _ h c => ?_) (Cert.Reference3Ideal.Value.run (F := Ideal) m' ρ')
  obtain ⟨h0, h1, h2, h3⟩ := hagree c
  exact ⟨(h c).1.trans (res3 m c _ _ _ _ h0 h1 h2 h3), (h c).2⟩

end Cert.Proof.Claims

end
-- ==== Proof.Moba.Open.lean ====
/- The attention's projection of the sample: what its one point leaves in the four outputs. -/
module

public import proofs.«01_k».proof.Proof.Gen.Kernel4Ideal.Value
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel4Ideal.Moba

open Idealize.ShloMosaic Idealize.SL.Sem Cert.Kernel4Ideal Cert.Kernel4Ideal.Gen Cert.Kernel4Ideal.Value

variable {F : FTy → Type} [FloatOps F]

/-- The pieces of the rounded weights that are written before columns 0 to 1024 are read. -/
abbrev wL0 (x4 : Vec F S1024x4096 .f32) : List (View.Piece (Elt F) S1024x4096 .bf16) :=
  [⟨Rect.unit ![0, 512] ![1024, 512] inb_S1024x4096_S1024x512_0_512, k0_pay2 (View.ld x4 (Rect.unit ![0, 512] ![1024, 512] inb_S1024x4096_S1024x512_0_512))⟩,
    ⟨Rect.unit ![0, 0] ![1024, 512] inb_S1024x4096_S1024x512_0_0, k0_pay1 (View.ld x4 (Rect.unit ![0, 0] ![1024, 512] inb_S1024x4096_S1024x512_0_0))⟩]

/-- The rounded weights' columns 0 to 1024. -/
def wb0 (x4 : Vec F S1024x4096 .f32) : Vec F S1024x1024 .bf16 := View.ld (View.canon (wL0 x4)) (Rect.unit ![0, 0] ![1024, 1024] inb_S1024x4096_S1024x1024_0_0)

theorem rd_wb0 (arg13 : Memref sig .tc .vmem S1024x4096 .bf16) (x4 : Vec F S1024x4096 .f32) :
    arg13.view.readCov [⟨Rect.unit ![0, 512] ![1024, 512] inb_S1024x4096_S1024x512_0_512, shapeCast S1024x512 (truncf FTy.bf16 (View.ld x4 (Rect.unit ![0, 512] ![1024, 512] inb_S1024x4096_S1024x512_0_512)) bitsLt_bf16_f32) shapeCasts_S1024x512_S1024x512⟩,
      ⟨Rect.unit ![0, 0] ![1024, 512] inb_S1024x4096_S1024x512_0_0, shapeCast S1024x512 (truncf FTy.bf16 (View.ld x4 (Rect.unit ![0, 0] ![1024, 512] inb_S1024x4096_S1024x512_0_0)) bitsLt_bf16_f32) shapeCasts_S1024x512_S1024x512⟩] (Rect.unit ![0, 0] ![1024, 1024] inb_S1024x4096_S1024x1024_0_0).toLoadRect = wb0 x4 := by
  rw [View.readCov_eq_canon']; rfl

/-- The pieces of the rounded weights that are written before columns 1024 to 2048 are read. -/
abbrev wL1024 (x4 : Vec F S1024x4096 .f32) : List (View.Piece (Elt F) S1024x4096 .bf16) :=
  [⟨Rect.unit ![0, 1536] ![1024, 512] inb_S1024x4096_S1024x512_0_1536, k0_pay4 (View.ld x4 (Rect.unit ![0, 1536] ![1024, 512] inb_S1024x4096_S1024x512_0_1536))⟩,
    ⟨Rect.unit ![0, 1024] ![1024, 512] inb_S1024x4096_S1024x512_0_1024, k0_pay3 (View.ld x4 (Rect.unit ![0, 1024] ![1024, 512] inb_S1024x4096_S1024x512_0_1024))⟩,
    ⟨Rect.unit ![0, 512] ![1024, 512] inb_S1024x4096_S1024x512_0_512, k0_pay2 (View.ld x4 (Rect.unit ![0, 512] ![1024, 512] inb_S1024x4096_S1024x512_0_512))⟩,
    ⟨Rect.unit ![0, 0] ![1024, 512] inb_S1024x4096_S1024x512_0_0, k0_pay1 (View.ld x4 (Rect.unit ![0, 0] ![1024, 512] inb_S1024x4096_S1024x512_0_0))⟩]

/-- The rounded weights' columns 1024 to 2048. -/
def wb1024 (x4 : Vec F S1024x4096 .f32) : Vec F S1024x1024 .bf16 := View.ld (View.canon (wL1024 x4)) (Rect.unit ![0, 1024] ![1024, 1024] inb_S1024x4096_S1024x1024_0_1024)

theorem rd_wb1024 (arg13 : Memref sig .tc .vmem S1024x4096 .bf16) (x4 : Vec F S1024x4096 .f32) :
    arg13.view.readCov [⟨Rect.unit ![0, 1536] ![1024, 512] inb_S1024x4096_S1024x512_0_1536, shapeCast S1024x512 (truncf FTy.bf16 (View.ld x4 (Rect.unit ![0, 1536] ![1024, 512] inb_S1024x4096_S1024x512_0_1536)) bitsLt_bf16_f32) shapeCasts_S1024x512_S1024x512⟩,
      ⟨Rect.unit ![0, 1024] ![1024, 512] inb_S1024x4096_S1024x512_0_1024, shapeCast S1024x512 (truncf FTy.bf16 (View.ld x4 (Rect.unit ![0, 1024] ![1024, 512] inb_S1024x4096_S1024x512_0_1024)) bitsLt_bf16_f32) shapeCasts_S1024x512_S1024x512⟩,
      ⟨Rect.unit ![0, 512] ![1024, 512] inb_S1024x4096_S1024x512_0_512, shapeCast S1024x512 (truncf FTy.bf16 (View.ld x4 (Rect.unit ![0, 512] ![1024, 512] inb_S1024x4096_S1024x512_0_512)) bitsLt_bf16_f32) shapeCasts_S1024x512_S1024x512⟩,
      ⟨Rect.unit ![0, 0] ![1024, 512] inb_S1024x4096_S1024x512_0_0, shapeCast S1024x512 (truncf FTy.bf16 (View.ld x4 (Rect.unit ![0, 0] ![1024, 512] inb_S1024x4096_S1024x512_0_0)) bitsLt_bf16_f32) shapeCasts_S1024x512_S1024x512⟩] (Rect.unit ![0, 1024] ![1024, 1024] inb_S1024x4096_S1024x1024_0_1024).toLoadRect = wb1024 x4 := by
  rw [View.readCov_eq_canon']; rfl

/-- The pieces of the rounded weights that are written before columns 2048 to 3072 are read. -/
abbrev wL2048 (x4 : Vec F S1024x4096 .f32) : List (View.Piece (Elt F) S1024x4096 .bf16) :=
  [⟨Rect.unit ![0, 2560] ![1024, 512] inb_S1024x4096_S1024x512_0_2560, k0_pay6 (View.ld x4 (Rect.unit ![0, 2560] ![1024, 512] inb_S1024x4096_S1024x512_0_2560))⟩,
    ⟨Rect.unit ![0, 2048] ![1024, 512] inb_S1024x4096_S1024x512_0_2048, k0_pay5 (View.ld x4 (Rect.unit ![0, 2048] ![1024, 512] inb_S1024x4096_S1024x512_0_2048))⟩,
    ⟨Rect.unit ![0, 1536] ![1024, 512] inb_S1024x4096_S1024x512_0_1536, k0_pay4 (View.ld x4 (Rect.unit ![0, 1536] ![1024, 512] inb_S1024x4096_S1024x512_0_1536))⟩,
    ⟨Rect.unit ![0, 1024] ![1024, 512] inb_S1024x4096_S1024x512_0_1024, k0_pay3 (View.ld x4 (Rect.unit ![0, 1024] ![1024, 512] inb_S1024x4096_S1024x512_0_1024))⟩,
    ⟨Rect.unit ![0, 512] ![1024, 512] inb_S1024x4096_S1024x512_0_512, k0_pay2 (View.ld x4 (Rect.unit ![0, 512] ![1024, 512] inb_S1024x4096_S1024x512_0_512))⟩,
    ⟨Rect.unit ![0, 0] ![1024, 512] inb_S1024x4096_S1024x512_0_0, k0_pay1 (View.ld x4 (Rect.unit ![0, 0] ![1024, 512] inb_S1024x4096_S1024x512_0_0))⟩]

/-- The rounded weights' columns 2048 to 3072. -/
def wb2048 (x4 : Vec F S1024x4096 .f32) : Vec F S1024x1024 .bf16 := View.ld (View.canon (wL2048 x4)) (Rect.unit ![0, 2048] ![1024, 1024] inb_S1024x4096_S1024x1024_0_2048)

theorem rd_wb2048 (arg13 : Memref sig .tc .vmem S1024x4096 .bf16) (x4 : Vec F S1024x4096 .f32) :
    arg13.view.readCov [⟨Rect.unit ![0, 2560] ![1024, 512] inb_S1024x4096_S1024x512_0_2560, shapeCast S1024x512 (truncf FTy.bf16 (View.ld x4 (Rect.unit ![0, 2560] ![1024, 512] inb_S1024x4096_S1024x512_0_2560)) bitsLt_bf16_f32) shapeCasts_S1024x512_S1024x512⟩,
      ⟨Rect.unit ![0, 2048] ![1024, 512] inb_S1024x4096_S1024x512_0_2048, shapeCast S1024x512 (truncf FTy.bf16 (View.ld x4 (Rect.unit ![0, 2048] ![1024, 512] inb_S1024x4096_S1024x512_0_2048)) bitsLt_bf16_f32) shapeCasts_S1024x512_S1024x512⟩,
      ⟨Rect.unit ![0, 1536] ![1024, 512] inb_S1024x4096_S1024x512_0_1536, shapeCast S1024x512 (truncf FTy.bf16 (View.ld x4 (Rect.unit ![0, 1536] ![1024, 512] inb_S1024x4096_S1024x512_0_1536)) bitsLt_bf16_f32) shapeCasts_S1024x512_S1024x512⟩,
      ⟨Rect.unit ![0, 1024] ![1024, 512] inb_S1024x4096_S1024x512_0_1024, shapeCast S1024x512 (truncf FTy.bf16 (View.ld x4 (Rect.unit ![0, 1024] ![1024, 512] inb_S1024x4096_S1024x512_0_1024)) bitsLt_bf16_f32) shapeCasts_S1024x512_S1024x512⟩,
      ⟨Rect.unit ![0, 512] ![1024, 512] inb_S1024x4096_S1024x512_0_512, shapeCast S1024x512 (truncf FTy.bf16 (View.ld x4 (Rect.unit ![0, 512] ![1024, 512] inb_S1024x4096_S1024x512_0_512)) bitsLt_bf16_f32) shapeCasts_S1024x512_S1024x512⟩,
      ⟨Rect.unit ![0, 0] ![1024, 512] inb_S1024x4096_S1024x512_0_0, shapeCast S1024x512 (truncf FTy.bf16 (View.ld x4 (Rect.unit ![0, 0] ![1024, 512] inb_S1024x4096_S1024x512_0_0)) bitsLt_bf16_f32) shapeCasts_S1024x512_S1024x512⟩] (Rect.unit ![0, 2048] ![1024, 1024] inb_S1024x4096_S1024x1024_0_2048).toLoadRect = wb2048 x4 := by
  rw [View.readCov_eq_canon']; rfl

/-- The pieces of the rounded weights that are written before columns 3072 to 4096 are read. -/
abbrev wL3072 (x4 : Vec F S1024x4096 .f32) : List (View.Piece (Elt F) S1024x4096 .bf16) :=
  [⟨Rect.unit ![0, 3584] ![1024, 512] inb_S1024x4096_S1024x512_0_3584, k0_pay8 (View.ld x4 (Rect.unit ![0, 3584] ![1024, 512] inb_S1024x4096_S1024x512_0_3584))⟩,
    ⟨Rect.unit ![0, 3072] ![1024, 512] inb_S1024x4096_S1024x512_0_3072, k0_pay7 (View.ld x4 (Rect.unit ![0, 3072] ![1024, 512] inb_S1024x4096_S1024x512_0_3072))⟩,
    ⟨Rect.unit ![0, 2560] ![1024, 512] inb_S1024x4096_S1024x512_0_2560, k0_pay6 (View.ld x4 (Rect.unit ![0, 2560] ![1024, 512] inb_S1024x4096_S1024x512_0_2560))⟩,
    ⟨Rect.unit ![0, 2048] ![1024, 512] inb_S1024x4096_S1024x512_0_2048, k0_pay5 (View.ld x4 (Rect.unit ![0, 2048] ![1024, 512] inb_S1024x4096_S1024x512_0_2048))⟩,
    ⟨Rect.unit ![0, 1536] ![1024, 512] inb_S1024x4096_S1024x512_0_1536, k0_pay4 (View.ld x4 (Rect.unit ![0, 1536] ![1024, 512] inb_S1024x4096_S1024x512_0_1536))⟩,
    ⟨Rect.unit ![0, 1024] ![1024, 512] inb_S1024x4096_S1024x512_0_1024, k0_pay3 (View.ld x4 (Rect.unit ![0, 1024] ![1024, 512] inb_S1024x4096_S1024x512_0_1024))⟩,
    ⟨Rect.unit ![0, 512] ![1024, 512] inb_S1024x4096_S1024x512_0_512, k0_pay2 (View.ld x4 (Rect.unit ![0, 512] ![1024, 512] inb_S1024x4096_S1024x512_0_512))⟩,
    ⟨Rect.unit ![0, 0] ![1024, 512] inb_S1024x4096_S1024x512_0_0, k0_pay1 (View.ld x4 (Rect.unit ![0, 0] ![1024, 512] inb_S1024x4096_S1024x512_0_0))⟩]

/-- The rounded weights' columns 3072 to 4096. -/
def wb3072 (x4 : Vec F S1024x4096 .f32) : Vec F S1024x1024 .bf16 := View.ld (View.canon (wL3072 x4)) (Rect.unit ![0, 3072] ![1024, 1024] inb_S1024x4096_S1024x1024_0_3072)

theorem rd_wb3072 (arg13 : Memref sig .tc .vmem S1024x4096 .bf16) (x4 : Vec F S1024x4096 .f32) :
    arg13.view.readCov [⟨Rect.unit ![0, 3584] ![1024, 512] inb_S1024x4096_S1024x512_0_3584, k0_pay8 (View.ld x4 (Rect.unit ![0, 3584] ![1024, 512] inb_S1024x4096_S1024x512_0_3584))⟩,
      ⟨Rect.unit ![0, 3072] ![1024, 512] inb_S1024x4096_S1024x512_0_3072, k0_pay7 (View.ld x4 (Rect.unit ![0, 3072] ![1024, 512] inb_S1024x4096_S1024x512_0_3072))⟩,
      ⟨Rect.unit ![0, 2560] ![1024, 512] inb_S1024x4096_S1024x512_0_2560, shapeCast S1024x512 (truncf FTy.bf16 (View.ld x4 (Rect.unit ![0, 2560] ![1024, 512] inb_S1024x4096_S1024x512_0_2560)) bitsLt_bf16_f32) shapeCasts_S1024x512_S1024x512⟩,
      ⟨Rect.unit ![0, 2048] ![1024, 512] inb_S1024x4096_S1024x512_0_2048, shapeCast S1024x512 (truncf FTy.bf16 (View.ld x4 (Rect.unit ![0, 2048] ![1024, 512] inb_S1024x4096_S1024x512_0_2048)) bitsLt_bf16_f32) shapeCasts_S1024x512_S1024x512⟩,
      ⟨Rect.unit ![0, 1536] ![1024, 512] inb_S1024x4096_S1024x512_0_1536, shapeCast S1024x512 (truncf FTy.bf16 (View.ld x4 (Rect.unit ![0, 1536] ![1024, 512] inb_S1024x4096_S1024x512_0_1536)) bitsLt_bf16_f32) shapeCasts_S1024x512_S1024x512⟩,
      ⟨Rect.unit ![0, 1024] ![1024, 512] inb_S1024x4096_S1024x512_0_1024, shapeCast S1024x512 (truncf FTy.bf16 (View.ld x4 (Rect.unit ![0, 1024] ![1024, 512] inb_S1024x4096_S1024x512_0_1024)) bitsLt_bf16_f32) shapeCasts_S1024x512_S1024x512⟩,
      ⟨Rect.unit ![0, 512] ![1024, 512] inb_S1024x4096_S1024x512_0_512, shapeCast S1024x512 (truncf FTy.bf16 (View.ld x4 (Rect.unit ![0, 512] ![1024, 512] inb_S1024x4096_S1024x512_0_512)) bitsLt_bf16_f32) shapeCasts_S1024x512_S1024x512⟩,
      ⟨Rect.unit ![0, 0] ![1024, 512] inb_S1024x4096_S1024x512_0_0, shapeCast S1024x512 (truncf FTy.bf16 (View.ld x4 (Rect.unit ![0, 0] ![1024, 512] inb_S1024x4096_S1024x512_0_0)) bitsLt_bf16_f32) shapeCasts_S1024x512_S1024x512⟩] (Rect.unit ![0, 3072] ![1024, 1024] inb_S1024x4096_S1024x1024_0_3072).toLoadRect = wb3072 x4 := by
  rw [View.readCov_eq_canon']; rfl

section outs

variable [Named F] (c : Dev nD) (i : grid0.Coords) (arg2 : Memref sig .tc .vmem S1x128x1024 .f32) (harg2 : arg2.IsWhole) (arg3 : Memref sig .tc .vmem S1x1024 .f32) (harg3 : arg3.IsWhole) (arg4 : Memref sig .tc .vmem S1x128x1024 .f32) (harg4 : arg4.IsWhole) (arg5 : Memref sig .tc .vmem S1x128x1024 .f32) (harg5 : arg5.IsWhole) (arg6 : Memref sig .tc .vmem S1024x4096 .f32) (harg6 : arg6.IsWhole) (arg7 : Memref sig .tc .vmem S1x128 .f32) (harg7 : arg7.IsWhole) (arg8 : Memref sig .tc .vmem S1x128 .f32) (harg8 : arg8.IsWhole) (arg9 : Memref sig .tc .vmem S1x128x1024 .f32) (harg9 : arg9.IsWhole) (arg10 : Memref sig .tc .vmem S1x128x1024 .f32) (harg10 : arg10.IsWhole) (arg11 : Memref sig .tc .vmem S1x128x1024 .f32) (harg11 : arg11.IsWhole) (arg12 : Memref sig .tc .vmem S1x128x1024 .f32) (harg12 : arg12.IsWhole) (arg13 : Memref sig .tc .vmem S1024x4096 .bf16) (harg13 : arg13.IsWhole) (hc0 : cond0_0 i)
    (x0 : Vec F S1x128x1024 .f32) (x1 : Vec F S1x1024 .f32) (x2 : Vec F S1x128x1024 .f32) (x3 : Vec F S1x128x1024 .f32) (x4 : Vec F S1024x4096 .f32) (x5 : Vec F S1x128 .f32) (x6 : Vec F S1x128 .f32)

/-- The queries. -/
def oB7 (x0 : Vec F S1x128x1024 .f32) (x1 : Vec F S1x1024 .f32) (x2 x3 : Vec F S1x128x1024 .f32) (x4 : Vec F S1024x4096 .f32) (x5 x6 : Vec F S1x128 .f32) : Vec F S1x128x1024 .f32 :=
  View.canon [⟨Rect.unit ![0, 0, 896] ![1, 128, 128] inb_S1x128x1024_S1x128x128_0_0_896, k0_pay22 (k0_pay10 x0 x1 x2 x3 (wb0 x4)) x5⟩,
    ⟨Rect.unit ![0, 0, 768] ![1, 128, 128] inb_S1x128x1024_S1x128x128_0_0_768, k0_pay21 (k0_pay20 (k0_pay10 x0 x1 x2 x3 (wb0 x4))) x5⟩,
    ⟨Rect.unit ![0, 0, 640] ![1, 128, 128] inb_S1x128x1024_S1x128x128_0_0_640, k0_pay19 (k0_pay10 x0 x1 x2 x3 (wb0 x4)) x5⟩,
    ⟨Rect.unit ![0, 0, 512] ![1, 128, 128] inb_S1x128x1024_S1x128x128_0_0_512, k0_pay18 (k0_pay17 (k0_pay10 x0 x1 x2 x3 (wb0 x4))) x5⟩,
    ⟨Rect.unit ![0, 0, 384] ![1, 128, 128] inb_S1x128x1024_S1x128x128_0_0_384, k0_pay16 (k0_pay10 x0 x1 x2 x3 (wb0 x4)) x5⟩,
    ⟨Rect.unit ![0, 0, 256] ![1, 128, 128] inb_S1x128x1024_S1x128x128_0_0_256, k0_pay15 (k0_pay14 (k0_pay10 x0 x1 x2 x3 (wb0 x4))) x5⟩,
    ⟨Rect.unit ![0, 0, 128] ![1, 128, 128] inb_S1x128x1024_S1x128x128_0_0_128, k0_pay13 (k0_pay10 x0 x1 x2 x3 (wb0 x4)) x5⟩,
    ⟨Rect.unit ![0, 0, 0] ![1, 128, 128] inb_S1x128x1024_S1x128x128_0_0_0, k0_pay12 (k0_pay11 x0 x1 x2 x3 (wb0 x4)) x5⟩]

theorem out7 : out0_A_7 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = oB7 x0 x1 x2 x3 x4 x5 x6 := by
  unfold oB7
  frame_open
  simp (disch := decide) only [↓ View.readCov_skip, ↓ View.readCov_cons_toLoadRect, ↓ View.readCov_fill]
  frame_out
  rw [rd_wb0]

/-- The keys. -/
def oB8 (x0 : Vec F S1x128x1024 .f32) (x1 : Vec F S1x1024 .f32) (x2 x3 : Vec F S1x128x1024 .f32) (x4 : Vec F S1024x4096 .f32) (x5 x6 : Vec F S1x128 .f32) : Vec F S1x128x1024 .f32 :=
  View.canon [⟨Rect.unit ![0, 0, 896] ![1, 128, 128] inb_S1x128x1024_S1x128x128_0_0_896, k0_pay40 (k0_pay23 (k0_pay9 x0 x1 x2 x3) (wb1024 x4) (constant S128x1024 .f32 0x00000000#32)) x6⟩,
    ⟨Rect.unit ![0, 0, 768] ![1, 128, 128] inb_S1x128x1024_S1x128x128_0_0_768, k0_pay39 (k0_pay36 (k0_pay23 (k0_pay9 x0 x1 x2 x3) (wb1024 x4) (constant S128x1024 .f32 0x00000000#32))) (k0_pay37 x6) (k0_pay38 (k0_pay23 (k0_pay9 x0 x1 x2 x3) (wb1024 x4) (constant S128x1024 .f32 0x00000000#32)))⟩,
    ⟨Rect.unit ![0, 0, 640] ![1, 128, 128] inb_S1x128x1024_S1x128x128_0_0_640, k0_pay35 (k0_pay23 (k0_pay9 x0 x1 x2 x3) (wb1024 x4) (constant S128x1024 .f32 0x00000000#32)) x6⟩,
    ⟨Rect.unit ![0, 0, 512] ![1, 128, 128] inb_S1x128x1024_S1x128x128_0_0_512, k0_pay34 (k0_pay30 (k0_pay23 (k0_pay9 x0 x1 x2 x3) (wb1024 x4) (constant S128x1024 .f32 0x00000000#32))) (k0_pay31 x6) (k0_pay32 (k0_pay23 (k0_pay9 x0 x1 x2 x3) (wb1024 x4) (constant S128x1024 .f32 0x00000000#32))) k0_pay33⟩,
    ⟨Rect.unit ![0, 0, 384] ![1, 128, 128] inb_S1x128x1024_S1x128x128_0_0_384, k0_pay29 (k0_pay23 (k0_pay9 x0 x1 x2 x3) (wb1024 x4) (constant S128x1024 .f32 0x00000000#32)) x6⟩,
    ⟨Rect.unit ![0, 0, 256] ![1, 128, 128] inb_S1x128x1024_S1x128x128_0_0_256, k0_pay28 (k0_pay26 (k0_pay9 x0 x1 x2 x3) (wb1024 x4) (constant S128x1024 .f32 0x00000000#32)) (k0_pay27 x6)⟩,
    ⟨Rect.unit ![0, 0, 128] ![1, 128, 128] inb_S1x128x1024_S1x128x128_0_0_128, k0_pay25 (k0_pay9 x0 x1 x2 x3) (wb1024 x4) (constant S128x1024 .f32 0x00000000#32) x6⟩,
    ⟨Rect.unit ![0, 0, 0] ![1, 128, 128] inb_S1x128x1024_S1x128x128_0_0_0, k0_pay24 (k0_pay9 x0 x1 x2 x3) (wb1024 x4) (constant S128x1024 .f32 0x00000000#32) x6⟩]

theorem out8 : out0_A_8 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = oB8 x0 x1 x2 x3 x4 x5 x6 := by
  unfold oB8
  frame_open
  simp (disch := decide) only [↓ View.readCov_skip, ↓ View.readCov_cons_toLoadRect, ↓ View.readCov_fill]
  frame_out
  rw [rd_wb1024]

/-- The values. -/
def oB9 (x0 : Vec F S1x128x1024 .f32) (x1 : Vec F S1x1024 .f32) (x2 x3 : Vec F S1x128x1024 .f32) (x4 : Vec F S1024x4096 .f32) (x5 x6 : Vec F S1x128 .f32) : Vec F S1x128x1024 .f32 :=
  k0_pay41 (k0_pay9 x0 x1 x2 x3) (wb2048 x4)

theorem out9 : out0_A_9 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = oB9 x0 x1 x2 x3 x4 x5 x6 := by
  unfold oB9
  frame_open
  simp (disch := decide) only [↓ View.readCov_skip, ↓ View.readCov_cons_toLoadRect, ↓ View.readCov_fill]
  frame_out
  rw [rd_wb2048]

/-- The gates. -/
def oB10 (x0 : Vec F S1x128x1024 .f32) (x1 : Vec F S1x1024 .f32) (x2 x3 : Vec F S1x128x1024 .f32) (x4 : Vec F S1024x4096 .f32) (x5 x6 : Vec F S1x128 .f32) : Vec F S1x128x1024 .f32 :=
  k0_pay42 (k0_pay9 x0 x1 x2 x3) (wb3072 x4)

theorem out10 : out0_A_10 c i arg2 harg2 arg3 harg3 arg4 harg4 arg5 harg5 arg6 harg6 arg7 harg7 arg8 harg8 arg9 harg9 arg10 harg10 arg11 harg11 arg12 harg12 arg13 harg13 hc0 x0 x1 x2 x3 x4 x5 x6 = oB10 x0 x1 x2 x3 x4 x5 x6 := by
  unfold oB10
  frame_open
  simp (disch := decide) only [↓ View.readCov_skip, ↓ View.readCov_cons_toLoadRect, ↓ View.readCov_fill]
  frame_out
  rw [rd_wb3072]

end outs

end Cert.Kernel4Ideal.Moba

end
-- ==== Proof.Moba.Entry.lean ====
/- One entry of each output of the attention's projection, from the blocks its point reads. -/
module

public import proofs.«01_k».proof.Proof.Moba.Open
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel4Ideal.Moba

open Idealize.ShloMosaic Idealize.SL.Sem Cert.Kernel4Ideal Cert.Kernel4Ideal.Gen Cert.Kernel4Ideal.Value

/-- The normed and modulated token. -/
def hAt (x : S1x128x1024.Idx → EReal) (g : Fin 1024 → EReal) (sh sc : S1x128x1024.Idx → EReal) (s : Fin 128) (k : Fin 1024) : EReal :=
  x (ix3 0 s k) * Ideal.rsqrt (Ideal.div (∑ j : Fin 1024, x (ix3 0 s j) * x (ix3 0 s j)) (Ideal.ofBits .f32 0x44800000#32) + Ideal.ofBits .f32 0x358637BD#32)
    * g k * (1 + sc (ix3 0 s k)) + sh (ix3 0 s k)

/-- One column of the token's projection. -/
def pAt (h : Fin 1024 → EReal) (w : S1024x4096.Idx → EReal) (o : ℕ) (ho : o + 1024 ≤ 4096) (b : Fin 1024) : EReal :=
  ∑ k : Fin 1024, h k * w (ix2 k ⟨o + b, by omega⟩)

/-- A head's normed column: the head begins at column `o`. -/
def nAt (p : Fin 1024 → EReal) (g : Fin 128 → EReal) (o : ℕ) (ho : o + 128 ≤ 1024) (d : Fin 128) : EReal :=
  p ⟨o + d, by omega⟩ * Ideal.rsqrt (Ideal.div (∑ j : Fin 128, p ⟨o + j, by omega⟩ * p ⟨o + j, by omega⟩) (Ideal.ofBits .f32 0x43000000#32) + Ideal.ofBits .f32 0x358637BD#32) * g d

theorem h_apply (v5 v7 v9 v11) (s : Fin 128) (k : Fin 1024) : k0_pay9 (F := Ideal) v5 v7 v9 v11 (ix2 s k) = hAt v5 (fun k => v7 (ix2 0 k)) v9 v11 s k := by
  pointwise [k0_pay9, hAt]

theorem dot_q (v5 v7 v9 v11 w) (s : Fin 128) (b : Fin 1024) : k0_pay10 (F := Ideal) v5 v7 v9 v11 w (ix2 s b) = ∑ k : Fin 1024, k0_pay9 (F := Ideal) v5 v7 v9 v11 (ix2 s k) * w (ix2 k b) := by
  pointwise [k0_pay10]

theorem dot_k (h w) (s : Fin 128) (b : Fin 1024) : k0_pay23 (F := Ideal) h w (constant S128x1024 .f32 0x00000000#32) (ix2 s b) = ∑ k : Fin 1024, h (ix2 s k) * w (ix2 k b) := by
  pointwise [k0_pay23]

theorem dot_v (h w) (s : Fin 128) (b : Fin 1024) : k0_pay41 (F := Ideal) h w (ix3 0 s b) = ∑ k : Fin 1024, h (ix2 s k) * w (ix2 k b) := by
  pointwise [k0_pay41]

theorem dot_g (h w) (s : Fin 128) (b : Fin 1024) : k0_pay42 (F := Ideal) h w (ix3 0 s b) = ∑ k : Fin 1024, h (ix2 s k) * w (ix2 k b) := by
  pointwise [k0_pay42]

theorem wb0_cover (x4 : Vec Ideal S1024x4096 .f32) (a b : Fin 1024) : ∃ p ∈ wL0 x4, ix2 a ⟨0 + b, by omega⟩ ∈ p.1.set := by
  have hb := b.isLt
  have ha := a.isLt
  by_cases h : (b : ℕ) < 512
  · refine ⟨_, List.mem_cons_of_mem _ List.mem_cons_self, (Rect.mem_set_unit (inb := inb_S1024x4096_S1024x512_0_0)).2 fun d => ?_⟩
    fin_cases d
    · exact ⟨Nat.zero_le _, show (a : ℕ) < 0 + 1024 by omega⟩
    · exact ⟨show 0 ≤ 0 + (b : ℕ) by omega, show 0 + (b : ℕ) < 0 + 512 by omega⟩
  · refine ⟨_, List.mem_cons_self, (Rect.mem_set_unit (inb := inb_S1024x4096_S1024x512_0_512)).2 fun d => ?_⟩
    fin_cases d
    · exact ⟨Nat.zero_le _, show (a : ℕ) < 0 + 1024 by omega⟩
    · exact ⟨show 512 ≤ 0 + (b : ℕ) by omega, show 0 + (b : ℕ) < 512 + 512 by omega⟩

theorem wb0_apply (x4 : Vec Ideal S1024x4096 .f32) (a b : Fin 1024) : wb0 x4 (ix2 a b) = x4 (ix2 a ⟨0 + b, by omega⟩) := by
  unfold wb0
  refine (View.ld_unit_apply_of (View.canon (wL0 x4)) _ _ _ (ix2 a b) (ix2 a ⟨0 + b, by omega⟩) (by intro d; fin_cases d <;> simp)).trans ?_
  canon_tiles x hx using wb0_cover x4 a b
  all_goals
    refine (congrFun (shapeCast_self (α := EReal) _ shapeCasts_S1024x512_S1024x512) x).trans <| View.ld_unit_apply_of x4 _ _ _ x (ix2 a ⟨0 + b, by omega⟩) fun d => ?_
    fin_cases d
    · simpa using hx0
    · first | exact hx1 | simpa using hx1

theorem wb1024_cover (x4 : Vec Ideal S1024x4096 .f32) (a b : Fin 1024) : ∃ p ∈ wL1024 x4, ix2 a ⟨1024 + b, by omega⟩ ∈ p.1.set := by
  have hb := b.isLt
  have ha := a.isLt
  by_cases h : (b : ℕ) < 512
  · refine ⟨_, List.mem_cons_of_mem _ List.mem_cons_self, (Rect.mem_set_unit (inb := inb_S1024x4096_S1024x512_0_1024)).2 fun d => ?_⟩
    fin_cases d
    · exact ⟨Nat.zero_le _, show (a : ℕ) < 0 + 1024 by omega⟩
    · exact ⟨show 1024 ≤ 1024 + (b : ℕ) by omega, show 1024 + (b : ℕ) < 1024 + 512 by omega⟩
  · refine ⟨_, List.mem_cons_self, (Rect.mem_set_unit (inb := inb_S1024x4096_S1024x512_0_1536)).2 fun d => ?_⟩
    fin_cases d
    · exact ⟨Nat.zero_le _, show (a : ℕ) < 0 + 1024 by omega⟩
    · exact ⟨show 1536 ≤ 1024 + (b : ℕ) by omega, show 1024 + (b : ℕ) < 1536 + 512 by omega⟩

theorem wb1024_apply (x4 : Vec Ideal S1024x4096 .f32) (a b : Fin 1024) : wb1024 x4 (ix2 a b) = x4 (ix2 a ⟨1024 + b, by omega⟩) := by
  unfold wb1024
  refine (View.ld_unit_apply_of (View.canon (wL1024 x4)) _ _ _ (ix2 a b) (ix2 a ⟨1024 + b, by omega⟩) (by intro d; fin_cases d <;> simp)).trans ?_
  canon_tiles x hx using wb1024_cover x4 a b
  all_goals
    refine (congrFun (shapeCast_self (α := EReal) _ shapeCasts_S1024x512_S1024x512) x).trans <| View.ld_unit_apply_of x4 _ _ _ x (ix2 a ⟨1024 + b, by omega⟩) fun d => ?_
    fin_cases d
    · simpa using hx0
    · first | exact hx1 | simpa using hx1

theorem wb2048_cover (x4 : Vec Ideal S1024x4096 .f32) (a b : Fin 1024) : ∃ p ∈ wL2048 x4, ix2 a ⟨2048 + b, by omega⟩ ∈ p.1.set := by
  have hb := b.isLt
  have ha := a.isLt
  by_cases h : (b : ℕ) < 512
  · refine ⟨_, List.mem_cons_of_mem _ List.mem_cons_self, (Rect.mem_set_unit (inb := inb_S1024x4096_S1024x512_0_2048)).2 fun d => ?_⟩
    fin_cases d
    · exact ⟨Nat.zero_le _, show (a : ℕ) < 0 + 1024 by omega⟩
    · exact ⟨show 2048 ≤ 2048 + (b : ℕ) by omega, show 2048 + (b : ℕ) < 2048 + 512 by omega⟩
  · refine ⟨_, List.mem_cons_self, (Rect.mem_set_unit (inb := inb_S1024x4096_S1024x512_0_2560)).2 fun d => ?_⟩
    fin_cases d
    · exact ⟨Nat.zero_le _, show (a : ℕ) < 0 + 1024 by omega⟩
    · exact ⟨show 2560 ≤ 2048 + (b : ℕ) by omega, show 2048 + (b : ℕ) < 2560 + 512 by omega⟩

theorem wb2048_apply (x4 : Vec Ideal S1024x4096 .f32) (a b : Fin 1024) : wb2048 x4 (ix2 a b) = x4 (ix2 a ⟨2048 + b, by omega⟩) := by
  unfold wb2048
  refine (View.ld_unit_apply_of (View.canon (wL2048 x4)) _ _ _ (ix2 a b) (ix2 a ⟨2048 + b, by omega⟩) (by intro d; fin_cases d <;> simp)).trans ?_
  canon_tiles x hx using wb2048_cover x4 a b
  all_goals
    refine (congrFun (shapeCast_self (α := EReal) _ shapeCasts_S1024x512_S1024x512) x).trans <| View.ld_unit_apply_of x4 _ _ _ x (ix2 a ⟨2048 + b, by omega⟩) fun d => ?_
    fin_cases d
    · simpa using hx0
    · first | exact hx1 | simpa using hx1

theorem wb3072_cover (x4 : Vec Ideal S1024x4096 .f32) (a b : Fin 1024) : ∃ p ∈ wL3072 x4, ix2 a ⟨3072 + b, by omega⟩ ∈ p.1.set := by
  have hb := b.isLt
  have ha := a.isLt
  by_cases h : (b : ℕ) < 512
  · refine ⟨_, List.mem_cons_of_mem _ List.mem_cons_self, (Rect.mem_set_unit (inb := inb_S1024x4096_S1024x512_0_3072)).2 fun d => ?_⟩
    fin_cases d
    · exact ⟨Nat.zero_le _, show (a : ℕ) < 0 + 1024 by omega⟩
    · exact ⟨show 3072 ≤ 3072 + (b : ℕ) by omega, show 3072 + (b : ℕ) < 3072 + 512 by omega⟩
  · refine ⟨_, List.mem_cons_self, (Rect.mem_set_unit (inb := inb_S1024x4096_S1024x512_0_3584)).2 fun d => ?_⟩
    fin_cases d
    · exact ⟨Nat.zero_le _, show (a : ℕ) < 0 + 1024 by omega⟩
    · exact ⟨show 3584 ≤ 3072 + (b : ℕ) by omega, show 3072 + (b : ℕ) < 3584 + 512 by omega⟩

theorem wb3072_apply (x4 : Vec Ideal S1024x4096 .f32) (a b : Fin 1024) : wb3072 x4 (ix2 a b) = x4 (ix2 a ⟨3072 + b, by omega⟩) := by
  unfold wb3072
  refine (View.ld_unit_apply_of (View.canon (wL3072 x4)) _ _ _ (ix2 a b) (ix2 a ⟨3072 + b, by omega⟩) (by intro d; fin_cases d <;> simp)).trans ?_
  canon_tiles x hx using wb3072_cover x4 a b
  all_goals
    refine (congrFun (shapeCast_self (α := EReal) _ shapeCasts_S1024x512_S1024x512) x).trans <| View.ld_unit_apply_of x4 _ _ _ x (ix2 a ⟨3072 + b, by omega⟩) fun d => ?_
    fin_cases d
    · simpa using hx0
    · first | exact hx1 | simpa using hx1

theorem scale_eq : (Named.named κ "rsqrt_head_dim" 0x3DB504F3#32 : Ideal .f32) = (((Real.sqrt 128)⁻¹ : ℝ) : EReal) :=
  IdealRules.named_const.ideal_named_scalar (φ := .f32) κ "rsqrt_head_dim" 0x3DB504F3#32 _ rfl

theorem q0_apply (v5 v7 v9 v11 w g) (s d : Fin 128) : k0_pay12 (F := Ideal) (k0_pay11 v5 v7 v9 v11 w) g (ix3 0 s d) = nAt (fun b => k0_pay10 (F := Ideal) v5 v7 v9 v11 w (ix2 s b)) (fun d => g (ix2 0 d)) 0 (by decide) d * (((Real.sqrt 128)⁻¹ : ℝ) : EReal) := by
  pointwise [k0_pay12, k0_pay11, nAt]
  exact congrArg (_ * ·) scale_eq

theorem q1_apply (p g) (s d : Fin 128) : k0_pay13 (F := Ideal) p g (ix3 0 s d) = nAt (fun b => p (ix2 s b)) (fun d => g (ix2 0 d)) 128 (by decide) d * (((Real.sqrt 128)⁻¹ : ℝ) : EReal) := by
  pointwise [k0_pay13, nAt]
  exact congrArg (_ * ·) scale_eq

theorem q2_apply (p g) (s d : Fin 128) : k0_pay15 (F := Ideal) (k0_pay14 p) g (ix3 0 s d) = nAt (fun b => p (ix2 s b)) (fun d => g (ix2 0 d)) 256 (by decide) d * (((Real.sqrt 128)⁻¹ : ℝ) : EReal) := by
  pointwise [k0_pay15, k0_pay14, nAt]
  exact congrArg (_ * ·) scale_eq

theorem q3_apply (p g) (s d : Fin 128) : k0_pay16 (F := Ideal) p g (ix3 0 s d) = nAt (fun b => p (ix2 s b)) (fun d => g (ix2 0 d)) 384 (by decide) d * (((Real.sqrt 128)⁻¹ : ℝ) : EReal) := by
  pointwise [k0_pay16, nAt]
  exact congrArg (_ * ·) scale_eq

theorem q4_apply (p g) (s d : Fin 128) : k0_pay18 (F := Ideal) (k0_pay17 p) g (ix3 0 s d) = nAt (fun b => p (ix2 s b)) (fun d => g (ix2 0 d)) 512 (by decide) d * (((Real.sqrt 128)⁻¹ : ℝ) : EReal) := by
  pointwise [k0_pay18, k0_pay17, nAt]
  exact congrArg (_ * ·) scale_eq

theorem q5_apply (p g) (s d : Fin 128) : k0_pay19 (F := Ideal) p g (ix3 0 s d) = nAt (fun b => p (ix2 s b)) (fun d => g (ix2 0 d)) 640 (by decide) d * (((Real.sqrt 128)⁻¹ : ℝ) : EReal) := by
  pointwise [k0_pay19, nAt]
  exact congrArg (_ * ·) scale_eq

theorem q6_apply (p g) (s d : Fin 128) : k0_pay21 (F := Ideal) (k0_pay20 p) g (ix3 0 s d) = nAt (fun b => p (ix2 s b)) (fun d => g (ix2 0 d)) 768 (by decide) d * (((Real.sqrt 128)⁻¹ : ℝ) : EReal) := by
  pointwise [k0_pay21, k0_pay20, nAt]
  exact congrArg (_ * ·) scale_eq

theorem q7_apply (p g) (s d : Fin 128) : k0_pay22 (F := Ideal) p g (ix3 0 s d) = nAt (fun b => p (ix2 s b)) (fun d => g (ix2 0 d)) 896 (by decide) d * (((Real.sqrt 128)⁻¹ : ℝ) : EReal) := by
  pointwise [k0_pay22, nAt]
  exact congrArg (_ * ·) scale_eq

theorem k0_apply (h w g) (s d : Fin 128) : k0_pay24 (F := Ideal) h w (constant S128x1024 .f32 0x00000000#32) g (ix3 0 s d) = nAt (fun b => k0_pay23 (F := Ideal) h w (constant S128x1024 .f32 0x00000000#32) (ix2 s b)) (fun d => g (ix2 0 d)) 0 (by decide) d := by
  pointwise [k0_pay24, nAt]

theorem k1_apply (h w g) (s d : Fin 128) : k0_pay25 (F := Ideal) h w (constant S128x1024 .f32 0x00000000#32) g (ix3 0 s d) = nAt (fun b => k0_pay23 (F := Ideal) h w (constant S128x1024 .f32 0x00000000#32) (ix2 s b)) (fun d => g (ix2 0 d)) 128 (by decide) d := by
  pointwise [k0_pay25, nAt]

theorem k2_apply (h w g) (s d : Fin 128) : k0_pay28 (F := Ideal) (k0_pay26 h w (constant S128x1024 .f32 0x00000000#32)) (k0_pay27 g) (ix3 0 s d) = nAt (fun b => k0_pay23 (F := Ideal) h w (constant S128x1024 .f32 0x00000000#32) (ix2 s b)) (fun d => g (ix2 0 d)) 256 (by decide) d := by
  pointwise [k0_pay28, k0_pay26, k0_pay27, nAt]

theorem k3_apply (p g) (s d : Fin 128) : k0_pay29 (F := Ideal) p g (ix3 0 s d) = nAt (fun b => p (ix2 s b)) (fun d => g (ix2 0 d)) 384 (by decide) d := by
  pointwise [k0_pay29, nAt]

theorem k4_apply (p g) (s d : Fin 128) : k0_pay34 (F := Ideal) (k0_pay30 p) (k0_pay31 g) (k0_pay32 p) k0_pay33 (ix3 0 s d) = nAt (fun b => p (ix2 s b)) (fun d => g (ix2 0 d)) 512 (by decide) d := by
  pointwise [k0_pay34, k0_pay30, k0_pay31, k0_pay32, k0_pay33, nAt]

theorem k5_apply (p g) (s d : Fin 128) : k0_pay35 (F := Ideal) p g (ix3 0 s d) = nAt (fun b => p (ix2 s b)) (fun d => g (ix2 0 d)) 640 (by decide) d := by
  pointwise [k0_pay35, nAt]

theorem k6_apply (p g) (s d : Fin 128) : k0_pay39 (F := Ideal) (k0_pay36 p) (k0_pay37 g) (k0_pay38 p) (ix3 0 s d) = nAt (fun b => p (ix2 s b)) (fun d => g (ix2 0 d)) 768 (by decide) d := by
  pointwise [k0_pay39, k0_pay36, k0_pay37, k0_pay38, nAt]

theorem k7_apply (p g) (s d : Fin 128) : k0_pay40 (F := Ideal) p g (ix3 0 s d) = nAt (fun b => p (ix2 s b)) (fun d => g (ix2 0 d)) 896 (by decide) d := by
  pointwise [k0_pay40, nAt]

/-- A head's first column, read at two equal numbers. -/
theorem nAt_congr (p g) {o o' : ℕ} (e : o = o') (ho ho') (d : Fin 128) : nAt p g o ho d = nAt p g o' ho' d := by subst e; rfl

theorem pc_at (f : S1x128x128.Idx → EReal) (x : S1x128x128.Idx) (s d : Fin 128) (e1 : (s : ℕ) = x 1) (e2 : (d : ℕ) = x 2) : f x = f (ix3 0 s d) := by
  congr 1
  funext a
  fin_cases a
  · exact Subsingleton.elim (α := Fin 1) _ _
  · exact Fin.ext e1.symm
  · exact Fin.ext e2.symm

variable (x0 : Vec Ideal S1x128x1024 .f32) (x1 : Vec Ideal S1x1024 .f32) (x2 x3 : Vec Ideal S1x128x1024 .f32) (x4 : Vec Ideal S1024x4096 .f32) (x5 x6 : Vec Ideal S1x128 .f32)

theorem qP_apply (s : Fin 128) (b : Fin 1024) : k0_pay10 (F := Ideal) x0 x1 x2 x3 (wb0 x4) (ix2 s b)
    = pAt (hAt x0 (fun k => x1 (ix2 0 k)) x2 x3 s) x4 0 (by decide) b := by
  refine (dot_q x0 x1 x2 x3 (wb0 x4) s b).trans (Finset.sum_congr rfl fun k _ => ?_)
  rw [h_apply, wb0_apply]

theorem oq_apply (s : Fin 128) (h : Fin 8) (d : Fin 128) : oB7 x0 x1 x2 x3 x4 x5 x6 (ix3 0 s ⟨128 * h + d, by omega⟩)
    = nAt (pAt (hAt x0 (fun k => x1 (ix2 0 k)) x2 x3 s) x4 0 (by decide)) (fun d => x5 (ix2 0 d)) (128 * h) (by omega) d * (((Real.sqrt 128)⁻¹ : ℝ) : EReal) := by
  have hp : pAt (hAt x0 (fun k => x1 (ix2 0 k)) x2 x3 s) x4 0 (by decide) = _ := funext fun b => (qP_apply x0 x1 x2 x3 x4 s b).symm
  have hh := h.isLt
  have hd := d.isLt
  rw [hp]
  unfold oB7
  canon_tiles x hx
  · replace hx1 : (s : ℕ) = x 1 := hx1
    replace hx2 : 128 * (h : ℕ) + d = 896 + x 2 := hx2
    have hx3 : (x 2 : ℕ) < 128 := (x 2).isLt
    refine (pc_at _ x s d (by omega) (by omega)).trans ((q7_apply _ x5 s d).trans (congrArg (· * _) (nAt_congr _ _ (by omega) _ _ d)))
  · replace hx1 : (s : ℕ) = x 1 := hx1
    replace hx2 : 128 * (h : ℕ) + d = 768 + x 2 := hx2
    have hx3 : (x 2 : ℕ) < 128 := (x 2).isLt
    refine (pc_at _ x s d (by omega) (by omega)).trans ((q6_apply _ x5 s d).trans (congrArg (· * _) (nAt_congr _ _ (by omega) _ _ d)))
  · replace hx1 : (s : ℕ) = x 1 := hx1
    replace hx2 : 128 * (h : ℕ) + d = 640 + x 2 := hx2
    have hx3 : (x 2 : ℕ) < 128 := (x 2).isLt
    refine (pc_at _ x s d (by omega) (by omega)).trans ((q5_apply _ x5 s d).trans (congrArg (· * _) (nAt_congr _ _ (by omega) _ _ d)))
  · replace hx1 : (s : ℕ) = x 1 := hx1
    replace hx2 : 128 * (h : ℕ) + d = 512 + x 2 := hx2
    have hx3 : (x 2 : ℕ) < 128 := (x 2).isLt
    refine (pc_at _ x s d (by omega) (by omega)).trans ((q4_apply _ x5 s d).trans (congrArg (· * _) (nAt_congr _ _ (by omega) _ _ d)))
  · replace hx1 : (s : ℕ) = x 1 := hx1
    replace hx2 : 128 * (h : ℕ) + d = 384 + x 2 := hx2
    have hx3 : (x 2 : ℕ) < 128 := (x 2).isLt
    refine (pc_at _ x s d (by omega) (by omega)).trans ((q3_apply _ x5 s d).trans (congrArg (· * _) (nAt_congr _ _ (by omega) _ _ d)))
  · replace hx1 : (s : ℕ) = x 1 := hx1
    replace hx2 : 128 * (h : ℕ) + d = 256 + x 2 := hx2
    have hx3 : (x 2 : ℕ) < 128 := (x 2).isLt
    refine (pc_at _ x s d (by omega) (by omega)).trans ((q2_apply _ x5 s d).trans (congrArg (· * _) (nAt_congr _ _ (by omega) _ _ d)))
  · replace hx1 : (s : ℕ) = x 1 := hx1
    replace hx2 : 128 * (h : ℕ) + d = 128 + x 2 := hx2
    have hx3 : (x 2 : ℕ) < 128 := (x 2).isLt
    refine (pc_at _ x s d (by omega) (by omega)).trans ((q1_apply _ x5 s d).trans (congrArg (· * _) (nAt_congr _ _ (by omega) _ _ d)))
  · replace hx1 : (s : ℕ) = x 1 := hx1
    replace hx2 : 128 * (h : ℕ) + d = x 2 := hx2
    have hx3 : (x 2 : ℕ) < 128 := (x 2).isLt
    refine (pc_at _ x s d (by omega) (by omega)).trans ((q0_apply x0 x1 x2 x3 (wb0 x4) x5 s d).trans (congrArg (· * _) (nAt_congr _ _ (by omega) _ _ d)))

theorem kP_apply (s : Fin 128) (b : Fin 1024) : k0_pay23 (F := Ideal) (k0_pay9 x0 x1 x2 x3) (wb1024 x4) (constant S128x1024 .f32 0x00000000#32) (ix2 s b)
    = pAt (hAt x0 (fun k => x1 (ix2 0 k)) x2 x3 s) x4 1024 (by decide) b := by
  refine (dot_k (k0_pay9 x0 x1 x2 x3) (wb1024 x4) s b).trans (Finset.sum_congr rfl fun k _ => ?_)
  rw [h_apply, wb1024_apply]

theorem ok_apply (s : Fin 128) (h : Fin 8) (d : Fin 128) : oB8 x0 x1 x2 x3 x4 x5 x6 (ix3 0 s ⟨128 * h + d, by omega⟩)
    = nAt (pAt (hAt x0 (fun k => x1 (ix2 0 k)) x2 x3 s) x4 1024 (by decide)) (fun d => x6 (ix2 0 d)) (128 * h) (by omega) d := by
  have hp : pAt (hAt x0 (fun k => x1 (ix2 0 k)) x2 x3 s) x4 1024 (by decide) = _ := funext fun b => (kP_apply x0 x1 x2 x3 x4 s b).symm
  have hh := h.isLt
  have hd := d.isLt
  rw [hp]
  unfold oB8
  canon_tiles x hx
  · replace hx1 : (s : ℕ) = x 1 := hx1
    replace hx2 : 128 * (h : ℕ) + d = 896 + x 2 := hx2
    have hx3 : (x 2 : ℕ) < 128 := (x 2).isLt
    refine (pc_at _ x s d (by omega) (by omega)).trans ((k7_apply _ x6 s d).trans ((nAt_congr _ _ (by omega) _ _ d)))
  · replace hx1 : (s : ℕ) = x 1 := hx1
    replace hx2 : 128 * (h : ℕ) + d = 768 + x 2 := hx2
    have hx3 : (x 2 : ℕ) < 128 := (x 2).isLt
    refine (pc_at _ x s d (by omega) (by omega)).trans ((k6_apply _ x6 s d).trans ((nAt_congr _ _ (by omega) _ _ d)))
  · replace hx1 : (s : ℕ) = x 1 := hx1
    replace hx2 : 128 * (h : ℕ) + d = 640 + x 2 := hx2
    have hx3 : (x 2 : ℕ) < 128 := (x 2).isLt
    refine (pc_at _ x s d (by omega) (by omega)).trans ((k5_apply _ x6 s d).trans ((nAt_congr _ _ (by omega) _ _ d)))
  · replace hx1 : (s : ℕ) = x 1 := hx1
    replace hx2 : 128 * (h : ℕ) + d = 512 + x 2 := hx2
    have hx3 : (x 2 : ℕ) < 128 := (x 2).isLt
    refine (pc_at _ x s d (by omega) (by omega)).trans ((k4_apply _ x6 s d).trans ((nAt_congr _ _ (by omega) _ _ d)))
  · replace hx1 : (s : ℕ) = x 1 := hx1
    replace hx2 : 128 * (h : ℕ) + d = 384 + x 2 := hx2
    have hx3 : (x 2 : ℕ) < 128 := (x 2).isLt
    refine (pc_at _ x s d (by omega) (by omega)).trans ((k3_apply _ x6 s d).trans ((nAt_congr _ _ (by omega) _ _ d)))
  · replace hx1 : (s : ℕ) = x 1 := hx1
    replace hx2 : 128 * (h : ℕ) + d = 256 + x 2 := hx2
    have hx3 : (x 2 : ℕ) < 128 := (x 2).isLt
    refine (pc_at _ x s d (by omega) (by omega)).trans ((k2_apply _ _ x6 s d).trans ((nAt_congr _ _ (by omega) _ _ d)))
  · replace hx1 : (s : ℕ) = x 1 := hx1
    replace hx2 : 128 * (h : ℕ) + d = 128 + x 2 := hx2
    have hx3 : (x 2 : ℕ) < 128 := (x 2).isLt
    refine (pc_at _ x s d (by omega) (by omega)).trans ((k1_apply _ _ x6 s d).trans ((nAt_congr _ _ (by omega) _ _ d)))
  · replace hx1 : (s : ℕ) = x 1 := hx1
    replace hx2 : 128 * (h : ℕ) + d = x 2 := hx2
    have hx3 : (x 2 : ℕ) < 128 := (x 2).isLt
    refine (pc_at _ x s d (by omega) (by omega)).trans ((k0_apply _ _ x6 s d).trans ((nAt_congr _ _ (by omega) _ _ d)))

theorem ov_apply (s : Fin 128) (b : Fin 1024) : oB9 x0 x1 x2 x3 x4 x5 x6 (ix3 0 s b) = pAt (hAt x0 (fun k => x1 (ix2 0 k)) x2 x3 s) x4 2048 (by decide) b := by
  refine (dot_v (k0_pay9 x0 x1 x2 x3) (wb2048 x4) s b).trans (Finset.sum_congr rfl fun k _ => ?_)
  rw [h_apply, wb2048_apply]

theorem og_apply (s : Fin 128) (b : Fin 1024) : oB10 x0 x1 x2 x3 x4 x5 x6 (ix3 0 s b) = pAt (hAt x0 (fun k => x1 (ix2 0 k)) x2 x3 s) x4 3072 (by decide) b := by
  refine (dot_g (k0_pay9 x0 x1 x2 x3) (wb3072 x4) s b).trans (Finset.sum_congr rfl fun k _ => ?_)
  rw [h_apply, wb3072_apply]

end Cert.Kernel4Ideal.Moba

end
-- ==== Proof.Moba.Point.lean ====
/- The arrays that the attention's projection of the sample leaves. -/
module

public import proofs.«01_k».proof.Proof.Moba.Entry

@[expose] public section

set_option maxRecDepth 16384

noncomputable section

namespace Cert.Kernel4Ideal.Moba

open Idealize.ShloMosaic Idealize.SL.Sem Cert.Kernel4Ideal Cert.Kernel4Ideal.Gen Cert.Kernel4Ideal.Value

/-- An index of a single row is its token and column. -/
theorem idx_eq (y : S1x128x1024.Idx) : y = ix3 0 (y 1) (y 2) := by
  funext a
  fin_cases a
  · exact Subsingleton.elim (α := Fin 1) _ _
  · rfl
  · rfl

/-- One entry of the queries. -/
def qAt (x : S1x128x1024.Idx → EReal) (g : S1024.Idx → EReal) (sh sc : S1x128x1024.Idx → EReal) (w : S1024x4096.Idx → EReal) (qg : S128.Idx → EReal) (s : Fin 128) (h : Fin 8) (d : Fin 128) : EReal :=
  nAt (pAt (hAt x (fun k => g (ix1 k)) sh sc s) w 0 (by decide)) (fun d => qg (ix1 d)) (128 * h) (by omega) d * (((Real.sqrt 128)⁻¹ : ℝ) : EReal)

/-- One entry of the keys. -/
def kAt (x : S1x128x1024.Idx → EReal) (g : S1024.Idx → EReal) (sh sc : S1x128x1024.Idx → EReal) (w : S1024x4096.Idx → EReal) (kg : S128.Idx → EReal) (s : Fin 128) (h : Fin 8) (d : Fin 128) : EReal :=
  nAt (pAt (hAt x (fun k => g (ix1 k)) sh sc s) w 1024 (by decide)) (fun d => kg (ix1 d)) (128 * h) (by omega) d

/-- One entry of the values (`o` is 2048) or of the gates (`o` is 3072). -/
def vAt (x : S1x128x1024.Idx → EReal) (g : S1024.Idx → EReal) (sh sc : S1x128x1024.Idx → EReal) (w : S1024x4096.Idx → EReal) (o : ℕ) (ho : o + 1024 ≤ 4096) (s : Fin 128) (b : Fin 1024) : EReal :=
  pAt (hAt x (fun k => g (ix1 k)) sh sc s) w o ho b

/-- A column's head. -/
abbrev hd (b : Fin 1024) : Fin 8 := ⟨(b : ℕ) / 128, by omega⟩
/-- A column's place in its head. -/
abbrev dm (b : Fin 1024) : Fin 128 := ⟨(b : ℕ) % 128, by omega⟩

theorem col_eq (b : Fin 1024) : b = ⟨128 * (hd b : ℕ) + dm b, by dsimp only; omega⟩ := Fin.ext (by dsimp only; omega)

variable (m : (l : Loc nD τ sig) → Buf (Elt Ideal) l) (c : Dev nD) (t : Fin cfg0.N)

/-- The sample. -/
abbrev arg0 : FVec Ideal S1x128x1024 .f32 := m ((c.tc : Thread nD τ).loc main_arg0)
/-- The norm's gains. -/
abbrev arg1 : FVec Ideal S1024 .f32 := m ((c.tc : Thread nD τ).loc main_arg1)
/-- The shifts. -/
abbrev arg2 : FVec Ideal S1x128x1024 .f32 := m ((c.tc : Thread nD τ).loc main_arg2)
/-- The scales. -/
abbrev arg3 : FVec Ideal S1x128x1024 .f32 := m ((c.tc : Thread nD τ).loc main_arg3)
/-- The weights. -/
abbrev arg4 : FVec Ideal S1024x4096 .f32 := m ((c.tc : Thread nD τ).loc main_arg4)
/-- The queries' gains. -/
abbrev arg5 : FVec Ideal S128 .f32 := m ((c.tc : Thread nD τ).loc main_arg5)
/-- The keys' gains. -/
abbrev arg6 : FVec Ideal S128 .f32 := m ((c.tc : Thread nD τ).loc main_arg6)

theorem idx0 : ∀ t : Fin cfg0.N, win0_0.index t = ![0, 0, 0] := by decide +kernel
theorem idx1 : ∀ t : Fin cfg0.N, win0_1.index t = ![0, 0] := by decide +kernel
theorem idx2 : ∀ t : Fin cfg0.N, win0_2.index t = ![0, 0, 0] := by decide +kernel
theorem idx3 : ∀ t : Fin cfg0.N, win0_3.index t = ![0, 0, 0] := by decide +kernel
theorem idx4 : ∀ t : Fin cfg0.N, win0_4.index t = ![0, 0] := by decide +kernel
theorem idx5 : ∀ t : Fin cfg0.N, win0_5.index t = ![0, 0] := by decide +kernel
theorem idx6 : ∀ t : Fin cfg0.N, win0_6.index t = ![0, 0] := by decide +kernel
theorem idx7 : ∀ t : Fin cfg0.N, win0_7.index t = ![0, 0, 0] := by decide +kernel
theorem idx8 : ∀ t : Fin cfg0.N, win0_8.index t = ![0, 0, 0] := by decide +kernel
theorem idx9 : ∀ t : Fin cfg0.N, win0_9.index t = ![0, 0, 0] := by decide +kernel
theorem idx10 : ∀ t : Fin cfg0.N, win0_10.index t = ![0, 0, 0] := by decide +kernel

theorem rd0 : (iblk m c 0 t : S1x128x1024.Idx → EReal) = arg0 m c := by
  funext y
  rw [idx_eq y]
  have h : ∀ (r : Fin 128) (x : Fin 1024), iblk m c 0 t (ix3 0 r x) = arg0 m c (ix3 0 r x) := fun r x => by
    blk_ext [iblk, V, idx0 t]
  exact h _ _

theorem rd2 : (iblk m c 2 t : S1x128x1024.Idx → EReal) = arg2 m c := by
  funext y
  rw [idx_eq y]
  have h : ∀ (r : Fin 128) (x : Fin 1024), iblk m c 2 t (ix3 0 r x) = arg2 m c (ix3 0 r x) := fun r x => by
    blk_ext [iblk, V, idx2 t]
  exact h _ _

theorem rd3 : (iblk m c 3 t : S1x128x1024.Idx → EReal) = arg3 m c := by
  funext y
  rw [idx_eq y]
  have h : ∀ (r : Fin 128) (x : Fin 1024), iblk m c 3 t (ix3 0 r x) = arg3 m c (ix3 0 r x) := fun r x => by
    blk_ext [iblk, V, idx3 t]
  exact h _ _

theorem rd4 : (iblk m c 4 t : S1024x4096.Idx → EReal) = arg4 m c := by
  funext y
  rw [eq_ix2 y]
  have h : ∀ (r : Fin 1024) (x : Fin 4096), iblk m c 4 t (ix2 r x) = arg4 m c (ix2 r x) := fun r x => by
    blk_ext [iblk, V, idx4 t]
  exact h _ _

theorem rd1 : (fun k => iblk m c 1 t (ix2 0 k) : Fin 1024 → EReal) = fun k => arg1 m c (ix1 k) := by
  funext k
  have h : iblk m c 1 t (ix2 0 k) = V m c main_v0 (ix2 0 k) := by
    blk_ext [iblk, idx1 t]
  refine h.trans ?_
  entry_read
  pointwise

theorem rd5 : (fun k => iblk m c 5 t (ix2 0 k) : Fin 128 → EReal) = fun k => arg5 m c (ix1 k) := by
  funext k
  have h : iblk m c 5 t (ix2 0 k) = V m c main_v1 (ix2 0 k) := by
    blk_ext [iblk, idx5 t]
  refine h.trans ?_
  entry_read
  pointwise

theorem rd6 : (fun k => iblk m c 6 t (ix2 0 k) : Fin 128 → EReal) = fun k => arg6 m c (ix1 k) := by
  funext k
  have h : iblk m c 6 t (ix2 0 k) = V m c main_v2 (ix2 0 k) := by
    blk_ext [iblk, idx6 t]
  refine h.trans ?_
  entry_read
  pointwise

/-- Output 7's array. -/
def arr7 : S1x128x1024.Idx → EReal := fun y => qAt (arg0 m c) (arg1 m c) (arg2 m c) (arg3 m c) (arg4 m c) (arg5 m c) (y 1) (hd (y 2)) (dm (y 2))

theorem blk7_of (x0 : Vec Ideal S1x128x1024 .f32) (x1 : Vec Ideal S1x1024 .f32) (x2 x3 : Vec Ideal S1x128x1024 .f32) (x4 : Vec Ideal S1024x4096 .f32) (x5 x6 : Vec Ideal S1x128 .f32)
    (a0 : FVec Ideal S1x128x1024 .f32) (a1 : FVec Ideal S1024 .f32) (a2 a3 : FVec Ideal S1x128x1024 .f32) (a4 : FVec Ideal S1024x4096 .f32) (a5 : FVec Ideal S128 .f32)
    (h0 : x0 = a0) (h1 : (fun k => x1 (ix2 0 k) : Fin 1024 → EReal) = fun k => a1 (ix1 k)) (h2 : x2 = a2) (h3 : x3 = a3) (h4 : x4 = a4) (h6 : (fun k => x5 (ix2 0 k) : Fin 128 → EReal) = fun k => a5 (ix1 k)) (s : Fin 128) (b : Fin 1024) :
    oB7 (F := Ideal) x0 x1 x2 x3 x4 x5 x6 (ix3 0 s b) = qAt a0 a1 a2 a3 a4 a5 s (hd b) (dm b) := by
  subst h0 h2 h3 h4
  have h := oq_apply x0 x1 x2 x3 x4 x5 x6 s (hd b) (dm b)
  rw [← col_eq b, h1, h6] at h
  exact h

theorem blk7 (s : Fin 128) (b : Fin 1024) : oB7 (F := Ideal) (iblk m c 0 t) (iblk m c 1 t) (iblk m c 2 t) (iblk m c 3 t) (iblk m c 4 t) (iblk m c 5 t) (iblk m c 6 t) (ix3 0 s b) = arr7 m c (ix3 0 s b) :=
  blk7_of (iblk m c 0 t) (iblk m c 1 t) (iblk m c 2 t) (iblk m c 3 t) (iblk m c 4 t) (iblk m c 5 t) (iblk m c 6 t) (arg0 m c) (arg1 m c) (arg2 m c) (arg3 m c) (arg4 m c) (arg5 m c) (rd0 m c t) (rd1 m c t) (rd2 m c t) (rd3 m c t) (rd4 m c t) (rd5 m c t) s b

set_option maxHeartbeats 2000000 in
theorem arr7_eq : (dats m 0 c).arrAt 7 cfg0.N = arr7 m c := by
  refine (dats m 0 c).arrAt_eq_of_covers 7 _ (by decide +kernel) fun t hf y => ?_
  blk_simp
  rw [after0_7]
  unfold outsAt0
  rw [out7]
  have h1 : (win0_7.blk t).view.emb y = ix3 0 (y 1) (y 2) := by
    blk_ext [idx7 t]
  refine (congrArg (oB7 (F := Ideal) (iblk m c 0 t) (iblk m c 1 t) (iblk m c 2 t) (iblk m c 3 t) (iblk m c 4 t) (iblk m c 5 t) (iblk m c 6 t)) (idx_eq y)).trans ((blk7 m c t _ _).trans ?_)
  exact (congrArg (arr7 m c) h1).symm

/-- Output 8's array. -/
def arr8 : S1x128x1024.Idx → EReal := fun y => kAt (arg0 m c) (arg1 m c) (arg2 m c) (arg3 m c) (arg4 m c) (arg6 m c) (y 1) (hd (y 2)) (dm (y 2))

theorem blk8_of (x0 : Vec Ideal S1x128x1024 .f32) (x1 : Vec Ideal S1x1024 .f32) (x2 x3 : Vec Ideal S1x128x1024 .f32) (x4 : Vec Ideal S1024x4096 .f32) (x5 x6 : Vec Ideal S1x128 .f32)
    (a0 : FVec Ideal S1x128x1024 .f32) (a1 : FVec Ideal S1024 .f32) (a2 a3 : FVec Ideal S1x128x1024 .f32) (a4 : FVec Ideal S1024x4096 .f32) (a5 : FVec Ideal S128 .f32)
    (h0 : x0 = a0) (h1 : (fun k => x1 (ix2 0 k) : Fin 1024 → EReal) = fun k => a1 (ix1 k)) (h2 : x2 = a2) (h3 : x3 = a3) (h4 : x4 = a4) (h6 : (fun k => x6 (ix2 0 k) : Fin 128 → EReal) = fun k => a5 (ix1 k)) (s : Fin 128) (b : Fin 1024) :
    oB8 (F := Ideal) x0 x1 x2 x3 x4 x5 x6 (ix3 0 s b) = kAt a0 a1 a2 a3 a4 a5 s (hd b) (dm b) := by
  subst h0 h2 h3 h4
  have h := ok_apply x0 x1 x2 x3 x4 x5 x6 s (hd b) (dm b)
  rw [← col_eq b, h1, h6] at h
  exact h

theorem blk8 (s : Fin 128) (b : Fin 1024) : oB8 (F := Ideal) (iblk m c 0 t) (iblk m c 1 t) (iblk m c 2 t) (iblk m c 3 t) (iblk m c 4 t) (iblk m c 5 t) (iblk m c 6 t) (ix3 0 s b) = arr8 m c (ix3 0 s b) :=
  blk8_of (iblk m c 0 t) (iblk m c 1 t) (iblk m c 2 t) (iblk m c 3 t) (iblk m c 4 t) (iblk m c 5 t) (iblk m c 6 t) (arg0 m c) (arg1 m c) (arg2 m c) (arg3 m c) (arg4 m c) (arg6 m c) (rd0 m c t) (rd1 m c t) (rd2 m c t) (rd3 m c t) (rd4 m c t) (rd6 m c t) s b

set_option maxHeartbeats 2000000 in
theorem arr8_eq : (dats m 0 c).arrAt 8 cfg0.N = arr8 m c := by
  refine (dats m 0 c).arrAt_eq_of_covers 8 _ (by decide +kernel) fun t hf y => ?_
  blk_simp
  rw [after0_8]
  unfold outsAt0
  rw [out8]
  have h1 : (win0_8.blk t).view.emb y = ix3 0 (y 1) (y 2) := by
    blk_ext [idx8 t]
  refine (congrArg (oB8 (F := Ideal) (iblk m c 0 t) (iblk m c 1 t) (iblk m c 2 t) (iblk m c 3 t) (iblk m c 4 t) (iblk m c 5 t) (iblk m c 6 t)) (idx_eq y)).trans ((blk8 m c t _ _).trans ?_)
  exact (congrArg (arr8 m c) h1).symm

/-- Output 9's array. -/
def arr9 : S1x128x1024.Idx → EReal := fun y => vAt (arg0 m c) (arg1 m c) (arg2 m c) (arg3 m c) (arg4 m c) 2048 (by decide) (y 1) (y 2)

theorem blk9_of (x0 : Vec Ideal S1x128x1024 .f32) (x1 : Vec Ideal S1x1024 .f32) (x2 x3 : Vec Ideal S1x128x1024 .f32) (x4 : Vec Ideal S1024x4096 .f32) (x5 x6 : Vec Ideal S1x128 .f32)
    (a0 : FVec Ideal S1x128x1024 .f32) (a1 : FVec Ideal S1024 .f32) (a2 a3 : FVec Ideal S1x128x1024 .f32) (a4 : FVec Ideal S1024x4096 .f32)
    (h0 : x0 = a0) (h1 : (fun k => x1 (ix2 0 k) : Fin 1024 → EReal) = fun k => a1 (ix1 k)) (h2 : x2 = a2) (h3 : x3 = a3) (h4 : x4 = a4) (s : Fin 128) (b : Fin 1024) :
    oB9 (F := Ideal) x0 x1 x2 x3 x4 x5 x6 (ix3 0 s b) = vAt a0 a1 a2 a3 a4 2048 (by decide) s b := by
  subst h0 h2 h3 h4
  have h := ov_apply x0 x1 x2 x3 x4 x5 x6 s b
  rw [h1] at h
  exact h

theorem blk9 (s : Fin 128) (b : Fin 1024) : oB9 (F := Ideal) (iblk m c 0 t) (iblk m c 1 t) (iblk m c 2 t) (iblk m c 3 t) (iblk m c 4 t) (iblk m c 5 t) (iblk m c 6 t) (ix3 0 s b) = arr9 m c (ix3 0 s b) :=
  blk9_of (iblk m c 0 t) (iblk m c 1 t) (iblk m c 2 t) (iblk m c 3 t) (iblk m c 4 t) (iblk m c 5 t) (iblk m c 6 t) (arg0 m c) (arg1 m c) (arg2 m c) (arg3 m c) (arg4 m c) (rd0 m c t) (rd1 m c t) (rd2 m c t) (rd3 m c t) (rd4 m c t) s b

set_option maxHeartbeats 2000000 in
theorem arr9_eq : (dats m 0 c).arrAt 9 cfg0.N = arr9 m c := by
  refine (dats m 0 c).arrAt_eq_of_covers 9 _ (by decide +kernel) fun t hf y => ?_
  blk_simp
  rw [after0_9]
  unfold outsAt0
  rw [out9]
  have h1 : (win0_9.blk t).view.emb y = ix3 0 (y 1) (y 2) := by
    blk_ext [idx9 t]
  refine (congrArg (oB9 (F := Ideal) (iblk m c 0 t) (iblk m c 1 t) (iblk m c 2 t) (iblk m c 3 t) (iblk m c 4 t) (iblk m c 5 t) (iblk m c 6 t)) (idx_eq y)).trans ((blk9 m c t _ _).trans ?_)
  exact (congrArg (arr9 m c) h1).symm

/-- Output 10's array. -/
def arr10 : S1x128x1024.Idx → EReal := fun y => vAt (arg0 m c) (arg1 m c) (arg2 m c) (arg3 m c) (arg4 m c) 3072 (by decide) (y 1) (y 2)

theorem blk10_of (x0 : Vec Ideal S1x128x1024 .f32) (x1 : Vec Ideal S1x1024 .f32) (x2 x3 : Vec Ideal S1x128x1024 .f32) (x4 : Vec Ideal S1024x4096 .f32) (x5 x6 : Vec Ideal S1x128 .f32)
    (a0 : FVec Ideal S1x128x1024 .f32) (a1 : FVec Ideal S1024 .f32) (a2 a3 : FVec Ideal S1x128x1024 .f32) (a4 : FVec Ideal S1024x4096 .f32)
    (h0 : x0 = a0) (h1 : (fun k => x1 (ix2 0 k) : Fin 1024 → EReal) = fun k => a1 (ix1 k)) (h2 : x2 = a2) (h3 : x3 = a3) (h4 : x4 = a4) (s : Fin 128) (b : Fin 1024) :
    oB10 (F := Ideal) x0 x1 x2 x3 x4 x5 x6 (ix3 0 s b) = vAt a0 a1 a2 a3 a4 3072 (by decide) s b := by
  subst h0 h2 h3 h4
  have h := og_apply x0 x1 x2 x3 x4 x5 x6 s b
  rw [h1] at h
  exact h

theorem blk10 (s : Fin 128) (b : Fin 1024) : oB10 (F := Ideal) (iblk m c 0 t) (iblk m c 1 t) (iblk m c 2 t) (iblk m c 3 t) (iblk m c 4 t) (iblk m c 5 t) (iblk m c 6 t) (ix3 0 s b) = arr10 m c (ix3 0 s b) :=
  blk10_of (iblk m c 0 t) (iblk m c 1 t) (iblk m c 2 t) (iblk m c 3 t) (iblk m c 4 t) (iblk m c 5 t) (iblk m c 6 t) (arg0 m c) (arg1 m c) (arg2 m c) (arg3 m c) (arg4 m c) (rd0 m c t) (rd1 m c t) (rd2 m c t) (rd3 m c t) (rd4 m c t) s b

set_option maxHeartbeats 2000000 in
theorem arr10_eq : (dats m 0 c).arrAt 10 cfg0.N = arr10 m c := by
  refine (dats m 0 c).arrAt_eq_of_covers 10 _ (by decide +kernel) fun t hf y => ?_
  blk_simp
  rw [after0_10]
  unfold outsAt0
  rw [out10]
  have h1 : (win0_10.blk t).view.emb y = ix3 0 (y 1) (y 2) := by
    blk_ext [idx10 t]
  refine (congrArg (oB10 (F := Ideal) (iblk m c 0 t) (iblk m c 1 t) (iblk m c 2 t) (iblk m c 3 t) (iblk m c 4 t) (iblk m c 5 t) (iblk m c 6 t)) (idx_eq y)).trans ((blk10 m c t _ _).trans ?_)
  exact (congrArg (arr10 m c) h1).symm

end Cert.Kernel4Ideal.Moba

end
-- ==== Proof.Moba.Ref.lean ====
/- The reference of the attention's projection of the sample, entry by entry. -/
module

public import proofs.«01_k».proof.Proof.Gen.Reference4Ideal.Run
public import proofs.«01_k».proof.Proof.Moba.Point

@[expose] public section

set_option maxRecDepth 16384

noncomputable section

namespace Cert.Reference4Ideal.Moba

open Idealize.ShloMosaic Idealize.SL.Sem Cert.Reference4Ideal Cert.Reference4Ideal.Gen Cert.Kernel4Ideal.Moba

/-- The projection. -/
def RP (a0 : FVec Ideal S1x128x1024 .f32) (a1 : FVec Ideal S1024 .f32) (a2 a3 : FVec Ideal S1x128x1024 .f32) (a4 : FVec Ideal S1024x4096 .f32) : FVec Ideal S1x128x4096 .f32 :=
  Host.dotGeneral dot_S1x128x1024_S1024x4096_S1x128x4096_2_0_01_1_n_n none (addf (mulf (mulf (mulf a0 (broadcastInDim S1x128x1024 ![0, 1, 2] bcast_S1x128x1_S1x128x1024_0_1_2 (Host.rsqrt (addf (Host.divf (broadcastInDim S1x128x1 ![0, 1] bcast_S1x128_S1x128x1_0_1 (Host.reduceAdd (mulf a0 a0) (constant S_ .f32 0x00000000#32) reducesTo_S1x128x1024_S1x128_d2 h_S_)) (broadcastInDim S1x128x1 ![] bcast_S_S1x128x1 (constant S_ .f32 0x44800000#32))) (broadcastInDim S1x128x1 ![] bcast_S_S1x128x1 (constant S_ .f32 0x358637BD#32)))))) (broadcastInDim S1x128x1024 ![0, 1, 2] bcast_S1x1x1024_S1x128x1024_0_1_2 (broadcastInDim S1x1x1024 ![2] bcast_S1024_S1x1x1024_2 a1))) (addf (broadcastInDim S1x128x1024 ![] bcast_S_S1x128x1024 (constant S_ .f32 0x3F800000#32)) a3)) a2) a4

/-- The queries' columns by heads. -/
def RS0 (a0 : FVec Ideal S1x128x1024 .f32) (a1 : FVec Ideal S1024 .f32) (a2 a3 : FVec Ideal S1x128x1024 .f32) (a4 : FVec Ideal S1024x4096 .f32) : FVec Ideal S1x128x8x128 .f32 :=
  shapeCast S1x128x8x128 (extractStridedSlice S1x128x1024 ![0, 0, 0] (RP a0 a1 a2 a3 a4) slices_S1x128x4096_S1x128x1024_0_0_0) shapeCasts_S1x128x1024_S1x128x8x128

/-- The keys' columns by heads. -/
def RS1 (a0 : FVec Ideal S1x128x1024 .f32) (a1 : FVec Ideal S1024 .f32) (a2 a3 : FVec Ideal S1x128x1024 .f32) (a4 : FVec Ideal S1024x4096 .f32) : FVec Ideal S1x128x8x128 .f32 :=
  shapeCast S1x128x8x128 (extractStridedSlice S1x128x1024 ![0, 0, 1024] (RP a0 a1 a2 a3 a4) slices_S1x128x4096_S1x128x1024_0_0_1024) shapeCasts_S1x128x1024_S1x128x8x128

/-- The queries. -/
def RQ (a0 : FVec Ideal S1x128x1024 .f32) (a1 : FVec Ideal S1024 .f32) (a2 a3 : FVec Ideal S1x128x1024 .f32) (a4 : FVec Ideal S1024x4096 .f32) (a5 : FVec Ideal S128 .f32) : FVec Ideal S1x128x1024 .f32 :=
  shapeCast S1x128x1024 (Host.divf (mulf (mulf (RS0 a0 a1 a2 a3 a4) (broadcastInDim S1x128x8x128 ![0, 1, 2, 3] bcast_S1x128x8x1_S1x128x8x128_0_1_2_3 (Host.rsqrt (addf (Host.divf (broadcastInDim S1x128x8x1 ![0, 1, 2] bcast_S1x128x8_S1x128x8x1_0_1_2 (Host.reduceAdd (mulf (RS0 a0 a1 a2 a3 a4) (RS0 a0 a1 a2 a3 a4)) (constant S_ .f32 0x00000000#32) reducesTo_S1x128x8x128_S1x128x8_d3 h_S_)) (broadcastInDim S1x128x8x1 ![] bcast_S_S1x128x8x1 (constant S_ .f32 0x43000000#32))) (broadcastInDim S1x128x8x1 ![] bcast_S_S1x128x8x1 (constant S_ .f32 0x358637BD#32)))))) (broadcastInDim S1x128x8x128 ![0, 1, 2, 3] bcast_S1x1x1x128_S1x128x8x128_0_1_2_3 (broadcastInDim S1x1x1x128 ![3] bcast_S128_S1x1x1x128_3 a5))) (broadcastInDim S1x128x8x128 ![] bcast_S_S1x128x8x128 (Host.sqrt (constant S_ .f32 0x43000000#32)))) shapeCasts_S1x128x8x128_S1x128x1024

/-- The keys. -/
def RK (a0 : FVec Ideal S1x128x1024 .f32) (a1 : FVec Ideal S1024 .f32) (a2 a3 : FVec Ideal S1x128x1024 .f32) (a4 : FVec Ideal S1024x4096 .f32) (a6 : FVec Ideal S128 .f32) : FVec Ideal S1x128x1024 .f32 :=
  shapeCast S1x128x1024 (mulf (mulf (RS1 a0 a1 a2 a3 a4) (broadcastInDim S1x128x8x128 ![0, 1, 2, 3] bcast_S1x128x8x1_S1x128x8x128_0_1_2_3 (Host.rsqrt (addf (Host.divf (broadcastInDim S1x128x8x1 ![0, 1, 2] bcast_S1x128x8_S1x128x8x1_0_1_2 (Host.reduceAdd (mulf (RS1 a0 a1 a2 a3 a4) (RS1 a0 a1 a2 a3 a4)) (constant S_ .f32 0x00000000#32) reducesTo_S1x128x8x128_S1x128x8_d3 h_S_)) (broadcastInDim S1x128x8x1 ![] bcast_S_S1x128x8x1 (constant S_ .f32 0x43000000#32))) (broadcastInDim S1x128x8x1 ![] bcast_S_S1x128x8x1 (constant S_ .f32 0x358637BD#32)))))) (broadcastInDim S1x128x8x128 ![0, 1, 2, 3] bcast_S1x1x1x128_S1x128x8x128_0_1_2_3 (broadcastInDim S1x1x1x128 ![3] bcast_S128_S1x1x1x128_3 a6))) shapeCasts_S1x128x8x128_S1x128x1024

/-- The values. -/
def RV (a0 : FVec Ideal S1x128x1024 .f32) (a1 : FVec Ideal S1024 .f32) (a2 a3 : FVec Ideal S1x128x1024 .f32) (a4 : FVec Ideal S1024x4096 .f32) : FVec Ideal S1x128x1024 .f32 :=
  extractStridedSlice S1x128x1024 ![0, 0, 2048] (RP a0 a1 a2 a3 a4) slices_S1x128x4096_S1x128x1024_0_0_2048

/-- The gates. -/
def RG (a0 : FVec Ideal S1x128x1024 .f32) (a1 : FVec Ideal S1024 .f32) (a2 a3 : FVec Ideal S1x128x1024 .f32) (a4 : FVec Ideal S1024x4096 .f32) : FVec Ideal S1x128x1024 .f32 :=
  extractStridedSlice S1x128x1024 ![0, 0, 3072] (RP a0 a1 a2 a3 a4) slices_S1x128x4096_S1x128x1024_0_0_3072

variable (a0 : FVec Ideal S1x128x1024 .f32) (a1 : FVec Ideal S1024 .f32) (a2 a3 : FVec Ideal S1x128x1024 .f32) (a4 : FVec Ideal S1024x4096 .f32) (a5 a6 : FVec Ideal S128 .f32)

theorem rp_apply (s : Fin 128) (b : Fin 4096) : RP a0 a1 a2 a3 a4 (ix3 0 s b) = ∑ k : Fin 1024, hAt a0 (fun k => a1 (ix1 k)) a2 a3 s k * a4 (ix2 k b) := by
  pointwise [RP, hAt]

theorem rs0_apply (s : Fin 128) (h : Fin 8) (d : Fin 128) : RS0 a0 a1 a2 a3 a4 (ix4 0 s h d) = RP a0 a1 a2 a3 a4 (ix3 0 s ⟨128 * h + d, by omega⟩) := by
  pointwise [RS0]
  exact congrArg (fun b => RP a0 a1 a2 a3 a4 (ix3 0 s b)) (Fin.ext (by simp only []; omega))

theorem rs1_apply (s : Fin 128) (h : Fin 8) (d : Fin 128) : RS1 a0 a1 a2 a3 a4 (ix4 0 s h d) = RP a0 a1 a2 a3 a4 (ix3 0 s ⟨1024 + (128 * h + d), by omega⟩) := by
  pointwise [RS1]
  exact congrArg (fun b => RP a0 a1 a2 a3 a4 (ix3 0 s b)) (Fin.ext (by simp only []; omega))

theorem sqrt_dh : Ideal.sqrt (Ideal.ofBits .f32 0x43000000#32) = ((Real.sqrt 128 : ℝ) : EReal) := by
  have e : Ideal.ofBits .f32 0x43000000#32 = ((128 : ℝ) : EReal) := by
    simp [Ideal.ofBits, Ideal.ieee, -EReal.coe_mul]
    norm_num
  rw [e]
  show (if (128 : ℝ) < 0 then ⊥ else ((Real.sqrt 128 : ℝ) : EReal)) = _
  exact if_neg (by norm_num)

theorem rq_s (s : Fin 128) (h : Fin 8) (d : Fin 128) : RQ a0 a1 a2 a3 a4 a5 (ix3 0 s ⟨128 * h + d, by omega⟩)
    = Ideal.div (RS0 a0 a1 a2 a3 a4 (ix4 0 s h d) * Ideal.rsqrt (Ideal.div (∑ j : Fin 128, RS0 a0 a1 a2 a3 a4 (ix4 0 s h j) * RS0 a0 a1 a2 a3 a4 (ix4 0 s h j)) (Ideal.ofBits .f32 0x43000000#32) + Ideal.ofBits .f32 0x358637BD#32)
      * a5 (ix1 d)) (Ideal.sqrt (Ideal.ofBits .f32 0x43000000#32)) := by
  pointwise [RQ]

theorem rk_s (s : Fin 128) (h : Fin 8) (d : Fin 128) : RK a0 a1 a2 a3 a4 a6 (ix3 0 s ⟨128 * h + d, by omega⟩)
    = RS1 a0 a1 a2 a3 a4 (ix4 0 s h d) * Ideal.rsqrt (Ideal.div (∑ j : Fin 128, RS1 a0 a1 a2 a3 a4 (ix4 0 s h j) * RS1 a0 a1 a2 a3 a4 (ix4 0 s h j)) (Ideal.ofBits .f32 0x43000000#32) + Ideal.ofBits .f32 0x358637BD#32)
      * a6 (ix1 d) := by
  pointwise [RK]

theorem rq_apply (s : Fin 128) (h : Fin 8) (d : Fin 128) : RQ a0 a1 a2 a3 a4 a5 (ix3 0 s ⟨128 * h + d, by omega⟩) = qAt a0 a1 a2 a3 a4 a5 s h d := by
  refine (rq_s a0 a1 a2 a3 a4 a5 s h d).trans ?_
  have e : ∀ j : Fin 128, RS0 a0 a1 a2 a3 a4 (ix4 0 s h j) = pAt (hAt a0 (fun k => a1 (ix1 k)) a2 a3 s) a4 0 (by decide) ⟨128 * h + j, by omega⟩ := fun j => by
    rw [rs0_apply, rp_apply]
    unfold pAt
    refine Finset.sum_congr rfl fun k _ => congrArg (fun b => hAt a0 (fun k => a1 (ix1 k)) a2 a3 s k * a4 (ix2 k b)) (Fin.ext ?_)
    exact (Nat.zero_add _).symm
  rw [sqrt_dh, Ideal.div_coe (by positivity), one_div]
  simp only [e]
  rfl

theorem rk_apply (s : Fin 128) (h : Fin 8) (d : Fin 128) : RK a0 a1 a2 a3 a4 a6 (ix3 0 s ⟨128 * h + d, by omega⟩) = kAt a0 a1 a2 a3 a4 a6 s h d := by
  refine (rk_s a0 a1 a2 a3 a4 a6 s h d).trans ?_
  have e : ∀ j : Fin 128, RS1 a0 a1 a2 a3 a4 (ix4 0 s h j) = pAt (hAt a0 (fun k => a1 (ix1 k)) a2 a3 s) a4 1024 (by decide) ⟨128 * h + j, by omega⟩ := fun j => by
    rw [rs1_apply, rp_apply]
    rfl
  simp only [e]
  rfl

theorem rv_apply (s : Fin 128) (b : Fin 1024) : RV a0 a1 a2 a3 a4 (ix3 0 s b) = vAt a0 a1 a2 a3 a4 2048 (by decide) s b := by
  have e : RV a0 a1 a2 a3 a4 (ix3 0 s b) = RP a0 a1 a2 a3 a4 (ix3 0 s ⟨2048 + b, by omega⟩) := by
    pointwise [RV]
  rw [e, rp_apply]
  rfl

theorem rg_apply (s : Fin 128) (b : Fin 1024) : RG a0 a1 a2 a3 a4 (ix3 0 s b) = vAt a0 a1 a2 a3 a4 3072 (by decide) s b := by
  have e : RG a0 a1 a2 a3 a4 (ix3 0 s b) = RP a0 a1 a2 a3 a4 (ix3 0 s ⟨3072 + b, by omega⟩) := by
    pointwise [RG]
  rw [e, rp_apply]
  rfl

end Cert.Reference4Ideal.Moba

end
-- ==== Proof.Moba.Claims.lean ====
/- The claims of the attention's projection of the sample. -/
module

public import proofs.«01_k».proof.Defs
public import proofs.«01_k».proof.Proof.Gen.Kernel4.Frame
public import proofs.«01_k».proof.Proof.Moba.Ref

@[expose] public section

noncomputable section

namespace Cert.Proof.Claims

open Idealize.ShloMosaic Idealize.SL.Sem Idealize.ShloMosaic.TcCoe Cert.Kernel4Ideal.Moba Cert.Reference4Ideal.Moba

theorem frame_p4 : Cert.quiescent_Kernel4 := fun m ρ _ => Cert.Kernel4.Gen.frame m ρ
theorem frame_pi4 : Cert.quiescent_Kernel4Ideal := fun m ρ _ => Cert.Kernel4Ideal.Gen.frame m ρ
theorem frame_ri4 : Cert.quiescent_Reference4Ideal := fun m ρ _ =>
  (θ_run Cert.Reference4Ideal.defs _ _).mono (fun r h => ⟨fun c => (h c).2.2.2.2, Idealize.ShloMosaic.sem_eq_zero_of_no_sems (by decide) r.2⟩)
    (Cert.Reference4Ideal.Value.run (F := Ideal) m ρ)
theorem preserves4 : Cert.preserves_Kernel4_Kernel4Ideal :=
  IdealRules.named_const.statement Cert.Kernel4Ideal.κ "rsqrt_head_dim" .f32 0x3DB504F3#32 _ rfl

section results

variable (m : (ℓ : Loc Cert.Kernel4Ideal.nD Cert.Kernel4Ideal.τ Cert.Kernel4Ideal.sig) → Buf (Elt Ideal) ℓ) (c : Dev Cert.Kernel4Ideal.nD) (a0 a1 a2 a3 a4)
  (h0 : a0 = Cert.Kernel4Ideal.Moba.arg0 m c) (h1 : a1 = Cert.Kernel4Ideal.Moba.arg1 m c) (h2 : a2 = Cert.Kernel4Ideal.Moba.arg2 m c) (h3 : a3 = Cert.Kernel4Ideal.Moba.arg3 m c) (h4 : a4 = Cert.Kernel4Ideal.Moba.arg4 m c)

include h0 h1 h2 h3 h4

theorem res4q (a5) (h5 : a5 = Cert.Kernel4Ideal.Moba.arg5 m c) : RQ a0 a1 a2 a3 a4 a5 = (Cert.Kernel4Ideal.Gen.dats (F := Ideal) m 0 c).arrAt 7 Cert.Kernel4Ideal.cfg0.N := by
  rw [arr7_eq]
  funext y
  rw [idx_eq y]
  have h := rq_apply a0 a1 a2 a3 a4 a5 (y 1) (hd (y 2)) (dm (y 2))
  rw [← col_eq (y 2)] at h
  refine h.trans ?_
  rw [h0, h1, h2, h3, h4, h5]
  rfl

theorem res4k (a5) (h5 : a5 = Cert.Kernel4Ideal.Moba.arg6 m c) : RK a0 a1 a2 a3 a4 a5 = (Cert.Kernel4Ideal.Gen.dats (F := Ideal) m 0 c).arrAt 8 Cert.Kernel4Ideal.cfg0.N := by
  rw [arr8_eq]
  funext y
  rw [idx_eq y]
  have h := rk_apply a0 a1 a2 a3 a4 a5 (y 1) (hd (y 2)) (dm (y 2))
  rw [← col_eq (y 2)] at h
  refine h.trans ?_
  rw [h0, h1, h2, h3, h4, h5]
  rfl

theorem res4v : RV a0 a1 a2 a3 a4 = (Cert.Kernel4Ideal.Gen.dats (F := Ideal) m 0 c).arrAt 9 Cert.Kernel4Ideal.cfg0.N := by
  rw [arr9_eq]
  funext y
  rw [idx_eq y]
  refine (rv_apply a0 a1 a2 a3 a4 (y 1) (y 2)).trans ?_
  rw [h0, h1, h2, h3, h4]
  rfl

theorem res4g : RG a0 a1 a2 a3 a4 = (Cert.Kernel4Ideal.Gen.dats (F := Ideal) m 0 c).arrAt 10 Cert.Kernel4Ideal.cfg0.N := by
  rw [arr10_eq]
  funext y
  rw [idx_eq y]
  refine (rg_apply a0 a1 a2 a3 a4 (y 1) (y 2)).trans ?_
  rw [h0, h1, h2, h3, h4]
  rfl

end results

theorem algebraic4 : Cert.algebraic_Kernel4Ideal_Reference4Ideal := by
  intro m ρ m' ρ' _ hagree
  refine ⟨_, _, _, _, Cert.Kernel4Ideal.Value.run_blocks (F := Ideal) m ρ, ?_⟩
  refine (θ_run Cert.Reference4Ideal.defs _ _).mono (fun _ h c => ?_) (Cert.Reference4Ideal.Value.run (F := Ideal) m' ρ')
  obtain ⟨h0, h1, h2, h3, h4, h5, h6⟩ := hagree c
  exact ⟨(h c).1.trans (res4q m c _ _ _ _ _ h0 h1 h2 h3 h4 _ h5), (h c).2.1.trans (res4k m c _ _ _ _ _ h0 h1 h2 h3 h4 _ h6),
    (h c).2.2.1.trans (res4v m c _ _ _ _ _ h0 h1 h2 h3 h4), (h c).2.2.2.1.trans (res4g m c _ _ _ _ _ h0 h1 h2 h3 h4), (h c).2.2.2.2⟩

end Cert.Proof.Claims

end
-- ==== Proof.Stream.Base.lean ====
/-
  The streamed projection of the prompt: the ring of two slots of twenty pages that its body fills by transfers of its own,
  as the windows of the scratch buffer, the read shares of the page cache, the deliveries of a slot's batch, and the
  rules of one issue, of the wait that drains a slot and of a load from a drained slot.
-/
module

public import proofs.«01_k».proof.Proof.Gen.Kernel5Ideal.Launch
public import proofs.«01_k».proof.Proof.Gen.Kernel5Ideal.Points
public import proofs.«01_k».proof.Proof.Gen.Kernel5Ideal.Frame
public import Idealize.ShloMosaic.Lib.Pipeline.FrameBody
public import Idealize.ShloMosaic.Lib.Batch
public import Idealize.ShloMosaic.Lib.ValueLayout
public import Idealize.ShloMosaic.Lib.Ring
public import Idealize.ShloMosaic.Lib.Tactic

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

/-! ## The two ends of a transfer -/

abbrev scB : Memref sig .tc .vmem S2x20x128x8x128 .f32 := Memref.whole cc0_scratch0
abbrev hbM : Memref sig .tc .hbm S2560x128x8x128 .f32 := Memref.whole main_arg6

/-- A window of one page of the scratch buffer. -/
abbrev winM (o : Fin 5 → ℕ) (h : ∀ a, o a + S1x1x128x8x128.size a ≤ S2x20x128x8x128.size a) : Memref sig .tc .vmem S128x8x128 .f32 :=
  (scB.slice (Rect.unit (s := S2x20x128x8x128) o S1x1x128x8x128.size h) (fun _ => rfl)).squeeze S128x8x128 squeezes_S1x1x128x8x128_S128x8x128
/-- A page of the cache. -/
abbrev pagM (o : Fin 4 → ℕ) (h : ∀ a, o a + S1x128x8x128.size a ≤ S2560x128x8x128.size a) : Memref sig .tc .hbm S128x8x128 .f32 :=
  (hbM.slice (Rect.unit (s := S2560x128x8x128) o S1x128x8x128.size h) (fun _ => rfl)).squeeze S128x8x128 squeezes_S1x128x8x128_S128x8x128

theorem win_inb (s : Fin 2) (p : Fin 20) : ∀ a, (![s.val, p.val, 0, 0, 0] : Fin 5 → ℕ) a + S1x1x128x8x128.size a ≤ S2x20x128x8x128.size a := by
  revert s p; decide
theorem pag_inb (g : Fin 2560) : ∀ a, (![g.val, 0, 0, 0] : Fin 4 → ℕ) a + S1x128x8x128.size a ≤ S2560x128x8x128.size a := by
  intro a; have := g.isLt
  fin_cases a
  · show g.val + 1 ≤ 2560; omega
  · exact Nat.le_refl 128
  · exact Nat.le_refl 8
  · exact Nat.le_refl 128

/-- Window `p` of slot `s`, and page `g`. -/
abbrev slotM (s : Fin 2) (p : Fin 20) := winM ![s.val, p.val, 0, 0, 0] (win_inb s p)
abbrev pageM (g : Fin 2560) := pagM ![g.val, 0, 0, 0] (pag_inb g)

/-- The slot's semaphore. -/
abbrev semS (s : Fin 2) : DmaSem sig := ⟨13 + s.val, Nat.add_lt_add_left s.isLt 13⟩

abbrev ScBuf (c : Dev nD) := Buf (Elt F) (scB.view.loc (c : Thread nD τ))
abbrev HbBuf (c : Dev nD) := Buf (Elt F) (hbM.view.loc (c : Thread nD τ))

/-- The elements of a window and of a page. -/
abbrev J (c : Dev nD) (s : Fin 2) (p : Fin 20) : Finset (Idx (scB.view.loc (c : Thread nD τ))) := (slotM s p).view.set
abbrev Pg (c : Dev nD) (g : Fin 2560) : Finset (Idx (hbM.view.loc (c : Thread nD τ))) := (pageM g).view.set

/-- The read share of the cache that the transfer into window `p` of slot `s` takes. -/
abbrev tk (s : Fin 2) (p : Fin 20) : PosShare TreeShare := shareTok (shareTok fullShare 2 s) 20 p

/-- What a slot holds once the pages `g` have landed. -/
def landed (c : Dev nD) (fh : HbBuf (F := F) c) (g : Fin 20 → Fin 2560) : ScBuf (F := F) c :=
  fun x : S2x20x128x8x128.Idx => fh (show S2560x128x8x128.Idx from fun a => match a with
    | ⟨0, _⟩ => g (x 1) | ⟨1, _⟩ => x 2 | ⟨2, _⟩ => x 3 | ⟨3, _⟩ => x 4)

def Free (c : Dev nD) (fh : HbBuf (F := F) c) (s : Fin 2) (p : Fin 20) : sProp 𝕄 :=
  iprop((∃ f, scB.view.loc (c : Thread nD τ) ↦[J c s p]{fullShare} f) ∗ hbM.view.loc (c : Thread nD τ) ↦{tk s p} fh)

def Dlv (c : Dev nD) (fh : HbBuf (F := F) c) (g : Fin 20 → Fin 2560) (s : Fin 2) (p : Fin 20) : sProp 𝕄 :=
  iprop((scB.view.loc (c : Thread nD τ) ↦[J c s p]{fullShare} landed c fh g) ∗ hbM.view.loc (c : Thread nD τ) ↦[Pg c (g p)]{tk s p} fh)

instance (c : Dev nD) (fh : HbBuf (F := F) c) (g : Fin 20 → Fin 2560) (s : Fin 2) (p : Fin 20) :
    Storable (upEmb : UEmb _ 𝕄) (Dlv c fh g s p) := by unfold Dlv; infer_instance

def Rem (c : Dev nD) (fh : HbBuf (F := F) c) (g : Fin 20 → Fin 2560) (s : Fin 2) (p : Fin 20) : sProp 𝕄 :=
  iprop(hbM.view.loc (c : Thread nD τ) ↦[Finset.univ \ Pg c (g p)]{tk s p} fh)

abbrev NN : ℕ := (slotM 0 0).view.amount (.dma (semS 0))

/-- Slot `s` with `k` of its transfers issued. -/
def Issuing (c : Dev nD) (fh : HbBuf (F := F) c) (g : Fin 20 → Fin 2560) (s : Fin 2) (k : ℕ) : sProp 𝕄 :=
  iprop(Batch (Lvl := ℕ) (countersEmb (U := Pipeline.UD sig nD τ)) (c : Thread nD τ) (.dma (semS s)) () NN (Dlv c fh g s) k 0
    ∗ bigSep (pending k) (Free c fh s) ∗ bigSep (issued k) (Rem c fh g s))

/-- Slot `s` with nothing in flight. -/
def FreeS (c : Dev nD) (fh : HbBuf (F := F) c) (s : Fin 2) : sProp 𝕄 :=
  iprop(semVal ((c : Thread nD τ), .dma (semS s)) 0 ∗ bigSep Finset.univ (Free c fh s))

/-- Slot `s` drained, holding the pages `g`. -/
def Held (c : Dev nD) (fh : HbBuf (F := F) c) (g : Fin 20 → Fin 2560) (s : Fin 2) : sProp 𝕄 :=
  iprop(semVal ((c : Thread nD τ), .dma (semS s)) 0
    ∗ bigSep Finset.univ (fun p => iprop((scB.view.loc (c : Thread nD τ) ↦[J c s p]{fullShare} landed c fh g) ∗ hbM.view.loc (c : Thread nD τ) ↦{tk s p} fh)))

theorem held_free (c : Dev nD) (fh : HbBuf (F := F) c) (g : Fin 20 → Fin 2560) (s : Fin 2) : (Held c fh g s : sProp 𝕄) ⊢ FreeS c fh s := by
  unfold Held FreeS
  refine sep_mono_right (bigSep_mono fun p _ => ?_)
  unfold Free
  exact sep_mono_left (exists_intro (Φ := fun f => iprop(scB.view.loc (c : Thread nD τ) ↦[J c s p]{fullShare} f)) (landed c fh g))

theorem start (c : Dev nD) (fh : HbBuf (F := F) c) (g : Fin 20 → Fin 2560) (s : Fin 2) :
    (FreeS c fh s : sProp 𝕄) ⊢ |={Set.univ}=> Issuing c fh g s 0 := by
  unfold FreeS Issuing
  iintro ⟨Hs, HF⟩
  imod (batch_alloc' (Lvl := ℕ) (countersEmb (U := Pipeline.UD sig nD τ)) (c : Thread nD τ) () NN (Dlv c fh g s) (sm := .dma (semS s)) (E := Set.univ)) $$ Hs with HB
  imodintro
  isplitl [HB]; · iexact HB
  rw [pending_zero, issued_zero, bigSep_empty]
  isplitl [HF]; · iexact HF
  iempintro

theorem amount_eq (s : Fin 2) (p : Fin 20) : (slotM s p).view.amount (.dma (semS s)) = NN := rfl

open Idealize.ShloMosaic.ValueIdx

theorem slot_emb (s : Fin 2) (p : Fin 20) (y : S128x8x128.Idx) : (slotM s p).view.emb y = (ix5 s p (y 0) (y 1) (y 2) : S2x20x128x8x128.Idx) := by
  have e : (slotM s p).view.emb y = (Rect.unit (s := S2x20x128x8x128) ![s.val, p.val, 0, 0, 0] S1x1x128x8x128.size (win_inb s p)).emb
      (Shape.reshapeEquiv (s := S1x1x128x8x128) (s' := S128x8x128) (by decide) y) := rfl
  rw [e, eq_ix3 (n0 := 128) (n1 := 8) (n2 := 128) y]
  erw [reshapeEquiv_ix3_11abc]
  funext a
  apply Fin.ext
  rw [Rect.emb_apply]
  fin_cases a <;> simp [Rect.unit, ix5, ix3]

theorem page_emb (g : Fin 2560) (y : S128x8x128.Idx) : (pageM g).view.emb y = (ix4 g (y 0) (y 1) (y 2) : S2560x128x8x128.Idx) := by
  have e : (pageM g).view.emb y = (Rect.unit (s := S2560x128x8x128) ![g.val, 0, 0, 0] S1x128x8x128.size (pag_inb g)).emb
      (Shape.reshapeEquiv (s := S1x128x8x128) (s' := S128x8x128) (by decide) y) := rfl
  rw [e, eq_ix3 (n0 := 128) (n1 := 8) (n2 := 128) y]
  erw [reshapeEquiv_ix3_1abc]
  funext a
  apply Fin.ext
  rw [Rect.emb_apply]
  fin_cases a <;> simp [Rect.unit, ix4, ix3]

theorem landed_write (c : Dev nD) (fh : HbBuf (F := F) c) (g : Fin 20 → Fin 2560) (s : Fin 2) (p : Fin 20) (fd : ScBuf (F := F) c) :
    ∀ x ∈ J c s p, (slotM s p).view.write (Elt F) fd ((ReadAs.same).apply ((pageM (g p)).view.read (Elt F) fh)) Finset.univ x = landed c fh g x := by
  intro x hx
  obtain ⟨y, -, rfl⟩ := Finset.mem_map.1 hx
  refine (View.write_emb_of_mem (v := (slotM s p).view) _ _ (Finset.mem_univ y)).trans ?_
  show fh ((pageM (g p)).view.emb y) = landed c fh g ((slotM s p).view.emb y)
  rw [slot_emb, page_emb]
  unfold landed
  congr 1
  funext a
  match a with
  | ⟨0, _⟩ => rfl
  | ⟨1, _⟩ => rfl
  | ⟨2, _⟩ => rfl
  | ⟨3, _⟩ => rfl

theorem wp_issue (c : Dev nD) (fh : HbBuf (F := F) c) (g : Fin 20 → Fin 2560) (s : Fin 2) (k : ℕ) (hk : k < 20)
    {α : Type} {Q : α → sProp 𝕄} {src : Memref sig .tc .hbm S128x8x128 .f32} {dst : Memref sig .tc .vmem S128x8x128 .f32} {sm : SemLoc sig}
    {hsrc : src.view.WordExact} {hdst : dst.view.WordExact} {hsem : DmaTarget.Typed (nD := nD) (τ := τ) (p := .tc) .hbm sm (.here dst)}
    {K : PUnit → Prog (TpuEff nD τ sig (Elt F) Λ₀ .tc) α}
    (hs : src = pageM (g ⟨k, hk⟩)) (hd : dst = slotM s ⟨k, hk⟩) (hsm : sm = .dma (semS s)) :
    (Issuing c fh g s k : sProp 𝕄) ⊢ iprop((Issuing c fh g s (k + 1) -∗ wp frame (wpE (defs₀ (F := F)) Variants.none c none) Set.univ (K ⟨⟩) Q)
      -∗ wp frame (wpE (defs₀ (F := F)) Variants.none c none) Set.univ (.op (.enqueueDmaAs src (.here dst) .same sm hsrc hdst hsem) K) Q) := by
  subst hs hd hsm
  unfold Issuing
  rw [bigSep_pending_step _ k hk]
  iintro ⟨HB, ⟨HF, HP⟩, HI⟩ HK
  ihave HF' := (show (Free c fh s ⟨k, hk⟩ : sProp 𝕄) ⊢ iprop((∃ f, scB.view.loc (c : Thread nD τ) ↦[J c s ⟨k, hk⟩]{fullShare} f)
      ∗ hbM.view.loc (c : Thread nD τ) ↦{tk s ⟨k, hk⟩} fh) from .rfl) $$ HF
  icases HF' with ⟨⟨%f, HF⟩, HT⟩
  ihave HT' := (pointsTo_split_subset (Finset.subset_univ (Pg c (g ⟨k, hk⟩)))).1 $$ HT
  icases HT' with ⟨HTp, HTr⟩
  iapply (wp_dmaBatch (countersEmb (U := Pipeline.UD sig nD τ)) Variants.none (c : Thread nD τ) none () NN (amount_eq s ⟨k, hk⟩) (Finset.Subset.refl _) hk (Nat.zero_le _)
    (D := Dlv c fh g s) (by
      unfold Dlv
      exact sep_mono_left (Entails.of_eq (pointsTo_congr (landed_write c fh g s ⟨k, hk⟩ f))))) $$ [HTp HF HB]
  · isplitl [HTp]; · iexact HTp
    isplitl [HF]; · iexact HF
    iexact HB
  iintro HB
  iapply HK
  isplitl [HB]; · iexact HB
  isplitl [HP]; · iexact HP
  iapply (show iprop(Rem c fh g s ⟨k, hk⟩ ∗ bigSep (issued k) (Rem c fh g s) : sProp 𝕄) ⊢ bigSep (issued (k + 1)) (Rem c fh g s) from
    Entails.of_eq (by rw [issued_succ hk, bigSep_insert (not_mem_issued hk)]; rfl))
  isplitl [HTr]
  · unfold Rem; iexact HTr
  iexact HI

theorem wp_drain (c : Dev nD) (fh : HbBuf (F := F) c) (g : Fin 20 → Fin 2560) (s : Fin 2)
    {α : Type} {Q : α → sProp 𝕄} {sp' : Space} {s' s'' : Shape} {e' e'' : EltTy} {srcw : Memref sig .tc sp' s' e'} {dstw : Memref sig .tc .vmem s'' e''} {sm : DmaSem sig}
    {hsrc : srcw.view.WordExact} {hdst : dstw.view.WordExact}
    {K : PUnit → Prog (TpuEff nD τ sig (Elt F) Λ₀ .tc) α} {W : Waits sig Unit}
    (hJ : dstw.view.dmaCredit = NN * 20) (hsm : sm = semS s) :
    iprop(Issuing c fh g s 20 ∗ owes (c : Thread nD τ) 0 W : sProp 𝕄) ⊢ iprop((iprop(Held c fh g s ∗ owes (c : Thread nD τ) 0 (insert (SemLoc.dma (semS s), ()) W))
        -∗ wp frame (wpE (defs₀ (F := F)) Variants.none c none) Set.univ (K ⟨⟩) Q)
      -∗ wp frame (wpE (defs₀ (F := F)) Variants.none c none) Set.univ (.op (.waitDma2 sm srcw dstw hsrc hdst) K) Q) := by
  subst hsm
  unfold Issuing Held
  rw [issued_all rfl]
  iintro ⟨⟨HB, -, HR⟩, HW⟩ HK
  iapply (wp_waitBatchAll (countersEmb (U := Pipeline.UD sig nD τ)) Variants.none (c : Thread nD τ) none () hJ (N := NN) (by decide) (by rw [Nat.zero_add])) $$ [HB HW]
  · isplitl [HB]; · iexact HB
    iexact HW
  iintro ⟨HD, HS, HW⟩
  iapply HK
  isplitr [HW]; swap; · iexact HW
  isplitl [HS]; · iexact HS
  icombine HD HR as H
  iapply (show iprop(bigSep Finset.univ (Dlv c fh g s) ∗ bigSep Finset.univ (Rem c fh g s)) ⊢ _ from
    (Entails.of_eq (bigSep_sep' _ _ _).symm).trans (bigSep_mono fun p _ => by
      unfold Dlv Rem
      exact sep_assoc.1.trans (sep_mono_right (pointsTo_split_subset (Finset.subset_univ _)).2))) $$ H

/-- A page of the cache, as a load of a drained window reads it. -/
def pageV (c : Dev nD) (fh : HbBuf (F := F) c) (g : Fin 2560) : Vec F S1x1x128x8x128 .f32 :=
  fun x => fh (show S2560x128x8x128.Idx from ix4 g (x 2) (x 3) (x 4))

theorem read_landed (c : Dev nD) (fh : HbBuf (F := F) c) (g : Fin 20 → Fin 2560) (s : Fin 2) (p : Fin 20) :
    View.readAt (Elt F) scB.view (Rect.unit (s := S2x20x128x8x128) ![s.val, p.val, 0, 0, 0] S1x1x128x8x128.size (win_inb s p)).toLoadRect (landed c fh g) = pageV c fh (g p) := by
  funext x
  show landed c fh g ((Rect.unit (s := S2x20x128x8x128) ![s.val, p.val, 0, 0, 0] S1x1x128x8x128.size (win_inb s p)).emb x) = _
  unfold landed pageV
  congr 1
  funext a
  apply Fin.ext
  have hx : (x 1).val = 0 := Nat.lt_one_iff.1 (x 1).isLt
  match a with
  | ⟨0, _⟩ =>
    show (g _).val = (g p).val
    congr 2
    apply Fin.ext
    rw [Rect.emb_apply]
    show p.val + 1 * (x 1).val = p.val
    omega
  | ⟨1, _⟩ => show 0 + 1 * (x 2).val = (x 2).val; omega
  | ⟨2, _⟩ => show 0 + 1 * (x 3).val = (x 3).val; omega
  | ⟨3, _⟩ => show 0 + 1 * (x 4).val = (x 4).val; omega

theorem wp_page (c : Dev nD) (fh : HbBuf (F := F) c) (g : Fin 20 → Fin 2560) (s : Fin 2) (p : Fin 20)
    {α : Type} {Q : α → sProp 𝕄} {o : Fin 5 → ℕ} {h : ∀ a, o a + S1x1x128x8x128.size a ≤ S2x20x128x8x128.size a}
    {hl : scB.view.LoadsAt (Rect.unit (s := S2x20x128x8x128) o S1x1x128x8x128.size h).toLoadRect}
    {K : (S1x1x128x8x128.Idx → Elt F .f32) → Prog (TpuEff nD τ sig (Elt F) Λ₀ .tc) α}
    (ho : o = ![s.val, p.val, 0, 0, 0]) :
    (Held c fh g s : sProp 𝕄) ⊢ iprop((Held c fh g s -∗ wp frame (wpE (defs₀ (F := F)) Variants.none c none) Set.univ (K (pageV c fh (g p))) Q)
      -∗ wp frame (wpE (defs₀ (F := F)) Variants.none c none) Set.univ (.op (.load scB (Rect.unit (s := S2x20x128x8x128) o S1x1x128x8x128.size h).toLoadRect hl) K) Q) := by
  subst ho
  have hd : (Held c fh g s : sProp 𝕄) = iprop(semVal ((c : Thread nD τ), .dma (semS s)) 0
      ∗ iprop(iprop((scB.view.loc (c : Thread nD τ) ↦[J c s p]{fullShare} landed c fh g) ∗ hbM.view.loc (c : Thread nD τ) ↦{tk s p} fh)
        ∗ bigSep (Finset.univ.erase p) (fun p => iprop((scB.view.loc (c : Thread nD τ) ↦[J c s p]{fullShare} landed c fh g) ∗ hbM.view.loc (c : Thread nD τ) ↦{tk s p} fh)))) := by
    unfold Held
    conv_lhs => rw [← Finset.insert_erase (Finset.mem_univ p), bigSep_insert (Finset.notMem_erase p _)]
    rfl
  rw [hd]
  iintro ⟨HS, ⟨HJ, HT⟩, HR⟩ HK
  have hsub : scB.view.setOn (Rect.unit (s := S2x20x128x8x128) ![s.val, p.val, 0, 0, 0] S1x1x128x8x128.size (win_inb s p)).toLoadRect.set ⊆ J c s p := by
    intro z hz
    obtain ⟨z', hz', rfl⟩ := Finset.mem_map.1 hz
    obtain ⟨y, rfl⟩ := LoadRect.exists_idx_of_mem _ hz'
    refine Finset.mem_map.2 ⟨(ix3 (y 2) (y 3) (y 4) : S128x8x128.Idx), Finset.mem_univ _, ?_⟩
    rw [slot_emb]
    have h0 : (y 0).val = 0 := Nat.lt_one_iff.1 (y 0).isLt
    have h1 : (y 1).val = 0 := Nat.lt_one_iff.1 (y 1).isLt
    funext a
    apply Fin.ext
    match a with
    | ⟨0, _⟩ => show s.val = s.val + 1 * (y 0).val; omega
    | ⟨1, _⟩ => show p.val = p.val + 1 * (y 1).val; omega
    | ⟨2, _⟩ => show (y 2).val = 0 + 1 * (y 2).val; omega
    | ⟨3, _⟩ => show (y 3).val = 0 + 1 * (y 3).val; omega
    | ⟨4, _⟩ => show (y 4).val = 0 + 1 * (y 4).val; omega
  iapply (wp_load Variants.none (c : Thread nD τ) none Set.univ hsub) $$ HJ
  iintro HJ
  rw [read_landed]
  iapply HK
  isplitl [HS]; · iexact HS
  isplitl [HJ HT]
  · isplitl [HJ]; · iexact HJ
    iexact HT
  iexact HR

end Cert.Kernel5Ideal.Hand

end
-- ==== Proof.Stream.Head.lean ====
module

public import proofs.«01_k».proof.Proof.Stream.Base

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

theorem word_at (c : Dev nD) (arg7 : Memref sig .tc .smem S32x64 .i32) (ft : Buf (Elt F) (arg7.view.loc (c : Thread nD τ)))
   (n : ℕ) (hn : n < 1280) (ix : S32x64.Idx) (hix : ∀ a, (ix a).val = (![n / 64, n % 64] : Fin 2 → ℕ) a)
    (h : ∀ a, (![n / 64, n % 64] : Fin 2 → ℕ) a + S1x1.size a ≤ S32x64.size a) (x : S1x1.Idx) :
    View.readAt (Elt F) arg7.view (Rect.unit (s := S32x64) ![n / 64, n % 64] S1x1.size h).toLoadRect ft x = arg7.view.read (Elt F) ft ix := by
  show arg7.view.read (Elt F) ft ((Rect.unit (s := S32x64) ![n / 64, n % 64] S1x1.size h).emb x) = _
  congr 1
  funext a
  apply Fin.ext
  rw [Rect.emb_apply, hix]
  have h0 : ∀ a : Fin 2, (x a).val = 0 := fun a => by
    have e : ∀ a : Fin 2, S1x1.size a = 1 := by clear * -; decide
    have := (x a).isLt
    have := e a
    omega
  rw [h0]
  rfl
/-- The table's word number `n`. -/
def ixT (n : ℕ) : S32x64.Idx := fun a => match a with
  | ⟨0, _⟩ => ⟨n / 64 % 32, Nat.mod_lt _ (by decide)⟩ | ⟨1, _⟩ => ⟨n % 64, Nat.mod_lt _ (by decide)⟩

/-- The pages point `t` streams. -/
def pgs (x5 : Vec F S32x64 .i32) (t : ℕ) (p : Fin 20) : Fin 2560 := ⟨(x5 (ixT (20 * t + p.val)) : BitVec 32).toNat % 2560, Nat.mod_lt _ (by decide)⟩

theorem pag_eq (v : BitVec 32) (g : Fin 2560) (h) (hv : v.toNat = g.val) : pagM ![v.toNat, 0, 0, 0] h = pageM g := by
  obtain ⟨g, hg⟩ := g
  obtain rfl : v.toNat = g := hv
  rfl

theorem chk_word (v : BitVec 32) (g : Fin 2560) (hv : v.toNat = g.val) : ∀ a, (![v.toNat, 0, 0, 0] : Fin 4 → ℕ) a + S1x128x8x128.size a ≤ S2560x128x8x128.size a := by
  rw [hv]; exact pag_inb g

theorem word_eq (c : Dev nD) (arg7 : Memref sig .tc .smem S32x64 .i32) (ft : Buf (Elt F) (arg7.view.loc (c : Thread nD τ))) (x5 : Vec F S32x64 .i32)
    (hft : arg7.view.read (Elt F) ft = x5) (hx : ∀ n < 1280, (x5 (ixT n) : BitVec 32).toNat < 2560)
    (t : ℕ) (ht : t < 64) (p : Fin 20) (o : Fin 2 → ℕ) (h : ∀ a, o a + S1x1.size a ≤ S32x64.size a) (x : S1x1.Idx)
    (ho : o = ![(20 * t + p.val) / 64, (20 * t + p.val) % 64]) :
    (View.readAt (Elt F) arg7.view (Rect.unit (s := S32x64) o S1x1.size h).toLoadRect ft x : BitVec 32).toNat = (pgs x5 t p).val := by
  have hn : 20 * t + p.val < 1280 := by have := p.isLt; omega
  have e : View.readAt (Elt F) arg7.view (Rect.unit (s := S32x64) o S1x1.size h).toLoadRect ft x = x5 (ixT (20 * t + p.val)) := by
    subst hft ho
    exact word_at c arg7 ft _ hn _ (fun a => match a with
      | ⟨0, _⟩ => (show (20 * t + p.val) / 64 % 32 = (20 * t + p.val) / 64 by omega)
      | ⟨1, _⟩ => (show (20 * t + p.val) % 64 = (20 * t + p.val) % 64 from rfl)) h x
  rw [e]
  unfold pgs
  exact (Nat.mod_eq_of_lt (hx _ hn)).symm

/-- The point's number, its slot and the other slot. -/
abbrev pt (i : grid0.Coords) : ℕ := (i 0).val * 8 + (i 1).val
abbrev sl (t : ℕ) : Fin 2 := ⟨t % 2, Nat.mod_lt _ (by decide)⟩

theorem sem_eq0 (h : ∀ a, (![0] : Fin 1 → ℕ) a + S1.size a ≤ S2.size a) :
    ((cc0_scratch1.slice (Rect.unit (s := S2) ![0] S1.size h)).squeeze S_ squeezes_S1_S_).sem = semS 0 := by revert h; decide
theorem sem_eq1 (h : ∀ a, (![1] : Fin 1 → ℕ) a + S1.size a ≤ S2.size a) :
    ((cc0_scratch1.slice (Rect.unit (s := S2) ![1] S1.size h)).squeeze S_ squeezes_S1_S_).sem = semS 1 := by revert h; decide
theorem sem_eq (o : Fin 1 → ℕ) (s : Fin 2) (h : ∀ a, o a + S1.size a ≤ S2.size a) (ho : o = ![s.val]) :
    ((cc0_scratch1.slice (Rect.unit (s := S2) o S1.size h)).squeeze S_ squeezes_S1_S_).sem = semS s := by
  have hc : ∀ s : Fin 2, s = 0 ∨ s = 1 := by decide
  obtain rfl | rfl := hc s
  · obtain rfl : o = ![0] := ho
    exact sem_eq0 h
  · obtain rfl : o = ![1] := ho
    exact sem_eq1 h

theorem win_eq (o : Fin 5 → ℕ) (s : Fin 2) (p : Fin 20) (h) (ho : o = ![s.val, p.val, 0, 0, 0]) : winM o h = slotM s p := by
  subst ho; rfl

theorem off41_eq (i : grid0.Coords) : k0_off41 i = ![(sl (pt i)).val] := by revert i; decide
theorem cond1_pt (i : grid0.Coords) : k0_cond1 i = 1#1 ↔ pt i = 0 := by revert i; decide
theorem cond2_pt (i : grid0.Coords) : k0_cond2 i = 1#1 ↔ pt i = 63 := by revert i; decide

theorem part24_later (c : Dev nD) (i : grid0.Coords) (h1 : ¬ k0_cond1 i = 1#1) (fh : HbBuf (F := F) c)
    (arg2 : Memref sig .tc .vmem S1x256x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x6144 .bf16) (harg6 : arg6.IsWhole) (arg7 : Memref sig .tc .smem S32x64 .i32) (harg7 : arg7.IsWhole)
    (arg9 : Memref sig .tc .vmem S1x256x6144 .bf16) (harg9 : arg9.IsWhole) (arg10 : Memref sig .tc .vmem S10x8x128 .f32) (harg10 : arg10.IsWhole)
    (ft : Buf (Elt F) (arg7.view.loc (c : Thread nD τ))) (x5 : Vec F S32x64 .i32)
    (hft : arg7.view.read (Elt F) ft = x5) (hx : ∀ n < 1280, (x5 (ixT n) : BitVec 32).toNat < 2560) (v28 v30 v31 : BitVec 32) (v32 v35 : BitVec 1) (W : Waits sig Unit) (K : _ → sProp 𝕄) :
    iprop(Issuing c fh (pgs x5 (pt i)) (sl (pt i)) 20 ∗ (arg7.view.loc (c : Thread nD τ) ↦[arg7.view.set]{fullShare} ft) ∗ owes (c : Thread nD τ) 0 W ∗ (iprop(Held c fh (pgs x5 (pt i)) (sl (pt i)) ∗ (arg7.view.loc (c : Thread nD τ) ↦[arg7.view.set]{fullShare} ft) ∗ owes (c : Thread nD τ) 0 (insert (SemLoc.dma (semS (sl (pt i))), ()) W)) -∗ ∀ x, K x))
    ⊢ wp frame (wpE (defs₀ (F := F)) Variants.none c none) Set.univ (k0_part24 i arg2 harg2 arg3 harg3 arg4 harg4 arg5 harg5 arg6 harg6 arg7 harg7 hbM (Memref.isWhole_whole _) arg9 harg9 arg10 harg10 scB (Memref.isWhole_whole _) cc0_scratch1 v28 v30 v31 v32 v35) K := by
  unfold k0_part24
  rw [dif_neg h1]
  iintro ⟨HI, HT, HW, HK⟩
  sl_exec
  iapply (wp_drain c fh (pgs x5 (pt i)) (sl (pt i)) (by rfl) (sem_eq _ _ _ (off41_eq i))) $$ [HI HW]
  · isplitl [HI]; · iexact HI
    iexact HW
  iintro ⟨HH, HW⟩
  sl_exec
  rw [wp_ret]
  iapply HK $$ [HH HT HW]
  isplitl [HH]; · iexact HH
  isplitl [HT]; · iexact HT
  iexact HW

theorem part24_first (c : Dev nD) (i : grid0.Coords) (h1 : k0_cond1 i = 1#1) (fh : HbBuf (F := F) c)
    (arg2 : Memref sig .tc .vmem S1x256x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x6144 .bf16) (harg6 : arg6.IsWhole) (arg7 : Memref sig .tc .smem S32x64 .i32) (harg7 : arg7.IsWhole)
    (arg9 : Memref sig .tc .vmem S1x256x6144 .bf16) (harg9 : arg9.IsWhole) (arg10 : Memref sig .tc .vmem S10x8x128 .f32) (harg10 : arg10.IsWhole)
    (ft : Buf (Elt F) (arg7.view.loc (c : Thread nD τ))) (x5 : Vec F S32x64 .i32)
    (hft : arg7.view.read (Elt F) ft = x5) (hx : ∀ n < 1280, (x5 (ixT n) : BitVec 32).toNat < 2560) (v28 v30 v31 : BitVec 32) (v32 v35 : BitVec 1) (W : Waits sig Unit) (K : _ → sProp 𝕄) :
    iprop(Issuing c fh (pgs x5 (pt i)) (sl (pt i)) 0 ∗ (arg7.view.loc (c : Thread nD τ) ↦[arg7.view.set]{fullShare} ft) ∗ owes (c : Thread nD τ) 0 W ∗ (iprop(Held c fh (pgs x5 (pt i)) (sl (pt i)) ∗ (arg7.view.loc (c : Thread nD τ) ↦[arg7.view.set]{fullShare} ft) ∗ owes (c : Thread nD τ) 0 (insert (SemLoc.dma (semS (sl (pt i))), ()) W)) -∗ ∀ x, K x))
    ⊢ wp frame (wpE (defs₀ (F := F)) Variants.none c none) Set.univ (k0_part24 i arg2 harg2 arg3 harg3 arg4 harg4 arg5 harg5 arg6 harg6 arg7 harg7 hbM (Memref.isWhole_whole _) arg9 harg9 arg10 harg10 scB (Memref.isWhole_whole _) cc0_scratch1 v28 v30 v31 v32 v35) K := by
  unfold k0_part24
  rw [dif_pos h1]
  have ht : pt i = 0 := (cond1_pt i).1 h1
  iintro ⟨HI, HT, HW, HK⟩
  have ho0 : k0_off1 i = ![(20 * pt i + 0) / 64, (20 * pt i + 0) % 64] := by clear * -; revert i; decide
  have ho1 : k0_off3 i = ![(20 * pt i + 1) / 64, (20 * pt i + 1) % 64] := by clear * -; revert i; decide
  have ho2 : k0_off5 i = ![(20 * pt i + 2) / 64, (20 * pt i + 2) % 64] := by clear * -; revert i; decide
  have ho3 : k0_off7 i = ![(20 * pt i + 3) / 64, (20 * pt i + 3) % 64] := by clear * -; revert i; decide
  have ho4 : k0_off9 i = ![(20 * pt i + 4) / 64, (20 * pt i + 4) % 64] := by clear * -; revert i; decide
  have ho5 : k0_off11 i = ![(20 * pt i + 5) / 64, (20 * pt i + 5) % 64] := by clear * -; revert i; decide
  have ho6 : k0_off13 i = ![(20 * pt i + 6) / 64, (20 * pt i + 6) % 64] := by clear * -; revert i; decide
  have ho7 : k0_off15 i = ![(20 * pt i + 7) / 64, (20 * pt i + 7) % 64] := by clear * -; revert i; decide
  have ho8 : k0_off17 i = ![(20 * pt i + 8) / 64, (20 * pt i + 8) % 64] := by clear * -; revert i; decide
  have ho9 : k0_off19 i = ![(20 * pt i + 9) / 64, (20 * pt i + 9) % 64] := by clear * -; revert i; decide
  have ho10 : k0_off21 i = ![(20 * pt i + 10) / 64, (20 * pt i + 10) % 64] := by clear * -; revert i; decide
  have ho11 : k0_off23 i = ![(20 * pt i + 11) / 64, (20 * pt i + 11) % 64] := by clear * -; revert i; decide
  have ho12 : k0_off25 i = ![(20 * pt i + 12) / 64, (20 * pt i + 12) % 64] := by clear * -; revert i; decide
  have ho13 : k0_off27 i = ![(20 * pt i + 13) / 64, (20 * pt i + 13) % 64] := by clear * -; revert i; decide
  have ho14 : k0_off29 i = ![(20 * pt i + 14) / 64, (20 * pt i + 14) % 64] := by clear * -; revert i; decide
  have ho15 : k0_off31 i = ![(20 * pt i + 15) / 64, (20 * pt i + 15) % 64] := by clear * -; revert i; decide
  have ho16 : k0_off33 i = ![(20 * pt i + 16) / 64, (20 * pt i + 16) % 64] := by clear * -; revert i; decide
  have ho17 : k0_off35 i = ![(20 * pt i + 17) / 64, (20 * pt i + 17) % 64] := by clear * -; revert i; decide
  have ho18 : k0_off37 i = ![(20 * pt i + 18) / 64, (20 * pt i + 18) % 64] := by clear * -; revert i; decide
  have ho19 : k0_off39 i = ![(20 * pt i + 19) / 64, (20 * pt i + 19) % 64] := by clear * -; revert i; decide
  have hw0 : (![0, 0, 0, 0, 0] : Fin 5 → ℕ) = ![(sl (pt i)).val, (0 : Fin 20).val, 0, 0, 0] := by rw [ht]; rfl
  have hw1 : (![0, 1, 0, 0, 0] : Fin 5 → ℕ) = ![(sl (pt i)).val, (1 : Fin 20).val, 0, 0, 0] := by rw [ht]; rfl
  have hw2 : (![0, 2, 0, 0, 0] : Fin 5 → ℕ) = ![(sl (pt i)).val, (2 : Fin 20).val, 0, 0, 0] := by rw [ht]; rfl
  have hw3 : (![0, 3, 0, 0, 0] : Fin 5 → ℕ) = ![(sl (pt i)).val, (3 : Fin 20).val, 0, 0, 0] := by rw [ht]; rfl
  have hw4 : (![0, 4, 0, 0, 0] : Fin 5 → ℕ) = ![(sl (pt i)).val, (4 : Fin 20).val, 0, 0, 0] := by rw [ht]; rfl
  have hw5 : (![0, 5, 0, 0, 0] : Fin 5 → ℕ) = ![(sl (pt i)).val, (5 : Fin 20).val, 0, 0, 0] := by rw [ht]; rfl
  have hw6 : (![0, 6, 0, 0, 0] : Fin 5 → ℕ) = ![(sl (pt i)).val, (6 : Fin 20).val, 0, 0, 0] := by rw [ht]; rfl
  have hw7 : (![0, 7, 0, 0, 0] : Fin 5 → ℕ) = ![(sl (pt i)).val, (7 : Fin 20).val, 0, 0, 0] := by rw [ht]; rfl
  have hw8 : (![0, 8, 0, 0, 0] : Fin 5 → ℕ) = ![(sl (pt i)).val, (8 : Fin 20).val, 0, 0, 0] := by rw [ht]; rfl
  have hw9 : (![0, 9, 0, 0, 0] : Fin 5 → ℕ) = ![(sl (pt i)).val, (9 : Fin 20).val, 0, 0, 0] := by rw [ht]; rfl
  have hw10 : (![0, 10, 0, 0, 0] : Fin 5 → ℕ) = ![(sl (pt i)).val, (10 : Fin 20).val, 0, 0, 0] := by rw [ht]; rfl
  have hw11 : (![0, 11, 0, 0, 0] : Fin 5 → ℕ) = ![(sl (pt i)).val, (11 : Fin 20).val, 0, 0, 0] := by rw [ht]; rfl
  have hw12 : (![0, 12, 0, 0, 0] : Fin 5 → ℕ) = ![(sl (pt i)).val, (12 : Fin 20).val, 0, 0, 0] := by rw [ht]; rfl
  have hw13 : (![0, 13, 0, 0, 0] : Fin 5 → ℕ) = ![(sl (pt i)).val, (13 : Fin 20).val, 0, 0, 0] := by rw [ht]; rfl
  have hw14 : (![0, 14, 0, 0, 0] : Fin 5 → ℕ) = ![(sl (pt i)).val, (14 : Fin 20).val, 0, 0, 0] := by rw [ht]; rfl
  have hw15 : (![0, 15, 0, 0, 0] : Fin 5 → ℕ) = ![(sl (pt i)).val, (15 : Fin 20).val, 0, 0, 0] := by rw [ht]; rfl
  have hw16 : (![0, 16, 0, 0, 0] : Fin 5 → ℕ) = ![(sl (pt i)).val, (16 : Fin 20).val, 0, 0, 0] := by rw [ht]; rfl
  have hw17 : (![0, 17, 0, 0, 0] : Fin 5 → ℕ) = ![(sl (pt i)).val, (17 : Fin 20).val, 0, 0, 0] := by rw [ht]; rfl
  have hw18 : (![0, 18, 0, 0, 0] : Fin 5 → ℕ) = ![(sl (pt i)).val, (18 : Fin 20).val, 0, 0, 0] := by rw [ht]; rfl
  have hw19 : (![0, 19, 0, 0, 0] : Fin 5 → ℕ) = ![(sl (pt i)).val, (19 : Fin 20).val, 0, 0, 0] := by rw [ht]; rfl
  have hs : (![0] : Fin 1 → ℕ) = ![(sl (pt i)).val] := by rw [ht]
  have hp : pt i < 64 := by omega
  unfold k0_part1 k0_part2 k0_part3 k0_part4 k0_part5 k0_part6 k0_part7 k0_part8 k0_part9 k0_part10 k0_part11 k0_part12 k0_part13 k0_part14 k0_part15 k0_part16 k0_part17 k0_part18 k0_part19 k0_part20 k0_part21 k0_part22
  sl_exec (disch := exact fun _ => chk_word _ _ (word_eq c arg7 ft x5 hft hx (pt i) hp 0 _ _ _ ho0))
  iapply (wp_issue c fh (pgs x5 (pt i)) (sl (pt i)) 0 (by decide) (pag_eq _ _ _ (word_eq c arg7 ft x5 hft hx (pt i) hp 0 _ _ _ ho0)) (win_eq _ _ 0 _ hw0) (congrArg SemLoc.dma (sem_eq _ _ _ hs))) $$ HI
  iintro HI
  sl_exec (disch := exact fun _ => chk_word _ _ (word_eq c arg7 ft x5 hft hx (pt i) hp 1 _ _ _ ho1))
  iapply (wp_issue c fh (pgs x5 (pt i)) (sl (pt i)) 1 (by decide) (pag_eq _ _ _ (word_eq c arg7 ft x5 hft hx (pt i) hp 1 _ _ _ ho1)) (win_eq _ _ 1 _ hw1) (congrArg SemLoc.dma (sem_eq _ _ _ hs))) $$ HI
  iintro HI
  sl_exec (disch := exact fun _ => chk_word _ _ (word_eq c arg7 ft x5 hft hx (pt i) hp 2 _ _ _ ho2))
  iapply (wp_issue c fh (pgs x5 (pt i)) (sl (pt i)) 2 (by decide) (pag_eq _ _ _ (word_eq c arg7 ft x5 hft hx (pt i) hp 2 _ _ _ ho2)) (win_eq _ _ 2 _ hw2) (congrArg SemLoc.dma (sem_eq _ _ _ hs))) $$ HI
  iintro HI
  sl_exec (disch := exact fun _ => chk_word _ _ (word_eq c arg7 ft x5 hft hx (pt i) hp 3 _ _ _ ho3))
  iapply (wp_issue c fh (pgs x5 (pt i)) (sl (pt i)) 3 (by decide) (pag_eq _ _ _ (word_eq c arg7 ft x5 hft hx (pt i) hp 3 _ _ _ ho3)) (win_eq _ _ 3 _ hw3) (congrArg SemLoc.dma (sem_eq _ _ _ hs))) $$ HI
  iintro HI
  sl_exec (disch := exact fun _ => chk_word _ _ (word_eq c arg7 ft x5 hft hx (pt i) hp 4 _ _ _ ho4))
  iapply (wp_issue c fh (pgs x5 (pt i)) (sl (pt i)) 4 (by decide) (pag_eq _ _ _ (word_eq c arg7 ft x5 hft hx (pt i) hp 4 _ _ _ ho4)) (win_eq _ _ 4 _ hw4) (congrArg SemLoc.dma (sem_eq _ _ _ hs))) $$ HI
  iintro HI
  sl_exec (disch := exact fun _ => chk_word _ _ (word_eq c arg7 ft x5 hft hx (pt i) hp 5 _ _ _ ho5))
  iapply (wp_issue c fh (pgs x5 (pt i)) (sl (pt i)) 5 (by decide) (pag_eq _ _ _ (word_eq c arg7 ft x5 hft hx (pt i) hp 5 _ _ _ ho5)) (win_eq _ _ 5 _ hw5) (congrArg SemLoc.dma (sem_eq _ _ _ hs))) $$ HI
  iintro HI
  sl_exec (disch := exact fun _ => chk_word _ _ (word_eq c arg7 ft x5 hft hx (pt i) hp 6 _ _ _ ho6))
  iapply (wp_issue c fh (pgs x5 (pt i)) (sl (pt i)) 6 (by decide) (pag_eq _ _ _ (word_eq c arg7 ft x5 hft hx (pt i) hp 6 _ _ _ ho6)) (win_eq _ _ 6 _ hw6) (congrArg SemLoc.dma (sem_eq _ _ _ hs))) $$ HI
  iintro HI
  sl_exec (disch := exact fun _ => chk_word _ _ (word_eq c arg7 ft x5 hft hx (pt i) hp 7 _ _ _ ho7))
  iapply (wp_issue c fh (pgs x5 (pt i)) (sl (pt i)) 7 (by decide) (pag_eq _ _ _ (word_eq c arg7 ft x5 hft hx (pt i) hp 7 _ _ _ ho7)) (win_eq _ _ 7 _ hw7) (congrArg SemLoc.dma (sem_eq _ _ _ hs))) $$ HI
  iintro HI
  sl_exec (disch := exact fun _ => chk_word _ _ (word_eq c arg7 ft x5 hft hx (pt i) hp 8 _ _ _ ho8))
  iapply (wp_issue c fh (pgs x5 (pt i)) (sl (pt i)) 8 (by decide) (pag_eq _ _ _ (word_eq c arg7 ft x5 hft hx (pt i) hp 8 _ _ _ ho8)) (win_eq _ _ 8 _ hw8) (congrArg SemLoc.dma (sem_eq _ _ _ hs))) $$ HI
  iintro HI
  sl_exec (disch := exact fun _ => chk_word _ _ (word_eq c arg7 ft x5 hft hx (pt i) hp 9 _ _ _ ho9))
  iapply (wp_issue c fh (pgs x5 (pt i)) (sl (pt i)) 9 (by decide) (pag_eq _ _ _ (word_eq c arg7 ft x5 hft hx (pt i) hp 9 _ _ _ ho9)) (win_eq _ _ 9 _ hw9) (congrArg SemLoc.dma (sem_eq _ _ _ hs))) $$ HI
  iintro HI
  sl_exec (disch := exact fun _ => chk_word _ _ (word_eq c arg7 ft x5 hft hx (pt i) hp 10 _ _ _ ho10))
  iapply (wp_issue c fh (pgs x5 (pt i)) (sl (pt i)) 10 (by decide) (pag_eq _ _ _ (word_eq c arg7 ft x5 hft hx (pt i) hp 10 _ _ _ ho10)) (win_eq _ _ 10 _ hw10) (congrArg SemLoc.dma (sem_eq _ _ _ hs))) $$ HI
  iintro HI
  sl_exec (disch := exact fun _ => chk_word _ _ (word_eq c arg7 ft x5 hft hx (pt i) hp 11 _ _ _ ho11))
  iapply (wp_issue c fh (pgs x5 (pt i)) (sl (pt i)) 11 (by decide) (pag_eq _ _ _ (word_eq c arg7 ft x5 hft hx (pt i) hp 11 _ _ _ ho11)) (win_eq _ _ 11 _ hw11) (congrArg SemLoc.dma (sem_eq _ _ _ hs))) $$ HI
  iintro HI
  sl_exec (disch := exact fun _ => chk_word _ _ (word_eq c arg7 ft x5 hft hx (pt i) hp 12 _ _ _ ho12))
  iapply (wp_issue c fh (pgs x5 (pt i)) (sl (pt i)) 12 (by decide) (pag_eq _ _ _ (word_eq c arg7 ft x5 hft hx (pt i) hp 12 _ _ _ ho12)) (win_eq _ _ 12 _ hw12) (congrArg SemLoc.dma (sem_eq _ _ _ hs))) $$ HI
  iintro HI
  sl_exec (disch := exact fun _ => chk_word _ _ (word_eq c arg7 ft x5 hft hx (pt i) hp 13 _ _ _ ho13))
  iapply (wp_issue c fh (pgs x5 (pt i)) (sl (pt i)) 13 (by decide) (pag_eq _ _ _ (word_eq c arg7 ft x5 hft hx (pt i) hp 13 _ _ _ ho13)) (win_eq _ _ 13 _ hw13) (congrArg SemLoc.dma (sem_eq _ _ _ hs))) $$ HI
  iintro HI
  sl_exec (disch := exact fun _ => chk_word _ _ (word_eq c arg7 ft x5 hft hx (pt i) hp 14 _ _ _ ho14))
  iapply (wp_issue c fh (pgs x5 (pt i)) (sl (pt i)) 14 (by decide) (pag_eq _ _ _ (word_eq c arg7 ft x5 hft hx (pt i) hp 14 _ _ _ ho14)) (win_eq _ _ 14 _ hw14) (congrArg SemLoc.dma (sem_eq _ _ _ hs))) $$ HI
  iintro HI
  sl_exec (disch := exact fun _ => chk_word _ _ (word_eq c arg7 ft x5 hft hx (pt i) hp 15 _ _ _ ho15))
  iapply (wp_issue c fh (pgs x5 (pt i)) (sl (pt i)) 15 (by decide) (pag_eq _ _ _ (word_eq c arg7 ft x5 hft hx (pt i) hp 15 _ _ _ ho15)) (win_eq _ _ 15 _ hw15) (congrArg SemLoc.dma (sem_eq _ _ _ hs))) $$ HI
  iintro HI
  sl_exec (disch := exact fun _ => chk_word _ _ (word_eq c arg7 ft x5 hft hx (pt i) hp 16 _ _ _ ho16))
  iapply (wp_issue c fh (pgs x5 (pt i)) (sl (pt i)) 16 (by decide) (pag_eq _ _ _ (word_eq c arg7 ft x5 hft hx (pt i) hp 16 _ _ _ ho16)) (win_eq _ _ 16 _ hw16) (congrArg SemLoc.dma (sem_eq _ _ _ hs))) $$ HI
  iintro HI
  sl_exec (disch := exact fun _ => chk_word _ _ (word_eq c arg7 ft x5 hft hx (pt i) hp 17 _ _ _ ho17))
  iapply (wp_issue c fh (pgs x5 (pt i)) (sl (pt i)) 17 (by decide) (pag_eq _ _ _ (word_eq c arg7 ft x5 hft hx (pt i) hp 17 _ _ _ ho17)) (win_eq _ _ 17 _ hw17) (congrArg SemLoc.dma (sem_eq _ _ _ hs))) $$ HI
  iintro HI
  sl_exec (disch := exact fun _ => chk_word _ _ (word_eq c arg7 ft x5 hft hx (pt i) hp 18 _ _ _ ho18))
  iapply (wp_issue c fh (pgs x5 (pt i)) (sl (pt i)) 18 (by decide) (pag_eq _ _ _ (word_eq c arg7 ft x5 hft hx (pt i) hp 18 _ _ _ ho18)) (win_eq _ _ 18 _ hw18) (congrArg SemLoc.dma (sem_eq _ _ _ hs))) $$ HI
  iintro HI
  sl_exec (disch := exact fun _ => chk_word _ _ (word_eq c arg7 ft x5 hft hx (pt i) hp 19 _ _ _ ho19))
  iapply (wp_issue c fh (pgs x5 (pt i)) (sl (pt i)) 19 (by decide) (pag_eq _ _ _ (word_eq c arg7 ft x5 hft hx (pt i) hp 19 _ _ _ ho19)) (win_eq _ _ 19 _ hw19) (congrArg SemLoc.dma (sem_eq _ _ _ hs))) $$ HI
  iintro HI
  sl_exec
  iapply (wp_drain c fh (pgs x5 (pt i)) (sl (pt i)) (by rfl) (sem_eq _ _ _ (off41_eq i))) $$ [HI HW]
  · isplitl [HI]; · iexact HI
    iexact HW
  iintro ⟨HH, HW⟩
  sl_exec
  rw [wp_ret]
  iapply HK $$ [HH HT HW]
  isplitl [HH]; · iexact HH
  isplitl [HT]; · iexact HT
  iexact HW

end Cert.Kernel5Ideal.Hand
end
-- ==== Proof.Stream.Body.lean ====
module

public import proofs.«01_k».proof.Proof.Stream.Head

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

/-- The transfers in flight at point `t` before its body: none at the first, the point's own twenty later. -/
abbrev k0 (t : ℕ) : ℕ := if t = 0 then 0 else 20

theorem part24 (c : Dev nD) (i : grid0.Coords) (fh : HbBuf (F := F) c)
    (arg2 : Memref sig .tc .vmem S1x256x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x6144 .bf16) (harg6 : arg6.IsWhole) (arg7 : Memref sig .tc .smem S32x64 .i32) (harg7 : arg7.IsWhole)
    (arg9 : Memref sig .tc .vmem S1x256x6144 .bf16) (harg9 : arg9.IsWhole) (arg10 : Memref sig .tc .vmem S10x8x128 .f32) (harg10 : arg10.IsWhole)
    (ft : Buf (Elt F) (arg7.view.loc (c : Thread nD τ))) (x5 : Vec F S32x64 .i32)
    (hft : arg7.view.read (Elt F) ft = x5) (hx : ∀ n < 1280, (x5 (ixT n) : BitVec 32).toNat < 2560) (v28 v30 v31 : BitVec 32) (v32 v35 : BitVec 1) (W : Waits sig Unit) (K : _ → sProp 𝕄) :
    iprop(Issuing c fh (pgs x5 (pt i)) (sl (pt i)) (k0 (pt i)) ∗ (arg7.view.loc (c : Thread nD τ) ↦[arg7.view.set]{fullShare} ft) ∗ owes (c : Thread nD τ) 0 W
      ∗ (iprop(Held c fh (pgs x5 (pt i)) (sl (pt i)) ∗ (arg7.view.loc (c : Thread nD τ) ↦[arg7.view.set]{fullShare} ft) ∗ owes (c : Thread nD τ) 0 (insert (SemLoc.dma (semS (sl (pt i))), ()) W)) -∗ ∀ x, K x))
    ⊢ wp frame (wpE (defs₀ (F := F)) Variants.none c none) Set.univ (k0_part24 i arg2 harg2 arg3 harg3 arg4 harg4 arg5 harg5 arg6 harg6 arg7 harg7 hbM (Memref.isWhole_whole _) arg9 harg9 arg10 harg10 scB (Memref.isWhole_whole _) cc0_scratch1 v28 v30 v31 v32 v35) K := by
  by_cases h1 : k0_cond1 i = 1#1
  · rw [show k0 (pt i) = 0 from if_pos ((cond1_pt i).1 h1)]
    exact part24_first c i h1 fh arg2 harg2 arg3 harg3 arg4 harg4 arg5 harg5 arg6 harg6 arg7 harg7 arg9 harg9 arg10 harg10 ft x5 hft hx v28 v30 v31 v32 v35 W K
  · rw [show k0 (pt i) = 20 from if_neg (fun h => h1 ((cond1_pt i).2 h))]
    exact part24_later c i h1 fh arg2 harg2 arg3 harg3 arg4 harg4 arg5 harg5 arg6 harg6 arg7 harg7 arg9 harg9 arg10 harg10 ft x5 hft hx v28 v30 v31 v32 v35 W K

/-- The next slot after point `t`'s body: the next point's twenty transfers in flight, or, after the last point, free. -/
def Nxt (c : Dev nD) (fh : HbBuf (F := F) c) (x5 : Vec F S32x64 .i32) (t : ℕ) : sProp 𝕄 :=
  if t = 63 then FreeS c fh (sl (t + 1)) else Issuing c fh (pgs x5 ((t + 1) % 64)) (sl (t + 1)) 20

def run23 (c : Dev nD) (i : grid0.Coords)
    (arg2 : Memref sig .tc .vmem S1x256x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x6144 .bf16) (harg6 : arg6.IsWhole) (arg7 : Memref sig .tc .smem S32x64 .i32) (harg7 : arg7.IsWhole)
    (arg9 : Memref sig .tc .vmem S1x256x6144 .bf16) (harg9 : arg9.IsWhole) (arg10 : Memref sig .tc .vmem S10x8x128 .f32) (harg10 : arg10.IsWhole)
    (x0 : Vec F S1x256x1024 .f32) (x1 : Vec F S1x1024 .f32) (x2 : Vec F S1x1x1024 .f32) (x3 : Vec F S1x1x1024 .f32) :
    Σ' (v26 : FVec F S256x1024 .bf16) (v28 : BitVec 32) (v30 : BitVec 32) (v31 : BitVec 32) (v32 : BitVec 1), { v35 : BitVec 1 //
      ∀ (Q : _ → sProp 𝕄),
      iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3) ∗ (iprop((arg2.view.loc (c : Thread nD τ) ↦[arg2.view.set]{fullShare} harg2.unread x0) ∗ (arg3.view.loc (c : Thread nD τ) ↦[arg3.view.set]{fullShare} harg3.unread x1) ∗ (arg4.view.loc (c : Thread nD τ) ↦[arg4.view.set]{fullShare} harg4.unread x2) ∗ (arg5.view.loc (c : Thread nD τ) ↦[arg5.view.set]{fullShare} harg5.unread x3)) -∗ Q ⟨v26, v28, v30, v31, v32, v35⟩))
      ⊢ wp frame (wpE (defs₀ (F := F)) Variants.none c none) Set.univ (k0_part23 i arg2 harg2 arg3 harg3 arg4 harg4 arg5 harg5 arg6 harg6 arg7 harg7 hbM (Memref.isWhole_whole _) arg9 harg9 arg10 harg10 scB (Memref.isWhole_whole _) cc0_scratch1) Q } := by
  refine ⟨?_, ?_, ?_, ?_, ?_, ?_, fun Q => ?run⟩
  rotate_left 6
  unfold k0_part23
  iintro ⟨H0, H1, H2, H3, Hk⟩
  sl_exec
  rw [wp_ret]
  imodintro
  iapply Hk
  isplitl [H0]; · iexact H0
  isplitl [H1]; · iexact H1
  isplitl [H2]; · iexact H2
  iexact H3

set_option pp.maxSteps 250 in
set_option maxHeartbeats 2000000 in
noncomputable def bodyRun (c : Dev nD) (i : grid0.Coords) (fh : HbBuf (F := F) c)
    (arg2 : Memref sig .tc .vmem S1x256x1024 .f32) (harg2 : arg2.IsWhole) (arg3 : Memref sig .tc .vmem S1x1024 .f32) (harg3 : arg3.IsWhole) (arg4 : Memref sig .tc .vmem S1x1x1024 .f32) (harg4 : arg4.IsWhole) (arg5 : Memref sig .tc .vmem S1x1x1024 .f32) (harg5 : arg5.IsWhole) (arg6 : Memref sig .tc .vmem S1024x6144 .bf16) (harg6 : arg6.IsWhole) (arg7 : Memref sig .tc .smem S32x64 .i32) (harg7 : arg7.IsWhole)
    (arg9 : Memref sig .tc .vmem S1x256x6144 .bf16) (harg9 : arg9.IsWhole) (arg10 : Memref sig .tc .vmem S10x8x128 .f32) (harg10 : arg10.IsWhole)
    (x0 : Vec F S1x256x1024 .f32) (x1 : Vec F S1x1024 .f32) (x2 : Vec F S1x1x1024 .f32) (x3 : Vec F S1x1x1024 .f32) (x4 : Vec F S1024x6144 .bf16) (x5 : Vec F S32x64 .i32)
    (hx : ∀ n < 1280, (x5 (ixT n) : BitVec 32).toNat < 2560) :
    Σ' (L6 : List (View.Piece (Elt F) S1x256x6144 .bf16)), { L7 : List (View.Piece (Elt F) S10x8x128 .f32) //
      ∀ (W : Waits sig Unit) (K : PUnit → sProp 𝕄),
      iprop(Issuing c fh (pgs x5 (pt i)) (sl (pt i)) (k0 (pt i)) ∗ FreeS c fh (sl (pt i + 1)) ∗ owes (c : Thread nD τ) 0 W ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
          ∗ (∃ d, owns (c : Thread nD τ) arg9 fullShare d) ∗ (∃ d, owns (c : Thread nD τ) arg10 fullShare d)
          ∗ (iprop(FreeS c fh (sl (pt i)) ∗ Nxt c fh x5 (pt i) ∗ (∃ W', owes (c : Thread nD τ) 0 W') ∗ owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5
              ∗ (∃ f, arg9.view.loc (c : Thread nD τ) ↦[arg9.view.set]{fullShare} arg9.view.writes (Elt F) f L6)
              ∗ (∃ f, arg10.view.loc (c : Thread nD τ) ↦[arg10.view.set]{fullShare} arg10.view.writes (Elt F) f L7)) -∗ K ⟨⟩))
      ⊢ wp frame (wpE (defs₀ (F := F)) Variants.none c none) Set.univ (cc0_ret_proj i arg2 harg2 arg3 harg3 arg4 harg4 arg5 harg5 arg6 harg6 arg7 harg7 hbM (Memref.isWhole_whole _) arg9 harg9 arg10 harg10 scB (Memref.isWhole_whole _) cc0_scratch1) K } := by
  refine ⟨?_, ?_, fun W K => ?run⟩
  rotate_left 2
  unfold cc0_ret_proj
  rw [wp_bind]
  unfold owns
  iintro ⟨HI, HN, HW, ⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  clear hf0 hf1 hf2 hf3 hf4 hf5
  have hft : arg7.view.read (Elt F) (harg7.unread x5) = x5 := harg7.read_unread _
  iapply ((run23 c i arg2 harg2 arg3 harg3 arg4 harg4 arg5 harg5 arg6 harg6 arg7 harg7 arg9 harg9 arg10 harg10 x0 x1 x2 x3).2.2.2.2.2.2 _) $$ [HI H5 HW Hk HN H0 H1 H2 H3 H4 H6 H7]
  isplitl [H0]; · iexact H0
  isplitl [H1]; · iexact H1
  isplitl [H2]; · iexact H2
  isplitl [H3]; · iexact H3
  iintro ⟨H0, H1, H2, H3⟩
  rw [wp_bind]
  iapply (part24 c i fh arg2 harg2 arg3 harg3 arg4 harg4 arg5 harg5 arg6 harg6 arg7 harg7 arg9 harg9 arg10 harg10 (harg7.unread x5) x5 hft hx _ _ _ _ _ W _) $$ [HI H5 HW Hk HN H0 H1 H2 H3 H4 H6 H7]
  isplitl [HI]; · iexact HI
  isplitl [H5]; · iexact H5
  isplitl [HW]; · iexact HW
  iintro ⟨HH, H5, HW⟩ %x
  obtain ⟨v38, v50, v54, v55, v69⟩ := x
  imod (start c fh (pgs x5 ((pt i + 1) % 64)) (sl (pt i + 1))) $$ HN with HI
  have hp : (pt i + 1) % 64 < 64 := Nat.mod_lt _ (by decide)
  have ho0 : k0_off43 i = ![(20 * ((pt i + 1) % 64) + 0) / 64, (20 * ((pt i + 1) % 64) + 0) % 64] := by clear * -; revert i; decide
  have hw0 : k0_off45 i = ![(sl (pt i + 1)).val, (0 : Fin 20).val, 0, 0, 0] := by clear * -; revert i; decide
  have hs0 : k0_off44 i = ![(sl (pt i + 1)).val] := by clear * -; revert i; decide
  have hl0 : k0_off123 i = ![(sl (pt i)).val, (0 : Fin 20).val, 0, 0, 0] := by clear * -; revert i; decide
  have ho1 : k0_off47 i = ![(20 * ((pt i + 1) % 64) + 1) / 64, (20 * ((pt i + 1) % 64) + 1) % 64] := by clear * -; revert i; decide
  have hw1 : k0_off49 i = ![(sl (pt i + 1)).val, (1 : Fin 20).val, 0, 0, 0] := by clear * -; revert i; decide
  have hs1 : k0_off48 i = ![(sl (pt i + 1)).val] := by clear * -; revert i; decide
  have hl1 : k0_off124 i = ![(sl (pt i)).val, (1 : Fin 20).val, 0, 0, 0] := by clear * -; revert i; decide
  have ho2 : k0_off51 i = ![(20 * ((pt i + 1) % 64) + 2) / 64, (20 * ((pt i + 1) % 64) + 2) % 64] := by clear * -; revert i; decide
  have hw2 : k0_off53 i = ![(sl (pt i + 1)).val, (2 : Fin 20).val, 0, 0, 0] := by clear * -; revert i; decide
  have hs2 : k0_off52 i = ![(sl (pt i + 1)).val] := by clear * -; revert i; decide
  have hl2 : k0_off125 i = ![(sl (pt i)).val, (2 : Fin 20).val, 0, 0, 0] := by clear * -; revert i; decide
  have ho3 : k0_off55 i = ![(20 * ((pt i + 1) % 64) + 3) / 64, (20 * ((pt i + 1) % 64) + 3) % 64] := by clear * -; revert i; decide
  have hw3 : k0_off57 i = ![(sl (pt i + 1)).val, (3 : Fin 20).val, 0, 0, 0] := by clear * -; revert i; decide
  have hs3 : k0_off56 i = ![(sl (pt i + 1)).val] := by clear * -; revert i; decide
  have hl3 : k0_off126 i = ![(sl (pt i)).val, (3 : Fin 20).val, 0, 0, 0] := by clear * -; revert i; decide
  have ho4 : k0_off59 i = ![(20 * ((pt i + 1) % 64) + 4) / 64, (20 * ((pt i + 1) % 64) + 4) % 64] := by clear * -; revert i; decide
  have hw4 : k0_off61 i = ![(sl (pt i + 1)).val, (4 : Fin 20).val, 0, 0, 0] := by clear * -; revert i; decide
  have hs4 : k0_off60 i = ![(sl (pt i + 1)).val] := by clear * -; revert i; decide
  have hl4 : k0_off127 i = ![(sl (pt i)).val, (4 : Fin 20).val, 0, 0, 0] := by clear * -; revert i; decide
  have ho5 : k0_off63 i = ![(20 * ((pt i + 1) % 64) + 5) / 64, (20 * ((pt i + 1) % 64) + 5) % 64] := by clear * -; revert i; decide
  have hw5 : k0_off65 i = ![(sl (pt i + 1)).val, (5 : Fin 20).val, 0, 0, 0] := by clear * -; revert i; decide
  have hs5 : k0_off64 i = ![(sl (pt i + 1)).val] := by clear * -; revert i; decide
  have hl5 : k0_off128 i = ![(sl (pt i)).val, (5 : Fin 20).val, 0, 0, 0] := by clear * -; revert i; decide
  have ho6 : k0_off67 i = ![(20 * ((pt i + 1) % 64) + 6) / 64, (20 * ((pt i + 1) % 64) + 6) % 64] := by clear * -; revert i; decide
  have hw6 : k0_off69 i = ![(sl (pt i + 1)).val, (6 : Fin 20).val, 0, 0, 0] := by clear * -; revert i; decide
  have hs6 : k0_off68 i = ![(sl (pt i + 1)).val] := by clear * -; revert i; decide
  have hl6 : k0_off129 i = ![(sl (pt i)).val, (6 : Fin 20).val, 0, 0, 0] := by clear * -; revert i; decide
  have ho7 : k0_off71 i = ![(20 * ((pt i + 1) % 64) + 7) / 64, (20 * ((pt i + 1) % 64) + 7) % 64] := by clear * -; revert i; decide
  have hw7 : k0_off73 i = ![(sl (pt i + 1)).val, (7 : Fin 20).val, 0, 0, 0] := by clear * -; revert i; decide
  have hs7 : k0_off72 i = ![(sl (pt i + 1)).val] := by clear * -; revert i; decide
  have hl7 : k0_off130 i = ![(sl (pt i)).val, (7 : Fin 20).val, 0, 0, 0] := by clear * -; revert i; decide
  have ho8 : k0_off75 i = ![(20 * ((pt i + 1) % 64) + 8) / 64, (20 * ((pt i + 1) % 64) + 8) % 64] := by clear * -; revert i; decide
  have hw8 : k0_off77 i = ![(sl (pt i + 1)).val, (8 : Fin 20).val, 0, 0, 0] := by clear * -; revert i; decide
  have hs8 : k0_off76 i = ![(sl (pt i + 1)).val] := by clear * -; revert i; decide
  have hl8 : k0_off131 i = ![(sl (pt i)).val, (8 : Fin 20).val, 0, 0, 0] := by clear * -; revert i; decide
  have ho9 : k0_off79 i = ![(20 * ((pt i + 1) % 64) + 9) / 64, (20 * ((pt i + 1) % 64) + 9) % 64] := by clear * -; revert i; decide
  have hw9 : k0_off81 i = ![(sl (pt i + 1)).val, (9 : Fin 20).val, 0, 0, 0] := by clear * -; revert i; decide
  have hs9 : k0_off80 i = ![(sl (pt i + 1)).val] := by clear * -; revert i; decide
  have hl9 : k0_off132 i = ![(sl (pt i)).val, (9 : Fin 20).val, 0, 0, 0] := by clear * -; revert i; decide
  have ho10 : k0_off83 i = ![(20 * ((pt i + 1) % 64) + 10) / 64, (20 * ((pt i + 1) % 64) + 10) % 64] := by clear * -; revert i; decide
  have hw10 : k0_off85 i = ![(sl (pt i + 1)).val, (10 : Fin 20).val, 0, 0, 0] := by clear * -; revert i; decide
  have hs10 : k0_off84 i = ![(sl (pt i + 1)).val] := by clear * -; revert i; decide
  have hl10 : k0_off133 i = ![(sl (pt i)).val, (10 : Fin 20).val, 0, 0, 0] := by clear * -; revert i; decide
  have ho11 : k0_off87 i = ![(20 * ((pt i + 1) % 64) + 11) / 64, (20 * ((pt i + 1) % 64) + 11) % 64] := by clear * -; revert i; decide
  have hw11 : k0_off89 i = ![(sl (pt i + 1)).val, (11 : Fin 20).val, 0, 0, 0] := by clear * -; revert i; decide
  have hs11 : k0_off88 i = ![(sl (pt i + 1)).val] := by clear * -; revert i; decide
  have hl11 : k0_off134 i = ![(sl (pt i)).val, (11 : Fin 20).val, 0, 0, 0] := by clear * -; revert i; decide
  have ho12 : k0_off91 i = ![(20 * ((pt i + 1) % 64) + 12) / 64, (20 * ((pt i + 1) % 64) + 12) % 64] := by clear * -; revert i; decide
  have hw12 : k0_off93 i = ![(sl (pt i + 1)).val, (12 : Fin 20).val, 0, 0, 0] := by clear * -; revert i; decide
  have hs12 : k0_off92 i = ![(sl (pt i + 1)).val] := by clear * -; revert i; decide
  have hl12 : k0_off135 i = ![(sl (pt i)).val, (12 : Fin 20).val, 0, 0, 0] := by clear * -; revert i; decide
  have ho13 : k0_off95 i = ![(20 * ((pt i + 1) % 64) + 13) / 64, (20 * ((pt i + 1) % 64) + 13) % 64] := by clear * -; revert i; decide
  have hw13 : k0_off97 i = ![(sl (pt i + 1)).val, (13 : Fin 20).val, 0, 0, 0] := by clear * -; revert i; decide
  have hs13 : k0_off96 i = ![(sl (pt i + 1)).val] := by clear * -; revert i; decide
  have hl13 : k0_off136 i = ![(sl (pt i)).val, (13 : Fin 20).val, 0, 0, 0] := by clear * -; revert i; decide
  have ho14 : k0_off99 i = ![(20 * ((pt i + 1) % 64) + 14) / 64, (20 * ((pt i + 1) % 64) + 14) % 64] := by clear * -; revert i; decide
  have hw14 : k0_off101 i = ![(sl (pt i + 1)).val, (14 : Fin 20).val, 0, 0, 0] := by clear * -; revert i; decide
  have hs14 : k0_off100 i = ![(sl (pt i + 1)).val] := by clear * -; revert i; decide
  have hl14 : k0_off137 i = ![(sl (pt i)).val, (14 : Fin 20).val, 0, 0, 0] := by clear * -; revert i; decide
  have ho15 : k0_off103 i = ![(20 * ((pt i + 1) % 64) + 15) / 64, (20 * ((pt i + 1) % 64) + 15) % 64] := by clear * -; revert i; decide
  have hw15 : k0_off105 i = ![(sl (pt i + 1)).val, (15 : Fin 20).val, 0, 0, 0] := by clear * -; revert i; decide
  have hs15 : k0_off104 i = ![(sl (pt i + 1)).val] := by clear * -; revert i; decide
  have hl15 : k0_off138 i = ![(sl (pt i)).val, (15 : Fin 20).val, 0, 0, 0] := by clear * -; revert i; decide
  have ho16 : k0_off107 i = ![(20 * ((pt i + 1) % 64) + 16) / 64, (20 * ((pt i + 1) % 64) + 16) % 64] := by clear * -; revert i; decide
  have hw16 : k0_off109 i = ![(sl (pt i + 1)).val, (16 : Fin 20).val, 0, 0, 0] := by clear * -; revert i; decide
  have hs16 : k0_off108 i = ![(sl (pt i + 1)).val] := by clear * -; revert i; decide
  have hl16 : k0_off139 i = ![(sl (pt i)).val, (16 : Fin 20).val, 0, 0, 0] := by clear * -; revert i; decide
  have ho17 : k0_off111 i = ![(20 * ((pt i + 1) % 64) + 17) / 64, (20 * ((pt i + 1) % 64) + 17) % 64] := by clear * -; revert i; decide
  have hw17 : k0_off113 i = ![(sl (pt i + 1)).val, (17 : Fin 20).val, 0, 0, 0] := by clear * -; revert i; decide
  have hs17 : k0_off112 i = ![(sl (pt i + 1)).val] := by clear * -; revert i; decide
  have hl17 : k0_off140 i = ![(sl (pt i)).val, (17 : Fin 20).val, 0, 0, 0] := by clear * -; revert i; decide
  have ho18 : k0_off115 i = ![(20 * ((pt i + 1) % 64) + 18) / 64, (20 * ((pt i + 1) % 64) + 18) % 64] := by clear * -; revert i; decide
  have hw18 : k0_off117 i = ![(sl (pt i + 1)).val, (18 : Fin 20).val, 0, 0, 0] := by clear * -; revert i; decide
  have hs18 : k0_off116 i = ![(sl (pt i + 1)).val] := by clear * -; revert i; decide
  have hl18 : k0_off141 i = ![(sl (pt i)).val, (18 : Fin 20).val, 0, 0, 0] := by clear * -; revert i; decide
  have ho19 : k0_off119 i = ![(20 * ((pt i + 1) % 64) + 19) / 64, (20 * ((pt i + 1) % 64) + 19) % 64] := by clear * -; revert i; decide
  have hw19 : k0_off121 i = ![(sl (pt i + 1)).val, (19 : Fin 20).val, 0, 0, 0] := by clear * -; revert i; decide
  have hs19 : k0_off120 i = ![(sl (pt i + 1)).val] := by clear * -; revert i; decide
  have hl19 : k0_off142 i = ![(sl (pt i)).val, (19 : Fin 20).val, 0, 0, 0] := by clear * -; revert i; decide
  have hz : k0_off143 i = ![(sl (pt i + 1)).val] := by clear * -; revert i; decide
  unfold k0_part25 k0_part26 k0_part27 k0_part28 k0_part29 k0_part30 k0_part31 k0_part32 k0_part33 k0_part34 k0_part35 k0_part36 k0_part37 k0_part38 k0_part39 k0_part40 k0_part41 k0_part42 k0_part43 k0_part44 k0_part45 k0_part46 k0_part47 k0_part48 k0_part49 k0_part50 k0_part51 k0_part52
  sl_exec (disch := exact chk_word _ _ (word_eq c arg7 _ x5 hft hx _ hp 0 _ _ _ ho0))
  iapply (wp_issue c fh (pgs x5 ((pt i + 1) % 64)) (sl (pt i + 1)) 0 (by decide) (pag_eq _ _ _ (word_eq c arg7 _ x5 hft hx _ hp 0 _ _ _ ho0)) (win_eq _ _ 0 _ hw0) (congrArg SemLoc.dma (sem_eq _ _ _ hs0))) $$ HI
  iintro HI
  sl_exec (disch := exact chk_word _ _ (word_eq c arg7 _ x5 hft hx _ hp 1 _ _ _ ho1))
  iapply (wp_issue c fh (pgs x5 ((pt i + 1) % 64)) (sl (pt i + 1)) 1 (by decide) (pag_eq _ _ _ (word_eq c arg7 _ x5 hft hx _ hp 1 _ _ _ ho1)) (win_eq _ _ 1 _ hw1) (congrArg SemLoc.dma (sem_eq _ _ _ hs1))) $$ HI
  iintro HI
  sl_exec (disch := exact chk_word _ _ (word_eq c arg7 _ x5 hft hx _ hp 2 _ _ _ ho2))
  iapply (wp_issue c fh (pgs x5 ((pt i + 1) % 64)) (sl (pt i + 1)) 2 (by decide) (pag_eq _ _ _ (word_eq c arg7 _ x5 hft hx _ hp 2 _ _ _ ho2)) (win_eq _ _ 2 _ hw2) (congrArg SemLoc.dma (sem_eq _ _ _ hs2))) $$ HI
  iintro HI
  sl_exec (disch := exact chk_word _ _ (word_eq c arg7 _ x5 hft hx _ hp 3 _ _ _ ho3))
  iapply (wp_issue c fh (pgs x5 ((pt i + 1) % 64)) (sl (pt i + 1)) 3 (by decide) (pag_eq _ _ _ (word_eq c arg7 _ x5 hft hx _ hp 3 _ _ _ ho3)) (win_eq _ _ 3 _ hw3) (congrArg SemLoc.dma (sem_eq _ _ _ hs3))) $$ HI
  iintro HI
  sl_exec (disch := exact chk_word _ _ (word_eq c arg7 _ x5 hft hx _ hp 4 _ _ _ ho4))
  iapply (wp_issue c fh (pgs x5 ((pt i + 1) % 64)) (sl (pt i + 1)) 4 (by decide) (pag_eq _ _ _ (word_eq c arg7 _ x5 hft hx _ hp 4 _ _ _ ho4)) (win_eq _ _ 4 _ hw4) (congrArg SemLoc.dma (sem_eq _ _ _ hs4))) $$ HI
  iintro HI
  sl_exec (disch := exact chk_word _ _ (word_eq c arg7 _ x5 hft hx _ hp 5 _ _ _ ho5))
  iapply (wp_issue c fh (pgs x5 ((pt i + 1) % 64)) (sl (pt i + 1)) 5 (by decide) (pag_eq _ _ _ (word_eq c arg7 _ x5 hft hx _ hp 5 _ _ _ ho5)) (win_eq _ _ 5 _ hw5) (congrArg SemLoc.dma (sem_eq _ _ _ hs5))) $$ HI
  iintro HI
  sl_exec (disch := exact chk_word _ _ (word_eq c arg7 _ x5 hft hx _ hp 6 _ _ _ ho6))
  iapply (wp_issue c fh (pgs x5 ((pt i + 1) % 64)) (sl (pt i + 1)) 6 (by decide) (pag_eq _ _ _ (word_eq c arg7 _ x5 hft hx _ hp 6 _ _ _ ho6)) (win_eq _ _ 6 _ hw6) (congrArg SemLoc.dma (sem_eq _ _ _ hs6))) $$ HI
  iintro HI
  sl_exec (disch := exact chk_word _ _ (word_eq c arg7 _ x5 hft hx _ hp 7 _ _ _ ho7))
  iapply (wp_issue c fh (pgs x5 ((pt i + 1) % 64)) (sl (pt i + 1)) 7 (by decide) (pag_eq _ _ _ (word_eq c arg7 _ x5 hft hx _ hp 7 _ _ _ ho7)) (win_eq _ _ 7 _ hw7) (congrArg SemLoc.dma (sem_eq _ _ _ hs7))) $$ HI
  iintro HI
  sl_exec (disch := exact chk_word _ _ (word_eq c arg7 _ x5 hft hx _ hp 8 _ _ _ ho8))
  iapply (wp_issue c fh (pgs x5 ((pt i + 1) % 64)) (sl (pt i + 1)) 8 (by decide) (pag_eq _ _ _ (word_eq c arg7 _ x5 hft hx _ hp 8 _ _ _ ho8)) (win_eq _ _ 8 _ hw8) (congrArg SemLoc.dma (sem_eq _ _ _ hs8))) $$ HI
  iintro HI
  sl_exec (disch := exact chk_word _ _ (word_eq c arg7 _ x5 hft hx _ hp 9 _ _ _ ho9))
  iapply (wp_issue c fh (pgs x5 ((pt i + 1) % 64)) (sl (pt i + 1)) 9 (by decide) (pag_eq _ _ _ (word_eq c arg7 _ x5 hft hx _ hp 9 _ _ _ ho9)) (win_eq _ _ 9 _ hw9) (congrArg SemLoc.dma (sem_eq _ _ _ hs9))) $$ HI
  iintro HI
  sl_exec (disch := exact chk_word _ _ (word_eq c arg7 _ x5 hft hx _ hp 10 _ _ _ ho10))
  iapply (wp_issue c fh (pgs x5 ((pt i + 1) % 64)) (sl (pt i + 1)) 10 (by decide) (pag_eq _ _ _ (word_eq c arg7 _ x5 hft hx _ hp 10 _ _ _ ho10)) (win_eq _ _ 10 _ hw10) (congrArg SemLoc.dma (sem_eq _ _ _ hs10))) $$ HI
  iintro HI
  sl_exec (disch := exact chk_word _ _ (word_eq c arg7 _ x5 hft hx _ hp 11 _ _ _ ho11))
  iapply (wp_issue c fh (pgs x5 ((pt i + 1) % 64)) (sl (pt i + 1)) 11 (by decide) (pag_eq _ _ _ (word_eq c arg7 _ x5 hft hx _ hp 11 _ _ _ ho11)) (win_eq _ _ 11 _ hw11) (congrArg SemLoc.dma (sem_eq _ _ _ hs11))) $$ HI
  iintro HI
  sl_exec (disch := exact chk_word _ _ (word_eq c arg7 _ x5 hft hx _ hp 12 _ _ _ ho12))
  iapply (wp_issue c fh (pgs x5 ((pt i + 1) % 64)) (sl (pt i + 1)) 12 (by decide) (pag_eq _ _ _ (word_eq c arg7 _ x5 hft hx _ hp 12 _ _ _ ho12)) (win_eq _ _ 12 _ hw12) (congrArg SemLoc.dma (sem_eq _ _ _ hs12))) $$ HI
  iintro HI
  sl_exec (disch := exact chk_word _ _ (word_eq c arg7 _ x5 hft hx _ hp 13 _ _ _ ho13))
  iapply (wp_issue c fh (pgs x5 ((pt i + 1) % 64)) (sl (pt i + 1)) 13 (by decide) (pag_eq _ _ _ (word_eq c arg7 _ x5 hft hx _ hp 13 _ _ _ ho13)) (win_eq _ _ 13 _ hw13) (congrArg SemLoc.dma (sem_eq _ _ _ hs13))) $$ HI
  iintro HI
  sl_exec (disch := exact chk_word _ _ (word_eq c arg7 _ x5 hft hx _ hp 14 _ _ _ ho14))
  iapply (wp_issue c fh (pgs x5 ((pt i + 1) % 64)) (sl (pt i + 1)) 14 (by decide) (pag_eq _ _ _ (word_eq c arg7 _ x5 hft hx _ hp 14 _ _ _ ho14)) (win_eq _ _ 14 _ hw14) (congrArg SemLoc.dma (sem_eq _ _ _ hs14))) $$ HI
  iintro HI
  sl_exec (disch := exact chk_word _ _ (word_eq c arg7 _ x5 hft hx _ hp 15 _ _ _ ho15))
  iapply (wp_issue c fh (pgs x5 ((pt i + 1) % 64)) (sl (pt i + 1)) 15 (by decide) (pag_eq _ _ _ (word_eq c arg7 _ x5 hft hx _ hp 15 _ _ _ ho15)) (win_eq _ _ 15 _ hw15) (congrArg SemLoc.dma (sem_eq _ _ _ hs15))) $$ HI
  iintro HI
  sl_exec (disch := exact chk_word _ _ (word_eq c arg7 _ x5 hft hx _ hp 16 _ _ _ ho16))
  iapply (wp_issue c fh (pgs x5 ((pt i + 1) % 64)) (sl (pt i + 1)) 16 (by decide) (pag_eq _ _ _ (word_eq c arg7 _ x5 hft hx _ hp 16 _ _ _ ho16)) (win_eq _ _ 16 _ hw16) (congrArg SemLoc.dma (sem_eq _ _ _ hs16))) $$ HI
  iintro HI
  sl_exec (disch := exact chk_word _ _ (word_eq c arg7 _ x5 hft hx _ hp 17 _ _ _ ho17))
  iapply (wp_issue c fh (pgs x5 ((pt i + 1) % 64)) (sl (pt i + 1)) 17 (by decide) (pag_eq _ _ _ (word_eq c arg7 _ x5 hft hx _ hp 17 _ _ _ ho17)) (win_eq _ _ 17 _ hw17) (congrArg SemLoc.dma (sem_eq _ _ _ hs17))) $$ HI
  iintro HI
  sl_exec (disch := exact chk_word _ _ (word_eq c arg7 _ x5 hft hx _ hp 18 _ _ _ ho18))
  iapply (wp_issue c fh (pgs x5 ((pt i + 1) % 64)) (sl (pt i + 1)) 18 (by decide) (pag_eq _ _ _ (word_eq c arg7 _ x5 hft hx _ hp 18 _ _ _ ho18)) (win_eq _ _ 18 _ hw18) (congrArg SemLoc.dma (sem_eq _ _ _ hs18))) $$ HI
  iintro HI
  sl_exec (disch := exact chk_word _ _ (word_eq c arg7 _ x5 hft hx _ hp 19 _ _ _ ho19))
  iapply (wp_issue c fh (pgs x5 ((pt i + 1) % 64)) (sl (pt i + 1)) 19 (by decide) (pag_eq _ _ _ (word_eq c arg7 _ x5 hft hx _ hp 19 _ _ _ ho19)) (win_eq _ _ 19 _ hw19) (congrArg SemLoc.dma (sem_eq _ _ _ hs19))) $$ HI
  iintro HI
  sl_exec
  iapply (wp_page c fh (pgs x5 (pt i)) (sl (pt i)) 0 hl0) $$ HH
  iintro HH
  sl_exec
  iapply (wp_page c fh (pgs x5 (pt i)) (sl (pt i)) 1 hl1) $$ HH
  iintro HH
  sl_exec
  iapply (wp_page c fh (pgs x5 (pt i)) (sl (pt i)) 2 hl2) $$ HH
  iintro HH
  sl_exec
  iapply (wp_page c fh (pgs x5 (pt i)) (sl (pt i)) 3 hl3) $$ HH
  iintro HH
  sl_exec
  iapply (wp_page c fh (pgs x5 (pt i)) (sl (pt i)) 4 hl4) $$ HH
  iintro HH
  sl_exec
  iapply (wp_page c fh (pgs x5 (pt i)) (sl (pt i)) 5 hl5) $$ HH
  iintro HH
  sl_exec
  iapply (wp_page c fh (pgs x5 (pt i)) (sl (pt i)) 6 hl6) $$ HH
  iintro HH
  sl_exec
  iapply (wp_page c fh (pgs x5 (pt i)) (sl (pt i)) 7 hl7) $$ HH
  iintro HH
  sl_exec
  iapply (wp_page c fh (pgs x5 (pt i)) (sl (pt i)) 8 hl8) $$ HH
  iintro HH
  sl_exec
  iapply (wp_page c fh (pgs x5 (pt i)) (sl (pt i)) 9 hl9) $$ HH
  iintro HH
  sl_exec
  iapply (wp_page c fh (pgs x5 (pt i)) (sl (pt i)) 10 hl10) $$ HH
  iintro HH
  sl_exec
  iapply (wp_page c fh (pgs x5 (pt i)) (sl (pt i)) 11 hl11) $$ HH
  iintro HH
  sl_exec
  iapply (wp_page c fh (pgs x5 (pt i)) (sl (pt i)) 12 hl12) $$ HH
  iintro HH
  sl_exec
  iapply (wp_page c fh (pgs x5 (pt i)) (sl (pt i)) 13 hl13) $$ HH
  iintro HH
  sl_exec
  iapply (wp_page c fh (pgs x5 (pt i)) (sl (pt i)) 14 hl14) $$ HH
  iintro HH
  sl_exec
  iapply (wp_page c fh (pgs x5 (pt i)) (sl (pt i)) 15 hl15) $$ HH
  iintro HH
  sl_exec
  iapply (wp_page c fh (pgs x5 (pt i)) (sl (pt i)) 16 hl16) $$ HH
  iintro HH
  sl_exec
  iapply (wp_page c fh (pgs x5 (pt i)) (sl (pt i)) 17 hl17) $$ HH
  iintro HH
  sl_exec
  iapply (wp_page c fh (pgs x5 (pt i)) (sl (pt i)) 18 hl18) $$ HH
  iintro HH
  sl_exec
  iapply (wp_page c fh (pgs x5 (pt i)) (sl (pt i)) 19 hl19) $$ HH
  iintro HH
  sl_exec
  by_cases h2 : k0_cond2 i = 1#1
  · rw [dif_pos h2]
    sl_exec
    iapply (wp_drain c fh (pgs x5 ((pt i + 1) % 64)) (sl (pt i + 1)) (by rfl) (sem_eq _ _ _ hz)) $$ [HI HW]
    · isplitl [HI]; · iexact HI
      iexact HW
    iintro ⟨HI, HW⟩
    sl_exec
    sl_step
    iapply Hk
    isplitl [HH]; · iapply (held_free c fh _ _) $$ HH
    isplitl [HI]
    · unfold Nxt
      rw [if_pos ((cond2_pt i).1 h2)]
      iapply (held_free c fh _ _) $$ HI
    isplitl [HW]; · iexists _; iexact HW
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7
  · rw [dif_neg h2]
    sl_step
    iapply Hk
    isplitl [HH]; · iapply (held_free c fh _ _) $$ HH
    isplitl [HI]
    · unfold Nxt
      rw [if_neg (fun h => h2 ((cond2_pt i).2 h))]
      iexact HI
    isplitl [HW]; · iexists _; iexact HW
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]; · iexists _; iexact H6
    iexists _; iexact H7

end Cert.Kernel5Ideal.Hand
end
-- ==== Proof.Stream.Ring.lean ====
/-
  The streamed projection of the prompt: what is held between the points' bodies, how it comes from the scratch buffer, the cache
  and the two semaphores as the launch gives them, and how it gives them back.
-/
module

public import proofs.«01_k».proof.Proof.Stream.Body

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

theorem mem_J (c : Dev nD) (s : Fin 2) (p : Fin 20) (x : S2x20x128x8x128.Idx) : x ∈ J c s p ↔ x 0 = s ∧ x 1 = p := by
  constructor
  · intro h
    obtain ⟨y, -, rfl⟩ := Finset.mem_map.1 h
    rw [slot_emb]
    exact ⟨rfl, rfl⟩
  · rintro ⟨rfl, rfl⟩
    have h : x = (slotM (x 0) (x 1)).view.emb (ix3 (x 2) (x 3) (x 4) : S128x8x128.Idx) := by
      refine Eq.trans ?_ (slot_emb (x 0) (x 1) _).symm
      funext a
      match a with
      | ⟨0, _⟩ => rfl
      | ⟨1, _⟩ => rfl
      | ⟨2, _⟩ => rfl
      | ⟨3, _⟩ => rfl
      | ⟨4, _⟩ => rfl
    exact Finset.mem_map.2 ⟨(ix3 (x 2) (x 3) (x 4) : S128x8x128.Idx), Finset.mem_univ _, h.symm⟩

theorem J_disj (c : Dev nD) : ∀ x ∈ (Finset.univ : Finset (Fin 2 × Fin 20)), ∀ y ∈ (Finset.univ : Finset (Fin 2 × Fin 20)), x ≠ y → Disjoint (J c x.1 x.2) (J c y.1 y.2) := by
  intro x _ y _ hxy
  rw [Finset.disjoint_left]
  intro z hz hz'
  have h1 := (mem_J c _ _ z).1 hz
  have h2 := (mem_J c _ _ z).1 hz'
  exact hxy (Prod.ext (h1.1.symm.trans h2.1) (h1.2.symm.trans h2.2))

theorem J_cover (c : Dev nD) : (Finset.univ : Finset (Fin 2 × Fin 20)).biUnion (fun x => J c x.1 x.2) = Finset.univ := by
  refine Finset.eq_univ_of_forall fun z => ?_
  have z' : S2x20x128x8x128.Idx := z
  exact Finset.mem_biUnion.mpr ⟨((show S2x20x128x8x128.Idx from z) 0, (show S2x20x128x8x128.Idx from z) 1), Finset.mem_univ _, (mem_J c _ _ z).2 ⟨rfl, rfl⟩⟩

/-- The scratch buffer, whole, is its forty windows. -/
theorem sc_split (c : Dev nD) (f : ScBuf (F := F) c) :
    (scB.view.loc (c : Thread nD τ) ↦{fullShare} f : sProp 𝕄)
      = iprop((bigSep Finset.univ fun p => scB.view.loc (c : Thread nD τ) ↦[J c 0 p]{fullShare} f) ∗ (bigSep Finset.univ fun p => scB.view.loc (c : Thread nD τ) ↦[J c 1 p]{fullShare} f)) := by
  rw [← bigSep_univ_two (fun s : Fin 2 => (bigSep Finset.univ fun p : Fin 20 => scB.view.loc (c : Thread nD τ) ↦[J c s p]{fullShare} f : sProp 𝕄)),
    ← bigSep_univ_prod (fun x : Fin 2 × Fin 20 => (scB.view.loc (c : Thread nD τ) ↦[J c x.1 x.2]{fullShare} f : sProp 𝕄)),
    ← pointsTo_biUnion Finset.univ (fun x : Fin 2 × Fin 20 => J c x.1 x.2) (J_disj c), J_cover]

/-- The forty windows, each at some contents, are the scratch buffer at some contents. -/
theorem sc_join (c : Dev nD) (fs : Fin 2 → Fin 20 → ScBuf (F := F) c) :
    (iprop((bigSep Finset.univ fun p => scB.view.loc (c : Thread nD τ) ↦[J c 0 p]{fullShare} fs 0 p) ∗ (bigSep Finset.univ fun p => scB.view.loc (c : Thread nD τ) ↦[J c 1 p]{fullShare} fs 1 p)) : sProp 𝕄)
      ⊢ iprop(∃ g, scB.view.loc (c : Thread nD τ) ↦{fullShare} g) := by
  rw [← bigSep_univ_two (fun s : Fin 2 => (bigSep Finset.univ fun p : Fin 20 => scB.view.loc (c : Thread nD τ) ↦[J c s p]{fullShare} fs s p : sProp 𝕄)),
    ← bigSep_univ_prod (fun x : Fin 2 × Fin 20 => (scB.view.loc (c : Thread nD τ) ↦[J c x.1 x.2]{fullShare} fs x.1 x.2 : sProp 𝕄))]
  refine (pointsTo_biUnion_join Finset.univ (fun x : Fin 2 × Fin 20 => J c x.1 x.2) (fun x => fs x.1 x.2) (fs 0 0) (J_disj c)).trans ?_
  rw [J_cover]
  iintro ⟨%g, -, H⟩
  iexists g
  iexact H

/-- What is left of the cache's share beside the forty read shares of the transfers. -/
def Left (c : Dev nD) (fh : HbBuf (F := F) c) : sProp 𝕄 :=
  iprop((hbM.view.loc (c : Thread nD τ) ↦{shareDrop fullShare 2} fh) ∗ (hbM.view.loc (c : Thread nD τ) ↦{shareDrop (shareTok fullShare 2 0) 20} fh)
    ∗ (hbM.view.loc (c : Thread nD τ) ↦{shareDrop (shareTok fullShare 2 1) 20} fh))

theorem hb_split (c : Dev nD) (fh : HbBuf (F := F) c) :
    (hbM.view.loc (c : Thread nD τ) ↦{fullShare} fh : sProp 𝕄)
      ⊢ iprop(Left c fh ∗ (bigSep Finset.univ fun p => hbM.view.loc (c : Thread nD τ) ↦{tk 0 p} fh) ∗ (bigSep Finset.univ fun p => hbM.view.loc (c : Thread nD τ) ↦{tk 1 p} fh)) := by
  refine (pointsTo_toks_split fullShare 2).trans ?_
  rw [bigSep_univ_two]
  unfold Left
  iintro ⟨H, H0, H1⟩
  ihave ⟨D0, T0⟩ := (pointsTo_toks_split (shareTok fullShare 2 0) 20) $$ H0
  ihave ⟨D1, T1⟩ := (pointsTo_toks_split (shareTok fullShare 2 1) 20) $$ H1
  isplitl [H D0 D1]
  · isplitl [H]; · iexact H
    isplitl [D0]; · iexact D0
    iexact D1
  isplitl [T0]; · iexact T0
  iexact T1

theorem hb_join (c : Dev nD) (fh : HbBuf (F := F) c) :
    (iprop(Left c fh ∗ (bigSep Finset.univ fun p => hbM.view.loc (c : Thread nD τ) ↦{tk 0 p} fh) ∗ (bigSep Finset.univ fun p => hbM.view.loc (c : Thread nD τ) ↦{tk 1 p} fh)) : sProp 𝕄)
      ⊢ (hbM.view.loc (c : Thread nD τ) ↦{fullShare} fh) := by
  unfold Left
  iintro ⟨⟨H, D0, D1⟩, T0, T1⟩
  iapply (pointsTo_toks_join fullShare 2)
  rw [bigSep_univ_two]
  isplitl [H]; · iexact H
  isplitl [D0 T0]
  · iapply (pointsTo_toks_join (shareTok fullShare 2 0) 20)
    isplitl [D0]; · iexact D0
    iexact T0
  iapply (pointsTo_toks_join (shareTok fullShare 2 1) 20)
  isplitl [D1]; · iexact D1
  iexact T1

theorem free_of (c : Dev nD) (fh : HbBuf (F := F) c) (s : Fin 2) (f : ScBuf (F := F) c) :
    (iprop((bigSep Finset.univ fun p => scB.view.loc (c : Thread nD τ) ↦[J c s p]{fullShare} f) ∗ (bigSep Finset.univ fun p => hbM.view.loc (c : Thread nD τ) ↦{tk s p} fh)) : sProp 𝕄)
      ⊢ bigSep Finset.univ (Free c fh s) := by
  rw [← bigSep_sep']
  refine bigSep_mono fun p _ => ?_
  unfold Free
  exact sep_mono_left (exists_intro (Φ := fun f => iprop(scB.view.loc (c : Thread nD τ) ↦[J c s p]{fullShare} f)) f)

theorem of_free (c : Dev nD) (fh : HbBuf (F := F) c) (s : Fin 2) :
    (bigSep Finset.univ (Free c fh s) : sProp 𝕄)
      ⊢ iprop((∃ fs : Fin 20 → ScBuf (F := F) c, bigSep Finset.univ fun p => scB.view.loc (c : Thread nD τ) ↦[J c s p]{fullShare} fs p) ∗ (bigSep Finset.univ fun p => hbM.view.loc (c : Thread nD τ) ↦{tk s p} fh)) := by
  haveI : Nonempty (ScBuf (F := F) c) := ⟨landed c fh fun _ => 0⟩
  have h : (Free c fh s : Fin 20 → sProp 𝕄) = fun p => iprop((∃ f, scB.view.loc (c : Thread nD τ) ↦[J c s p]{fullShare} f) ∗ hbM.view.loc (c : Thread nD τ) ↦{tk s p} fh) := by
    funext p; rfl
  rw [h, bigSep_sep']
  exact sep_mono_left (bigSep_exists_pi Finset.univ (fun (p : Fin 20) (f : ScBuf (F := F) c) => (scB.view.loc (c : Thread nD τ) ↦[J c s p]{fullShare} f : sProp 𝕄)))

/-- The two slots between the points' bodies: free before the first and after the last, else the coming point's
    twenty transfers in flight and the other slot free. -/
def Ring (c : Dev nD) (fh : HbBuf (F := F) c) (x5 : Vec F S32x64 .i32) (t : ℕ) : sProp 𝕄 :=
  if t = 0 ∨ t = 64 then iprop(FreeS c fh 0 ∗ FreeS c fh 1)
  else iprop(Issuing c fh (pgs x5 t) (sl t) 20 ∗ FreeS c fh (sl (t + 1)))

theorem ring_end (c : Dev nD) (fh : HbBuf (F := F) c) (x5 : Vec F S32x64 .i32) (t : ℕ) (h : t = 0 ∨ t = 64) :
    (Ring c fh x5 t : sProp 𝕄) = iprop(FreeS c fh 0 ∗ FreeS c fh 1) := if_pos h

theorem ring_open (c : Dev nD) (fh : HbBuf (F := F) c) (x5 : Vec F S32x64 .i32) (t : ℕ) (ht : t < 64) :
    (Ring c fh x5 t : sProp 𝕄) ⊢ |={Set.univ}=> iprop(Issuing c fh (pgs x5 t) (sl t) (k0 t) ∗ FreeS c fh (sl (t + 1))) := by
  by_cases h : t = 0
  · subst h
    rw [ring_end _ _ _ _ (Or.inl rfl), show k0 0 = 0 from rfl, show sl 0 = 0 from rfl, show sl (0 + 1) = 1 from rfl]
    iintro ⟨H0, H1⟩
    imod (start c fh (pgs x5 0) 0) $$ H0 with H0
    imodintro
    isplitl [H0]; · iexact H0
    iexact H1
  · rw [show (Ring c fh x5 t : sProp 𝕄) = iprop(Issuing c fh (pgs x5 t) (sl t) 20 ∗ FreeS c fh (sl (t + 1))) from if_neg (by omega), show k0 t = 20 from if_neg h]
    iintro H
    imodintro
    iexact H

theorem ring_close (c : Dev nD) (fh : HbBuf (F := F) c) (x5 : Vec F S32x64 .i32) (t : ℕ) (ht : t < 64) :
    (iprop(FreeS c fh (sl t) ∗ Nxt c fh x5 t) : sProp 𝕄) ⊢ Ring c fh x5 (t + 1) := by
  by_cases h : t = 63
  · subst h
    rw [ring_end _ _ _ _ (Or.inr rfl), show (Nxt c fh x5 63 : sProp 𝕄) = FreeS c fh (sl (63 + 1)) from if_pos rfl, show sl 63 = 1 from rfl, show sl (63 + 1) = 0 from rfl]
    iintro ⟨H0, H1⟩
    isplitl [H1]; · iexact H1
    iexact H0
  · rw [show (Ring c fh x5 (t + 1) : sProp 𝕄) = iprop(Issuing c fh (pgs x5 (t + 1)) (sl (t + 1)) 20 ∗ FreeS c fh (sl (t + 1 + 1))) from if_neg (by omega),
      show (Nxt c fh x5 t : sProp 𝕄) = Issuing c fh (pgs x5 ((t + 1) % 64)) (sl (t + 1)) 20 from if_neg h,
      show (t + 1) % 64 = t + 1 from Nat.mod_eq_of_lt (by omega), show sl (t + 1 + 1) = sl t from Fin.ext (by show (t + 1 + 1) % 2 = t % 2; omega)]
    iintro ⟨H0, H1⟩
    isplitl [H1]; · iexact H1
    iexact H0

/-! ## From the launch and back -/

abbrev osem0 : Fin 2 → SemLoc sig := fun j => (![SemLoc.dma 13, SemLoc.dma 14] : Fin 2 → SemLoc sig) j
theorem ownSemFacts0 : Pipeline.OwnSemFacts spec0 osem0 := by decide
theorem ownSems00_eq (c : Dev nD) :
    (Pipeline.ownSems0 (Ix := Unit) (Name := ℕ) (U := Pipeline.UD sig nD τ) (Lvl := ℕ) (Val := Elt F) (τ := τ) osem0 c : sProp 𝕄)
      = iprop(semVal ((c : Thread nD τ), .dma (semS 0)) 0 ∗ semVal ((c : Thread nD τ), .dma (semS 1)) 0) := by
  rw [Pipeline.ownSems0_eq_of_list c osem0 [0, 1] (by decide) (by decide)]; rfl
/-- The cache, which the body's transfers read. -/
def H0 : Finset (Ref sig .tc) := {main_arg6}
theorem H0_sub : H0 ⊆ Pipeline.restRefs sig spec0 := by decide

theorem hbmPts0_eq (c : Dev nD) (V : (b : Ref sig .tc) → Buf (Elt F) ((c : Thread nD τ).loc b)) :
    (bigSep H0 (fun b => ((c : Thread nD τ).loc b) ↦{fullShare} V b) : sProp 𝕄) = (hbM.view.loc (c : Thread nD τ) ↦{fullShare} (V main_arg6 : HbBuf (F := F) c)) := by
  rw [BI.bigSep_eq_bigSepL_of_eq [main_arg6] (by decide) (by decide)]; rfl

theorem sc_whole (c : Dev nD) :
    (Pipeline.scopedRest (Ix := Unit) (Name := ℕ) (U := Pipeline.UD sig nD τ) (Lvl := ℕ) (Val := Elt F) spec0 c : sProp 𝕄)
      = iprop(∃ f : ScBuf (F := F) c, scB.view.loc (c : Thread nD τ) ↦{fullShare} f) := scopedRest0_eq c

/-- What is held beside the windows' buffers at a point. -/
def Inv (c : Dev nD) (fh : HbBuf (F := F) c) (x5 : Vec F S32x64 .i32) (t : ℕ) : sProp 𝕄 :=
  iprop(Ring c fh x5 t ∗ Left c fh ∗ (∃ r, prngReg c r))

theorem inv_in (c : Dev nD) (V : (c : Dev nD) → (b : Ref sig .tc) → Buf (Elt F) ((c : Thread nD τ).loc b)) (x5 : Vec F S32x64 .i32) :
    (Pipeline.ΦD osem0 spec0 H0 V c : sProp 𝕄) ⊢ Inv c (V c main_arg6) x5 0 := by
  rw [Pipeline.ΦD_eq, sc_whole, ownSems00_eq, hbmPts0_eq]
  unfold Inv
  rw [ring_end _ _ _ _ (Or.inl rfl)]
  unfold FreeS
  iintro ⟨⟨%f, HS⟩, Hg, ⟨Q0, Q1⟩, HH⟩
  ihave ⟨S0, S1⟩ := (Entails.of_eq (sc_split c f)) $$ HS
  ihave ⟨HL, T0, T1⟩ := (hb_split c (V c main_arg6)) $$ HH
  isplitl [S0 S1 T0 T1 Q0 Q1]
  · isplitl [S0 T0 Q0]
    · isplitl [Q0]; · iexact Q0
      iapply (free_of c (V c main_arg6) 0 f)
      isplitl [S0]; · iexact S0
      iexact T0
    isplitl [Q1]; · iexact Q1
    iapply (free_of c (V c main_arg6) 1 f)
    isplitl [S1]; · iexact S1
    iexact T1
  isplitl [HL]; · iexact HL
  iexact Hg

theorem inv_out (c : Dev nD) (V : (c : Dev nD) → (b : Ref sig .tc) → Buf (Elt F) ((c : Thread nD τ).loc b)) (x5 : Vec F S32x64 .i32) :
    (Inv c (V c main_arg6) x5 64 : sProp 𝕄) ⊢ Pipeline.ΦD osem0 spec0 H0 V c := by
  rw [Pipeline.ΦD_eq, sc_whole, ownSems00_eq, hbmPts0_eq]
  unfold Inv
  rw [ring_end _ _ _ _ (Or.inr rfl)]
  unfold FreeS
  iintro ⟨⟨⟨Q0, F0⟩, ⟨Q1, F1⟩⟩, HL, Hg⟩
  ihave ⟨⟨%f0, S0⟩, T0⟩ := (of_free c (V c main_arg6) 0) $$ F0
  ihave ⟨⟨%f1, S1⟩, T1⟩ := (of_free c (V c main_arg6) 1) $$ F1
  isplitl [S0 S1]
  · iapply (sc_join c (fun s => match s with | 0 => f0 | 1 => f1))
    isplitl [S0]; · iexact S0
    iexact S1
  isplitl [Hg]; · iexact Hg
  isplitl [Q0 Q1]
  · isplitl [Q0]; · iexact Q0
    iexact Q1
  iapply (hb_join c (V c main_arg6))
  isplitl [HL]; · iexact HL
  isplitl [T0]; · iexact T0
  iexact T1

end Cert.Kernel5Ideal.Hand

end
-- ==== Proof.Stream.Frame.lean ====
/-
  The streamed projection of the prompt: what its run leaves in the results' buffers, the proof data, the body's
  obligation, the run and the frame.
-/
module

public import proofs.«01_k».proof.Proof.Stream.Ring

@[expose] public section

set_option maxRecDepth 16384

noncomputable section

namespace Cert.Kernel5Ideal.Hand

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.Transfers
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.ValueIdx

variable (m : (l : Loc nD τ sig) → Buf (Elt F) l) (ρ : Dev nD → PrngReg)

/-- The table of pages. -/
def Tab (c : Dev nD) : Vec F S32x64 .i32 := V m c main_arg5

theorem idx5 : ∀ t : Fin cfg0.N, win0_5.index t = ![0, 0] := by decide +kernel

theorem tab_eq (c : Dev nD) (t : Fin cfg0.N) : (iblk m c 5 t : Vec F S32x64 .i32) = Tab m c := by
  funext y
  unfold Tab iblk
  refine congrArg (V m c main_arg5) ?_
  funext a
  apply Fin.ext
  show win0_5.index t a * _ + 1 * _ = _
  rw [idx5 t]
  fin_cases a
  · show 0 * _ + 1 * (y 0 : ℕ) = (y 0 : ℕ); omega
  · show 0 * _ + 1 * (y 1 : ℕ) = (y 1 : ℕ); omega

theorem pt_coords : ∀ t : Fin cfg0.N, pt (grid0.coords t) = t.val := by decide +kernel

variable (hx : ∀ c, ∀ n < 1280, (Tab m c (ixT n) : BitVec 32).toNat < 2560)

/-! ## What the results' buffers hold, the proof data -/

abbrev VO6 : View sig .tc .vmem S1x256x6144 .bf16 := (Memref.whole cc0_stg6_0 : Memref sig .tc .vmem S1x256x6144 .bf16).view
abbrev VO7 : View sig .tc .vmem S10x8x128 .f32 := (Memref.whole cc0_stg7_0 : Memref sig .tc .vmem S10x8x128 .f32).view

/-- The stores of point `t`'s body to the projection's buffer. -/
def L6 (c : Dev nD) (t : Fin cfg0.N) : List (View.Piece (Elt F) S1x256x6144 .bf16) := (bodyRun c (grid0.coords t) (V m c main_arg6) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (Tab m c) (hx c)).1
/-- The stores of point `t`'s body to the means' buffer. -/
def L7 (c : Dev nD) (t : Fin cfg0.N) : List (View.Piece (Elt F) S10x8x128 .f32) := (bodyRun c (grid0.coords t) (V m c main_arg6) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (Tab m c) (hx c)).2.1

theorem cover6 (c : Dev nD) (t : Fin cfg0.N) (y : S1x256x6144.Idx) : ∃ pc ∈ L6 m hx c t, y ∈ pc.1.set :=
  View.cover_of_tiledL (L6 m hx c t) S1x256x512.size (by unfold L6; sl_kernel_rfl) y
theorem cover7 (c : Dev nD) (t : Fin cfg0.N) (y : S10x8x128.Idx) : ∃ pc ∈ L7 m hx c t, y ∈ pc.1.set :=
  View.cover_of_tiledL (L7 m hx c t) S1x8x128.size (by unfold L7; sl_kernel_rfl) y

def out6 (c : Dev nD) (t : Fin cfg0.N) : Vec F S1x256x6144 .bf16 := VO6.read (Elt F) (VO6.writes (Elt F) VO6.junk (L6 m hx c t))
def out7 (c : Dev nD) (t : Fin cfg0.N) : Vec F S10x8x128 .f32 := VO7.read (Elt F) (VO7.writes (Elt F) VO7.junk (L7 m hx c t))

/-- The proof data of the one pipeline on core `c`. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 m hx c t
    | ⟨7, _⟩ => out7 m hx c t
  Φ t := Inv c (V m c main_arg6) (Tab m c) t.val
  q _ := fullShare
  owed _ := 0

theorem A_eq (c : Dev nD) (w : Fin cfg0.W) : (dats m hx 0 c).A w = V m c (Pipeline.arrRef spec0 w) := by
  dsimp only [dats]
theorem after0_6 (c : Dev nD) (t : Fin cfg0.N) : (dats m hx 0 c).after 6 t = out6 m hx c t := by dsimp only [dats]
theorem after0_7 (c : Dev nD) (t : Fin cfg0.N) : (dats m hx 0 c).after 7 t = out7 m hx c t := by dsimp only [dats]
theorem after0_0 (c : Dev nD) (t : Fin cfg0.N) : (dats m hx 0 c).after 0 t = iblk m c 0 t := by dsimp only [dats]
theorem before0_0 (c : Dev nD) (t : Fin cfg0.N) (d) : (dats m hx 0 c).before 0 t d = iblk m c 0 t :=
  ((dats m hx 0 c).before_in_eq_fetched 0 rfl (fun _ => rfl) (fun _ _ _ => rfl) (fun t => by rw [after0_0]; unfold Dat.blockOf iblk; rw [A_eq]; try rfl) t d).trans
    (by unfold Dat.fetched Dat.blockOf iblk; rw [A_eq]; try rfl)
theorem after0_1 (c : Dev nD) (t : Fin cfg0.N) : (dats m hx 0 c).after 1 t = iblk m c 1 t := by dsimp only [dats]
theorem before0_1 (c : Dev nD) (t : Fin cfg0.N) (d) : (dats m hx 0 c).before 1 t d = iblk m c 1 t :=
  ((dats m hx 0 c).before_in_eq_fetched 1 rfl (fun _ => rfl) (fun _ _ _ => rfl) (fun t => by rw [after0_1]; unfold Dat.blockOf iblk; rw [A_eq]; try rfl) t d).trans
    (by unfold Dat.fetched Dat.blockOf iblk; rw [A_eq]; try rfl)
theorem after0_2 (c : Dev nD) (t : Fin cfg0.N) : (dats m hx 0 c).after 2 t = iblk m c 2 t := by dsimp only [dats]
theorem before0_2 (c : Dev nD) (t : Fin cfg0.N) (d) : (dats m hx 0 c).before 2 t d = iblk m c 2 t :=
  ((dats m hx 0 c).before_in_eq_fetched 2 rfl (fun _ => rfl) (fun _ _ _ => rfl) (fun t => by rw [after0_2]; unfold Dat.blockOf iblk; rw [A_eq]; try rfl) t d).trans
    (by unfold Dat.fetched Dat.blockOf iblk; rw [A_eq]; try rfl)
theorem after0_3 (c : Dev nD) (t : Fin cfg0.N) : (dats m hx 0 c).after 3 t = iblk m c 3 t := by dsimp only [dats]
theorem before0_3 (c : Dev nD) (t : Fin cfg0.N) (d) : (dats m hx 0 c).before 3 t d = iblk m c 3 t :=
  ((dats m hx 0 c).before_in_eq_fetched 3 rfl (fun _ => rfl) (fun _ _ _ => rfl) (fun t => by rw [after0_3]; unfold Dat.blockOf iblk; rw [A_eq]; try rfl) t d).trans
    (by unfold Dat.fetched Dat.blockOf iblk; rw [A_eq]; try rfl)
theorem after0_4 (c : Dev nD) (t : Fin cfg0.N) : (dats m hx 0 c).after 4 t = iblk m c 4 t := by dsimp only [dats]
theorem before0_4 (c : Dev nD) (t : Fin cfg0.N) (d) : (dats m hx 0 c).before 4 t d = iblk m c 4 t :=
  ((dats m hx 0 c).before_in_eq_fetched 4 rfl (fun _ => rfl) (fun _ _ _ => rfl) (fun t => by rw [after0_4]; unfold Dat.blockOf iblk; rw [A_eq]; try rfl) t d).trans
    (by unfold Dat.fetched Dat.blockOf iblk; rw [A_eq]; try rfl)
theorem after0_5 (c : Dev nD) (t : Fin cfg0.N) : (dats m hx 0 c).after 5 t = iblk m c 5 t := by dsimp only [dats]
theorem before0_5 (c : Dev nD) (t : Fin cfg0.N) (d) : (dats m hx 0 c).before 5 t d = iblk m c 5 t :=
  ((dats m hx 0 c).before_in_eq_fetched 5 rfl (fun _ => rfl) (fun _ _ _ => rfl) (fun t => by rw [after0_5]; unfold Dat.blockOf iblk; rw [A_eq]; try rfl) t d).trans
    (by unfold Dat.fetched Dat.blockOf iblk; rw [A_eq]; try rfl)

def bodyPre (c : Dev nD) (t : Fin cfg0.N) : sProp 𝕄 :=
  iprop((dats m hx 0 c).Φ t.castSucc ∗ (dats m hx 0 c).owesAt () t.castSucc
    ∗ (∃ d, owns (c : Thread nD τ) (st0_0 t) fullShare ((dats m hx 0 c).before 0 t d))
    ∗ (∃ d, owns (c : Thread nD τ) (st0_1 t) fullShare ((dats m hx 0 c).before 1 t d))
    ∗ (∃ d, owns (c : Thread nD τ) (st0_2 t) fullShare ((dats m hx 0 c).before 2 t d))
    ∗ (∃ d, owns (c : Thread nD τ) (st0_3 t) fullShare ((dats m hx 0 c).before 3 t d))
    ∗ (∃ d, owns (c : Thread nD τ) (st0_4 t) fullShare ((dats m hx 0 c).before 4 t d))
    ∗ (∃ d, owns (c : Thread nD τ) (st0_5 t) fullShare ((dats m hx 0 c).before 5 t d))
    ∗ (∃ d, owns (c : Thread nD τ) (st0_6 t) fullShare ((dats m hx 0 c).before 6 t d))
    ∗ (∃ d, owns (c : Thread nD τ) (st0_7 t) fullShare ((dats m hx 0 c).before 7 t d)))
def bodyPost (c : Dev nD) (t : Fin cfg0.N) : sProp 𝕄 :=
  iprop((dats m hx 0 c).Φ t.succ ∗ (dats m hx 0 c).owesAt () t.succ
    ∗ owns (c : Thread nD τ) (st0_0 t) fullShare ((dats m hx 0 c).after 0 t)
    ∗ owns (c : Thread nD τ) (st0_1 t) fullShare ((dats m hx 0 c).after 1 t)
    ∗ owns (c : Thread nD τ) (st0_2 t) fullShare ((dats m hx 0 c).after 2 t)
    ∗ owns (c : Thread nD τ) (st0_3 t) fullShare ((dats m hx 0 c).after 3 t)
    ∗ owns (c : Thread nD τ) (st0_4 t) fullShare ((dats m hx 0 c).after 4 t)
    ∗ owns (c : Thread nD τ) (st0_5 t) fullShare ((dats m hx 0 c).after 5 t)
    ∗ owns (c : Thread nD τ) (st0_6 t) fullShare ((dats m hx 0 c).after 6 t)
    ∗ owns (c : Thread nD τ) (st0_7 t) fullShare ((dats m hx 0 c).after 7 t))

set_option pp.maxSteps 250 in
set_option maxHeartbeats 1000000 in
theorem sound_body (c : Dev nD) (t : Fin cfg0.N) :
    bodyPre m hx c t ⊢ wp frame (wpE (defs₀ (F := F)) Variants.none c none) Set.univ (bodyAt0 t) (fun _ => bodyPost m hx c t) := by
  have ht : pt (grid0.coords t) < 64 := lt_of_eq_of_lt (pt_coords t) (lt_of_lt_of_eq t.isLt N_0)
  unfold bodyPre bodyPost bodyAt0
  simp only [before0_0, before0_1, before0_2, before0_3, before0_4, before0_5]
  rw [after0_0, after0_1, after0_2, after0_3, after0_4, after0_5, after0_6, after0_7]
  rw [show (dats m hx 0 c).Φ t.castSucc = Inv c (V m c main_arg6) (Tab m c) (pt (grid0.coords t)) from congrArg (Inv c (V m c main_arg6) (Tab m c)) (pt_coords t).symm, show (dats m hx 0 c).Φ t.succ = Inv c (V m c main_arg6) (Tab m c) (pt (grid0.coords t) + 1) from congrArg (fun n => Inv c (V m c main_arg6) (Tab m c) (n + 1)) (pt_coords t).symm]
  unfold Inv Dat.owesAt Pipeline.owesWithin
  rw [show (dats m hx 0 c).owed t.castSucc = 0 from rfl, show (dats m hx 0 c).owed t.succ = 0 from rfl]
  iintro ⟨⟨HR, HL, Hg⟩, ⟨%W, -, HW⟩, ⟨%d0, H0⟩, ⟨%d1, H1⟩, ⟨%d2, H2⟩, ⟨%d3, H3⟩, ⟨%d4, H4⟩, ⟨%d5, H5⟩, ⟨%d6, H6⟩, ⟨%d7, H7⟩⟩
  imod (ring_open c (V m c main_arg6) (Tab m c) (pt (grid0.coords t)) ht) $$ HR with ⟨HI, HF⟩
  rw [tab_eq m c t]
  have hrun := (bodyRun c (grid0.coords t) (V m c main_arg6) (st0_0 t) (hstage0_0 ((cfg0.slots t 0).cast nbuf0_0)) (st0_1 t) (hstage0_1 ((cfg0.slots t 1).cast nbuf0_1)) (st0_2 t) (hstage0_2 ((cfg0.slots t 2).cast nbuf0_2)) (st0_3 t) (hstage0_3 ((cfg0.slots t 3).cast nbuf0_3)) (st0_4 t) (hstage0_4 ((cfg0.slots t 4).cast nbuf0_4)) (st0_5 t) (hstage0_5 ((cfg0.slots t 5).cast nbuf0_5)) (st0_6 t) (hstage0_6 ((cfg0.slots t 6).cast nbuf0_6)) (st0_7 t) (hstage0_7 ((cfg0.slots t 7).cast nbuf0_7)) (iblk m c 0 t) (iblk m c 1 t) (iblk m c 2 t) (iblk m c 3 t) (iblk m c 4 t) (Tab m c) (hx c)).2.2 W
  iapply (hrun _) $$ [HI HF HW H0 H1 H2 H3 H4 H5 H6 H7 HL Hg]
  isplitl [HI]; · iexact HI
  isplitl [HF]; · iexact HF
  isplitl [HW]; · iexact HW
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨HF, HN, ⟨%W', HW⟩, H0, H1, H2, H3, H4, H5, ⟨%e6, H6⟩, ⟨%e7, H7⟩⟩
  isplitl [HF HN HL Hg]
  · isplitl [HF HN]
    · iapply (ring_close c (V m c main_arg6) (Tab m c) (pt (grid0.coords t)) ht)
      isplitl [HF]; · iexact HF
      iexact HN
    isplitl [HL]; · iexact HL
    iexact Hg
  isplitl [HW]
  · iexists W'; isplitr; · ipureintro; exact fun _ _ => Or.inl trivial
    iexact HW
  isplitl [H0]; · iexact H0
  isplitl [H1]; · iexact H1
  isplitl [H2]; · iexact H2
  isplitl [H3]; · iexact H3
  isplitl [H4]; · iexact H4
  isplitl [H5]; · iexact H5
  isplitl [H6]
  · unfold owns out6; iexists _; isplitr
    swap; · iexact H6
    ipureintro; exact View.read_writes_of_cover _ _ _ _ _ (cover6 m hx c t)
  unfold owns out7; iexists _; isplitr
  swap; · iexact H7
  ipureintro; exact View.read_writes_of_cover _ _ _ _ _ (cover7 m hx c t)

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m hx 0 c) (defs₀ (F := F)) Variants.none () Set.univ := fun t => by
  rw [bigSep_W0, bigSep_W0, defs₀_row]
  exact triple_restated (sound_body m hx c t) rfl .rfl fun _ => .rfl

/-! ## The run and the frame -/

set_option maxHeartbeats 800000 in
theorem hmainD (𝒱₀ : Variants) : Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

include hx in
set_option backward.isDefEq.respectTransparency.types false in
theorem run_main : θ_run defs (onTc (τ := τ) (main (F := F))) (s₀ m ρ) (fun r => Pipeline.FramePost cfgs (dats m hx) 0 (V m) r ∧ r.2.sem = fun _ => 0) :=
  Pipeline.θ_run_frame_dma (Q' := _) cfgs (dats m hx) (0 : Fin 1) launch0 osem0 defs₀ Variants.none ownSemFacts0 H0 H0_sub m ρ main
    (hbody := fun c => (body_obligation m hx c).loose) (hshare := fun c => (dats m hx 0 c).share_full fun _ => rfl)
    (howed := fun _ _ => rfl) (V := V m) (hmain := hmainD m Variants.none) (hA := A_eq m hx)
    (hin := fun c => inv_in c (V m) (Tab m c)) (hout := fun c => inv_out c (V m) (Tab m c))
    (hQ' := fun _ h => h)

include hx in
/-- THE FRAME, at any `F`. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  (θ_run defs _ _).mono (fun _ h' => by
    obtain ⟨h, hs⟩ := h'
    refine ⟨fun c => ?_, hs⟩
    exact ⟨((h c).1 0).trans (((dats m hx 0 c).arrAt_in 0 rfl _).trans ((A_eq m hx c 0).trans (V_main_arg0 m c))),
      ((h c).2 main_arg1 (Pipeline.mem_restRefs_of main_arg1 (by decide) (by decide))).trans (V_main_arg1 m c),
      ((h c).1 2).trans (((dats m hx 0 c).arrAt_in 2 rfl _).trans ((A_eq m hx c 2).trans (V_main_arg2 m c))),
      ((h c).1 3).trans (((dats m hx 0 c).arrAt_in 3 rfl _).trans ((A_eq m hx c 3).trans (V_main_arg3 m c))),
      ((h c).1 4).trans (((dats m hx 0 c).arrAt_in 4 rfl _).trans ((A_eq m hx c 4).trans (V_main_arg4 m c))),
      ((h c).1 5).trans (((dats m hx 0 c).arrAt_in 5 rfl _).trans ((A_eq m hx c 5).trans (V_main_arg5 m c))),
      ((h c).2 main_arg6 (Pipeline.mem_restRefs_of main_arg6 (by decide) (by decide))).trans (V_main_arg6 m c)⟩) (run_main m ρ hx)

end Cert.Kernel5Ideal.Hand

end
-- ==== Proof.Stream.Pre.lean ====
/- What the precondition says of the table: its first twenty rows are numbers of pages of the cache. -/
module

public import proofs.«01_k».proof.Pre_pages_in_cache
public import proofs.«01_k».proof.Proof.Stream.Frame
public import Idealize.ShloMosaic.Lib.Pointwise

@[expose] public section

set_option maxRecDepth 16384

noncomputable section

open Idealize.ShloMosaic Idealize.ShloMosaic.TcCoe

namespace Cert.Pre_pages_in_cache

theorem facts : Facts where
  slices_S32x64_S20x64_0_0 := by decide
  bcast_S_S20x64 := by decide

theorem fn_apply {F : FTy → Type} [FloatOps F] [Facts] (a0 a1 a2 a3 a4) (p : IVec S32x64 32) (a6) (r : Fin 20) (x : Fin 64) :
    fn (F := F) a0 a1 a2 a3 a4 p a6 (ix2 r x)
      = BitVec.ofBool (BitVec.sle 0#32 (p (ix2 ⟨r, by omega⟩ x))) &&& BitVec.ofBool (BitVec.slt (p (ix2 ⟨r, by omega⟩ x)) 2560#32) := by
  pointwise [fn]
  rfl

theorem toNat_lt (v : BitVec 32) (h : BitVec.ofBool (BitVec.sle 0#32 v) &&& BitVec.ofBool (BitVec.slt v 2560#32) = 1#1) : v.toNat < 2560 := by
  have h1 : BitVec.sle 0#32 v = true := by
    cases e : BitVec.sle 0#32 v
    · rw [e] at h
      cases e2 : BitVec.slt v 2560#32 <;> rw [e2] at h <;> exact absurd h (by decide)
    · rfl
  have h2 : BitVec.slt v 2560#32 = true := by
    cases e : BitVec.slt v 2560#32
    · rw [e, h1] at h
      exact absurd h (by decide)
    · rfl
  rw [BitVec.sle, decide_eq_true_eq] at h1
  rw [BitVec.slt, decide_eq_true_eq] at h2
  have e0 : (0#32 : BitVec 32).toInt = 0 := by decide
  have e1 : (2560#32 : BitVec 32).toInt = 2560 := by decide
  rw [e0] at h1
  rw [e1] at h2
  rw [BitVec.toInt_eq_toNat_cond] at h1 h2
  have := v.isLt
  split at h1 <;> split at h2 <;> omega

/-- The table's first 1280 words, at the precondition, are below the number of pages. -/
theorem pages {F : FTy → Type} [FloatOps F] [Facts] (a0 a1 a2 a3 a4) (p : IVec S32x64 32) (a6) (h : fn (F := F) a0 a1 a2 a3 a4 p a6 = fun _ => 1#1) (n : ℕ) (hn : n < 1280) :
    (p (ix2 ⟨n / 64 % 32, Nat.mod_lt _ (by decide)⟩ ⟨n % 64, Nat.mod_lt _ (by decide)⟩) : BitVec 32).toNat < 2560 := by
  have e := (fn_apply a0 a1 a2 a3 a4 p a6 ⟨n / 64, by omega⟩ ⟨n % 64, Nat.mod_lt _ (by decide)⟩).symm.trans (congrFun h _)
  have q : (⟨n / 64 % 32, Nat.mod_lt _ (by decide)⟩ : Fin 32) = ⟨n / 64, by omega⟩ := Fin.ext (Nat.mod_eq_of_lt (by omega))
  rw [q]
  exact toNat_lt _ e

end Cert.Pre_pages_in_cache
end
-- ==== Proof.Stream.Value.lean ====
/- The streamed projection of the prompt: the pieces its one point stores, in plain terms of the blocks it reads. -/
module

public import proofs.«01_k».proof.Proof.Stream.Frame
public import Idealize.ShloMosaic.Lib.Pointwise
public import Idealize.ShloMosaic.Lib.Pipeline.ValueKit
public import Idealize.ShloMosaic.Lib.Pipeline.ReadBack

@[expose] public section

set_option maxRecDepth 16384

noncomputable section

namespace Cert.Kernel5Ideal.Hand

open Idealize.ShloMosaic Idealize.SL.Sem Cert.Kernel5Ideal Cert.Kernel5Ideal.Gen

variable {F : FTy → Type} [FloatOps F]

/-- The normed and modulated rows. -/
def hB (v0 : Vec F S1x256x1024 .f32) (v2 : Vec F S1x1024 .f32) (v4 v6 : Vec F S1x1x1024 .f32) : FVec F S256x1024 .bf16 :=
  truncf .bf16 (addf (mulf (mulf (mulf (shapeCast S256x1024 v0 shapeCasts_S1x256x1024_S256x1024) (broadcastTo S256x1024 (rsqrt (addf (divf (shapeCast S256x1 (multiReduction .add [1] S256 (mulf (shapeCast S256x1024 v0 shapeCasts_S1x256x1024_S256x1024) (shapeCast S256x1024 v0 shapeCasts_S1x256x1024_S256x1024)) 0x00000000#32 reduces_S256x1024_S256 (.inl rfl) rfl) shapeCasts_S256_S256x1) (broadcast S256x1 (Scalar.ofBits .f32 0x44800000#32))) (broadcast S256x1 (Scalar.ofBits .f32 0x358637BD#32)))) broadcasts_S256x1_S256x1024)) (broadcastTo S256x1024 (shapeCast S1x1024 v2 shapeCasts_S1x1024_S1x1024) broadcasts_S1x1024_S256x1024)) (broadcastTo S256x1024 (addf (broadcast S1x1024 (Scalar.ofBits .f32 0x3F800000#32)) (shapeCast S1x1024 v6 shapeCasts_S1x1x1024_S1x1024)) broadcasts_S1x1024_S256x1024)) (broadcastTo S256x1024 (shapeCast S1x1024 v4 shapeCasts_S1x1x1024_S1x1024) broadcasts_S1x1024_S256x1024)) bitsLt_bf16_f32

/-- The rows' product with 512 columns of the weights. -/
def oB (h : FVec F S256x1024 .bf16) (w : Vec F S1024x512 .bf16) : FVec F S1x256x512 .bf16 :=
  shapeCast S1x256x512 (truncf .bf16 (matmul dot_S256x1024_S1024x512_S256x512_1_0_0_1_n_n none h w (constant S256x512 .f32 0x00000000#32)) bitsLt_bf16_f32) shapeCasts_S256x512_S1x256x512

/-- The mean of two pages' rows. -/
def kB (a b : Vec F S1x1x128x8x128 .f32) : FVec F S1x8x128 .f32 :=
  shapeCast S1x8x128 (divf (addf (multiReduction .add [0] S8x128 (shapeCast S128x8x128 a shapeCasts_S1x1x128x8x128_S128x8x128) 0x00000000#32 reduces_S128x8x128_S8x128 (.inl rfl) rfl) (multiReduction .add [0] S8x128 (shapeCast S128x8x128 b shapeCasts_S1x1x128x8x128_S128x8x128) 0x00000000#32 reduces_S128x8x128_S8x128 (.inl rfl) rfl)) (broadcast S8x128 (Scalar.ofBits .f32 0x43800000#32))) shapeCasts_S8x128_S1x8x128

/-- The projection's pieces, the last written first. -/
def oL (h : FVec F S256x1024 .bf16) (w : Vec F S1024x6144 .bf16) : List (View.Piece (Elt F) S1x256x6144 .bf16) :=
  [⟨Rect.unit ![0, 0, 5632] ![1, 256, 512] inb_S1x256x6144_S1x256x512_0_0_5632, oB h (View.ld w (Rect.unit ![0, 5632] ![1024, 512] inb_S1024x6144_S1024x512_0_5632))⟩,
    ⟨Rect.unit ![0, 0, 5120] ![1, 256, 512] inb_S1x256x6144_S1x256x512_0_0_5120, oB h (View.ld w (Rect.unit ![0, 5120] ![1024, 512] inb_S1024x6144_S1024x512_0_5120))⟩,
    ⟨Rect.unit ![0, 0, 4608] ![1, 256, 512] inb_S1x256x6144_S1x256x512_0_0_4608, oB h (View.ld w (Rect.unit ![0, 4608] ![1024, 512] inb_S1024x6144_S1024x512_0_4608))⟩,
    ⟨Rect.unit ![0, 0, 4096] ![1, 256, 512] inb_S1x256x6144_S1x256x512_0_0_4096, oB h (View.ld w (Rect.unit ![0, 4096] ![1024, 512] inb_S1024x6144_S1024x512_0_4096))⟩,
    ⟨Rect.unit ![0, 0, 3584] ![1, 256, 512] inb_S1x256x6144_S1x256x512_0_0_3584, oB h (View.ld w (Rect.unit ![0, 3584] ![1024, 512] inb_S1024x6144_S1024x512_0_3584))⟩,
    ⟨Rect.unit ![0, 0, 3072] ![1, 256, 512] inb_S1x256x6144_S1x256x512_0_0_3072, oB h (View.ld w (Rect.unit ![0, 3072] ![1024, 512] inb_S1024x6144_S1024x512_0_3072))⟩,
    ⟨Rect.unit ![0, 0, 2560] ![1, 256, 512] inb_S1x256x6144_S1x256x512_0_0_2560, oB h (View.ld w (Rect.unit ![0, 2560] ![1024, 512] inb_S1024x6144_S1024x512_0_2560))⟩,
    ⟨Rect.unit ![0, 0, 2048] ![1, 256, 512] inb_S1x256x6144_S1x256x512_0_0_2048, oB h (View.ld w (Rect.unit ![0, 2048] ![1024, 512] inb_S1024x6144_S1024x512_0_2048))⟩,
    ⟨Rect.unit ![0, 0, 1536] ![1, 256, 512] inb_S1x256x6144_S1x256x512_0_0_1536, oB h (View.ld w (Rect.unit ![0, 1536] ![1024, 512] inb_S1024x6144_S1024x512_0_1536))⟩,
    ⟨Rect.unit ![0, 0, 1024] ![1, 256, 512] inb_S1x256x6144_S1x256x512_0_0_1024, oB h (View.ld w (Rect.unit ![0, 1024] ![1024, 512] inb_S1024x6144_S1024x512_0_1024))⟩,
    ⟨Rect.unit ![0, 0, 512] ![1, 256, 512] inb_S1x256x6144_S1x256x512_0_0_512, oB h (View.ld w (Rect.unit ![0, 512] ![1024, 512] inb_S1024x6144_S1024x512_0_512))⟩,
    ⟨Rect.unit ![0, 0, 0] ![1, 256, 512] inb_S1x256x6144_S1x256x512_0_0_0, oB h (View.ld w (Rect.unit ![0, 0] ![1024, 512] inb_S1024x6144_S1024x512_0_0))⟩]

/-- The means' pieces, the last written first. -/
def kL (c : Dev nD) (fh : HbBuf (F := F) c) (g : Fin 20 → Fin 2560) : List (View.Piece (Elt F) S10x8x128 .f32) :=
  [⟨Rect.unit ![9, 0, 0] ![1, 8, 128] inb_S10x8x128_S1x8x128_9_0_0, kB (pageV c fh (g 18)) (pageV c fh (g 19))⟩,
    ⟨Rect.unit ![8, 0, 0] ![1, 8, 128] inb_S10x8x128_S1x8x128_8_0_0, kB (pageV c fh (g 16)) (pageV c fh (g 17))⟩,
    ⟨Rect.unit ![7, 0, 0] ![1, 8, 128] inb_S10x8x128_S1x8x128_7_0_0, kB (pageV c fh (g 14)) (pageV c fh (g 15))⟩,
    ⟨Rect.unit ![6, 0, 0] ![1, 8, 128] inb_S10x8x128_S1x8x128_6_0_0, kB (pageV c fh (g 12)) (pageV c fh (g 13))⟩,
    ⟨Rect.unit ![5, 0, 0] ![1, 8, 128] inb_S10x8x128_S1x8x128_5_0_0, kB (pageV c fh (g 10)) (pageV c fh (g 11))⟩,
    ⟨Rect.unit ![4, 0, 0] ![1, 8, 128] inb_S10x8x128_S1x8x128_4_0_0, kB (pageV c fh (g 8)) (pageV c fh (g 9))⟩,
    ⟨Rect.unit ![3, 0, 0] ![1, 8, 128] inb_S10x8x128_S1x8x128_3_0_0, kB (pageV c fh (g 6)) (pageV c fh (g 7))⟩,
    ⟨Rect.unit ![2, 0, 0] ![1, 8, 128] inb_S10x8x128_S1x8x128_2_0_0, kB (pageV c fh (g 4)) (pageV c fh (g 5))⟩,
    ⟨Rect.unit ![1, 0, 0] ![1, 8, 128] inb_S10x8x128_S1x8x128_1_0_0, kB (pageV c fh (g 2)) (pageV c fh (g 3))⟩,
    ⟨Rect.unit ![0, 0, 0] ![1, 8, 128] inb_S10x8x128_S1x8x128_0_0_0, kB (pageV c fh (g 0)) (pageV c fh (g 1))⟩]

variable (m : (l : Loc nD τ sig) → Buf (Elt F) l)
variable (hx : ∀ c, ∀ n < 1280, (Tab m c (ixT n) : BitVec 32).toNat < 2560)

theorem L7_eq (c : Dev nD) (t : Fin cfg0.N) : L7 m hx c t = kL c (V m c main_arg6) (pgs (Tab m c) t.val) := by
  unfold L7 kL
  rw [← pt_coords t]
  rfl

set_option pp.maxSteps 400 in
theorem L6_eq (c : Dev nD) (t : Fin cfg0.N) : L6 m hx c t = oL (hB (iblk m c 0 t) (iblk m c 1 t) (iblk m c 2 t) (iblk m c 3 t)) (iblk m c 4 t) := by
  unfold L6 oL
  dsimp only [bodyRun, run23]
  frame_out
  rfl

end Cert.Kernel5Ideal.Hand

end
-- ==== Proof.Stream.Entry.lean ====
/- The streamed projection of the prompt: one entry of each piece its point stores. -/
module

public import proofs.«01_k».proof.Proof.Stream.Value

@[expose] public section

set_option maxRecDepth 16384

noncomputable section

namespace Cert.Kernel5Ideal.Hand

open Idealize.ShloMosaic Idealize.SL.Sem Cert.Kernel5Ideal Cert.Kernel5Ideal.Gen

/-- The normed and modulated row `r` of batch `b`. -/
def nAt {B T : ℕ} (x : (⟨3, ![B, T, 1024]⟩ : Shape).Idx → EReal) (g sh sc : Fin 1024 → EReal) (b : Fin B) (r : Fin T) (k : Fin 1024) : EReal :=
  x (ix3 b r k) * Ideal.rsqrt (Ideal.div (∑ j : Fin 1024, x (ix3 b r j) * x (ix3 b r j)) (Ideal.ofBits .f32 0x44800000#32) + Ideal.ofBits .f32 0x358637BD#32)
    * g k * (1 + sc k) + sh k

theorem hB_apply (v0 v2 v4 v6) (r : Fin 256) (k : Fin 1024) :
    hB (F := Ideal) v0 v2 v4 v6 (ix2 r k) = nAt v0 (fun k => v2 (ix2 0 k)) (fun k => v4 (ix3 0 0 k)) (fun k => v6 (ix3 0 0 k)) 0 r k := by
  pointwise [hB, nAt]

theorem oB_apply (h w) (r : Fin 256) (b : Fin 512) : oB (F := Ideal) h w (ix3 0 r b) = ∑ k : Fin 1024, h (ix2 r k) * w (ix2 k b) := by
  pointwise [oB]

theorem kB_apply (a b) (h : Fin 8) (d : Fin 128) : kB (F := Ideal) a b (ix3 0 h d)
    = Ideal.div ((∑ i : Fin 128, a (ix5 0 0 i h d)) + ∑ i : Fin 128, b (ix5 0 0 i h d)) (Ideal.ofBits .f32 0x43800000#32) := by
  pointwise [kB]

theorem oL_cover (h : FVec Ideal S256x1024 .bf16) (w : Vec Ideal S1024x6144 .bf16) (y : S1x256x6144.Idx) : ∃ pc ∈ oL h w, y ∈ pc.1.set :=
  View.cover_of_tiledL (oL h w) S1x256x512.size (by unfold oL; sl_kernel_rfl) y

theorem kL_cover (c : Dev nD) (fh : HbBuf (F := Ideal) c) (g : Fin 20 → Fin 2560) (y : S10x8x128.Idx) : ∃ pc ∈ kL c fh g, y ∈ pc.1.set :=
  View.cover_of_tiledL (kL c fh g) S1x8x128.size (by unfold kL; sl_kernel_rfl) y

theorem oL_apply (h : FVec Ideal S256x1024 .bf16) (w : Vec Ideal S1024x6144 .bf16) (r : Fin 256) (b : Fin 6144) :
    View.canon (oL h w) (ix3 0 r b) = ∑ k : Fin 1024, h (ix2 r k) * w (ix2 k b) := by
  unfold oL
  canon_tiles x hx using oL_cover h w (ix3 0 r b)
  all_goals
    have hr : (x 1 : Fin 256) = r := Fin.ext hx1.symm
    have e : x = ix3 0 r (x 2) := by
      funext a
      fin_cases a
      · exact Subsingleton.elim (α := Fin 1) _ _
      · exact hr
      · rfl
    refine (congrArg (oB (F := Ideal) h _) e).trans ((oB_apply h _ r (x 2)).trans (Finset.sum_congr rfl fun k _ => congrArg (h (ix2 r k) * ·) ?_))
    refine View.ld_unit_apply_of w _ _ _ (ix2 k (x 2)) (ix2 k b) fun d => ?_
    fin_cases d
    · exact (Nat.zero_add _).symm
    · first | exact hx2 | exact hx2.trans (Nat.zero_add _).symm

/-- The mean of two pages' entries of one head. -/
def pgM (f : S2560x128x8x128.Idx → EReal) (a b : Fin 2560) (h : Fin 8) (d : Fin 128) : EReal :=
  Ideal.div ((∑ i : Fin 128, f (ix4 a i h d)) + ∑ i : Fin 128, f (ix4 b i h d)) (Ideal.ofBits .f32 0x43800000#32)

theorem kB_page (c : Dev nD) (fh : HbBuf (F := Ideal) c) (a b : Fin 2560) (h : Fin 8) (d : Fin 128) :
    kB (F := Ideal) (pageV c fh a) (pageV c fh b) (ix3 0 h d) = pgM fh a b h d :=
  (kB_apply _ _ h d).trans rfl

theorem kL_apply (c : Dev nD) (fh : HbBuf (F := Ideal) c) (g : Fin 20 → Fin 2560) (n : Fin 10) (h : Fin 8) (d : Fin 128) :
    View.canon (kL c fh g) (ix3 n h d) = pgM fh (g ⟨2 * n, by omega⟩) (g ⟨2 * n + 1, by omega⟩) h d := by
  unfold kL
  canon_tiles x hx using kL_cover c fh g (ix3 n h d)
  all_goals
    have h0 : (x 0 : ℕ) = 0 := Nat.lt_one_iff.1 (x 0).isLt
    have e : x = ix3 0 h d := by
      funext a
      fin_cases a
      · exact Subsingleton.elim (α := Fin 1) _ _
      · exact Fin.ext hx1.symm
      · exact Fin.ext hx2.symm
    refine (congrArg (kB (F := Ideal) _ _) e).trans ((kB_page c fh _ _ h d).trans ?_)
    have hn : (n : ℕ) = _ := hx0
    rw [h0] at hn
    refine congrArg₂ (fun a b => pgM fh (g a) (g b) h d) (Fin.ext ?_) (Fin.ext ?_)
    · dsimp only
      rw [hn]
      rfl
    · dsimp only
      rw [hn]
      rfl

end Cert.Kernel5Ideal.Hand

end
-- ==== Proof.Stream.Point.lean ====
/- The arrays that the streamed projection of the prompt leaves. -/
module

public import proofs.«01_k».proof.Proof.Stream.Entry

@[expose] public section

set_option maxRecDepth 16384

noncomputable section

namespace Cert.Kernel5Ideal.Hand

open Idealize.ShloMosaic Idealize.SL.Sem Cert.Kernel5Ideal Cert.Kernel5Ideal.Gen

variable (m : (l : Loc nD τ sig) → Buf (Elt Ideal) l) (c : Dev nD) (t : Fin cfg0.N)

/-- The prompt. -/
abbrev arg0 : FVec Ideal S8x2048x1024 .f32 := m ((c.tc : Thread nD τ).loc main_arg0)
/-- The norm's gains. -/
abbrev arg1 : FVec Ideal S1024 .f32 := m ((c.tc : Thread nD τ).loc main_arg1)
/-- The shifts. -/
abbrev arg2 : FVec Ideal S8x1x1024 .f32 := m ((c.tc : Thread nD τ).loc main_arg2)
/-- The scales. -/
abbrev arg3 : FVec Ideal S8x1x1024 .f32 := m ((c.tc : Thread nD τ).loc main_arg3)
/-- The weights. -/
abbrev arg4 : FVec Ideal S1024x6144 .bf16 := m ((c.tc : Thread nD τ).loc main_arg4)
/-- The table of pages. -/
abbrev arg5 : IVec S32x64 32 := m ((c.tc : Thread nD τ).loc main_arg5)
/-- The pages. -/
abbrev arg6 : FVec Ideal S2560x128x8x128 .f32 := m ((c.tc : Thread nD τ).loc main_arg6)

theorem idx0 : ∀ t : Fin cfg0.N, win0_0.index t = ![t.val / 8, t.val % 8, 0] := by decide +kernel
theorem idx1 : ∀ t : Fin cfg0.N, win0_1.index t = ![0, 0] := by decide +kernel
theorem idx2 : ∀ t : Fin cfg0.N, win0_2.index t = ![t.val / 8, 0, 0] := by decide +kernel
theorem idx3 : ∀ t : Fin cfg0.N, win0_3.index t = ![t.val / 8, 0, 0] := by decide +kernel
theorem idx4 : ∀ t : Fin cfg0.N, win0_4.index t = ![0, 0] := by decide +kernel
theorem idx6 : ∀ t : Fin cfg0.N, win0_6.index t = ![t.val / 8, t.val % 8, 0] := by decide +kernel
theorem idx7 : ∀ t : Fin cfg0.N, win0_7.index t = ![t.val, 0, 0] := by decide +kernel

theorem lt64 (t : Fin cfg0.N) : t.val < 64 := lt_of_lt_of_eq t.isLt (show cfg0.N = 64 from N_0)

/-- The batch row of a point. -/
abbrev row (t : Fin cfg0.N) : Fin 8 := ⟨t.val / 8, by have := lt64 t; omega⟩
/-- A row of the point's block, as a token. -/
abbrev tok (t : Fin cfg0.N) (r : Fin 256) : Fin 2048 := ⟨256 * (t.val % 8) + r, by omega⟩
/-- A row of the point's means, as a block of the cache. -/
abbrev blkN (t : Fin cfg0.N) (n : Fin 10) : Fin 640 := ⟨10 * t.val + n, by have := lt64 t; omega⟩

theorem rd0 (r : Fin 256) (x : Fin 1024) : iblk m c 0 t (ix3 0 r x) = arg0 m c (ix3 (row t) (tok t r) x) := by
  have := lt64 t
  blk_ext [iblk, V, idx0 t]
theorem rd1 (k : Fin 1024) : iblk m c 1 t (ix2 0 k) = arg1 m c (ix1 k) := by
  have h : iblk m c 1 t (ix2 0 k) = V m c main_v0 (ix2 0 k) := by
    blk_ext [iblk, idx1 t]
  refine h.trans ?_
  entry_read
  pointwise
theorem rd2 (x : Fin 1024) : iblk m c 2 t (ix3 0 0 x) = arg2 m c (ix3 (row t) 0 x) := by
  have := lt64 t
  blk_ext [iblk, V, idx2 t]
theorem rd3 (x : Fin 1024) : iblk m c 3 t (ix3 0 0 x) = arg3 m c (ix3 (row t) 0 x) := by
  have := lt64 t
  blk_ext [iblk, V, idx3 t]
theorem rd4 (r : Fin 1024) (x : Fin 6144) : iblk m c 4 t (ix2 r x) = arg4 m c (ix2 r x) := by
  blk_ext [iblk, V, idx4 t]

/-- One entry of the projection. -/
def oAt (x : S8x2048x1024.Idx → EReal) (g : S1024.Idx → EReal) (sh sc : S8x1x1024.Idx → EReal) (w : S1024x6144.Idx → EReal) (b : Fin 8) (s : Fin 2048) (d : Fin 6144) : EReal :=
  ∑ k : Fin 1024, nAt x (fun k => g (ix1 k)) (fun k => sh (ix3 b 0 k)) (fun k => sc (ix3 b 0 k)) b s k * w (ix2 k d)

/-- The page that word `n` of the table names. -/
def pgOf (p : IVec S32x64 32) (n : ℕ) : Fin 2560 := ⟨(p (ixT n) : BitVec 32).toNat % 2560, Nat.mod_lt _ (by decide)⟩

/-- One entry of the means. -/
def mAt (p : IVec S32x64 32) (f : S2560x128x8x128.Idx → EReal) (n : Fin 640) (h : Fin 8) (d : Fin 128) : EReal :=
  pgM f (pgOf p (2 * n)) (pgOf p (2 * n + 1)) h d

theorem nAt_blk (r : Fin 256) (k : Fin 1024) :
    nAt (iblk m c 0 t : S1x256x1024.Idx → EReal) (fun k => iblk m c 1 t (ix2 0 k)) (fun k => iblk m c 2 t (ix3 0 0 k)) (fun k => iblk m c 3 t (ix3 0 0 k)) 0 r k
      = nAt (arg0 m c) (fun k => arg1 m c (ix1 k)) (fun k => arg2 m c (ix3 (row t) 0 k)) (fun k => arg3 m c (ix3 (row t) 0 k)) (row t) (tok t r) k := by
  unfold nAt
  simp only [rd0, rd1, rd2, rd3]

/-- The projection's array. -/
def arr6 : S8x2048x6144.Idx → EReal := fun y => oAt (arg0 m c) (arg1 m c) (arg2 m c) (arg3 m c) (arg4 m c) (y 0) (y 1) (y 2)

/-- The means' array. -/
def arr7 : S640x8x128.Idx → EReal := fun y => mAt (arg5 m c) (arg6 m c) (y 0) (y 1) (y 2)

theorem idx_eq6 (y : S1x256x6144.Idx) : y = ix3 0 (y 1) (y 2) := by
  funext a
  fin_cases a
  · exact Subsingleton.elim (α := Fin 1) _ _
  · rfl
  · rfl

theorem idx_eq7 (y : S10x8x128.Idx) : y = ix3 (y 0) (y 1) (y 2) := by
  funext a
  fin_cases a <;> rfl

variable (hx : ∀ c, ∀ n < 1280, (Tab m c (ixT n) : BitVec 32).toNat < 2560)

theorem blk6 (r : Fin 256) (d : Fin 6144) : out6 m hx c t (ix3 0 r d) = arr6 m c (ix3 (row t) (tok t r) d) := by
  unfold out6
  rw [View.read_writes_junk_eq_canon, L6_eq]
  refine (oL_apply _ _ r d).trans ?_
  show _ = oAt (arg0 m c) (arg1 m c) (arg2 m c) (arg3 m c) (arg4 m c) (row t) (tok t r) d
  unfold oAt
  refine Finset.sum_congr rfl fun k _ => ?_
  exact congrArg₂ (· * ·) ((hB_apply _ _ _ _ r k).trans (nAt_blk m c t r k)) (rd4 m c t k d)

theorem blk7 (n : Fin 10) (h : Fin 8) (d : Fin 128) : out7 m hx c t (ix3 n h d) = arr7 m c (ix3 (blkN t n) h d) := by
  unfold out7
  rw [View.read_writes_junk_eq_canon, L7_eq]
  refine (kL_apply c _ _ n h d).trans ?_
  have e1 : pgs (Tab m c) t.val ⟨2 * n, by omega⟩ = pgOf (arg5 m c) (2 * (blkN t n : ℕ)) := by
    unfold pgs pgOf Tab
    rw [V_main_arg5]
    exact Fin.ext (congrArg (fun i => ((arg5 m c (ixT i) : BitVec 32).toNat % 2560)) (by dsimp only; omega))
  have e2 : pgs (Tab m c) t.val ⟨2 * n + 1, by omega⟩ = pgOf (arg5 m c) (2 * (blkN t n : ℕ) + 1) := by
    unfold pgs pgOf Tab
    rw [V_main_arg5]
    exact Fin.ext (congrArg (fun i => ((arg5 m c (ixT i) : BitVec 32).toNat % 2560)) (by dsimp only; omega))
  rw [e1, e2, V_main_arg6]
  rfl

set_option maxHeartbeats 2000000 in
theorem arr6_eq : (dats m hx 0 c).arrAt 6 cfg0.N = arr6 m c := by
  refine (dats m hx 0 c).arrAt_eq_of_covers 6 _ (by decide +kernel) fun t hf y => ?_
  have := lt64 t
  blk_simp
  rw [after0_6]
  have h1 : (win0_6.blk t).view.emb y = ix3 (row t) (tok t (y 1)) (y 2) := by
    blk_ext [idx6 t]
  refine (congrArg (out6 m hx c t) (idx_eq6 y)).trans ((blk6 m c t hx _ _).trans ?_)
  exact (congrArg (arr6 m c) h1).symm

set_option maxHeartbeats 2000000 in
theorem arr7_eq : (dats m hx 0 c).arrAt 7 cfg0.N = arr7 m c := by
  refine (dats m hx 0 c).arrAt_eq_of_covers 7 _ (by decide +kernel) fun t hf y => ?_
  have := lt64 t
  blk_simp
  rw [after0_7]
  have h1 : (win0_7.blk t).view.emb y = ix3 (blkN t (y 0)) (y 1) (y 2) := by
    blk_ext [idx7 t]
  refine (congrArg (out7 m hx c t) (idx_eq7 y)).trans ((blk7 m c t hx _ _ _).trans ?_)
  exact (congrArg (arr7 m c) h1).symm

/-- A run leaves the arguments as they were. -/
theorem args_eq (r : PUnit × MemSt nD τ sig (Elt Ideal)) (h : Pipeline.FramePost cfgs (dats m hx) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6) :=
  ⟨((h c).1 0).trans (((dats m hx 0 c).arrAt_in 0 rfl _).trans ((A_eq m hx c 0).trans (V_main_arg0 m c))),
    ((h c).2 main_arg1 (Pipeline.mem_restRefs_of main_arg1 (by decide) (by decide))).trans (V_main_arg1 m c),
    ((h c).1 2).trans (((dats m hx 0 c).arrAt_in 2 rfl _).trans ((A_eq m hx c 2).trans (V_main_arg2 m c))),
    ((h c).1 3).trans (((dats m hx 0 c).arrAt_in 3 rfl _).trans ((A_eq m hx c 3).trans (V_main_arg3 m c))),
    ((h c).1 4).trans (((dats m hx 0 c).arrAt_in 4 rfl _).trans ((A_eq m hx c 4).trans (V_main_arg4 m c))),
    ((h c).1 5).trans (((dats m hx 0 c).arrAt_in 5 rfl _).trans ((A_eq m hx c 5).trans (V_main_arg5 m c))),
    ((h c).2 main_arg6 (Pipeline.mem_restRefs_of main_arg6 (by decide) (by decide))).trans (V_main_arg6 m c)⟩

end Cert.Kernel5Ideal.Hand

end
-- ==== Proof.Stream.Ref.lean ====
/- The reference of the prompt's projection, entry by entry. -/
module

public import proofs.«01_k».proof.Proof.Gen.Reference5Ideal.Run
public import proofs.«01_k».proof.Proof.Stream.Point

@[expose] public section

set_option maxRecDepth 16384

noncomputable section

namespace Cert.Reference5Ideal.Hand

open Idealize.ShloMosaic Idealize.SL.Sem Cert.Reference5Ideal Cert.Reference5Ideal.Gen
open Cert.Kernel5Ideal.Hand (nAt oAt mAt pgM pgOf ixT)

/-- The projection. -/
def RP (a0 : FVec Ideal S8x2048x1024 .f32) (a1 : FVec Ideal S1024 .f32) (a2 a3 : FVec Ideal S8x1x1024 .f32) (a4 : FVec Ideal S1024x6144 .bf16) : FVec Ideal S8x2048x6144 .bf16 :=
  truncf .bf16 (Host.dotGeneral dot_S8x2048x1024_S1024x6144_S8x2048x6144_2_0_01_1_n_n none (addf (mulf (mulf (mulf a0 (broadcastInDim S8x2048x1024 ![0, 1, 2] bcast_S8x2048x1_S8x2048x1024_0_1_2 (Host.rsqrt (addf (Host.divf (broadcastInDim S8x2048x1 ![0, 1] bcast_S8x2048_S8x2048x1_0_1 (Host.reduceAdd (mulf a0 a0) (constant S_ .f32 0x00000000#32) reducesTo_S8x2048x1024_S8x2048_d2 h_S_)) (broadcastInDim S8x2048x1 ![] bcast_S_S8x2048x1 (constant S_ .f32 0x44800000#32))) (broadcastInDim S8x2048x1 ![] bcast_S_S8x2048x1 (constant S_ .f32 0x358637BD#32)))))) (broadcastInDim S8x2048x1024 ![0, 1, 2] bcast_S1x1x1024_S8x2048x1024_0_1_2 (broadcastInDim S1x1x1024 ![2] bcast_S1024_S1x1x1024_2 a1))) (broadcastInDim S8x2048x1024 ![0, 1, 2] bcast_S8x1x1024_S8x2048x1024_0_1_2 (addf (broadcastInDim S8x1x1024 ![] bcast_S_S8x1x1024 (constant S_ .f32 0x3F800000#32)) a3))) (broadcastInDim S8x2048x1024 ![0, 1, 2] bcast_S8x1x1024_S8x2048x1024_0_1_2 a2)) (extf .f32 a4 bitsLt_bf16_f32)) bitsLt_bf16_f32

/-- The table's first twenty rows, in a row. -/
def RT (a5 : IVec S32x64 32) : IVec S1280 32 :=
  shapeCast S1280 (extractStridedSlice S20x64 ![0, 0] a5 slices_S32x64_S20x64_0_0) shapeCasts_S20x64_S1280

/-- The pages' numbers. -/
def RI (a5 : IVec S32x64 32) : IVec S1280x1 32 :=
  broadcastInDim S1280x1 ![0] bcast_S1280_S1280x1_0 (select (cmpi .slt (RT a5) (broadcastInDim S1280 ![] bcast_S_S1280 (constantI S_ 32 0#32))) (addi (RT a5) (broadcastInDim S1280 ![] bcast_S_S1280 (constantI S_ 32 2560#32))) (RT a5))

/-- The pages. -/
def RG (a5 : IVec S32x64 32) (a6 : FVec Ideal S2560x128x8x128 .f32) : FVec Ideal S1280x128x8x128 .f32 :=
  Host.gather gather_S2560x128x8x128_S1280x1_S1280x128x8x128_123_0_n_n_0_1_11288128 a6 (RI a5)

/-- The means. -/
def RM (a5 : IVec S32x64 32) (a6 : FVec Ideal S2560x128x8x128 .f32) : FVec Ideal S640x8x128 .f32 :=
  Host.divf (Host.reduceAdd (shapeCast S640x256x8x128 (RG a5 a6) shapeCasts_S1280x128x8x128_S640x256x8x128) (constant S_ .f32 0x00000000#32) reducesTo_S640x256x8x128_S640x8x128_d1 h_S_) (broadcastInDim S640x8x128 ![] bcast_S_S640x8x128 (constant S_ .f32 0x43800000#32))

variable (a0 : FVec Ideal S8x2048x1024 .f32) (a1 : FVec Ideal S1024 .f32) (a2 a3 : FVec Ideal S8x1x1024 .f32) (a4 : FVec Ideal S1024x6144 .bf16) (a5 : IVec S32x64 32) (a6 : FVec Ideal S2560x128x8x128 .f32)

theorem rp_apply (b : Fin 8) (s : Fin 2048) (d : Fin 6144) : RP a0 a1 a2 a3 a4 (ix3 b s d) = oAt a0 a1 a2 a3 a4 b s d := by
  pointwise [RP, oAt, nAt]

theorem rt_apply (a : Fin 20) (b : Fin 64) : RT a5 (ix1 ⟨64 * a + b, by omega⟩) = a5 (ix2 ⟨a, by omega⟩ b) := by
  pointwise [RT]

theorem ri_s (n : Fin 1280) : RI a5 (ix2 n 0) = Scalar.select (IntOp.cmpi CmpIPredicate.slt (RT a5 (ix1 n)) 0#32) (IntOp.addi (RT a5 (ix1 n)) 2560#32) (RT a5 (ix1 n)) := by
  pointwise [RI]

theorem rm_s (n : Fin 640) (h : Fin 8) (d : Fin 128) : RM a5 a6 (ix3 n h d)
    = Ideal.div (∑ j : Fin 256, RG a5 a6 (ix4 ⟨n * 2 + j / 128, by omega⟩ ⟨j % 128, by omega⟩ h d)) (Ideal.ofBits .f32 0x43800000#32) := by
  pointwise [RM]

/-- The numbers of the pages' gather. -/
abbrev pd (wf : GatherDims.WF S2560x128x8x128 S1280x1 S1280x128x8x128 [1, 2, 3] [0] [] [0] [] 1 ![1, 128, 8, 128]) : GatherDims S2560x128x8x128 S1280x1 S1280x128x8x128 where
  offsetDims := [1, 2, 3]
  collapsedSliceDims := [0]
  operandBatchingDims := []
  startIndicesBatchingDims := []
  startIndexMap := [0]
  indexVectorDim := 1
  sliceSizes := ![1, 128, 8, 128]
  wf := wf

theorem pd_off (wf) (j : S1280x128x8x128.Idx) (idx : IVec S1280x1 32) (a : Fin 4) (ha : a ≠ 0) : ((pd wf).operandIdx j idx a : ℕ) = (j a : ℕ) := by
  show (pd wf).start j idx a + (pd wf).batchCoord j a + (pd wf).offCoord j a = (j a : ℕ)
  have hm : a ∉ (pd wf).startIndexMap := fun h => ha (List.mem_singleton.1 h)
  have hk : a ∈ (pd wf).sKept := (GatherDims.mem_sKept (pd wf) a).2 ⟨fun h => ha (List.mem_singleton.1 h), List.not_mem_nil⟩
  rw [GatherDims.batchCoord_eq_zero _ _ _ List.not_mem_nil]
  unfold GatherDims.start GatherDims.offCoord
  rw [dif_neg hm, dif_pos hk, Nat.zero_add]
  fin_cases a
  · exact absurd rfl ha
  · rfl
  · rfl
  · rfl

theorem pd_page (wf) (j : S1280x128x8x128.Idx) (idx : IVec S1280x1 32) (n : Fin 1280) (hn : (j 0 : ℕ) = n) (g : Fin 2560) (hg : (idx (ix2 n 0)).toInt.toNat = g.val) : ((pd wf).operandIdx j idx 0 : ℕ) = g := by
  show (pd wf).start j idx 0 + (pd wf).batchCoord j 0 + (pd wf).offCoord j 0 = g.val
  have hm : (0 : Fin 4) ∈ (pd wf).startIndexMap := List.mem_singleton.2 rfl
  rw [GatherDims.batchCoord_eq_zero _ _ _ List.not_mem_nil, GatherDims.offCoord_eq_zero _ _ _ (fun h => ((GatherDims.mem_sKept _ _).mp h).1 (List.mem_singleton.mpr rfl))]
  unfold GatherDims.start
  rw [dif_pos hm]
  have hsi : (pd wf).siIdx j ⟨List.idxOf (0 : Fin 4) (pd wf).startIndexMap, List.idxOf_lt_length_iff.2 hm⟩ = ix2 n 0 := by
    funext b
    match b with
    | ⟨0, _⟩ => exact Fin.ext hn
    | ⟨1, _⟩ => exact Subsingleton.elim (α := Fin 1) _ _
  rw [hsi, hg]
  show min g.val (2560 - 1) + 0 + 0 = g.val
  omega

/-- A page that the table names is the page of that number. -/
theorem gather_page (x : S2560x128x8x128.Idx → EReal) (idx : IVec S1280x1 32) (n : Fin 1280) (i : Fin 128) (h : Fin 8) (d : Fin 128) (g : Fin 2560) (hg : (idx (ix2 n 0)).toInt.toNat = g.val) :
    Host.gather gather_S2560x128x8x128_S1280x1_S1280x128x8x128_123_0_n_n_0_1_11288128 x idx (ix4 n i h d) = x (ix4 g i h d) := by
  show x ((pd gather_S2560x128x8x128_S1280x1_S1280x128x8x128_123_0_n_n_0_1_11288128_wf).operandIdx (ix4 n i h d) idx) = x (ix4 g i h d)
  refine congrArg x (funext fun a => Fin.ext ?_)
  match a with
  | ⟨0, _⟩ => exact pd_page _ _ idx n rfl g hg
  | ⟨1, _⟩ => exact pd_off _ _ idx 1 (by decide)
  | ⟨2, _⟩ => exact pd_off _ _ idx 2 (by decide)
  | ⟨3, _⟩ => exact pd_off _ _ idx 3 (by decide)

theorem ixT_eq (n : Fin 1280) : RT a5 (ix1 n) = a5 (ixT n) := by
  have e : n = ⟨64 * (⟨n / 64, by omega⟩ : Fin 20) + (⟨n % 64, by omega⟩ : Fin 64), by dsimp only; omega⟩ := Fin.ext (by dsimp only; omega)
  rw [e, rt_apply a5 ⟨n / 64, by omega⟩ ⟨n % 64, by omega⟩, ← e]
  refine congrArg a5 (funext fun a => Fin.ext ?_)
  match a with
  | ⟨0, _⟩ => exact (Nat.mod_eq_of_lt (show (n : ℕ) / 64 < 32 by omega)).symm
  | ⟨1, _⟩ => rfl

theorem toInt_small (v : BitVec 32) (h : v.toNat < 2560) : v.toInt = (v.toNat : ℤ) := by
  rw [BitVec.toInt_eq_toNat_cond, if_pos (by omega)]

theorem slt_small (v : BitVec 32) (h : v.toNat < 2560) : IntOp.cmpi CmpIPredicate.slt v 0#32 = 0#1 := by
  show BitVec.ofBool (BitVec.slt v 0#32) = 0#1
  have e : BitVec.slt v 0#32 = false := by
    have e0 : (0#32 : BitVec 32).toInt = 0 := by decide
    rw [BitVec.slt, e0, toInt_small v h]
    exact decide_eq_false (by omega)
  rw [e]
  rfl

variable (hx : ∀ n < 1280, (a5 (ixT n) : BitVec 32).toNat < 2560)

include hx in
theorem ri_apply (n : Fin 1280) : RI a5 (ix2 n 0) = a5 (ixT n) := by
  rw [ri_s, ixT_eq, slt_small _ (hx n n.isLt)]
  rfl

include hx in
theorem rg_apply (n : Fin 1280) (i : Fin 128) (h : Fin 8) (d : Fin 128) : RG a5 a6 (ix4 n i h d) = a6 (ix4 (pgOf a5 n) i h d) := by
  refine gather_page a6 (RI a5) n i h d (pgOf a5 n) ?_
  have e := hx n n.isLt
  rw [ri_apply a5 hx n, toInt_small _ e]
  exact (Nat.mod_eq_of_lt e).symm

include hx in
theorem rm_apply (n : Fin 640) (h : Fin 8) (d : Fin 128) : RM a5 a6 (ix3 n h d) = mAt a5 a6 n h d := by
  refine (rm_s a5 a6 n h d).trans ?_
  unfold mAt pgM
  refine congrArg (Ideal.div · (Ideal.ofBits .f32 0x43800000#32)) ?_
  refine (Fin.sum_univ_add (a := 128) (b := 128) (fun j : Fin 256 => RG a5 a6 (ix4 ⟨n * 2 + j / 128, by omega⟩ ⟨j % 128, by omega⟩ h d))).trans ?_
  refine congrArg₂ (· + ·) (Finset.sum_congr rfl fun i _ => ?_) (Finset.sum_congr rfl fun i _ => ?_)
  · refine (rg_apply a5 a6 hx _ _ h d).trans ?_
    refine congrArg₂ (fun p i => a6 (ix4 (pgOf a5 p) i h d)) ?_ (Fin.ext ?_)
    · show (n : ℕ) * 2 + (i : ℕ) / 128 = 2 * n
      omega
    · show (i : ℕ) % 128 = i
      omega
  · refine (rg_apply a5 a6 hx _ _ h d).trans ?_
    refine congrArg₂ (fun p i => a6 (ix4 (pgOf a5 p) i h d)) ?_ (Fin.ext ?_)
    · show (n : ℕ) * 2 + (128 + (i : ℕ)) / 128 = 2 * n + 1
      omega
    · show (128 + (i : ℕ)) % 128 = i
      omega

theorem rp_eq : RP a0 a1 a2 a3 a4 = fun y => oAt a0 a1 a2 a3 a4 (y 0) (y 1) (y 2) := by
  funext y
  have e : y = ix3 (y 0) (y 1) (y 2) := by
    funext a
    fin_cases a <;> rfl
  rw [e]
  exact rp_apply a0 a1 a2 a3 a4 _ _ _

include hx in
theorem rm_eq : RM a5 a6 = fun y => mAt a5 a6 (y 0) (y 1) (y 2) := by
  funext y
  have e : y = ix3 (y 0) (y 1) (y 2) := by
    funext a
    fin_cases a <;> rfl
  rw [e]
  exact rm_apply a5 a6 hx _ _ _

end Cert.Reference5Ideal.Hand

end
-- ==== Proof.Stream.Claims.lean ====
/- The claims of the streamed projection of the prompt. -/
module

public import proofs.«01_k».proof.Defs
public import proofs.«01_k».proof.Proof.Stream.Pre
public import proofs.«01_k».proof.Proof.StreamB.Frame
public import proofs.«01_k».proof.Proof.Stream.Ref

@[expose] public section

noncomputable section

namespace Cert.Proof.Claims

open Idealize.ShloMosaic Idealize.SL.Sem Idealize.ShloMosaic.TcCoe

attribute [local instance] Cert.Pre_pages_in_cache.facts

theorem tab_p5 (m) (h : Cert.Pre_Kernel5 m) (c) : ∀ n < 1280, (Cert.Kernel5.Hand.Tab (F := Bits) m c (Cert.Kernel5.Hand.ixT n) : BitVec 32).toNat < 2560 := by
  intro n hn
  have e := Cert.Pre_pages_in_cache.pages _ _ _ _ _ _ _ (h c) n hn
  have q : Cert.Kernel5.Hand.ixT n = ix2 ⟨n / 64 % 32, Nat.mod_lt _ (by decide)⟩ ⟨n % 64, Nat.mod_lt _ (by decide)⟩ := by
    funext a
    match a with
    | ⟨0, _⟩ => rfl
    | ⟨1, _⟩ => rfl
  rw [q]
  unfold Cert.Kernel5.Hand.Tab
  rw [Cert.Kernel5.Gen.V_main_arg5]
  exact e

theorem tab_pi5 (m) (h : Cert.Pre_Kernel5Ideal m) (c) : ∀ n < 1280, (Cert.Kernel5Ideal.Hand.Tab (F := Ideal) m c (Cert.Kernel5Ideal.Hand.ixT n) : BitVec 32).toNat < 2560 := by
  intro n hn
  have e := Cert.Pre_pages_in_cache.pages _ _ _ _ _ _ _ (h c) n hn
  have q : Cert.Kernel5Ideal.Hand.ixT n = ix2 ⟨n / 64 % 32, Nat.mod_lt _ (by decide)⟩ ⟨n % 64, Nat.mod_lt _ (by decide)⟩ := by
    funext a
    match a with
    | ⟨0, _⟩ => rfl
    | ⟨1, _⟩ => rfl
  rw [q]
  unfold Cert.Kernel5Ideal.Hand.Tab
  rw [Cert.Kernel5Ideal.Gen.V_main_arg5]
  exact e

theorem frame_p5 : Cert.quiescent_Kernel5 := fun m ρ h => Cert.Kernel5.Hand.frame m ρ (tab_p5 m h)
theorem frame_pi5 : Cert.quiescent_Kernel5Ideal := fun m ρ h => Cert.Kernel5Ideal.Hand.frame m ρ (tab_pi5 m h)
theorem frame_ri5 : Cert.quiescent_Reference5Ideal := fun m ρ _ =>
  (θ_run Cert.Reference5Ideal.defs _ _).mono (fun r h => ⟨fun c => (h c).2.2, Idealize.ShloMosaic.sem_eq_zero_of_no_sems (by decide) r.2⟩)
    (Cert.Reference5Ideal.Value.run (F := Ideal) m ρ)
theorem frame_ri5_pre : Cert.quiescent_Reference5Ideal_pre_pages_in_cache := fun m ρ _ => frame_ri5 m ρ trivial
theorem preserves5 : Cert.preserves_Kernel5_Kernel5Ideal := trivial

section results

variable (m : (ℓ : Loc Cert.Kernel5Ideal.nD Cert.Kernel5Ideal.τ Cert.Kernel5Ideal.sig) → Buf (Elt Ideal) ℓ) (c : Dev Cert.Kernel5Ideal.nD)

theorem res5o (a0 a1 a2 a3 a4) (h0 : a0 = Cert.Kernel5Ideal.Hand.arg0 m c) (h1 : a1 = Cert.Kernel5Ideal.Hand.arg1 m c) (h2 : a2 = Cert.Kernel5Ideal.Hand.arg2 m c) (h3 : a3 = Cert.Kernel5Ideal.Hand.arg3 m c) (h4 : a4 = Cert.Kernel5Ideal.Hand.arg4 m c) :
    Cert.Reference5Ideal.Hand.RP a0 a1 a2 a3 a4 = Cert.Kernel5Ideal.Hand.arr6 m c := by
  rw [Cert.Reference5Ideal.Hand.rp_eq, h0, h1, h2, h3, h4]
  rfl

theorem res5m (a5 a6) (h5 : a5 = Cert.Kernel5Ideal.Hand.arg5 m c) (h6 : a6 = Cert.Kernel5Ideal.Hand.arg6 m c)
    (hx : ∀ n < 1280, (Cert.Kernel5Ideal.Hand.Tab (F := Ideal) m c (Cert.Kernel5Ideal.Hand.ixT n) : BitVec 32).toNat < 2560) :
    Cert.Reference5Ideal.Hand.RM a5 a6 = Cert.Kernel5Ideal.Hand.arr7 m c := by
  unfold Cert.Kernel5Ideal.Hand.Tab at hx
  rw [Cert.Kernel5Ideal.Gen.V_main_arg5] at hx
  subst h5 h6
  rw [Cert.Reference5Ideal.Hand.rm_eq _ _ hx]
  rfl

end results

theorem run5 (m ρ) (h : Cert.Pre_Kernel5Ideal m) :
    θ_run (Cert.Kernel5Ideal.defs (F := Ideal)) (onTc (τ := Cert.Kernel5Ideal.τ) (Cert.Kernel5Ideal.main (F := Ideal))) ⟨m, fun _ => 0, ρ⟩ (fun r => ∀ c : Dev Cert.Kernel5Ideal.nD,
          r.2.mem ((c.tc : Thread Cert.Kernel5Ideal.nD Cert.Kernel5Ideal.τ).loc Cert.Kernel5Ideal.main_v1_0) = Cert.Kernel5Ideal.Hand.arr6 m c
          ∧ r.2.mem ((c.tc : Thread Cert.Kernel5Ideal.nD Cert.Kernel5Ideal.τ).loc Cert.Kernel5Ideal.main_v1_1) = Cert.Kernel5Ideal.Hand.arr7 m c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)) :=
  (θ_run Cert.Kernel5Ideal.defs _ _).mono (fun _ h' c => by
    obtain ⟨hp, -⟩ := h'
    exact ⟨((hp c).1 6).trans (Cert.Kernel5Ideal.Hand.arr6_eq m c (tab_pi5 m h)), ((hp c).1 7).trans (Cert.Kernel5Ideal.Hand.arr7_eq m c (tab_pi5 m h)),
      Cert.Kernel5Ideal.Hand.args_eq m (tab_pi5 m h) _ hp c⟩) (Cert.Kernel5Ideal.Hand.run_main m ρ (tab_pi5 m h))

theorem algebraic5 : Cert.algebraic_Kernel5Ideal_Reference5Ideal := by
  intro m ρ m' ρ' hpre hagree
  refine ⟨_, _, run5 m ρ hpre, ?_⟩
  refine (θ_run Cert.Reference5Ideal.defs _ _).mono (fun _ h c => ?_) (Cert.Reference5Ideal.Value.run (F := Ideal) m' ρ')
  obtain ⟨h0, h1, h2, h3, h4, h5, h6⟩ := hagree c
  exact ⟨(h c).1.trans (res5o m c _ _ _ _ _ h0 h1 h2 h3 h4), (h c).2.1.trans (res5m m c _ _ h5 h6 (tab_pi5 m hpre c)), (h c).2.2⟩

end Cert.Proof.Claims

end
-- ==== Proof.lean ====
module

public import proofs.«01_k».proof.Defs
public import proofs.«01_k».proof.Proof.Ret.Claims
public import proofs.«01_k».proof.Proof.Out.Claims
public import proofs.«01_k».proof.Proof.Moba.Claims
public import proofs.«01_k».proof.Proof.Stream.Claims
public import proofs.«01_k».proof.Proof.Gen.Kernel
public import proofs.«01_k».proof.Proof.Gen.KernelIdeal
public import proofs.«01_k».proof.Proof.Gen.ReferenceIdeal
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Reference5Ideal
public import proofs.«01_k».proof.Proof.Gen.Reference5Ideal.Run
public import Idealize.ShloMosaic.Adequacy
public import Idealize.ShloMosaic.Init

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Pre_finite_qkv.facts, Cert.Pre_pages_in_cache.facts,
    Claims.frame_p, Claims.frame_pi, Claims.frame_pi_pre, Claims.frame_ri, Claims.frame_ri_pre,
    Claims.frame_p2, Claims.frame_pi2, Claims.frame_ri2,
    Claims.frame_p3, Claims.frame_pi3, Claims.frame_ri3,
    Claims.frame_p4, Claims.frame_pi4, Claims.frame_ri4,
    Claims.frame_p5, Claims.frame_pi5, Claims.frame_ri5, Claims.frame_ri5_pre,
    Claims.preserves, Claims.algebraic,
    Claims.preserves2, Claims.algebraic2,
    Claims.preserves3, Claims.algebraic3,
    Claims.preserves4, Claims.algebraic4,
    Claims.preserves5, Claims.algebraic5⟩

end Cert.Proof

end
